-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17)
      ∧ r.2.mem ((c.tc : Thread Cert.Kernel8.nD Cert.Kernel8.τ).loc Cert.Kernel8.main_arg18) = m ((c.tc : Thread Cert.Kernel8.nD Cert.Kernel8.τ).loc Cert.Kernel8.main_arg18)
      ∧ r.2.mem ((c.tc : Thread Cert.Kernel8.nD Cert.Kernel8.τ).loc Cert.Kernel8.main_arg19) = m ((c.tc : Thread Cert.Kernel8.nD Cert.Kernel8.τ).loc Cert.Kernel8.main_arg19))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
      ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
      ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17)
      ∧ r.2.mem ((c.tc : Thread Cert.Reference8Ideal.nD Cert.Reference8Ideal.τ).loc Cert.Reference8Ideal.main_arg18) = m ((c.tc : Thread Cert.Reference8Ideal.nD Cert.Reference8Ideal.τ).loc Cert.Reference8Ideal.main_arg18)
      ∧ r.2.mem ((c.tc : Thread Cert.Reference8Ideal.nD Cert.Reference8Ideal.τ).loc Cert.Reference8Ideal.main_arg19) = m ((c.tc : Thread Cert.Reference8Ideal.nD Cert.Reference8Ideal.τ).loc Cert.Reference8Ideal.main_arg19))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)) (v1 : (c : Dev Cert.Kernel2Ideal.nD) → Buf (Elt Ideal) ((c.tc : Thread Cert.Kernel2Ideal.nD Cert.Kernel2Ideal.τ).loc Cert.Kernel2Ideal.main_v9)) (v2 : (c : Dev Cert.Kernel2Ideal.nD) → Buf (Elt Ideal) ((c.tc : Thread Cert.Kernel2Ideal.nD Cert.Kernel2Ideal.τ).loc Cert.Kernel2Ideal.main_v11)) (v3 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_v11) = v2 c
          ∧ r.2.mem ((c.tc : Thread Cert.Kernel2Ideal.nD Cert.Kernel2Ideal.τ).loc Cert.Kernel2Ideal.main_v7) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v13)) (v1 : (c : Dev Cert.Kernel3Ideal.nD) → Buf (Elt Ideal) ((c.tc : Thread Cert.Kernel3Ideal.nD Cert.Kernel3Ideal.τ).loc Cert.Kernel3Ideal.main_v16_0)) (v2 : (c : Dev Cert.Kernel3Ideal.nD) → Buf (Elt Ideal) ((c.tc : Thread Cert.Kernel3Ideal.nD Cert.Kernel3Ideal.τ).loc Cert.Kernel3Ideal.main_v16_1)) (v3 : (c : Dev Cert.Kernel3Ideal.nD) → Buf (Elt Ideal) ((c.tc : Thread Cert.Kernel3Ideal.nD Cert.Kernel3Ideal.τ).loc Cert.Kernel3Ideal.main_v16_2)) (v4 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_v16_0) = v1 c
          ∧ r.2.mem ((c.tc : Thread Cert.Kernel3Ideal.nD Cert.Kernel3Ideal.τ).loc Cert.Kernel3Ideal.main_v16_1) = v2 c
          ∧ r.2.mem ((c.tc : Thread Cert.Kernel3Ideal.nD Cert.Kernel3Ideal.τ).loc Cert.Kernel3Ideal.main_v16_2) = v3 c
          ∧ r.2.mem ((c.tc : Thread Cert.Kernel3Ideal.nD Cert.Kernel3Ideal.τ).loc Cert.Kernel3Ideal.main_v17) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v43) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v18)) (v1 : (c : Dev Cert.Kernel4Ideal.nD) → Buf (Elt Ideal) ((c.tc : Thread Cert.Kernel4Ideal.nD Cert.Kernel4Ideal.τ).loc Cert.Kernel4Ideal.main_v15)) (v2 : (c : Dev Cert.Kernel4Ideal.nD) → Buf (Elt Ideal) ((c.tc : Thread Cert.Kernel4Ideal.nD Cert.Kernel4Ideal.τ).loc Cert.Kernel4Ideal.main_v16)) (v3 : (c : Dev Cert.Kernel4Ideal.nD) → Buf (Elt Ideal) ((c.tc : Thread Cert.Kernel4Ideal.nD Cert.Kernel4Ideal.τ).loc Cert.Kernel4Ideal.main_v20)) (v4 : (c : Dev Cert.Kernel4Ideal.nD) → Buf (Elt Ideal) ((c.tc : Thread Cert.Kernel4Ideal.nD Cert.Kernel4Ideal.τ).loc Cert.Kernel4Ideal.main_v22)) (v5 : (c : Dev Cert.Kernel4Ideal.nD) → Buf (Elt Ideal) ((c.tc : Thread Cert.Kernel4Ideal.nD Cert.Kernel4Ideal.τ).loc Cert.Kernel4Ideal.main_v24)) (v6 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_v15) = v1 c
          ∧ r.2.mem ((c.tc : Thread Cert.Kernel4Ideal.nD Cert.Kernel4Ideal.τ).loc Cert.Kernel4Ideal.main_v16) = v2 c
          ∧ r.2.mem ((c.tc : Thread Cert.Kernel4Ideal.nD Cert.Kernel4Ideal.τ).loc Cert.Kernel4Ideal.main_v20) = v3 c
          ∧ r.2.mem ((c.tc : Thread Cert.Kernel4Ideal.nD Cert.Kernel4Ideal.τ).loc Cert.Kernel4Ideal.main_v22) = v4 c
          ∧ r.2.mem ((c.tc : Thread Cert.Kernel4Ideal.nD Cert.Kernel4Ideal.τ).loc Cert.Kernel4Ideal.main_v24) = v5 c
          ∧ r.2.mem ((c.tc : Thread Cert.Kernel4Ideal.nD Cert.Kernel4Ideal.τ).loc Cert.Kernel4Ideal.main_v26) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_v29) = v3 c
          ∧ r.2.mem ((c.tc : Thread Cert.Reference4Ideal.nD Cert.Reference4Ideal.τ).loc Cert.Reference4Ideal.main_v30) = v4 c
          ∧ r.2.mem ((c.tc : Thread Cert.Reference4Ideal.nD Cert.Reference4Ideal.τ).loc Cert.Reference4Ideal.main_v31) = v5 c
          ∧ r.2.mem ((c.tc : Thread Cert.Reference4Ideal.nD Cert.Reference4Ideal.τ).loc Cert.Reference4Ideal.main_v32) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v1_0)) (v5 : (c : Dev Cert.Kernel6Ideal.nD) → Buf (Elt Ideal) ((c.tc : Thread Cert.Kernel6Ideal.nD Cert.Kernel6Ideal.τ).loc Cert.Kernel6Ideal.main_v1_1)) (v6 : (c : Dev Cert.Kernel6Ideal.nD) → Buf (Elt Ideal) ((c.tc : Thread Cert.Kernel6Ideal.nD Cert.Kernel6Ideal.τ).loc Cert.Kernel6Ideal.main_v1_2)) (v7 : (c : Dev Cert.Kernel6Ideal.nD) → Buf (Elt Ideal) ((c.tc : Thread Cert.Kernel6Ideal.nD Cert.Kernel6Ideal.τ).loc Cert.Kernel6Ideal.main_v1_3)) (v8 : (c : Dev Cert.Kernel6Ideal.nD) → Buf (Elt Ideal) ((c.tc : Thread Cert.Kernel6Ideal.nD Cert.Kernel6Ideal.τ).loc Cert.Kernel6Ideal.main_v2_0)) (v9 : (c : Dev Cert.Kernel6Ideal.nD) → Buf (Elt Ideal) ((c.tc : Thread Cert.Kernel6Ideal.nD Cert.Kernel6Ideal.τ).loc Cert.Kernel6Ideal.main_v2_1)) (v10 : (c : Dev Cert.Kernel6Ideal.nD) → Buf (Elt Ideal) ((c.tc : Thread Cert.Kernel6Ideal.nD Cert.Kernel6Ideal.τ).loc Cert.Kernel6Ideal.main_v2_2)) (v11 : (c : Dev Cert.Kernel6Ideal.nD) → Buf (Elt Ideal) ((c.tc : Thread Cert.Kernel6Ideal.nD Cert.Kernel6Ideal.τ).loc Cert.Kernel6Ideal.main_v2_3)) (v12 : (c : Dev Cert.Kernel6Ideal.nD) → Buf (Elt Ideal) ((c.tc : Thread Cert.Kernel6Ideal.nD Cert.Kernel6Ideal.τ).loc Cert.Kernel6Ideal.main_v3_0)) (v13 : (c : Dev Cert.Kernel6Ideal.nD) → Buf (Elt Ideal) ((c.tc : Thread Cert.Kernel6Ideal.nD Cert.Kernel6Ideal.τ).loc Cert.Kernel6Ideal.main_v3_1)) (v14 : (c : Dev Cert.Kernel6Ideal.nD) → Buf (Elt Ideal) ((c.tc : Thread Cert.Kernel6Ideal.nD Cert.Kernel6Ideal.τ).loc Cert.Kernel6Ideal.main_v3_2)) (v15 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v1_0) = v4 c
          ∧ r.2.mem ((c.tc : Thread Cert.Kernel6Ideal.nD Cert.Kernel6Ideal.τ).loc Cert.Kernel6Ideal.main_v1_1) = v5 c
          ∧ r.2.mem ((c.tc : Thread Cert.Kernel6Ideal.nD Cert.Kernel6Ideal.τ).loc Cert.Kernel6Ideal.main_v1_2) = v6 c
          ∧ r.2.mem ((c.tc : Thread Cert.Kernel6Ideal.nD Cert.Kernel6Ideal.τ).loc Cert.Kernel6Ideal.main_v1_3) = v7 c
          ∧ r.2.mem ((c.tc : Thread Cert.Kernel6Ideal.nD Cert.Kernel6Ideal.τ).loc Cert.Kernel6Ideal.main_v2_0) = v8 c
          ∧ r.2.mem ((c.tc : Thread Cert.Kernel6Ideal.nD Cert.Kernel6Ideal.τ).loc Cert.Kernel6Ideal.main_v2_1) = v9 c
          ∧ r.2.mem ((c.tc : Thread Cert.Kernel6Ideal.nD Cert.Kernel6Ideal.τ).loc Cert.Kernel6Ideal.main_v2_2) = v10 c
          ∧ r.2.mem ((c.tc : Thread Cert.Kernel6Ideal.nD Cert.Kernel6Ideal.τ).loc Cert.Kernel6Ideal.main_v2_3) = v11 c
          ∧ r.2.mem ((c.tc : Thread Cert.Kernel6Ideal.nD Cert.Kernel6Ideal.τ).loc Cert.Kernel6Ideal.main_v3_0) = v12 c
          ∧ r.2.mem ((c.tc : Thread Cert.Kernel6Ideal.nD Cert.Kernel6Ideal.τ).loc Cert.Kernel6Ideal.main_v3_1) = v13 c
          ∧ r.2.mem ((c.tc : Thread Cert.Kernel6Ideal.nD Cert.Kernel6Ideal.τ).loc Cert.Kernel6Ideal.main_v3_2) = v14 c
          ∧ r.2.mem ((c.tc : Thread Cert.Kernel6Ideal.nD Cert.Kernel6Ideal.τ).loc Cert.Kernel6Ideal.main_v3_3) = v15 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_v27) = v4 c
          ∧ r.2.mem ((c.tc : Thread Cert.Reference6Ideal.nD Cert.Reference6Ideal.τ).loc Cert.Reference6Ideal.main_v51) = v5 c
          ∧ r.2.mem ((c.tc : Thread Cert.Reference6Ideal.nD Cert.Reference6Ideal.τ).loc Cert.Reference6Ideal.main_v32) = v6 c
          ∧ r.2.mem ((c.tc : Thread Cert.Reference6Ideal.nD Cert.Reference6Ideal.τ).loc Cert.Reference6Ideal.main_v38) = v7 c
          ∧ r.2.mem ((c.tc : Thread Cert.Reference6Ideal.nD Cert.Reference6Ideal.τ).loc Cert.Reference6Ideal.main_v53) = v8 c
          ∧ r.2.mem ((c.tc : Thread Cert.Reference6Ideal.nD Cert.Reference6Ideal.τ).loc Cert.Reference6Ideal.main_v77) = v9 c
          ∧ r.2.mem ((c.tc : Thread Cert.Reference6Ideal.nD Cert.Reference6Ideal.τ).loc Cert.Reference6Ideal.main_v58) = v10 c
          ∧ r.2.mem ((c.tc : Thread Cert.Reference6Ideal.nD Cert.Reference6Ideal.τ).loc Cert.Reference6Ideal.main_v64) = v11 c
          ∧ r.2.mem ((c.tc : Thread Cert.Reference6Ideal.nD Cert.Reference6Ideal.τ).loc Cert.Reference6Ideal.main_v79) = v12 c
          ∧ r.2.mem ((c.tc : Thread Cert.Reference6Ideal.nD Cert.Reference6Ideal.τ).loc Cert.Reference6Ideal.main_v103) = v13 c
          ∧ r.2.mem ((c.tc : Thread Cert.Reference6Ideal.nD Cert.Reference6Ideal.τ).loc Cert.Reference6Ideal.main_v84) = v14 c
          ∧ r.2.mem ((c.tc : Thread Cert.Reference6Ideal.nD Cert.Reference6Ideal.τ).loc Cert.Reference6Ideal.main_v90) = v15 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)) (v4 : (c : Dev Cert.Kernel7Ideal.nD) → Buf (Elt Ideal) ((c.tc : Thread Cert.Kernel7Ideal.nD Cert.Kernel7Ideal.τ).loc Cert.Kernel7Ideal.main_v6_4)) (v5 : (c : Dev Cert.Kernel7Ideal.nD) → Buf (Elt Ideal) ((c.tc : Thread Cert.Kernel7Ideal.nD Cert.Kernel7Ideal.τ).loc Cert.Kernel7Ideal.main_v6_5)) (v6 : (c : Dev Cert.Kernel7Ideal.nD) → Buf (Elt Ideal) ((c.tc : Thread Cert.Kernel7Ideal.nD Cert.Kernel7Ideal.τ).loc Cert.Kernel7Ideal.main_v6_6)) (v7 : (c : Dev Cert.Kernel7Ideal.nD) → Buf (Elt Ideal) ((c.tc : Thread Cert.Kernel7Ideal.nD Cert.Kernel7Ideal.τ).loc Cert.Kernel7Ideal.main_v6_7)) (v8 : (c : Dev Cert.Kernel7Ideal.nD) → Buf (Elt Ideal) ((c.tc : Thread Cert.Kernel7Ideal.nD Cert.Kernel7Ideal.τ).loc Cert.Kernel7Ideal.main_v6_8)) (v9 : (c : Dev Cert.Kernel7Ideal.nD) → Buf (Elt Ideal) ((c.tc : Thread Cert.Kernel7Ideal.nD Cert.Kernel7Ideal.τ).loc Cert.Kernel7Ideal.main_v6_9)) (v10 : (c : Dev Cert.Kernel7Ideal.nD) → Buf (Elt Ideal) ((c.tc : Thread Cert.Kernel7Ideal.nD Cert.Kernel7Ideal.τ).loc Cert.Kernel7Ideal.main_v6_10)) (v11 : (c : Dev Cert.Kernel7Ideal.nD) → Buf (Elt Ideal) ((c.tc : Thread Cert.Kernel7Ideal.nD Cert.Kernel7Ideal.τ).loc Cert.Kernel7Ideal.main_v6_11)) (v12 : (c : Dev Cert.Kernel7Ideal.nD) → Buf (Elt Ideal) ((c.tc : Thread Cert.Kernel7Ideal.nD Cert.Kernel7Ideal.τ).loc Cert.Kernel7Ideal.main_v6_12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_v6_4) = v4 c
          ∧ r.2.mem ((c.tc : Thread Cert.Kernel7Ideal.nD Cert.Kernel7Ideal.τ).loc Cert.Kernel7Ideal.main_v6_5) = v5 c
          ∧ r.2.mem ((c.tc : Thread Cert.Kernel7Ideal.nD Cert.Kernel7Ideal.τ).loc Cert.Kernel7Ideal.main_v6_6) = v6 c
          ∧ r.2.mem ((c.tc : Thread Cert.Kernel7Ideal.nD Cert.Kernel7Ideal.τ).loc Cert.Kernel7Ideal.main_v6_7) = v7 c
          ∧ r.2.mem ((c.tc : Thread Cert.Kernel7Ideal.nD Cert.Kernel7Ideal.τ).loc Cert.Kernel7Ideal.main_v6_8) = v8 c
          ∧ r.2.mem ((c.tc : Thread Cert.Kernel7Ideal.nD Cert.Kernel7Ideal.τ).loc Cert.Kernel7Ideal.main_v6_9) = v9 c
          ∧ r.2.mem ((c.tc : Thread Cert.Kernel7Ideal.nD Cert.Kernel7Ideal.τ).loc Cert.Kernel7Ideal.main_v6_10) = v10 c
          ∧ r.2.mem ((c.tc : Thread Cert.Kernel7Ideal.nD Cert.Kernel7Ideal.τ).loc Cert.Kernel7Ideal.main_v6_11) = v11 c
          ∧ r.2.mem ((c.tc : Thread Cert.Kernel7Ideal.nD Cert.Kernel7Ideal.τ).loc Cert.Kernel7Ideal.main_v6_12) = v12 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v12) = v1 c
          ∧ r.2.mem ((c.tc : Thread Cert.Reference7Ideal.nD Cert.Reference7Ideal.τ).loc Cert.Reference7Ideal.main_v36) = v2 c
          ∧ r.2.mem ((c.tc : Thread Cert.Reference7Ideal.nD Cert.Reference7Ideal.τ).loc Cert.Reference7Ideal.main_v17) = v3 c
          ∧ r.2.mem ((c.tc : Thread Cert.Reference7Ideal.nD Cert.Reference7Ideal.τ).loc Cert.Reference7Ideal.main_v23) = v4 c
          ∧ r.2.mem ((c.tc : Thread Cert.Reference7Ideal.nD Cert.Reference7Ideal.τ).loc Cert.Reference7Ideal.main_v38) = v5 c
          ∧ r.2.mem ((c.tc : Thread Cert.Reference7Ideal.nD Cert.Reference7Ideal.τ).loc Cert.Reference7Ideal.main_v62) = v6 c
          ∧ r.2.mem ((c.tc : Thread Cert.Reference7Ideal.nD Cert.Reference7Ideal.τ).loc Cert.Reference7Ideal.main_v43) = v7 c
          ∧ r.2.mem ((c.tc : Thread Cert.Reference7Ideal.nD Cert.Reference7Ideal.τ).loc Cert.Reference7Ideal.main_v49) = v8 c
          ∧ r.2.mem ((c.tc : Thread Cert.Reference7Ideal.nD Cert.Reference7Ideal.τ).loc Cert.Reference7Ideal.main_v64) = v9 c
          ∧ r.2.mem ((c.tc : Thread Cert.Reference7Ideal.nD Cert.Reference7Ideal.τ).loc Cert.Reference7Ideal.main_v88) = v10 c
          ∧ r.2.mem ((c.tc : Thread Cert.Reference7Ideal.nD Cert.Reference7Ideal.τ).loc Cert.Reference7Ideal.main_v69) = v11 c
          ∧ r.2.mem ((c.tc : Thread Cert.Reference7Ideal.nD Cert.Reference7Ideal.τ).loc Cert.Reference7Ideal.main_v75) = v12 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)
      ∧ m' ((c.tc : Thread Cert.Reference8Ideal.nD Cert.Reference8Ideal.τ).loc Cert.Reference8Ideal.main_arg17) = m ((c.tc : Thread Cert.Kernel8Ideal.nD Cert.Kernel8Ideal.τ).loc Cert.Kernel8Ideal.main_arg17)
      ∧ m' ((c.tc : Thread Cert.Reference8Ideal.nD Cert.Reference8Ideal.τ).loc Cert.Reference8Ideal.main_arg18) = m ((c.tc : Thread Cert.Kernel8Ideal.nD Cert.Kernel8Ideal.τ).loc Cert.Kernel8Ideal.main_arg18)
      ∧ m' ((c.tc : Thread Cert.Reference8Ideal.nD Cert.Reference8Ideal.τ).loc Cert.Reference8Ideal.main_arg19) = m ((c.tc : Thread Cert.Kernel8Ideal.nD Cert.Kernel8Ideal.τ).loc Cert.Kernel8Ideal.main_arg19)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)) (v5 : (c : Dev Cert.Kernel8Ideal.nD) → Buf (Elt Ideal) ((c.tc : Thread Cert.Kernel8Ideal.nD Cert.Kernel8Ideal.τ).loc Cert.Kernel8Ideal.main_v2_5)) (v6 : (c : Dev Cert.Kernel8Ideal.nD) → Buf (Elt Ideal) ((c.tc : Thread Cert.Kernel8Ideal.nD Cert.Kernel8Ideal.τ).loc Cert.Kernel8Ideal.main_v2_6)) (v7 : (c : Dev Cert.Kernel8Ideal.nD) → Buf (Elt Ideal) ((c.tc : Thread Cert.Kernel8Ideal.nD Cert.Kernel8Ideal.τ).loc Cert.Kernel8Ideal.main_v2_7)) (v8 : (c : Dev Cert.Kernel8Ideal.nD) → Buf (Elt Ideal) ((c.tc : Thread Cert.Kernel8Ideal.nD Cert.Kernel8Ideal.τ).loc Cert.Kernel8Ideal.main_v2_8)) (v9 : (c : Dev Cert.Kernel8Ideal.nD) → Buf (Elt Ideal) ((c.tc : Thread Cert.Kernel8Ideal.nD Cert.Kernel8Ideal.τ).loc Cert.Kernel8Ideal.main_v2_9)) (v10 : (c : Dev Cert.Kernel8Ideal.nD) → Buf (Elt Ideal) ((c.tc : Thread Cert.Kernel8Ideal.nD Cert.Kernel8Ideal.τ).loc Cert.Kernel8Ideal.main_v2_10)) (v11 : (c : Dev Cert.Kernel8Ideal.nD) → Buf (Elt Ideal) ((c.tc : Thread Cert.Kernel8Ideal.nD Cert.Kernel8Ideal.τ).loc Cert.Kernel8Ideal.main_v2_11)) (v12 : (c : Dev Cert.Kernel8Ideal.nD) → Buf (Elt Ideal) ((c.tc : Thread Cert.Kernel8Ideal.nD Cert.Kernel8Ideal.τ).loc Cert.Kernel8Ideal.main_v2_12)) (v13 : (c : Dev Cert.Kernel8Ideal.nD) → Buf (Elt Ideal) ((c.tc : Thread Cert.Kernel8Ideal.nD Cert.Kernel8Ideal.τ).loc Cert.Kernel8Ideal.main_v2_13)) (v14 : (c : Dev Cert.Kernel8Ideal.nD) → Buf (Elt Ideal) ((c.tc : Thread Cert.Kernel8Ideal.nD Cert.Kernel8Ideal.τ).loc Cert.Kernel8Ideal.main_v2_14)) (v15 : (c : Dev Cert.Kernel8Ideal.nD) → Buf (Elt Ideal) ((c.tc : Thread Cert.Kernel8Ideal.nD Cert.Kernel8Ideal.τ).loc Cert.Kernel8Ideal.main_v2_15)) (v16 : (c : Dev Cert.Kernel8Ideal.nD) → Buf (Elt Ideal) ((c.tc : Thread Cert.Kernel8Ideal.nD Cert.Kernel8Ideal.τ).loc Cert.Kernel8Ideal.main_v2_16)) (v17 : (c : Dev Cert.Kernel8Ideal.nD) → Buf (Elt Ideal) ((c.tc : Thread Cert.Kernel8Ideal.nD Cert.Kernel8Ideal.τ).loc Cert.Kernel8Ideal.main_v2_17)) (v18 : (c : Dev Cert.Kernel8Ideal.nD) → Buf (Elt Ideal) ((c.tc : Thread Cert.Kernel8Ideal.nD Cert.Kernel8Ideal.τ).loc Cert.Kernel8Ideal.main_v2_18)) (v19 : (c : Dev Cert.Kernel8Ideal.nD) → Buf (Elt Ideal) ((c.tc : Thread Cert.Kernel8Ideal.nD Cert.Kernel8Ideal.τ).loc Cert.Kernel8Ideal.main_v2_19)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_v2_5) = v5 c
          ∧ r.2.mem ((c.tc : Thread Cert.Kernel8Ideal.nD Cert.Kernel8Ideal.τ).loc Cert.Kernel8Ideal.main_v2_6) = v6 c
          ∧ r.2.mem ((c.tc : Thread Cert.Kernel8Ideal.nD Cert.Kernel8Ideal.τ).loc Cert.Kernel8Ideal.main_v2_7) = v7 c
          ∧ r.2.mem ((c.tc : Thread Cert.Kernel8Ideal.nD Cert.Kernel8Ideal.τ).loc Cert.Kernel8Ideal.main_v2_8) = v8 c
          ∧ r.2.mem ((c.tc : Thread Cert.Kernel8Ideal.nD Cert.Kernel8Ideal.τ).loc Cert.Kernel8Ideal.main_v2_9) = v9 c
          ∧ r.2.mem ((c.tc : Thread Cert.Kernel8Ideal.nD Cert.Kernel8Ideal.τ).loc Cert.Kernel8Ideal.main_v2_10) = v10 c
          ∧ r.2.mem ((c.tc : Thread Cert.Kernel8Ideal.nD Cert.Kernel8Ideal.τ).loc Cert.Kernel8Ideal.main_v2_11) = v11 c
          ∧ r.2.mem ((c.tc : Thread Cert.Kernel8Ideal.nD Cert.Kernel8Ideal.τ).loc Cert.Kernel8Ideal.main_v2_12) = v12 c
          ∧ r.2.mem ((c.tc : Thread Cert.Kernel8Ideal.nD Cert.Kernel8Ideal.τ).loc Cert.Kernel8Ideal.main_v2_13) = v13 c
          ∧ r.2.mem ((c.tc : Thread Cert.Kernel8Ideal.nD Cert.Kernel8Ideal.τ).loc Cert.Kernel8Ideal.main_v2_14) = v14 c
          ∧ r.2.mem ((c.tc : Thread Cert.Kernel8Ideal.nD Cert.Kernel8Ideal.τ).loc Cert.Kernel8Ideal.main_v2_15) = v15 c
          ∧ r.2.mem ((c.tc : Thread Cert.Kernel8Ideal.nD Cert.Kernel8Ideal.τ).loc Cert.Kernel8Ideal.main_v2_16) = v16 c
          ∧ r.2.mem ((c.tc : Thread Cert.Kernel8Ideal.nD Cert.Kernel8Ideal.τ).loc Cert.Kernel8Ideal.main_v2_17) = v17 c
          ∧ r.2.mem ((c.tc : Thread Cert.Kernel8Ideal.nD Cert.Kernel8Ideal.τ).loc Cert.Kernel8Ideal.main_v2_18) = v18 c
          ∧ r.2.mem ((c.tc : Thread Cert.Kernel8Ideal.nD Cert.Kernel8Ideal.τ).loc Cert.Kernel8Ideal.main_v2_19) = v19 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
          ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
          ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
          ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_v25) = v4 c
          ∧ r.2.mem ((c.tc : Thread Cert.Reference8Ideal.nD Cert.Reference8Ideal.τ).loc Cert.Reference8Ideal.main_v49) = v5 c
          ∧ r.2.mem ((c.tc : Thread Cert.Reference8Ideal.nD Cert.Reference8Ideal.τ).loc Cert.Reference8Ideal.main_v30) = v6 c
          ∧ r.2.mem ((c.tc : Thread Cert.Reference8Ideal.nD Cert.Reference8Ideal.τ).loc Cert.Reference8Ideal.main_v36) = v7 c
          ∧ r.2.mem ((c.tc : Thread Cert.Reference8Ideal.nD Cert.Reference8Ideal.τ).loc Cert.Reference8Ideal.main_v50) = v8 c
          ∧ r.2.mem ((c.tc : Thread Cert.Reference8Ideal.nD Cert.Reference8Ideal.τ).loc Cert.Reference8Ideal.main_v74) = v9 c
          ∧ r.2.mem ((c.tc : Thread Cert.Reference8Ideal.nD Cert.Reference8Ideal.τ).loc Cert.Reference8Ideal.main_v55) = v10 c
          ∧ r.2.mem ((c.tc : Thread Cert.Reference8Ideal.nD Cert.Reference8Ideal.τ).loc Cert.Reference8Ideal.main_v61) = v11 c
          ∧ r.2.mem ((c.tc : Thread Cert.Reference8Ideal.nD Cert.Reference8Ideal.τ).loc Cert.Reference8Ideal.main_v75) = v12 c
          ∧ r.2.mem ((c.tc : Thread Cert.Reference8Ideal.nD Cert.Reference8Ideal.τ).loc Cert.Reference8Ideal.main_v99) = v13 c
          ∧ r.2.mem ((c.tc : Thread Cert.Reference8Ideal.nD Cert.Reference8Ideal.τ).loc Cert.Reference8Ideal.main_v80) = v14 c
          ∧ r.2.mem ((c.tc : Thread Cert.Reference8Ideal.nD Cert.Reference8Ideal.τ).loc Cert.Reference8Ideal.main_v86) = v15 c
          ∧ r.2.mem ((c.tc : Thread Cert.Reference8Ideal.nD Cert.Reference8Ideal.τ).loc Cert.Reference8Ideal.main_v100) = v16 c
          ∧ r.2.mem ((c.tc : Thread Cert.Reference8Ideal.nD Cert.Reference8Ideal.τ).loc Cert.Reference8Ideal.main_v124) = v17 c
          ∧ r.2.mem ((c.tc : Thread Cert.Reference8Ideal.nD Cert.Reference8Ideal.τ).loc Cert.Reference8Ideal.main_v105) = v18 c
          ∧ r.2.mem ((c.tc : Thread Cert.Reference8Ideal.nD Cert.Reference8Ideal.τ).loc Cert.Reference8Ideal.main_v111) = v19 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16)
          ∧ r.2.mem ((c.tc : Thread Cert.Reference8Ideal.nD Cert.Reference8Ideal.τ).loc Cert.Reference8Ideal.main_arg17) = m' ((c.tc : Thread Cert.Reference8Ideal.nD Cert.Reference8Ideal.τ).loc Cert.Reference8Ideal.main_arg17)
          ∧ r.2.mem ((c.tc : Thread Cert.Reference8Ideal.nD Cert.Reference8Ideal.τ).loc Cert.Reference8Ideal.main_arg18) = m' ((c.tc : Thread Cert.Reference8Ideal.nD Cert.Reference8Ideal.τ).loc Cert.Reference8Ideal.main_arg18)
          ∧ r.2.mem ((c.tc : Thread Cert.Reference8Ideal.nD Cert.Reference8Ideal.τ).loc Cert.Reference8Ideal.main_arg19) = m' ((c.tc : Thread Cert.Reference8Ideal.nD Cert.Reference8Ideal.τ).loc Cert.Reference8Ideal.main_arg19))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)) (v1 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_v0_3) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v35) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)) (v2 : (c : Dev Cert.Kernel11Ideal.nD) → Buf (Elt Ideal) ((c.tc : Thread Cert.Kernel11Ideal.nD Cert.Kernel11Ideal.τ).loc Cert.Kernel11Ideal.main_v8_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_v8_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v35) = v0 c
          ∧ r.2.mem ((c.tc : Thread Cert.Reference11Ideal.nD Cert.Reference11Ideal.τ).loc Cert.Reference11Ideal.main_v36) = v1 c
          ∧ r.2.mem ((c.tc : Thread Cert.Reference11Ideal.nD Cert.Reference11Ideal.τ).loc Cert.Reference11Ideal.main_v18) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_v20) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v44)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v44) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v39) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v45)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v45) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S4096x4096 : Shape := ⟨2, ![4096, 4096]⟩
abbrev S1x4096 : Shape := ⟨2, ![1, 4096]⟩
abbrev S4096x2048 : Shape := ⟨2, ![4096, 2048]⟩
abbrev S2048x2048 : Shape := ⟨2, ![2048, 2048]⟩
abbrev S_ : Shape := ⟨0, ![]⟩
abbrev S2x4096x2048 : Shape := ⟨3, ![2, 4096, 2048]⟩
abbrev S1x2048 : Shape := ⟨2, ![1, 2048]⟩
abbrev S1024x2048 : Shape := ⟨2, ![1024, 2048]⟩
abbrev S512x2048 : Shape := ⟨2, ![512, 2048]⟩
abbrev S1024x512 : Shape := ⟨2, ![1024, 512]⟩
abbrev S2x1024x512 : Shape := ⟨3, ![2, 1024, 512]⟩
abbrev S1x512 : Shape := ⟨2, ![1, 512]⟩
abbrev S1x1024x512 : Shape := ⟨3, ![1, 1024, 512]⟩
abbrev S512 : Shape := ⟨1, ![512]⟩

abbrev nBuf : Space → Nat
  | .hbm => 22
  | .vmem => 22
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .hbm, ⟨5, _⟩ => ⟨S4096x2048, .bf16⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .bf16⟩
  | .hbm, ⟨17, _⟩ => ⟨S4096x2048, .bf16⟩
  | .hbm, ⟨18, _⟩ => ⟨S4096x2048, .bf16⟩
  | .hbm, ⟨19, _⟩ => ⟨S2x4096x2048, .bf16⟩
  | .hbm, ⟨20, _⟩ => ⟨S1x2048, .f32⟩
  | .hbm, ⟨21, _⟩ => ⟨S1x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S2x1024x512, .bf16⟩
  | .local _ .vmem, ⟨17, _⟩ => ⟨S2x1024x512, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg1 : BitVec 32 := BitVec.ofNat 32 (i 1).val
  let c0_i32 : BitVec 32 := 0#32
  let v41 : BitVec 1 := Scalar.cmpi .eq arg1 c0_i32
  let v42 : BitVec 32 := Scalar.extui v41
  let c0_i32_24 : BitVec 32 := 0#32
  let v43 : BitVec 1 := Scalar.cmpi .ne v42 c0_i32_24
  v43

def k0_cond2 (i : grid0.Coords) : BitVec 1 :=
  let arg1 : BitVec 32 := BitVec.ofNat 32 (i 1).val
  let c0_i32 : BitVec 32 := 0#32
  let v41 : BitVec 1 := Scalar.cmpi .eq arg1 c0_i32
  let v_true : BitVec 1 := 1#1
  let v44 : BitVec 1 := Scalar.xori v41 v_true
  let v45 : BitVec 32 := Scalar.extui v44
  let c0_i32_25 : BitVec 32 := 0#32
  let v46 : BitVec 1 := Scalar.cmpi .ne v45 c0_i32_25
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== ReferenceIdeal.lean ====
abbrev S4096x4096 : Shape := ⟨2, ![4096, 4096]⟩
abbrev S1x4096 : Shape := ⟨2, ![1, 4096]⟩
abbrev S4096x2048 : Shape := ⟨2, ![4096, 2048]⟩
abbrev S2048x2048 : Shape := ⟨2, ![2048, 2048]⟩
abbrev S_ : Shape := ⟨0, ![]⟩
abbrev S4096x2x2048 : Shape := ⟨3, ![4096, 2, 2048]⟩
abbrev S4096x1x2048 : Shape := ⟨3, ![4096, 1, 2048]⟩
abbrev S4096 : Shape := ⟨1, ![4096]⟩
abbrev S2x4096x2048 : Shape := ⟨3, ![2, 4096, 2048]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .hbm, ⟨5, _⟩ => ⟨S4096x2048, .bf16⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x2x2048, .f32⟩
  | .hbm, ⟨24, _⟩ => ⟨S4096x1x2048, .f32⟩
  | .hbm, ⟨25, _⟩ => ⟨S4096x2048, .f32⟩
  | .hbm, ⟨26, _⟩ => ⟨S4096x2048, .f32⟩
  | .hbm, ⟨27, _⟩ => ⟨S4096x1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1x2048, .f32⟩
  | .hbm, ⟨37, _⟩ => ⟨S_, .f32⟩
  | .hbm, ⟨38, _⟩ => ⟨S4096x2x2048, .f32⟩
  | .hbm, ⟨39, _⟩ => ⟨S4096x2048, .f32⟩
  | .hbm, ⟨40, _⟩ => ⟨S4096x2048, .f32⟩
  | .hbm, ⟨41, _⟩ => ⟨S4096x1x2048, .f32⟩
  | .hbm, ⟨42, _⟩ => ⟨S_, .f32⟩
  | .hbm, ⟨43, _⟩ => ⟨S4096x2x2048, .f32⟩
  | .hbm, ⟨44, _⟩ => ⟨S4096x2x2048, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S1x4096, .f32⟩
  | .hbm, ⟨50, _⟩ => ⟨S4096x2x2048, .f32⟩
  | .hbm, ⟨51, _⟩ => ⟨S2x4096x2048, .f32⟩
  | .hbm, ⟨52, _⟩ => ⟨S4096x2048, .bf16⟩
  | .hbm, ⟨53, _⟩ => ⟨S4096x2048, .bf16⟩
  | .hbm, ⟨54, _⟩ => ⟨S2x4096x2048, .bf16⟩
  | .hbm, ⟨55, _⟩ => ⟨S1x2048, .f32⟩
  | .hbm, ⟨56, _⟩ => ⟨S1x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel2.lean ====
abbrev S4096x2048 : Shape := ⟨2, ![4096, 2048]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x8192 : Shape := ⟨2, ![256, 8192]⟩
abbrev S8192x1024 : Shape := ⟨2, ![8192, 1024]⟩
abbrev S256x1024 : Shape := ⟨2, ![256, 1024]⟩
abbrev S4096x512 : Shape := ⟨2, ![4096, 512]⟩
abbrev S4096x1024 : Shape := ⟨2, ![4096, 1024]⟩
abbrev S512x1024 : Shape := ⟨2, ![512, 1024]⟩
abbrev S1x512x1024 : Shape := ⟨3, ![1, 512, 1024]⟩
abbrev S512x8192 : Shape := ⟨2, ![512, 8192]⟩
abbrev S8x512x1024 : Shape := ⟨3, ![8, 512, 1024]⟩
abbrev S512x512 : Shape := ⟨2, ![512, 512]⟩

abbrev nBuf : Space → Nat
  | .hbm => 18
  | .vmem => 42
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x8192, .f32⟩
  | .hbm, ⟨3, _⟩ => ⟨S8192x2048, .f32⟩
  | .hbm, ⟨4, _⟩ => ⟨S4096x2048, .bf16⟩
  | .hbm, ⟨5, _⟩ => ⟨S2048x8192, .bf16⟩
  | .hbm, ⟨6, _⟩ => ⟨S2048x8x1024, .bf16⟩
  | .hbm, ⟨7, _⟩ => ⟨S8x2048x1024, .bf16⟩
  | .hbm, ⟨8, _⟩ => ⟨S8192x2048, .bf16⟩
  | .hbm, ⟨9, _⟩ => ⟨S4096x8192, .bf16⟩
  | .hbm, ⟨10, _⟩ => ⟨S4096x8192, .bf16⟩
  | .hbm, ⟨11, _⟩ => ⟨S4096x2048, .f32⟩
  | .hbm, ⟨12, _⟩ => ⟨S4096x8192, .bf16⟩
  | .hbm, ⟨13, _⟩ => ⟨S8192x2048, .bf16⟩
  | .hbm, ⟨14, _⟩ => ⟨S8x2048x1024, .bf16⟩
  | .hbm, ⟨15, _⟩ => ⟨S4096x2048, .bf16⟩
  | .hbm, ⟨16, _⟩ => ⟨S2048x8x1024, .bf16⟩
  | .hbm, ⟨17, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x8192, .bf16⟩
  | .local _ .vmem, ⟨9, _⟩ => ⟨S256x8192, .bf16⟩
  | .local _ .vmem, ⟨10, _⟩ => ⟨S8192x1024, .bf16⟩
  | .local _ .vmem, ⟨11, _⟩ => ⟨S8192x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1024x2048, .bf16⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S4096x512, .bf16⟩
  | .local _ .vmem, ⟨25, _⟩ => ⟨S4096x512, .bf16⟩
  | .local _ .vmem, ⟨26, _⟩ => ⟨S4096x1024, .bf16⟩
  | .local _ .vmem, ⟨27, _⟩ => ⟨S4096x1024, .bf16⟩
  | .local _ .vmem, ⟨28, _⟩ => ⟨S512x1024, .bf16⟩
  | .local _ .vmem, ⟨29, _⟩ => ⟨S512x1024, .bf16⟩
  | .local _ .vmem, ⟨30, _⟩ => ⟨S4096x512, .bf16⟩
  | .local _ .vmem, ⟨31, _⟩ => ⟨S4096x512, .bf16⟩
  | .local _ .vmem, ⟨32, _⟩ => ⟨S4096x1024, .bf16⟩
  | .local _ .vmem, ⟨33, _⟩ => ⟨S4096x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S512x8192, .bf16⟩
  | .local _ .vmem, ⟨37, _⟩ => ⟨S512x8192, .bf16⟩
  | .local _ .vmem, ⟨38, _⟩ => ⟨S8x512x1024, .bf16⟩
  | .local _ .vmem, ⟨39, _⟩ => ⟨S8x512x1024, .bf16⟩
  | .local _ .vmem, ⟨40, _⟩ => ⟨S512x512, .bf16⟩
  | .local _ .vmem, ⟨41, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S8192x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 16, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, false]

abbrev stage4_2 : Fin 2 → Memref sig .tc .vmem S1x512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S512x8192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, false]

abbrev stage5_1 : Fin 2 → Memref sig .tc .vmem S8x512x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, false]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference2Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x8192, .f32⟩
  | .hbm, ⟨3, _⟩ => ⟨S8192x2048, .f32⟩
  | .hbm, ⟨4, _⟩ => ⟨S4096x2048, .bf16⟩
  | .hbm, ⟨5, _⟩ => ⟨S4096x2048, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S2048x8192, .f32⟩
  | .hbm, ⟨23, _⟩ => ⟨S8192x2048, .f32⟩
  | .hbm, ⟨24, _⟩ => ⟨S4096x8192, .f32⟩
  | .hbm, ⟨25, _⟩ => ⟨S4096x8192, .f32⟩
  | .hbm, ⟨26, _⟩ => ⟨S_, .f32⟩
  | .hbm, ⟨27, _⟩ => ⟨S4096x8192, .f32⟩
  | .hbm, ⟨28, _⟩ => ⟨S4096x8192, .f32⟩
  | .hbm, ⟨29, _⟩ => ⟨S8192x2048, .f32⟩
  | .hbm, ⟨30, _⟩ => ⟨S2048x8192, .f32⟩
  | .hbm, ⟨31, _⟩ => ⟨S4096x2048, .f32⟩
  | .hbm, ⟨32, _⟩ => ⟨S4096x2048, .bf16⟩
  | .hbm, ⟨33, _⟩ => ⟨S2048x8192, .bf16⟩
  | .hbm, ⟨34, _⟩ => ⟨S8192x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel3.lean ====
abbrev S4096x2048 : Shape := ⟨2, ![4096, 2048]⟩
abbrev S4096x512 : Shape := ⟨2, ![4096, 512]⟩
abbrev S2048x6144 : Shape := ⟨2, ![2048, 6144]⟩
abbrev S2048x4096 : Shape := ⟨2, ![2048, 4096]⟩
abbrev S1x4096 : Shape := ⟨2, ![1, 4096]⟩
abbrev S512x2048 : Shape := ⟨2, ![512, 2048]⟩
abbrev S2048x2048 : Shape := ⟨2, ![2048, 2048]⟩
abbrev S1x2048 : Shape := ⟨2, ![1, 2048]⟩
abbrev S2048x8x768 : Shape := ⟨3, ![2048, 8, 768]⟩
abbrev S8x2048x768 : Shape := ⟨3, ![8, 2048, 768]⟩
abbrev S2048x8x512 : Shape := ⟨3, ![2048, 8, 512]⟩
abbrev S8x2048x512 : Shape := ⟨3, ![8, 2048, 512]⟩
abbrev S512x8x256 : Shape := ⟨3, ![512, 8, 256]⟩
abbrev S8x512x256 : Shape := ⟨3, ![8, 512, 256]⟩
abbrev S4096x6144 : Shape := ⟨2, ![4096, 6144]⟩
abbrev S1024x2048 : Shape := ⟨2, ![1024, 2048]⟩
abbrev S2x2048x768 : Shape := ⟨3, ![2, 2048, 768]⟩
abbrev S1024x1536 : Shape := ⟨2, ![1024, 1536]⟩
abbrev S1x2048x768 : Shape := ⟨3, ![1, 2048, 768]⟩
abbrev S2048x768 : Shape := ⟨2, ![2048, 768]⟩
abbrev S1024x768 : Shape := ⟨2, ![1024, 768]⟩
abbrev S4096x4096 : Shape := ⟨2, ![4096, 4096]⟩
abbrev S2x2048x512 : Shape := ⟨3, ![2, 2048, 512]⟩
abbrev S1x1024 : Shape := ⟨2, ![1, 1024]⟩
abbrev S1024x1024 : Shape := ⟨2, ![1024, 1024]⟩
abbrev S1x2048x512 : Shape := ⟨3, ![1, 2048, 512]⟩
abbrev S2048x512 : Shape := ⟨2, ![2048, 512]⟩
abbrev S1024x512 : Shape := ⟨2, ![1024, 512]⟩
abbrev S256x512 : Shape := ⟨2, ![256, 512]⟩
abbrev S256x2048 : Shape := ⟨2, ![256, 2048]⟩
abbrev S1x512x256 : Shape := ⟨3, ![1, 512, 256]⟩
abbrev S512x256 : Shape := ⟨2, ![512, 256]⟩
abbrev S256x256 : Shape := ⟨2, ![256, 256]⟩
abbrev S4096x1 : Shape := ⟨2, ![4096, 1]⟩
abbrev S512x1 : Shape := ⟨2, ![512, 1]⟩
abbrev S512 : Shape := ⟨1, ![512]⟩
abbrev S4096x1024 : Shape := ⟨2, ![4096, 1024]⟩
abbrev S512x1024 : Shape := ⟨2, ![512, 1024]⟩

abbrev nBuf : Space → Nat
  | .hbm => 34
  | .vmem => 48
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x512, .bf16⟩
  | .hbm, ⟨3, _⟩ => ⟨S4096x512, .bf16⟩
  | .hbm, ⟨4, _⟩ => ⟨S2048x6144, .f32⟩
  | .hbm, ⟨5, _⟩ => ⟨S2048x4096, .f32⟩
  | .hbm, ⟨6, _⟩ => ⟨S1x4096, .f32⟩
  | .hbm, ⟨7, _⟩ => ⟨S512x2048, .f32⟩
  | .hbm, ⟨8, _⟩ => ⟨S512x2048, .f32⟩
  | .hbm, ⟨9, _⟩ => ⟨S2048x2048, .f32⟩
  | .hbm, ⟨10, _⟩ => ⟨S1x2048, .f32⟩
  | .hbm, ⟨11, _⟩ => ⟨S4096x2048, .bf16⟩
  | .hbm, ⟨12, _⟩ => ⟨S2048x6144, .bf16⟩
  | .hbm, ⟨13, _⟩ => ⟨S2048x8x768, .bf16⟩
  | .hbm, ⟨14, _⟩ => ⟨S8x2048x768, .bf16⟩
  | .hbm, ⟨15, _⟩ => ⟨S2048x4096, .bf16⟩
  | .hbm, ⟨16, _⟩ => ⟨S2048x8x512, .bf16⟩
  | .hbm, ⟨17, _⟩ => ⟨S8x2048x512, .bf16⟩
  | .hbm, ⟨18, _⟩ => ⟨S512x2048, .bf16⟩
  | .hbm, ⟨19, _⟩ => ⟨S512x8x256, .bf16⟩
  | .hbm, ⟨20, _⟩ => ⟨S8x512x256, .bf16⟩
  | .hbm, ⟨21, _⟩ => ⟨S512x2048, .bf16⟩
  | .hbm, ⟨22, _⟩ => ⟨S512x8x256, .bf16⟩
  | .hbm, ⟨23, _⟩ => ⟨S8x512x256, .bf16⟩
  | .hbm, ⟨24, _⟩ => ⟨S2048x2048, .bf16⟩
  | .hbm, ⟨25, _⟩ => ⟨S4096x6144, .bf16⟩
  | .hbm, ⟨26, _⟩ => ⟨S4096x4096, .bf16⟩
  | .hbm, ⟨27, _⟩ => ⟨S4096x2048, .bf16⟩
  | .hbm, ⟨28, _⟩ => ⟨S4096x2048, .bf16⟩
  | .hbm, ⟨29, _⟩ => ⟨S4096x2048, .bf16⟩
  | .hbm, ⟨30, _⟩ => ⟨S4096x2048, .f32⟩
  | .hbm, ⟨31, _⟩ => ⟨S4096x2048, .bf16⟩
  | .hbm, ⟨32, _⟩ => ⟨S4096x1, .f32⟩
  | .hbm, ⟨33, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2x2048x768, .bf16⟩
  | .local _ .vmem, ⟨3, _⟩ => ⟨S2x2048x768, .bf16⟩
  | .local _ .vmem, ⟨4, _⟩ => ⟨S1024x1536, .bf16⟩
  | .local _ .vmem, ⟨5, _⟩ => ⟨S1024x1536, .bf16⟩
  | .local _ .vmem, ⟨6, _⟩ => ⟨S1024x2048, .bf16⟩
  | .local _ .vmem, ⟨7, _⟩ => ⟨S1024x2048, .bf16⟩
  | .local _ .vmem, ⟨8, _⟩ => ⟨S2x2048x512, .bf16⟩
  | .local _ .vmem, ⟨9, _⟩ => ⟨S2x2048x512, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S256x512, .bf16⟩
  | .local _ .vmem, ⟨15, _⟩ => ⟨S256x512, .bf16⟩
  | .local _ .vmem, ⟨16, _⟩ => ⟨S8x512x256, .bf16⟩
  | .local _ .vmem, ⟨17, _⟩ => ⟨S256x512, .bf16⟩
  | .local _ .vmem, ⟨18, _⟩ => ⟨S256x512, .bf16⟩
  | .local _ .vmem, ⟨19, _⟩ => ⟨S8x512x256, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S256x2048, .bf16⟩
  | .local _ .vmem, ⟨29, _⟩ => ⟨S256x2048, .bf16⟩
  | .local _ .vmem, ⟨30, _⟩ => ⟨S512x2048, .bf16⟩
  | .local _ .vmem, ⟨31, _⟩ => ⟨S512x2048, .bf16⟩
  | .local _ .vmem, ⟨32, _⟩ => ⟨S2048x2048, .bf16⟩
  | .local _ .vmem, ⟨33, _⟩ => ⟨S512x2048, .f32⟩
  | .local _ .vmem, ⟨34, _⟩ => ⟨S512x2048, .f32⟩
  | .local _ .vmem, ⟨35, _⟩ => ⟨S1x2048, .f32⟩
  | .local _ .vmem, ⟨36, _⟩ => ⟨S512x2048, .f32⟩
  | .local _ .vmem, ⟨37, _⟩ => ⟨S512x2048, .f32⟩
  | .local _ .vmem, ⟨38, _⟩ => ⟨S512x2048, .bf16⟩
  | .local _ .vmem, ⟨39, _⟩ => ⟨S512x2048, .bf16⟩
  | .local _ .vmem, ⟨40, _⟩ => ⟨S512x1, .f32⟩
  | .local _ .vmem, ⟨41, _⟩ => ⟨S512x1, .f32⟩
  | .local _ .vmem, ⟨42, _⟩ => ⟨S4096x512, .bf16⟩
  | .local _ .vmem, ⟨43, _⟩ => ⟨S4096x512, .bf16⟩
  | .local _ .vmem, ⟨44, _⟩ => ⟨S4096x1024, .bf16⟩
  | .local _ .vmem, ⟨45, _⟩ => ⟨S4096x1024, .bf16⟩
  | .local _ .vmem, ⟨46, _⟩ => ⟨S512x1024, .bf16⟩
  | .local _ .vmem, ⟨47, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S2x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x512x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x512x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x2048 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x2048 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x2048 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false, false]

abbrev stage3_4 : Fin 2 → Memref sig .tc .vmem S512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false, false]

abbrev stage3_5 : Fin 2 → Memref sig .tc .vmem S512x2048 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false, false]

abbrev stage3_6 : Fin 2 → Memref sig .tc .vmem S512x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, false]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference3Ideal.lean ====
abbrev S4096x2048 : Shape := ⟨2, ![4096, 2048]⟩
abbrev S4096x512 : Shape := ⟨2, ![4096, 512]⟩
abbrev S2048x6144 : Shape := ⟨2, ![2048, 6144]⟩
abbrev S2048x4096 : Shape := ⟨2, ![2048, 4096]⟩
abbrev S1x4096 : Shape := ⟨2, ![1, 4096]⟩
abbrev S512x2048 : Shape := ⟨2, ![512, 2048]⟩
abbrev S2048x2048 : Shape := ⟨2, ![2048, 2048]⟩
abbrev S1x2048 : Shape := ⟨2, ![1, 2048]⟩
abbrev S4096x4096 : Shape := ⟨2, ![4096, 4096]⟩
abbrev S_ : Shape := ⟨0, ![]⟩
abbrev S4096x2x2048 : Shape := ⟨3, ![4096, 2, 2048]⟩
abbrev S4096x1x2048 : Shape := ⟨3, ![4096, 1, 2048]⟩
abbrev S4096 : Shape := ⟨1, ![4096]⟩
abbrev S4096x1 : Shape := ⟨2, ![4096, 1]⟩
abbrev S4096x6144 : Shape := ⟨2, ![4096, 6144]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x512, .bf16⟩
  | .hbm, ⟨3, _⟩ => ⟨S4096x512, .bf16⟩
  | .hbm, ⟨4, _⟩ => ⟨S2048x6144, .f32⟩
  | .hbm, ⟨5, _⟩ => ⟨S2048x4096, .f32⟩
  | .hbm, ⟨6, _⟩ => ⟨S1x4096, .f32⟩
  | .hbm, ⟨7, _⟩ => ⟨S512x2048, .f32⟩
  | .hbm, ⟨8, _⟩ => ⟨S512x2048, .f32⟩
  | .hbm, ⟨9, _⟩ => ⟨S2048x2048, .f32⟩
  | .hbm, ⟨10, _⟩ => ⟨S1x2048, .f32⟩
  | .hbm, ⟨11, _⟩ => ⟨S4096x2048, .bf16⟩
  | .hbm, ⟨12, _⟩ => ⟨S4096x2048, .f32⟩
  | .hbm, ⟨13, _⟩ => ⟨S4096x512, .f32⟩
  | .hbm, ⟨14, _⟩ => ⟨S4096x512, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x2x2048, .f32⟩
  | .hbm, ⟨27, _⟩ => ⟨S4096x1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x2048, .f32⟩
  | .hbm, ⟨50, _⟩ => ⟨S4096x6144, .f32⟩
  | .hbm, ⟨51, _⟩ => ⟨S4096x6144, .bf16⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .bf16⟩
  | .hbm, ⟨57, _⟩ => ⟨S4096x2048, .f32⟩
  | .hbm, ⟨58, _⟩ => ⟨S2048x2048, .f32⟩
  | .hbm, ⟨59, _⟩ => ⟨S2048x2048, .f32⟩
  | .hbm, ⟨60, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel4.lean ====
abbrev S4096x2048 : Shape := ⟨2, ![4096, 2048]⟩
abbrev S4096x512 : Shape := ⟨2, ![4096, 512]⟩
abbrev S2048x6144 : Shape := ⟨2, ![2048, 6144]⟩
abbrev S2048x4096 : Shape := ⟨2, ![2048, 4096]⟩
abbrev S512x2048 : Shape := ⟨2, ![512, 2048]⟩
abbrev S4096x6144 : Shape := ⟨2, ![4096, 6144]⟩
abbrev S2x4096x2048 : Shape := ⟨3, ![2, 4096, 2048]⟩
abbrev S2048x8x768 : Shape := ⟨3, ![2048, 8, 768]⟩
abbrev S8x2048x768 : Shape := ⟨3, ![8, 2048, 768]⟩
abbrev S2048x8x512 : Shape := ⟨3, ![2048, 8, 512]⟩
abbrev S8x2048x512 : Shape := ⟨3, ![8, 2048, 512]⟩
abbrev S512x8x256 : Shape := ⟨3, ![512, 8, 256]⟩
abbrev S8x512x256 : Shape := ⟨3, ![8, 512, 256]⟩
abbrev S1x4096x1024 : Shape := ⟨3, ![1, 4096, 1024]⟩
abbrev S2x512x512 : Shape := ⟨3, ![2, 512, 512]⟩
abbrev S4096x1024 : Shape := ⟨2, ![4096, 1024]⟩
abbrev S512x1024 : Shape := ⟨2, ![512, 1024]⟩
abbrev S512x512 : Shape := ⟨2, ![512, 512]⟩
abbrev S1x512x512 : Shape := ⟨3, ![1, 512, 512]⟩
abbrev S4x512x256 : Shape := ⟨3, ![4, 512, 256]⟩
abbrev S512x256 : Shape := ⟨2, ![512, 256]⟩
abbrev S1x512x256 : Shape := ⟨3, ![1, 512, 256]⟩
abbrev S4096x1536 : Shape := ⟨2, ![4096, 1536]⟩
abbrev S2x512x768 : Shape := ⟨3, ![2, 512, 768]⟩
abbrev S512x1536 : Shape := ⟨2, ![512, 1536]⟩
abbrev S512x768 : Shape := ⟨2, ![512, 768]⟩
abbrev S1x512x768 : Shape := ⟨3, ![1, 512, 768]⟩
abbrev S512x6144 : Shape := ⟨2, ![512, 6144]⟩
abbrev S8x512x768 : Shape := ⟨3, ![8, 512, 768]⟩
abbrev S1x512x2048 : Shape := ⟨3, ![1, 512, 2048]⟩
abbrev S4x512x512 : Shape := ⟨3, ![4, 512, 512]⟩

abbrev nBuf : Space → Nat
  | .hbm => 38
  | .vmem => 46
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S2048x6144, .f32⟩
  | .hbm, ⟨4, _⟩ => ⟨S2048x4096, .f32⟩
  | .hbm, ⟨5, _⟩ => ⟨S512x2048, .f32⟩
  | .hbm, ⟨6, _⟩ => ⟨S512x2048, .f32⟩
  | .hbm, ⟨7, _⟩ => ⟨S4096x6144, .bf16⟩
  | .hbm, ⟨8, _⟩ => ⟨S2x4096x2048, .bf16⟩
  | .hbm, ⟨9, _⟩ => ⟨S4096x2048, .bf16⟩
  | .hbm, ⟨10, _⟩ => ⟨S4096x2048, .bf16⟩
  | .hbm, ⟨11, _⟩ => ⟨S2048x6144, .bf16⟩
  | .hbm, ⟨12, _⟩ => ⟨S2048x8x768, .bf16⟩
  | .hbm, ⟨13, _⟩ => ⟨S8x2048x768, .bf16⟩
  | .hbm, ⟨14, _⟩ => ⟨S2048x4096, .bf16⟩
  | .hbm, ⟨15, _⟩ => ⟨S2048x8x512, .bf16⟩
  | .hbm, ⟨16, _⟩ => ⟨S8x2048x512, .bf16⟩
  | .hbm, ⟨17, _⟩ => ⟨S512x2048, .bf16⟩
  | .hbm, ⟨18, _⟩ => ⟨S512x8x256, .bf16⟩
  | .hbm, ⟨19, _⟩ => ⟨S8x512x256, .bf16⟩
  | .hbm, ⟨20, _⟩ => ⟨S512x2048, .bf16⟩
  | .hbm, ⟨21, _⟩ => ⟨S512x8x256, .bf16⟩
  | .hbm, ⟨22, _⟩ => ⟨S8x512x256, .bf16⟩
  | .hbm, ⟨23, _⟩ => ⟨S8x2048x512, .bf16⟩
  | .hbm, ⟨24, _⟩ => ⟨S8x512x256, .bf16⟩
  | .hbm, ⟨25, _⟩ => ⟨S8x512x256, .bf16⟩
  | .hbm, ⟨26, _⟩ => ⟨S4096x512, .bf16⟩
  | .hbm, ⟨27, _⟩ => ⟨S4096x512, .bf16⟩
  | .hbm, ⟨28, _⟩ => ⟨S8x2048x768, .bf16⟩
  | .hbm, ⟨29, _⟩ => ⟨S4096x2048, .bf16⟩
  | .hbm, ⟨30, _⟩ => ⟨S2048x8x768, .bf16⟩
  | .hbm, ⟨31, _⟩ => ⟨S2048x6144, .bf16⟩
  | .hbm, ⟨32, _⟩ => ⟨S2048x8x512, .bf16⟩
  | .hbm, ⟨33, _⟩ => ⟨S2048x4096, .bf16⟩
  | .hbm, ⟨34, _⟩ => ⟨S512x8x256, .bf16⟩
  | .hbm, ⟨35, _⟩ => ⟨S512x2048, .bf16⟩
  | .hbm, ⟨36, _⟩ => ⟨S512x8x256, .bf16⟩
  | .hbm, ⟨37, _⟩ => ⟨S512x2048, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S2x512x512, .bf16⟩
  | .local _ .vmem, ⟨5, _⟩ => ⟨S2x512x512, .bf16⟩
  | .local _ .vmem, ⟨6, _⟩ => ⟨S4096x512, .bf16⟩
  | .local _ .vmem, ⟨7, _⟩ => ⟨S4096x1024, .bf16⟩
  | .local _ .vmem, ⟨8, _⟩ => ⟨S4096x1024, .bf16⟩
  | .local _ .vmem, ⟨9, _⟩ => ⟨S4x512x256, .bf16⟩
  | .local _ .vmem, ⟨10, _⟩ => ⟨S4x512x256, .bf16⟩
  | .local _ .vmem, ⟨11, _⟩ => ⟨S4096x512, .bf16⟩
  | .local _ .vmem, ⟨12, _⟩ => ⟨S4096x1024, .bf16⟩
  | .local _ .vmem, ⟨13, _⟩ => ⟨S4096x1024, .bf16⟩
  | .local _ .vmem, ⟨14, _⟩ => ⟨S4x512x256, .bf16⟩
  | .local _ .vmem, ⟨15, _⟩ => ⟨S4x512x256, .bf16⟩
  | .local _ .vmem, ⟨16, _⟩ => ⟨S512x2048, .bf16⟩
  | .local _ .vmem, ⟨17, _⟩ => ⟨S512x2048, .bf16⟩
  | .local _ .vmem, ⟨18, _⟩ => ⟨S8x512x256, .bf16⟩
  | .local _ .vmem, ⟨19, _⟩ => ⟨S512x512, .bf16⟩
  | .local _ .vmem, ⟨20, _⟩ => ⟨S512x512, .bf16⟩
  | .local _ .vmem, ⟨21, _⟩ => ⟨S512x2048, .bf16⟩
  | .local _ .vmem, ⟨22, _⟩ => ⟨S512x2048, .bf16⟩
  | .local _ .vmem, ⟨23, _⟩ => ⟨S8x512x256, .bf16⟩
  | .local _ .vmem, ⟨24, _⟩ => ⟨S512x512, .bf16⟩
  | .local _ .vmem, ⟨25, _⟩ => ⟨S512x512, .bf16⟩
  | .local _ .vmem, ⟨26, _⟩ => ⟨S4096x512, .bf16⟩
  | .local _ .vmem, ⟨27, _⟩ => ⟨S4096x512, .bf16⟩
  | .local _ .vmem, ⟨28, _⟩ => ⟨S4096x1536, .bf16⟩
  | .local _ .vmem, ⟨29, _⟩ => ⟨S4096x1536, .bf16⟩
  | .local _ .vmem, ⟨30, _⟩ => ⟨S2x512x768, .bf16⟩
  | .local _ .vmem, ⟨31, _⟩ => ⟨S2x512x768, .bf16⟩
  | .local _ .vmem, ⟨32, _⟩ => ⟨S512x6144, .bf16⟩
  | .local _ .vmem, ⟨33, _⟩ => ⟨S512x6144, .bf16⟩
  | .local _ .vmem, ⟨34, _⟩ => ⟨S8x512x768, .bf16⟩
  | .local _ .vmem, ⟨35, _⟩ => ⟨S8x512x768, .bf16⟩
  | .local _ .vmem, ⟨36, _⟩ => ⟨S1x512x2048, .bf16⟩
  | .local _ .vmem, ⟨37, _⟩ => ⟨S1x512x2048, .bf16⟩
  | .local _ .vmem, ⟨38, _⟩ => ⟨S4x512x512, .bf16⟩
  | .local _ .vmem, ⟨39, _⟩ => ⟨S4x512x512, .bf16⟩
  | .local _ .vmem, ⟨40, _⟩ => ⟨S1x512x2048, .bf16⟩
  | .local _ .vmem, ⟨41, _⟩ => ⟨S1x512x2048, .bf16⟩
  | .local _ .vmem, ⟨42, _⟩ => ⟨S4x512x512, .bf16⟩
  | .local _ .vmem, ⟨43, _⟩ => ⟨S4x512x512, .bf16⟩
  | .local _ .vmem, ⟨44, _⟩ => ⟨S512x512, .bf16⟩
  | .local _ .vmem, ⟨45, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc6_stg3_0 : Ref sig .tc := ⟨.vmem, 38, rfl⟩
abbrev cc6_stg3_1 : Ref sig .tc := ⟨.vmem, 39, rfl⟩
abbrev cc6_stg4_0 : Ref sig .tc := ⟨.vmem, 40, rfl⟩
abbrev cc6_stg4_1 : Ref sig .tc := ⟨.vmem, 41, rfl⟩
abbrev cc6_stg5_0 : Ref sig .tc := ⟨.vmem, 42, rfl⟩
abbrev cc6_stg5_1 : Ref sig .tc := ⟨.vmem, 43, rfl⟩
abbrev cc6_stg6_0 : Ref sig .tc := ⟨.vmem, 44, rfl⟩
abbrev cc6_stg6_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37
abbrev cc6_sem3_0 : DmaSem sig := 38
abbrev cc6_sem3_1 : DmaSem sig := 39
abbrev cc6_sem4_0 : DmaSem sig := 40
abbrev cc6_sem4_1 : DmaSem sig := 41
abbrev cc6_sem5_0 : DmaSem sig := 42
abbrev cc6_sem5_1 : DmaSem sig := 43
abbrev cc6_sem6_0 : DmaSem sig := 44
abbrev cc6_sem6_1 : DmaSem sig := 45

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4096x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S4x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S4096x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S4x512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 1 → Memref sig .tc .vmem S8x512x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, false]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false]

abbrev stage4_1 : Fin 1 → Memref sig .tc .vmem S8x512x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, false]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false, false]

abbrev grid5 : Pipeline.Grid := ⟨3, ![4, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, false]

abbrev stage5_1 : Fin 2 → Memref sig .tc .vmem S4096x1536 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, false]

abbrev stage5_2 : Fin 2 → Memref sig .tc .vmem S2x512x768 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc6_transform_4 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc6_transform_5 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc6_transform_6 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage6_0 : Fin 2 → Memref sig .tc .vmem S512x6144 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, false]

abbrev stage6_1 : Fin 2 → Memref sig .tc .vmem S8x512x768 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, false]

abbrev stage6_2 : Fin 2 → Memref sig .tc .vmem S1x512x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, false]

abbrev stage6_3 : Fin 2 → Memref sig .tc .vmem S4x512x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false, false]

abbrev stage6_4 : Fin 2 → Memref sig .tc .vmem S1x512x2048 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true, false]

abbrev stage6_5 : Fin 2 → Memref sig .tc .vmem S4x512x512 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false, false]

abbrev stage6_6 : Fin 2 → Memref sig .tc .vmem S512x512 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true, false]
-- ==== Reference4Ideal.lean ====
abbrev S4096x2048 : Shape := ⟨2, ![4096, 2048]⟩
abbrev S4096x512 : Shape := ⟨2, ![4096, 512]⟩
abbrev S2048x6144 : Shape := ⟨2, ![2048, 6144]⟩
abbrev S2048x4096 : Shape := ⟨2, ![2048, 4096]⟩
abbrev S512x2048 : Shape := ⟨2, ![512, 2048]⟩
abbrev S4096x6144 : Shape := ⟨2, ![4096, 6144]⟩
abbrev S2x4096x2048 : Shape := ⟨3, ![2, 4096, 2048]⟩
abbrev S4096x2x2048 : Shape := ⟨3, ![4096, 2, 2048]⟩
abbrev S4096x4096 : Shape := ⟨2, ![4096, 4096]⟩
abbrev S2048x512 : Shape := ⟨2, ![2048, 512]⟩
abbrev S6144x2048 : Shape := ⟨2, ![6144, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S2048x6144, .f32⟩
  | .hbm, ⟨4, _⟩ => ⟨S2048x4096, .f32⟩
  | .hbm, ⟨5, _⟩ => ⟨S512x2048, .f32⟩
  | .hbm, ⟨6, _⟩ => ⟨S512x2048, .f32⟩
  | .hbm, ⟨7, _⟩ => ⟨S4096x6144, .bf16⟩
  | .hbm, ⟨8, _⟩ => ⟨S2x4096x2048, .bf16⟩
  | .hbm, ⟨9, _⟩ => ⟨S4096x2048, .bf16⟩
  | .hbm, ⟨10, _⟩ => ⟨S4096x2048, .bf16⟩
  | .hbm, ⟨11, _⟩ => ⟨S2x4096x2048, .f32⟩
  | .hbm, ⟨12, _⟩ => ⟨S4096x2x2048, .f32⟩
  | .hbm, ⟨13, _⟩ => ⟨S4096x4096, .f32⟩
  | .hbm, ⟨14, _⟩ => ⟨S4096x2048, .f32⟩
  | .hbm, ⟨15, _⟩ => ⟨S4096x512, .f32⟩
  | .hbm, ⟨16, _⟩ => ⟨S4096x512, .f32⟩
  | .hbm, ⟨17, _⟩ => ⟨S4096x6144, .f32⟩
  | .hbm, ⟨18, _⟩ => ⟨S4096x4096, .f32⟩
  | .hbm, ⟨19, _⟩ => ⟨S4096x2048, .f32⟩
  | .hbm, ⟨20, _⟩ => ⟨S4096x2048, .f32⟩
  | .hbm, ⟨21, _⟩ => ⟨S4096x6144, .f32⟩
  | .hbm, ⟨22, _⟩ => ⟨S4096x2048, .f32⟩
  | .hbm, ⟨23, _⟩ => ⟨S4096x2048, .f32⟩
  | .hbm, ⟨24, _⟩ => ⟨S2048x512, .f32⟩
  | .hbm, ⟨25, _⟩ => ⟨S512x2048, .f32⟩
  | .hbm, ⟨26, _⟩ => ⟨S4096x512, .f32⟩
  | .hbm, ⟨27, _⟩ => ⟨S2048x512, .f32⟩
  | .hbm, ⟨28, _⟩ => ⟨S512x2048, .f32⟩
  | .hbm, ⟨29, _⟩ => ⟨S4096x512, .f32⟩
  | .hbm, ⟨30, _⟩ => ⟨S4096x2048, .f32⟩
  | .hbm, ⟨31, _⟩ => ⟨S2048x4096, .f32⟩
  | .hbm, ⟨32, _⟩ => ⟨S4096x2048, .f32⟩
  | .hbm, ⟨33, _⟩ => ⟨S6144x2048, .f32⟩
  | .hbm, ⟨34, _⟩ => ⟨S2048x6144, .f32⟩
  | .hbm, ⟨35, _⟩ => ⟨S4096x2048, .f32⟩
  | .hbm, ⟨36, _⟩ => ⟨S4096x2048, .f32⟩
  | .hbm, ⟨37, _⟩ => ⟨S4096x2048, .bf16⟩
  | .hbm, ⟨38, _⟩ => ⟨S4096x512, .bf16⟩
  | .hbm, ⟨39, _⟩ => ⟨S4096x512, .bf16⟩
  | .hbm, ⟨40, _⟩ => ⟨S2048x6144, .bf16⟩
  | .hbm, ⟨41, _⟩ => ⟨S2048x4096, .bf16⟩
  | .hbm, ⟨42, _⟩ => ⟨S512x2048, .bf16⟩
  | .hbm, ⟨43, _⟩ => ⟨S512x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel6.lean ====
abbrev S8x2048x768 : Shape := ⟨3, ![8, 2048, 768]⟩
abbrev S2048x768 : Shape := ⟨2, ![2048, 768]⟩
abbrev S8x512x256 : Shape := ⟨3, ![8, 512, 256]⟩
abbrev S512x256 : Shape := ⟨2, ![512, 256]⟩
abbrev S8x256x2048 : Shape := ⟨3, ![8, 256, 2048]⟩
abbrev S256x2048 : Shape := ⟨2, ![256, 2048]⟩
abbrev S8x128x768 : Shape := ⟨3, ![8, 128, 768]⟩
abbrev S128x768 : Shape := ⟨2, ![128, 768]⟩
abbrev S1x128x768 : Shape := ⟨3, ![1, 128, 768]⟩
abbrev S8x128x256 : Shape := ⟨3, ![8, 128, 256]⟩
abbrev S128x256 : Shape := ⟨2, ![128, 256]⟩
abbrev S1x128x256 : Shape := ⟨3, ![1, 128, 256]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 32
  | .vmem => 64
  | .smem => 0
  | _ => 0

abbrev bufTy : (tb : Table) → Fin (tcTables nBuf tb) → BufTy
  | .hbm, ⟨0, _⟩ => ⟨S8x2048x768, .bf16⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S8x512x256, .bf16⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S8x512x256, .bf16⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S8x256x2048, .bf16⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S2048x768, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .local _ .vmem, ⟨0, _⟩ => ⟨S8x128x768, .bf16⟩
  | .local _ .vmem, ⟨1, _⟩ => ⟨S8x128x768, .bf16⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | .local _ .vmem, ⟨16, _⟩ => ⟨S8x128x256, .bf16⟩
  | .local _ .vmem, ⟨17, _⟩ => ⟨S8x128x256, .bf16⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S8x128x256, .bf16⟩
  | .local _ .vmem, ⟨33, _⟩ => ⟨S8x128x256, .bf16⟩
  | .local _ .vmem, ⟨34, _⟩ => ⟨S128x256, .f32⟩
  | .local _ .vmem, ⟨35, _⟩ => ⟨S128x256, .f32⟩
  | .local _ .vmem, ⟨36, _⟩ => ⟨S128x256, .f32⟩
  | .local _ .vmem, ⟨37, _⟩ => ⟨S128x256, .f32⟩
  | .local _ .vmem, ⟨38, _⟩ => ⟨S128x256, .f32⟩
  | .local _ .vmem, ⟨39, _⟩ => ⟨S128x256, .f32⟩
  | .local _ .vmem, ⟨40, _⟩ => ⟨S128x256, .f32⟩
  | .local _ .vmem, ⟨41, _⟩ => ⟨S128x256, .f32⟩
  | .local _ .vmem, ⟨42, _⟩ => ⟨S128x256, .f32⟩
  | .local _ .vmem, ⟨43, _⟩ => ⟨S128x256, .f32⟩
  | .local _ .vmem, ⟨44, _⟩ => ⟨S128x256, .f32⟩
  | .local _ .vmem, ⟨45, _⟩ => ⟨S128x256, .f32⟩
  | .local _ .vmem, ⟨46, _⟩ => ⟨S128x256, .f32⟩
  | .local _ .vmem, ⟨47, _⟩ => ⟨S128x256, .f32⟩
  | .local _ .vmem, ⟨48, _⟩ => ⟨S8x128x2048, .bf16⟩
  | .local _ .vmem, ⟨49, _⟩ => ⟨S8x128x2048, .bf16⟩
  | .local _ .vmem, ⟨50, _⟩ => ⟨S128x2048, .f32⟩
  | .local _ .vmem, ⟨51, _⟩ => ⟨S128x2048, .f32⟩
  | .local _ .vmem, ⟨52, _⟩ => ⟨S128x2048, .f32⟩
  | .local _ .vmem, ⟨53, _⟩ => ⟨S128x2048, .f32⟩
  | .local _ .vmem, ⟨54, _⟩ => ⟨S128x2048, .f32⟩
  | .local _ .vmem, ⟨55, _⟩ => ⟨S128x2048, .f32⟩
  | .local _ .vmem, ⟨56, _⟩ => ⟨S128x2048, .f32⟩
  | .local _ .vmem, ⟨57, _⟩ => ⟨S128x2048, .f32⟩
  | .local _ .vmem, ⟨58, _⟩ => ⟨S128x2048, .f32⟩
  | .local _ .vmem, ⟨59, _⟩ => ⟨S128x2048, .f32⟩
  | .local _ .vmem, ⟨60, _⟩ => ⟨S128x2048, .f32⟩
  | .local _ .vmem, ⟨61, _⟩ => ⟨S128x2048, .f32⟩
  | .local _ .vmem, ⟨62, _⟩ => ⟨S128x2048, .f32⟩
  | .local _ .vmem, ⟨63, _⟩ => ⟨S128x2048, .f32⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v1_0 : Ref sig .tc := ⟨.hbm, 20, rfl⟩
abbrev main_v1_1 : Ref sig .tc := ⟨.hbm, 21, rfl⟩
abbrev main_v1_2 : Ref sig .tc := ⟨.hbm, 22, rfl⟩
abbrev main_v1_3 : Ref sig .tc := ⟨.hbm, 23, rfl⟩
abbrev main_v2_0 : Ref sig .tc := ⟨.hbm, 24, rfl⟩
abbrev main_v2_1 : Ref sig .tc := ⟨.hbm, 25, rfl⟩
abbrev main_v2_2 : Ref sig .tc := ⟨.hbm, 26, rfl⟩
abbrev main_v2_3 : Ref sig .tc := ⟨.hbm, 27, rfl⟩
abbrev main_v3_0 : Ref sig .tc := ⟨.hbm, 28, rfl⟩
abbrev main_v3_1 : Ref sig .tc := ⟨.hbm, 29, rfl⟩
abbrev main_v3_2 : Ref sig .tc := ⟨.hbm, 30, rfl⟩
abbrev main_v3_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x128x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x128x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S128x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference6Ideal.lean ====
abbrev S8x2048x768 : Shape := ⟨3, ![8, 2048, 768]⟩
abbrev S2048x768 : Shape := ⟨2, ![2048, 768]⟩
abbrev S8x512x256 : Shape := ⟨3, ![8, 512, 256]⟩
abbrev S512x256 : Shape := ⟨2, ![512, 256]⟩
abbrev S8x256x2048 : Shape := ⟨3, ![8, 256, 2048]⟩
abbrev S256x2048 : Shape := ⟨2, ![256, 2048]⟩
abbrev S_ : Shape := ⟨0, ![]⟩

abbrev nBuf : Space → Nat
  | .hbm => 160
  | .vmem => 0
  | .smem => 0
  | _ => 0

abbrev hbmTy0_0 (i : Nat) : BufTy := match i % 128 with
  | 0 => ⟨S8x2048x768, .bf16⟩
  | 1 => ⟨S2048x768, .f32⟩
  | 2 => ⟨S2048x768, .f32⟩
  | 3 => ⟨S2048x768, .f32⟩
  | 4 => ⟨S8x512x256, .bf16⟩
  | 5 => ⟨S512x256, .f32⟩
  | 6 => ⟨S512x256, .f32⟩
  | 7 => ⟨S512x256, .f32⟩
  | 8 => ⟨S8x512x256, .bf16⟩
  | 9 => ⟨S512x256, .f32⟩
  | 10 => ⟨S512x256, .f32⟩
  | 11 => ⟨S512x256, .f32⟩
  | 12 => ⟨S8x256x2048, .bf16⟩
  | 13 => ⟨S256x2048, .f32⟩
  | 14 => ⟨S256x2048, .f32⟩
  | 15 => ⟨S256x2048, .f32⟩
  | 16 => ⟨S8x2048x768, .f32⟩
  | 17 => ⟨S_, .f32⟩
  | 18 => ⟨S2048x768, .f32⟩
  | 19 => ⟨S_, .f32⟩
  | 20 => ⟨S2048x768, .f32⟩
  | 21 => ⟨S2048x768, .f32⟩
  | 22 => ⟨S_, .f32⟩
  | 23 => ⟨S2048x768, .f32⟩
  | 24 => ⟨S2048x768, .f32⟩
  | 25 => ⟨S2048x768, .f32⟩
  | 26 => ⟨S_, .f32⟩
  | 27 => ⟨S2048x768, .f32⟩
  | 28 => ⟨S2048x768, .f32⟩
  | 29 => ⟨S2048x768, .f32⟩
  | 30 => ⟨S_, .f32⟩
  | 31 => ⟨S2048x768, .f32⟩
  | 32 => ⟨S2048x768, .f32⟩
  | 33 => ⟨S2048x768, .f32⟩
  | 34 => ⟨S_, .f32⟩
  | 35 => ⟨S2048x768, .f32⟩
  | 36 => ⟨S2048x768, .f32⟩
  | 37 => ⟨S_, .f32⟩
  | 38 => ⟨S2048x768, .f32⟩
  | 39 => ⟨S2048x768, .f32⟩
  | 40 => ⟨S2048x768, .f32⟩
  | 41 => ⟨S_, .f32⟩
  | 42 => ⟨S2048x768, .f32⟩
  | 43 => ⟨S2048x768, .f32⟩
  | 44 => ⟨S2048x768, .f32⟩
  | 45 => ⟨S_, .f32⟩
  | 46 => ⟨S2048x768, .f32⟩
  | 47 => ⟨S2048x768, .f32⟩
  | 48 => ⟨S2048x768, .f32⟩
  | 49 => ⟨S_, .f32⟩
  | 50 => ⟨S2048x768, .f32⟩
  | 51 => ⟨S2048x768, .f32⟩
  | 52 => ⟨S8x512x256, .f32⟩
  | 53 => ⟨S_, .f32⟩
  | 54 => ⟨S512x256, .f32⟩
  | 55 => ⟨S_, .f32⟩
  | 56 => ⟨S512x256, .f32⟩
  | 57 => ⟨S512x256, .f32⟩
  | 58 => ⟨S_, .f32⟩
  | 59 => ⟨S512x256, .f32⟩
  | 60 => ⟨S512x256, .f32⟩
  | 61 => ⟨S512x256, .f32⟩
  | 62 => ⟨S_, .f32⟩
  | 63 => ⟨S512x256, .f32⟩
  | 64 => ⟨S512x256, .f32⟩
  | 65 => ⟨S512x256, .f32⟩
  | 66 => ⟨S_, .f32⟩
  | 67 => ⟨S512x256, .f32⟩
  | 68 => ⟨S512x256, .f32⟩
  | 69 => ⟨S512x256, .f32⟩
  | 70 => ⟨S_, .f32⟩
  | 71 => ⟨S512x256, .f32⟩
  | 72 => ⟨S512x256, .f32⟩
  | 73 => ⟨S_, .f32⟩
  | 74 => ⟨S512x256, .f32⟩
  | 75 => ⟨S512x256, .f32⟩
  | 76 => ⟨S512x256, .f32⟩
  | 77 => ⟨S_, .f32⟩
  | 78 => ⟨S512x256, .f32⟩
  | 79 => ⟨S512x256, .f32⟩
  | 80 => ⟨S512x256, .f32⟩
  | 81 => ⟨S_, .f32⟩
  | 82 => ⟨S512x256, .f32⟩
  | 83 => ⟨S512x256, .f32⟩
  | 84 => ⟨S512x256, .f32⟩
  | 85 => ⟨S_, .f32⟩
  | 86 => ⟨S512x256, .f32⟩
  | 87 => ⟨S512x256, .f32⟩
  | 88 => ⟨S8x512x256, .f32⟩
  | 89 => ⟨S_, .f32⟩
  | 90 => ⟨S512x256, .f32⟩
  | 91 => ⟨S_, .f32⟩
  | 92 => ⟨S512x256, .f32⟩
  | 93 => ⟨S512x256, .f32⟩
  | 94 => ⟨S_, .f32⟩
  | 95 => ⟨S512x256, .f32⟩
  | 96 => ⟨S512x256, .f32⟩
  | 97 => ⟨S512x256, .f32⟩
  | 98 => ⟨S_, .f32⟩
  | 99 => ⟨S512x256, .f32⟩
  | 100 => ⟨S512x256, .f32⟩
  | 101 => ⟨S512x256, .f32⟩
  | 102 => ⟨S_, .f32⟩
  | 103 => ⟨S512x256, .f32⟩
  | 104 => ⟨S512x256, .f32⟩
  | 105 => ⟨S512x256, .f32⟩
  | 106 => ⟨S_, .f32⟩
  | 107 => ⟨S512x256, .f32⟩
  | 108 => ⟨S512x256, .f32⟩
  | 109 => ⟨S_, .f32⟩
  | 110 => ⟨S512x256, .f32⟩
  | 111 => ⟨S512x256, .f32⟩
  | 112 => ⟨S512x256, .f32⟩
  | 113 => ⟨S_, .f32⟩
  | 114 => ⟨S512x256, .f32⟩
  | 115 => ⟨S512x256, .f32⟩
  | 116 => ⟨S512x256, .f32⟩
  | 117 => ⟨S_, .f32⟩
  | 118 => ⟨S512x256, .f32⟩
  | 119 => ⟨S512x256, .f32⟩
  | 120 => ⟨S512x256, .f32⟩
  | 121 => ⟨S_, .f32⟩
  | 122 => ⟨S512x256, .f32⟩
  | 123 => ⟨S512x256, .f32⟩
  | 124 => ⟨S8x256x2048, .f32⟩
  | 125 => ⟨S_, .f32⟩
  | 126 => ⟨S256x2048, .f32⟩
  | 127 => ⟨S_, .f32⟩
  | _ => ⟨S8x2048x768, .bf16⟩

abbrev hbmTy0_1 (i : Nat) : BufTy := match i % 128 with
  | 0 => ⟨S256x2048, .f32⟩
  | 1 => ⟨S256x2048, .f32⟩
  | 2 => ⟨S_, .f32⟩
  | 3 => ⟨S256x2048, .f32⟩
  | 4 => ⟨S256x2048, .f32⟩
  | 5 => ⟨S256x2048, .f32⟩
  | 6 => ⟨S_, .f32⟩
  | 7 => ⟨S256x2048, .f32⟩
  | 8 => ⟨S256x2048, .f32⟩
  | 9 => ⟨S256x2048, .f32⟩
  | 10 => ⟨S_, .f32⟩
  | 11 => ⟨S256x2048, .f32⟩
  | 12 => ⟨S256x2048, .f32⟩
  | 13 => ⟨S256x2048, .f32⟩
  | 14 => ⟨S_, .f32⟩
  | 15 => ⟨S256x2048, .f32⟩
  | 16 => ⟨S256x2048, .f32⟩
  | 17 => ⟨S_, .f32⟩
  | 18 => ⟨S256x2048, .f32⟩
  | 19 => ⟨S256x2048, .f32⟩
  | 20 => ⟨S256x2048, .f32⟩
  | 21 => ⟨S_, .f32⟩
  | 22 => ⟨S256x2048, .f32⟩
  | 23 => ⟨S256x2048, .f32⟩
  | 24 => ⟨S256x2048, .f32⟩
  | 25 => ⟨S_, .f32⟩
  | 26 => ⟨S256x2048, .f32⟩
  | 27 => ⟨S256x2048, .f32⟩
  | 28 => ⟨S256x2048, .f32⟩
  | 29 => ⟨S_, .f32⟩
  | 30 => ⟨S256x2048, .f32⟩
  | 31 => ⟨S256x2048, .f32⟩
  | _ => ⟨S8x2048x768, .bf16⟩

abbrev hbmTy (i : Nat) : BufTy := match i / 128 with
  | 0 => hbmTy0_0 i
  | 1 => hbmTy0_1 i
  | _ => ⟨S8x2048x768, .bf16⟩

abbrev bufTy : (tb : Table) → Fin (tcTables nBuf tb) → BufTy
  | .hbm, ⟨i, _⟩ => hbmTy i
  | _, _ => ⟨S8x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_7 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_cst_10 : Ref sig .tc := ⟨.hbm, 55, rfl⟩
abbrev main_v28 : Ref sig .tc := ⟨.hbm, 56, rfl⟩
abbrev main_v29 : Ref sig .tc := ⟨.hbm, 57, rfl⟩
abbrev main_cst_11 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_12 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_14 : Ref sig .tc := ⟨.hbm, 70, rfl⟩
abbrev main_v39 : Ref sig .tc := ⟨.hbm, 71, rfl⟩
abbrev main_v40 : Ref sig .tc := ⟨.hbm, 72, rfl⟩
abbrev main_cst_15 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_16 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_17 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_cst_20 : Ref sig .tc := ⟨.hbm, 91, rfl⟩
abbrev main_v54 : Ref sig .tc := ⟨.hbm, 92, rfl⟩
abbrev main_v55 : Ref sig .tc := ⟨.hbm, 93, rfl⟩
abbrev main_cst_21 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_22 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_23 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_24 : Ref sig .tc := ⟨.hbm, 106, rfl⟩
abbrev main_v65 : Ref sig .tc := ⟨.hbm, 107, rfl⟩
abbrev main_v66 : Ref sig .tc := ⟨.hbm, 108, rfl⟩
abbrev main_cst_25 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_26 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_27 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_28 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_29 : Ref sig .tc := ⟨.hbm, 125, rfl⟩
abbrev main_v79 : Ref sig .tc := ⟨.hbm, 126, rfl⟩
abbrev main_cst_30 : Ref sig .tc := ⟨.hbm, 127, rfl⟩
abbrev main_v80 : Ref sig .tc := ⟨.hbm, 128, rfl⟩
abbrev main_v81 : Ref sig .tc := ⟨.hbm, 129, rfl⟩
abbrev main_cst_31 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_32 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_33 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_34 : Ref sig .tc := ⟨.hbm, 142, rfl⟩
abbrev main_v91 : Ref sig .tc := ⟨.hbm, 143, rfl⟩
abbrev main_v92 : Ref sig .tc := ⟨.hbm, 144, rfl⟩
abbrev main_cst_35 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_36 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_37 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_38 : Ref sig .tc := ⟨.hbm, 157, rfl⟩
abbrev main_v102 : Ref sig .tc := ⟨.hbm, 158, rfl⟩
abbrev main_v103 : Ref sig .tc := ⟨.hbm, 159, rfl⟩

abbrev nD : Nat := 1
abbrev τ : Topo := Topo.v7x

variable {F : FTy → Type} [FloatOps F]
-- ==== Kernel7.lean ====
abbrev S4096x6144 : Shape := ⟨2, ![4096, 6144]⟩
abbrev S2x4096x2048 : Shape := ⟨3, ![2, 4096, 2048]⟩
abbrev S2048x6144 : Shape := ⟨2, ![2048, 6144]⟩
abbrev S2048x4096 : Shape := ⟨2, ![2048, 4096]⟩
abbrev S8x2048x1024 : Shape := ⟨3, ![8, 2048, 1024]⟩
abbrev S2048x1024 : Shape := ⟨2, ![2048, 1024]⟩
abbrev S8x1024x2048 : Shape := ⟨3, ![8, 1024, 2048]⟩
abbrev S1024x2048 : Shape := ⟨2, ![1024, 2048]⟩
abbrev S8x2048x512 : Shape := ⟨3, ![8, 2048, 512]⟩
abbrev S2048x512 : Shape := ⟨2, ![2048, 512]⟩
abbrev S2048x8x768 : Shape := ⟨3, ![2048, 8, 768]⟩
abbrev S8x2048x768 : Shape := ⟨3, ![8, 2048, 768]⟩
abbrev S2048x8x512 : Shape := ⟨3, ![2048, 8, 512]⟩
abbrev S4096x2048 : Shape := ⟨2, ![4096, 2048]⟩
abbrev S512x6144 : Shape := ⟨2, ![512, 6144]⟩
abbrev S8x512x768 : Shape := ⟨3, ![8, 512, 768]⟩
abbrev S1x512x2048 : Shape := ⟨3, ![1, 512, 2048]⟩
abbrev S4x512x512 : Shape := ⟨3, ![4, 512, 512]⟩
abbrev S8x64x1024 : Shape := ⟨3, ![8, 64, 1024]⟩
abbrev S64x1024 : Shape := ⟨2, ![64, 1024]⟩
abbrev S8x32x2048 : Shape := ⟨3, ![8, 32, 2048]⟩
abbrev S32x2048 : Shape := ⟨2, ![32, 2048]⟩
abbrev S8x64x512 : Shape := ⟨3, ![8, 64, 512]⟩
abbrev S64x512 : Shape := ⟨2, ![64, 512]⟩
abbrev S512x512 : Shape := ⟨2, ![512, 512]⟩
abbrev S512x768 : Shape := ⟨2, ![512, 768]⟩
abbrev S1x512x768 : Shape := ⟨3, ![1, 512, 768]⟩
abbrev S512x2048 : Shape := ⟨2, ![512, 2048]⟩
abbrev S1x512x512 : Shape := ⟨3, ![1, 512, 512]⟩
abbrev S1x64x1024 : Shape := ⟨3, ![1, 64, 1024]⟩
abbrev S1x32x2048 : Shape := ⟨3, ![1, 32, 2048]⟩
abbrev S1x64x512 : Shape := ⟨3, ![1, 64, 512]⟩

abbrev nBuf : Space → Nat
  | .hbm => 35
  | .vmem => 62
  | .smem => 0
  | _ => 0

abbrev bufTy : (tb : Table) → Fin (tcTables nBuf tb) → BufTy
  | .hbm, ⟨0, _⟩ => ⟨S4096x6144, .bf16⟩
  | .hbm, ⟨1, _⟩ => ⟨S2x4096x2048, .bf16⟩
  | .hbm, ⟨2, _⟩ => ⟨S2048x6144, .f32⟩
  | .hbm, ⟨3, _⟩ => ⟨S2048x4096, .f32⟩
  | .hbm, ⟨4, _⟩ => ⟨S8x2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S8x1024x2048, .bf16⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S8x2048x512, .bf16⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x6144, .bf16⟩
  | .hbm, ⟨17, _⟩ => ⟨S2048x8x768, .bf16⟩
  | .hbm, ⟨18, _⟩ => ⟨S8x2048x768, .bf16⟩
  | .hbm, ⟨19, _⟩ => ⟨S2048x4096, .bf16⟩
  | .hbm, ⟨20, _⟩ => ⟨S2048x8x512, .bf16⟩
  | .hbm, ⟨21, _⟩ => ⟨S8x2048x512, .bf16⟩
  | .hbm, ⟨22, _⟩ => ⟨S4096x2048, .bf16⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .local _ .vmem, ⟨0, _⟩ => ⟨S512x6144, .bf16⟩
  | .local _ .vmem, ⟨1, _⟩ => ⟨S512x6144, .bf16⟩
  | .local _ .vmem, ⟨2, _⟩ => ⟨S8x512x768, .bf16⟩
  | .local _ .vmem, ⟨3, _⟩ => ⟨S8x512x768, .bf16⟩
  | .local _ .vmem, ⟨4, _⟩ => ⟨S1x512x2048, .bf16⟩
  | .local _ .vmem, ⟨5, _⟩ => ⟨S1x512x2048, .bf16⟩
  | .local _ .vmem, ⟨6, _⟩ => ⟨S4x512x512, .bf16⟩
  | .local _ .vmem, ⟨7, _⟩ => ⟨S4x512x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S4x512x512, .bf16⟩
  | .local _ .vmem, ⟨11, _⟩ => ⟨S4x512x512, .bf16⟩
  | .local _ .vmem, ⟨12, _⟩ => ⟨S8x64x1024, .bf16⟩
  | .local _ .vmem, ⟨13, _⟩ => ⟨S8x64x1024, .bf16⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S8x32x2048, .bf16⟩
  | .local _ .vmem, ⟨21, _⟩ => ⟨S8x32x2048, .bf16⟩
  | .local _ .vmem, ⟨22, _⟩ => ⟨S32x2048, .f32⟩
  | .local _ .vmem, ⟨23, _⟩ => ⟨S32x2048, .f32⟩
  | .local _ .vmem, ⟨24, _⟩ => ⟨S32x2048, .f32⟩
  | .local _ .vmem, ⟨25, _⟩ => ⟨S32x2048, .f32⟩
  | .local _ .vmem, ⟨26, _⟩ => ⟨S32x2048, .f32⟩
  | .local _ .vmem, ⟨27, _⟩ => ⟨S32x2048, .f32⟩
  | .local _ .vmem, ⟨28, _⟩ => ⟨S8x64x512, .bf16⟩
  | .local _ .vmem, ⟨29, _⟩ => ⟨S8x64x512, .bf16⟩
  | .local _ .vmem, ⟨30, _⟩ => ⟨S64x512, .f32⟩
  | .local _ .vmem, ⟨31, _⟩ => ⟨S64x512, .f32⟩
  | .local _ .vmem, ⟨32, _⟩ => ⟨S64x512, .f32⟩
  | .local _ .vmem, ⟨33, _⟩ => ⟨S64x512, .f32⟩
  | .local _ .vmem, ⟨34, _⟩ => ⟨S64x512, .f32⟩
  | .local _ .vmem, ⟨35, _⟩ => ⟨S64x512, .f32⟩
  | .local _ .vmem, ⟨36, _⟩ => ⟨S512x512, .bf16⟩
  | .local _ .vmem, ⟨37, _⟩ => ⟨S512x512, .bf16⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S32x2048, .f32⟩
  | .local _ .vmem, ⟨47, _⟩ => ⟨S32x2048, .f32⟩
  | .local _ .vmem, ⟨48, _⟩ => ⟨S32x2048, .f32⟩
  | .local _ .vmem, ⟨49, _⟩ => ⟨S32x2048, .f32⟩
  | .local _ .vmem, ⟨50, _⟩ => ⟨S32x2048, .f32⟩
  | .local _ .vmem, ⟨51, _⟩ => ⟨S32x2048, .f32⟩
  | .local _ .vmem, ⟨52, _⟩ => ⟨S32x2048, .f32⟩
  | .local _ .vmem, ⟨53, _⟩ => ⟨S32x2048, .f32⟩
  | .local _ .vmem, ⟨54, _⟩ => ⟨S64x512, .f32⟩
  | .local _ .vmem, ⟨55, _⟩ => ⟨S64x512, .f32⟩
  | .local _ .vmem, ⟨56, _⟩ => ⟨S64x512, .f32⟩
  | .local _ .vmem, ⟨57, _⟩ => ⟨S64x512, .f32⟩
  | .local _ .vmem, ⟨58, _⟩ => ⟨S64x512, .f32⟩
  | .local _ .vmem, ⟨59, _⟩ => ⟨S64x512, .f32⟩
  | .local _ .vmem, ⟨60, _⟩ => ⟨S64x512, .f32⟩
  | .local _ .vmem, ⟨61, _⟩ => ⟨S64x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev main_v6_3 : Ref sig .tc := ⟨.hbm, 25, rfl⟩
abbrev main_v6_4 : Ref sig .tc := ⟨.hbm, 26, rfl⟩
abbrev main_v6_5 : Ref sig .tc := ⟨.hbm, 27, rfl⟩
abbrev main_v6_6 : Ref sig .tc := ⟨.hbm, 28, rfl⟩
abbrev main_v6_7 : Ref sig .tc := ⟨.hbm, 29, rfl⟩
abbrev main_v6_8 : Ref sig .tc := ⟨.hbm, 30, rfl⟩
abbrev main_v6_9 : Ref sig .tc := ⟨.hbm, 31, rfl⟩
abbrev main_v6_10 : Ref sig .tc := ⟨.hbm, 32, rfl⟩
abbrev main_v6_11 : Ref sig .tc := ⟨.hbm, 33, rfl⟩
abbrev main_v6_12 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_24 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_25 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_26 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_27 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_28 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_29 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_30 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S8x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S4x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S8x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S8x32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S32x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S8x64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, false]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, false]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, false]

abbrev stage0_22 : Fin 2 → Memref sig .tc .vmem S64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, false]

abbrev stage0_23 : Fin 2 → Memref sig .tc .vmem S32x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, false]

abbrev stage0_24 : Fin 2 → Memref sig .tc .vmem S32x2048 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true, false]

abbrev stage0_25 : Fin 2 → Memref sig .tc .vmem S32x2048 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true, false]

abbrev stage0_26 : Fin 2 → Memref sig .tc .vmem S32x2048 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true, false]

abbrev stage0_27 : Fin 2 → Memref sig .tc .vmem S64x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true, false]

abbrev stage0_28 : Fin 2 → Memref sig .tc .vmem S64x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true, false]

abbrev stage0_29 : Fin 2 → Memref sig .tc .vmem S64x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true, false]

abbrev stage0_30 : Fin 2 → Memref sig .tc .vmem S64x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true, false]
-- ==== Reference7Ideal.lean ====
abbrev S4096x6144 : Shape := ⟨2, ![4096, 6144]⟩
abbrev S2x4096x2048 : Shape := ⟨3, ![2, 4096, 2048]⟩
abbrev S2048x6144 : Shape := ⟨2, ![2048, 6144]⟩
abbrev S2048x4096 : Shape := ⟨2, ![2048, 4096]⟩
abbrev S8x2048x1024 : Shape := ⟨3, ![8, 2048, 1024]⟩
abbrev S2048x1024 : Shape := ⟨2, ![2048, 1024]⟩
abbrev S8x1024x2048 : Shape := ⟨3, ![8, 1024, 2048]⟩
abbrev S1024x2048 : Shape := ⟨2, ![1024, 2048]⟩
abbrev S8x2048x512 : Shape := ⟨3, ![8, 2048, 512]⟩
abbrev S2048x512 : Shape := ⟨2, ![2048, 512]⟩
abbrev S4096x2x2048 : Shape := ⟨3, ![4096, 2, 2048]⟩
abbrev S4096x4096 : Shape := ⟨2, ![4096, 4096]⟩
abbrev S_ : Shape := ⟨0, ![]⟩
abbrev S4096x2048 : Shape := ⟨2, ![4096, 2048]⟩

abbrev nBuf : Space → Nat
  | .hbm => 136
  | .vmem => 0
  | .smem => 0
  | _ => 0

abbrev hbmTy0_0 (i : Nat) : BufTy := match i % 128 with
  | 0 => ⟨S4096x6144, .bf16⟩
  | 1 => ⟨S2x4096x2048, .bf16⟩
  | 2 => ⟨S2048x6144, .f32⟩
  | 3 => ⟨S2048x4096, .f32⟩
  | 4 => ⟨S8x2048x1024, .bf16⟩
  | 5 => ⟨S2048x1024, .f32⟩
  | 6 => ⟨S2048x1024, .f32⟩
  | 7 => ⟨S2048x1024, .f32⟩
  | 8 => ⟨S8x1024x2048, .bf16⟩
  | 9 => ⟨S1024x2048, .f32⟩
  | 10 => ⟨S1024x2048, .f32⟩
  | 11 => ⟨S1024x2048, .f32⟩
  | 12 => ⟨S8x2048x512, .bf16⟩
  | 13 => ⟨S2048x512, .f32⟩
  | 14 => ⟨S2048x512, .f32⟩
  | 15 => ⟨S2048x512, .f32⟩
  | 16 => ⟨S2x4096x2048, .f32⟩
  | 17 => ⟨S4096x2x2048, .f32⟩
  | 18 => ⟨S4096x4096, .f32⟩
  | 19 => ⟨S_, .f32⟩
  | 20 => ⟨S4096x2048, .f32⟩
  | 21 => ⟨S4096x6144, .f32⟩
  | 22 => ⟨S4096x4096, .f32⟩
  | 23 => ⟨S4096x6144, .f32⟩
  | 24 => ⟨S4096x2048, .f32⟩
  | 25 => ⟨S4096x2048, .f32⟩
  | 26 => ⟨S4096x2048, .f32⟩
  | 27 => ⟨S4096x2048, .bf16⟩
  | 28 => ⟨S8x2048x1024, .f32⟩
  | 29 => ⟨S_, .f32⟩
  | 30 => ⟨S2048x1024, .f32⟩
  | 31 => ⟨S_, .f32⟩
  | 32 => ⟨S2048x1024, .f32⟩
  | 33 => ⟨S2048x1024, .f32⟩
  | 34 => ⟨S_, .f32⟩
  | 35 => ⟨S2048x1024, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S_, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S2048x1024, .f32⟩
  | 53 => ⟨S_, .f32⟩
  | 54 => ⟨S2048x1024, .f32⟩
  | 55 => ⟨S2048x1024, .f32⟩
  | 56 => ⟨S2048x1024, .f32⟩
  | 57 => ⟨S_, .f32⟩
  | 58 => ⟨S2048x1024, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S8x1024x2048, .f32⟩
  | 65 => ⟨S_, .f32⟩
  | 66 => ⟨S1024x2048, .f32⟩
  | 67 => ⟨S_, .f32⟩
  | 68 => ⟨S1024x2048, .f32⟩
  | 69 => ⟨S1024x2048, .f32⟩
  | 70 => ⟨S_, .f32⟩
  | 71 => ⟨S1024x2048, .f32⟩
  | 72 => ⟨S1024x2048, .f32⟩
  | 73 => ⟨S1024x2048, .f32⟩
  | 74 => ⟨S_, .f32⟩
  | 75 => ⟨S1024x2048, .f32⟩
  | 76 => ⟨S1024x2048, .f32⟩
  | 77 => ⟨S1024x2048, .f32⟩
  | 78 => ⟨S_, .f32⟩
  | 79 => ⟨S1024x2048, .f32⟩
  | 80 => ⟨S1024x2048, .f32⟩
  | 81 => ⟨S1024x2048, .f32⟩
  | 82 => ⟨S_, .f32⟩
  | 83 => ⟨S1024x2048, .f32⟩
  | 84 => ⟨S1024x2048, .f32⟩
  | 85 => ⟨S_, .f32⟩
  | 86 => ⟨S1024x2048, .f32⟩
  | 87 => ⟨S1024x2048, .f32⟩
  | 88 => ⟨S1024x2048, .f32⟩
  | 89 => ⟨S_, .f32⟩
  | 90 => ⟨S1024x2048, .f32⟩
  | 91 => ⟨S1024x2048, .f32⟩
  | 92 => ⟨S1024x2048, .f32⟩
  | 93 => ⟨S_, .f32⟩
  | 94 => ⟨S1024x2048, .f32⟩
  | 95 => ⟨S1024x2048, .f32⟩
  | 96 => ⟨S1024x2048, .f32⟩
  | 97 => ⟨S_, .f32⟩
  | 98 => ⟨S1024x2048, .f32⟩
  | 99 => ⟨S1024x2048, .f32⟩
  | 100 => ⟨S8x2048x512, .f32⟩
  | 101 => ⟨S_, .f32⟩
  | 102 => ⟨S2048x512, .f32⟩
  | 103 => ⟨S_, .f32⟩
  | 104 => ⟨S2048x512, .f32⟩
  | 105 => ⟨S2048x512, .f32⟩
  | 106 => ⟨S_, .f32⟩
  | 107 => ⟨S2048x512, .f32⟩
  | 108 => ⟨S2048x512, .f32⟩
  | 109 => ⟨S2048x512, .f32⟩
  | 110 => ⟨S_, .f32⟩
  | 111 => ⟨S2048x512, .f32⟩
  | 112 => ⟨S2048x512, .f32⟩
  | 113 => ⟨S2048x512, .f32⟩
  | 114 => ⟨S_, .f32⟩
  | 115 => ⟨S2048x512, .f32⟩
  | 116 => ⟨S2048x512, .f32⟩
  | 117 => ⟨S2048x512, .f32⟩
  | 118 => ⟨S_, .f32⟩
  | 119 => ⟨S2048x512, .f32⟩
  | 120 => ⟨S2048x512, .f32⟩
  | 121 => ⟨S_, .f32⟩
  | 122 => ⟨S2048x512, .f32⟩
  | 123 => ⟨S2048x512, .f32⟩
  | 124 => ⟨S2048x512, .f32⟩
  | 125 => ⟨S_, .f32⟩
  | 126 => ⟨S2048x512, .f32⟩
  | 127 => ⟨S2048x512, .f32⟩
  | _ => ⟨S4096x6144, .bf16⟩

abbrev hbmTy0_1 (i : Nat) : BufTy := match i % 128 with
  | 0 => ⟨S2048x512, .f32⟩
  | 1 => ⟨S_, .f32⟩
  | 2 => ⟨S2048x512, .f32⟩
  | 3 => ⟨S2048x512, .f32⟩
  | 4 => ⟨S2048x512, .f32⟩
  | 5 => ⟨S_, .f32⟩
  | 6 => ⟨S2048x512, .f32⟩
  | 7 => ⟨S2048x512, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_cst_12 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_15 : Ref sig .tc := ⟨.hbm, 82, rfl⟩
abbrev main_v50 : Ref sig .tc := ⟨.hbm, 83, rfl⟩
abbrev main_v51 : Ref sig .tc := ⟨.hbm, 84, rfl⟩
abbrev main_cst_16 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_19 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_20 : Ref sig .tc := ⟨.hbm, 101, rfl⟩
abbrev main_v64 : Ref sig .tc := ⟨.hbm, 102, rfl⟩
abbrev main_cst_21 : Ref sig .tc := ⟨.hbm, 103, rfl⟩
abbrev main_v65 : Ref sig .tc := ⟨.hbm, 104, rfl⟩
abbrev main_v66 : Ref sig .tc := ⟨.hbm, 105, rfl⟩
abbrev main_cst_22 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_23 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_24 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_25 : Ref sig .tc := ⟨.hbm, 118, rfl⟩
abbrev main_v76 : Ref sig .tc := ⟨.hbm, 119, rfl⟩
abbrev main_v77 : Ref sig .tc := ⟨.hbm, 120, rfl⟩
abbrev main_cst_26 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_27 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_28 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_29 : Ref sig .tc := ⟨.hbm, 133, rfl⟩
abbrev main_v87 : Ref sig .tc := ⟨.hbm, 134, rfl⟩
abbrev main_v88 : Ref sig .tc := ⟨.hbm, 135, rfl⟩

abbrev nD : Nat := 1
abbrev τ : Topo := Topo.v7x

variable {F : FTy → Type} [FloatOps F]
-- ==== Kernel8.lean ====
abbrev S8x1x2048 : Shape := ⟨3, ![8, 1, 2048]⟩
abbrev S8x1x4096 : Shape := ⟨3, ![8, 1, 4096]⟩
abbrev S8x1x1920 : Shape := ⟨3, ![8, 1, 1920]⟩
abbrev S1x2048 : Shape := ⟨2, ![1, 2048]⟩
abbrev S1x4096 : Shape := ⟨2, ![1, 4096]⟩
abbrev S1x1920 : Shape := ⟨2, ![1, 1920]⟩
abbrev S_ : Shape := ⟨0, ![]⟩
abbrev S8x1x128 : Shape := ⟨3, ![8, 1, 128]⟩
abbrev S8x1x12288 : Shape := ⟨3, ![8, 1, 12288]⟩
abbrev S1x1x2048 : Shape := ⟨3, ![1, 1, 2048]⟩
abbrev S1x1x4096 : Shape := ⟨3, ![1, 1, 4096]⟩
abbrev S1x1x1920 : Shape := ⟨3, ![1, 1, 1920]⟩

abbrev nBuf : Space → Nat
  | .hbm => 43
  | .vmem => 36
  | .smem => 0
  | _ => 0

abbrev bufTy : (tb : Table) → Fin (tcTables nBuf tb) → BufTy
  | .hbm, ⟨0, _⟩ => ⟨S8x1x2048, .f32⟩
  | .hbm, ⟨1, _⟩ => ⟨S8x1x4096, .f32⟩
  | .hbm, ⟨2, _⟩ => ⟨S8x1x1920, .f32⟩
  | .hbm, ⟨3, _⟩ => ⟨S8x1x2048, .f32⟩
  | .hbm, ⟨4, _⟩ => ⟨S8x1x2048, .f32⟩
  | .hbm, ⟨5, _⟩ => ⟨S1x2048, .f32⟩
  | .hbm, ⟨6, _⟩ => ⟨S1x4096, .f32⟩
  | .hbm, ⟨7, _⟩ => ⟨S1x1920, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x4096, .f32⟩
  | .hbm, ⟨12, _⟩ => ⟨S1x1920, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x4096, .f32⟩
  | .hbm, ⟨17, _⟩ => ⟨S1x1920, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S8x1x128, .f32⟩
  | .hbm, ⟨22, _⟩ => ⟨S8x1x12288, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x1920, .f32⟩
  | .hbm, ⟨32, _⟩ => ⟨S1x1920, .f32⟩
  | .hbm, ⟨33, _⟩ => ⟨S1x1920, .f32⟩
  | .hbm, ⟨34, _⟩ => ⟨S1x1920, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .local _ .vmem, ⟨0, _⟩ => ⟨S8x1x12288, .f32⟩
  | .local _ .vmem, ⟨1, _⟩ => ⟨S1x2048, .f32⟩
  | .local _ .vmem, ⟨2, _⟩ => ⟨S1x4096, .f32⟩
  | .local _ .vmem, ⟨3, _⟩ => ⟨S1x1920, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x4096, .f32⟩
  | .local _ .vmem, ⟨8, _⟩ => ⟨S1x1920, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x4096, .f32⟩
  | .local _ .vmem, ⟨13, _⟩ => ⟨S1x1920, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x4096, .f32⟩
  | .local _ .vmem, ⟨21, _⟩ => ⟨S1x4096, .f32⟩
  | .local _ .vmem, ⟨22, _⟩ => ⟨S1x4096, .f32⟩
  | .local _ .vmem, ⟨23, _⟩ => ⟨S1x4096, .f32⟩
  | .local _ .vmem, ⟨24, _⟩ => ⟨S1x1920, .f32⟩
  | .local _ .vmem, ⟨25, _⟩ => ⟨S1x1920, .f32⟩
  | .local _ .vmem, ⟨26, _⟩ => ⟨S1x1920, .f32⟩
  | .local _ .vmem, ⟨27, _⟩ => ⟨S1x1920, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | .local _ .vmem, ⟨34, _⟩ => ⟨S1x2048, .f32⟩
  | .local _ .vmem, ⟨35, _⟩ => ⟨S1x2048, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2_0 : Ref sig .tc := ⟨.hbm, 23, rfl⟩
abbrev main_v2_1 : Ref sig .tc := ⟨.hbm, 24, rfl⟩
abbrev main_v2_2 : Ref sig .tc := ⟨.hbm, 25, rfl⟩
abbrev main_v2_3 : Ref sig .tc := ⟨.hbm, 26, rfl⟩
abbrev main_v2_4 : Ref sig .tc := ⟨.hbm, 27, rfl⟩
abbrev main_v2_5 : Ref sig .tc := ⟨.hbm, 28, rfl⟩
abbrev main_v2_6 : Ref sig .tc := ⟨.hbm, 29, rfl⟩
abbrev main_v2_7 : Ref sig .tc := ⟨.hbm, 30, rfl⟩
abbrev main_v2_8 : Ref sig .tc := ⟨.hbm, 31, rfl⟩
abbrev main_v2_9 : Ref sig .tc := ⟨.hbm, 32, rfl⟩
abbrev main_v2_10 : Ref sig .tc := ⟨.hbm, 33, rfl⟩
abbrev main_v2_11 : Ref sig .tc := ⟨.hbm, 34, rfl⟩
abbrev main_v2_12 : Ref sig .tc := ⟨.hbm, 35, rfl⟩
abbrev main_v2_13 : Ref sig .tc := ⟨.hbm, 36, rfl⟩
abbrev main_v2_14 : Ref sig .tc := ⟨.hbm, 37, rfl⟩
abbrev main_v2_15 : Ref sig .tc := ⟨.hbm, 38, rfl⟩
abbrev main_v2_16 : Ref sig .tc := ⟨.hbm, 39, rfl⟩
abbrev main_v2_17 : Ref sig .tc := ⟨.hbm, 40, rfl⟩
abbrev main_v2_18 : Ref sig .tc := ⟨.hbm, 41, rfl⟩
abbrev main_v2_19 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1920 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1920 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x4096 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x4096 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x4096 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x4096 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1920 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1920 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1920 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1920 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x2048 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x2048 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x2048 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x2048 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x2048 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x2048 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x2048 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]
-- ==== Reference8Ideal.lean ====
abbrev S8x1x2048 : Shape := ⟨3, ![8, 1, 2048]⟩
abbrev S8x1x4096 : Shape := ⟨3, ![8, 1, 4096]⟩
abbrev S8x1x1920 : Shape := ⟨3, ![8, 1, 1920]⟩
abbrev S1x2048 : Shape := ⟨2, ![1, 2048]⟩
abbrev S1x4096 : Shape := ⟨2, ![1, 4096]⟩
abbrev S1x1920 : Shape := ⟨2, ![1, 1920]⟩
abbrev S_ : Shape := ⟨0, ![]⟩

abbrev nBuf : Space → Nat
  | .hbm => 195
  | .vmem => 0
  | .smem => 0
  | _ => 0

abbrev hbmTy0_0 (i : Nat) : BufTy := match i % 128 with
  | 0 => ⟨S8x1x2048, .f32⟩
  | 1 => ⟨S8x1x4096, .f32⟩
  | 2 => ⟨S8x1x1920, .f32⟩
  | 3 => ⟨S8x1x2048, .f32⟩
  | 4 => ⟨S8x1x2048, .f32⟩
  | 5 => ⟨S1x2048, .f32⟩
  | 6 => ⟨S1x4096, .f32⟩
  | 7 => ⟨S1x1920, .f32⟩
  | 8 => ⟨S1x2048, .f32⟩
  | 9 => ⟨S1x2048, .f32⟩
  | 10 => ⟨S1x2048, .f32⟩
  | 11 => ⟨S1x4096, .f32⟩
  | 12 => ⟨S1x1920, .f32⟩
  | 13 => ⟨S1x2048, .f32⟩
  | 14 => ⟨S1x2048, .f32⟩
  | 15 => ⟨S1x2048, .f32⟩
  | 16 => ⟨S1x4096, .f32⟩
  | 17 => ⟨S1x1920, .f32⟩
  | 18 => ⟨S1x2048, .f32⟩
  | 19 => ⟨S1x2048, .f32⟩
  | 20 => ⟨S_, .f32⟩
  | 21 => ⟨S1x2048, .f32⟩
  | 22 => ⟨S_, .f32⟩
  | 23 => ⟨S1x2048, .f32⟩
  | 24 => ⟨S1x2048, .f32⟩
  | 25 => ⟨S_, .f32⟩
  | 26 => ⟨S1x2048, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S_, .f32⟩
  | 41 => ⟨S1x2048, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S1x2048, .f32⟩
  | 48 => ⟨S_, .f32⟩
  | 49 => ⟨S1x2048, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S_, .f32⟩
  | 56 => ⟨S1x4096, .f32⟩
  | 57 => ⟨S_, .f32⟩
  | 58 => ⟨S1x4096, .f32⟩
  | 59 => ⟨S1x4096, .f32⟩
  | 60 => ⟨S_, .f32⟩
  | 61 => ⟨S1x4096, .f32⟩
  | 62 => ⟨S1x4096, .f32⟩
  | 63 => ⟨S1x4096, .f32⟩
  | 64 => ⟨S_, .f32⟩
  | 65 => ⟨S1x4096, .f32⟩
  | 66 => ⟨S1x4096, .f32⟩
  | 67 => ⟨S1x4096, .f32⟩
  | 68 => ⟨S_, .f32⟩
  | 69 => ⟨S1x4096, .f32⟩
  | 70 => ⟨S1x4096, .f32⟩
  | 71 => ⟨S1x4096, .f32⟩
  | 72 => ⟨S_, .f32⟩
  | 73 => ⟨S1x4096, .f32⟩
  | 74 => ⟨S1x4096, .f32⟩
  | 75 => ⟨S_, .f32⟩
  | 76 => ⟨S1x4096, .f32⟩
  | 77 => ⟨S1x4096, .f32⟩
  | 78 => ⟨S1x4096, .f32⟩
  | 79 => ⟨S_, .f32⟩
  | 80 => ⟨S1x4096, .f32⟩
  | 81 => ⟨S1x4096, .f32⟩
  | 82 => ⟨S1x4096, .f32⟩
  | 83 => ⟨S_, .f32⟩
  | 84 => ⟨S1x4096, .f32⟩
  | 85 => ⟨S1x4096, .f32⟩
  | 86 => ⟨S1x4096, .f32⟩
  | 87 => ⟨S_, .f32⟩
  | 88 => ⟨S1x4096, .f32⟩
  | 89 => ⟨S1x4096, .f32⟩
  | 90 => ⟨S_, .f32⟩
  | 91 => ⟨S1x1920, .f32⟩
  | 92 => ⟨S_, .f32⟩
  | 93 => ⟨S1x1920, .f32⟩
  | 94 => ⟨S1x1920, .f32⟩
  | 95 => ⟨S_, .f32⟩
  | 96 => ⟨S1x1920, .f32⟩
  | 97 => ⟨S1x1920, .f32⟩
  | 98 => ⟨S1x1920, .f32⟩
  | 99 => ⟨S_, .f32⟩
  | 100 => ⟨S1x1920, .f32⟩
  | 101 => ⟨S1x1920, .f32⟩
  | 102 => ⟨S1x1920, .f32⟩
  | 103 => ⟨S_, .f32⟩
  | 104 => ⟨S1x1920, .f32⟩
  | 105 => ⟨S1x1920, .f32⟩
  | 106 => ⟨S1x1920, .f32⟩
  | 107 => ⟨S_, .f32⟩
  | 108 => ⟨S1x1920, .f32⟩
  | 109 => ⟨S1x1920, .f32⟩
  | 110 => ⟨S_, .f32⟩
  | 111 => ⟨S1x1920, .f32⟩
  | 112 => ⟨S1x1920, .f32⟩
  | 113 => ⟨S1x1920, .f32⟩
  | 114 => ⟨S_, .f32⟩
  | 115 => ⟨S1x1920, .f32⟩
  | 116 => ⟨S1x1920, .f32⟩
  | 117 => ⟨S1x1920, .f32⟩
  | 118 => ⟨S_, .f32⟩
  | 119 => ⟨S1x1920, .f32⟩
  | 120 => ⟨S1x1920, .f32⟩
  | 121 => ⟨S1x1920, .f32⟩
  | 122 => ⟨S_, .f32⟩
  | 123 => ⟨S1x1920, .f32⟩
  | 124 => ⟨S1x1920, .f32⟩
  | 125 => ⟨S_, .f32⟩
  | 126 => ⟨S1x2048, .f32⟩
  | 127 => ⟨S_, .f32⟩
  | _ => ⟨S8x1x2048, .f32⟩

abbrev hbmTy0_1 (i : Nat) : BufTy := match i % 128 with
  | 0 => ⟨S1x2048, .f32⟩
  | 1 => ⟨S1x2048, .f32⟩
  | 2 => ⟨S_, .f32⟩
  | 3 => ⟨S1x2048, .f32⟩
  | 4 => ⟨S1x2048, .f32⟩
  | 5 => ⟨S1x2048, .f32⟩
  | 6 => ⟨S_, .f32⟩
  | 7 => ⟨S1x2048, .f32⟩
  | 8 => ⟨S1x2048, .f32⟩
  | 9 => ⟨S1x2048, .f32⟩
  | 10 => ⟨S_, .f32⟩
  | 11 => ⟨S1x2048, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S_, .f32⟩
  | 18 => ⟨S1x2048, .f32⟩
  | 19 => ⟨S1x2048, .f32⟩
  | 20 => ⟨S1x2048, .f32⟩
  | 21 => ⟨S_, .f32⟩
  | 22 => ⟨S1x2048, .f32⟩
  | 23 => ⟨S1x2048, .f32⟩
  | 24 => ⟨S1x2048, .f32⟩
  | 25 => ⟨S_, .f32⟩
  | 26 => ⟨S1x2048, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S_, .f32⟩
  | 33 => ⟨S1x2048, .f32⟩
  | 34 => ⟨S_, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S1x2048, .f32⟩
  | 45 => ⟨S_, .f32⟩
  | 46 => ⟨S1x2048, .f32⟩
  | 47 => ⟨S1x2048, .f32⟩
  | 48 => ⟨S1x2048, .f32⟩
  | 49 => ⟨S_, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S1x2048, .f32⟩
  | 56 => ⟨S_, .f32⟩
  | 57 => ⟨S1x2048, .f32⟩
  | 58 => ⟨S1x2048, .f32⟩
  | 59 => ⟨S1x2048, .f32⟩
  | 60 => ⟨S_, .f32⟩
  | 61 => ⟨S1x2048, .f32⟩
  | 62 => ⟨S1x2048, .f32⟩
  | 63 => ⟨S1x2048, .f32⟩
  | 64 => ⟨S_, .f32⟩
  | 65 => ⟨S1x2048, .f32⟩
  | 66 => ⟨S1x2048, .f32⟩
  | _ => ⟨S8x1x2048, .f32⟩

abbrev hbmTy (i : Nat) : BufTy := match i / 128 with
  | 0 => hbmTy0_0 i
  | 1 => hbmTy0_1 i
  | _ => ⟨S8x1x2048, .f32⟩

abbrev bufTy : (tb : Table) → Fin (tcTables nBuf tb) → BufTy
  | .hbm, ⟨i, _⟩ => hbmTy i
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_cst_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_3 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_4 : Ref sig .tc := ⟨.hbm, 37, rfl⟩
abbrev main_v12 : Ref sig .tc := ⟨.hbm, 38, rfl⟩
abbrev main_v13 : Ref sig .tc := ⟨.hbm, 39, rfl⟩
abbrev main_cst_5 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_6 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_7 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_8 : Ref sig .tc := ⟨.hbm, 52, rfl⟩
abbrev main_v23 : Ref sig .tc := ⟨.hbm, 53, rfl⟩
abbrev main_v24 : Ref sig .tc := ⟨.hbm, 54, rfl⟩
abbrev main_cst_9 : Ref sig .tc := ⟨.hbm, 55, rfl⟩
abbrev main_v25 : Ref sig .tc := ⟨.hbm, 56, rfl⟩
abbrev main_cst_10 : Ref sig .tc := ⟨.hbm, 57, rfl⟩
abbrev main_v26 : Ref sig .tc := ⟨.hbm, 58, rfl⟩
abbrev main_v27 : Ref sig .tc := ⟨.hbm, 59, rfl⟩
abbrev main_cst_11 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_12 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_13 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_14 : Ref sig .tc := ⟨.hbm, 72, rfl⟩
abbrev main_v37 : Ref sig .tc := ⟨.hbm, 73, rfl⟩
abbrev main_v38 : Ref sig .tc := ⟨.hbm, 74, rfl⟩
abbrev main_cst_15 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_16 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_17 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_18 : Ref sig .tc := ⟨.hbm, 87, rfl⟩
abbrev main_v48 : Ref sig .tc := ⟨.hbm, 88, rfl⟩
abbrev main_v49 : Ref sig .tc := ⟨.hbm, 89, rfl⟩
abbrev main_cst_19 : Ref sig .tc := ⟨.hbm, 90, rfl⟩
abbrev main_v50 : Ref sig .tc := ⟨.hbm, 91, rfl⟩
abbrev main_cst_20 : Ref sig .tc := ⟨.hbm, 92, rfl⟩
abbrev main_v51 : Ref sig .tc := ⟨.hbm, 93, rfl⟩
abbrev main_v52 : Ref sig .tc := ⟨.hbm, 94, rfl⟩
abbrev main_cst_21 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_22 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_23 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_24 : Ref sig .tc := ⟨.hbm, 107, rfl⟩
abbrev main_v62 : Ref sig .tc := ⟨.hbm, 108, rfl⟩
abbrev main_v63 : Ref sig .tc := ⟨.hbm, 109, rfl⟩
abbrev main_cst_25 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_26 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_27 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_28 : Ref sig .tc := ⟨.hbm, 122, rfl⟩
abbrev main_v73 : Ref sig .tc := ⟨.hbm, 123, rfl⟩
abbrev main_v74 : Ref sig .tc := ⟨.hbm, 124, rfl⟩
abbrev main_cst_29 : Ref sig .tc := ⟨.hbm, 125, rfl⟩
abbrev main_v75 : Ref sig .tc := ⟨.hbm, 126, rfl⟩
abbrev main_cst_30 : Ref sig .tc := ⟨.hbm, 127, rfl⟩
abbrev main_v76 : Ref sig .tc := ⟨.hbm, 128, rfl⟩
abbrev main_v77 : Ref sig .tc := ⟨.hbm, 129, rfl⟩
abbrev main_cst_31 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_32 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_33 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_34 : Ref sig .tc := ⟨.hbm, 142, rfl⟩
abbrev main_v87 : Ref sig .tc := ⟨.hbm, 143, rfl⟩
abbrev main_v88 : Ref sig .tc := ⟨.hbm, 144, rfl⟩
abbrev main_cst_35 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_36 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_37 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_38 : Ref sig .tc := ⟨.hbm, 157, rfl⟩
abbrev main_v98 : Ref sig .tc := ⟨.hbm, 158, rfl⟩
abbrev main_v99 : Ref sig .tc := ⟨.hbm, 159, rfl⟩
abbrev main_cst_39 : Ref sig .tc := ⟨.hbm, 160, rfl⟩
abbrev main_v100 : Ref sig .tc := ⟨.hbm, 161, rfl⟩
abbrev main_cst_40 : Ref sig .tc := ⟨.hbm, 162, rfl⟩
abbrev main_v101 : Ref sig .tc := ⟨.hbm, 163, rfl⟩
abbrev main_v102 : Ref sig .tc := ⟨.hbm, 164, rfl⟩
abbrev main_cst_41 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_cst_42 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_cst_43 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_cst_44 : Ref sig .tc := ⟨.hbm, 177, rfl⟩
abbrev main_v112 : Ref sig .tc := ⟨.hbm, 178, rfl⟩
abbrev main_v113 : Ref sig .tc := ⟨.hbm, 179, rfl⟩
abbrev main_cst_45 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_46 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_47 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_cst_48 : Ref sig .tc := ⟨.hbm, 192, rfl⟩
abbrev main_v123 : Ref sig .tc := ⟨.hbm, 193, rfl⟩
abbrev main_v124 : Ref sig .tc := ⟨.hbm, 194, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S2048 : Shape := ⟨1, ![2048]⟩
abbrev S1x1 : Shape := ⟨2, ![1, 1]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S8x128, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x1, .f32⟩
  | .hbm, ⟨8, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_19 : BitVec 32 := 0#32
  let v48 : BitVec 1 := Scalar.cmpi .ne v47 c0_i32_19
  v48

def k0_cond2 (i : grid0.Coords) : BitVec 1 :=
  let arg0 : BitVec 32 := BitVec.ofNat 32 (i 0).val
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_cst_9 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel10.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_13 : BitVec 32 := 0#32
  let v28 : BitVec 1 := Scalar.cmpi .ne v27 c0_i32_13
  v28

def k0_cond2 (i : grid0.Coords) : BitVec 1 :=
  let arg0 : BitVec 32 := BitVec.ofNat 32 (i 0).val
  let c0_i32 : BitVec 32 := 0#32
  let v26 : BitVec 1 := Scalar.cmpi .eq arg0 c0_i32
  let v_true : BitVec 1 := 1#1
  let v29 : BitVec 1 := Scalar.xori v26 v_true
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel11.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 18
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .bf16⟩
  | .hbm, ⟨17, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_15 : BitVec 32 := 0#32
  let v30 : BitVec 1 := Scalar.cmpi .ne v29 c0_i32_15
  v30

def k0_cond2 (i : grid0.Coords) : BitVec 1 :=
  let arg0 : BitVec 32 := BitVec.ofNat 32 (i 0).val
  let c0_i32 : BitVec 32 := 0#32
  let v28 : BitVec 1 := Scalar.cmpi .eq arg0 c0_i32
  let v_true : BitVec 1 := 1#1
  let v31 : BitVec 1 := Scalar.xori v28 v_true
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel12.lean ====
abbrev S4096x2048 : Shape := ⟨2, ![4096, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel13.lean ====
abbrev S4x15x64x64 : Shape := ⟨4, ![4, 15, 64, 64]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S128 : Shape := ⟨1, ![128]⟩
abbrev S128x1x1 : Shape := ⟨3, ![128, 1, 1]⟩
abbrev S1x64x64 : Shape := ⟨3, ![1, 64, 64]⟩
abbrev S128x64x64 : Shape := ⟨3, ![128, 64, 64]⟩
abbrev S128x4096 : Shape := ⟨2, ![128, 4096]⟩
abbrev S1x4096 : Shape := ⟨2, ![1, 4096]⟩
abbrev S60x4096 : Shape := ⟨2, ![60, 4096]⟩
abbrev S60x128 : Shape := ⟨2, ![60, 128]⟩
abbrev S60x31 : Shape := ⟨2, ![60, 31]⟩

abbrev nBuf : Space → Nat
  | .hbm => 72
  | .vmem => 3
  | .smem => 0
  | _ => 0

abbrev bufTy : (tb : Table) → Fin (tcTables nBuf tb) → BufTy
  | .hbm, ⟨0, _⟩ => ⟨S4x15x64x64, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S1x64, .i32⟩
  | .hbm, ⟨14, _⟩ => ⟨S64x1, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S1x64, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S64x64, .i1⟩
  | .hbm, ⟨27, _⟩ => ⟨S1x64, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S128, .i32⟩
  | .hbm, ⟨47, _⟩ => ⟨S128x1x1, .i32⟩
  | .hbm, ⟨48, _⟩ => ⟨S1x64x64, .i32⟩
  | .hbm, ⟨49, _⟩ => ⟨S128x64x64, .i32⟩
  | .hbm, ⟨50, _⟩ => ⟨S128x64x64, .i32⟩
  | .hbm, ⟨51, _⟩ => ⟨S128x64x64, .i1⟩
  | .hbm, ⟨52, _⟩ => ⟨S1x64x64, .i1⟩
  | .hbm, ⟨53, _⟩ => ⟨S128x64x64, .i1⟩
  | .hbm, ⟨54, _⟩ => ⟨S128x64x64, .i1⟩
  | .hbm, ⟨55, _⟩ => ⟨S_, .f32⟩
  | .hbm, ⟨56, _⟩ => ⟨S_, .f32⟩
  | .hbm, ⟨57, _⟩ => ⟨S128x64x64, .f32⟩
  | .hbm, ⟨58, _⟩ => ⟨S128x64x64, .f32⟩
  | .hbm, ⟨59, _⟩ => ⟨S128x64x64, .f32⟩
  | .hbm, ⟨60, _⟩ => ⟨S128x64x64, .f32⟩
  | .hbm, ⟨61, _⟩ => ⟨S128x4096, .f32⟩
  | .hbm, ⟨62, _⟩ => ⟨S_, .f32⟩
  | .hbm, ⟨63, _⟩ => ⟨S_, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S1x4096, .f32⟩
  | .hbm, ⟨69, _⟩ => ⟨S60x4096, .f32⟩
  | .hbm, ⟨70, _⟩ => ⟨S60x128, .f32⟩
  | .hbm, ⟨71, _⟩ => ⟨S60x31, .f32⟩
  | .local _ .vmem, ⟨0, _⟩ => ⟨S60x4096, .f32⟩
  | .local _ .vmem, ⟨1, _⟩ => ⟨S128x4096, .f32⟩
  | .local _ .vmem, ⟨2, _⟩ => ⟨S60x128, .f32⟩
  | _, _ => ⟨S4x15x64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_cst_7 : Ref sig .tc := ⟨.hbm, 56, rfl⟩
abbrev main_call2_v0 : Ref sig .tc := ⟨.hbm, 57, rfl⟩
abbrev main_call2_v1 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S60x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S60x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference13Ideal.lean ====
abbrev S4x15x64x64 : Shape := ⟨4, ![4, 15, 64, 64]⟩
abbrev S_ : Shape := ⟨0, ![]⟩
abbrev S4x15x31 : Shape := ⟨3, ![4, 15, 31]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S60x31 : Shape := ⟨2, ![60, 31]⟩

abbrev nBuf : Space → Nat
  | .hbm => 71
  | .vmem => 0
  | .smem => 0
  | _ => 0

abbrev bufTy : (tb : Table) → Fin (tcTables nBuf tb) → BufTy
  | .hbm, ⟨0, _⟩ => ⟨S4x15x64x64, .f32⟩
  | .hbm, ⟨1, _⟩ => ⟨S_, .f32⟩
  | .hbm, ⟨2, _⟩ => ⟨S4x15x31, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S1x64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S1x64, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S_, .i32⟩
  | .hbm, ⟨49, _⟩ => ⟨S64x64, .i32⟩
  | .hbm, ⟨50, _⟩ => ⟨S64x64, .i1⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S64x64, .i32⟩
  | .hbm, ⟨55, _⟩ => ⟨S64x64x1, .i32⟩
  | .hbm, ⟨56, _⟩ => ⟨S4x15x64x64, .f32⟩
  | .hbm, ⟨57, _⟩ => ⟨S_, .f32⟩
  | .hbm, ⟨58, _⟩ => ⟨S_, .f32⟩
  | .hbm, ⟨59, _⟩ => ⟨S4x15x64x64, .i1⟩
  | .hbm, ⟨60, _⟩ => ⟨S4x15x64x64, .f32⟩
  | .hbm, ⟨61, _⟩ => ⟨S4x15x64x64, .f32⟩
  | .hbm, ⟨62, _⟩ => ⟨S_, .f32⟩
  | .hbm, ⟨63, _⟩ => ⟨S4x15x64x64, .f32⟩
  | .hbm, ⟨64, _⟩ => ⟨S_, .f32⟩
  | .hbm, ⟨65, _⟩ => ⟨S4x15x64x64, .f32⟩
  | .hbm, ⟨66, _⟩ => ⟨S4x15x64x64, .f32⟩
  | .hbm, ⟨67, _⟩ => ⟨S_, .f32⟩
  | .hbm, ⟨68, _⟩ => ⟨S4x15x31, .f32⟩
  | .hbm, ⟨69, _⟩ => ⟨S4x15x31, .f32⟩
  | .hbm, ⟨70, _⟩ => ⟨S60x31, .f32⟩
  | _, _ => ⟨S4x15x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_call2_v0 : Ref sig .tc := ⟨.hbm, 58, rfl⟩
abbrev main_v35_1 : Ref sig .tc := ⟨.hbm, 59, rfl⟩
abbrev main_call2_v2 : Ref sig .tc := ⟨.hbm, 60, rfl⟩
abbrev main_v35_0 : Ref sig .tc := ⟨.hbm, 61, rfl⟩
abbrev main_call2_cst : Ref sig .tc := ⟨.hbm, 62, rfl⟩
abbrev main_v35_2 : Ref sig .tc := ⟨.hbm, 63, rfl⟩
abbrev main_call3_cst : Ref sig .tc := ⟨.hbm, 64, rfl⟩
abbrev main_call3_v0 : Ref sig .tc := ⟨.hbm, 65, rfl⟩
abbrev main_v36 : Ref sig .tc := ⟨.hbm, 66, rfl⟩
abbrev main_cst_10 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩

abbrev nD : Nat := 1
abbrev τ : Topo := Topo.v7x

variable {F : FTy → Type} [FloatOps F]
-- ==== Kernel14.lean ====
abbrev S4x15x31 : Shape := ⟨3, ![4, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S128 : Shape := ⟨1, ![128]⟩
abbrev S128x1x1 : Shape := ⟨3, ![128, 1, 1]⟩
abbrev S1x64x64 : Shape := ⟨3, ![1, 64, 64]⟩
abbrev S128x64x64 : Shape := ⟨3, ![128, 64, 64]⟩
abbrev S128x4096 : Shape := ⟨2, ![128, 4096]⟩
abbrev S1x4096 : Shape := ⟨2, ![1, 4096]⟩
abbrev S60x31 : Shape := ⟨2, ![60, 31]⟩
abbrev S60x128 : Shape := ⟨2, ![60, 128]⟩
abbrev S60x4096 : Shape := ⟨2, ![60, 4096]⟩
abbrev S4x15x64x64 : Shape := ⟨4, ![4, 15, 64, 64]⟩

abbrev nBuf : Space → Nat
  | .hbm => 75
  | .vmem => 4
  | .smem => 0
  | _ => 0

abbrev bufTy : (tb : Table) → Fin (tcTables nBuf tb) → BufTy
  | .hbm, ⟨0, _⟩ => ⟨S4x15x31, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S1x64, .i32⟩
  | .hbm, ⟨14, _⟩ => ⟨S64x1, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S1x64, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S64x64, .i1⟩
  | .hbm, ⟨27, _⟩ => ⟨S1x64, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S128, .i32⟩
  | .hbm, ⟨47, _⟩ => ⟨S128x1x1, .i32⟩
  | .hbm, ⟨48, _⟩ => ⟨S1x64x64, .i32⟩
  | .hbm, ⟨49, _⟩ => ⟨S128x64x64, .i32⟩
  | .hbm, ⟨50, _⟩ => ⟨S128x64x64, .i32⟩
  | .hbm, ⟨51, _⟩ => ⟨S128x64x64, .i1⟩
  | .hbm, ⟨52, _⟩ => ⟨S1x64x64, .i1⟩
  | .hbm, ⟨53, _⟩ => ⟨S128x64x64, .i1⟩
  | .hbm, ⟨54, _⟩ => ⟨S128x64x64, .i1⟩
  | .hbm, ⟨55, _⟩ => ⟨S_, .f32⟩
  | .hbm, ⟨56, _⟩ => ⟨S_, .f32⟩
  | .hbm, ⟨57, _⟩ => ⟨S128x64x64, .f32⟩
  | .hbm, ⟨58, _⟩ => ⟨S128x64x64, .f32⟩
  | .hbm, ⟨59, _⟩ => ⟨S128x64x64, .f32⟩
  | .hbm, ⟨60, _⟩ => ⟨S128x64x64, .f32⟩
  | .hbm, ⟨61, _⟩ => ⟨S128x4096, .f32⟩
  | .hbm, ⟨62, _⟩ => ⟨S_, .f32⟩
  | .hbm, ⟨63, _⟩ => ⟨S_, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S1x4096, .f32⟩
  | .hbm, ⟨69, _⟩ => ⟨S60x31, .f32⟩
  | .hbm, ⟨70, _⟩ => ⟨S_, .i32⟩
  | .hbm, ⟨71, _⟩ => ⟨S_, .f32⟩
  | .hbm, ⟨72, _⟩ => ⟨S60x128, .f32⟩
  | .hbm, ⟨73, _⟩ => ⟨S60x4096, .f32⟩
  | .hbm, ⟨74, _⟩ => ⟨S4x15x64x64, .f32⟩
  | .local _ .vmem, ⟨0, _⟩ => ⟨S60x128, .f32⟩
  | .local _ .vmem, ⟨1, _⟩ => ⟨S128x4096, .f32⟩
  | .local _ .vmem, ⟨2, _⟩ => ⟨S1x4096, .f32⟩
  | .local _ .vmem, ⟨3, _⟩ => ⟨S60x4096, .f32⟩
  | _, _ => ⟨S4x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_cst_7 : Ref sig .tc := ⟨.hbm, 56, rfl⟩
abbrev main_call2_v0 : Ref sig .tc := ⟨.hbm, 57, rfl⟩
abbrev main_call2_v1 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_call4_v0 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S60x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference14Ideal.lean ====
abbrev S4x15x31 : Shape := ⟨3, ![4, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S4x15x64x64 : Shape := ⟨4, ![4, 15, 64, 64]⟩

abbrev nBuf : Space → Nat
  | .hbm => 60
  | .vmem => 0
  | .smem => 0
  | _ => 0

abbrev bufTy : (tb : Table) → Fin (tcTables nBuf tb) → BufTy
  | .hbm, ⟨0, _⟩ => ⟨S4x15x31, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S1x64, .i32⟩
  | .hbm, ⟨14, _⟩ => ⟨S64x1, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S1x64, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S64x64, .i1⟩
  | .hbm, ⟨27, _⟩ => ⟨S1x64, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S_, .i32⟩
  | .hbm, ⟨47, _⟩ => ⟨S64x64, .i32⟩
  | .hbm, ⟨48, _⟩ => ⟨S64x64, .i1⟩
  | .hbm, ⟨49, _⟩ => ⟨S_, .i32⟩
  | .hbm, ⟨50, _⟩ => ⟨S64x64, .i32⟩
  | .hbm, ⟨51, _⟩ => ⟨S64x64, .i32⟩
  | .hbm, ⟨52, _⟩ => ⟨S64x64, .i32⟩
  | .hbm, ⟨53, _⟩ => ⟨S64x64x1, .i32⟩
  | .hbm, ⟨54, _⟩ => ⟨S4x15x64x64, .f32⟩
  | .hbm, ⟨55, _⟩ => ⟨S_, .f32⟩
  | .hbm, ⟨56, _⟩ => ⟨S_, .f32⟩
  | .hbm, ⟨57, _⟩ => ⟨S4x15x64x64, .i1⟩
  | .hbm, ⟨58, _⟩ => ⟨S4x15x64x64, .f32⟩
  | .hbm, ⟨59, _⟩ => ⟨S4x15x64x64, .f32⟩
  | _, _ => ⟨S4x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v34 : Ref sig .tc := ⟨.hbm, 59, rfl⟩

abbrev nD : Nat := 1
abbrev τ : Topo := Topo.v7x

variable {F : FTy → Type} [FloatOps F]
-- ==== Proof.Products.lean ====
/-
  Products of blocks read at an element, in the three ways a training step multiplies: plain, with the right factor
  transposed, and with the left factor transposed.  Everything is at the ideal values, where a product is a sum of
  products and the accumulator is the zero constant.
-/
module

public import Idealize.ShloMosaic.Lib.ValueIdxCore
public import Idealize.ShloMosaic.Lib.MatmulPlain
public import Idealize.ShloMosaic.Lib.IdealHost

@[expose] public section

noncomputable section

namespace Cert.Products

open Idealize.ShloMosaic
open Idealize.ShloMosaic.ValueIdx

/-- A place of a matrix is a row and a column. -/
theorem any2 (n0 n1 : ℕ) (j : (⟨2, ![n0, n1]⟩ : Shape).Idx) : ∃ (r : Fin n0) (e : Fin n1), j = ix2 r e := ⟨j 0, j 1, eq_ix2 j⟩

/-- The dimension numbers of `[K,M]ᵀ × [K,N]`. -/
def leftDims (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- `[K,M]ᵀ × [K,N]` at an element: the accumulator and a column of each factor against the other. -/
theorem matmul_left_apply {K M N : ℕ} {φ₁ φ₂ : FTy} (wf) (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (leftDims K M N wf) prec lhs rhs acc (ix2 r c) = acc (ix2 r c) + ∑ k : Fin K, lhs (ix2 k r) * rhs (ix2 k c) := by
  have hr : (leftDims K M N wf).contr.rank = 1 := rfl
  have hs : (leftDims K M N wf).contr.size ⟨0, by omega⟩ = K := rfl
  rw [Ideal.matmul_apply, ← Equiv.sum_comp (contrEquiv1 _ K hr hs).symm]
  refine congrArg (acc (ix2 r c) + ·) (Finset.sum_congr rfl fun k _ => ?_)
  have hk := contrEquiv1_symm_val _ K hr hs k
  have el : (leftDims K M N wf).lhsIdx (ix2 r c) ((contrEquiv1 _ K hr hs).symm k) = ix2 k r := by
    funext a; apply Fin.ext
    match a with
    | ⟨0, _⟩ => exact hk
    | ⟨1, _⟩ => rfl
  have er : (leftDims K M N wf).rhsIdx (ix2 r c) ((contrEquiv1 _ K hr hs).symm k) = ix2 k c := by
    funext a; apply Fin.ext
    match a with
    | ⟨0, _⟩ => exact hk
    | ⟨1, _⟩ => rfl
  rw [el, er]

/-- The zero word of the 32-bit format is zero. -/
theorem zero_word : Ideal.ofBits .f32 0x00000000#32 = (0 : EReal) := Ideal.ofBits_zero_f32

/-- A plain product from a zero accumulator. -/
theorem plain_zero {M K N : ℕ} {φ₁ φ₂ : FTy} (lhs : FVec Ideal ⟨2, ![M, K]⟩ φ₁) (rhs : FVec Ideal ⟨2, ![K, N]⟩ φ₂) (r : Fin M) (c : Fin N) :
    FloatOps.matmul (F := Ideal) (DotDims.plain M K N) none lhs rhs (constant ⟨2, ![M, N]⟩ .f32 0x00000000#32) (ix2 r c)
      = ∑ k : Fin K, lhs (ix2 r k) * rhs (ix2 k c) := by
  rw [Ideal.matmul_plain_apply]
  show Ideal.ofBits .f32 0x00000000#32 + _ = _
  rw [zero_word, zero_add]

/-- A product with the right factor transposed, from a zero accumulator. -/
theorem right_zero {M K N : ℕ} {φ₁ φ₂ : FTy} (lhs : FVec Ideal ⟨2, ![M, K]⟩ φ₁) (rhs : FVec Ideal ⟨2, ![N, K]⟩ φ₂) (r : Fin M) (c : Fin N) :
    FloatOps.matmul (F := Ideal) (DotDims.transposedRhs M K N) none lhs rhs (constant ⟨2, ![M, N]⟩ .f32 0x00000000#32) (ix2 r c)
      = ∑ k : Fin K, lhs (ix2 r k) * rhs (ix2 c k) := by
  rw [Ideal.matmul_transposedRhs_apply]
  show Ideal.ofBits .f32 0x00000000#32 + _ = _
  rw [zero_word, zero_add]

/-- A product with the left factor transposed, from a zero accumulator. -/
theorem left_zero {K M N : ℕ} {φ₁ φ₂ : FTy} (wf) (lhs : FVec Ideal ⟨2, ![K, M]⟩ φ₁) (rhs : FVec Ideal ⟨2, ![K, N]⟩ φ₂) (r : Fin M) (c : Fin N) :
    FloatOps.matmul (F := Ideal) (leftDims K M N wf) none lhs rhs (constant ⟨2, ![M, N]⟩ .f32 0x00000000#32) (ix2 r c)
      = ∑ k : Fin K, lhs (ix2 k r) * rhs (ix2 k c) := by
  rw [matmul_left_apply]
  show Ideal.ofBits .f32 0x00000000#32 + _ = _
  rw [zero_word, zero_add]

/-- A sum over `b * n` places taken in `b` runs of `n`. -/
theorem sum_runs {b n N : ℕ} (h : b * n = N) (f : Fin N → EReal) :
    ∑ k : Fin N, f k = ∑ s : Fin b, ∑ k : Fin n, f ⟨n * s.val + k.val, by
      have h1 := s.isLt; have h2 := k.isLt
      calc n * s.val + k.val < n * s.val + n := by omega
        _ = n * (s.val + 1) := by ring
        _ ≤ n * b := Nat.mul_le_mul_left _ h1
        _ = N := by rw [← h]; ring⟩ := by
  subst h
  rw [← Fintype.sum_prod_type', ← Equiv.sum_comp finProdFinEquiv]
  refine Finset.sum_congr rfl fun x _ => congrArg f (Fin.ext ?_)
  show x.2.val + n * x.1.val = _
  exact Nat.add_comm _ _

/-- A row of one array against a column of another, a row against a row, and a column against a column. -/
def rowCol {n K N : ℕ} (A : (⟨2, ![n, K]⟩ : Shape).Idx → EReal) (B : (⟨2, ![K, N]⟩ : Shape).Idx → EReal) (r : Fin n) (e : Fin N) : EReal :=
  ∑ k : Fin K, A (ix2 r k) * B (ix2 k e)
def rowRow {n K N : ℕ} (A : (⟨2, ![n, K]⟩ : Shape).Idx → EReal) (B : (⟨2, ![N, K]⟩ : Shape).Idx → EReal) (r : Fin n) (e : Fin N) : EReal :=
  ∑ k : Fin K, A (ix2 r k) * B (ix2 e k)
def colCol {n K N : ℕ} (A : (⟨2, ![K, n]⟩ : Shape).Idx → EReal) (B : (⟨2, ![K, N]⟩ : Shape).Idx → EReal) (r : Fin n) (e : Fin N) : EReal :=
  ∑ k : Fin K, A (ix2 k r) * B (ix2 k e)

/-- The array of a function of rows and columns. -/
abbrev table {n N : ℕ} (f : Fin n → Fin N → EReal) : (⟨2, ![n, N]⟩ : Shape).Idx → EReal := fun i => f (i 0) (i 1)

end Cert.Products

end
-- ==== Proof.GateBlock.lean ====
/-
  One grid point of the gate-gradient call: what its body leaves in each output's staging buffer, as sums of products
  of the staged blocks' elements (at the ideal values), for both cases of its row index.
-/
module

public import proofs.«01_k».proof.Proof.Gen.KernelIdeal.Value
public import Idealize.ShloMosaic.Lib.ValueIdxCore
public import Idealize.ShloMosaic.Lib.MatmulPlain
public import Idealize.ShloMosaic.Lib.IdealHost
public import Idealize.ShloMosaic.Lib.Pipeline.ValueKit.Tiles
public import Idealize.ShloMosaic.Lib.Pointwise.Reduce
public import Idealize.ShloMosaic.Lib.Tactic

@[expose] public section

set_option maxRecDepth 16384

noncomputable section

namespace Cert.KernelIdeal.Block

open Cert.KernelIdeal Cert.KernelIdeal.Gen Idealize.ShloMosaic.TcCoe Idealize.SL.Sem
open Idealize.ShloMosaic hiding ix1 ix2 ix3
open Idealize.ShloMosaic.ValueIdx

theorem hz2 : (![0, 0] : Fin 2 → Nat) = fun _ => 0 := funext fun a => by fin_cases a <;> rfl

/-- The gradient of the merged activations, one element of the staged block: a row of the incoming gradient against a
    row of the output weight. -/
def dm (x : S1024x2048.Idx → EReal) (w : S512x2048.Idx → EReal) (r : Fin 1024) (e : Fin 512) : EReal :=
  ∑ k : Fin 2048, x (ix2 r k) * w (ix2 e k)

/-- The gradient of one gate's pre-activation at an element: `dm · p · g · (1 - g)`. -/
def dg (x : S1024x2048.Idx → EReal) (w : S512x2048.Idx → EReal) (g p : S1024x512.Idx → EReal) (r : Fin 1024) (e : Fin 512) : EReal :=
  dm x w r e * p (ix2 r e) * g (ix2 r e) * (1 - g (ix2 r e))

variable (x : Vec Ideal S1024x2048 .bf16) (w : Vec Ideal S512x2048 .bf16) (g p : Vec Ideal S1024x512 .bf16)

theorem pay6_apply (r : Fin 1024) (e : Fin 512) : k0_pay6 (F := Ideal) x w (ix2 r e) = dm x w r e := by
  show FloatOps.matmul (F := Ideal) (φ₁ := .bf16) (φ₂ := .bf16) (DotDims.transposedRhs 1024 2048 512) none x w (constant S1024x512 .f32 0x00000000#32) (ix2 r e) = _
  rw [Ideal.matmul_transposedRhs_apply]
  show Ideal.ofBits .f32 0x00000000#32 + _ = _
  rw [Ideal.ofBits_zero_f32, zero_add]; rfl

theorem pay7_apply (r : Fin 1024) (e : Fin 512) : k0_pay7 (F := Ideal) g (ix2 r e) = g (ix2 r e) := by
  unfold k0_pay7; rw [shapeCast_self]; rfl

theorem pay9_apply (r : Fin 1024) (e : Fin 512) : k0_pay9 (F := Ideal) x w g (ix2 r e) = dm x w r e * g (ix2 r e) := by
  show k0_pay6 (F := Ideal) x w (ix2 r e) * k0_pay7 (F := Ideal) g (ix2 r e) = _
  rw [pay6_apply, pay7_apply]

theorem pay10_apply (r : Fin 1024) (e : Fin 512) : k0_pay10 (F := Ideal) x w g (ix2 r e) = dm x w r e * g (ix2 r e) :=
  pay9_apply x w g r e

theorem one_f32 : Ideal.ofBits .f32 0x3F800000#32 = (1 : EReal) := by
  exact Ideal.ofBits_one_f32

theorem pay11_apply (r : Fin 1024) (e : Fin 512) : k0_pay11 (F := Ideal) x w g p (ix2 r e) = dg x w g p r e := by
  show k0_pay6 (F := Ideal) x w (ix2 r e) * p (ix2 r e) * k0_pay7 (F := Ideal) g (ix2 r e)
    * (Ideal.ofBits .f32 0x3F800000#32 - k0_pay7 (F := Ideal) g (ix2 r e)) = _
  rw [pay6_apply, pay7_apply, one_f32]; rfl

theorem pay12_apply (r : Fin 1024) (e : Fin 512) : k0_pay12 (F := Ideal) x w g p (ix2 r e) = dg x w g p r e :=
  pay11_apply x w g p r e

theorem pay13_apply (r : Fin 1024) (e : Fin 512) : k0_pay13 (F := Ideal) x w g p (ix3 0 r e) = dg x w g p r e := by
  unfold k0_pay13
  rw [shapeCast_apply _ _ _ (ix2 r e) (by simp [Shape.rowMajor_val_one, Shape.rowMajor_val_two, Shape.rowMajor_val_three]), ← pay11_apply]; rfl

theorem pay1_apply (v : FVec Ideal S1024x512 .f32) (r : Fin 1024) (e : Fin 512) : k0_pay1 (F := Ideal) v (ix3 0 r e) = v (ix2 r e) := by
  unfold k0_pay1
  rw [shapeCast_apply _ _ _ (ix2 r e) (by simp [Shape.rowMajor_val_one, Shape.rowMajor_val_two, Shape.rowMajor_val_three])]; rfl

theorem pay2_apply (v : FVec Ideal S1024x512 .f32) (e : Fin 512) : k0_pay2 (F := Ideal) v (ix2 0 e) = ∑ r : Fin 1024, v (ix2 r e) := by
  unfold k0_pay2; dsimp only
  rw [shapeCast_apply _ _ _ (ix1 e) (by simp [Shape.rowMajor_val_one, Shape.rowMajor_val_two, Shape.rowMajor_val_three])]
  show Ideal.reduceAdd _ v (ix1 e) = _
  rw [Ideal.reduceAdd_r2_a0]; rfl

theorem pay3_apply (v : FVec Ideal S1024x512 .f32) (e : Fin 512) : k0_pay3 (F := Ideal) v (ix2 0 e) = ∑ r : Fin 1024, v (ix2 r e) :=
  pay2_apply v e

theorem pay4_apply (v : FVec Ideal S1024x512 .f32) (o : Vec Ideal S1x512 .f32) (e : Fin 512) :
    k0_pay4 (F := Ideal) v o (ix2 0 e) = o (ix2 0 e) + ∑ r : Fin 1024, v (ix2 r e) := by
  show shapeCast S1x512 o _ (ix2 0 e) + k0_pay2 (F := Ideal) v (ix2 0 e) = _
  rw [shapeCast_self, pay2_apply]

theorem pay5_apply (v : FVec Ideal S1024x512 .f32) (o : Vec Ideal S1x512 .f32) (e : Fin 512) :
    k0_pay5 (F := Ideal) v o (ix2 0 e) = o (ix2 0 e) + ∑ r : Fin 1024, v (ix2 r e) :=
  pay4_apply v o e

section Cases
variable {F : FTy → Type} [FloatOps F]
variable (c : Dev nD) (i : grid0.Coords)
    (arg3 : Memref sig .tc .vmem S1024x2048 .bf16) (harg3 : arg3.IsWhole)
    (arg4 : Memref sig .tc .vmem S512x2048 .bf16) (harg4 : arg4.IsWhole)
    (arg5 : Memref sig .tc .vmem S1024x512 .bf16) (harg5 : arg5.IsWhole)
    (arg6 : Memref sig .tc .vmem S1024x512 .bf16) (harg6 : arg6.IsWhole)
    (arg7 : Memref sig .tc .vmem S1024x512 .bf16) (harg7 : arg7.IsWhole)
    (arg8 : Memref sig .tc .vmem S1024x512 .bf16) (harg8 : arg8.IsWhole)
    (arg9 : Memref sig .tc .vmem S1024x512 .bf16) (harg9 : arg9.IsWhole)
    (arg10 : Memref sig .tc .vmem S1024x512 .bf16) (harg10 : arg10.IsWhole)
    (arg11 : Memref sig .tc .vmem S2x1024x512 .bf16) (harg11 : arg11.IsWhole)
    (arg12 : Memref sig .tc .vmem S1x512 .f32) (harg12 : arg12.IsWhole)
    (arg13 : Memref sig .tc .vmem S1x512 .f32) (harg13 : arg13.IsWhole)
variable (x0 : Vec F S1024x2048 .bf16) (x1 : Vec F S512x2048 .bf16) (x2 x3 x4 x5 : Vec F S1024x512 .bf16) (xo9 xo10 : Vec F S1x512 .f32)

/-- The first branch's gradient block. -/
theorem out_A_6 (hc0 : cond0_0 i) (hc1 : ¬cond0_1 i) :
    out0_A_6 c i arg3 harg3 arg4 harg4 arg5 harg5 arg6 harg6 arg7 harg7 arg8 harg8 arg9 harg9 arg10 harg10 arg11 harg11 arg12 harg12 arg13 harg13 hc0 hc1 x0 x1 x2 x3 x4 x5 = k0_pay9 x0 x1 x2 := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero hz2]
  simp only [View.readAt_eq_ld, harg3.read_unread, harg4.read_unread, harg5.read_unread, harg6.read_unread, harg7.read_unread, harg8.read_unread, View.ld_unit_zero (S := S1024x2048) hz2, View.ld_unit_zero (S := S512x2048) hz2, View.ld_unit_zero (S := S1024x512) hz2]

/-- The second branch's gradient block. -/
theorem out_A_7 (hc0 : cond0_0 i) (hc1 : ¬cond0_1 i) :
    out0_A_7 c i arg3 harg3 arg4 harg4 arg5 harg5 arg6 harg6 arg7 harg7 arg8 harg8 arg9 harg9 arg10 harg10 arg11 harg11 arg12 harg12 arg13 harg13 hc0 hc1 x0 x1 x2 x3 x4 x5 = k0_pay10 x0 x1 x3 := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero hz2]
  simp only [View.readAt_eq_ld, harg3.read_unread, harg4.read_unread, harg5.read_unread, harg6.read_unread, harg7.read_unread, harg8.read_unread, View.ld_unit_zero (S := S1024x2048) hz2, View.ld_unit_zero (S := S512x2048) hz2, View.ld_unit_zero (S := S1024x512) hz2]

/-- The first branch's gradient block. -/
theorem out_B_6 (hc0 : ¬cond0_0 i) (hc1 : cond0_1 i) :
    out0_B_6 c i arg3 harg3 arg4 harg4 arg5 harg5 arg6 harg6 arg7 harg7 arg8 harg8 arg9 harg9 arg10 harg10 arg11 harg11 arg12 harg12 arg13 harg13 hc0 hc1 x0 x1 x2 x3 x4 x5 xo9 xo10 = k0_pay9 x0 x1 x2 := by
  unfold out0_B_6
  rw [View.read_writes_eq_canon _ _ _ (cover0_B_6 c i arg3 harg3 arg4 harg4 arg5 harg5 arg6 harg6 arg7 harg7 arg8 harg8 arg9 harg9 arg10 harg10 arg11 harg11 arg12 harg12 arg13 harg13 hc0 hc1 x0 x1 x2 x3 x4 x5 xo9 xo10)]
  unfold kernelRun0_B
  dsimp only
  sl_unfold_words
  rw [View.canon_unit_zero hz2]
  simp only [View.readAt_eq_ld, harg3.read_unread, harg4.read_unread, harg5.read_unread, harg6.read_unread, harg7.read_unread, harg8.read_unread, View.ld_unit_zero (S := S1024x2048) hz2, View.ld_unit_zero (S := S512x2048) hz2, View.ld_unit_zero (S := S1024x512) hz2]

/-- The second branch's gradient block. -/
theorem out_B_7 (hc0 : ¬cond0_0 i) (hc1 : cond0_1 i) :
    out0_B_7 c i arg3 harg3 arg4 harg4 arg5 harg5 arg6 harg6 arg7 harg7 arg8 harg8 arg9 harg9 arg10 harg10 arg11 harg11 arg12 harg12 arg13 harg13 hc0 hc1 x0 x1 x2 x3 x4 x5 xo9 xo10 = k0_pay10 x0 x1 x3 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 arg13 harg13 hc0 hc1 x0 x1 x2 x3 x4 x5 xo9 xo10)]
  unfold kernelRun0_B
  dsimp only
  sl_unfold_words
  rw [View.canon_unit_zero hz2]
  simp only [View.readAt_eq_ld, harg3.read_unread, harg4.read_unread, harg5.read_unread, harg6.read_unread, harg7.read_unread, harg8.read_unread, View.ld_unit_zero (S := S1024x2048) hz2, View.ld_unit_zero (S := S512x2048) hz2, View.ld_unit_zero (S := S1024x512) hz2]

/-- First row block: the first gate's bias gradient starts at the block's column sums. -/
theorem out_A_9 (hc0 : cond0_0 i) (hc1 : ¬cond0_1 i) :
    out0_A_9 c i arg3 harg3 arg4 harg4 arg5 harg5 arg6 harg6 arg7 harg7 arg8 harg8 arg9 harg9 arg10 harg10 arg11 harg11 arg12 harg12 arg13 harg13 hc0 hc1 x0 x1 x2 x3 x4 x5 = k0_pay2 (k0_pay11 x0 x1 x2 x4) := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero hz2]
  simp only [View.readAt_eq_ld, harg3.read_unread, harg4.read_unread, harg5.read_unread, harg6.read_unread, harg7.read_unread, harg8.read_unread, View.ld_unit_zero (S := S1024x2048) hz2, View.ld_unit_zero (S := S512x2048) hz2, View.ld_unit_zero (S := S1024x512) hz2]

/-- First row block: the second gate's bias gradient starts at the block's column sums. -/
theorem out_A_10 (hc0 : cond0_0 i) (hc1 : ¬cond0_1 i) :
    out0_A_10 c i arg3 harg3 arg4 harg4 arg5 harg5 arg6 harg6 arg7 harg7 arg8 harg8 arg9 harg9 arg10 harg10 arg11 harg11 arg12 harg12 arg13 harg13 hc0 hc1 x0 x1 x2 x3 x4 x5 = k0_pay3 (k0_pay12 x0 x1 x3 x5) := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero hz2]
  simp only [View.readAt_eq_ld, harg3.read_unread, harg4.read_unread, harg5.read_unread, harg6.read_unread, harg7.read_unread, harg8.read_unread, View.ld_unit_zero (S := S1024x2048) hz2, View.ld_unit_zero (S := S512x2048) hz2, View.ld_unit_zero (S := S1024x512) hz2]

/-- Later row blocks: the column sums are added to what the point before left. -/
theorem out_B_9 (hc0 : ¬cond0_0 i) (hc1 : cond0_1 i) :
    out0_B_9 c i arg3 harg3 arg4 harg4 arg5 harg5 arg6 harg6 arg7 harg7 arg8 harg8 arg9 harg9 arg10 harg10 arg11 harg11 arg12 harg12 arg13 harg13 hc0 hc1 x0 x1 x2 x3 x4 x5 xo9 xo10 = k0_pay4 (k0_pay11 x0 x1 x2 x4) xo9 := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 arg13 harg13 hc0 hc1 x0 x1 x2 x3 x4 x5 xo9 xo10)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg12.read_unread, View.ld_unit_zero (S := S1024x2048) hz2, View.ld_unit_zero (S := S512x2048) hz2, View.ld_unit_zero (S := S1024x512) hz2, View.ld_unit_zero (S := S1x512) hz2]

/-- Later row blocks, the second gate. -/
theorem out_B_10 (hc0 : ¬cond0_0 i) (hc1 : cond0_1 i) :
    out0_B_10 c i arg3 harg3 arg4 harg4 arg5 harg5 arg6 harg6 arg7 harg7 arg8 harg8 arg9 harg9 arg10 harg10 arg11 harg11 arg12 harg12 arg13 harg13 hc0 hc1 x0 x1 x2 x3 x4 x5 xo9 xo10 = k0_pay5 (k0_pay12 x0 x1 x3 x5) xo10 := by
  unfold out0_B_10
  rw [View.read_writes_eq_canon _ _ _ (cover0_B_10 c i arg3 harg3 arg4 harg4 arg5 harg5 arg6 harg6 arg7 harg7 arg8 harg8 arg9 harg9 arg10 harg10 arg11 harg11 arg12 harg12 arg13 harg13 hc0 hc1 x0 x1 x2 x3 x4 x5 xo9 xo10)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg13.read_unread, View.ld_unit_zero (S := S1024x2048) hz2, View.ld_unit_zero (S := S512x2048) hz2, View.ld_unit_zero (S := S1024x512) hz2, View.ld_unit_zero (S := S1x512) hz2]

end Cases

section Stacked
variable (c : Dev nD) (i : grid0.Coords)
    (arg3 : Memref sig .tc .vmem S1024x2048 .bf16) (harg3 : arg3.IsWhole)
    (arg4 : Memref sig .tc .vmem S512x2048 .bf16) (harg4 : arg4.IsWhole)
    (arg5 : Memref sig .tc .vmem S1024x512 .bf16) (harg5 : arg5.IsWhole)
    (arg6 : Memref sig .tc .vmem S1024x512 .bf16) (harg6 : arg6.IsWhole)
    (arg7 : Memref sig .tc .vmem S1024x512 .bf16) (harg7 : arg7.IsWhole)
    (arg8 : Memref sig .tc .vmem S1024x512 .bf16) (harg8 : arg8.IsWhole)
    (arg9 : Memref sig .tc .vmem S1024x512 .bf16) (harg9 : arg9.IsWhole)
    (arg10 : Memref sig .tc .vmem S1024x512 .bf16) (harg10 : arg10.IsWhole)
    (arg11 : Memref sig .tc .vmem S2x1024x512 .bf16) (harg11 : arg11.IsWhole)
    (arg12 : Memref sig .tc .vmem S1x512 .f32) (harg12 : arg12.IsWhole)
    (arg13 : Memref sig .tc .vmem S1x512 .f32) (harg13 : arg13.IsWhole)
variable (x0 : Vec Ideal S1024x2048 .bf16) (x1 : Vec Ideal S512x2048 .bf16) (x2 x3 x4 x5 : Vec Ideal S1024x512 .bf16) (xo9 xo10 : Vec Ideal S1x512 .f32)

/-- The stacked gate gradients: the first gate's block in layer 0, the second's in layer 1. -/
theorem out_A_8 (hc0 : cond0_0 i) (hc1 : ¬cond0_1 i) (s : Fin 2) (r : Fin 1024) (e : Fin 512) :
    out0_A_8 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 (ix3 s r e)
      = if s.val = 0 then dg x0 x1 x2 x4 r e else dg x0 x1 x3 x5 r e := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 hc0 hc1 x0 x1 x2 x3 x4 x5)]
  refine View.canon_eq_of_allAt _ _ _ (cover0_A_8 c i arg3 harg3 arg4 harg4 arg5 harg5 arg6 harg6 arg7 harg7 arg8 harg8 arg9 harg9 arg10 harg10 arg11 harg11 arg12 harg12 arg13 harg13 hc0 hc1 x0 x1 x2 x3 x4 x5 _) ?_
  unfold kernelRun0_A
  dsimp only
  sl_unfold_words
  simp only [View.readAt_eq_ld, harg3.read_unread, harg4.read_unread, harg5.read_unread, harg6.read_unread, harg7.read_unread, harg8.read_unread, View.ld_unit_zero (S := S1024x2048) hz2, View.ld_unit_zero (S := S512x2048) hz2, View.ld_unit_zero (S := S1024x512) hz2]
  refine View.allAt_cons_unit _ _ _ _ _ ?_ (View.allAt_cons_unit _ _ _ _ _ ?_ (View.allAt_nil _ _))
  · intro y hy
    have h0 : s.val = 1 + (y 0).val := hy 0
    have h1 : r.val = 0 + (y 1).val := hy 1
    have h2 : e.val = 0 + (y 2).val := hy 2
    have hl : (y 0).val < 1 := (y 0).isLt
    have ey : y = ix3 0 r e := funext fun a => Fin.ext (by
      match a with
      | ⟨0, _⟩ => show (y 0).val = 0; omega
      | ⟨1, _⟩ => show (y 1).val = r.val; omega
      | ⟨2, _⟩ => show (y 2).val = e.val; omega)
    rw [if_neg (by omega), ey]
    exact (pay1_apply _ r e).trans (pay12_apply x0 x1 x3 x5 r e)
  · intro y hy
    have h0 : s.val = 0 + (y 0).val := hy 0
    have h1 : r.val = 0 + (y 1).val := hy 1
    have h2 : e.val = 0 + (y 2).val := hy 2
    have hl : (y 0).val < 1 := (y 0).isLt
    have ey : y = ix3 0 r e := funext fun a => Fin.ext (by
      match a with
      | ⟨0, _⟩ => show (y 0).val = 0; omega
      | ⟨1, _⟩ => show (y 1).val = r.val; omega
      | ⟨2, _⟩ => show (y 2).val = e.val; omega)
    rw [if_pos (by omega), ey]
    exact pay13_apply x0 x1 x2 x4 r e

/-- The stacked gate gradients: the first gate's block in layer 0, the second's in layer 1. -/
theorem out_B_8 (hc0 : ¬cond0_0 i) (hc1 : cond0_1 i) (s : Fin 2) (r : Fin 1024) (e : Fin 512) :
    out0_B_8 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xo9 xo10 (ix3 s r e)
      = if s.val = 0 then dg x0 x1 x2 x4 r e else dg x0 x1 x3 x5 r e := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 arg13 harg13 hc0 hc1 x0 x1 x2 x3 x4 x5 xo9 xo10)]
  refine View.canon_eq_of_allAt _ _ _ (cover0_B_8 c i arg3 harg3 arg4 harg4 arg5 harg5 arg6 harg6 arg7 harg7 arg8 harg8 arg9 harg9 arg10 harg10 arg11 harg11 arg12 harg12 arg13 harg13 hc0 hc1 x0 x1 x2 x3 x4 x5 xo9 xo10 _) ?_
  unfold kernelRun0_B
  dsimp only
  sl_unfold_words
  simp only [View.readAt_eq_ld, harg3.read_unread, harg4.read_unread, harg5.read_unread, harg6.read_unread, harg7.read_unread, harg8.read_unread, View.ld_unit_zero (S := S1024x2048) hz2, View.ld_unit_zero (S := S512x2048) hz2, View.ld_unit_zero (S := S1024x512) hz2]
  refine View.allAt_cons_unit _ _ _ _ _ ?_ (View.allAt_cons_unit _ _ _ _ _ ?_ (View.allAt_nil _ _))
  · intro y hy
    have h0 : s.val = 1 + (y 0).val := hy 0
    have h1 : r.val = 0 + (y 1).val := hy 1
    have h2 : e.val = 0 + (y 2).val := hy 2
    have hl : (y 0).val < 1 := (y 0).isLt
    have ey : y = ix3 0 r e := funext fun a => Fin.ext (by
      match a with
      | ⟨0, _⟩ => show (y 0).val = 0; omega
      | ⟨1, _⟩ => show (y 1).val = r.val; omega
      | ⟨2, _⟩ => show (y 2).val = e.val; omega)
    rw [if_neg (by omega), ey]
    exact (pay1_apply _ r e).trans (pay12_apply x0 x1 x3 x5 r e)
  · intro y hy
    have h0 : s.val = 0 + (y 0).val := hy 0
    have h1 : r.val = 0 + (y 1).val := hy 1
    have h2 : e.val = 0 + (y 2).val := hy 2
    have hl : (y 0).val < 1 := (y 0).isLt
    have ey : y = ix3 0 r e := funext fun a => Fin.ext (by
      match a with
      | ⟨0, _⟩ => show (y 0).val = 0; omega
      | ⟨1, _⟩ => show (y 1).val = r.val; omega
      | ⟨2, _⟩ => show (y 2).val = e.val; omega)
    rw [if_pos (by omega), ey]
    exact pay13_apply x0 x1 x2 x4 r e

end Stacked

end Cert.KernelIdeal.Block

end
-- ==== Proof.GateArray.lean ====
/-
  The gate-gradient call as a whole: each result array after the run, as a function of the arrays the call is given
  (at the ideal values).  The three blockwise results are read off the points' blocks, which tile the arrays; the two
  bias gradients are the column sums accumulated over the four row blocks.
-/
module

public import proofs.«01_k».proof.Proof.Products
public import proofs.«01_k».proof.Proof.GateBlock
public import Idealize.ShloMosaic.Lib.Pipeline.Value

@[expose] public section

set_option maxRecDepth 16384

noncomputable section

namespace Cert.KernelIdeal.Gate

open Cert.KernelIdeal Cert.KernelIdeal.Gen Cert.KernelIdeal.Block Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

/-- The gradient of the merged activations: the incoming gradient against the output weight. -/
def DM (X : S4096x2048.Idx → EReal) (W : S2048x2048.Idx → EReal) (r : Fin 4096) (e : Fin 2048) : EReal :=
  ∑ k : Fin 2048, X (ix2 r k) * W (ix2 e k)

/-- The gradient of a gate's pre-activation, with `g` the gate and `p` its branch. -/
def DG (X : S4096x2048.Idx → EReal) (W : S2048x2048.Idx → EReal) (g p : Fin 4096 → Fin 2048 → EReal) (r : Fin 4096) (e : Fin 2048) : EReal :=
  DM X W r e * p r e * g r e * (1 - g r e)

variable (m : (ℓ : Loc nD τ sig) → Buf (Elt Ideal) ℓ) (ρ : Dev nD → PrngReg)

/-- The arrays the call reads. -/
abbrev X (c : Dev nD) : S4096x2048.Idx → EReal := V m c main_arg5
abbrev W (c : Dev nD) : S2048x2048.Idx → EReal := V m c main_arg4
abbrev PA (c : Dev nD) : S4096x2048.Idx → EReal := V m c main_arg2
abbrev PB (c : Dev nD) : S4096x2048.Idx → EReal := V m c main_arg3
abbrev G (c : Dev nD) : S4096x4096.Idx → EReal := V m c main_v8

/-- The two gates: the left and the right half of the gate array's columns. -/
def ga (c : Dev nD) (r : Fin 4096) (e : Fin 2048) : EReal := G m c (ix2 r ⟨e.val, by omega⟩)
def gb (c : Dev nD) (r : Fin 4096) (e : Fin 2048) : EReal := G m c (ix2 r ⟨2048 + e.val, by omega⟩)
def pa (c : Dev nD) (r : Fin 4096) (e : Fin 2048) : EReal := PA m c (ix2 r e)
def pb (c : Dev nD) (r : Fin 4096) (e : Fin 2048) : EReal := PB m c (ix2 r e)

/-- Where each window stands at point `t`: column block `t / 4`, row block `t % 4`. -/
theorem idx : ∀ t : Fin cfg0.N,
    (win0_0.index t 0 = t.val % 4 ∧ win0_0.index t 1 = 0) ∧ (win0_1.index t 0 = t.val / 4 ∧ win0_1.index t 1 = 0)
    ∧ (win0_2.index t 0 = t.val % 4 ∧ win0_2.index t 1 = t.val / 4) ∧ (win0_3.index t 0 = t.val % 4 ∧ win0_3.index t 1 = 4 + t.val / 4)
    ∧ (win0_4.index t 0 = t.val % 4 ∧ win0_4.index t 1 = t.val / 4) ∧ (win0_5.index t 0 = t.val % 4 ∧ win0_5.index t 1 = t.val / 4)
    ∧ (win0_6.index t 0 = t.val % 4 ∧ win0_6.index t 1 = t.val / 4) ∧ (win0_7.index t 0 = t.val % 4 ∧ win0_7.index t 1 = t.val / 4)
    ∧ (win0_8.index t 0 = 0 ∧ win0_8.index t 1 = t.val % 4 ∧ win0_8.index t 2 = t.val / 4)
    ∧ (win0_9.index t 0 = 0 ∧ win0_9.index t 1 = t.val / 4) ∧ (win0_10.index t 0 = 0 ∧ win0_10.index t 1 = t.val / 4) :=
  (by decide +kernel : ∀ t : Fin grid0.N, _)

theorem lt16 (t : Fin cfg0.N) : t.val < 16 := lt_of_lt_of_eq t.isLt N_0

/-- Row `r` of the point's row block, column `e` of its column block. -/
abbrev row (t : Fin cfg0.N) (r : Fin 1024) : Fin 4096 := ⟨1024 * (t.val % 4) + r.val, by have := r.isLt; omega⟩
abbrev col (t : Fin cfg0.N) (e : Fin 512) : Fin 2048 := ⟨512 * (t.val / 4) + e.val, by have := e.isLt; have := lt16 t; omega⟩

theorem blk0 (c : Dev nD) (t : Fin cfg0.N) (r : Fin 1024) (k : Fin 2048) : (iblk m c 0 t : Vec Ideal S1024x2048 .bf16) (ix2 r k) = X m c (ix2 (row t r) k) := by
  obtain ⟨⟨h0, h1⟩, -⟩ := idx t
  unfold iblk; rw [View.read_apply]
  show V m c main_arg5 _ = V m c main_arg5 _
  congr 1; funext a; apply Fin.ext
  match a with
  | ⟨0, _⟩ => show win0_0.index t 0 * 1024 + 1 * r.val = _; rw [h0]; show _ = 1024 * (t.val % 4) + r.val; omega
  | ⟨1, _⟩ => show win0_0.index t 1 * 2048 + 1 * k.val = k.val; rw [h1]; omega

theorem blk1 (c : Dev nD) (t : Fin cfg0.N) (e : Fin 512) (k : Fin 2048) : (iblk m c 1 t : Vec Ideal S512x2048 .bf16) (ix2 e k) = W m c (ix2 (col t e) k) := by
  obtain ⟨-, ⟨h0, h1⟩, -⟩ := idx t
  unfold iblk; rw [View.read_apply]
  show V m c main_arg4 _ = V m c main_arg4 _
  congr 1; funext a; apply Fin.ext
  match a with
  | ⟨0, _⟩ => show win0_1.index t 0 * 512 + 1 * e.val = _; rw [h0]; show _ = 512 * (t.val / 4) + e.val; omega
  | ⟨1, _⟩ => show win0_1.index t 1 * 2048 + 1 * k.val = k.val; rw [h1]; omega

theorem blk2 (c : Dev nD) (t : Fin cfg0.N) (r : Fin 1024) (e : Fin 512) : (iblk m c 2 t : Vec Ideal S1024x512 .bf16) (ix2 r e) = ga m c (row t r) (col t e) := by
  obtain ⟨-, -, ⟨h0, h1⟩, -⟩ := idx t
  unfold iblk ga; rw [View.read_apply]
  show V m c main_v8 _ = V m c main_v8 _
  congr 1; funext a; apply Fin.ext
  match a with
  | ⟨0, _⟩ => show win0_2.index t 0 * 1024 + 1 * r.val = _; rw [h0]; show _ = 1024 * (t.val % 4) + r.val; omega
  | ⟨1, _⟩ => show win0_2.index t 1 * 512 + 1 * e.val = _; rw [h1]; show _ = 512 * (t.val / 4) + e.val; omega

theorem blk3 (c : Dev nD) (t : Fin cfg0.N) (r : Fin 1024) (e : Fin 512) : (iblk m c 3 t : Vec Ideal S1024x512 .bf16) (ix2 r e) = gb m c (row t r) (col t e) := by
  obtain ⟨-, -, -, ⟨h0, h1⟩, -⟩ := idx t
  unfold iblk gb; rw [View.read_apply]
  show V m c main_v8 _ = V m c main_v8 _
  congr 1; funext a; apply Fin.ext
  match a with
  | ⟨0, _⟩ => show win0_3.index t 0 * 1024 + 1 * r.val = _; rw [h0]; show _ = 1024 * (t.val % 4) + r.val; omega
  | ⟨1, _⟩ => show win0_3.index t 1 * 512 + 1 * e.val = _; rw [h1]; show _ = 2048 + (512 * (t.val / 4) + e.val); omega

theorem blk4 (c : Dev nD) (t : Fin cfg0.N) (r : Fin 1024) (e : Fin 512) : (iblk m c 4 t : Vec Ideal S1024x512 .bf16) (ix2 r e) = pa m c (row t r) (col t e) := by
  obtain ⟨-, -, -, -, ⟨h0, h1⟩, -⟩ := idx t
  unfold iblk pa; rw [View.read_apply]
  show V m c main_arg2 _ = V m c main_arg2 _
  congr 1; funext a; apply Fin.ext
  match a with
  | ⟨0, _⟩ => show win0_4.index t 0 * 1024 + 1 * r.val = _; rw [h0]; show _ = 1024 * (t.val % 4) + r.val; omega
  | ⟨1, _⟩ => show win0_4.index t 1 * 512 + 1 * e.val = _; rw [h1]; show _ = 512 * (t.val / 4) + e.val; omega

theorem blk5 (c : Dev nD) (t : Fin cfg0.N) (r : Fin 1024) (e : Fin 512) : (iblk m c 5 t : Vec Ideal S1024x512 .bf16) (ix2 r e) = pb m c (row t r) (col t e) := by
  obtain ⟨-, -, -, -, -, ⟨h0, h1⟩, -⟩ := idx t
  unfold iblk pb; rw [View.read_apply]
  show V m c main_arg3 _ = V m c main_arg3 _
  congr 1; funext a; apply Fin.ext
  match a with
  | ⟨0, _⟩ => show win0_5.index t 0 * 1024 + 1 * r.val = _; rw [h0]; show _ = 1024 * (t.val % 4) + r.val; omega
  | ⟨1, _⟩ => show win0_5.index t 1 * 512 + 1 * e.val = _; rw [h1]; show _ = 512 * (t.val / 4) + e.val; omega

/-- A block's `dm` is the array's `DM` at the block's place. -/
theorem dm_eq (c : Dev nD) (t : Fin cfg0.N) (r : Fin 1024) (e : Fin 512) :
    dm (iblk m c 0 t) (iblk m c 1 t) r e = DM (X m c) (W m c) (row t r) (col t e) := by
  unfold dm DM
  exact Finset.sum_congr rfl fun k _ => by rw [← blk0 m c t r k, ← blk1 m c t e k]

theorem dga_eq (c : Dev nD) (t : Fin cfg0.N) (r : Fin 1024) (e : Fin 512) :
    dg (iblk m c 0 t) (iblk m c 1 t) (iblk m c 2 t) (iblk m c 4 t) r e = DG (X m c) (W m c) (ga m c) (pa m c) (row t r) (col t e) := by
  unfold dg DG
  rw [dm_eq, ← blk2 m c t r e, ← blk4 m c t r e]

theorem dgb_eq (c : Dev nD) (t : Fin cfg0.N) (r : Fin 1024) (e : Fin 512) :
    dg (iblk m c 0 t) (iblk m c 1 t) (iblk m c 3 t) (iblk m c 5 t) r e = DG (X m c) (W m c) (gb m c) (pb m c) (row t r) (col t e) := by
  unfold dg DG
  rw [dm_eq, ← blk3 m c t r e, ← blk5 m c t r e]

/-! ## The result arrays -/

def R0 (c : Dev nD) : S4096x2048.Idx → EReal := fun i => DM (X m c) (W m c) (i 0) (i 1) * ga m c (i 0) (i 1)
def R1 (c : Dev nD) : S4096x2048.Idx → EReal := fun i => DM (X m c) (W m c) (i 0) (i 1) * gb m c (i 0) (i 1)
def R2 (c : Dev nD) : S2x4096x2048.Idx → EReal := fun i =>
  if (i 0).val = 0 then DG (X m c) (W m c) (ga m c) (pa m c) (i 1) (i 2) else DG (X m c) (W m c) (gb m c) (pb m c) (i 1) (i 2)
def R3 (c : Dev nD) : S1x2048.Idx → EReal := fun i => ∑ r : Fin 4096, DG (X m c) (W m c) (ga m c) (pa m c) r (i 1)
def R4 (c : Dev nD) : S1x2048.Idx → EReal := fun i => ∑ r : Fin 4096, DG (X m c) (W m c) (gb m c) (pb m c) r (i 1)

theorem cases (t : Fin cfg0.N) : (t.val % 4 = 0 ∧ ¬1 ≤ t.val % 4) ∨ (¬t.val % 4 = 0 ∧ 1 ≤ t.val % 4) := by omega

theorem after6 (c : Dev nD) (t : Fin cfg0.N) : (outsAt0 m c t.val t.isLt).1 = k0_pay9 (F := Ideal) (iblk m c 0 t) (iblk m c 1 t) (iblk m c 2 t) := by
  rcases cases t with ⟨h0, h1⟩ | ⟨h0, h1⟩
  · rw [outsAt0_A m c t h0 h1]; dsimp only; rw [out_A_6]
  · rw [outsAt0_B m c t h0 h1]; dsimp only; rw [out_B_6]

theorem after7 (c : Dev nD) (t : Fin cfg0.N) : (outsAt0 m c t.val t.isLt).2.1 = k0_pay10 (F := Ideal) (iblk m c 0 t) (iblk m c 1 t) (iblk m c 3 t) := by
  rcases cases t with ⟨h0, h1⟩ | ⟨h0, h1⟩
  · rw [outsAt0_A m c t h0 h1]; dsimp only; rw [out_A_7]
  · rw [outsAt0_B m c t h0 h1]; dsimp only; rw [out_B_7]

theorem after8 (c : Dev nD) (t : Fin cfg0.N) (s : Fin 2) (r : Fin 1024) (e : Fin 512) : (outsAt0 m c t.val t.isLt).2.2.1 (ix3 s r e)
    = if s.val = 0 then DG (X m c) (W m c) (ga m c) (pa m c) (row t r) (col t e) else DG (X m c) (W m c) (gb m c) (pb m c) (row t r) (col t e) := by
  rw [← dga_eq, ← dgb_eq]
  rcases cases t with ⟨h0, h1⟩ | ⟨h0, h1⟩
  · rw [outsAt0_A m c t h0 h1]; dsimp only; rw [out_A_8]
  · rw [outsAt0_B m c t h0 h1]; dsimp only; rw [out_B_8]

/-- The bias gradients' columns at the first row block … -/
theorem after9_A (c : Dev nD) (t : Fin cfg0.N) (h0 : t.val % 4 = 0) (e : Fin 512) : (outsAt0 m c t.val t.isLt).2.2.2.1 (ix2 0 e)
    = ∑ r : Fin 1024, DG (X m c) (W m c) (ga m c) (pa m c) (row t r) (col t e) := by
  rw [outsAt0_A m c t h0 (by omega)]; dsimp only; rw [out_A_9, pay2_apply]
  exact Finset.sum_congr rfl fun r _ => by rw [pay11_apply, dga_eq]

theorem after10_A (c : Dev nD) (t : Fin cfg0.N) (h0 : t.val % 4 = 0) (e : Fin 512) : (outsAt0 m c t.val t.isLt).2.2.2.2 (ix2 0 e)
    = ∑ r : Fin 1024, DG (X m c) (W m c) (gb m c) (pb m c) (row t r) (col t e) := by
  rw [outsAt0_A m c t h0 (by omega)]; dsimp only; rw [out_A_10, pay3_apply]
  exact Finset.sum_congr rfl fun r _ => by rw [pay12_apply, dgb_eq]

/-- … and at a later one: what the point before left and the block's column sums. -/
theorem after9_B (c : Dev nD) (t : Fin cfg0.N) (h0 : ¬t.val % 4 = 0) (e : Fin 512) : (outsAt0 m c t.val t.isLt).2.2.2.1 (ix2 0 e)
    = (outsAt0 m c (t.val - 1) (Nat.lt_of_le_of_lt (Nat.sub_le _ _) t.isLt)).2.2.2.1 (ix2 0 e)
      + ∑ r : Fin 1024, DG (X m c) (W m c) (ga m c) (pa m c) (row t r) (col t e) := by
  rw [outsAt0_B m c t h0 (by omega)]; dsimp only; rw [out_B_9, pay4_apply]
  exact congrArg (_ + ·) (Finset.sum_congr rfl fun r _ => by rw [pay11_apply, dga_eq])

theorem after10_B (c : Dev nD) (t : Fin cfg0.N) (h0 : ¬t.val % 4 = 0) (e : Fin 512) : (outsAt0 m c t.val t.isLt).2.2.2.2 (ix2 0 e)
    = (outsAt0 m c (t.val - 1) (Nat.lt_of_le_of_lt (Nat.sub_le _ _) t.isLt)).2.2.2.2 (ix2 0 e)
      + ∑ r : Fin 1024, DG (X m c) (W m c) (gb m c) (pb m c) (row t r) (col t e) := by
  rw [outsAt0_B m c t h0 (by omega)]; dsimp only; rw [out_B_10, pay5_apply]
  exact congrArg (_ + ·) (Finset.sum_congr rfl fun r _ => by rw [pay12_apply, dgb_eq])

/-- A function of the array's rows, summed over the first `n` rows. -/
def upTo (f : Fin 4096 → EReal) (n : ℕ) : EReal := ∑ i ∈ Finset.range n, if h : i < 4096 then f ⟨i, h⟩ else 0

theorem upTo_zero (f : Fin 4096 → EReal) : upTo f 0 = 0 := rfl

theorem upTo_add (f : Fin 4096 → EReal) (b : ℕ) (hb : b < 4) :
    upTo f (1024 * (b + 1)) = upTo f (1024 * b) + ∑ r : Fin 1024, f ⟨1024 * b + r.val, by have := r.isLt; omega⟩ := by
  unfold upTo
  rw [show 1024 * (b + 1) = 1024 * b + 1024 by ring, Finset.sum_range_add, ← Fin.sum_univ_eq_sum_range (fun k => if h : 1024 * b + k < 4096 then f ⟨1024 * b + k, h⟩ else 0) 1024]
  refine congrArg (_ + ·) (Finset.sum_congr rfl fun r _ => ?_)
  rw [dif_pos (by have := r.isLt; omega)]

theorem upTo_all (f : Fin 4096 → EReal) : upTo f 4096 = ∑ r : Fin 4096, f r := by
  unfold upTo
  rw [← Fin.sum_univ_eq_sum_range (fun k => if h : k < 4096 then f ⟨k, h⟩ else 0) 4096]
  exact Finset.sum_congr rfl fun r _ => by rw [dif_pos r.isLt]

/-- After row block `b` of a column block the bias gradient's buffer holds the column sums of the rows so far. -/
theorem after9 (c : Dev nD) (q : ℕ) : ∀ (b : ℕ) (hb : b < 4) (h : 4 * q + b < cfg0.N) (e : Fin 512),
    (outsAt0 m c (4 * q + b) h).2.2.2.1 (ix2 0 e)
      = upTo (fun r => DG (X m c) (W m c) (ga m c) (pa m c) r (col ⟨4 * q + b, h⟩ e)) (1024 * (b + 1))
  | 0, hb, h, e => by
    have := after9_A m c ⟨4 * q + 0, h⟩ (by show (4 * q + 0) % 4 = 0; omega) e
    refine this.trans ?_
    rw [upTo_add _ 0 (by omega), show upTo _ (1024 * 0) = 0 from rfl, zero_add]
    refine Finset.sum_congr rfl fun r _ => congrArg (DG (X m c) (W m c) (ga m c) (pa m c) · _) (Fin.ext ?_)
    show 1024 * ((4 * q + 0) % 4) + r.val = 0 + r.val; omega
  | b + 1, hb, h, e => by
    have := after9_B m c ⟨4 * q + (b + 1), h⟩ (by show ¬(4 * q + (b + 1)) % 4 = 0; omega) e
    refine this.trans ?_
    have hi := after9 c q b (by omega) (by omega) e
    rw [upTo_add _ (b + 1) (by omega)]
    have ec : col ⟨4 * q + b, by omega⟩ e = col ⟨4 * q + (b + 1), h⟩ e := Fin.ext (by
      show 512 * ((4 * q + b) / 4) + e.val = 512 * ((4 * q + (b + 1)) / 4) + e.val; omega)
    rw [ec] at hi
    refine congrArg₂ (· + ·) hi ?_
    refine Finset.sum_congr rfl fun r _ => congrArg (DG (X m c) (W m c) (ga m c) (pa m c) · _) (Fin.ext ?_)
    show 1024 * ((4 * q + (b + 1)) % 4) + r.val = 1024 * (b + 1) + r.val; omega

theorem after10 (c : Dev nD) (q : ℕ) : ∀ (b : ℕ) (hb : b < 4) (h : 4 * q + b < cfg0.N) (e : Fin 512),
    (outsAt0 m c (4 * q + b) h).2.2.2.2 (ix2 0 e)
      = upTo (fun r => DG (X m c) (W m c) (gb m c) (pb m c) r (col ⟨4 * q + b, h⟩ e)) (1024 * (b + 1))
  | 0, hb, h, e => by
    have := after10_A m c ⟨4 * q + 0, h⟩ (by show (4 * q + 0) % 4 = 0; omega) e
    refine this.trans ?_
    rw [upTo_add _ 0 (by omega), show upTo _ (1024 * 0) = 0 from rfl, zero_add]
    refine Finset.sum_congr rfl fun r _ => congrArg (DG (X m c) (W m c) (gb m c) (pb m c) · _) (Fin.ext ?_)
    show 1024 * ((4 * q + 0) % 4) + r.val = 0 + r.val; omega
  | b + 1, hb, h, e => by
    have := after10_B m c ⟨4 * q + (b + 1), h⟩ (by show ¬(4 * q + (b + 1)) % 4 = 0; omega) e
    refine this.trans ?_
    have hi := after10 c q b (by omega) (by omega) e
    rw [upTo_add _ (b + 1) (by omega)]
    have ec : col ⟨4 * q + b, by omega⟩ e = col ⟨4 * q + (b + 1), h⟩ e := Fin.ext (by
      show 512 * ((4 * q + b) / 4) + e.val = 512 * ((4 * q + (b + 1)) / 4) + e.val; omega)
    rw [ec] at hi
    refine congrArg₂ (· + ·) hi ?_
    refine Finset.sum_congr rfl fun r _ => congrArg (DG (X m c) (W m c) (gb m c) (pb m c) · _) (Fin.ext ?_)
    show 1024 * ((4 * q + (b + 1)) % 4) + r.val = 1024 * (b + 1) + r.val; omega

/-- What point `t` writes back to the first branch's gradient is its block of `R0`. -/
theorem flushed6 (c : Dev nD) (t : Fin cfg0.N) : (dats m 0 c).flushed 6 t = ((cfg0.win 6).blk t).view.read (Elt Ideal) (R0 m c) := by
  rw [Value.flushed6, after6]
  funext j
  obtain ⟨-, -, -, -, -, -, ⟨h0, h1⟩, -⟩ := idx t
  obtain ⟨r, e, rfl⟩ := Cert.Products.any2 1024 512 j
  rw [View.read_apply]
  have ei : ((cfg0.win 6).blk t).view.emb (ix2 r e) = ix2 (row t r) (col t e) := funext fun a => Fin.ext (by
    match a with
    | ⟨0, _⟩ => show win0_6.index t 0 * 1024 + 1 * r.val = 1024 * (t.val % 4) + r.val; rw [h0]; omega
    | ⟨1, _⟩ => show win0_6.index t 1 * 512 + 1 * e.val = 512 * (t.val / 4) + e.val; rw [h1]; omega)
  refine (pay9_apply _ _ _ r e).trans ?_
  rw [dm_eq, blk2]; exact (congrArg (R0 m c) ei).symm

theorem flushed7 (c : Dev nD) (t : Fin cfg0.N) : (dats m 0 c).flushed 7 t = ((cfg0.win 7).blk t).view.read (Elt Ideal) (R1 m c) := by
  rw [Value.flushed7, after7]
  funext j
  obtain ⟨-, -, -, -, -, -, -, ⟨h0, h1⟩, -⟩ := idx t
  obtain ⟨r, e, rfl⟩ := Cert.Products.any2 1024 512 j
  rw [View.read_apply]
  have ei : ((cfg0.win 7).blk t).view.emb (ix2 r e) = ix2 (row t r) (col t e) := funext fun a => Fin.ext (by
    match a with
    | ⟨0, _⟩ => show win0_7.index t 0 * 1024 + 1 * r.val = 1024 * (t.val % 4) + r.val; rw [h0]; omega
    | ⟨1, _⟩ => show win0_7.index t 1 * 512 + 1 * e.val = 512 * (t.val / 4) + e.val; rw [h1]; omega)
  refine (pay10_apply _ _ _ r e).trans ?_
  rw [dm_eq, blk3]; exact (congrArg (R1 m c) ei).symm

theorem flushed8 (c : Dev nD) (t : Fin cfg0.N) : (dats m 0 c).flushed 8 t = ((cfg0.win 8).blk t).view.read (Elt Ideal) (R2 m c) := by
  rw [Value.flushed8]
  funext j
  obtain ⟨-, -, -, -, -, -, -, -, ⟨h0, h1, h2⟩, -⟩ := idx t
  obtain ⟨s, r, e, rfl⟩ : ∃ (s : Fin 2) (r : Fin 1024) (e : Fin 512), j = ix3 s r e := ⟨j 0, j 1, j 2, eq_ix3 (n0 := 2) (n1 := 1024) (n2 := 512) j⟩
  rw [View.read_apply]
  have ei : ((cfg0.win 8).blk t).view.emb (ix3 s r e) = ix3 s (row t r) (col t e) := funext fun a => Fin.ext (by
    match a with
    | ⟨0, _⟩ => show win0_8.index t 0 * 2 + 1 * s.val = s.val; rw [h0]; omega
    | ⟨1, _⟩ => show win0_8.index t 1 * 1024 + 1 * r.val = 1024 * (t.val % 4) + r.val; rw [h1]; omega
    | ⟨2, _⟩ => show win0_8.index t 2 * 512 + 1 * e.val = 512 * (t.val / 4) + e.val; rw [h2]; omega)
  refine (after8 m c t s r e).trans ?_
  exact (congrArg (R2 m c) ei).symm

theorem flushed9 (c : Dev nD) (t : Fin cfg0.N) (hf : (cfg0.win 9).flush t = true) :
    (dats m 0 c).flushed 9 t = ((cfg0.win 9).blk t).view.read (Elt Ideal) (R3 m c) := by
  rw [Value.flushed9]
  funext j
  obtain ⟨-, -, -, -, -, -, -, -, -, ⟨h0, h1⟩, -⟩ := idx t
  have ht : t.val % 4 = 3 := (flush0_9 t).mp hf
  obtain ⟨s, e, rfl⟩ := Cert.Products.any2 1 512 j
  obtain rfl : s = 0 := Subsingleton.elim _ _
  rw [View.read_apply]
  have ei : ((cfg0.win 9).blk t).view.emb (ix2 0 e) = ix2 0 (col t e) := funext fun a => Fin.ext (by
    match a with
    | ⟨0, _⟩ => show win0_9.index t 0 * 1 + 1 * 0 = 0; rw [h0]
    | ⟨1, _⟩ => show win0_9.index t 1 * 512 + 1 * e.val = 512 * (t.val / 4) + e.val; rw [h1]; omega)
  have et : t.val = 4 * (t.val / 4) + 3 := by omega
  obtain ⟨n, hn⟩ := t
  dsimp only at et ht
  have h := after9 m c (n / 4) 3 (by omega) (by rw [← et]; exact hn) e
  simp only [← et] at h
  refine h.trans ?_
  rw [show 1024 * (3 + 1) = 4096 from rfl, upTo_all]
  exact (congrArg (R3 m c) ei).symm

theorem flushed10 (c : Dev nD) (t : Fin cfg0.N) (hf : (cfg0.win 10).flush t = true) :
    (dats m 0 c).flushed 10 t = ((cfg0.win 10).blk t).view.read (Elt Ideal) (R4 m c) := by
  rw [Value.flushed10]
  funext j
  obtain ⟨-, -, -, -, -, -, -, -, -, -, ⟨h0, h1⟩⟩ := idx t
  have ht : t.val % 4 = 3 := (flush0_10 t).mp hf
  obtain ⟨s, e, rfl⟩ := Cert.Products.any2 1 512 j
  obtain rfl : s = 0 := Subsingleton.elim _ _
  rw [View.read_apply]
  have ei : ((cfg0.win 10).blk t).view.emb (ix2 0 e) = ix2 0 (col t e) := funext fun a => Fin.ext (by
    match a with
    | ⟨0, _⟩ => show win0_10.index t 0 * 1 + 1 * 0 = 0; rw [h0]
    | ⟨1, _⟩ => show win0_10.index t 1 * 512 + 1 * e.val = 512 * (t.val / 4) + e.val; rw [h1]; omega)
  have et : t.val = 4 * (t.val / 4) + 3 := by omega
  obtain ⟨n, hn⟩ := t
  dsimp only at et ht
  have h := after10 m c (n / 4) 3 (by omega) (by rw [← et]; exact hn) e
  simp only [← et] at h
  refine h.trans ?_
  rw [show 1024 * (3 + 1) = 4096 from rfl, upTo_all]
  exact (congrArg (R4 m c) ei).symm

/-! ## The blocks tile the arrays -/

theorem cover6 (i : S4096x2048.Idx) : ∃ t : Fin cfg0.N, (cfg0.win 6).flush t = true ∧ i ∈ ((cfg0.win 6).blk t).view.set := by
  have hr : (i 0 : Nat) < 4096 := (i 0).isLt
  have hc : (i 1 : Nat) < 2048 := (i 1).isLt
  have hN : cfg0.N = 16 := N_0
  refine ⟨⟨4 * ((i 1 : Nat) / 512) + (i 0 : Nat) / 1024, by omega⟩, flush0_6 _, ?_⟩
  generalize ht : (⟨4 * ((i 1 : Nat) / 512) + (i 0 : Nat) / 1024, by omega⟩ : Fin cfg0.N) = t
  have tv : t.val = 4 * ((i 1 : Nat) / 512) + (i 0 : Nat) / 1024 := by rw [← ht]
  have h := (idx t).2.2.2.2.2.2.1
  show i ∈ ((View.whole main_v9_0).slice (win0_6.rect t)).set
  rw [View.set_slice_whole, Rect.mem_set_unit]
  intro a
  match a with
    | ⟨0, _⟩ => show win0_6.index t 0 * 1024 ≤ (i 0 : Nat) ∧ (i 0 : Nat) < win0_6.index t 0 * 1024 + 1024
                rw [h.1]; omega
    | ⟨1, _⟩ => show win0_6.index t 1 * 512 ≤ (i 1 : Nat) ∧ (i 1 : Nat) < win0_6.index t 1 * 512 + 512
                rw [h.2]; omega

theorem cover7 (i : S4096x2048.Idx) : ∃ t : Fin cfg0.N, (cfg0.win 7).flush t = true ∧ i ∈ ((cfg0.win 7).blk t).view.set := by
  have hr : (i 0 : Nat) < 4096 := (i 0).isLt
  have hc : (i 1 : Nat) < 2048 := (i 1).isLt
  have hN : cfg0.N = 16 := N_0
  refine ⟨⟨4 * ((i 1 : Nat) / 512) + (i 0 : Nat) / 1024, by omega⟩, flush0_7 _, ?_⟩
  generalize ht : (⟨4 * ((i 1 : Nat) / 512) + (i 0 : Nat) / 1024, by omega⟩ : Fin cfg0.N) = t
  have tv : t.val = 4 * ((i 1 : Nat) / 512) + (i 0 : Nat) / 1024 := by rw [← ht]
  have h := (idx t).2.2.2.2.2.2.2.1
  show i ∈ ((View.whole main_v9_1).slice (win0_7.rect t)).set
  rw [View.set_slice_whole, Rect.mem_set_unit]
  intro a
  match a with
    | ⟨0, _⟩ => show win0_7.index t 0 * 1024 ≤ (i 0 : Nat) ∧ (i 0 : Nat) < win0_7.index t 0 * 1024 + 1024
                rw [h.1]; omega
    | ⟨1, _⟩ => show win0_7.index t 1 * 512 ≤ (i 1 : Nat) ∧ (i 1 : Nat) < win0_7.index t 1 * 512 + 512
                rw [h.2]; omega

theorem cover8 (i : S2x4096x2048.Idx) : ∃ t : Fin cfg0.N, (cfg0.win 8).flush t = true ∧ i ∈ ((cfg0.win 8).blk t).view.set := by
  have hr : (i 1 : Nat) < 4096 := (i 1).isLt
  have hc : (i 2 : Nat) < 2048 := (i 2).isLt
  have hN : cfg0.N = 16 := N_0
  refine ⟨⟨4 * ((i 2 : Nat) / 512) + (i 1 : Nat) / 1024, by omega⟩, flush0_8 _, ?_⟩
  generalize ht : (⟨4 * ((i 2 : Nat) / 512) + (i 1 : Nat) / 1024, by omega⟩ : Fin cfg0.N) = t
  have tv : t.val = 4 * ((i 2 : Nat) / 512) + (i 1 : Nat) / 1024 := by rw [← ht]
  have h := (idx t).2.2.2.2.2.2.2.2.1
  show i ∈ ((View.whole main_v9_2).slice (win0_8.rect t)).set
  rw [View.set_slice_whole, Rect.mem_set_unit]
  intro a
  match a with
    | ⟨0, _⟩ => show win0_8.index t 0 * 2 ≤ (i 0 : Nat) ∧ (i 0 : Nat) < win0_8.index t 0 * 2 + 2
                rw [h.1]; have := (i 0).isLt; have : (i 0 : Nat) < 2 := (i 0).isLt; omega
    | ⟨1, _⟩ => show win0_8.index t 1 * 1024 ≤ (i 1 : Nat) ∧ (i 1 : Nat) < win0_8.index t 1 * 1024 + 1024
                rw [h.2.1]; omega
    | ⟨2, _⟩ => show win0_8.index t 2 * 512 ≤ (i 2 : Nat) ∧ (i 2 : Nat) < win0_8.index t 2 * 512 + 512
                rw [h.2.2]; omega

theorem cover9 (i : S1x2048.Idx) : ∃ t : Fin cfg0.N, (cfg0.win 9).flush t = true ∧ i ∈ ((cfg0.win 9).blk t).view.set := by
  have hc : (i 1 : Nat) < 2048 := (i 1).isLt
  have hN : cfg0.N = 16 := N_0
  refine ⟨⟨4 * ((i 1 : Nat) / 512) + 3, by omega⟩, (flush0_9 _).mpr (by show (4 * ((i 1 : Nat) / 512) + 3) % 4 = 3; omega), ?_⟩
  generalize ht : (⟨4 * ((i 1 : Nat) / 512) + 3, by omega⟩ : Fin cfg0.N) = t
  have tv : t.val = 4 * ((i 1 : Nat) / 512) + 3 := by rw [← ht]
  have h := (idx t).2.2.2.2.2.2.2.2.2.1
  show i ∈ ((View.whole main_v9_3).slice (win0_9.rect t)).set
  rw [View.set_slice_whole, Rect.mem_set_unit]
  intro a
  match a with
    | ⟨0, _⟩ => show win0_9.index t 0 * 1 ≤ (i 0 : Nat) ∧ (i 0 : Nat) < win0_9.index t 0 * 1 + 1
                rw [h.1]; have : (i 0 : Nat) < 1 := (i 0).isLt; omega
    | ⟨1, _⟩ => show win0_9.index t 1 * 512 ≤ (i 1 : Nat) ∧ (i 1 : Nat) < win0_9.index t 1 * 512 + 512
                rw [h.2]; omega

theorem cover10 (i : S1x2048.Idx) : ∃ t : Fin cfg0.N, (cfg0.win 10).flush t = true ∧ i ∈ ((cfg0.win 10).blk t).view.set := by
  have hc : (i 1 : Nat) < 2048 := (i 1).isLt
  have hN : cfg0.N = 16 := N_0
  refine ⟨⟨4 * ((i 1 : Nat) / 512) + 3, by omega⟩, (flush0_10 _).mpr (by show (4 * ((i 1 : Nat) / 512) + 3) % 4 = 3; omega), ?_⟩
  generalize ht : (⟨4 * ((i 1 : Nat) / 512) + 3, by omega⟩ : Fin cfg0.N) = t
  have tv : t.val = 4 * ((i 1 : Nat) / 512) + 3 := by rw [← ht]
  have h := (idx t).2.2.2.2.2.2.2.2.2.2
  show i ∈ ((View.whole main_v9_4).slice (win0_10.rect t)).set
  rw [View.set_slice_whole, Rect.mem_set_unit]
  intro a
  match a with
    | ⟨0, _⟩ => show win0_10.index t 0 * 1 ≤ (i 0 : Nat) ∧ (i 0 : Nat) < win0_10.index t 0 * 1 + 1
                rw [h.1]; have : (i 0 : Nat) < 1 := (i 0).isLt; omega
    | ⟨1, _⟩ => show win0_10.index t 1 * 512 ≤ (i 1 : Nat) ∧ (i 1 : Nat) < win0_10.index t 1 * 512 + 512
                rw [h.2]; omega

/-- The run, read: each result array at its function of the call's arrays, the arguments unchanged. -/
theorem run : θ_run defs (onTc (τ := τ) (main (F := Ideal))) ⟨m, fun _ => 0, ρ⟩ fun r => ∀ c : Dev nD,
      r.2.mem ((c : Thread nD τ).loc main_v9_0) = R0 m c
      ∧ r.2.mem ((c : Thread nD τ).loc main_v9_1) = R1 m c
      ∧ r.2.mem ((c : Thread nD τ).loc main_v9_2) = R2 m c
      ∧ r.2.mem ((c : Thread nD τ).loc main_v9_3) = R3 m c
      ∧ r.2.mem ((c : Thread nD τ).loc main_v9_4) = R4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨
      (h c).1.trans ((dats m 0 c).arrAt_eq_of_cover 6 (R0 m c) (fun t _ => flushed6 m c t) cover6),
      (h c).2.1.trans ((dats m 0 c).arrAt_eq_of_cover 7 (R1 m c) (fun t _ => flushed7 m c t) cover7),
      (h c).2.2.1.trans ((dats m 0 c).arrAt_eq_of_cover 8 (R2 m c) (fun t _ => flushed8 m c t) cover8),
      (h c).2.2.2.1.trans ((dats m 0 c).arrAt_eq_of_cover 9 (R3 m c) (flushed9 m c) cover9),
      (h c).2.2.2.2.1.trans ((dats m 0 c).arrAt_eq_of_cover 10 (R4 m c) (flushed10 m c) cover10),
      (h c).2.2.2.2.2⟩)
    (Value.run_blocks m ρ)

end Cert.KernelIdeal.Gate

end
-- ==== Proof.GateReference.lean ====
/-
  The reference of the gate gradient, read at an index (at the ideal values): with `M` the gradient of the merged
  activations and `s` the gates, the branch gradients are `s · M`, and a gate's pre-activation gradient is
  `(M · p) · (s · (1 - s))`, its column sums the gradient of the bias.
-/
module

public import proofs.«01_k».proof.Proof.Gen.ReferenceIdeal.Read
public import Idealize.ShloMosaic.Lib.KernelVsHost
public import Idealize.ShloMosaic.Lib.IdealHost
public import Idealize.ShloMosaic.Lib.ValueIdx

@[expose] public section

set_option maxRecDepth 16384

noncomputable section

namespace Cert.ReferenceIdeal.Gate

open Cert.ReferenceIdeal Cert.ReferenceIdeal.Gen Cert.ReferenceIdeal.Read
open Idealize.ShloMosaic
open Idealize.ShloMosaic.ValueIdx

variable (x0 : (⟨S4096x4096, .f32⟩ : BufTy).Contents (Elt Ideal)) (x1 : (⟨S1x4096, .f32⟩ : BufTy).Contents (Elt Ideal))
  (x2 x3 : (⟨S4096x2048, .bf16⟩ : BufTy).Contents (Elt Ideal)) (x4 : (⟨S2048x2048, .bf16⟩ : BufTy).Contents (Elt Ideal))
  (x5 : (⟨S4096x2048, .bf16⟩ : BufTy).Contents (Elt Ideal))

/-- The left and the right half of a row of the gate array. -/
abbrev lo (e : Fin 2048) : Fin 4096 := ⟨e.val, by omega⟩
abbrev hi (e : Fin 2048) : Fin 4096 := ⟨2048 + e.val, by omega⟩

/-- The gates' values. -/
abbrev s (r : Fin 4096) (e : Fin 4096) : EReal := val_main_v10 (F := Ideal) x0 x1 (ix2 r e)

/-- The gradient of the merged activations. -/
def M (r : Fin 4096) (e : Fin 2048) : EReal := ∑ k : Fin 2048, x5 (ix2 r k) * x4 (ix2 e k)

theorem v24 (r : Fin 4096) (e : Fin 2048) : val_main_v24 (F := Ideal) x4 x5 (ix2 r e) = M x4 x5 r e := by
  rw [val_main_v24_apply]; unfold M
  refine Finset.sum_congr rfl fun k _ => ?_
  show x5 _ * x4 _ = _
  congr 2
  · funext a; match a with | ⟨0, _⟩ => rfl | ⟨1, _⟩ => rfl
  · funext a; match a with | ⟨0, _⟩ => rfl | ⟨1, _⟩ => rfl

theorem v16 (r : Fin 4096) (e : Fin 2048) : val_main_v16 (F := Ideal) x0 x1 (ix2 r e) = s x0 x1 r (lo e) := by
  rw [val_main_v16_apply, val_main_v15_apply, val_main_v14_apply]
  have hr := r.isLt; have he := e.isLt
  refine congrArg _ (funext fun a => Fin.ext ?_)
  match a with
  | ⟨0, _⟩ => show (((r.val * 2048 + e.val) / 2048 * 2 + 0) * 2048 + (r.val * 2048 + e.val) % 2048) / 4096 = r.val; omega
  | ⟨1, _⟩ => show (((r.val * 2048 + e.val) / 2048 * 2 + 0) * 2048 + (r.val * 2048 + e.val) % 2048) % 4096 = e.val; omega

theorem v19 (r : Fin 4096) (e : Fin 2048) : val_main_v19 (F := Ideal) x0 x1 (ix2 r e) = s x0 x1 r (hi e) := by
  rw [val_main_v19_apply, val_main_v18_apply, val_main_v14_apply]
  have hr := r.isLt; have he := e.isLt
  refine congrArg _ (funext fun a => Fin.ext ?_)
  match a with
  | ⟨0, _⟩ => show (((r.val * 2048 + e.val) / 2048 * 2 + (1 + 0)) * 2048 + (r.val * 2048 + e.val) % 2048) / 4096 = r.val; omega
  | ⟨1, _⟩ => show (((r.val * 2048 + e.val) / 2048 * 2 + (1 + 0)) * 2048 + (r.val * 2048 + e.val) % 2048) % 4096 = 2048 + e.val; omega

/-- Results 0 and 1: the branches' gradients. -/
theorem v40 (r : Fin 4096) (e : Fin 2048) : val_main_v40 (F := Ideal) x0 x1 x4 x5 (ix2 r e) = s x0 x1 r (lo e) * M x4 x5 r e := by
  show val_main_v16 (F := Ideal) x0 x1 (ix2 r e) * val_main_v24 (F := Ideal) x4 x5 (ix2 r e) = _
  rw [v16, v24]

theorem v41 (r : Fin 4096) (e : Fin 2048) : val_main_v41 (F := Ideal) x0 x1 x4 x5 (ix2 r e) = s x0 x1 r (hi e) * M x4 x5 r e := by
  show val_main_v19 (F := Ideal) x0 x1 (ix2 r e) * val_main_v24 (F := Ideal) x4 x5 (ix2 r e) = _
  rw [v19, v24]

theorem v13 (r : Fin 4096) (e : Fin 4096) : val_main_v13 (F := Ideal) x0 x1 (ix2 r e) = s x0 x1 r e * (1 - s x0 x1 r e) := by
  show val_main_v10 (F := Ideal) x0 x1 (ix2 r e) * (val_main_v11 (F := Ideal) (ix2 r e) - val_main_v10 (F := Ideal) x0 x1 (ix2 r e)) = _
  rw [val_main_v11_apply]
  rw [show val_main_cst_1 (F := Ideal) (idx_main_v11 (ix2 r e)) = (1 : EReal) from Ideal.ofBits_one_f32]

/-- The two padded halves: zero outside the half's own rows. -/
theorem v28_lo (r : Fin 4096) (e : Fin 2048) : val_main_v28 (F := Ideal) x3 x4 x5 (ix3 r 0 e) = 0 := by
  unfold val_main_v28
  rw [pad_apply_of_not_inside _ _ _ _ _ _ _ _ (1 : Fin 3) (fun h => absurd (show 1 ≤ 0 from h.1) (by decide))]
  exact Ideal.ofBits_zero_f32

theorem v28_hi (r : Fin 4096) (e : Fin 2048) : val_main_v28 (F := Ideal) x3 x4 x5 (ix3 r 1 e) = M x4 x5 r e * x3 (ix2 r e) := by
  unfold val_main_v28
  rw [pad_apply_of_inside _ _ _ _ _ _ _ _ (ix3 r 0 e) (fun a => by
    match a with
    | ⟨0, _⟩ => show r.val = 0 + r.val * (0 + 1); omega
    | ⟨1, _⟩ => rfl
    | ⟨2, _⟩ => show e.val = 0 + e.val * (0 + 1); omega)]
  rw [val_main_v27_apply]
  show val_main_v24 (F := Ideal) x4 x5 _ * x3 _ = _
  rw [← v24]
  congr 2
  · funext a; match a with | ⟨0, _⟩ => rfl | ⟨1, _⟩ => rfl
  · funext a; match a with | ⟨0, _⟩ => rfl | ⟨1, _⟩ => rfl

theorem v32_lo (r : Fin 4096) (e : Fin 2048) : val_main_v32 (F := Ideal) x2 x4 x5 (ix3 r 0 e) = M x4 x5 r e * x2 (ix2 r e) := by
  unfold val_main_v32
  rw [pad_apply_of_inside _ _ _ _ _ _ _ _ (ix3 r 0 e) (fun a => by
    match a with
    | ⟨0, _⟩ => show r.val = 0 + r.val * (0 + 1); omega
    | ⟨1, _⟩ => rfl
    | ⟨2, _⟩ => show e.val = 0 + e.val * (0 + 1); omega)]
  rw [val_main_v31_apply]
  show val_main_v24 (F := Ideal) x4 x5 _ * x2 _ = _
  rw [← v24]
  congr 2
  · funext a; match a with | ⟨0, _⟩ => rfl | ⟨1, _⟩ => rfl
  · funext a; match a with | ⟨0, _⟩ => rfl | ⟨1, _⟩ => rfl

theorem v32_hi (r : Fin 4096) (e : Fin 2048) : val_main_v32 (F := Ideal) x2 x4 x5 (ix3 r 1 e) = 0 := by
  unfold val_main_v32
  rw [pad_apply_of_not_inside _ _ _ _ _ _ _ _ (1 : Fin 3) (fun h => absurd (show (1 - 0) / (0 + 1) < 1 from h.2.2) (by decide))]
  exact Ideal.ofBits_zero_f32

theorem v35_lo (r : Fin 4096) (e : Fin 2048) : val_main_v35 (F := Ideal) x0 x1 x2 x3 x4 x5 (ix2 r (lo e))
    = (M x4 x5 r e * x2 (ix2 r e)) * (s x0 x1 r (lo e) * (1 - s x0 x1 r (lo e))) := by
  show val_main_v34 (F := Ideal) x2 x3 x4 x5 (ix2 r (lo e)) * val_main_v13 (F := Ideal) x0 x1 (ix2 r (lo e)) = _
  rw [v13, val_main_v34_apply]
  have hr := r.isLt; have he := e.isLt
  rw [show idx_main_v34 (ix2 r (lo e)) = ix3 r 0 e from funext fun a => Fin.ext (by
    match a with
    | ⟨0, _⟩ => show (r.val * 4096 + e.val) / 4096 = r.val; omega
    | ⟨1, _⟩ => show (r.val * 4096 + e.val) / 2048 % 2 = 0; omega
    | ⟨2, _⟩ => show (r.val * 4096 + e.val) % 2048 = e.val; omega)]
  show (val_main_v28 (F := Ideal) x3 x4 x5 _ + val_main_v32 (F := Ideal) x2 x4 x5 _) * _ = _
  rw [v28_lo, v32_lo, zero_add]

theorem v35_hi (r : Fin 4096) (e : Fin 2048) : val_main_v35 (F := Ideal) x0 x1 x2 x3 x4 x5 (ix2 r (hi e))
    = (M x4 x5 r e * x3 (ix2 r e)) * (s x0 x1 r (hi e) * (1 - s x0 x1 r (hi e))) := by
  show val_main_v34 (F := Ideal) x2 x3 x4 x5 (ix2 r (hi e)) * val_main_v13 (F := Ideal) x0 x1 (ix2 r (hi e)) = _
  rw [v13, val_main_v34_apply]
  have hr := r.isLt; have he := e.isLt
  rw [show idx_main_v34 (ix2 r (hi e)) = ix3 r 1 e from funext fun a => Fin.ext (by
    match a with
    | ⟨0, _⟩ => show (r.val * 4096 + (2048 + e.val)) / 4096 = r.val; omega
    | ⟨1, _⟩ => show (r.val * 4096 + (2048 + e.val)) / 2048 % 2 = 1; omega
    | ⟨2, _⟩ => show (r.val * 4096 + (2048 + e.val)) % 2048 = e.val; omega)]
  show (val_main_v28 (F := Ideal) x3 x4 x5 _ + val_main_v32 (F := Ideal) x2 x4 x5 _) * _ = _
  rw [v28_hi, v32_hi, add_zero]

/-- Result 2: the gates' pre-activation gradients, stacked. -/
theorem v42_lo (r : Fin 4096) (e : Fin 2048) : val_main_v42 (F := Ideal) x0 x1 x2 x3 x4 x5 (ix3 0 r e)
    = (M x4 x5 r e * x2 (ix2 r e)) * (s x0 x1 r (lo e) * (1 - s x0 x1 r (lo e))) := by
  show val_main_v39 (F := Ideal) x0 x1 x2 x3 x4 x5 (ix3 0 r e) = _
  rw [val_main_v39_apply, val_main_v38_apply, ← v35_lo x0 x1 x2 x3 x4 x5]
  have hr := r.isLt; have he := e.isLt
  refine congrArg _ (funext fun a => Fin.ext ?_)
  match a with
  | ⟨0, _⟩ => show ((r.val * 2 + 0) * 2048 + e.val) / 4096 = r.val; omega
  | ⟨1, _⟩ => show ((r.val * 2 + 0) * 2048 + e.val) % 4096 = e.val; omega

theorem v42_hi (r : Fin 4096) (e : Fin 2048) : val_main_v42 (F := Ideal) x0 x1 x2 x3 x4 x5 (ix3 1 r e)
    = (M x4 x5 r e * x3 (ix2 r e)) * (s x0 x1 r (hi e) * (1 - s x0 x1 r (hi e))) := by
  show val_main_v39 (F := Ideal) x0 x1 x2 x3 x4 x5 (ix3 1 r e) = _
  rw [val_main_v39_apply, val_main_v38_apply, ← v35_hi x0 x1 x2 x3 x4 x5]
  have hr := r.isLt; have he := e.isLt
  refine congrArg _ (funext fun a => Fin.ext ?_)
  match a with
  | ⟨0, _⟩ => show ((r.val * 2 + 1) * 2048 + e.val) / 4096 = r.val; omega
  | ⟨1, _⟩ => show ((r.val * 2 + 1) * 2048 + e.val) % 4096 = 2048 + e.val; omega

theorem v37 (e : Fin 4096) : val_main_v37 (F := Ideal) x0 x1 x2 x3 x4 x5 (ix2 0 e)
    = ∑ r : Fin 4096, val_main_v35 (F := Ideal) x0 x1 x2 x3 x4 x5 (ix2 r e) := by
  rw [val_main_v37_apply, val_main_v36_apply]
  rw [show val_main_cst_4 (F := Ideal) (Shape.Idx.first h_S_) = (0 : EReal) from Ideal.ofBits_zero_f32, zero_add]
  refine Finset.sum_congr rfl fun r _ => congrArg _ (funext fun a => Fin.ext ?_)
  have he := e.isLt
  match a with
  | ⟨0, _⟩ => rfl
  | ⟨1, _⟩ => show 0 * 4096 + e.val = e.val; omega

/-- Results 3 and 4: the bias gradients. -/
theorem v43 (e : Fin 2048) : val_main_v43 (F := Ideal) x0 x1 x2 x3 x4 x5 (ix2 0 e)
    = ∑ r : Fin 4096, (M x4 x5 r e * x2 (ix2 r e)) * (s x0 x1 r (lo e) * (1 - s x0 x1 r (lo e))) := by
  rw [val_main_v43_apply, show idx_main_v43 (ix2 0 e) = ix2 0 (lo e) from funext fun a => Fin.ext (by
    match a with
    | ⟨0, _⟩ => rfl
    | ⟨1, _⟩ => rfl), v37]
  exact Finset.sum_congr rfl fun r _ => v35_lo ..

theorem v44 (e : Fin 2048) : val_main_v44 (F := Ideal) x0 x1 x2 x3 x4 x5 (ix2 0 e)
    = ∑ r : Fin 4096, (M x4 x5 r e * x3 (ix2 r e)) * (s x0 x1 r (hi e) * (1 - s x0 x1 r (hi e))) := by
  rw [val_main_v44_apply, show idx_main_v44 (ix2 0 e) = ix2 0 (hi e) from funext fun a => Fin.ext (by
    match a with
    | ⟨0, _⟩ => rfl
    | ⟨1, _⟩ => rfl), v37]
  exact Finset.sum_congr rfl fun r _ => v35_hi ..

end Cert.ReferenceIdeal.Gate

end
-- ==== Proof.GateEquation.lean ====
/-
  The gate gradient's equation: the kernel's result arrays are the reference's, at the ideal values.  The gates the
  kernel is given are those the reference computes; a pre-activation gradient differs only in how its four factors
  are bracketed and ordered, so nothing need be assumed of the arrays.
-/
module

public import proofs.«01_k».proof.Proof.GateArray
public import proofs.«01_k».proof.Proof.GateReference

@[expose] public section

set_option maxRecDepth 16384

noncomputable section

namespace Cert.KernelIdeal.Gate

open Cert.KernelIdeal Cert.KernelIdeal.Gen Idealize.ShloMosaic.TcCoe Idealize.SL.Sem
open Idealize.ShloMosaic hiding ix1 ix2 ix3 eq_ix1 eq_ix2 eq_ix3
open Idealize.ShloMosaic.ValueIdx
open Cert.ReferenceIdeal.Read (val_main_v10 val_main_v40 val_main_v41 val_main_v42 val_main_v43 val_main_v44)

variable (m : (ℓ : Loc nD τ sig) → Buf (Elt Ideal) ℓ)

/-- The arguments as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-- The gate array the host prepares is the reference's. -/
theorem gates (c : Dev nD) : G m c = val_main_v10 (F := Ideal) (a0 m c) (a1 m c) := by
  show StableHlo.after hostOps0 (fun b => m (c, b)) (Proc.devRef .tc main_v8) = _
  after_results_simp <;> rfl

theorem ga_eq (c : Dev nD) (r : Fin 4096) (e : Fin 2048) : ga m c r e = Cert.ReferenceIdeal.Gate.s (a0 m c) (a1 m c) r (Cert.ReferenceIdeal.Gate.lo e) := by
  unfold ga; rw [gates]
theorem gb_eq (c : Dev nD) (r : Fin 4096) (e : Fin 2048) : gb m c r e = Cert.ReferenceIdeal.Gate.s (a0 m c) (a1 m c) r (Cert.ReferenceIdeal.Gate.hi e) := by
  unfold gb; rw [gates]
theorem pa_eq (c : Dev nD) (r : Fin 4096) (e : Fin 2048) : pa m c r e = a2 m c (ix2 r e) := by unfold pa PA; rw [V_main_arg2]
theorem pb_eq (c : Dev nD) (r : Fin 4096) (e : Fin 2048) : pb m c r e = a3 m c (ix2 r e) := by unfold pb PB; rw [V_main_arg3]

theorem DM_eq (c : Dev nD) (r : Fin 4096) (e : Fin 2048) : DM (X m c) (W m c) r e = Cert.ReferenceIdeal.Gate.M (a4 m c) (a5 m c) r e := by
  unfold DM Cert.ReferenceIdeal.Gate.M X W; rw [V_main_arg4, V_main_arg5]

theorem DGa_eq (c : Dev nD) (r : Fin 4096) (e : Fin 2048) : DG (X m c) (W m c) (ga m c) (pa m c) r e
    = (Cert.ReferenceIdeal.Gate.M (a4 m c) (a5 m c) r e * a2 m c (ix2 r e))
      * (Cert.ReferenceIdeal.Gate.s (a0 m c) (a1 m c) r (Cert.ReferenceIdeal.Gate.lo e) * (1 - Cert.ReferenceIdeal.Gate.s (a0 m c) (a1 m c) r (Cert.ReferenceIdeal.Gate.lo e))) := by
  unfold DG; rw [DM_eq, ga_eq, pa_eq]; exact mul_assoc (G := EReal) _ _ _

theorem DGb_eq (c : Dev nD) (r : Fin 4096) (e : Fin 2048) : DG (X m c) (W m c) (gb m c) (pb m c) r e
    = (Cert.ReferenceIdeal.Gate.M (a4 m c) (a5 m c) r e * a3 m c (ix2 r e))
      * (Cert.ReferenceIdeal.Gate.s (a0 m c) (a1 m c) r (Cert.ReferenceIdeal.Gate.hi e) * (1 - Cert.ReferenceIdeal.Gate.s (a0 m c) (a1 m c) r (Cert.ReferenceIdeal.Gate.hi e))) := by
  unfold DG; rw [DM_eq, gb_eq, pb_eq]; exact mul_assoc (G := EReal) _ _ _

/-- The five equations. -/
theorem eq0 (c : Dev nD) : R0 m c = val_main_v40 (F := Ideal) (a0 m c) (a1 m c) (a4 m c) (a5 m c) := by
  funext i
  obtain ⟨r, e, rfl⟩ : ∃ (r : Fin 4096) (e : Fin 2048), i = ix2 r e := ⟨i 0, i 1, eq_ix2 i⟩
  refine Eq.trans ?_ (Cert.ReferenceIdeal.Gate.v40 _ _ _ _ r e).symm
  show DM (X m c) (W m c) r e * ga m c r e = _
  rw [DM_eq, ga_eq]; exact mul_comm (G := EReal) _ _

theorem eq1 (c : Dev nD) : R1 m c = val_main_v41 (F := Ideal) (a0 m c) (a1 m c) (a4 m c) (a5 m c) := by
  funext i
  obtain ⟨r, e, rfl⟩ : ∃ (r : Fin 4096) (e : Fin 2048), i = ix2 r e := ⟨i 0, i 1, eq_ix2 i⟩
  refine Eq.trans ?_ (Cert.ReferenceIdeal.Gate.v41 _ _ _ _ r e).symm
  show DM (X m c) (W m c) r e * gb m c r e = _
  rw [DM_eq, gb_eq]; exact mul_comm (G := EReal) _ _

theorem eq2 (c : Dev nD) : R2 m c = val_main_v42 (F := Ideal) (a0 m c) (a1 m c) (a2 m c) (a3 m c) (a4 m c) (a5 m c) := by
  funext i
  obtain ⟨q, r, e, rfl⟩ : ∃ (q : Fin 2) (r : Fin 4096) (e : Fin 2048), i = ix3 q r e := ⟨i 0, i 1, i 2, eq_ix3 i⟩
  match q with
  | ⟨0, _⟩ =>
    refine Eq.trans ?_ (Cert.ReferenceIdeal.Gate.v42_lo _ _ _ _ _ _ r e).symm
    exact (if_pos rfl).trans (DGa_eq m c r e)
  | ⟨1, _⟩ =>
    refine Eq.trans ?_ (Cert.ReferenceIdeal.Gate.v42_hi _ _ _ _ _ _ r e).symm
    exact (if_neg Nat.one_ne_zero).trans (DGb_eq m c r e)

theorem eq3 (c : Dev nD) : R3 m c = val_main_v43 (F := Ideal) (a0 m c) (a1 m c) (a2 m c) (a3 m c) (a4 m c) (a5 m c) := by
  funext i
  obtain ⟨q, e, rfl⟩ : ∃ (q : Fin 1) (e : Fin 2048), i = ix2 q e := ⟨i 0, i 1, eq_ix2 i⟩
  obtain rfl : q = 0 := Subsingleton.elim _ _
  refine Eq.trans ?_ (Cert.ReferenceIdeal.Gate.v43 _ _ _ _ _ _ e).symm
  exact Finset.sum_congr rfl fun r _ => DGa_eq m c r e

theorem eq4 (c : Dev nD) : R4 m c = val_main_v44 (F := Ideal) (a0 m c) (a1 m c) (a2 m c) (a3 m c) (a4 m c) (a5 m c) := by
  funext i
  obtain ⟨q, e, rfl⟩ : ∃ (q : Fin 1) (e : Fin 2048), i = ix2 q e := ⟨i 0, i 1, eq_ix2 i⟩
  obtain rfl : q = 0 := Subsingleton.elim _ _
  refine Eq.trans ?_ (Cert.ReferenceIdeal.Gate.v44 _ _ _ _ _ _ e).symm
  exact Finset.sum_congr rfl fun r _ => DGb_eq m c r e

end Cert.KernelIdeal.Gate

end
-- ==== Proof.MlpMath.lean ====
/-
  The squared-ReLU block and its gradients as functions of the block's arrays (at the ideal values): the one form in
  which the calls' results and the reference's are compared.
-/
module

public import proofs.«01_k».proof.Proof.Products

@[expose] public section

noncomputable section

namespace Cert.Mlp

open Cert.Products Idealize.ShloMosaic
open Idealize.ShloMosaic.ValueIdx

/-- The positive part, and the number two as the programs spell it. -/
def relu (z : EReal) : EReal := max z 0
def two : EReal := Ideal.ofBits .f32 0x40000000#32

variable (X H : (⟨2, ![4096, 2048]⟩ : Shape).Idx → EReal) (Wu : (⟨2, ![2048, 8192]⟩ : Shape).Idx → EReal)
  (Wd : (⟨2, ![8192, 2048]⟩ : Shape).Idx → EReal) (G : (⟨2, ![4096, 2048]⟩ : Shape).Idx → EReal)

/-- The activations: the squared positive parts of the first product. -/
def act : (⟨2, ![4096, 8192]⟩ : Shape).Idx → EReal := table fun r e => relu (rowCol H Wu r e) * relu (rowCol H Wu r e)

/-- The block's output: the residual input and the second product. -/
def out : (⟨2, ![4096, 2048]⟩ : Shape).Idx → EReal := table fun r e => X (ix2 r e) + rowCol (act H Wu) Wd r e

/-- The gradient of the pre-activations. -/
def du : (⟨2, ![4096, 8192]⟩ : Shape).Idx → EReal := table fun r e => rowRow G Wd r e * (two * relu (rowCol H Wu r e))

/-- The gradients of the second weight, of the first weight and of the block's input. -/
def dwd : (⟨2, ![8192, 2048]⟩ : Shape).Idx → EReal := table fun r e => colCol (act H Wu) G r e
def dwu : (⟨2, ![2048, 8192]⟩ : Shape).Idx → EReal := table fun r e => colCol H (du H Wu Wd G) r e
def dh : (⟨2, ![4096, 2048]⟩ : Shape).Idx → EReal := table fun r e => rowRow (du H Wu Wd G) Wu r e

/-- Where the positive part vanishes so does the gradient: the choice by sign changes nothing. -/
theorem choose_sign (z g : EReal) : (if 0 < z then g * (two * relu z) else 0) = g * (two * relu z) := by
  by_cases h : 0 < z
  · rw [if_pos h]
  · rw [if_neg h]; unfold relu; rw [max_eq_right (not_lt.mp h), mul_zero, mul_zero]

end Cert.Mlp

end
-- ==== Proof.MlpBlock.lean ====
/-
  One grid point of each of the six calls of the squared-ReLU block: what its body leaves in each output's staging
  buffer, as sums of products of the staged blocks' elements (at the ideal values).
-/
module

public import proofs.«01_k».proof.Proof.Gen.Kernel2Ideal.Frame
public import proofs.«01_k».proof.Proof.MlpMath
public import Idealize.ShloMosaic.Lib.Pipeline.Value
public import Idealize.ShloMosaic.Lib.Pointwise.Reduce
public import Idealize.ShloMosaic.Lib.Tactic

@[expose] public section

set_option maxRecDepth 16384

noncomputable section

namespace Cert.Kernel2Ideal.Block

open Cert.Kernel2Ideal Cert.Kernel2Ideal.Gen Cert.Products Idealize.ShloMosaic.TcCoe Idealize.SL.Sem
open Cert.Mlp (relu two)
open Idealize.ShloMosaic hiding ix1 ix2 ix3
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first product and the activation -/

theorem up_pay1 (x : Vec Ideal S1024x2048 .bf16) (w : Vec Ideal S1x2048x1024 .bf16) (r e : Fin 1024) :
    k0_pay1 (F := Ideal) x w (ix2 r e) = ∑ k : Fin 2048, x (ix2 r k) * w (ix3 0 k e) := by
  show FloatOps.matmul (F := Ideal) (φ₁ := .bf16) (φ₂ := .bf16) (DotDims.plain 1024 2048 1024) none x
    (shapeCast S2048x1024 w shapeCasts_S1x2048x1024_S2048x1024) (constant S1024x1024 .f32 0x00000000#32) (ix2 r e) = _
  refine (plain_zero _ _ r e).trans (Finset.sum_congr rfl fun k _ => congrArg (x (ix2 r k) * ·) ?_)
  exact shapeCast_apply _ _ _ (ix3 0 k e) (by simp [Shape.rowMajor_val_two, Shape.rowMajor_val_three])

theorem up_out2 (x : Vec Ideal S1024x2048 .bf16) (w : Vec Ideal S1x2048x1024 .bf16) (r e : Fin 1024) :
    out0_2 (F := Ideal) x w (ix2 r e) = ∑ k : Fin 2048, x (ix2 r k) * w (ix3 0 k e) := by
  unfold out0_2
  rw [View.canon_unit_zero hz2, View.ld_unit_zero (S := S1024x2048) hz2, View.ld_unit_zero (S := S1x2048x1024) hz3]
  exact up_pay1 x w r e

theorem up_out3 (x : Vec Ideal S1024x2048 .bf16) (w : Vec Ideal S1x2048x1024 .bf16) (r e : Fin 1024) :
    out0_3 (F := Ideal) x w (ix2 r e)
      = relu (∑ k : Fin 2048, x (ix2 r k) * w (ix3 0 k e)) * relu (∑ k : Fin 2048, x (ix2 r k) * w (ix3 0 k e)) := by
  unfold out0_3
  rw [View.canon_unit_zero hz2, View.ld_unit_zero (S := S1024x2048) hz2, View.ld_unit_zero (S := S1x2048x1024) hz3]
  show max (k0_pay1 (F := Ideal) x w (ix2 r e)) (Ideal.ofBits .f32 0x00000000#32) * max (k0_pay1 (F := Ideal) x w (ix2 r e)) (Ideal.ofBits .f32 0x00000000#32) = _
  rw [up_pay1, zero_word]; rfl

/-! ## The second product and the residual -/

theorem down_out (a : Vec Ideal S256x8192 .bf16) (w : Vec Ideal S8192x1024 .bf16) (x : Vec Ideal S256x1024 .f32) (r : Fin 256) (e : Fin 1024) :
    out1_3 (F := Ideal) a w x (ix2 r e) = x (ix2 r e) + ∑ k : Fin 8192, a (ix2 r k) * w (ix2 k e) := by
  unfold out1_3
  rw [View.canon_unit_zero hz2, View.ld_unit_zero (S := S256x8192) hz2, View.ld_unit_zero (S := S8192x1024) hz2, View.ld_unit_zero (S := S256x1024) hz2]
  unfold k1_pay1
  rw [shapeCast_self, shapeCast_self]
  show x (ix2 r e) + FloatOps.matmul (F := Ideal) (φ₁ := .bf16) (φ₂ := .bf16) (DotDims.plain 256 8192 1024) none a w (constant S256x1024 .f32 0x00000000#32) (ix2 r e) = _
  rw [plain_zero]

/-! ## The gradient through the second product and the activation -/

theorem downDx_out (g w : Vec Ideal S1024x2048 .bf16) (u : Vec Ideal S1024x1024 .bf16) (r e : Fin 1024) :
    out2_3 (F := Ideal) g w u (ix2 r e) = (∑ k : Fin 2048, g (ix2 r k) * w (ix2 e k)) * (two * relu (u (ix2 r e))) := by
  unfold out2_3
  rw [View.canon_unit_zero hz2]; simp only [View.ld_unit_zero (S := S1024x2048) hz2, View.ld_unit_zero (S := S1024x1024) hz2]
  unfold k2_pay1
  rw [shapeCast_self, shapeCast_self]
  show FloatOps.matmul (F := Ideal) (φ₁ := .bf16) (φ₂ := .bf16) (DotDims.transposedRhs 1024 2048 1024) none g w (constant S1024x1024 .f32 0x00000000#32) (ix2 r e)
    * (Ideal.ofBits .f32 0x40000000#32 * max (u (ix2 r e)) (Ideal.ofBits .f32 0x00000000#32)) = _
  rw [right_zero, zero_word]; rfl

/-! ## The gradients of the two weights -/

theorem downDw_out (a : Vec Ideal S4096x512 .bf16) (g : Vec Ideal S4096x1024 .bf16) (r : Fin 512) (e : Fin 1024) :
    out3_2 (F := Ideal) a g (ix2 r e) = ∑ k : Fin 4096, a (ix2 k r) * g (ix2 k e) := by
  unfold out3_2
  rw [View.canon_unit_zero hz2, View.ld_unit_zero (S := S4096x512) hz2, View.ld_unit_zero (S := S4096x1024) hz2]
  unfold k3_pay1
  rw [shapeCast_self]
  exact left_zero (φ₁ := .bf16) (φ₂ := .bf16) dot_S4096x512_S4096x1024_S512x1024_0_0_1_1_n_n_wf a g r e

theorem upDw_out (h : Vec Ideal S4096x512 .bf16) (g : Vec Ideal S4096x1024 .bf16) (r : Fin 512) (e : Fin 1024) :
    out4_2 (F := Ideal) h g (ix3 0 r e) = ∑ k : Fin 4096, h (ix2 k r) * g (ix2 k e) := by
  unfold out4_2
  rw [View.canon_unit_zero hz3, View.ld_unit_zero (S := S4096x512) hz2, View.ld_unit_zero (S := S4096x1024) hz2]
  unfold k4_pay1
  rw [shapeCast_self]
  refine (shapeCast_apply _ _ _ (ix2 r e) (by simp [Shape.rowMajor_val_two, Shape.rowMajor_val_three])).trans ?_
  exact left_zero (φ₁ := .bf16) (φ₂ := .bf16) dot_S4096x512_S4096x1024_S512x1024_0_0_1_1_n_n_wf h g r e

/-! ## The gradient of the block's input: eight runs of columns, one per shard of the weight -/

/-- One run: a slice of the gradient's columns against one shard of the weight. -/
def run (g : S512x8192.Idx → EReal) (w : S8x512x1024.Idx → EReal) (r e : Fin 512) (s : Fin 8) : EReal :=
  ∑ k : Fin 1024, g (ix2 r ⟨1024 * s.val + k.val, by have := s.isLt; have := k.isLt; omega⟩) * w (ix3 s e k)

theorem run_apply (g : Vec Ideal S512x8192 .bf16) (w : Vec Ideal S8x512x1024 .bf16) (r e : Fin 512) (s : Fin 8)
    (h1 : S512x8192.Slices ![0, 1024 * s.val] S512x1024) (h2 : S8x512x1024.Slices ![s.val, 0, 0] S1x512x1024) :
    matmul (F := Ideal) dot_S512x1024_S512x1024_S512x512_1_1_0_0_n_n none (extractStridedSlice S512x1024 ![0, 1024 * s.val] g h1 : FVec Ideal S512x1024 .bf16)
      (shapeCast S512x1024 (extractStridedSlice S1x512x1024 ![s.val, 0, 0] w h2) shapeCasts_S1x512x1024_S512x1024 : FVec Ideal S512x1024 .bf16)
      (constant S512x512 .f32 0x00000000#32) (ix2 r e) = run g w r e s := by
  refine (right_zero (φ₁ := .bf16) (φ₂ := .bf16) _ _ r e).trans (Finset.sum_congr rfl fun k _ => congrArg₂ (· * ·) ?_ ?_)
  · show g _ = g _
    congr 1; funext a; apply Fin.ext
    match a with
    | ⟨0, _⟩ => show 0 + r.val = r.val; omega
    | ⟨1, _⟩ => rfl
  · refine (shapeCast_apply _ _ _ (ix3 0 e k) (by simp [Shape.rowMajor_val_two, Shape.rowMajor_val_three])).trans ?_
    show w _ = w _
    congr 1; funext a; apply Fin.ext
    match a with
    | ⟨0, _⟩ => show s.val + 0 = s.val; omega
    | ⟨1, _⟩ => show 0 + e.val = e.val; omega
    | ⟨2, _⟩ => show 0 + k.val = k.val; omega

theorem upDx_out (g : Vec Ideal S512x8192 .bf16) (w : Vec Ideal S8x512x1024 .bf16) (r e : Fin 512) :
    out5_2 (F := Ideal) g w (ix2 r e) = ∑ s : Fin 8, run g w r e s := by
  unfold out5_2
  rw [View.canon_unit_zero hz2, View.ld_unit_zero (S := S512x8192) hz2, View.ld_unit_zero (S := S8x512x1024) hz3]
  unfold k5_pay1
  rw [shapeCast_self, shapeCast_self, Fin.sum_univ_eight]
  show (_ : EReal) + (_ : EReal) + (_ : EReal) + (_ : EReal) + (_ : EReal) + (_ : EReal) + (_ : EReal) + (_ : EReal) = (_ : EReal)
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact run_apply g w r e 0 _ _
  · exact run_apply g w r e 1 _ _
  · exact run_apply g w r e 2 _ _
  · exact run_apply g w r e 3 _ _
  · exact run_apply g w r e 4 _ _
  · exact run_apply g w r e 5 _ _
  · exact run_apply g w r e 6 _ _
  · exact run_apply g w r e 7 _ _

end Cert.Kernel2Ideal.Block

end
-- ==== Proof.MlpForward.lean ====
/-
  The two forward calls of the squared-ReLU block as whole arrays, and the gradient through the second product: what
  each call leaves in its output arrays, as a function of the arrays it is entered with (at the ideal values).
-/
module

public import proofs.«01_k».proof.Proof.MlpBlock

@[expose] public section

set_option maxRecDepth 16384

noncomputable section

namespace Cert.Kernel2Ideal.Mlp

open Cert.Kernel2Ideal Cert.Kernel2Ideal.Gen Cert.Kernel2Ideal.Block Cert.Products Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

open Cert.Mlp (relu two)

/-- Column `k` of shard `s`, as a column of the whole weight. -/
abbrev shardCol (s : Fin 8) (k : Fin 1024) : Fin 8192 := ⟨1024 * s.val + k.val, by have := s.isLt; have := k.isLt; omega⟩

/-- The first product, its weight in eight shards of columns. -/
def upAt (H : S4096x2048.Idx → EReal) (W : S8x2048x1024.Idx → EReal) (r : Fin 4096) (e : Fin 8192) : EReal :=
  ∑ k : Fin 2048, H (ix2 r k) * W (ix3 ⟨e.val / 1024, by have := e.isLt; omega⟩ k ⟨e.val % 1024, by omega⟩)

/-- The same over one block. -/
def upSum (x : S1024x2048.Idx → EReal) (w : S1x2048x1024.Idx → EReal) (r e : Fin 1024) : EReal := ∑ k : Fin 2048, x (ix2 r k) * w (ix3 0 k e)

/-- A residual input and an addend. -/
def plusAt (X : S4096x2048.Idx → EReal) (s : EReal) (r : Fin 4096) (e : Fin 2048) : EReal := X (ix2 r e) + s

/-- A gradient sent back through the squared positive part of `U`. -/
def backAt (s : EReal) (U : S4096x8192.Idx → EReal) (r : Fin 4096) (e : Fin 8192) : EReal := s * (two * relu (U (ix2 r e)))

/-- A gradient's row against a row of the first weight, shard by shard. -/
def shardSum (G : S4096x8192.Idx → EReal) (W : S8x2048x1024.Idx → EReal) (r : Fin 4096) (e : Fin 2048) : EReal :=
  ∑ s : Fin 8, ∑ k : Fin 1024, G (ix2 r (shardCol s k)) * W (ix3 s e k)

variable (V : (c : Dev nD) → (b : Ref sig .tc) → Buf (Elt Ideal) ((c : Thread nD τ).loc b))

/-! ## Call 0 -/

theorem idx0 : ∀ t : Fin cfg0.N,
    (win0_0.index t 0 = t.val / 8 ∧ win0_0.index t 1 = 0)
    ∧ (win0_1.index t 0 = t.val % 8 ∧ win0_1.index t 1 = 0 ∧ win0_1.index t 2 = 0)
    ∧ (win0_2.index t 0 = t.val / 8 ∧ win0_2.index t 1 = t.val % 8)
    ∧ (win0_3.index t 0 = t.val / 8 ∧ win0_3.index t 1 = t.val % 8) :=
  (by decide +kernel : ∀ t : Fin grid0.N, _)

theorem lt0 (t : Fin cfg0.N) : t.val < 32 := lt_of_lt_of_eq t.isLt N_0

theorem blk0_0 (c : Dev nD) (t : Fin cfg0.N) (p0 : Fin 1024) (p1 : Fin 2048) (q : S4096x2048.Idx)
    (h0 : (q 0).val = 1024 * (t.val / 8) + p0.val) (h1 : (q 1).val = p1.val) :
    (iblk0 V c 0 t : Vec Ideal S1024x2048 .bf16) (ix2 p0 p1) = (V c main_arg1 : S4096x2048.Idx → EReal) q := by
  obtain ⟨⟨i0, i1⟩, -⟩ := idx0 t
  unfold iblk0; rw [View.read_apply]
  show V c main_arg1 _ = V c main_arg1 q
  congr 1; funext a; apply Fin.ext
  match a with
  | ⟨0, _⟩ => show win0_0.index t 0 * 1024 + 1 * p0.val = (q 0).val; rw [i0, h0]; omega
  | ⟨1, _⟩ => show win0_0.index t 1 * 2048 + 1 * p1.val = (q 1).val; rw [i1, h1]; omega

theorem blk0_1 (c : Dev nD) (t : Fin cfg0.N) (p0 : Fin 1) (p1 : Fin 2048) (p2 : Fin 1024) (q : S8x2048x1024.Idx)
    (h0 : (q 0).val = 1 * (t.val % 8) + p0.val) (h1 : (q 1).val = p1.val) (h2 : (q 2).val = p2.val) :
    (iblk0 V c 1 t : Vec Ideal S1x2048x1024 .bf16) (ix3 p0 p1 p2) = (V c main_v2 : S8x2048x1024.Idx → EReal) q := by
  obtain ⟨-, ⟨i0, i1, i2⟩, -⟩ := idx0 t
  unfold iblk0; rw [View.read_apply]
  show V c main_v2 _ = V c main_v2 q
  congr 1; funext a; apply Fin.ext
  match a with
  | ⟨0, _⟩ => show win0_1.index t 0 * 1 + 1 * p0.val = (q 0).val; rw [i0, h0]; omega
  | ⟨1, _⟩ => show win0_1.index t 1 * 2048 + 1 * p1.val = (q 1).val; rw [i1, h1]; omega
  | ⟨2, _⟩ => show win0_1.index t 2 * 1024 + 1 * p2.val = (q 2).val; rw [i2, h2]; omega

theorem up_block (c : Dev nD) (t : Fin cfg0.N) (r e : Fin 1024) : upSum (iblk0 V c 0 t) (iblk0 V c 1 t) r e
      = upAt (V c main_arg1) (V c main_v2) ⟨1024 * (t.val / 8) + r.val, by have := lt0 t; have := r.isLt; omega⟩ ⟨1024 * (t.val % 8) + e.val, by have := lt0 t; have := e.isLt; omega⟩ := by
  unfold upSum upAt
  refine Finset.sum_congr rfl fun k _ => congrArg₂ (fun a b : EReal => a * b) (blk0_0 V c t r k _ rfl rfl) ?_
  exact blk0_1 V c t 0 k e _ (by show (1024 * (t.val % 8) + e.val) / 1024 = 1 * (t.val % 8) + 0; have := e.isLt; omega) rfl
      (by show (1024 * (t.val % 8) + e.val) % 1024 = e.val; have := e.isLt; omega)

/-- The pre-activations. -/
def R0_2 (c : Dev nD) : S4096x8192.Idx → EReal := fun i => upAt (V c main_arg1) (V c main_v2) (i 0) (i 1)

theorem flushed0_2 (c : Dev nD) (t : Fin cfg0.N) : (dat0 V c).flushed 2 t = ((cfg0.win 2).blk t).view.read (Elt Ideal) (R0_2 V c) := by
  show (cfg0.win 2).cut (grid0.coords t) ((dat0 V c).after 2 t) = _
  rw [after0_2]; funext j
  obtain ⟨-, -, ⟨i0, i1⟩, -⟩ := idx0 t
  obtain ⟨r, e, rfl⟩ := any2 1024 1024 j
  rw [View.read_apply]
  have ei : ((cfg0.win 2).blk t).view.emb (ix2 r e) = (ix2 ⟨1024 * (t.val / 8) + r.val, by have := lt0 t; have := r.isLt; omega⟩ ⟨1024 * (t.val % 8) + e.val, by have := lt0 t; have := e.isLt; omega⟩) := funext fun a => Fin.ext (by
    match a with
    | ⟨0, _⟩ => show win0_2.index t 0 * 1024 + 1 * r.val = 1024 * (t.val / 8) + r.val; rw [i0]; omega
    | ⟨1, _⟩ => show win0_2.index t 1 * 1024 + 1 * e.val = 1024 * (t.val % 8) + e.val; rw [i1]; omega)
  refine (up_out2 _ _ r e).trans ?_
  refine Eq.trans ?_ (congrArg (R0_2 V c) ei).symm
  exact up_block V c t r e

theorem cover0_2 (i : S4096x8192.Idx) : ∃ t : Fin cfg0.N, (cfg0.win 2).flush t = true ∧ i ∈ ((cfg0.win 2).blk t).view.set := by
  have b0 : (i 0 : Nat) < 4096 := (i 0).isLt
  have b1 : (i 1 : Nat) < 8192 := (i 1).isLt
  have hN : cfg0.N = 32 := N_0
  refine ⟨⟨8 * ((i 0 : Nat) / 1024) + (i 1 : Nat) / 1024, by omega⟩, flush0_2 _, ?_⟩
  generalize ht : (⟨8 * ((i 0 : Nat) / 1024) + (i 1 : Nat) / 1024, by omega⟩ : Fin cfg0.N) = t
  have tv : t.val = 8 * ((i 0 : Nat) / 1024) + (i 1 : Nat) / 1024 := by rw [← ht]
  obtain ⟨-, -, ⟨i0, i1⟩, -⟩ := idx0 t
  show i ∈ ((View.whole main_v4_0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [i0]; omega
  | ⟨1, _⟩ => show win0_2.index t 1 * 1024 ≤ (i 1 : Nat) ∧ (i 1 : Nat) < win0_2.index t 1 * 1024 + 1024
              rw [i1]; omega

theorem arr0_2 (c : Dev nD) : (dat0 V c).arrAt 2 cfg0.N = R0_2 V c :=
  (dat0 V c).arrAt_eq_of_cover 2 (R0_2 V c) (fun t _ => flushed0_2 V c t) cover0_2

/-- The squared positive parts. -/
def R0_3 (c : Dev nD) : S4096x8192.Idx → EReal := fun i => relu (upAt (V c main_arg1) (V c main_v2) (i 0) (i 1)) * relu (upAt (V c main_arg1) (V c main_v2) (i 0) (i 1))

theorem flushed0_3 (c : Dev nD) (t : Fin cfg0.N) : (dat0 V c).flushed 3 t = ((cfg0.win 3).blk t).view.read (Elt Ideal) (R0_3 V c) := by
  show (cfg0.win 3).cut (grid0.coords t) ((dat0 V c).after 3 t) = _
  rw [after0_3]; funext j
  obtain ⟨-, -, -, ⟨i0, i1⟩⟩ := idx0 t
  obtain ⟨r, e, rfl⟩ := any2 1024 1024 j
  rw [View.read_apply]
  have ei : ((cfg0.win 3).blk t).view.emb (ix2 r e) = (ix2 ⟨1024 * (t.val / 8) + r.val, by have := lt0 t; have := r.isLt; omega⟩ ⟨1024 * (t.val % 8) + e.val, by have := lt0 t; have := e.isLt; omega⟩) := funext fun a => Fin.ext (by
    match a with
    | ⟨0, _⟩ => show win0_3.index t 0 * 1024 + 1 * r.val = 1024 * (t.val / 8) + r.val; rw [i0]; omega
    | ⟨1, _⟩ => show win0_3.index t 1 * 1024 + 1 * e.val = 1024 * (t.val % 8) + e.val; rw [i1]; omega)
  refine (up_out3 _ _ r e).trans ?_
  refine Eq.trans ?_ (congrArg (R0_3 V c) ei).symm
  exact congrArg (fun z : EReal => relu z * relu z) (up_block V c t r e)

theorem cover0_3 (i : S4096x8192.Idx) : ∃ t : Fin cfg0.N, (cfg0.win 3).flush t = true ∧ i ∈ ((cfg0.win 3).blk t).view.set := by
  have b0 : (i 0 : Nat) < 4096 := (i 0).isLt
  have b1 : (i 1 : Nat) < 8192 := (i 1).isLt
  have hN : cfg0.N = 32 := N_0
  refine ⟨⟨8 * ((i 0 : Nat) / 1024) + (i 1 : Nat) / 1024, by omega⟩, flush0_3 _, ?_⟩
  generalize ht : (⟨8 * ((i 0 : Nat) / 1024) + (i 1 : Nat) / 1024, by omega⟩ : Fin cfg0.N) = t
  have tv : t.val = 8 * ((i 0 : Nat) / 1024) + (i 1 : Nat) / 1024 := by rw [← ht]
  obtain ⟨-, -, -, ⟨i0, i1⟩⟩ := idx0 t
  show i ∈ ((View.whole main_v4_1).slice (win0_3.rect t)).set
  rw [View.set_slice_whole, Rect.mem_set_unit]
  intro a
  match a with
  | ⟨0, _⟩ => show win0_3.index t 0 * 1024 ≤ (i 0 : Nat) ∧ (i 0 : Nat) < win0_3.index t 0 * 1024 + 1024
              rw [i0]; omega
  | ⟨1, _⟩ => show win0_3.index t 1 * 1024 ≤ (i 1 : Nat) ∧ (i 1 : Nat) < win0_3.index t 1 * 1024 + 1024
              rw [i1]; omega

theorem arr0_3 (c : Dev nD) : (dat0 V c).arrAt 3 cfg0.N = R0_3 V c :=
  (dat0 V c).arrAt_eq_of_cover 3 (R0_3 V c) (fun t _ => flushed0_3 V c t) cover0_3

/-! ## Call 1 -/

theorem idx1 : ∀ t : Fin cfg1.N,
    (win1_0.index t 0 = t.val % 16 ∧ win1_0.index t 1 = 0)
    ∧ (win1_1.index t 0 = 0 ∧ win1_1.index t 1 = t.val / 16)
    ∧ (win1_2.index t 0 = t.val % 16 ∧ win1_2.index t 1 = t.val / 16)
    ∧ (win1_3.index t 0 = t.val % 16 ∧ win1_3.index t 1 = t.val / 16) :=
  (by decide +kernel : ∀ t : Fin grid1.N, _)

theorem lt1 (t : Fin cfg1.N) : t.val < 32 := lt_of_lt_of_eq t.isLt N_1

theorem blk1_0 (c : Dev nD) (t : Fin cfg1.N) (p0 : Fin 256) (p1 : Fin 8192) (q : S4096x8192.Idx)
    (h0 : (q 0).val = 256 * (t.val % 16) + p0.val) (h1 : (q 1).val = p1.val) :
    (iblk1 V c 0 t : Vec Ideal S256x8192 .bf16) (ix2 p0 p1) = (V c main_v4_1 : S4096x8192.Idx → EReal) q := by
  obtain ⟨⟨i0, i1⟩, -⟩ := idx1 t
  unfold iblk1; rw [View.read_apply]
  show V c main_v4_1 _ = V c main_v4_1 q
  congr 1; funext a; apply Fin.ext
  match a with
  | ⟨0, _⟩ => show win1_0.index t 0 * 256 + 1 * p0.val = (q 0).val; rw [i0, h0]; omega
  | ⟨1, _⟩ => show win1_0.index t 1 * 8192 + 1 * p1.val = (q 1).val; rw [i1, h1]; omega

theorem blk1_1 (c : Dev nD) (t : Fin cfg1.N) (p0 : Fin 8192) (p1 : Fin 1024) (q : S8192x2048.Idx)
    (h0 : (q 0).val = p0.val) (h1 : (q 1).val = 1024 * (t.val / 16) + p1.val) :
    (iblk1 V c 1 t : Vec Ideal S8192x1024 .bf16) (ix2 p0 p1) = (V c main_v3 : S8192x2048.Idx → EReal) q := by
  obtain ⟨-, ⟨i0, i1⟩, -⟩ := idx1 t
  unfold iblk1; rw [View.read_apply]
  show V c main_v3 _ = V c main_v3 q
  congr 1; funext a; apply Fin.ext
  match a with
  | ⟨0, _⟩ => show win1_1.index t 0 * 8192 + 1 * p0.val = (q 0).val; rw [i0, h0]; omega
  | ⟨1, _⟩ => show win1_1.index t 1 * 1024 + 1 * p1.val = (q 1).val; rw [i1, h1]; omega

theorem blk1_2 (c : Dev nD) (t : Fin cfg1.N) (p0 : Fin 256) (p1 : Fin 1024) (q : S4096x2048.Idx)
    (h0 : (q 0).val = 256 * (t.val % 16) + p0.val) (h1 : (q 1).val = 1024 * (t.val / 16) + p1.val) :
    (iblk1 V c 2 t : Vec Ideal S256x1024 .f32) (ix2 p0 p1) = (V c main_arg0 : S4096x2048.Idx → EReal) q := by
  obtain ⟨-, -, ⟨i0, i1⟩, -⟩ := idx1 t
  unfold iblk1; rw [View.read_apply]
  show V c main_arg0 _ = V c main_arg0 q
  congr 1; funext a; apply Fin.ext
  match a with
  | ⟨0, _⟩ => show win1_2.index t 0 * 256 + 1 * p0.val = (q 0).val; rw [i0, h0]; omega
  | ⟨1, _⟩ => show win1_2.index t 1 * 1024 + 1 * p1.val = (q 1).val; rw [i1, h1]; omega

/-- The block's output: the residual input and the second product. -/
def R1_3 (c : Dev nD) : S4096x2048.Idx → EReal := fun i => plusAt (V c main_arg0) (rowCol (V c main_v4_1) (V c main_v3) (i 0) (i 1)) (i 0) (i 1)

theorem flushed1_3 (c : Dev nD) (t : Fin cfg1.N) : (dat1 V c).flushed 3 t = ((cfg1.win 3).blk t).view.read (Elt Ideal) (R1_3 V c) := by
  show (cfg1.win 3).cut (grid1.coords t) ((dat1 V c).after 3 t) = _
  rw [after1_3]; funext j
  obtain ⟨-, -, -, ⟨i0, i1⟩⟩ := idx1 t
  obtain ⟨r, e, rfl⟩ := any2 256 1024 j
  rw [View.read_apply]
  have ei : ((cfg1.win 3).blk t).view.emb (ix2 r e) = (ix2 ⟨256 * (t.val % 16) + r.val, by have := lt1 t; have := r.isLt; omega⟩ ⟨1024 * (t.val / 16) + e.val, by have := lt1 t; have := e.isLt; omega⟩) := funext fun a => Fin.ext (by
    match a with
    | ⟨0, _⟩ => show win1_3.index t 0 * 256 + 1 * r.val = 256 * (t.val % 16) + r.val; rw [i0]; omega
    | ⟨1, _⟩ => show win1_3.index t 1 * 1024 + 1 * e.val = 1024 * (t.val / 16) + e.val; rw [i1]; omega)
  refine (down_out _ _ _ r e).trans ?_
  refine Eq.trans ?_ (congrArg (R1_3 V c) ei).symm
  refine congrArg₂ (fun a b : EReal => a + b) (blk1_2 V c t r e _ rfl rfl) ?_
  exact Finset.sum_congr rfl fun k _ => congrArg₂ (fun a b : EReal => a * b) (blk1_0 V c t r k _ rfl rfl) (blk1_1 V c t k e _ rfl rfl)

theorem cover1_3 (i : S4096x2048.Idx) : ∃ t : Fin cfg1.N, (cfg1.win 3).flush t = true ∧ i ∈ ((cfg1.win 3).blk t).view.set := by
  have b0 : (i 0 : Nat) < 4096 := (i 0).isLt
  have b1 : (i 1 : Nat) < 2048 := (i 1).isLt
  have hN : cfg1.N = 32 := N_1
  refine ⟨⟨16 * ((i 1 : Nat) / 1024) + (i 0 : Nat) / 256, by omega⟩, flush1_3 _, ?_⟩
  generalize ht : (⟨16 * ((i 1 : Nat) / 1024) + (i 0 : Nat) / 256, by omega⟩ : Fin cfg1.N) = t
  have tv : t.val = 16 * ((i 1 : Nat) / 1024) + (i 0 : Nat) / 256 := by rw [← ht]
  obtain ⟨-, -, -, ⟨i0, i1⟩⟩ := idx1 t
  show i ∈ ((View.whole main_v5).slice (win1_3.rect t)).set
  rw [View.set_slice_whole, Rect.mem_set_unit]
  intro a
  match a with
  | ⟨0, _⟩ => show win1_3.index t 0 * 256 ≤ (i 0 : Nat) ∧ (i 0 : Nat) < win1_3.index t 0 * 256 + 256
              rw [i0]; omega
  | ⟨1, _⟩ => show win1_3.index t 1 * 1024 ≤ (i 1 : Nat) ∧ (i 1 : Nat) < win1_3.index t 1 * 1024 + 1024
              rw [i1]; omega

theorem arr1_3 (c : Dev nD) : (dat1 V c).arrAt 3 cfg1.N = R1_3 V c :=
  (dat1 V c).arrAt_eq_of_cover 3 (R1_3 V c) (fun t _ => flushed1_3 V c t) cover1_3

/-! ## Call 2 -/

theorem idx2 : ∀ t : Fin cfg2.N,
    (win2_0.index t 0 = t.val / 8 ∧ win2_0.index t 1 = 0)
    ∧ (win2_1.index t 0 = t.val % 8 ∧ win2_1.index t 1 = 0)
    ∧ (win2_2.index t 0 = t.val / 8 ∧ win2_2.index t 1 = t.val % 8)
    ∧ (win2_3.index t 0 = t.val / 8 ∧ win2_3.index t 1 = t.val % 8) :=
  (by decide +kernel : ∀ t : Fin grid2.N, _)

theorem lt2 (t : Fin cfg2.N) : t.val < 32 := lt_of_lt_of_eq t.isLt N_2

theorem blk2_0 (c : Dev nD) (t : Fin cfg2.N) (p0 : Fin 1024) (p1 : Fin 2048) (q : S4096x2048.Idx)
    (h0 : (q 0).val = 1024 * (t.val / 8) + p0.val) (h1 : (q 1).val = p1.val) :
    (iblk2 V c 0 t : Vec Ideal S1024x2048 .bf16) (ix2 p0 p1) = (V c main_arg4 : S4096x2048.Idx → EReal) q := by
  obtain ⟨⟨i0, i1⟩, -⟩ := idx2 t
  unfold iblk2; rw [View.read_apply]
  show V c main_arg4 _ = V c main_arg4 q
  congr 1; funext a; apply Fin.ext
  match a with
  | ⟨0, _⟩ => show win2_0.index t 0 * 1024 + 1 * p0.val = (q 0).val; rw [i0, h0]; omega
  | ⟨1, _⟩ => show win2_0.index t 1 * 2048 + 1 * p1.val = (q 1).val; rw [i1, h1]; omega

theorem blk2_1 (c : Dev nD) (t : Fin cfg2.N) (p0 : Fin 1024) (p1 : Fin 2048) (q : S8192x2048.Idx)
    (h0 : (q 0).val = 1024 * (t.val % 8) + p0.val) (h1 : (q 1).val = p1.val) :
    (iblk2 V c 1 t : Vec Ideal S1024x2048 .bf16) (ix2 p0 p1) = (V c main_v3 : S8192x2048.Idx → EReal) q := by
  obtain ⟨-, ⟨i0, i1⟩, -⟩ := idx2 t
  unfold iblk2; rw [View.read_apply]
  show V c main_v3 _ = V c main_v3 q
  congr 1; funext a; apply Fin.ext
  match a with
  | ⟨0, _⟩ => show win2_1.index t 0 * 1024 + 1 * p0.val = (q 0).val; rw [i0, h0]; omega
  | ⟨1, _⟩ => show win2_1.index t 1 * 2048 + 1 * p1.val = (q 1).val; rw [i1, h1]; omega

theorem blk2_2 (c : Dev nD) (t : Fin cfg2.N) (p0 : Fin 1024) (p1 : Fin 1024) (q : S4096x8192.Idx)
    (h0 : (q 0).val = 1024 * (t.val / 8) + p0.val) (h1 : (q 1).val = 1024 * (t.val % 8) + p1.val) :
    (iblk2 V c 2 t : Vec Ideal S1024x1024 .bf16) (ix2 p0 p1) = (V c main_v4_0 : S4096x8192.Idx → EReal) q := by
  obtain ⟨-, -, ⟨i0, i1⟩, -⟩ := idx2 t
  unfold iblk2; rw [View.read_apply]
  show V c main_v4_0 _ = V c main_v4_0 q
  congr 1; funext a; apply Fin.ext
  match a with
  | ⟨0, _⟩ => show win2_2.index t 0 * 1024 + 1 * p0.val = (q 0).val; rw [i0, h0]; omega
  | ⟨1, _⟩ => show win2_2.index t 1 * 1024 + 1 * p1.val = (q 1).val; rw [i1, h1]; omega

/-- The gradient of the pre-activations. -/
def R2_3 (c : Dev nD) : S4096x8192.Idx → EReal := fun i => backAt (rowRow (V c main_arg4) (V c main_v3) (i 0) (i 1)) (V c main_v4_0) (i 0) (i 1)

theorem flushed2_3 (c : Dev nD) (t : Fin cfg2.N) : (dat2 V c).flushed 3 t = ((cfg2.win 3).blk t).view.read (Elt Ideal) (R2_3 V c) := by
  show (cfg2.win 3).cut (grid2.coords t) ((dat2 V c).after 3 t) = _
  rw [after2_3]; funext j
  obtain ⟨-, -, -, ⟨i0, i1⟩⟩ := idx2 t
  obtain ⟨r, e, rfl⟩ := any2 1024 1024 j
  rw [View.read_apply]
  have ei : ((cfg2.win 3).blk t).view.emb (ix2 r e) = (ix2 ⟨1024 * (t.val / 8) + r.val, by have := lt2 t; have := r.isLt; omega⟩ ⟨1024 * (t.val % 8) + e.val, by have := lt2 t; have := e.isLt; omega⟩) := funext fun a => Fin.ext (by
    match a with
    | ⟨0, _⟩ => show win2_3.index t 0 * 1024 + 1 * r.val = 1024 * (t.val / 8) + r.val; rw [i0]; omega
    | ⟨1, _⟩ => show win2_3.index t 1 * 1024 + 1 * e.val = 1024 * (t.val % 8) + e.val; rw [i1]; omega)
  refine (downDx_out _ _ _ r e).trans ?_
  refine Eq.trans ?_ (congrArg (R2_3 V c) ei).symm
  refine congrArg₂ (fun a b : EReal => a * b) ?_ (congrArg (fun z : EReal => two * relu z) (blk2_2 V c t r e _ rfl rfl))
  exact Finset.sum_congr rfl fun k _ => congrArg₂ (fun a b : EReal => a * b) (blk2_0 V c t r k _ rfl rfl) (blk2_1 V c t e k _ rfl rfl)

theorem cover2_3 (i : S4096x8192.Idx) : ∃ t : Fin cfg2.N, (cfg2.win 3).flush t = true ∧ i ∈ ((cfg2.win 3).blk t).view.set := by
  have b0 : (i 0 : Nat) < 4096 := (i 0).isLt
  have b1 : (i 1 : Nat) < 8192 := (i 1).isLt
  have hN : cfg2.N = 32 := N_2
  refine ⟨⟨8 * ((i 0 : Nat) / 1024) + (i 1 : Nat) / 1024, by omega⟩, flush2_3 _, ?_⟩
  generalize ht : (⟨8 * ((i 0 : Nat) / 1024) + (i 1 : Nat) / 1024, by omega⟩ : Fin cfg2.N) = t
  have tv : t.val = 8 * ((i 0 : Nat) / 1024) + (i 1 : Nat) / 1024 := by rw [← ht]
  obtain ⟨-, -, -, ⟨i0, i1⟩⟩ := idx2 t
  show i ∈ ((View.whole main_v6).slice (win2_3.rect t)).set
  rw [View.set_slice_whole, Rect.mem_set_unit]
  intro a
  match a with
  | ⟨0, _⟩ => show win2_3.index t 0 * 1024 ≤ (i 0 : Nat) ∧ (i 0 : Nat) < win2_3.index t 0 * 1024 + 1024
              rw [i0]; omega
  | ⟨1, _⟩ => show win2_3.index t 1 * 1024 ≤ (i 1 : Nat) ∧ (i 1 : Nat) < win2_3.index t 1 * 1024 + 1024
              rw [i1]; omega

theorem arr2_3 (c : Dev nD) : (dat2 V c).arrAt 3 cfg2.N = R2_3 V c :=
  (dat2 V c).arrAt_eq_of_cover 3 (R2_3 V c) (fun t _ => flushed2_3 V c t) cover2_3

end Cert.Kernel2Ideal.Mlp

end
-- ==== Proof.MlpBackward.lean ====
/-
  The two weight gradients and the input gradient of the squared-ReLU block as whole arrays: what each call leaves in
  its output array, as a function of the arrays it is entered with (at the ideal values).
-/
module

public import proofs.«01_k».proof.Proof.MlpForward

@[expose] public section

set_option maxRecDepth 16384

noncomputable section

namespace Cert.Kernel2Ideal.Mlp

open Cert.Kernel2Ideal Cert.Kernel2Ideal.Gen Cert.Kernel2Ideal.Block Cert.Products Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

variable (V : (c : Dev nD) → (b : Ref sig .tc) → Buf (Elt Ideal) ((c : Thread nD τ).loc b))

/-! ## Call 3 -/

theorem idx3 : ∀ t : Fin cfg3.N,
    (win3_0.index t 0 = 0 ∧ win3_0.index t 1 = t.val % 16)
    ∧ (win3_1.index t 0 = 0 ∧ win3_1.index t 1 = t.val / 16)
    ∧ (win3_2.index t 0 = t.val % 16 ∧ win3_2.index t 1 = t.val / 16) :=
  (by decide +kernel : ∀ t : Fin grid3.N, _)

theorem lt3 (t : Fin cfg3.N) : t.val < 32 := lt_of_lt_of_eq t.isLt N_3

theorem blk3_0 (c : Dev nD) (t : Fin cfg3.N) (p0 : Fin 4096) (p1 : Fin 512) (q : S4096x8192.Idx)
    (h0 : (q 0).val = p0.val) (h1 : (q 1).val = 512 * (t.val % 16) + p1.val) :
    (iblk3 V c 0 t : Vec Ideal S4096x512 .bf16) (ix2 p0 p1) = (V c main_v4_1 : S4096x8192.Idx → EReal) q := by
  obtain ⟨⟨i0, i1⟩, -⟩ := idx3 t
  unfold iblk3; rw [View.read_apply]
  show V c main_v4_1 _ = V c main_v4_1 q
  congr 1; funext a; apply Fin.ext
  match a with
  | ⟨0, _⟩ => show win3_0.index t 0 * 4096 + 1 * p0.val = (q 0).val; rw [i0, h0]; omega
  | ⟨1, _⟩ => show win3_0.index t 1 * 512 + 1 * p1.val = (q 1).val; rw [i1, h1]; omega

theorem blk3_1 (c : Dev nD) (t : Fin cfg3.N) (p0 : Fin 4096) (p1 : Fin 1024) (q : S4096x2048.Idx)
    (h0 : (q 0).val = p0.val) (h1 : (q 1).val = 1024 * (t.val / 16) + p1.val) :
    (iblk3 V c 1 t : Vec Ideal S4096x1024 .bf16) (ix2 p0 p1) = (V c main_arg4 : S4096x2048.Idx → EReal) q := by
  obtain ⟨-, ⟨i0, i1⟩, -⟩ := idx3 t
  unfold iblk3; rw [View.read_apply]
  show V c main_arg4 _ = V c main_arg4 q
  congr 1; funext a; apply Fin.ext
  match a with
  | ⟨0, _⟩ => show win3_1.index t 0 * 4096 + 1 * p0.val = (q 0).val; rw [i0, h0]; omega
  | ⟨1, _⟩ => show win3_1.index t 1 * 1024 + 1 * p1.val = (q 1).val; rw [i1, h1]; omega

/-- The gradient of the second weight. -/
def R3_2 (c : Dev nD) : S8192x2048.Idx → EReal := fun i => colCol (V c main_v4_1) (V c main_arg4) (i 0) (i 1)

theorem flushed3_2 (c : Dev nD) (t : Fin cfg3.N) : (dat3 V c).flushed 2 t = ((cfg3.win 2).blk t).view.read (Elt Ideal) (R3_2 V c) := by
  show (cfg3.win 2).cut (grid3.coords t) ((dat3 V c).after 2 t) = _
  rw [after3_2]; funext j
  obtain ⟨-, -, ⟨i0, i1⟩⟩ := idx3 t
  obtain ⟨r, e, rfl⟩ := any2 512 1024 j
  rw [View.read_apply]
  have ei : ((cfg3.win 2).blk t).view.emb (ix2 r e) = (ix2 ⟨512 * (t.val % 16) + r.val, by have := lt3 t; have := r.isLt; omega⟩ ⟨1024 * (t.val / 16) + e.val, by have := lt3 t; have := e.isLt; omega⟩) := funext fun a => Fin.ext (by
    match a with
    | ⟨0, _⟩ => show win3_2.index t 0 * 512 + 1 * r.val = 512 * (t.val % 16) + r.val; rw [i0]; omega
    | ⟨1, _⟩ => show win3_2.index t 1 * 1024 + 1 * e.val = 1024 * (t.val / 16) + e.val; rw [i1]; omega)
  refine (downDw_out _ _ r e).trans ?_
  refine Eq.trans ?_ (congrArg (R3_2 V c) ei).symm
  unfold R3_2 colCol
  refine Finset.sum_congr rfl fun k _ => congrArg₂ (fun a b : EReal => a * b) ?_ ?_
  · exact blk3_0 V c t k r _ rfl rfl
  exact blk3_1 V c t k e _ rfl rfl

theorem cover3_2 (i : S8192x2048.Idx) : ∃ t : Fin cfg3.N, (cfg3.win 2).flush t = true ∧ i ∈ ((cfg3.win 2).blk t).view.set := by
  have b0 : (i 0 : Nat) < 8192 := (i 0).isLt
  have b1 : (i 1 : Nat) < 2048 := (i 1).isLt
  have hN : cfg3.N = 32 := N_3
  refine ⟨⟨16 * ((i 1 : Nat) / 1024) + (i 0 : Nat) / 512, by omega⟩, flush3_2 _, ?_⟩
  generalize ht : (⟨16 * ((i 1 : Nat) / 1024) + (i 0 : Nat) / 512, by omega⟩ : Fin cfg3.N) = t
  have tv : t.val = 16 * ((i 1 : Nat) / 1024) + (i 0 : Nat) / 512 := by rw [← ht]
  obtain ⟨-, -, ⟨i0, i1⟩⟩ := idx3 t
  show i ∈ ((View.whole main_v7).slice (win3_2.rect t)).set
  rw [View.set_slice_whole, Rect.mem_set_unit]
  intro a
  match a with
  | ⟨0, _⟩ => show win3_2.index t 0 * 512 ≤ (i 0 : Nat) ∧ (i 0 : Nat) < win3_2.index t 0 * 512 + 512
              rw [i0]; omega
  | ⟨1, _⟩ => show win3_2.index t 1 * 1024 ≤ (i 1 : Nat) ∧ (i 1 : Nat) < win3_2.index t 1 * 1024 + 1024
              rw [i1]; omega

theorem arr3_2 (c : Dev nD) : (dat3 V c).arrAt 2 cfg3.N = R3_2 V c :=
  (dat3 V c).arrAt_eq_of_cover 2 (R3_2 V c) (fun t _ => flushed3_2 V c t) cover3_2

/-! ## Call 4 -/

theorem idx4 : ∀ t : Fin cfg4.N,
    (win4_0.index t 0 = 0 ∧ win4_0.index t 1 = t.val % 4)
    ∧ (win4_1.index t 0 = 0 ∧ win4_1.index t 1 = t.val / 4)
    ∧ (win4_2.index t 0 = t.val / 4 ∧ win4_2.index t 1 = t.val % 4 ∧ win4_2.index t 2 = 0) :=
  (by decide +kernel : ∀ t : Fin grid4.N, _)

theorem lt4 (t : Fin cfg4.N) : t.val < 32 := lt_of_lt_of_eq t.isLt N_4

theorem blk4_0 (c : Dev nD) (t : Fin cfg4.N) (p0 : Fin 4096) (p1 : Fin 512) (q : S4096x2048.Idx)
    (h0 : (q 0).val = p0.val) (h1 : (q 1).val = 512 * (t.val % 4) + p1.val) :
    (iblk4 V c 0 t : Vec Ideal S4096x512 .bf16) (ix2 p0 p1) = (V c main_arg1 : S4096x2048.Idx → EReal) q := by
  obtain ⟨⟨i0, i1⟩, -⟩ := idx4 t
  unfold iblk4; rw [View.read_apply]
  show V c main_arg1 _ = V c main_arg1 q
  congr 1; funext a; apply Fin.ext
  match a with
  | ⟨0, _⟩ => show win4_0.index t 0 * 4096 + 1 * p0.val = (q 0).val; rw [i0, h0]; omega
  | ⟨1, _⟩ => show win4_0.index t 1 * 512 + 1 * p1.val = (q 1).val; rw [i1, h1]; omega

theorem blk4_1 (c : Dev nD) (t : Fin cfg4.N) (p0 : Fin 4096) (p1 : Fin 1024) (q : S4096x8192.Idx)
    (h0 : (q 0).val = p0.val) (h1 : (q 1).val = 1024 * (t.val / 4) + p1.val) :
    (iblk4 V c 1 t : Vec Ideal S4096x1024 .bf16) (ix2 p0 p1) = (V c main_v6 : S4096x8192.Idx → EReal) q := by
  obtain ⟨-, ⟨i0, i1⟩, -⟩ := idx4 t
  unfold iblk4; rw [View.read_apply]
  show V c main_v6 _ = V c main_v6 q
  congr 1; funext a; apply Fin.ext
  match a with
  | ⟨0, _⟩ => show win4_1.index t 0 * 4096 + 1 * p0.val = (q 0).val; rw [i0, h0]; omega
  | ⟨1, _⟩ => show win4_1.index t 1 * 1024 + 1 * p1.val = (q 1).val; rw [i1, h1]; omega

/-- The gradient of the first weight, shard by shard. -/
def R4_2 (c : Dev nD) : S8x2048x1024.Idx → EReal := fun i => colCol (V c main_arg1) (V c main_v6) (i 1) (shardCol (i 0) (i 2))

theorem flushed4_2 (c : Dev nD) (t : Fin cfg4.N) : (dat4 V c).flushed 2 t = ((cfg4.win 2).blk t).view.read (Elt Ideal) (R4_2 V c) := by
  show (cfg4.win 2).cut (grid4.coords t) ((dat4 V c).after 2 t) = _
  rw [after4_2]; funext j
  obtain ⟨-, -, ⟨i0, i1, i2⟩⟩ := idx4 t
  obtain ⟨s, r, e, rfl⟩ : ∃ (s : Fin 1) (r : Fin 512) (e : Fin 1024), j = (ix3 s r e) := ⟨j 0, j 1, j 2, eq_ix3 (n0 := 1) (n1 := 512) (n2 := 1024) j⟩
  rw [View.read_apply]
  have ei : ((cfg4.win 2).blk t).view.emb (ix3 s r e) = (ix3 ⟨1 * (t.val / 4) + s.val, by have := lt4 t; have := s.isLt; omega⟩ ⟨512 * (t.val % 4) + r.val, by have := lt4 t; have := r.isLt; omega⟩ e) := funext fun a => Fin.ext (by
    match a with
    | ⟨0, _⟩ => show win4_2.index t 0 * 1 + 1 * s.val = 1 * (t.val / 4) + s.val; rw [i0]; omega
    | ⟨1, _⟩ => show win4_2.index t 1 * 512 + 1 * r.val = 512 * (t.val % 4) + r.val; rw [i1]; omega
    | ⟨2, _⟩ => show win4_2.index t 2 * 1024 + 1 * e.val = e.val; rw [i2]; omega)
  obtain rfl : s = 0 := Subsingleton.elim _ _
  refine (upDw_out _ _ r e).trans ?_
  refine Eq.trans ?_ (congrArg (R4_2 V c) ei).symm
  unfold R4_2 colCol
  refine Finset.sum_congr rfl fun k _ => congrArg₂ (fun a b : EReal => a * b) ?_ ?_
  · exact blk4_0 V c t k r _ rfl rfl
  exact blk4_1 V c t k e _ rfl (by show 1024 * (1 * (t.val / 4) + 0) + e.val = _; omega)

theorem cover4_2 (i : S8x2048x1024.Idx) : ∃ t : Fin cfg4.N, (cfg4.win 2).flush t = true ∧ i ∈ ((cfg4.win 2).blk t).view.set := by
  have b0 : (i 0 : Nat) < 8 := (i 0).isLt
  have b1 : (i 1 : Nat) < 2048 := (i 1).isLt
  have b2 : (i 2 : Nat) < 1024 := (i 2).isLt
  have hN : cfg4.N = 32 := N_4
  refine ⟨⟨4 * (i 0 : Nat) + (i 1 : Nat) / 512, by omega⟩, flush4_2 _, ?_⟩
  generalize ht : (⟨4 * (i 0 : Nat) + (i 1 : Nat) / 512, by omega⟩ : Fin cfg4.N) = t
  have tv : t.val = 4 * (i 0 : Nat) + (i 1 : Nat) / 512 := by rw [← ht]
  obtain ⟨-, -, ⟨i0, i1, i2⟩⟩ := idx4 t
  show i ∈ ((View.whole main_v8).slice (win4_2.rect t)).set
  rw [View.set_slice_whole, Rect.mem_set_unit]
  intro a
  match a with
  | ⟨0, _⟩ => show win4_2.index t 0 * 1 ≤ (i 0 : Nat) ∧ (i 0 : Nat) < win4_2.index t 0 * 1 + 1
              rw [i0]; omega
  | ⟨1, _⟩ => show win4_2.index t 1 * 512 ≤ (i 1 : Nat) ∧ (i 1 : Nat) < win4_2.index t 1 * 512 + 512
              rw [i1]; omega
  | ⟨2, _⟩ => show win4_2.index t 2 * 1024 ≤ (i 2 : Nat) ∧ (i 2 : Nat) < win4_2.index t 2 * 1024 + 1024
              rw [i2]; omega

theorem arr4_2 (c : Dev nD) : (dat4 V c).arrAt 2 cfg4.N = R4_2 V c :=
  (dat4 V c).arrAt_eq_of_cover 2 (R4_2 V c) (fun t _ => flushed4_2 V c t) cover4_2

/-! ## Call 5 -/

theorem idx5 : ∀ t : Fin cfg5.N,
    (win5_0.index t 0 = t.val % 8 ∧ win5_0.index t 1 = 0)
    ∧ (win5_1.index t 0 = 0 ∧ win5_1.index t 1 = t.val / 8 ∧ win5_1.index t 2 = 0)
    ∧ (win5_2.index t 0 = t.val % 8 ∧ win5_2.index t 1 = t.val / 8) :=
  (by decide +kernel : ∀ t : Fin grid5.N, _)

theorem lt5 (t : Fin cfg5.N) : t.val < 32 := lt_of_lt_of_eq t.isLt N_5

theorem blk5_0 (c : Dev nD) (t : Fin cfg5.N) (p0 : Fin 512) (p1 : Fin 8192) (q : S4096x8192.Idx)
    (h0 : (q 0).val = 512 * (t.val % 8) + p0.val) (h1 : (q 1).val = p1.val) :
    (iblk5 V c 0 t : Vec Ideal S512x8192 .bf16) (ix2 p0 p1) = (V c main_v6 : S4096x8192.Idx → EReal) q := by
  obtain ⟨⟨i0, i1⟩, -⟩ := idx5 t
  unfold iblk5; rw [View.read_apply]
  show V c main_v6 _ = V c main_v6 q
  congr 1; funext a; apply Fin.ext
  match a with
  | ⟨0, _⟩ => show win5_0.index t 0 * 512 + 1 * p0.val = (q 0).val; rw [i0, h0]; omega
  | ⟨1, _⟩ => show win5_0.index t 1 * 8192 + 1 * p1.val = (q 1).val; rw [i1, h1]; omega

theorem blk5_1 (c : Dev nD) (t : Fin cfg5.N) (p0 : Fin 8) (p1 : Fin 512) (p2 : Fin 1024) (q : S8x2048x1024.Idx)
    (h0 : (q 0).val = p0.val) (h1 : (q 1).val = 512 * (t.val / 8) + p1.val) (h2 : (q 2).val = p2.val) :
    (iblk5 V c 1 t : Vec Ideal S8x512x1024 .bf16) (ix3 p0 p1 p2) = (V c main_v2 : S8x2048x1024.Idx → EReal) q := by
  obtain ⟨-, ⟨i0, i1, i2⟩, -⟩ := idx5 t
  unfold iblk5; rw [View.read_apply]
  show V c main_v2 _ = V c main_v2 q
  congr 1; funext a; apply Fin.ext
  match a with
  | ⟨0, _⟩ => show win5_1.index t 0 * 8 + 1 * p0.val = (q 0).val; rw [i0, h0]; omega
  | ⟨1, _⟩ => show win5_1.index t 1 * 512 + 1 * p1.val = (q 1).val; rw [i1, h1]; omega
  | ⟨2, _⟩ => show win5_1.index t 2 * 1024 + 1 * p2.val = (q 2).val; rw [i2, h2]; omega

/-- The gradient of the block's input. -/
def R5_2 (c : Dev nD) : S4096x2048.Idx → EReal := fun i => shardSum (V c main_v6) (V c main_v2) (i 0) (i 1)

theorem flushed5_2 (c : Dev nD) (t : Fin cfg5.N) : (dat5 V c).flushed 2 t = ((cfg5.win 2).blk t).view.read (Elt Ideal) (R5_2 V c) := by
  show (cfg5.win 2).cut (grid5.coords t) ((dat5 V c).after 2 t) = _
  rw [after5_2]; funext j
  obtain ⟨-, -, ⟨i0, i1⟩⟩ := idx5 t
  obtain ⟨r, e, rfl⟩ := any2 512 512 j
  rw [View.read_apply]
  have ei : ((cfg5.win 2).blk t).view.emb (ix2 r e) = (ix2 ⟨512 * (t.val % 8) + r.val, by have := lt5 t; have := r.isLt; omega⟩ ⟨512 * (t.val / 8) + e.val, by have := lt5 t; have := e.isLt; omega⟩) := funext fun a => Fin.ext (by
    match a with
    | ⟨0, _⟩ => show win5_2.index t 0 * 512 + 1 * r.val = 512 * (t.val % 8) + r.val; rw [i0]; omega
    | ⟨1, _⟩ => show win5_2.index t 1 * 512 + 1 * e.val = 512 * (t.val / 8) + e.val; rw [i1]; omega)
  refine (upDx_out _ _ r e).trans ?_
  refine Eq.trans ?_ (congrArg (R5_2 V c) ei).symm
  unfold R5_2 shardSum run
  refine Finset.sum_congr rfl fun s _ => Finset.sum_congr rfl fun k _ => congrArg₂ (fun a b : EReal => a * b) (blk5_0 V c t r _ _ rfl rfl) ?_
  exact blk5_1 V c t s e k _ rfl rfl rfl

theorem cover5_2 (i : S4096x2048.Idx) : ∃ t : Fin cfg5.N, (cfg5.win 2).flush t = true ∧ i ∈ ((cfg5.win 2).blk t).view.set := by
  have b0 : (i 0 : Nat) < 4096 := (i 0).isLt
  have b1 : (i 1 : Nat) < 2048 := (i 1).isLt
  have hN : cfg5.N = 32 := N_5
  refine ⟨⟨8 * ((i 1 : Nat) / 512) + (i 0 : Nat) / 512, by omega⟩, flush5_2 _, ?_⟩
  generalize ht : (⟨8 * ((i 1 : Nat) / 512) + (i 0 : Nat) / 512, by omega⟩ : Fin cfg5.N) = t
  have tv : t.val = 8 * ((i 1 : Nat) / 512) + (i 0 : Nat) / 512 := by rw [← ht]
  obtain ⟨-, -, ⟨i0, i1⟩⟩ := idx5 t
  show i ∈ ((View.whole main_v9).slice (win5_2.rect t)).set
  rw [View.set_slice_whole, Rect.mem_set_unit]
  intro a
  match a with
  | ⟨0, _⟩ => show win5_2.index t 0 * 512 ≤ (i 0 : Nat) ∧ (i 0 : Nat) < win5_2.index t 0 * 512 + 512
              rw [i0]; omega
  | ⟨1, _⟩ => show win5_2.index t 1 * 512 ≤ (i 1 : Nat) ∧ (i 1 : Nat) < win5_2.index t 1 * 512 + 512
              rw [i1]; omega

theorem arr5_2 (c : Dev nD) : (dat5 V c).arrAt 2 cfg5.N = R5_2 V c :=
  (dat5 V c).arrAt_eq_of_cover 2 (R5_2 V c) (fun t _ => flushed5_2 V c t) cover5_2

end Cert.Kernel2Ideal.Mlp

end
-- ==== Proof.MlpChain.lean ====
/-
  The six calls in a row: each call's output arrays as functions of the arguments, carried through the later calls to
  the results, and the run of the whole program read at its results (at the ideal values).
-/
module

public import proofs.«01_k».proof.Proof.MlpBackward

@[expose] public section

set_option maxRecDepth 16384

noncomputable section

namespace Cert.Kernel2Ideal.Mlp

open Cert.Kernel2Ideal Cert.Kernel2Ideal.Gen Cert.Products Idealize.ShloMosaic.TcCoe Idealize.SL.Sem
open Idealize.ShloMosaic hiding ix1 ix2 ix3 eq_ix1 eq_ix2 eq_ix3
open Idealize.ShloMosaic.ValueIdx

open Cert.Mlp (relu two)

variable (m : (ℓ : Loc nD τ sig) → Buf (Elt Ideal) ℓ) (ρ : Dev nD → PrngReg)

/-- The arguments as launched. -/
abbrev a0 (c : Dev nD) : S4096x2048.Idx → EReal := m ((c : Thread nD τ).loc main_arg0)
abbrev a1 (c : Dev nD) : S4096x2048.Idx → EReal := m ((c : Thread nD τ).loc main_arg1)
abbrev a2 (c : Dev nD) : S2048x8192.Idx → EReal := m ((c : Thread nD τ).loc main_arg2)
abbrev a3 (c : Dev nD) : S8192x2048.Idx → EReal := m ((c : Thread nD τ).loc main_arg3)
abbrev a4 (c : Dev nD) : S4096x2048.Idx → EReal := m ((c : Thread nD τ).loc main_arg4)

/-! ## The weights the host prepares -/

theorem wd1 (c : Dev nD) : V1 m ρ c main_v3 = a3 m c := by
  show StableHlo.after hostOps0 (fun b => m (c, b)) (Proc.devRef .tc main_v3) = _
  after_results_simp <;> rfl

theorem wu1 (c : Dev nD) : V1 m ρ c main_v2 = fun i : S8x2048x1024.Idx => a2 m c (ix2 (i 1) (shardCol (i 0) (i 2))) := by
  show StableHlo.after hostOps0 (fun b => m (c, b)) (Proc.devRef .tc main_v2) = _
  after_results_simp
  funext i
  obtain ⟨s, k, e, rfl⟩ : ∃ (s : Fin 8) (k : Fin 2048) (e : Fin 1024), i = ix3 s k e := ⟨i 0, i 1, i 2, eq_ix3 (n0 := 8) (n1 := 2048) (n2 := 1024) i⟩
  refine (transpose_apply [1, 0, 2] _ _ _ (ix3 k s e) (fun b => by match b with | ⟨0, _⟩ => rfl | ⟨1, _⟩ => rfl | ⟨2, _⟩ => rfl)).trans ?_
  exact shapeCast_apply _ _ _ (ix2 k (shardCol s e)) (by
    show (S2048x8192.rowMajor (ix2 k (shardCol s e)) : Nat) = (S2048x8x1024.rowMajor (ix3 k s e) : Nat)
    rw [Shape.rowMajor_val_two, Shape.rowMajor_val_three]
    show k.val * 8192 + (1024 * s.val + e.val) = (k.val * 8 + s.val) * 1024 + e.val
    omega)

/-! ## The calls' arrays, in order -/

/-- The first weight in its eight shards. -/
abbrev shards (c : Dev nD) : S8x2048x1024.Idx → EReal := fun i => a2 m c (ix2 (i 1) (shardCol (i 0) (i 2)))

theorem at1_arg1 (c : Dev nD) : V1 m ρ c main_arg1 = a1 m c := W1_args m ρ c main_arg1 (by decide)
theorem at1_v2 (c : Dev nD) : V1 m ρ c main_v2 = shards m c := wu1 m ρ c
theorem at1_v3 (c : Dev nD) : V1 m ρ c main_v3 = a3 m c := wd1 m ρ c

/-- The product against the shards is the product against the weight. -/
theorem up_shards (c : Dev nD) (r : Fin 4096) (e : Fin 8192) : upAt (a1 m c) (shards m c) r e = rowCol (a1 m c) (a2 m c) r e := by
  unfold upAt rowCol
  refine Finset.sum_congr rfl fun k _ => congrArg (a1 m c (ix2 r k) * ·) (congrArg (a2 m c) (funext fun a => Fin.ext ?_))
  match a with
  | ⟨0, _⟩ => rfl
  | ⟨1, _⟩ => show 1024 * (e.val / 1024) + e.val % 1024 = e.val; omega

theorem at2_v4_0 (c : Dev nD) : V2 m ρ c main_v4_0 = table fun r e => rowCol (a1 m c) (a2 m c) r e :=
  ((W2_arr m ρ c 2).trans (arr0_2 (V1 m ρ) c)).trans (by unfold R0_2; rw [at1_arg1, at1_v2]; funext i; exact up_shards m c (i 0) (i 1))
theorem at2_v4_1 (c : Dev nD) : V2 m ρ c main_v4_1 = Cert.Mlp.act (a1 m c) (a2 m c) :=
  ((W2_arr m ρ c 3).trans (arr0_3 (V1 m ρ) c)).trans (by
    unfold R0_3; rw [at1_arg1, at1_v2]; funext i
    exact congrArg (fun z : EReal => relu z * relu z) (up_shards m c (i 0) (i 1)))
theorem at2_v3 (c : Dev nD) : V2 m ρ c main_v3 = a3 m c := (W2_of m ρ c main_v3 (by decide +kernel)).trans (at1_v3 m ρ c)
theorem at2_arg0 (c : Dev nD) : V2 m ρ c main_arg0 = a0 m c := W2_args m ρ c main_arg0 (by decide)
theorem at2_v2 (c : Dev nD) : V2 m ρ c main_v2 = shards m c := (W2_of m ρ c main_v2 (by decide +kernel)).trans (at1_v2 m ρ c)
theorem at3_v5 (c : Dev nD) : V3 m ρ c main_v5 = Cert.Mlp.out (a0 m c) (a1 m c) (a2 m c) (a3 m c) :=
  ((W3_arr m ρ c 3).trans (arr1_3 (V2 m ρ) c)).trans (by unfold R1_3; rw [at2_arg0, at2_v4_1, at2_v3]; rfl)
theorem at3_v3 (c : Dev nD) : V3 m ρ c main_v3 = a3 m c := (W3_of m ρ c main_v3 (by decide +kernel)).trans (at2_v3 m ρ c)
theorem at3_v2 (c : Dev nD) : V3 m ρ c main_v2 = shards m c := (W3_of m ρ c main_v2 (by decide +kernel)).trans (at2_v2 m ρ c)
theorem at3_v4_0 (c : Dev nD) : V3 m ρ c main_v4_0 = table fun r e => rowCol (a1 m c) (a2 m c) r e := (W3_of m ρ c main_v4_0 (by decide +kernel)).trans (at2_v4_0 m ρ c)
theorem at3_v4_1 (c : Dev nD) : V3 m ρ c main_v4_1 = Cert.Mlp.act (a1 m c) (a2 m c) := (W3_of m ρ c main_v4_1 (by decide +kernel)).trans (at2_v4_1 m ρ c)
theorem at3_arg4 (c : Dev nD) : V3 m ρ c main_arg4 = a4 m c := W3_args m ρ c main_arg4 (by decide)
theorem at4_v6 (c : Dev nD) : V4 m ρ c main_v6 = Cert.Mlp.du (a1 m c) (a2 m c) (a3 m c) (a4 m c) :=
  ((W4_arr m ρ c 3).trans (arr2_3 (V3 m ρ) c)).trans (by unfold R2_3; rw [at3_arg4, at3_v3, at3_v4_0]; rfl)
theorem at4_v2 (c : Dev nD) : V4 m ρ c main_v2 = shards m c := (W4_of m ρ c main_v2 (by decide +kernel)).trans (at3_v2 m ρ c)
theorem at4_v4_1 (c : Dev nD) : V4 m ρ c main_v4_1 = Cert.Mlp.act (a1 m c) (a2 m c) := (W4_of m ρ c main_v4_1 (by decide +kernel)).trans (at3_v4_1 m ρ c)
theorem at4_v5 (c : Dev nD) : V4 m ρ c main_v5 = Cert.Mlp.out (a0 m c) (a1 m c) (a2 m c) (a3 m c) := (W4_of m ρ c main_v5 (by decide +kernel)).trans (at3_v5 m ρ c)
theorem at4_arg4 (c : Dev nD) : V4 m ρ c main_arg4 = a4 m c := W4_args m ρ c main_arg4 (by decide)
theorem at5_v7 (c : Dev nD) : V5 m ρ c main_v7 = Cert.Mlp.dwd (a1 m c) (a2 m c) (a4 m c) :=
  ((W5_arr m ρ c 2).trans (arr3_2 (V4 m ρ) c)).trans (by unfold R3_2; rw [at4_v4_1, at4_arg4]; rfl)
theorem at5_v2 (c : Dev nD) : V5 m ρ c main_v2 = shards m c := (W5_of m ρ c main_v2 (by decide +kernel)).trans (at4_v2 m ρ c)
theorem at5_v6 (c : Dev nD) : V5 m ρ c main_v6 = Cert.Mlp.du (a1 m c) (a2 m c) (a3 m c) (a4 m c) := (W5_of m ρ c main_v6 (by decide +kernel)).trans (at4_v6 m ρ c)
theorem at5_v5 (c : Dev nD) : V5 m ρ c main_v5 = Cert.Mlp.out (a0 m c) (a1 m c) (a2 m c) (a3 m c) := (W5_of m ρ c main_v5 (by decide +kernel)).trans (at4_v5 m ρ c)
theorem at5_arg1 (c : Dev nD) : V5 m ρ c main_arg1 = a1 m c := W5_args m ρ c main_arg1 (by decide)
theorem at6_v8 (c : Dev nD) : V6 m ρ c main_v8 = fun i : S8x2048x1024.Idx => Cert.Mlp.dwu (a1 m c) (a2 m c) (a3 m c) (a4 m c) (ix2 (i 1) (shardCol (i 0) (i 2))) :=
  ((W6_arr m ρ c 2).trans (arr4_2 (V5 m ρ) c)).trans (by unfold R4_2; rw [at5_arg1, at5_v6]; rfl)
theorem at6_v2 (c : Dev nD) : V6 m ρ c main_v2 = shards m c := (W6_of m ρ c main_v2 (by decide +kernel)).trans (at5_v2 m ρ c)
theorem at6_v6 (c : Dev nD) : V6 m ρ c main_v6 = Cert.Mlp.du (a1 m c) (a2 m c) (a3 m c) (a4 m c) := (W6_of m ρ c main_v6 (by decide +kernel)).trans (at5_v6 m ρ c)
theorem at6_v5 (c : Dev nD) : V6 m ρ c main_v5 = Cert.Mlp.out (a0 m c) (a1 m c) (a2 m c) (a3 m c) := (W6_of m ρ c main_v5 (by decide +kernel)).trans (at5_v5 m ρ c)
theorem at6_v7 (c : Dev nD) : V6 m ρ c main_v7 = Cert.Mlp.dwd (a1 m c) (a2 m c) (a4 m c) := (W6_of m ρ c main_v7 (by decide +kernel)).trans (at5_v7 m ρ c)

/-- The eight runs of columns make up the whole row. -/
theorem shards_sum (c : Dev nD) (D : S4096x8192.Idx → EReal) (r : Fin 4096) (e : Fin 2048) : shardSum D (shards m c) r e = rowRow D (a2 m c) r e :=
  (sum_runs (b := 8) (n := 1024) (by norm_num) fun k : Fin 8192 => D (ix2 r k) * a2 m c (ix2 e k)).symm

theorem at7_v9 (c : Dev nD) : V7 m ρ c main_v9 = Cert.Mlp.dh (a1 m c) (a2 m c) (a3 m c) (a4 m c) :=
  ((W7_arr m ρ c 2).trans (arr5_2 (V6 m ρ) c)).trans (by
    unfold R5_2; rw [at6_v6, at6_v2]; funext i; exact shards_sum m c _ (i 0) (i 1))
theorem at7_v5 (c : Dev nD) : V7 m ρ c main_v5 = Cert.Mlp.out (a0 m c) (a1 m c) (a2 m c) (a3 m c) := (W7_of m ρ c main_v5 (by decide +kernel)).trans (at6_v5 m ρ c)
theorem at7_v7 (c : Dev nD) : V7 m ρ c main_v7 = Cert.Mlp.dwd (a1 m c) (a2 m c) (a4 m c) := (W7_of m ρ c main_v7 (by decide +kernel)).trans (at6_v7 m ρ c)
theorem at7_v8 (c : Dev nD) : V7 m ρ c main_v8 = fun i : S8x2048x1024.Idx => Cert.Mlp.dwu (a1 m c) (a2 m c) (a3 m c) (a4 m c) (ix2 (i 1) (shardCol (i 0) (i 2))) := (W7_of m ρ c main_v8 (by decide +kernel)).trans (at6_v8 m ρ c)

/-! ## The results -/

theorem res0 (c : Dev nD) : W8 m ρ c (Proc.devRef .tc main_v5) = Cert.Mlp.out (a0 m c) (a1 m c) (a2 m c) (a3 m c) :=
  (W8_of m ρ c main_v5 (by decide +kernel)).trans (at7_v5 m ρ c)
theorem res1 (c : Dev nD) : W8 m ρ c (Proc.devRef .tc main_v9) = Cert.Mlp.dh (a1 m c) (a2 m c) (a3 m c) (a4 m c) :=
  (W8_of m ρ c main_v9 (by decide +kernel)).trans (at7_v9 m ρ c)
theorem res3 (c : Dev nD) : W8 m ρ c (Proc.devRef .tc main_v7) = Cert.Mlp.dwd (a1 m c) (a2 m c) (a4 m c) :=
  (W8_of m ρ c main_v7 (by decide +kernel)).trans (at7_v7 m ρ c)

/-- The first weight's gradient: the shards put back side by side. -/
theorem res2 (c : Dev nD) : W8 m ρ c (Proc.devRef .tc main_v11) = Cert.Mlp.dwu (a1 m c) (a2 m c) (a3 m c) (a4 m c) := by
  have h8 := at7_v8 m ρ c
  show StableHlo.after hostOps6 (W7 m ρ c) (Proc.devRef .tc main_v11) = _
  revert h8
  show W7 m ρ c (Proc.devRef .tc main_v8) = _ → _
  generalize W7 m ρ c = w
  intro h8
  after_results_simp
  rw [h8]
  funext i
  obtain ⟨k, e, rfl⟩ := any2 2048 8192 i
  have he := e.isLt
  refine (shapeCast_apply (s := S2048x8x1024) _ _ _ (ix3 k (⟨e.val / 1024, by omega⟩ : Fin 8) (⟨e.val % 1024, by omega⟩ : Fin 1024)) (by
    show (S2048x8x1024.rowMajor _ : Nat) = (S2048x8192.rowMajor (ix2 k e) : Nat)
    rw [Shape.rowMajor_val_two, Shape.rowMajor_val_three]
    show (k.val * 8 + e.val / 1024) * 1024 + e.val % 1024 = k.val * 8192 + e.val
    omega)).trans ?_
  refine (transpose_apply [1, 0, 2] _ _ _ (ix3 (⟨e.val / 1024, by omega⟩ : Fin 8) k (⟨e.val % 1024, by omega⟩ : Fin 1024)) (fun b => by
    match b with | ⟨0, _⟩ => rfl | ⟨1, _⟩ => rfl | ⟨2, _⟩ => rfl)).trans ?_
  refine congrArg (Cert.Mlp.dwu (a1 m c) (a2 m c) (a3 m c) (a4 m c)) (funext fun a => Fin.ext ?_)
  match a with
  | ⟨0, _⟩ => rfl
  | ⟨1, _⟩ => show 1024 * (e.val / 1024) + e.val % 1024 = e.val; omega

end Cert.Kernel2Ideal.Mlp

end
-- ==== Proof.MlpRun.lean ====
/-
  The run of the six calls, read at the four results (at the ideal values).  The launch set-up is the frame's own; what
  is read off the last boundary's contents here are the results too.
-/
module

public import proofs.«01_k».proof.Proof.MlpChain

@[expose] public section

set_option maxRecDepth 16384

noncomputable section

namespace Cert.Kernel2Ideal.Mlp

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, read: the four results as functions of the arguments, the arguments unchanged. -/
theorem run : θ_run defs (onTc (τ := τ) (main (F := Ideal))) ⟨m, fun _ => 0, ρ⟩ fun r => ∀ c : Dev nD,
      r.2.mem ((c : Thread nD τ).loc main_v5) = Cert.Mlp.out (a0 m c) (a1 m c) (a2 m c) (a3 m c)
      ∧ r.2.mem ((c : Thread nD τ).loc main_v9) = Cert.Mlp.dh (a1 m c) (a2 m c) (a3 m c) (a4 m c)
      ∧ r.2.mem ((c : Thread nD τ).loc main_v11) = Cert.Mlp.dwu (a1 m c) (a2 m c) (a3 m c) (a4 m c)
      ∧ r.2.mem ((c : Thread nD τ).loc main_v7) = Cert.Mlp.dwd (a1 m c) (a2 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c => ⟨(h c _ (mem_uc main_v5 (by decide))).trans (res0 m ρ c),
      (h c _ (mem_uc main_v9 (by decide))).trans (res1 m ρ c),
      (h c _ (mem_uc main_v11 (by decide))).trans (res2 m ρ c),
      (h c _ (mem_uc main_v7 (by decide))).trans (res3 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c)⟩)

end Cert.Kernel2Ideal.Mlp

end
-- ==== Proof.Shards.lean ====
/-
  A matrix kept as shards of columns: what it is as an array, the products against it one shard at a time, and the host
  operations that cut it and put it back.  Everything is at the ideal values.
-/
module

public import proofs.«01_k».proof.Proof.Products
public import Idealize.ShloMosaic.Lib.Pipeline.Value
public import Idealize.ShloMosaic.Lib.Pointwise.Reduce
public import Idealize.ShloMosaic.Lib.Pointwise.SelectCore
public import Idealize.ShloMosaic.Lib.Tactic

@[expose] public section

noncomputable section

namespace Cert.Products

open Idealize.ShloMosaic hiding ix1 ix2 ix3 eq_ix1 eq_ix2 eq_ix3
open Idealize.ShloMosaic.ValueIdx

/-- Column `k` of shard `s` is a column of the whole. -/
theorem col_lt {b n M : ℕ} (h : b * n = M) (s : Fin b) (k : Fin n) : n * s.val + k.val < M := by
  have h1 := s.isLt; have h2 := k.isLt
  calc n * s.val + k.val < n * s.val + n := by omega
    _ = n * (s.val + 1) := by ring
    _ ≤ n * b := Nat.mul_le_mul_left _ h1
    _ = M := by rw [← h]; ring

/-- Column `k` of shard `s`, as a column of the whole. -/
abbrev shCol {b n M : ℕ} (h : b * n = M) (s : Fin b) (k : Fin n) : Fin M := ⟨n * s.val + k.val, col_lt h s k⟩

/-- A matrix as `b` shards of `n` columns. -/
def shardsOf {R b n M : ℕ} (h : b * n = M) (A : (⟨2, ![R, M]⟩ : Shape).Idx → EReal) : (⟨3, ![b, R, n]⟩ : Shape).Idx → EReal :=
  fun i => A (ix2 (i 1) (shCol h (i 0) (i 2)))

/-- A row against the shards' rows, run by run. -/
def shardSum {R N b n M : ℕ} (h : b * n = M) (G : (⟨2, ![R, M]⟩ : Shape).Idx → EReal) (W : (⟨3, ![b, N, n]⟩ : Shape).Idx → EReal)
    (r : Fin R) (e : Fin N) : EReal :=
  ∑ s : Fin b, ∑ k : Fin n, G (ix2 r (shCol h s k)) * W (ix3 s e k)

/-- Against the shards of a matrix it is the row against the matrix's row. -/
theorem shardSum_of {R N b n M : ℕ} (h : b * n = M) (G : (⟨2, ![R, M]⟩ : Shape).Idx → EReal) (A : (⟨2, ![N, M]⟩ : Shape).Idx → EReal)
    (r : Fin R) (e : Fin N) : shardSum h G (shardsOf h A) r e = rowRow G A r e :=
  (sum_runs h fun k : Fin M => G (ix2 r k) * A (ix2 e k)).symm

/-- A row against a column of the shard the column lies in. -/
def shardCol {R K b n M : ℕ} (h : b * n = M) (A : (⟨2, ![R, K]⟩ : Shape).Idx → EReal) (W : (⟨3, ![b, K, n]⟩ : Shape).Idx → EReal)
    (r : Fin R) (s : Fin b) (e : Fin n) : EReal :=
  ∑ k : Fin K, A (ix2 r k) * W (ix3 s k e)

theorem shardCol_of {R K b n M : ℕ} (h : b * n = M) (A : (⟨2, ![R, K]⟩ : Shape).Idx → EReal) (B : (⟨2, ![K, M]⟩ : Shape).Idx → EReal)
    (r : Fin R) (s : Fin b) (e : Fin n) : shardCol h A (shardsOf h B) r s e = rowCol A B r (shCol h s e) := rfl

/-- A leading one does not move an element. -/
theorem lead_one {b n : ℕ} (k : Fin b) (e : Fin n) :
    ((⟨3, ![1, b, n]⟩ : Shape).rowMajor (ix3 0 k e) : ℕ) = (⟨2, ![b, n]⟩ : Shape).rowMajor (ix2 k e) := by
  rw [Shape.rowMajor_val_two, Shape.rowMajor_val_three]
  show (0 * b + k.val) * n + e.val = k.val * n + e.val
  rw [Nat.zero_mul, Nat.zero_add]

/-! ## Products of blocks -/

/-- A slice of the left factor's columns against one shard, its rows against the shard's rows. -/
theorem shard_right {M N n K B : ℕ} (g : FVec Ideal ⟨2, ![M, K]⟩ .bf16) (w : FVec Ideal ⟨3, ![B, N, n]⟩ .bf16) (s : Fin B) (o : ℕ)
    (h1 : (⟨2, ![M, K]⟩ : Shape).Slices ![0, o] ⟨2, ![M, n]⟩) (h2 : (⟨3, ![B, N, n]⟩ : Shape).Slices ![s.val, 0, 0] ⟨3, ![1, N, n]⟩)
    (h3 : (⟨3, ![1, N, n]⟩ : Shape).ShapeCasts ⟨2, ![N, n]⟩) (hK : ∀ k : Fin n, o + k.val < K) (r : Fin M) (e : Fin N) :
    FloatOps.matmul (F := Ideal) (φ₁ := .bf16) (φ₂ := .bf16) (DotDims.transposedRhs M n N) none
        (extractStridedSlice ⟨2, ![M, n]⟩ ![0, o] g h1 : FVec Ideal ⟨2, ![M, n]⟩ .bf16)
        (shapeCast ⟨2, ![N, n]⟩ (extractStridedSlice ⟨3, ![1, N, n]⟩ ![s.val, 0, 0] w h2) h3 : FVec Ideal ⟨2, ![N, n]⟩ .bf16)
        (constant ⟨2, ![M, N]⟩ .f32 0x00000000#32) (ix2 r e)
      = ∑ k : Fin n, g (ix2 r ⟨o + k.val, hK k⟩) * w (ix3 s e k) := by
  refine (right_zero _ _ r e).trans (Finset.sum_congr rfl fun k _ => congrArg₂ (· * ·) ?_ ?_)
  · show g _ = g _
    congr 1; funext a; apply Fin.ext
    match a with
    | ⟨0, _⟩ => show 0 + r.val = r.val; omega
    | ⟨1, _⟩ => rfl
  · refine (shapeCast_apply _ _ _ (ix3 0 e k) (lead_one e k)).trans ?_
    show w _ = w _
    congr 1; funext a; apply Fin.ext
    match a with
    | ⟨0, _⟩ => show s.val + 0 = s.val; omega
    | ⟨1, _⟩ => show 0 + e.val = e.val; omega
    | ⟨2, _⟩ => show 0 + k.val = k.val; omega

/-- A plain product against one shard. -/
theorem shard_plain {M K n B : ℕ} (g : FVec Ideal ⟨2, ![M, K]⟩ .bf16) (w : FVec Ideal ⟨3, ![B, K, n]⟩ .bf16) (s : Fin B)
    (h2 : (⟨3, ![B, K, n]⟩ : Shape).Slices ![s.val, 0, 0] ⟨3, ![1, K, n]⟩)
    (h3 : (⟨3, ![1, K, n]⟩ : Shape).ShapeCasts ⟨2, ![K, n]⟩) (r : Fin M) (e : Fin n) :
    FloatOps.matmul (F := Ideal) (φ₁ := .bf16) (φ₂ := .bf16) (DotDims.plain M K n) none g
        (shapeCast ⟨2, ![K, n]⟩ (extractStridedSlice ⟨3, ![1, K, n]⟩ ![s.val, 0, 0] w h2) h3 : FVec Ideal ⟨2, ![K, n]⟩ .bf16)
        (constant ⟨2, ![M, n]⟩ .f32 0x00000000#32) (ix2 r e)
      = ∑ k : Fin K, g (ix2 r k) * w (ix3 s k e) := by
  refine (plain_zero _ _ r e).trans (Finset.sum_congr rfl fun k _ => congrArg₂ (· * ·) rfl ?_)
  refine (shapeCast_apply _ _ _ (ix3 0 k e) (lead_one k e)).trans ?_
  show w _ = w _
  congr 1; funext a; apply Fin.ext
  match a with
  | ⟨0, _⟩ => show s.val + 0 = s.val; omega
  | ⟨1, _⟩ => show 0 + k.val = k.val; omega
  | ⟨2, _⟩ => show 0 + e.val = e.val; omega

/-- A plain product against a shard loaded by itself. -/
theorem loaded_plain {M K n : ℕ} (g : FVec Ideal ⟨2, ![M, K]⟩ .bf16) (w : FVec Ideal ⟨3, ![1, K, n]⟩ .bf16)
    (h3 : (⟨3, ![1, K, n]⟩ : Shape).ShapeCasts ⟨2, ![K, n]⟩) (r : Fin M) (e : Fin n) :
    FloatOps.matmul (F := Ideal) (φ₁ := .bf16) (φ₂ := .bf16) (DotDims.plain M K n) none g
        (shapeCast ⟨2, ![K, n]⟩ w h3 : FVec Ideal ⟨2, ![K, n]⟩ .bf16) (constant ⟨2, ![M, n]⟩ .f32 0x00000000#32) (ix2 r e)
      = ∑ k : Fin K, g (ix2 r k) * w (ix3 0 k e) := by
  refine (plain_zero _ _ r e).trans (Finset.sum_congr rfl fun k _ => congrArg₂ (· * ·) rfl ?_)
  exact shapeCast_apply _ _ _ (ix3 0 k e) (lead_one k e)

/-- A run of columns stored as one shard. -/
theorem stored_shard {R K n : ℕ} (v : FVec Ideal ⟨2, ![R, K]⟩ .f32) (o : ℕ) (h1 : (⟨2, ![R, K]⟩ : Shape).Slices ![0, o] ⟨2, ![R, n]⟩)
    (h2 : (⟨2, ![R, n]⟩ : Shape).ShapeCasts ⟨3, ![1, R, n]⟩) (hb) (hK : ∀ k : Fin n, o + k.val < K) (z : Fin 1) (r : Fin R) (e : Fin n) :
    shapeCast ⟨3, ![1, R, n]⟩ (truncf (F := Ideal) .bf16 (extractStridedSlice ⟨2, ![R, n]⟩ ![0, o] v h1 : FVec Ideal ⟨2, ![R, n]⟩ .f32) hb) h2 (ix3 z r e)
      = v (ix2 r ⟨o + e.val, hK e⟩) := by
  obtain rfl : z = 0 := Subsingleton.elim _ _
  refine (shapeCast_apply _ _ _ (ix2 r e) (lead_one r e).symm).trans ?_
  show v _ = v _
  congr 1; funext a; apply Fin.ext
  match a with
  | ⟨0, _⟩ => show 0 + r.val = r.val; omega
  | ⟨1, _⟩ => rfl

/-- A store of one shard puts the matrix's run of columns where the shards have it. -/
theorem piece_shard {R b n M : ℕ} (h : b * n = M) (P : (⟨2, ![R, M]⟩ : Shape).Idx → EReal) (s : Fin b)
    (inb : ∀ a : Fin 3, (![s.val, 0, 0] : Fin 3 → ℕ) a + (⟨3, ![1, R, n]⟩ : Shape).size a ≤ (⟨3, ![b, R, n]⟩ : Shape).size a)
    (pay : (⟨3, ![1, R, n]⟩ : Shape).Idx → EReal) (hp : ∀ z r e, pay (ix3 z r e) = P (ix2 r (shCol h s e))) (x : (⟨3, ![1, R, n]⟩ : Shape).Idx) :
    pay x = shardsOf h P ((Rect.unit (s := ⟨3, ![b, R, n]⟩) ![s.val, 0, 0] (⟨3, ![1, R, n]⟩ : Shape).size inb).emb x) := by
  obtain ⟨z, r, e, rfl⟩ : ∃ (z : Fin 1) (r : Fin R) (e : Fin n), x = ix3 z r e := ⟨x 0, x 1, x 2, eq_ix3 (n0 := 1) (n1 := R) (n2 := n) x⟩
  rw [hp]
  have hz := z.isLt
  refine congrArg P (funext fun a => Fin.ext ?_)
  match a with
  | ⟨0, _⟩ => show r.val = 0 + 1 * r.val; omega
  | ⟨1, _⟩ =>
    show n * s.val + e.val = n * (s.val + 1 * z.val) + (0 + 1 * e.val)
    have h0 : z.val = 0 := by omega
    rw [h0]; simp

/-- Two blocks side by side. -/
theorem beside {R n N : ℕ} (x y : (⟨2, ![R, n]⟩ : Shape).Idx → EReal)
    (h : Shape.Concatenates [(⟨2, ![R, n]⟩ : Shape), (⟨2, ![R, n]⟩ : Shape)] ⟨2, ![R, N]⟩ 1) (r : Fin R) (s : Fin 2) (e : Fin n)
    (he : n * s.val + e.val < N) :
    concatenate ⟨2, ![R, N]⟩ 1 [⟨⟨2, ![R, n]⟩, x⟩, ⟨⟨2, ![R, n]⟩, y⟩] h (ix2 r ⟨n * s.val + e.val, he⟩) = if s = 0 then x (ix2 r e) else y (ix2 r e) := by
  rw [concatenate_pair_apply]
  have hl := e.isLt
  match s with
  | ⟨0, _⟩ =>
    refine (dif_pos (show n * 0 + e.val < n by omega)).trans ?_
    rw [if_pos (show (⟨0, by decide⟩ : Fin 2) = 0 from rfl)]
    congr 1; funext a; apply Fin.ext
    match a with
    | ⟨0, _⟩ => rfl
    | ⟨1, _⟩ => show n * 0 + e.val = e.val; omega
  | ⟨1, _⟩ =>
    refine (dif_neg (show ¬ n * 1 + e.val < n by omega)).trans ?_
    rw [if_neg (show ¬ (⟨1, by decide⟩ : Fin 2) = 0 by decide)]
    congr 1; funext a; apply Fin.ext
    match a with
    | ⟨0, _⟩ => rfl
    | ⟨1, _⟩ => show n * 1 + e.val - n = e.val; omega

/-! ## The host's cutting and joining -/

/-- Cutting a matrix into shards of columns. -/
theorem cut_shards {R b n M : ℕ} (h : b * n = M) (A : (⟨2, ![R, M]⟩ : Shape).Idx → EReal)
    (h1 : (⟨2, ![R, M]⟩ : Shape).ShapeCasts ⟨3, ![R, b, n]⟩) (h2 : (⟨3, ![R, b, n]⟩ : Shape).Transposes [1, 0, 2] ⟨3, ![b, R, n]⟩) :
    transpose ⟨3, ![b, R, n]⟩ [1, 0, 2] (shapeCast ⟨3, ![R, b, n]⟩ A h1) h2 = shardsOf h A := by
  funext i
  obtain ⟨s, k, e, rfl⟩ : ∃ (s : Fin b) (k : Fin R) (e : Fin n), i = ix3 s k e := ⟨i 0, i 1, i 2, eq_ix3 (n0 := b) (n1 := R) (n2 := n) i⟩
  refine (transpose_apply [1, 0, 2] _ _ _ (ix3 k s e) (fun b => by match b with | ⟨0, _⟩ => rfl | ⟨1, _⟩ => rfl | ⟨2, _⟩ => rfl)).trans ?_
  exact shapeCast_apply _ _ _ (ix2 k (shCol h s e)) (by
    rw [Shape.rowMajor_val_two, Shape.rowMajor_val_three]
    show k.val * M + (n * s.val + e.val) = (k.val * b + s.val) * n + e.val
    rw [← h]; ring)

/-- Putting shards of columns back side by side. -/
theorem join_shards {R b n M : ℕ} (h : b * n = M) (A : (⟨2, ![R, M]⟩ : Shape).Idx → EReal)
    (h1 : (⟨3, ![b, R, n]⟩ : Shape).Transposes [1, 0, 2] ⟨3, ![R, b, n]⟩) (h2 : (⟨3, ![R, b, n]⟩ : Shape).ShapeCasts ⟨2, ![R, M]⟩) :
    shapeCast ⟨2, ![R, M]⟩ (transpose ⟨3, ![R, b, n]⟩ [1, 0, 2] (shardsOf h A) h1) h2 = A := by
  funext i
  obtain ⟨k, e, rfl⟩ := any2 R M i
  have he := e.isLt
  have hn : 0 < n := by
    rcases Nat.eq_zero_or_pos n with h0 | h0
    · rw [h0, Nat.mul_zero] at h; omega
    · exact h0
  have hs : e.val / n < b := Nat.div_lt_of_lt_mul (lt_of_lt_of_eq he (by rw [← h, Nat.mul_comm]))
  refine (shapeCast_apply _ _ _ (ix3 k ⟨e.val / n, hs⟩ ⟨e.val % n, Nat.mod_lt _ hn⟩) (by
    rw [Shape.rowMajor_val_two, Shape.rowMajor_val_three]
    show (k.val * b + e.val / n) * n + e.val % n = k.val * M + e.val
    have := Nat.div_add_mod e.val n
    calc (k.val * b + e.val / n) * n + e.val % n = k.val * (b * n) + (n * (e.val / n) + e.val % n) := by ring
      _ = _ := by rw [this, h])).trans ?_
  refine (transpose_apply [1, 0, 2] _ _ _ (ix3 ⟨e.val / n, hs⟩ k ⟨e.val % n, Nat.mod_lt _ hn⟩) (fun b => by
    match b with | ⟨0, _⟩ => rfl | ⟨1, _⟩ => rfl | ⟨2, _⟩ => rfl)).trans ?_
  refine congrArg A (funext fun a => Fin.ext ?_)
  match a with
  | ⟨0, _⟩ => rfl
  | ⟨1, _⟩ => exact Nat.div_add_mod e.val n

end Cert.Products

end
-- ==== Proof.AdamwMath.lean ====
/-
  One step of the optimiser at an element, and the gradient as the sum of the eight devices' shares, at the ideal values.
-/
module

public import proofs.«01_k».proof.Proof.Shards

@[expose] public section

noncomputable section

namespace Cert.Adamw

open Idealize.ShloMosaic hiding ix1 ix2 ix3 eq_ix1 eq_ix2 eq_ix3
open Idealize.ShloMosaic.ValueIdx
open Cert.Products

/-- The arrays of a shape and an element type. -/
abbrev Arr (S : Shape) (e : EltTy) := (⟨S, e⟩ : BufTy).Contents (Elt Ideal)

/-- The number a 32-bit word stands for. -/
abbrev word (b : BitVec 32) : EReal := Ideal.ofBits .f32 b

/-- The new first moment. -/
def newM (g m : EReal) : EReal := word 0x3F666666#32 * m + word 0x3DCCCCCD#32 * g

/-- The new second moment. -/
def newV (g v : EReal) : EReal := word 0x3F7FBE77#32 * v + word 0x3A83126F#32 * (g * g)

/-- The change of the weight. -/
def delta (g w m v : EReal) : EReal :=
  word 0xBA83126F#32 * (Ideal.div (Ideal.div (newM g m) (word 0x3F26BD02#32)) (Ideal.sqrt (Ideal.div (newV g v) (word 0x3C231ACC#32)) + word 0x322BCC77#32)
    + word 0x3C23D70A#32 * w)

section Table

variable {K n : ℕ} (p : (⟨3, ![8, K, n]⟩ : Shape).Idx → EReal) (w m v : (⟨2, ![K, n]⟩ : Shape).Idx → EReal)

/-- The sum of the eight devices' shares. -/
def total : (⟨2, ![K, n]⟩ : Shape).Idx → EReal := fun i => ∑ d : Fin 8, p (ix3 d (i 0) (i 1))

/-- The four results for one weight, element by element. -/
def deltas : (⟨2, ![K, n]⟩ : Shape).Idx → EReal := fun i => delta (total p i) (w i) (m i) (v i)
def moments : (⟨2, ![K, n]⟩ : Shape).Idx → EReal := fun i => newM (total p i) (m i)
def squares : (⟨2, ![K, n]⟩ : Shape).Idx → EReal := fun i => newV (total p i) (v i)

end Table

section Block

variable {K n B b : ℕ} {p : (⟨3, ![8, B, b]⟩ : Shape).Idx → EReal} {w m v : (⟨2, ![B, b]⟩ : Shape).Idx → EReal}
  {P : (⟨3, ![8, K, n]⟩ : Shape).Idx → EReal} {W M V : (⟨2, ![K, n]⟩ : Shape).Idx → EReal}
  {r : Fin B} {e : Fin b} {R : Fin K} {E : Fin n}
  (hp : ∀ d, p (ix3 d r e) = P (ix3 d R E)) (hw : w (ix2 r e) = W (ix2 R E)) (hm : m (ix2 r e) = M (ix2 R E)) (hv : v (ix2 r e) = V (ix2 R E))

include hp

/-! The results of a block are the block of the results. -/

theorem total_block : total p (ix2 r e) = total P (ix2 R E) := Finset.sum_congr rfl fun d _ => hp d

include hm in
theorem moments_block : moments p m (ix2 r e) = moments P M (ix2 R E) := by
  unfold moments; rw [total_block hp, hm]

include hv in
theorem squares_block : squares p v (ix2 r e) = squares P V (ix2 R E) := by
  unfold squares; rw [total_block hp, hv]

include hw hm hv in
theorem deltas_block : deltas p w m v (ix2 r e) = deltas P W M V (ix2 R E) := by
  unfold deltas; rw [total_block hp, hw, hm, hv]

end Block

/-- One device's share, loaded from the eight, read at an element. -/
theorem share {K n : ℕ} (x : FVec Ideal ⟨3, ![8, K, n]⟩ .bf16) (d : Fin 8)
    (inb : ∀ a : Fin 3, (![d.val, 0, 0] : Fin 3 → ℕ) a + (⟨3, ![1, K, n]⟩ : Shape).size a ≤ (⟨3, ![8, K, n]⟩ : Shape).size a)
    (h : (⟨3, ![1, K, n]⟩ : Shape).ShapeCasts ⟨2, ![K, n]⟩) (r : Fin K) (e : Fin n) :
    shapeCast ⟨2, ![K, n]⟩ (View.ld (Val := Elt Ideal) (e' := .bf16) x (Rect.unit (s := ⟨3, ![8, K, n]⟩) ![d.val, 0, 0] (⟨3, ![1, K, n]⟩ : Shape).size inb)) h (ix2 r e)
      = x (ix3 d r e) := by
  refine (shapeCast_apply _ _ _ (ix3 0 r e) (lead_one r e)).trans ?_
  show x _ = x _
  congr 1; funext a; apply Fin.ext
  match a with
  | ⟨0, _⟩ => show d.val + 1 * 0 = d.val; omega
  | ⟨1, _⟩ => show 0 + 1 * r.val = r.val; omega
  | ⟨2, _⟩ => show 0 + 1 * e.val = e.val; omega

end Cert.Adamw

end
-- ==== Proof.MixerMath.lean ====
/-
  The mixer's projections and their gradients as functions of the arrays (at the ideal values): the one form in which the
  calls' results and the reference's are compared.
-/
module

public import proofs.«01_k».proof.Proof.Shards

@[expose] public section

noncomputable section

namespace Cert.Mixer

open Cert.Products
open Idealize.ShloMosaic hiding ix1 ix2 ix3 eq_ix1 eq_ix2 eq_ix3
open Idealize.ShloMosaic.ValueIdx

/-! ## The backward products -/

/-- The two halves of the gates' gradient side by side. -/
def sideBySide (D : (⟨3, ![2, 4096, 2048]⟩ : Shape).Idx → EReal) : (⟨2, ![4096, 4096]⟩ : Shape).Idx → EReal :=
  table fun r e => D (ix3 (⟨e.val / 2048, by have := e.isLt; omega⟩ : Fin 2) r (⟨e.val % 2048, by omega⟩ : Fin 2048))

section Back

variable (H : (⟨2, ![4096, 2048]⟩ : Shape).Idx → EReal) (Y : (⟨2, ![4096, 512]⟩ : Shape).Idx → EReal)
  (Wq : (⟨2, ![2048, 6144]⟩ : Shape).Idx → EReal) (Wg : (⟨2, ![2048, 4096]⟩ : Shape).Idx → EReal)
  (Wp : (⟨2, ![512, 2048]⟩ : Shape).Idx → EReal) (Dq : (⟨2, ![4096, 6144]⟩ : Shape).Idx → EReal)
  (Dg : (⟨3, ![2, 4096, 2048]⟩ : Shape).Idx → EReal) (Dp : (⟨2, ![4096, 2048]⟩ : Shape).Idx → EReal)

/-- The gradients of the three kinds of weight. -/
def dwq : (⟨2, ![2048, 6144]⟩ : Shape).Idx → EReal := table fun r e => colCol H Dq r e
def dwg : (⟨2, ![2048, 4096]⟩ : Shape).Idx → EReal := table fun r e => colCol H (sideBySide Dg) r e
def dwp : (⟨2, ![512, 2048]⟩ : Shape).Idx → EReal := table fun r e => colCol Y Dp r e

/-- The gradients of the branches and of the mixer's input. -/
def dy : (⟨2, ![4096, 512]⟩ : Shape).Idx → EReal := table fun r e => rowRow Dp Wp r e
def dh : (⟨2, ![4096, 2048]⟩ : Shape).Idx → EReal := table fun r e => rowRow Dq Wq r e + rowRow (sideBySide Dg) Wg r e

/-- One half of the gates' gradient against the four shards that half meets. -/
def halfSum (D : (⟨3, ![2, 4096, 2048]⟩ : Shape).Idx → EReal) (W : (⟨3, ![8, 2048, 512]⟩ : Shape).Idx → EReal) (z : Fin 2) (r : Fin 4096)
    (e : Fin 2048) : EReal :=
  ∑ s : Fin 4, ∑ k : Fin 512, D (ix3 z r (shCol (b := 4) (n := 512) (M := 2048) (by norm_num) s k))
    * W (ix3 (shCol (b := 2) (n := 4) (M := 8) (by norm_num) z s) e k)

/-- The two halves against the shards of the weight are the whole row against the weight's row. -/
theorem halves (r : Fin 4096) (e : Fin 2048) (h : 8 * 512 = 4096) :
    halfSum Dg (shardsOf h Wg) 0 r e + halfSum Dg (shardsOf h Wg) 1 r e = rowRow (sideBySide Dg) Wg r e := by
  have step : ∀ z : Fin 2, halfSum Dg (shardsOf h Wg) z r e
      = ∑ k : Fin 2048, sideBySide Dg (ix2 r (shCol (b := 2) (n := 2048) (M := 4096) (by norm_num) z k))
          * Wg (ix2 e (shCol (b := 2) (n := 2048) (M := 4096) (by norm_num) z k)) := by
    intro z
    unfold halfSum
    refine Eq.trans ?_ (sum_runs (b := 4) (n := 512) (N := 2048) (by norm_num) _).symm
    refine Finset.sum_congr rfl fun s _ => Finset.sum_congr rfl fun k _ => congrArg₂ (· * ·) ?_ ?_
    · unfold sideBySide
      have h1 := z.isLt; have h2 := s.isLt; have h3 := k.isLt
      refine congrArg Dg (funext fun a => Fin.ext ?_)
      match a with
      | ⟨0, _⟩ => show z.val = (2048 * z.val + (512 * s.val + k.val)) / 2048; omega
      | ⟨1, _⟩ => rfl
      | ⟨2, _⟩ => show 512 * s.val + k.val = (2048 * z.val + (512 * s.val + k.val)) % 2048; omega
    · refine congrArg Wg (funext fun a => Fin.ext ?_)
      match a with
      | ⟨0, _⟩ => rfl
      | ⟨1, _⟩ => show 512 * (4 * z.val + s.val) + k.val = 2048 * z.val + (512 * s.val + k.val); omega
  rw [step, step]
  refine Eq.trans ?_ (sum_runs (b := 2) (n := 2048) (N := 4096) (by norm_num) fun k : Fin 4096 => sideBySide Dg (ix2 r k) * Wg (ix2 e k)).symm
  rw [Fin.sum_univ_two]

end Back

end Cert.Mixer

end
-- ==== Proof.RiderReference.lean ====
/-
  The reference of the backward input projection and of the three updates that ride on its grid, read as the gradient of the
  mixer's input and as the step of the optimiser.
-/
module

public import proofs.«01_k».proof.Proof.Gen.Reference7Ideal.Read
public import proofs.«01_k».proof.Proof.AdamwMath
public import proofs.«01_k».proof.Proof.MixerMath

@[expose] public section

set_option maxRecDepth 16384

noncomputable section

namespace Cert.Reference7Ideal.Rider

open Cert.Products Cert.Mixer Cert.Reference7Ideal Cert.Reference7Ideal.Gen Cert.Reference7Ideal.Read Cert.Adamw
open Idealize.ShloMosaic
open Idealize.ShloMosaic.ValueIdx

section

variable (x0 : Arr S4096x6144 .bf16) (x1 : Arr S2x4096x2048 .bf16)
  (x2 : Arr S2048x6144 .f32) (x3 : Arr S2048x4096 .f32)

/-- The two halves of the gates' gradient, put side by side. -/
theorem v2 : val_main_v2 (F := Ideal) x1 = sideBySide x1 := funext fun i => by
  rw [val_main_v2_apply, val_main_v1_apply, val_main_v0_apply]
  show x1 _ = x1 _
  have h0 : (i 0).val < 4096 := (i 0).isLt
  have h1 : (i 1).val < 4096 := (i 1).isLt
  congr 1; funext a; apply Fin.ext
  match a with
  | ⟨0, _⟩ => show ((i 0).val * 4096 + (i 1).val) / 2048 % 2 = (i 1).val / 2048; omega
  | ⟨1, _⟩ => show ((i 0).val * 4096 + (i 1).val) / 4096 = (i 0).val; omega
  | ⟨2, _⟩ => show ((i 0).val * 4096 + (i 1).val) % 2048 = (i 1).val % 2048; omega

/-- The part of queries, keys and values. -/
theorem v8 (i : S4096x2048.Idx) : val_main_v8 (F := Ideal) x0 x2 i = rowRow x0 x2 (i 0) (i 1) := by
  rw [val_main_v8_apply]; unfold rowRow
  refine Finset.sum_congr rfl fun k _ => congrArg₂ (fun a b : EReal => a * b) ?_ ?_
  · show x0 _ = x0 _
    congr 1; funext a; match a with | ⟨0, _⟩ => rfl | ⟨1, _⟩ => rfl
  · congr 1; funext a; match a with | ⟨0, _⟩ => rfl | ⟨1, _⟩ => rfl

/-- The gates' part. -/
theorem v7 (i : S4096x2048.Idx) : val_main_v7 (F := Ideal) x1 x3 i = rowRow (sideBySide x1) x3 (i 0) (i 1) := by
  rw [val_main_v7_apply, v2]; unfold rowRow
  refine Finset.sum_congr rfl fun k _ => congrArg₂ (fun a b : EReal => a * b) ?_ ?_
  · congr 1; funext a; match a with | ⟨0, _⟩ => rfl | ⟨1, _⟩ => rfl
  · congr 1; funext a; match a with | ⟨0, _⟩ => rfl | ⟨1, _⟩ => rfl

/-- The gradient of the mixer's input: the two parts, in the other order. -/
theorem v10 : val_main_v10 (F := Ideal) x0 x1 x2 x3 = dh x2 x3 x0 x1 := funext fun i => by
  rw [val_main_v10_apply, val_main_v9_apply, v7, v8]
  exact add_comm (G := EReal) _ _

end

/-- The up projection's weight: the sum of the shares. -/
theorem sum11 (x4 : Arr S8x2048x1024 .bf16) : val_main_v12 (F := Ideal) x4 = total x4 := funext fun i => by
  rw [val_main_v12_apply, val_main_cst_0_apply]
  show Ideal.ofBits .f32 0x00000000#32 + _ = _
  rw [Ideal.ofBits_zero_f32, zero_add]
  refine Finset.sum_congr rfl fun k _ => ?_
  show x4 _ = x4 _
  congr 1; funext a; match a with | ⟨0, _⟩ => rfl | ⟨1, _⟩ => rfl | ⟨2, _⟩ => rfl

/-- The up projection's weight: the new first moment. -/
theorem mean11 (x4 : Arr S8x2048x1024 .bf16) (x6 : Arr S2048x1024 .f32) : val_main_v17 (F := Ideal) x4 x6 = moments x4 x6 := funext fun i => by
  simp only [val_main_cst_1_apply, val_main_v13_apply, val_main_v14_apply, val_main_cst_2_apply, val_main_v15_apply, val_main_v16_apply, val_main_v17_apply, sum11]
  rfl

/-- The up projection's weight: the new second moment. -/
theorem square11 (x4 : Arr S8x2048x1024 .bf16) (x7 : Arr S2048x1024 .f32) : val_main_v23 (F := Ideal) x4 x7 = squares x4 x7 := funext fun i => by
  simp only [val_main_cst_3_apply, val_main_v18_apply, val_main_v19_apply, val_main_v20_apply, val_main_cst_4_apply, val_main_v21_apply, val_main_v22_apply, val_main_v23_apply, sum11]
  rfl

/-- The up projection's weight: the change of the weight. -/
theorem change11 (x4 : Arr S8x2048x1024 .bf16) (x5 x6 x7 : Arr S2048x1024 .f32) : val_main_v36 (F := Ideal) x4 x5 x6 x7 = deltas x4 x5 x6 x7 := funext fun i => by
  simp only [val_main_cst_5_apply, val_main_v24_apply, val_main_v25_apply, val_main_cst_6_apply, val_main_v26_apply, val_main_v27_apply, val_main_v28_apply, val_main_cst_7_apply, val_main_v29_apply, val_main_v30_apply, val_main_v31_apply, val_main_cst_8_apply, val_main_v32_apply, val_main_v33_apply, val_main_v34_apply, val_main_cst_9_apply, val_main_v35_apply, val_main_v36_apply, mean11, square11]
  rfl

/-- The down projection's weight: the sum of the shares. -/
theorem sum37 (x8 : Arr S8x1024x2048 .bf16) : val_main_v38 (F := Ideal) x8 = total x8 := funext fun i => by
  rw [val_main_v38_apply, val_main_cst_10_apply]
  show Ideal.ofBits .f32 0x00000000#32 + _ = _
  rw [Ideal.ofBits_zero_f32, zero_add]
  refine Finset.sum_congr rfl fun k _ => ?_
  show x8 _ = x8 _
  congr 1; funext a; match a with | ⟨0, _⟩ => rfl | ⟨1, _⟩ => rfl | ⟨2, _⟩ => rfl

/-- The down projection's weight: the new first moment. -/
theorem mean37 (x8 : Arr S8x1024x2048 .bf16) (x10 : Arr S1024x2048 .f32) : val_main_v43 (F := Ideal) x8 x10 = moments x8 x10 := funext fun i => by
  simp only [val_main_cst_11_apply, val_main_v39_apply, val_main_v40_apply, val_main_cst_12_apply, val_main_v41_apply, val_main_v42_apply, val_main_v43_apply, sum37]
  rfl

/-- The down projection's weight: the new second moment. -/
theorem square37 (x8 : Arr S8x1024x2048 .bf16) (x11 : Arr S1024x2048 .f32) : val_main_v49 (F := Ideal) x8 x11 = squares x8 x11 := funext fun i => by
  simp only [val_main_cst_13_apply, val_main_v44_apply, val_main_v45_apply, val_main_v46_apply, val_main_cst_14_apply, val_main_v47_apply, val_main_v48_apply, val_main_v49_apply, sum37]
  rfl

/-- The down projection's weight: the change of the weight. -/
theorem change37 (x8 : Arr S8x1024x2048 .bf16) (x9 x10 x11 : Arr S1024x2048 .f32) : val_main_v62 (F := Ideal) x8 x9 x10 x11 = deltas x8 x9 x10 x11 := funext fun i => by
  simp only [val_main_cst_15_apply, val_main_v50_apply, val_main_v51_apply, val_main_cst_16_apply, val_main_v52_apply, val_main_v53_apply, val_main_v54_apply, val_main_cst_17_apply, val_main_v55_apply, val_main_v56_apply, val_main_v57_apply, val_main_cst_18_apply, val_main_v58_apply, val_main_v59_apply, val_main_v60_apply, val_main_cst_19_apply, val_main_v61_apply, val_main_v62_apply, mean37, square37]
  rfl

/-- The gates' weight: the sum of the shares. -/
theorem sum63 (x12 : Arr S8x2048x512 .bf16) : val_main_v64 (F := Ideal) x12 = total x12 := funext fun i => by
  rw [val_main_v64_apply, val_main_cst_20_apply]
  show Ideal.ofBits .f32 0x00000000#32 + _ = _
  rw [Ideal.ofBits_zero_f32, zero_add]
  refine Finset.sum_congr rfl fun k _ => ?_
  show x12 _ = x12 _
  congr 1; funext a; match a with | ⟨0, _⟩ => rfl | ⟨1, _⟩ => rfl | ⟨2, _⟩ => rfl

/-- The gates' weight: the new first moment. -/
theorem mean63 (x12 : Arr S8x2048x512 .bf16) (x14 : Arr S2048x512 .f32) : val_main_v69 (F := Ideal) x12 x14 = moments x12 x14 := funext fun i => by
  simp only [val_main_cst_21_apply, val_main_v65_apply, val_main_v66_apply, val_main_cst_22_apply, val_main_v67_apply, val_main_v68_apply, val_main_v69_apply, sum63]
  rfl

/-- The gates' weight: the new second moment. -/
theorem square63 (x12 : Arr S8x2048x512 .bf16) (x15 : Arr S2048x512 .f32) : val_main_v75 (F := Ideal) x12 x15 = squares x12 x15 := funext fun i => by
  simp only [val_main_cst_23_apply, val_main_v70_apply, val_main_v71_apply, val_main_v72_apply, val_main_cst_24_apply, val_main_v73_apply, val_main_v74_apply, val_main_v75_apply, sum63]
  rfl

/-- The gates' weight: the change of the weight. -/
theorem change63 (x12 : Arr S8x2048x512 .bf16) (x13 x14 x15 : Arr S2048x512 .f32) : val_main_v88 (F := Ideal) x12 x13 x14 x15 = deltas x12 x13 x14 x15 := funext fun i => by
  simp only [val_main_cst_25_apply, val_main_v76_apply, val_main_v77_apply, val_main_cst_26_apply, val_main_v78_apply, val_main_v79_apply, val_main_v80_apply, val_main_cst_27_apply, val_main_v81_apply, val_main_v82_apply, val_main_v83_apply, val_main_cst_28_apply, val_main_v84_apply, val_main_v85_apply, val_main_v86_apply, val_main_cst_29_apply, val_main_v87_apply, val_main_v88_apply, mean63, square63]
  rfl

end Cert.Reference7Ideal.Rider

end
-- ==== Proof.RiderFrame.lean ====
/- The frame of the backward input projection with the three updates that ride on its grid: the arrays staged, the body run on blocks, and the launch. -/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel7Ideal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel7Ideal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s arrays when the region is entered. -/
abbrev V (c : Dev nD) (b : Ref sig .tc) : Buf (Elt F) ((c : Thread nD τ).loc b) := StableHlo.after hostOps0 (fun b => m (c, b)) b

/-- The host operations make no new buffer. -/
theorem hostOps0_fresh : (hostOps0 : List (HloOp τ sig (Elt F))).Forall fun op => op.fresh = ∅ := by
  simp only [List.Forall]; repeat' constructor

set_option maxHeartbeats 800000 in
/-- The program is its host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the host operations before the region writes is found as it was launched. -/
theorem kept (c : Dev nD) (b : Ref sig .tc) (h : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    obtain ⟨h0, h1, h2, h3, h4, h5⟩ := h
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (apply StableHlo.devRef_ne_of_ne; assumption)))
/-! The arguments are found as launched. -/

theorem V_main_arg0 (c : Dev nD) : V m c main_arg0 = m ((c : Thread nD τ).loc main_arg0) := kept m c main_arg0 (by decide)
theorem V_main_arg1 (c : Dev nD) : V m c main_arg1 = m ((c : Thread nD τ).loc main_arg1) := kept m c main_arg1 (by decide)
theorem V_main_arg2 (c : Dev nD) : V m c main_arg2 = m ((c : Thread nD τ).loc main_arg2) := kept m c main_arg2 (by decide)
theorem V_main_arg3 (c : Dev nD) : V m c main_arg3 = m ((c : Thread nD τ).loc main_arg3) := kept m c main_arg3 (by decide)
theorem V_main_arg4 (c : Dev nD) : V m c main_arg4 = m ((c : Thread nD τ).loc main_arg4) := kept m c main_arg4 (by decide)
theorem V_main_arg5 (c : Dev nD) : V m c main_arg5 = m ((c : Thread nD τ).loc main_arg5) := kept m c main_arg5 (by decide)
theorem V_main_arg6 (c : Dev nD) : V m c main_arg6 = m ((c : Thread nD τ).loc main_arg6) := kept m c main_arg6 (by decide)
theorem V_main_arg7 (c : Dev nD) : V m c main_arg7 = m ((c : Thread nD τ).loc main_arg7) := kept m c main_arg7 (by decide)
theorem V_main_arg8 (c : Dev nD) : V m c main_arg8 = m ((c : Thread nD τ).loc main_arg8) := kept m c main_arg8 (by decide)
theorem V_main_arg9 (c : Dev nD) : V m c main_arg9 = m ((c : Thread nD τ).loc main_arg9) := kept m c main_arg9 (by decide)
theorem V_main_arg10 (c : Dev nD) : V m c main_arg10 = m ((c : Thread nD τ).loc main_arg10) := kept m c main_arg10 (by decide)
theorem V_main_arg11 (c : Dev nD) : V m c main_arg11 = m ((c : Thread nD τ).loc main_arg11) := kept m c main_arg11 (by decide)
theorem V_main_arg12 (c : Dev nD) : V m c main_arg12 = m ((c : Thread nD τ).loc main_arg12) := kept m c main_arg12 (by decide)
theorem V_main_arg13 (c : Dev nD) : V m c main_arg13 = m ((c : Thread nD τ).loc main_arg13) := kept m c main_arg13 (by decide)
theorem V_main_arg14 (c : Dev nD) : V m c main_arg14 = m ((c : Thread nD τ).loc main_arg14) := kept m c main_arg14 (by decide)
theorem V_main_arg15 (c : Dev nD) : V m c main_arg15 = m ((c : Thread nD τ).loc main_arg15) := kept m c main_arg15 (by decide)
/-- The block of window `w` at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Core `c`'s argument arrays are, in the contents `μ`, as they were launched. -/
abbrev Still (μ : (ℓ : Loc nD τ sig) → Buf (Elt F) ℓ) (c : Dev nD) : Prop :=
      μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9)
      ∧ μ ((c.tc : Thread nD τ).loc main_arg10) = m ((c.tc : Thread nD τ).loc main_arg10)
      ∧ μ ((c.tc : Thread nD τ).loc main_arg11) = m ((c.tc : Thread nD τ).loc main_arg11)
      ∧ μ ((c.tc : Thread nD τ).loc main_arg12) = m ((c.tc : Thread nD τ).loc main_arg12)
      ∧ μ ((c.tc : Thread nD τ).loc main_arg13) = m ((c.tc : Thread nD τ).loc main_arg13)
      ∧ μ ((c.tc : Thread nD τ).loc main_arg14) = m ((c.tc : Thread nD τ).loc main_arg14)
      ∧ μ ((c.tc : Thread nD τ).loc main_arg15) = m ((c.tc : Thread nD τ).loc main_arg15)

set_option maxHeartbeats 1860000 in
/-- A run that leaves every staged input as it was is a frame. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD, Still m r.2.mem c) :=
  (θ_run defs _ _).mono (fun _ h c => ⟨((h c).1 0).trans (((dats 0 c).arrAt_in 0 rfl _).trans ((hA c 0).trans (V_main_arg0 m c))),
      ((h c).1 4).trans (((dats 0 c).arrAt_in 4 rfl _).trans ((hA c 4).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 6).trans (((dats 0 c).arrAt_in 6 rfl _).trans ((hA c 6).trans (V_main_arg4 m c))),
      ((h c).1 7).trans (((dats 0 c).arrAt_in 7 rfl _).trans ((hA c 7).trans (V_main_arg5 m c))),
      ((h c).1 8).trans (((dats 0 c).arrAt_in 8 rfl _).trans ((hA c 8).trans (V_main_arg6 m c))),
      ((h c).1 9).trans (((dats 0 c).arrAt_in 9 rfl _).trans ((hA c 9).trans (V_main_arg7 m c))),
      ((h c).1 10).trans (((dats 0 c).arrAt_in 10 rfl _).trans ((hA c 10).trans (V_main_arg8 m c))),
      ((h c).1 11).trans (((dats 0 c).arrAt_in 11 rfl _).trans ((hA c 11).trans (V_main_arg9 m c))),
      ((h c).1 12).trans (((dats 0 c).arrAt_in 12 rfl _).trans ((hA c 12).trans (V_main_arg10 m c))),
      ((h c).1 13).trans (((dats 0 c).arrAt_in 13 rfl _).trans ((hA c 13).trans (V_main_arg11 m c))),
      ((h c).1 14).trans (((dats 0 c).arrAt_in 14 rfl _).trans ((hA c 14).trans (V_main_arg12 m c))),
      ((h c).1 15).trans (((dats 0 c).arrAt_in 15 rfl _).trans ((hA c 15).trans (V_main_arg13 m c))),
      ((h c).1 16).trans (((dats 0 c).arrAt_in 16 rfl _).trans ((hA c 16).trans (V_main_arg14 m c))),
      ((h c).1 17).trans (((dats 0 c).arrAt_in 17 rfl _).trans ((hA c 17).trans (V_main_arg15 m c)))⟩) h

abbrev r0_0 : Rect S512x6144 := Rect.unit (s := S512x6144) ![0, 0] S512x6144.size inb_S512x6144_S512x6144_0_0
abbrev r0_1 : Rect S8x512x768 := Rect.unit (s := S8x512x768) ![0, 0, 0] S8x512x768.size inb_S8x512x768_S8x512x768_0_0_0
abbrev r0_2 : Rect S1x512x2048 := Rect.unit (s := S1x512x2048) ![0, 0, 0] S1x512x2048.size inb_S1x512x2048_S1x512x2048_0_0_0
abbrev r0_3 : Rect S4x512x512 := Rect.unit (s := S4x512x512) ![0, 0, 0] S4x512x512.size inb_S4x512x512_S4x512x512_0_0_0
abbrev r0_4 : Rect S512x512 := Rect.unit (s := S512x512) ![0, 0] S512x512.size inb_S512x512_S512x512_0_0
abbrev r0_5 : Rect S8x64x1024 := Rect.unit (s := S8x64x1024) ![0, 0, 0] S1x64x1024.size inb_S8x64x1024_S1x64x1024_0_0_0
abbrev r0_6 : Rect S8x64x1024 := Rect.unit (s := S8x64x1024) ![1, 0, 0] S1x64x1024.size inb_S8x64x1024_S1x64x1024_1_0_0
abbrev r0_7 : Rect S8x64x1024 := Rect.unit (s := S8x64x1024) ![2, 0, 0] S1x64x1024.size inb_S8x64x1024_S1x64x1024_2_0_0
abbrev r0_8 : Rect S8x64x1024 := Rect.unit (s := S8x64x1024) ![3, 0, 0] S1x64x1024.size inb_S8x64x1024_S1x64x1024_3_0_0
abbrev r0_9 : Rect S8x64x1024 := Rect.unit (s := S8x64x1024) ![4, 0, 0] S1x64x1024.size inb_S8x64x1024_S1x64x1024_4_0_0
abbrev r0_10 : Rect S8x64x1024 := Rect.unit (s := S8x64x1024) ![5, 0, 0] S1x64x1024.size inb_S8x64x1024_S1x64x1024_5_0_0
abbrev r0_11 : Rect S8x64x1024 := Rect.unit (s := S8x64x1024) ![6, 0, 0] S1x64x1024.size inb_S8x64x1024_S1x64x1024_6_0_0
abbrev r0_12 : Rect S8x64x1024 := Rect.unit (s := S8x64x1024) ![7, 0, 0] S1x64x1024.size inb_S8x64x1024_S1x64x1024_7_0_0
abbrev r0_13 : Rect S64x1024 := Rect.unit (s := S64x1024) ![0, 0] S64x1024.size inb_S64x1024_S64x1024_0_0
abbrev r0_14 : Rect S8x32x2048 := Rect.unit (s := S8x32x2048) ![0, 0, 0] S1x32x2048.size inb_S8x32x2048_S1x32x2048_0_0_0
abbrev r0_15 : Rect S8x32x2048 := Rect.unit (s := S8x32x2048) ![1, 0, 0] S1x32x2048.size inb_S8x32x2048_S1x32x2048_1_0_0
abbrev r0_16 : Rect S8x32x2048 := Rect.unit (s := S8x32x2048) ![2, 0, 0] S1x32x2048.size inb_S8x32x2048_S1x32x2048_2_0_0
abbrev r0_17 : Rect S8x32x2048 := Rect.unit (s := S8x32x2048) ![3, 0, 0] S1x32x2048.size inb_S8x32x2048_S1x32x2048_3_0_0
abbrev r0_18 : Rect S8x32x2048 := Rect.unit (s := S8x32x2048) ![4, 0, 0] S1x32x2048.size inb_S8x32x2048_S1x32x2048_4_0_0
abbrev r0_19 : Rect S8x32x2048 := Rect.unit (s := S8x32x2048) ![5, 0, 0] S1x32x2048.size inb_S8x32x2048_S1x32x2048_5_0_0
abbrev r0_20 : Rect S8x32x2048 := Rect.unit (s := S8x32x2048) ![6, 0, 0] S1x32x2048.size inb_S8x32x2048_S1x32x2048_6_0_0
abbrev r0_21 : Rect S8x32x2048 := Rect.unit (s := S8x32x2048) ![7, 0, 0] S1x32x2048.size inb_S8x32x2048_S1x32x2048_7_0_0
abbrev r0_22 : Rect S32x2048 := Rect.unit (s := S32x2048) ![0, 0] S32x2048.size inb_S32x2048_S32x2048_0_0
abbrev r0_23 : Rect S8x64x512 := Rect.unit (s := S8x64x512) ![0, 0, 0] S1x64x512.size inb_S8x64x512_S1x64x512_0_0_0
abbrev r0_24 : Rect S8x64x512 := Rect.unit (s := S8x64x512) ![1, 0, 0] S1x64x512.size inb_S8x64x512_S1x64x512_1_0_0
abbrev r0_25 : Rect S8x64x512 := Rect.unit (s := S8x64x512) ![2, 0, 0] S1x64x512.size inb_S8x64x512_S1x64x512_2_0_0
abbrev r0_26 : Rect S8x64x512 := Rect.unit (s := S8x64x512) ![3, 0, 0] S1x64x512.size inb_S8x64x512_S1x64x512_3_0_0
abbrev r0_27 : Rect S8x64x512 := Rect.unit (s := S8x64x512) ![4, 0, 0] S1x64x512.size inb_S8x64x512_S1x64x512_4_0_0
abbrev r0_28 : Rect S8x64x512 := Rect.unit (s := S8x64x512) ![5, 0, 0] S1x64x512.size inb_S8x64x512_S1x64x512_5_0_0
abbrev r0_29 : Rect S8x64x512 := Rect.unit (s := S8x64x512) ![6, 0, 0] S1x64x512.size inb_S8x64x512_S1x64x512_6_0_0
abbrev r0_30 : Rect S8x64x512 := Rect.unit (s := S8x64x512) ![7, 0, 0] S1x64x512.size inb_S8x64x512_S1x64x512_7_0_0
abbrev r0_31 : Rect S64x512 := Rect.unit (s := S64x512) ![0, 0] S64x512.size inb_S64x512_S64x512_0_0

/-! Values of the body used more than once. -/

def k0_pay21 (x6 : Vec F S8x64x1024 .bf16) : FVec F S64x1024 .f32 :=
  k0_pay11 (View.ld x6 r0_5) (View.ld x6 r0_6) (View.ld x6 r0_7) (View.ld x6 r0_8) (View.ld x6 r0_9) (View.ld x6 r0_10) (View.ld x6 r0_11)
def k0_pay22 (x10 : Vec F S8x32x2048 .bf16) : FVec F S32x2048 .f32 :=
  k0_pay16 (View.ld x10 r0_14) (View.ld x10 r0_15) (View.ld x10 r0_16) (View.ld x10 r0_17) (View.ld x10 r0_18) (View.ld x10 r0_19) (View.ld x10 r0_20) (View.ld x10 r0_21)
def k0_pay23 (x14 : Vec F S8x64x512 .bf16) : FVec F S64x512 .f32 :=
  k0_pay20 (View.ld x14 r0_23) (View.ld x14 r0_24) (View.ld x14 r0_25) (View.ld x14 r0_26) (View.ld x14 r0_27) (View.ld x14 r0_28) (View.ld x14 r0_29) (View.ld x14 r0_30)

/-- Core `c` holds the whole of the buffer `a`, whose contents are `x`. -/
abbrev own {S : Shape} {e : EltTy} (c : Dev nD) (a : Memref sig .tc .vmem S e) (x : Vec F S e) : sProp 𝕄 := owns (c : Thread nD τ) a fullShare x

/-! What the body leaves in each output window, and that one store covers the window. -/

def out0_18 (x0 : Vec F S512x6144 .bf16) (x1 : Vec F S8x512x768 .bf16) (x2 : Vec F S1x512x2048 .bf16) (x3 : Vec F S4x512x512 .bf16) (x4 : Vec F S1x512x2048 .bf16) (x5 : Vec F S4x512x512 .bf16) : Vec F S512x512 .bf16 :=
  View.canon [⟨r0_4, k0_pay10 (k0_pay5 (k0_pay4 (View.ld x0 r0_0) (View.ld x1 r0_1)) (View.ld x2 r0_2) (View.ld x3 r0_3)) (k0_pay7 (View.ld x5 r0_3)) (k0_pay8 (View.ld x4 r0_2) (View.ld x5 r0_3)) (k0_pay9 (View.ld x4 r0_2))⟩]

/-- The one store into window 18 covers its buffer. -/
theorem cover0_18 (p0 : Vec F S512x512 .bf16) (y : S512x512.Idx) :
    ∃ pc ∈ ([⟨r0_4, p0⟩] : List (View.Piece (Elt F) S512x512 .bf16)), y ∈ pc.1.set :=
  View.cover_of_tiled [⟨r0_4, p0⟩] S512x512.size (by rfl) y

def out0_19 (x6 : Vec F S8x64x1024 .bf16) : Vec F S64x1024 .f32 :=
  View.canon [⟨r0_13, k0_pay12 (k0_pay21 x6) (View.ld x6 r0_12)⟩]

/-- The one store into window 19 covers its buffer. -/
theorem cover0_19 (p0 : Vec F S64x1024 .f32) (y : S64x1024.Idx) :
    ∃ pc ∈ ([⟨r0_13, p0⟩] : List (View.Piece (Elt F) S64x1024 .f32)), y ∈ pc.1.set :=
  View.cover_of_tiled [⟨r0_13, p0⟩] S64x1024.size (by rfl) y

def out0_20 (x6 : Vec F S8x64x1024 .bf16) (x7 x8 x9 : Vec F S64x1024 .f32) : Vec F S64x1024 .f32 :=
  View.canon [⟨r0_13, k0_pay15 (k0_pay21 x6) (View.ld x6 r0_12) (View.ld x7 r0_13) (View.ld x8 r0_13) (View.ld x9 r0_13)⟩]

def out0_21 (x6 : Vec F S8x64x1024 .bf16) (x8 : Vec F S64x1024 .f32) : Vec F S64x1024 .f32 :=
  View.canon [⟨r0_13, k0_pay13 (k0_pay21 x6) (View.ld x6 r0_12) (View.ld x8 r0_13)⟩]

def out0_22 (x6 : Vec F S8x64x1024 .bf16) (x9 : Vec F S64x1024 .f32) : Vec F S64x1024 .f32 :=
  View.canon [⟨r0_13, k0_pay14 (k0_pay21 x6) (View.ld x6 r0_12) (View.ld x9 r0_13)⟩]

def out0_23 (x10 : Vec F S8x32x2048 .bf16) : Vec F S32x2048 .f32 :=
  View.canon [⟨r0_22, k0_pay22 x10⟩]

/-- The one store into window 23 covers its buffer. -/
theorem cover0_23 (p0 : Vec F S32x2048 .f32) (y : S32x2048.Idx) :
    ∃ pc ∈ ([⟨r0_22, p0⟩] : List (View.Piece (Elt F) S32x2048 .f32)), y ∈ pc.1.set :=
  View.cover_of_tiled [⟨r0_22, p0⟩] S32x2048.size (by rfl) y

def out0_24 (x10 : Vec F S8x32x2048 .bf16) (x11 x12 x13 : Vec F S32x2048 .f32) : Vec F S32x2048 .f32 :=
  View.canon [⟨r0_22, k0_pay19 (k0_pay22 x10) (View.ld x11 r0_22) (View.ld x12 r0_22) (View.ld x13 r0_22)⟩]

def out0_25 (x10 : Vec F S8x32x2048 .bf16) (x12 : Vec F S32x2048 .f32) : Vec F S32x2048 .f32 :=
  View.canon [⟨r0_22, k0_pay17 (k0_pay22 x10) (View.ld x12 r0_22)⟩]

def out0_26 (x10 : Vec F S8x32x2048 .bf16) (x13 : Vec F S32x2048 .f32) : Vec F S32x2048 .f32 :=
  View.canon [⟨r0_22, k0_pay18 (k0_pay22 x10) (View.ld x13 r0_22)⟩]

def out0_27 (x14 : Vec F S8x64x512 .bf16) : Vec F S64x512 .f32 :=
  View.canon [⟨r0_31, k0_pay20 (View.ld x14 r0_23) (View.ld x14 r0_24) (View.ld x14 r0_25) (View.ld x14 r0_26) (View.ld x14 r0_27) (View.ld x14 r0_28) (View.ld x14 r0_29) (View.ld x14 r0_30)⟩]

/-- The one store into window 27 covers its buffer. -/
theorem cover0_27 (p0 : Vec F S64x512 .f32) (y : S64x512.Idx) :
    ∃ pc ∈ ([⟨r0_31, p0⟩] : List (View.Piece (Elt F) S64x512 .f32)), y ∈ pc.1.set :=
  View.cover_of_tiled [⟨r0_31, p0⟩] S64x512.size (by rfl) y

def out0_28 (x14 : Vec F S8x64x512 .bf16) (x15 x16 x17 : Vec F S64x512 .f32) : Vec F S64x512 .f32 :=
  View.canon [⟨r0_31, k0_pay3 (k0_pay23 x14) (View.ld x15 r0_31) (View.ld x16 r0_31) (View.ld x17 r0_31)⟩]

def out0_29 (x14 : Vec F S8x64x512 .bf16) (x16 : Vec F S64x512 .f32) : Vec F S64x512 .f32 :=
  View.canon [⟨r0_31, k0_pay1 (k0_pay23 x14) (View.ld x16 r0_31)⟩]

def out0_30 (x14 : Vec F S8x64x512 .bf16) (x17 : Vec F S64x512 .f32) : Vec F S64x512 .f32 :=
  View.canon [⟨r0_31, k0_pay2 (k0_pay23 x14) (View.ld x17 r0_31)⟩]

set_option maxHeartbeats 1000000 in
/-- The body, run on whole blocks: the inputs are left, and each output is left as stated above. -/
theorem sound_kernel (c : Dev nD) (E : Set ℕ) (i : grid0.Coords) {arg3 : Memref sig .tc .vmem S512x6144 .bf16} {arg4 : Memref sig .tc .vmem S8x512x768 .bf16} {arg5 arg7 : Memref sig .tc .vmem S1x512x2048 .bf16} {arg6 arg8 : Memref sig .tc .vmem S4x512x512 .bf16} {arg9 : Memref sig .tc .vmem S8x64x1024 .bf16} {arg10 arg11 arg12 arg22 arg23 arg24 arg25 : Memref sig .tc .vmem S64x1024 .f32} {arg13 : Memref sig .tc .vmem S8x32x2048 .bf16} {arg14 arg15 arg16 arg26 arg27 arg28 arg29 : Memref sig .tc .vmem S32x2048 .f32} {arg17 : Memref sig .tc .vmem S8x64x512 .bf16} {arg18 arg19 arg20 arg30 arg31 arg32 arg33 : Memref sig .tc .vmem S64x512 .f32} {arg21 : Memref sig .tc .vmem S512x512 .bf16} (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole) (harg27 : arg27.IsWhole) (harg28 : arg28.IsWhole) (harg29 : arg29.IsWhole) (harg30 : arg30.IsWhole) (harg31 : arg31.IsWhole) (harg32 : arg32.IsWhole) (harg33 : arg33.IsWhole)
    (x0 : Vec F S512x6144 .bf16) (x1 : Vec F S8x512x768 .bf16) (x2 : Vec F S1x512x2048 .bf16) (x3 : Vec F S4x512x512 .bf16) (x4 : Vec F S1x512x2048 .bf16) (x5 : Vec F S4x512x512 .bf16) (x6 : Vec F S8x64x1024 .bf16) (x7 x8 x9 : Vec F S64x1024 .f32) (x10 : Vec F S8x32x2048 .bf16) (x11 x12 x13 : Vec F S32x2048 .f32) (x14 : Vec F S8x64x512 .bf16) (x15 x16 x17 : Vec F S64x512 .f32) (K : PUnit → sProp 𝕄) :
    iprop(own c arg3 x0 ∗ own c arg4 x1 ∗ own c arg5 x2 ∗ own c arg6 x3 ∗ own c arg7 x4 ∗ own c arg8 x5 ∗ own c arg9 x6 ∗ own c arg10 x7 ∗ own c arg11 x8 ∗ own c arg12 x9 ∗ own c arg13 x10 ∗ own c arg14 x11 ∗ own c arg15 x12 ∗ own c arg16 x13 ∗ own c arg17 x14 ∗ own c arg18 x15 ∗ own c arg19 x16 ∗ own c arg20 x17 ∗ (∃ d, own c arg21 d) ∗ (∃ d, own c arg22 d) ∗ (∃ d, own c arg23 d) ∗ (∃ d, own c arg24 d) ∗ (∃ d, own c arg25 d) ∗ (∃ d, own c arg26 d) ∗ (∃ d, own c arg27 d) ∗ (∃ d, own c arg28 d) ∗ (∃ d, own c arg29 d) ∗ (∃ d, own c arg30 d) ∗ (∃ d, own c arg31 d) ∗ (∃ d, own c arg32 d) ∗ (∃ d, own c arg33 d)
        ∗ (iprop(own c arg3 x0 ∗ own c arg4 x1 ∗ own c arg5 x2 ∗ own c arg6 x3 ∗ own c arg7 x4 ∗ own c arg8 x5 ∗ own c arg9 x6 ∗ own c arg10 x7 ∗ own c arg11 x8 ∗ own c arg12 x9 ∗ own c arg13 x10 ∗ own c arg14 x11 ∗ own c arg15 x12 ∗ own c arg16 x13 ∗ own c arg17 x14 ∗ own c arg18 x15 ∗ own c arg19 x16 ∗ own c arg20 x17 ∗ own c arg21 (out0_18 x0 x1 x2 x3 x4 x5) ∗ own c arg22 (out0_19 x6) ∗ own c arg23 (out0_20 x6 x7 x8 x9) ∗ own c arg24 (out0_21 x6 x8) ∗ own c arg25 (out0_22 x6 x9) ∗ own c arg26 (out0_23 x10) ∗ own c arg27 (out0_24 x10 x11 x12 x13) ∗ own c arg28 (out0_25 x10 x12) ∗ own c arg29 (out0_26 x10 x13) ∗ own c arg30 (out0_27 x14) ∗ own c arg31 (out0_28 x14 x15 x16 x17) ∗ own c arg32 (out0_29 x14 x16) ∗ own c arg33 (out0_30 x14 x17)) -∗ K ⟨⟩))
      ⊢ wp frame (wpE (defs₀ (F := F)) Variants.none c none) E (cc0_in_proj_dx i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_in_proj_dx_eq_skeleton]; unfold cc0_in_proj_dx_skel
  simp only [k0_part1_eq_skeleton, k0_part2_eq_skeleton, k0_part3_eq_skeleton, k0_part4_eq_skeleton, k0_part5_eq_skeleton, k0_part6_eq_skeleton, k0_part7_eq_skeleton]
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr; swap; · iexact H18
    ipureintro; exact (View.read_writes_eq_canon _ _ _ (cover0_18 _)).trans rfl
  isplitl [H19]
  · iexists _; isplitr; swap; · iexact H19
    ipureintro; exact (View.read_writes_eq_canon _ _ _ (cover0_19 _)).trans rfl
  isplitl [H20]
  · iexists _; isplitr; swap; · iexact H20
    ipureintro; exact (View.read_writes_eq_canon _ _ _ (cover0_19 _)).trans rfl
  isplitl [H21]
  · iexists _; isplitr; swap; · iexact H21
    ipureintro; exact (View.read_writes_eq_canon _ _ _ (cover0_19 _)).trans rfl
  isplitl [H22]
  · iexists _; isplitr; swap; · iexact H22
    ipureintro; exact (View.read_writes_eq_canon _ _ _ (cover0_19 _)).trans rfl
  isplitl [H23]
  · iexists _; isplitr; swap; · iexact H23
    ipureintro; exact (View.read_writes_eq_canon _ _ _ (cover0_23 _)).trans rfl
  isplitl [H24]
  · iexists _; isplitr; swap; · iexact H24
    ipureintro; exact (View.read_writes_eq_canon _ _ _ (cover0_23 _)).trans rfl
  isplitl [H25]
  · iexists _; isplitr; swap; · iexact H25
    ipureintro; exact (View.read_writes_eq_canon _ _ _ (cover0_23 _)).trans rfl
  isplitl [H26]
  · iexists _; isplitr; swap; · iexact H26
    ipureintro; exact (View.read_writes_eq_canon _ _ _ (cover0_23 _)).trans rfl
  isplitl [H27]
  · iexists _; isplitr; swap; · iexact H27
    ipureintro; exact (View.read_writes_eq_canon _ _ _ (cover0_27 _)).trans rfl
  isplitl [H28]
  · iexists _; isplitr; swap; · iexact H28
    ipureintro; exact (View.read_writes_eq_canon _ _ _ (cover0_27 _)).trans rfl
  isplitl [H29]
  · iexists _; isplitr; swap; · iexact H29
    ipureintro; exact (View.read_writes_eq_canon _ _ _ (cover0_27 _)).trans rfl
  iexists _; isplitr; swap; · iexact H30
  ipureintro; exact (View.read_writes_eq_canon _ _ _ (cover0_27 _)).trans rfl

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t)
    | ⟨19, _⟩ => out0_19 (iblk m c 6 t)
    | ⟨20, _⟩ => out0_20 (iblk m c 6 t) (iblk m c 7 t) (iblk m c 8 t) (iblk m c 9 t)
    | ⟨21, _⟩ => out0_21 (iblk m c 6 t) (iblk m c 8 t)
    | ⟨22, _⟩ => out0_22 (iblk m c 6 t) (iblk m c 9 t)
    | ⟨23, _⟩ => out0_23 (iblk m c 10 t)
    | ⟨24, _⟩ => out0_24 (iblk m c 10 t) (iblk m c 11 t) (iblk m c 12 t) (iblk m c 13 t)
    | ⟨25, _⟩ => out0_25 (iblk m c 10 t) (iblk m c 12 t)
    | ⟨26, _⟩ => out0_26 (iblk m c 10 t) (iblk m c 13 t)
    | ⟨27, _⟩ => out0_27 (iblk m c 14 t)
    | ⟨28, _⟩ => out0_28 (iblk m c 14 t) (iblk m c 15 t) (iblk m c 16 t) (iblk m c 17 t)
    | ⟨29, _⟩ => out0_29 (iblk m c 14 t) (iblk m c 16 t)
    | ⟨30, _⟩ => out0_30 (iblk m c 14 t) (iblk m c 17 t)
    | ⟨_ + 31, h⟩ => absurd h (Nat.not_lt.2 (Nat.le_add_left _ _))
  Φ _ := Pipeline.ΦA spec0 c
  q w := Pipeline.shareOf spec0 w
  owed _ := 0

/-- The arrays of the data are those found at entry. -/
theorem A_eq (c : Dev nD) (w : Fin cfg0.W) : (dats m 0 c).A w = V m c (Pipeline.arrRef spec0 w) := by
  dsimp only [dats]

/-! After the body, each window holds what the data say. -/

theorem after0_0 (c t) : (dats m 0 c).after 0 t = iblk m c 0 t := by dsimp only [dats]
theorem after0_1 (c t) : (dats m 0 c).after 1 t = iblk m c 1 t := by dsimp only [dats]
theorem after0_2 (c t) : (dats m 0 c).after 2 t = iblk m c 2 t := by dsimp only [dats]
theorem after0_3 (c t) : (dats m 0 c).after 3 t = iblk m c 3 t := by dsimp only [dats]
theorem after0_4 (c t) : (dats m 0 c).after 4 t = iblk m c 4 t := by dsimp only [dats]
theorem after0_5 (c t) : (dats m 0 c).after 5 t = iblk m c 5 t := by dsimp only [dats]
theorem after0_6 (c t) : (dats m 0 c).after 6 t = iblk m c 6 t := by dsimp only [dats]
theorem after0_7 (c t) : (dats m 0 c).after 7 t = iblk m c 7 t := by dsimp only [dats]
theorem after0_8 (c t) : (dats m 0 c).after 8 t = iblk m c 8 t := by dsimp only [dats]
theorem after0_9 (c t) : (dats m 0 c).after 9 t = iblk m c 9 t := by dsimp only [dats]
theorem after0_10 (c t) : (dats m 0 c).after 10 t = iblk m c 10 t := by dsimp only [dats]
theorem after0_11 (c t) : (dats m 0 c).after 11 t = iblk m c 11 t := by dsimp only [dats]
theorem after0_12 (c t) : (dats m 0 c).after 12 t = iblk m c 12 t := by dsimp only [dats]
theorem after0_13 (c t) : (dats m 0 c).after 13 t = iblk m c 13 t := by dsimp only [dats]
theorem after0_14 (c t) : (dats m 0 c).after 14 t = iblk m c 14 t := by dsimp only [dats]
theorem after0_15 (c t) : (dats m 0 c).after 15 t = iblk m c 15 t := by dsimp only [dats]
theorem after0_16 (c t) : (dats m 0 c).after 16 t = iblk m c 16 t := by dsimp only [dats]
theorem after0_17 (c t) : (dats m 0 c).after 17 t = iblk m c 17 t := by dsimp only [dats]
theorem after0_18 (c t) : (dats m 0 c).after 18 t = out0_18 (iblk m c 0 t) (iblk m c 1 t) (iblk m c 2 t) (iblk m c 3 t) (iblk m c 4 t) (iblk m c 5 t) := by dsimp only [dats]
theorem after0_19 (c t) : (dats m 0 c).after 19 t = out0_19 (iblk m c 6 t) := by dsimp only [dats]
theorem after0_20 (c t) : (dats m 0 c).after 20 t = out0_20 (iblk m c 6 t) (iblk m c 7 t) (iblk m c 8 t) (iblk m c 9 t) := by dsimp only [dats]
theorem after0_21 (c t) : (dats m 0 c).after 21 t = out0_21 (iblk m c 6 t) (iblk m c 8 t) := by dsimp only [dats]
theorem after0_22 (c t) : (dats m 0 c).after 22 t = out0_22 (iblk m c 6 t) (iblk m c 9 t) := by dsimp only [dats]
theorem after0_23 (c t) : (dats m 0 c).after 23 t = out0_23 (iblk m c 10 t) := by dsimp only [dats]
theorem after0_24 (c t) : (dats m 0 c).after 24 t = out0_24 (iblk m c 10 t) (iblk m c 11 t) (iblk m c 12 t) (iblk m c 13 t) := by dsimp only [dats]
theorem after0_25 (c t) : (dats m 0 c).after 25 t = out0_25 (iblk m c 10 t) (iblk m c 12 t) := by dsimp only [dats]
theorem after0_26 (c t) : (dats m 0 c).after 26 t = out0_26 (iblk m c 10 t) (iblk m c 13 t) := by dsimp only [dats]
theorem after0_27 (c t) : (dats m 0 c).after 27 t = out0_27 (iblk m c 14 t) := by dsimp only [dats]
theorem after0_28 (c t) : (dats m 0 c).after 28 t = out0_28 (iblk m c 14 t) (iblk m c 15 t) (iblk m c 16 t) (iblk m c 17 t) := by dsimp only [dats]
theorem after0_29 (c t) : (dats m 0 c).after 29 t = out0_29 (iblk m c 14 t) (iblk m c 16 t) := by dsimp only [dats]
theorem after0_30 (c t) : (dats m 0 c).after 30 t = out0_30 (iblk m c 14 t) (iblk m c 17 t) := by dsimp only [dats]

/-! Before the body, each input window holds its block. -/

theorem before0_0 (c t d) : (dats m 0 c).before 0 t d = iblk m c 0 t := (dats m 0 c).before_in_eq_fetched 0 rfl (fun _ => rfl) (fun _ _ _ => rfl) (fun _ => rfl) t d
theorem before0_1 (c t d) : (dats m 0 c).before 1 t d = iblk m c 1 t := (dats m 0 c).before_in_eq_fetched 1 rfl (fun _ => rfl) (fun _ _ _ => rfl) (fun _ => rfl) t d
theorem before0_2 (c t d) : (dats m 0 c).before 2 t d = iblk m c 2 t := (dats m 0 c).before_in_eq_fetched 2 rfl (fun _ => rfl) (fun _ _ _ => rfl) (fun _ => rfl) t d
theorem before0_3 (c t d) : (dats m 0 c).before 3 t d = iblk m c 3 t := (dats m 0 c).before_in_eq_fetched 3 rfl (fun _ => rfl) (fun _ _ _ => rfl) (fun _ => rfl) t d
theorem before0_4 (c t d) : (dats m 0 c).before 4 t d = iblk m c 4 t := (dats m 0 c).before_in_eq_fetched 4 rfl (fun _ => rfl) (fun _ _ _ => rfl) (fun _ => rfl) t d
theorem before0_5 (c t d) : (dats m 0 c).before 5 t d = iblk m c 5 t := (dats m 0 c).before_in_eq_fetched 5 rfl (fun _ => rfl) (fun _ _ _ => rfl) (fun _ => rfl) t d
theorem before0_6 (c t d) : (dats m 0 c).before 6 t d = iblk m c 6 t := (dats m 0 c).before_in_eq_fetched 6 rfl (fun _ => rfl) (fun _ _ _ => rfl) (fun _ => rfl) t d
theorem before0_7 (c t d) : (dats m 0 c).before 7 t d = iblk m c 7 t := (dats m 0 c).before_in_eq_fetched 7 rfl (fun _ => rfl) (fun _ _ _ => rfl) (fun _ => rfl) t d
theorem before0_8 (c t d) : (dats m 0 c).before 8 t d = iblk m c 8 t := (dats m 0 c).before_in_eq_fetched 8 rfl (fun _ => rfl) (fun _ _ _ => rfl) (fun _ => rfl) t d
theorem before0_9 (c t d) : (dats m 0 c).before 9 t d = iblk m c 9 t := (dats m 0 c).before_in_eq_fetched 9 rfl (fun _ => rfl) (fun _ _ _ => rfl) (fun _ => rfl) t d
theorem before0_10 (c t d) : (dats m 0 c).before 10 t d = iblk m c 10 t := (dats m 0 c).before_in_eq_fetched 10 rfl (fun _ => rfl) (fun _ _ _ => rfl) (fun _ => rfl) t d
theorem before0_11 (c t d) : (dats m 0 c).before 11 t d = iblk m c 11 t := (dats m 0 c).before_in_eq_fetched 11 rfl (fun _ => rfl) (fun _ _ _ => rfl) (fun _ => rfl) t d
theorem before0_12 (c t d) : (dats m 0 c).before 12 t d = iblk m c 12 t := (dats m 0 c).before_in_eq_fetched 12 rfl (fun _ => rfl) (fun _ _ _ => rfl) (fun _ => rfl) t d
theorem before0_13 (c t d) : (dats m 0 c).before 13 t d = iblk m c 13 t := (dats m 0 c).before_in_eq_fetched 13 rfl (fun _ => rfl) (fun _ _ _ => rfl) (fun _ => rfl) t d
theorem before0_14 (c t d) : (dats m 0 c).before 14 t d = iblk m c 14 t := (dats m 0 c).before_in_eq_fetched 14 rfl (fun _ => rfl) (fun _ _ _ => rfl) (fun _ => rfl) t d
theorem before0_15 (c t d) : (dats m 0 c).before 15 t d = iblk m c 15 t := (dats m 0 c).before_in_eq_fetched 15 rfl (fun _ => rfl) (fun _ _ _ => rfl) (fun _ => rfl) t d
theorem before0_16 (c t d) : (dats m 0 c).before 16 t d = iblk m c 16 t := (dats m 0 c).before_in_eq_fetched 16 rfl (fun _ => rfl) (fun _ _ _ => rfl) (fun _ => rfl) t d
theorem before0_17 (c t d) : (dats m 0 c).before 17 t d = iblk m c 17 t := (dats m 0 c).before_in_eq_fetched 17 rfl (fun _ => rfl) (fun _ _ _ => rfl) (fun _ => rfl) t d

/-- What the body is entered with. -/
def bodyPre (c : Dev nD) (t : Fin cfg0.N) : sProp 𝕄 :=
  iprop((dats m 0 c).Φ t.castSucc ∗ (dats m 0 c).owesAt () t.castSucc
    ∗ (∃ d, own c (st0_0 t) ((dats m 0 c).before 0 t d))
    ∗ (∃ d, own c (st0_1 t) ((dats m 0 c).before 1 t d))
    ∗ (∃ d, own c (st0_2 t) ((dats m 0 c).before 2 t d))
    ∗ (∃ d, own c (st0_3 t) ((dats m 0 c).before 3 t d))
    ∗ (∃ d, own c (st0_4 t) ((dats m 0 c).before 4 t d))
    ∗ (∃ d, own c (st0_5 t) ((dats m 0 c).before 5 t d))
    ∗ (∃ d, own c (st0_6 t) ((dats m 0 c).before 6 t d))
    ∗ (∃ d, own c (st0_7 t) ((dats m 0 c).before 7 t d))
    ∗ (∃ d, own c (st0_8 t) ((dats m 0 c).before 8 t d))
    ∗ (∃ d, own c (st0_9 t) ((dats m 0 c).before 9 t d))
    ∗ (∃ d, own c (st0_10 t) ((dats m 0 c).before 10 t d))
    ∗ (∃ d, own c (st0_11 t) ((dats m 0 c).before 11 t d))
    ∗ (∃ d, own c (st0_12 t) ((dats m 0 c).before 12 t d))
    ∗ (∃ d, own c (st0_13 t) ((dats m 0 c).before 13 t d))
    ∗ (∃ d, own c (st0_14 t) ((dats m 0 c).before 14 t d))
    ∗ (∃ d, own c (st0_15 t) ((dats m 0 c).before 15 t d))
    ∗ (∃ d, own c (st0_16 t) ((dats m 0 c).before 16 t d))
    ∗ (∃ d, own c (st0_17 t) ((dats m 0 c).before 17 t d))
    ∗ (∃ d, own c (st0_18 t) ((dats m 0 c).before 18 t d))
    ∗ (∃ d, own c (st0_19 t) ((dats m 0 c).before 19 t d))
    ∗ (∃ d, own c (st0_20 t) ((dats m 0 c).before 20 t d))
    ∗ (∃ d, own c (st0_21 t) ((dats m 0 c).before 21 t d))
    ∗ (∃ d, own c (st0_22 t) ((dats m 0 c).before 22 t d))
    ∗ (∃ d, own c (st0_23 t) ((dats m 0 c).before 23 t d))
    ∗ (∃ d, own c (st0_24 t) ((dats m 0 c).before 24 t d))
    ∗ (∃ d, own c (st0_25 t) ((dats m 0 c).before 25 t d))
    ∗ (∃ d, own c (st0_26 t) ((dats m 0 c).before 26 t d))
    ∗ (∃ d, own c (st0_27 t) ((dats m 0 c).before 27 t d))
    ∗ (∃ d, own c (st0_28 t) ((dats m 0 c).before 28 t d))
    ∗ (∃ d, own c (st0_29 t) ((dats m 0 c).before 29 t d))
    ∗ (∃ d, own c (st0_30 t) ((dats m 0 c).before 30 t d)))

/-- What the body leaves. -/
def bodyPost (c : Dev nD) (t : Fin cfg0.N) : sProp 𝕄 :=
  iprop((dats m 0 c).Φ t.succ ∗ (dats m 0 c).owesAt () t.succ
    ∗ own c (st0_0 t) ((dats m 0 c).after 0 t)
    ∗ own c (st0_1 t) ((dats m 0 c).after 1 t)
    ∗ own c (st0_2 t) ((dats m 0 c).after 2 t)
    ∗ own c (st0_3 t) ((dats m 0 c).after 3 t)
    ∗ own c (st0_4 t) ((dats m 0 c).after 4 t)
    ∗ own c (st0_5 t) ((dats m 0 c).after 5 t)
    ∗ own c (st0_6 t) ((dats m 0 c).after 6 t)
    ∗ own c (st0_7 t) ((dats m 0 c).after 7 t)
    ∗ own c (st0_8 t) ((dats m 0 c).after 8 t)
    ∗ own c (st0_9 t) ((dats m 0 c).after 9 t)
    ∗ own c (st0_10 t) ((dats m 0 c).after 10 t)
    ∗ own c (st0_11 t) ((dats m 0 c).after 11 t)
    ∗ own c (st0_12 t) ((dats m 0 c).after 12 t)
    ∗ own c (st0_13 t) ((dats m 0 c).after 13 t)
    ∗ own c (st0_14 t) ((dats m 0 c).after 14 t)
    ∗ own c (st0_15 t) ((dats m 0 c).after 15 t)
    ∗ own c (st0_16 t) ((dats m 0 c).after 16 t)
    ∗ own c (st0_17 t) ((dats m 0 c).after 17 t)
    ∗ own c (st0_18 t) ((dats m 0 c).after 18 t)
    ∗ own c (st0_19 t) ((dats m 0 c).after 19 t)
    ∗ own c (st0_20 t) ((dats m 0 c).after 20 t)
    ∗ own c (st0_21 t) ((dats m 0 c).after 21 t)
    ∗ own c (st0_22 t) ((dats m 0 c).after 22 t)
    ∗ own c (st0_23 t) ((dats m 0 c).after 23 t)
    ∗ own c (st0_24 t) ((dats m 0 c).after 24 t)
    ∗ own c (st0_25 t) ((dats m 0 c).after 25 t)
    ∗ own c (st0_26 t) ((dats m 0 c).after 26 t)
    ∗ own c (st0_27 t) ((dats m 0 c).after 27 t)
    ∗ own c (st0_28 t) ((dats m 0 c).after 28 t)
    ∗ own c (st0_29 t) ((dats m 0 c).after 29 t)
    ∗ own c (st0_30 t) ((dats m 0 c).after 30 t))

set_option maxHeartbeats 8000000 in
/-- The body at a point, from what it is entered with to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ (grid0.coords t) _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  iframe H0 H1 H2 H3 H4 H5 H6 H7 H8 H9 H10 H11 H12 H13 H14 H15 H16 H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  iframe HΦ Ho H0 H1 H2 H3 H4 H5 H6 H7 H8 H9 H10 H11 H12 H13 H14 H15 H16 H17 H18 H19 H20 H21 H22 H23 H24 H25 H26 H27 H28 H29 H30

/-- The table's row at a point is the body. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends, with the arrays at the computed contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with the arrays at the computed contents. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began. -/
theorem unchanged : θ_run defs (onTc (τ := τ) (main (F := F))) ⟨m, fun _ => 0, ρ⟩ (fun r => ∀ c : Dev nD, Still m r.2.mem c) :=
  frame_of m ρ (dats m) (A_eq m) (run_main m ρ)

/-- The argument arrays end as they began, and every counter is at zero. -/
theorem frame : θ_run defs (onTc (τ := τ) (main (F := F))) ⟨m, fun _ => 0, ρ⟩ (fun r => (∀ c : Dev nD, Still m r.2.mem c) ∧ r.2.sem = fun _ => 0) :=
  θ_run_and (unchanged m ρ) ((θ_run defs _ _).mono (fun _ h => h.2) (run_main_quiescent m ρ))

end Cert.Kernel7Ideal.Whole

end
-- ==== Proof.MixerBackBlock.lean ====
/-
  One grid point of each of the seven calls of the mixer's backward products: what its body leaves in its output's
  staging buffer, as sums of products of the staged blocks' elements (at the ideal values).
-/
module

public import proofs.«01_k».proof.Proof.Gen.Kernel4Ideal.Frame
public import proofs.«01_k».proof.Proof.Shards

@[expose] public section

set_option maxRecDepth 16384

noncomputable section

namespace Cert.Kernel4Ideal.Block

open Cert.Kernel4Ideal Cert.Kernel4Ideal.Gen Cert.Products Idealize.ShloMosaic.TcCoe Idealize.SL.Sem
open Idealize.ShloMosaic hiding ix1 ix2 ix3 eq_ix1 eq_ix2 eq_ix3
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-! ## The weights' gradients: one product, stored shard by shard -/

theorem gateDw_pay (h : Vec Ideal S4096x512 .bf16) (d : Vec Ideal S1x4096x1024 .bf16) (r : Fin 512) (e : Fin 1024) :
    k0_pay1 (F := Ideal) h d (ix2 r e) = ∑ k : Fin 4096, h (ix2 k r) * d (ix3 0 k e) := by
  unfold k0_pay1
  refine (left_zero (φ₁ := .bf16) (φ₂ := .bf16) dot_S4096x512_S4096x1024_S512x1024_0_0_1_1_n_n_wf h (shapeCast S4096x1024 d shapeCasts_S1x4096x1024_S4096x1024) r e).trans ?_
  refine Finset.sum_congr rfl fun k _ => congrArg (h (ix2 k r) * ·) ?_
  exact shapeCast_apply _ _ _ (ix3 0 k e) (lead_one k e)

theorem gateDw_out (h : Vec Ideal S4096x512 .bf16) (d : Vec Ideal S1x4096x1024 .bf16) (s : Fin 2) (r : Fin 512) (e : Fin 512) :
    out0_2 (F := Ideal) h d (ix3 s r e) = k0_pay1 (F := Ideal) h d (ix2 r (shCol (M := 1024) (by norm_num) s e)) := by
  unfold out0_2
  simp only [View.ld_unit_zero (S := S4096x512) hz2, View.ld_unit_zero (S := S1x4096x1024) hz3]
  refine View.canon_apply_of_pieces (Val := Elt Ideal) (shardsOf (b := 2) (n := 512) (M := 1024) (by norm_num) (k0_pay1 (F := Ideal) h d)) _ (fun p hp => ?_) (ix3 s r e)
    (cover0_2 _ _ (ix3 s r e))
  rcases List.mem_cons.mp hp with rfl | hp
  · exact piece_shard (by norm_num) _ (1 : Fin 2) inb_S2x512x512_S1x512x512_1_0_0 _ (fun z r e => by
      unfold k0_pay3
      exact stored_shard (k0_pay1 (F := Ideal) h d) 512 _ _ _ (fun k => by have := k.isLt; omega) z r e)
  rcases List.mem_cons.mp hp with rfl | hp
  · exact piece_shard (by norm_num) _ (0 : Fin 2) inb_S2x512x512_S1x512x512_0_0_0 _ (fun z r e => by
      unfold k0_pay2
      exact stored_shard (k0_pay1 (F := Ideal) h d) 0 _ _ _ (fun k => by have := k.isLt; omega) z r e)
  nomatch hp

theorem projaDw_pay (h : Vec Ideal S4096x512 .bf16) (d : Vec Ideal S4096x1024 .bf16) (r : Fin 512) (e : Fin 1024) :
    k1_pay1 (F := Ideal) h d (ix2 r e) = ∑ k : Fin 4096, h (ix2 k r) * d (ix2 k e) := by
  unfold k1_pay1
  exact left_zero (φ₁ := .bf16) (φ₂ := .bf16) dot_S4096x512_S4096x1024_S512x1024_0_0_1_1_n_n_wf h d r e

theorem projaDw_out (h : Vec Ideal S4096x512 .bf16) (d : Vec Ideal S4096x1024 .bf16) (s : Fin 4) (r : Fin 512) (e : Fin 256) :
    out1_2 (F := Ideal) h d (ix3 s r e) = k1_pay1 (F := Ideal) h d (ix2 r (shCol (M := 1024) (by norm_num) s e)) := by
  unfold out1_2
  simp only [View.ld_unit_zero (S := S4096x512) hz2, View.ld_unit_zero (S := S4096x1024) hz2]
  refine View.canon_apply_of_pieces (Val := Elt Ideal) (shardsOf (b := 4) (n := 256) (M := 1024) (by norm_num) (k1_pay1 (F := Ideal) h d)) _ (fun p hp => ?_) (ix3 s r e)
    (cover1_2 _ _ _ _ (ix3 s r e))
  rcases List.mem_cons.mp hp with rfl | hp
  · exact piece_shard (by norm_num) _ (3 : Fin 4) inb_S4x512x256_S1x512x256_3_0_0 _ (fun z r e => by
      unfold k1_pay5
      exact stored_shard (k1_pay1 (F := Ideal) h d) 768 _ _ _ (fun k => by have := k.isLt; omega) z r e)
  rcases List.mem_cons.mp hp with rfl | hp
  · exact piece_shard (by norm_num) _ (2 : Fin 4) inb_S4x512x256_S1x512x256_2_0_0 _ (fun z r e => by
      unfold k1_pay4
      exact stored_shard (k1_pay1 (F := Ideal) h d) 512 _ _ _ (fun k => by have := k.isLt; omega) z r e)
  rcases List.mem_cons.mp hp with rfl | hp
  · exact piece_shard (by norm_num) _ (1 : Fin 4) inb_S4x512x256_S1x512x256_1_0_0 _ (fun z r e => by
      unfold k1_pay3
      exact stored_shard (k1_pay1 (F := Ideal) h d) 256 _ _ _ (fun k => by have := k.isLt; omega) z r e)
  rcases List.mem_cons.mp hp with rfl | hp
  · exact piece_shard (by norm_num) _ (0 : Fin 4) inb_S4x512x256_S1x512x256_0_0_0 _ (fun z r e => by
      unfold k1_pay2
      exact stored_shard (k1_pay1 (F := Ideal) h d) 0 _ _ _ (fun k => by have := k.isLt; omega) z r e)
  nomatch hp

theorem projbDw_pay (h : Vec Ideal S4096x512 .bf16) (d : Vec Ideal S4096x1024 .bf16) (r : Fin 512) (e : Fin 1024) :
    k2_pay1 (F := Ideal) h d (ix2 r e) = ∑ k : Fin 4096, h (ix2 k r) * d (ix2 k e) := by
  unfold k2_pay1
  exact left_zero (φ₁ := .bf16) (φ₂ := .bf16) dot_S4096x512_S4096x1024_S512x1024_0_0_1_1_n_n_wf h d r e

theorem projbDw_out (h : Vec Ideal S4096x512 .bf16) (d : Vec Ideal S4096x1024 .bf16) (s : Fin 4) (r : Fin 512) (e : Fin 256) :
    out2_2 (F := Ideal) h d (ix3 s r e) = k2_pay1 (F := Ideal) h d (ix2 r (shCol (M := 1024) (by norm_num) s e)) := by
  unfold out2_2
  simp only [View.ld_unit_zero (S := S4096x512) hz2, View.ld_unit_zero (S := S4096x1024) hz2]
  refine View.canon_apply_of_pieces (Val := Elt Ideal) (shardsOf (b := 4) (n := 256) (M := 1024) (by norm_num) (k2_pay1 (F := Ideal) h d)) _ (fun p hp => ?_) (ix3 s r e)
    (cover2_2 _ _ _ _ (ix3 s r e))
  rcases List.mem_cons.mp hp with rfl | hp
  · exact piece_shard (by norm_num) _ (3 : Fin 4) inb_S4x512x256_S1x512x256_3_0_0 _ (fun z r e => by
      unfold k2_pay5
      exact stored_shard (k2_pay1 (F := Ideal) h d) 768 _ _ _ (fun k => by have := k.isLt; omega) z r e)
  rcases List.mem_cons.mp hp with rfl | hp
  · exact piece_shard (by norm_num) _ (2 : Fin 4) inb_S4x512x256_S1x512x256_2_0_0 _ (fun z r e => by
      unfold k2_pay4
      exact stored_shard (k2_pay1 (F := Ideal) h d) 512 _ _ _ (fun k => by have := k.isLt; omega) z r e)
  rcases List.mem_cons.mp hp with rfl | hp
  · exact piece_shard (by norm_num) _ (1 : Fin 4) inb_S4x512x256_S1x512x256_1_0_0 _ (fun z r e => by
      unfold k2_pay3
      exact stored_shard (k2_pay1 (F := Ideal) h d) 256 _ _ _ (fun k => by have := k.isLt; omega) z r e)
  rcases List.mem_cons.mp hp with rfl | hp
  · exact piece_shard (by norm_num) _ (0 : Fin 4) inb_S4x512x256_S1x512x256_0_0_0 _ (fun z r e => by
      unfold k2_pay2
      exact stored_shard (k2_pay1 (F := Ideal) h d) 0 _ _ _ (fun k => by have := k.isLt; omega) z r e)
  nomatch hp

theorem qkvDw_pay (h : Vec Ideal S4096x512 .bf16) (d : Vec Ideal S4096x1536 .bf16) (r : Fin 512) (e : Fin 1536) :
    k5_pay1 (F := Ideal) h d (ix2 r e) = ∑ k : Fin 4096, h (ix2 k r) * d (ix2 k e) := by
  unfold k5_pay1
  exact left_zero (φ₁ := .bf16) (φ₂ := .bf16) dot_S4096x512_S4096x1536_S512x1536_0_0_1_1_n_n_wf h d r e

theorem qkvDw_out (h : Vec Ideal S4096x512 .bf16) (d : Vec Ideal S4096x1536 .bf16) (s : Fin 2) (r : Fin 512) (e : Fin 768) :
    out5_2 (F := Ideal) h d (ix3 s r e) = k5_pay1 (F := Ideal) h d (ix2 r (shCol (M := 1536) (by norm_num) s e)) := by
  unfold out5_2
  simp only [View.ld_unit_zero (S := S4096x512) hz2, View.ld_unit_zero (S := S4096x1536) hz2]
  refine View.canon_apply_of_pieces (Val := Elt Ideal) (shardsOf (b := 2) (n := 768) (M := 1536) (by norm_num) (k5_pay1 (F := Ideal) h d)) _ (fun p hp => ?_) (ix3 s r e)
    (cover5_2 _ _ (ix3 s r e))
  rcases List.mem_cons.mp hp with rfl | hp
  · exact piece_shard (by norm_num) _ (1 : Fin 2) inb_S2x512x768_S1x512x768_1_0_0 _ (fun z r e => by
      unfold k5_pay3
      exact stored_shard (k5_pay1 (F := Ideal) h d) 768 _ _ _ (fun k => by have := k.isLt; omega) z r e)
  rcases List.mem_cons.mp hp with rfl | hp
  · exact piece_shard (by norm_num) _ (0 : Fin 2) inb_S2x512x768_S1x512x768_0_0_0 _ (fun z r e => by
      unfold k5_pay2
      exact stored_shard (k5_pay1 (F := Ideal) h d) 0 _ _ _ (fun k => by have := k.isLt; omega) z r e)
  nomatch hp

/-! ## The inputs' gradients: runs of columns, one per shard of the weight -/

theorem projaDx_out (g : Vec Ideal S512x2048 .bf16) (w : Vec Ideal S8x512x256 .bf16) (r e : Fin 512) :
    out3_2 (F := Ideal) g w (ix2 r e) = shardSum (M := 2048) (by norm_num) g w r e := by
  unfold out3_2 shardSum
  rw [View.canon_unit_zero hz2, View.ld_unit_zero (S := S512x2048) hz2, View.ld_unit_zero (S := S8x512x256) hz3]
  unfold k3_pay1
  rw [shapeCast_self, Fin.sum_univ_eight]
  show (_ : EReal) + (_ : EReal) + (_ : EReal) + (_ : EReal) + (_ : EReal) + (_ : EReal) + (_ : EReal) + (_ : EReal) = (_ : EReal)
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact shard_right g w (0 : Fin 8) 0 _ _ _ (fun k => by have := k.isLt; omega) r e
  · exact shard_right g w (1 : Fin 8) 256 _ _ _ (fun k => by have := k.isLt; omega) r e
  · exact shard_right g w (2 : Fin 8) 512 _ _ _ (fun k => by have := k.isLt; omega) r e
  · exact shard_right g w (3 : Fin 8) 768 _ _ _ (fun k => by have := k.isLt; omega) r e
  · exact shard_right g w (4 : Fin 8) 1024 _ _ _ (fun k => by have := k.isLt; omega) r e
  · exact shard_right g w (5 : Fin 8) 1280 _ _ _ (fun k => by have := k.isLt; omega) r e
  · exact shard_right g w (6 : Fin 8) 1536 _ _ _ (fun k => by have := k.isLt; omega) r e
  · exact shard_right g w (7 : Fin 8) 1792 _ _ _ (fun k => by have := k.isLt; omega) r e

theorem projbDx_out (g : Vec Ideal S512x2048 .bf16) (w : Vec Ideal S8x512x256 .bf16) (r e : Fin 512) :
    out4_2 (F := Ideal) g w (ix2 r e) = shardSum (M := 2048) (by norm_num) g w r e := by
  unfold out4_2 shardSum
  rw [View.canon_unit_zero hz2, View.ld_unit_zero (S := S512x2048) hz2, View.ld_unit_zero (S := S8x512x256) hz3]
  unfold k4_pay1
  rw [shapeCast_self, Fin.sum_univ_eight]
  show (_ : EReal) + (_ : EReal) + (_ : EReal) + (_ : EReal) + (_ : EReal) + (_ : EReal) + (_ : EReal) + (_ : EReal) = (_ : EReal)
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact shard_right g w (0 : Fin 8) 0 _ _ _ (fun k => by have := k.isLt; omega) r e
  · exact shard_right g w (1 : Fin 8) 256 _ _ _ (fun k => by have := k.isLt; omega) r e
  · exact shard_right g w (2 : Fin 8) 512 _ _ _ (fun k => by have := k.isLt; omega) r e
  · exact shard_right g w (3 : Fin 8) 768 _ _ _ (fun k => by have := k.isLt; omega) r e
  · exact shard_right g w (4 : Fin 8) 1024 _ _ _ (fun k => by have := k.isLt; omega) r e
  · exact shard_right g w (5 : Fin 8) 1280 _ _ _ (fun k => by have := k.isLt; omega) r e
  · exact shard_right g w (6 : Fin 8) 1536 _ _ _ (fun k => by have := k.isLt; omega) r e
  · exact shard_right g w (7 : Fin 8) 1792 _ _ _ (fun k => by have := k.isLt; omega) r e

theorem inDx_pay2 (g : Vec Ideal S512x6144 .bf16) (w : Vec Ideal S8x512x768 .bf16) (r e : Fin 512) :
    k6_pay2 (F := Ideal) g w (ix2 r e) = shardSum (M := 6144) (by norm_num) g w r e := by
  unfold k6_pay2 shardSum
  rw [shapeCast_self, Fin.sum_univ_eight]
  show (_ : EReal) + (_ : EReal) + (_ : EReal) + (_ : EReal) + (_ : EReal) + (_ : EReal) + (_ : EReal) + (_ : EReal) = (_ : EReal)
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact shard_right g w (0 : Fin 8) 0 _ _ _ (fun k => by have := k.isLt; omega) r e
  · exact shard_right g w (1 : Fin 8) 768 _ _ _ (fun k => by have := k.isLt; omega) r e
  · exact shard_right g w (2 : Fin 8) 1536 _ _ _ (fun k => by have := k.isLt; omega) r e
  · exact shard_right g w (3 : Fin 8) 2304 _ _ _ (fun k => by have := k.isLt; omega) r e
  · exact shard_right g w (4 : Fin 8) 3072 _ _ _ (fun k => by have := k.isLt; omega) r e
  · exact shard_right g w (5 : Fin 8) 3840 _ _ _ (fun k => by have := k.isLt; omega) r e
  · exact shard_right g w (6 : Fin 8) 4608 _ _ _ (fun k => by have := k.isLt; omega) r e
  · exact shard_right g w (7 : Fin 8) 5376 _ _ _ (fun k => by have := k.isLt; omega) r e

/-- One half of the gates' gradient against its four shards. -/
def half (x : S1x512x2048.Idx → EReal) (w : S4x512x512.Idx → EReal) (r e : Fin 512) : EReal :=
  shardSum (M := 2048) (by norm_num) (shapeCast S512x2048 x shapeCasts_S1x512x2048_S512x2048) w r e

theorem half_apply (x : S1x512x2048.Idx → EReal) (w : S4x512x512.Idx → EReal) (r e : Fin 512) :
    half x w r e = ∑ s : Fin 4, ∑ k : Fin 512, x (ix3 0 r (shCol (M := 2048) (by norm_num) s k)) * w (ix3 s e k) := by
  unfold half shardSum
  refine Finset.sum_congr rfl fun s _ => Finset.sum_congr rfl fun k _ => congrArg (· * w (ix3 s e k)) ?_
  exact shapeCast_apply _ _ _ (ix3 0 r _) (lead_one r _)

theorem inDx_pay3 (q : FVec Ideal S512x512 .f32) (x : Vec Ideal S1x512x2048 .bf16) (w : Vec Ideal S4x512x512 .bf16) (r e : Fin 512) :
    k6_pay3 (F := Ideal) q x w (ix2 r e) = q (ix2 r e) + half x w r e := by
  unfold k6_pay3 half shardSum
  rw [shapeCast_self, Fin.sum_univ_four]
  show (_ : EReal) + ((_ : EReal) + (_ : EReal) + (_ : EReal) + (_ : EReal)) = (_ : EReal)
  refine congrArg₂ (fun a b : EReal => a + b) rfl (congrArg₂ (fun a b : EReal => a + b) (congrArg₂ (fun a b : EReal => a + b) (congrArg₂ (fun a b : EReal => a + b) ?_ ?_) ?_) ?_)
  · exact shard_right _ w (0 : Fin 4) 0 _ _ _ (fun k => by have := k.isLt; omega) r e
  · exact shard_right _ w (1 : Fin 4) 512 _ _ _ (fun k => by have := k.isLt; omega) r e
  · exact shard_right _ w (2 : Fin 4) 1024 _ _ _ (fun k => by have := k.isLt; omega) r e
  · exact shard_right _ w (3 : Fin 4) 1536 _ _ _ (fun k => by have := k.isLt; omega) r e

theorem inDx_pay1 (p : FVec Ideal S512x512 .f32) (x : Vec Ideal S1x512x2048 .bf16) (w : Vec Ideal S4x512x512 .bf16) (r e : Fin 512) :
    k6_pay1 (F := Ideal) p (k6_pay5 w) (k6_pay6 x w) (k6_pay7 x) (ix2 r e) = p (ix2 r e) + half x w r e := by
  unfold k6_pay1 k6_pay6 k6_pay7 k6_pay5 k6_pay4 half shardSum
  rw [shapeCast_self, Fin.sum_univ_four]
  show (_ : EReal) + ((_ : EReal) + (_ : EReal) + (_ : EReal) + (_ : EReal)) = (_ : EReal)
  refine congrArg₂ (fun a b : EReal => a + b) rfl (congrArg₂ (fun a b : EReal => a + b) (congrArg₂ (fun a b : EReal => a + b) (congrArg₂ (fun a b : EReal => a + b) ?_ ?_) ?_) ?_)
  · exact shard_right _ w (0 : Fin 4) 0 _ _ _ (fun k => by have := k.isLt; omega) r e
  · exact shard_right _ w (1 : Fin 4) 512 _ _ _ (fun k => by have := k.isLt; omega) r e
  · exact shard_right _ w (2 : Fin 4) 1024 _ _ _ (fun k => by have := k.isLt; omega) r e
  · exact shard_right _ w (3 : Fin 4) 1536 _ _ _ (fun k => by have := k.isLt; omega) r e

theorem inDx_out (g : Vec Ideal S512x6144 .bf16) (w : Vec Ideal S8x512x768 .bf16) (x : Vec Ideal S1x512x2048 .bf16) (u : Vec Ideal S4x512x512 .bf16)
    (y : Vec Ideal S1x512x2048 .bf16) (v : Vec Ideal S4x512x512 .bf16) (r e : Fin 512) :
    out6_6 (F := Ideal) g w x u y v (ix2 r e) = shardSum (M := 6144) (by norm_num) g w r e + half x u r e + half y v r e := by
  unfold out6_6
  rw [View.canon_unit_zero hz2]
  simp only [View.ld_unit_zero (S := S512x6144) hz2, View.ld_unit_zero (S := S8x512x768) hz3, View.ld_unit_zero (S := S1x512x2048) hz3, View.ld_unit_zero (S := S4x512x512) hz3]
  rw [inDx_pay1, inDx_pay3, inDx_pay2]

end Cert.Kernel4Ideal.Block

end
-- ==== Proof.RiderBlock.lean ====
/-
  One grid point of the backward input projection with the three updates that ride on its grid: what its body leaves in
  the outputs' staging buffers (at the ideal values).
-/
module

public import proofs.«01_k».proof.Proof.RiderFrame
public import proofs.«01_k».proof.Proof.AdamwMath
public import proofs.«01_k».proof.Proof.MixerBackBlock

@[expose] public section

set_option maxRecDepth 16384

noncomputable section

namespace Cert.Kernel7Ideal.Block

open Cert.Kernel7Ideal Cert.Kernel7Ideal.Gen Cert.Kernel7Ideal.Whole Cert.Products Cert.Adamw Idealize.ShloMosaic.TcCoe Idealize.SL.Sem
open Idealize.ShloMosaic hiding ix1 ix2 ix3 eq_ix1 eq_ix2 eq_ix3
open Idealize.ShloMosaic.ValueIdx

/-- The product's block: two halves of the gates' part, and the part of queries, keys and values. -/
theorem dx (g : Vec Ideal S512x6144 .bf16) (w : Vec Ideal S8x512x768 .bf16) (x : Vec Ideal S1x512x2048 .bf16) (u : Vec Ideal S4x512x512 .bf16)
    (y : Vec Ideal S1x512x2048 .bf16) (v : Vec Ideal S4x512x512 .bf16) (r e : Fin 512) :
    out0_18 (F := Ideal) g w x u y v (ix2 r e)
      = shardSum (M := 6144) (by norm_num) g w r e + Cert.Kernel4Ideal.Block.half x u r e + Cert.Kernel4Ideal.Block.half y v r e :=
  Cert.Kernel4Ideal.Block.inDx_out g w x u y v r e

theorem hz2 : (![0, 0] : Fin 2 → Nat) = fun _ => 0 := funext fun a => by fin_cases a <;> rfl
theorem hz3 : (![0, 0, 0] : Fin 3 → Nat) = fun _ => 0 := funext fun a => by fin_cases a <;> rfl

/-! ## The up projection's weight -/

section

variable (x6 : Vec Ideal S8x64x1024 .bf16) (x7 x8 x9 : Vec Ideal S64x1024 .f32)

theorem out0_19_eq : out0_19 (F := Ideal) x6 = total x6 := funext fun j => by
  obtain ⟨r, e, rfl⟩ := any2 64 1024 j
  unfold out0_19
  rw [View.canon_unit_zero hz2]
  unfold k0_pay12 k0_pay21 k0_pay11
  show (_ : EReal) + (_ : EReal) + (_ : EReal) + (_ : EReal) + (_ : EReal) + (_ : EReal) + (_ : EReal) + (_ : EReal) = ∑ d : Fin 8, x6 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact share x6 (0 : Fin 8) _ _ r e
  · exact share x6 (1 : Fin 8) _ _ r e
  · exact share x6 (2 : Fin 8) _ _ r e
  · exact share x6 (3 : Fin 8) _ _ r e
  · exact share x6 (4 : Fin 8) _ _ r e
  · exact share x6 (5 : Fin 8) _ _ r e
  · exact share x6 (6 : Fin 8) _ _ r e
  · exact share x6 (7 : Fin 8) _ _ r e

theorem out0_20_eq : out0_20 (F := Ideal) x6 x7 x8 x9 = deltas x6 x7 x8 x9 := by
  have hg := out0_19_eq x6
  unfold out0_19 at hg
  rw [View.canon_unit_zero hz2] at hg
  unfold out0_20 deltas
  rw [View.canon_unit_zero hz2, ← hg]
  simp only [View.ld_unit_zero (S := S64x1024) hz2]
  rfl

theorem out0_21_eq : out0_21 (F := Ideal) x6 x8 = moments x6 x8 := by
  have hg := out0_19_eq x6
  unfold out0_19 at hg
  rw [View.canon_unit_zero hz2] at hg
  unfold out0_21 moments
  rw [View.canon_unit_zero hz2, ← hg]
  simp only [View.ld_unit_zero (S := S64x1024) hz2]
  rfl

theorem out0_22_eq : out0_22 (F := Ideal) x6 x9 = squares x6 x9 := by
  have hg := out0_19_eq x6
  unfold out0_19 at hg
  rw [View.canon_unit_zero hz2] at hg
  unfold out0_22 squares
  rw [View.canon_unit_zero hz2, ← hg]
  simp only [View.ld_unit_zero (S := S64x1024) hz2]
  rfl

end

/-! ## The down projection's weight -/

section

variable (x10 : Vec Ideal S8x32x2048 .bf16) (x11 x12 x13 : Vec Ideal S32x2048 .f32)

theorem out0_23_eq : out0_23 (F := Ideal) x10 = total x10 := funext fun j => by
  obtain ⟨r, e, rfl⟩ := any2 32 2048 j
  unfold out0_23
  rw [View.canon_unit_zero hz2]
  unfold k0_pay22 k0_pay16
  show (_ : EReal) + (_ : EReal) + (_ : EReal) + (_ : EReal) + (_ : EReal) + (_ : EReal) + (_ : EReal) + (_ : EReal) = ∑ d : Fin 8, x10 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact share x10 (0 : Fin 8) _ _ r e
  · exact share x10 (1 : Fin 8) _ _ r e
  · exact share x10 (2 : Fin 8) _ _ r e
  · exact share x10 (3 : Fin 8) _ _ r e
  · exact share x10 (4 : Fin 8) _ _ r e
  · exact share x10 (5 : Fin 8) _ _ r e
  · exact share x10 (6 : Fin 8) _ _ r e
  · exact share x10 (7 : Fin 8) _ _ r e

theorem out0_24_eq : out0_24 (F := Ideal) x10 x11 x12 x13 = deltas x10 x11 x12 x13 := by
  have hg := out0_23_eq x10
  unfold out0_23 at hg
  rw [View.canon_unit_zero hz2] at hg
  unfold out0_24 deltas
  rw [View.canon_unit_zero hz2, ← hg]
  simp only [View.ld_unit_zero (S := S32x2048) hz2]
  rfl

theorem out0_25_eq : out0_25 (F := Ideal) x10 x12 = moments x10 x12 := by
  have hg := out0_23_eq x10
  unfold out0_23 at hg
  rw [View.canon_unit_zero hz2] at hg
  unfold out0_25 moments
  rw [View.canon_unit_zero hz2, ← hg]
  simp only [View.ld_unit_zero (S := S32x2048) hz2]
  rfl

theorem out0_26_eq : out0_26 (F := Ideal) x10 x13 = squares x10 x13 := by
  have hg := out0_23_eq x10
  unfold out0_23 at hg
  rw [View.canon_unit_zero hz2] at hg
  unfold out0_26 squares
  rw [View.canon_unit_zero hz2, ← hg]
  simp only [View.ld_unit_zero (S := S32x2048) hz2]
  rfl

end

/-! ## The gates' weight -/

section

variable (x14 : Vec Ideal S8x64x512 .bf16) (x15 x16 x17 : Vec Ideal S64x512 .f32)

theorem out0_27_eq : out0_27 (F := Ideal) x14 = total x14 := funext fun j => by
  obtain ⟨r, e, rfl⟩ := any2 64 512 j
  unfold out0_27
  rw [View.canon_unit_zero hz2]
  unfold k0_pay20
  show (_ : EReal) + (_ : EReal) + (_ : EReal) + (_ : EReal) + (_ : EReal) + (_ : EReal) + (_ : EReal) + (_ : EReal) = ∑ d : Fin 8, x14 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact share x14 (0 : Fin 8) _ _ r e
  · exact share x14 (1 : Fin 8) _ _ r e
  · exact share x14 (2 : Fin 8) _ _ r e
  · exact share x14 (3 : Fin 8) _ _ r e
  · exact share x14 (4 : Fin 8) _ _ r e
  · exact share x14 (5 : Fin 8) _ _ r e
  · exact share x14 (6 : Fin 8) _ _ r e
  · exact share x14 (7 : Fin 8) _ _ r e

theorem out0_28_eq : out0_28 (F := Ideal) x14 x15 x16 x17 = deltas x14 x15 x16 x17 := by
  have hg := out0_27_eq x14
  unfold out0_27 at hg
  rw [View.canon_unit_zero hz2] at hg
  unfold out0_28 deltas
  rw [View.canon_unit_zero hz2, ← hg]
  simp only [View.ld_unit_zero (S := S64x512) hz2]
  rfl

theorem out0_29_eq : out0_29 (F := Ideal) x14 x16 = moments x14 x16 := by
  have hg := out0_27_eq x14
  unfold out0_27 at hg
  rw [View.canon_unit_zero hz2] at hg
  unfold out0_29 moments
  rw [View.canon_unit_zero hz2, ← hg]
  simp only [View.ld_unit_zero (S := S64x512) hz2]
  rfl

theorem out0_30_eq : out0_30 (F := Ideal) x14 x17 = squares x14 x17 := by
  have hg := out0_27_eq x14
  unfold out0_27 at hg
  rw [View.canon_unit_zero hz2] at hg
  unfold out0_30 squares
  rw [View.canon_unit_zero hz2, ← hg]
  simp only [View.ld_unit_zero (S := S64x512) hz2]
  rfl

end

end Cert.Kernel7Ideal.Block

end
-- ==== Proof.RiderArrays.lean ====
/-
  The three updates that ride on the backward input projection's grid, as whole arrays: the four results for each weight,
  as functions of the arrays the call is entered with (at the ideal values).
-/
module

public import proofs.«01_k».proof.Proof.RiderBlock
public import Idealize.ShloMosaic.Lib.Pipeline.Value

@[expose] public section

set_option maxRecDepth 16384

noncomputable section

namespace Cert.Kernel7Ideal.Rider

open Cert.Kernel7Ideal Cert.Kernel7Ideal.Gen Cert.Kernel7Ideal.Whole Cert.Kernel7Ideal.Block Cert.Products Cert.Adamw Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

variable (m : (ℓ : Loc nD τ sig) → Buf (Elt Ideal) ℓ)

/-! ## The up projection's weight -/

theorem idxUp : ∀ t : Fin cfg0.N,
    (win0_6.index t 0 = 0 ∧ win0_6.index t 1 = t.val ∧ win0_6.index t 2 = 0) ∧ win0_7.index t 0 = t.val ∧ win0_7.index t 1 = 0 :=
  (by decide +kernel : ∀ t : Fin grid0.N, _)

theorem rowUp (t : Fin cfg0.N) (r : Fin 64) : 64 * t.val + r.val < 2048 := by
  have := lt_of_lt_of_eq t.isLt N_0; omega

/-- Where an element of a block stands in its array. -/
theorem embUp (t : Fin cfg0.N) (r : Fin 64) (e : Fin 1024) : ((cfg0.win 7).blk t).view.emb (ix2 r e) = (ix2 ⟨64 * t.val + r.val, rowUp t r⟩ e : S2048x1024.Idx) :=
  funext fun a => Fin.ext (by
    obtain ⟨-, i0, i1⟩ := idxUp t
    match a with
    | ⟨0, _⟩ => show win0_7.index t 0 * 64 + 1 * r.val = 64 * t.val + r.val; rw [i0]; omega
    | ⟨1, _⟩ => show win0_7.index t 1 * 1024 + 1 * e.val = e.val; rw [i1]; omega)

theorem shareUp (c : Dev nD) (t : Fin cfg0.N) (d : Fin 8) (r : Fin 64) (e : Fin 1024) :
    (iblk m c 6 t : Vec Ideal S8x64x1024 .bf16) (ix3 d r e) = (V m c main_arg4 : S8x2048x1024.Idx → EReal) (ix3 d ⟨64 * t.val + r.val, rowUp t r⟩ e) := by
  obtain ⟨⟨i0, i1, i2⟩, -⟩ := idxUp t
  unfold iblk; rw [View.read_apply]
  show V m c main_arg4 _ = V m c main_arg4 _
  congr 1; funext a; apply Fin.ext
  match a with
  | ⟨0, _⟩ => show win0_6.index t 0 * 8 + 1 * d.val = d.val; rw [i0]; omega
  | ⟨1, _⟩ => show win0_6.index t 1 * 64 + 1 * r.val = 64 * t.val + r.val; rw [i1]; omega
  | ⟨2, _⟩ => show win0_6.index t 2 * 1024 + 1 * e.val = e.val; rw [i2]; omega

theorem blkUp_7 (c : Dev nD) (t : Fin cfg0.N) (r : Fin 64) (e : Fin 1024) :
    (iblk m c 7 t : Vec Ideal S64x1024 .f32) (ix2 r e) = (V m c main_arg5 : S2048x1024.Idx → EReal) (ix2 ⟨64 * t.val + r.val, rowUp t r⟩ e) := by
  unfold iblk; rw [View.read_apply]
  exact congrArg (fun i => (V m c main_arg5 : S2048x1024.Idx → EReal) i) (embUp t r e)

theorem blkUp_8 (c : Dev nD) (t : Fin cfg0.N) (r : Fin 64) (e : Fin 1024) :
    (iblk m c 8 t : Vec Ideal S64x1024 .f32) (ix2 r e) = (V m c main_arg6 : S2048x1024.Idx → EReal) (ix2 ⟨64 * t.val + r.val, rowUp t r⟩ e) := by
  unfold iblk; rw [View.read_apply]
  exact congrArg (fun i => (V m c main_arg6 : S2048x1024.Idx → EReal) i) (embUp t r e)

theorem blkUp_9 (c : Dev nD) (t : Fin cfg0.N) (r : Fin 64) (e : Fin 1024) :
    (iblk m c 9 t : Vec Ideal S64x1024 .f32) (ix2 r e) = (V m c main_arg7 : S2048x1024.Idx → EReal) (ix2 ⟨64 * t.val + r.val, rowUp t r⟩ e) := by
  unfold iblk; rw [View.read_apply]
  exact congrArg (fun i => (V m c main_arg7 : S2048x1024.Idx → EReal) i) (embUp t r e)

theorem coverUp (i : S2048x1024.Idx) : ∃ t : Fin cfg0.N, i ∈ ((cfg0.win 7).blk t).view.set := by
  have b0 : (i 0 : Nat) < 2048 := (i 0).isLt
  have b1 : (i 1 : Nat) < 1024 := (i 1).isLt
  have hN : cfg0.N = 32 := N_0
  refine ⟨⟨(i 0 : Nat) / 64, by omega⟩, ?_⟩
  generalize ht : (⟨(i 0 : Nat) / 64, by omega⟩ : Fin cfg0.N) = t
  have tv : t.val = (i 0 : Nat) / 64 := by rw [← ht]
  obtain ⟨-, i0, i1⟩ := idxUp t
  show i ∈ ((View.whole main_arg5).slice (win0_7.rect t)).set
  rw [View.set_slice_whole, Rect.mem_set_unit]
  intro a
  match a with
  | ⟨0, _⟩ => show win0_7.index t 0 * 64 ≤ (i 0 : Nat) ∧ (i 0 : Nat) < win0_7.index t 0 * 64 + 64; rw [i0]; omega
  | ⟨1, _⟩ => show win0_7.index t 1 * 1024 ≤ (i 1 : Nat) ∧ (i 1 : Nat) < win0_7.index t 1 * 1024 + 1024; rw [i1]; omega

/-- The up projection's weight: the gradient. -/
theorem arr0_19 (c : Dev nD) : (dats m 0 c).arrAt 19 cfg0.N = total (K := 2048) (n := 1024) (V m c main_arg4) :=
  (dats m 0 c).arrAt_eq_of_cover 19 _ (fun t _ => by
    show (cfg0.win 19).cut (grid0.coords t) ((dats m 0 c).after 19 t) = _
    rw [after0_19]; funext j
    obtain ⟨r, e, rfl⟩ := any2 64 1024 j
    rw [View.read_apply]
    refine (congrFun (out0_19_eq _) (ix2 r e)).trans (Eq.trans ?_ (congrArg (total (K := 2048) (n := 1024) (V m c main_arg4)) (embUp t r e)).symm)
    exact total_block (fun d => shareUp m c t d r e)) fun i => (coverUp i).imp fun t h => ⟨flush0_19 t, h⟩

/-- The up projection's weight: the change. -/
theorem arr0_20 (c : Dev nD) : (dats m 0 c).arrAt 20 cfg0.N = deltas (K := 2048) (n := 1024) (V m c main_arg4) (V m c main_arg5) (V m c main_arg6) (V m c main_arg7) :=
  (dats m 0 c).arrAt_eq_of_cover 20 _ (fun t _ => by
    show (cfg0.win 20).cut (grid0.coords t) ((dats m 0 c).after 20 t) = _
    rw [after0_20]; funext j
    obtain ⟨r, e, rfl⟩ := any2 64 1024 j
    rw [View.read_apply]
    refine (congrFun (out0_20_eq _ _ _ _) (ix2 r e)).trans (Eq.trans ?_ (congrArg (deltas (K := 2048) (n := 1024) (V m c main_arg4) (V m c main_arg5) (V m c main_arg6) (V m c main_arg7)) (embUp t r e)).symm)
    exact deltas_block (fun d => shareUp m c t d r e) (blkUp_7 m c t r e) (blkUp_8 m c t r e) (blkUp_9 m c t r e)) fun i => (coverUp i).imp fun t h => ⟨flush0_20 t, h⟩

/-- The up projection's weight: the new first moment. -/
theorem arr0_21 (c : Dev nD) : (dats m 0 c).arrAt 21 cfg0.N = moments (K := 2048) (n := 1024) (V m c main_arg4) (V m c main_arg6) :=
  (dats m 0 c).arrAt_eq_of_cover 21 _ (fun t _ => by
    show (cfg0.win 21).cut (grid0.coords t) ((dats m 0 c).after 21 t) = _
    rw [after0_21]; funext j
    obtain ⟨r, e, rfl⟩ := any2 64 1024 j
    rw [View.read_apply]
    refine (congrFun (out0_21_eq _ _) (ix2 r e)).trans (Eq.trans ?_ (congrArg (moments (K := 2048) (n := 1024) (V m c main_arg4) (V m c main_arg6)) (embUp t r e)).symm)
    exact moments_block (fun d => shareUp m c t d r e) (blkUp_8 m c t r e)) fun i => (coverUp i).imp fun t h => ⟨flush0_21 t, h⟩

/-- The up projection's weight: the new second moment. -/
theorem arr0_22 (c : Dev nD) : (dats m 0 c).arrAt 22 cfg0.N = squares (K := 2048) (n := 1024) (V m c main_arg4) (V m c main_arg7) :=
  (dats m 0 c).arrAt_eq_of_cover 22 _ (fun t _ => by
    show (cfg0.win 22).cut (grid0.coords t) ((dats m 0 c).after 22 t) = _
    rw [after0_22]; funext j
    obtain ⟨r, e, rfl⟩ := any2 64 1024 j
    rw [View.read_apply]
    refine (congrFun (out0_22_eq _ _) (ix2 r e)).trans (Eq.trans ?_ (congrArg (squares (K := 2048) (n := 1024) (V m c main_arg4) (V m c main_arg7)) (embUp t r e)).symm)
    exact squares_block (fun d => shareUp m c t d r e) (blkUp_9 m c t r e)) fun i => (coverUp i).imp fun t h => ⟨flush0_22 t, h⟩

/-! ## The down projection's weight -/

theorem idxDown : ∀ t : Fin cfg0.N,
    (win0_10.index t 0 = 0 ∧ win0_10.index t 1 = t.val ∧ win0_10.index t 2 = 0) ∧ win0_11.index t 0 = t.val ∧ win0_11.index t 1 = 0 :=
  (by decide +kernel : ∀ t : Fin grid0.N, _)

theorem rowDown (t : Fin cfg0.N) (r : Fin 32) : 32 * t.val + r.val < 1024 := by
  have := lt_of_lt_of_eq t.isLt N_0; omega

/-- Where an element of a block stands in its array. -/
theorem embDown (t : Fin cfg0.N) (r : Fin 32) (e : Fin 2048) : ((cfg0.win 11).blk t).view.emb (ix2 r e) = (ix2 ⟨32 * t.val + r.val, rowDown t r⟩ e : S1024x2048.Idx) :=
  funext fun a => Fin.ext (by
    obtain ⟨-, i0, i1⟩ := idxDown t
    match a with
    | ⟨0, _⟩ => show win0_11.index t 0 * 32 + 1 * r.val = 32 * t.val + r.val; rw [i0]; omega
    | ⟨1, _⟩ => show win0_11.index t 1 * 2048 + 1 * e.val = e.val; rw [i1]; omega)

theorem shareDown (c : Dev nD) (t : Fin cfg0.N) (d : Fin 8) (r : Fin 32) (e : Fin 2048) :
    (iblk m c 10 t : Vec Ideal S8x32x2048 .bf16) (ix3 d r e) = (V m c main_arg8 : S8x1024x2048.Idx → EReal) (ix3 d ⟨32 * t.val + r.val, rowDown t r⟩ e) := by
  obtain ⟨⟨i0, i1, i2⟩, -⟩ := idxDown t
  unfold iblk; rw [View.read_apply]
  show V m c main_arg8 _ = V m c main_arg8 _
  congr 1; funext a; apply Fin.ext
  match a with
  | ⟨0, _⟩ => show win0_10.index t 0 * 8 + 1 * d.val = d.val; rw [i0]; omega
  | ⟨1, _⟩ => show win0_10.index t 1 * 32 + 1 * r.val = 32 * t.val + r.val; rw [i1]; omega
  | ⟨2, _⟩ => show win0_10.index t 2 * 2048 + 1 * e.val = e.val; rw [i2]; omega

theorem blkDown_11 (c : Dev nD) (t : Fin cfg0.N) (r : Fin 32) (e : Fin 2048) :
    (iblk m c 11 t : Vec Ideal S32x2048 .f32) (ix2 r e) = (V m c main_arg9 : S1024x2048.Idx → EReal) (ix2 ⟨32 * t.val + r.val, rowDown t r⟩ e) := by
  unfold iblk; rw [View.read_apply]
  exact congrArg (fun i => (V m c main_arg9 : S1024x2048.Idx → EReal) i) (embDown t r e)

theorem blkDown_12 (c : Dev nD) (t : Fin cfg0.N) (r : Fin 32) (e : Fin 2048) :
    (iblk m c 12 t : Vec Ideal S32x2048 .f32) (ix2 r e) = (V m c main_arg10 : S1024x2048.Idx → EReal) (ix2 ⟨32 * t.val + r.val, rowDown t r⟩ e) := by
  unfold iblk; rw [View.read_apply]
  exact congrArg (fun i => (V m c main_arg10 : S1024x2048.Idx → EReal) i) (embDown t r e)

theorem blkDown_13 (c : Dev nD) (t : Fin cfg0.N) (r : Fin 32) (e : Fin 2048) :
    (iblk m c 13 t : Vec Ideal S32x2048 .f32) (ix2 r e) = (V m c main_arg11 : S1024x2048.Idx → EReal) (ix2 ⟨32 * t.val + r.val, rowDown t r⟩ e) := by
  unfold iblk; rw [View.read_apply]
  exact congrArg (fun i => (V m c main_arg11 : S1024x2048.Idx → EReal) i) (embDown t r e)

theorem coverDown (i : S1024x2048.Idx) : ∃ t : Fin cfg0.N, i ∈ ((cfg0.win 11).blk t).view.set := by
  have b0 : (i 0 : Nat) < 1024 := (i 0).isLt
  have b1 : (i 1 : Nat) < 2048 := (i 1).isLt
  have hN : cfg0.N = 32 := N_0
  refine ⟨⟨(i 0 : Nat) / 32, by omega⟩, ?_⟩
  generalize ht : (⟨(i 0 : Nat) / 32, by omega⟩ : Fin cfg0.N) = t
  have tv : t.val = (i 0 : Nat) / 32 := by rw [← ht]
  obtain ⟨-, i0, i1⟩ := idxDown t
  show i ∈ ((View.whole main_arg9).slice (win0_11.rect t)).set
  rw [View.set_slice_whole, Rect.mem_set_unit]
  intro a
  match a with
  | ⟨0, _⟩ => show win0_11.index t 0 * 32 ≤ (i 0 : Nat) ∧ (i 0 : Nat) < win0_11.index t 0 * 32 + 32; rw [i0]; omega
  | ⟨1, _⟩ => show win0_11.index t 1 * 2048 ≤ (i 1 : Nat) ∧ (i 1 : Nat) < win0_11.index t 1 * 2048 + 2048; rw [i1]; omega

/-- The down projection's weight: the gradient. -/
theorem arr0_23 (c : Dev nD) : (dats m 0 c).arrAt 23 cfg0.N = total (K := 1024) (n := 2048) (V m c main_arg8) :=
  (dats m 0 c).arrAt_eq_of_cover 23 _ (fun t _ => by
    show (cfg0.win 23).cut (grid0.coords t) ((dats m 0 c).after 23 t) = _
    rw [after0_23]; funext j
    obtain ⟨r, e, rfl⟩ := any2 32 2048 j
    rw [View.read_apply]
    refine (congrFun (out0_23_eq _) (ix2 r e)).trans (Eq.trans ?_ (congrArg (total (K := 1024) (n := 2048) (V m c main_arg8)) (embDown t r e)).symm)
    exact total_block (fun d => shareDown m c t d r e)) fun i => (coverDown i).imp fun t h => ⟨flush0_23 t, h⟩

/-- The down projection's weight: the change. -/
theorem arr0_24 (c : Dev nD) : (dats m 0 c).arrAt 24 cfg0.N = deltas (K := 1024) (n := 2048) (V m c main_arg8) (V m c main_arg9) (V m c main_arg10) (V m c main_arg11) :=
  (dats m 0 c).arrAt_eq_of_cover 24 _ (fun t _ => by
    show (cfg0.win 24).cut (grid0.coords t) ((dats m 0 c).after 24 t) = _
    rw [after0_24]; funext j
    obtain ⟨r, e, rfl⟩ := any2 32 2048 j
    rw [View.read_apply]
    refine (congrFun (out0_24_eq _ _ _ _) (ix2 r e)).trans (Eq.trans ?_ (congrArg (deltas (K := 1024) (n := 2048) (V m c main_arg8) (V m c main_arg9) (V m c main_arg10) (V m c main_arg11)) (embDown t r e)).symm)
    exact deltas_block (fun d => shareDown m c t d r e) (blkDown_11 m c t r e) (blkDown_12 m c t r e) (blkDown_13 m c t r e)) fun i => (coverDown i).imp fun t h => ⟨flush0_24 t, h⟩

/-- The down projection's weight: the new first moment. -/
theorem arr0_25 (c : Dev nD) : (dats m 0 c).arrAt 25 cfg0.N = moments (K := 1024) (n := 2048) (V m c main_arg8) (V m c main_arg10) :=
  (dats m 0 c).arrAt_eq_of_cover 25 _ (fun t _ => by
    show (cfg0.win 25).cut (grid0.coords t) ((dats m 0 c).after 25 t) = _
    rw [after0_25]; funext j
    obtain ⟨r, e, rfl⟩ := any2 32 2048 j
    rw [View.read_apply]
    refine (congrFun (out0_25_eq _ _) (ix2 r e)).trans (Eq.trans ?_ (congrArg (moments (K := 1024) (n := 2048) (V m c main_arg8) (V m c main_arg10)) (embDown t r e)).symm)
    exact moments_block (fun d => shareDown m c t d r e) (blkDown_12 m c t r e)) fun i => (coverDown i).imp fun t h => ⟨flush0_25 t, h⟩

/-- The down projection's weight: the new second moment. -/
theorem arr0_26 (c : Dev nD) : (dats m 0 c).arrAt 26 cfg0.N = squares (K := 1024) (n := 2048) (V m c main_arg8) (V m c main_arg11) :=
  (dats m 0 c).arrAt_eq_of_cover 26 _ (fun t _ => by
    show (cfg0.win 26).cut (grid0.coords t) ((dats m 0 c).after 26 t) = _
    rw [after0_26]; funext j
    obtain ⟨r, e, rfl⟩ := any2 32 2048 j
    rw [View.read_apply]
    refine (congrFun (out0_26_eq _ _) (ix2 r e)).trans (Eq.trans ?_ (congrArg (squares (K := 1024) (n := 2048) (V m c main_arg8) (V m c main_arg11)) (embDown t r e)).symm)
    exact squares_block (fun d => shareDown m c t d r e) (blkDown_13 m c t r e)) fun i => (coverDown i).imp fun t h => ⟨flush0_26 t, h⟩

/-! ## The gates' weight -/

theorem idxGate : ∀ t : Fin cfg0.N,
    (win0_14.index t 0 = 0 ∧ win0_14.index t 1 = t.val ∧ win0_14.index t 2 = 0) ∧ win0_15.index t 0 = t.val ∧ win0_15.index t 1 = 0 :=
  (by decide +kernel : ∀ t : Fin grid0.N, _)

theorem rowGate (t : Fin cfg0.N) (r : Fin 64) : 64 * t.val + r.val < 2048 := by
  have := lt_of_lt_of_eq t.isLt N_0; omega

/-- Where an element of a block stands in its array. -/
theorem embGate (t : Fin cfg0.N) (r : Fin 64) (e : Fin 512) : ((cfg0.win 15).blk t).view.emb (ix2 r e) = (ix2 ⟨64 * t.val + r.val, rowGate t r⟩ e : S2048x512.Idx) :=
  funext fun a => Fin.ext (by
    obtain ⟨-, i0, i1⟩ := idxGate t
    match a with
    | ⟨0, _⟩ => show win0_15.index t 0 * 64 + 1 * r.val = 64 * t.val + r.val; rw [i0]; omega
    | ⟨1, _⟩ => show win0_15.index t 1 * 512 + 1 * e.val = e.val; rw [i1]; omega)

theorem shareGate (c : Dev nD) (t : Fin cfg0.N) (d : Fin 8) (r : Fin 64) (e : Fin 512) :
    (iblk m c 14 t : Vec Ideal S8x64x512 .bf16) (ix3 d r e) = (V m c main_arg12 : S8x2048x512.Idx → EReal) (ix3 d ⟨64 * t.val + r.val, rowGate t r⟩ e) := by
  obtain ⟨⟨i0, i1, i2⟩, -⟩ := idxGate t
  unfold iblk; rw [View.read_apply]
  show V m c main_arg12 _ = V m c main_arg12 _
  congr 1; funext a; apply Fin.ext
  match a with
  | ⟨0, _⟩ => show win0_14.index t 0 * 8 + 1 * d.val = d.val; rw [i0]; omega
  | ⟨1, _⟩ => show win0_14.index t 1 * 64 + 1 * r.val = 64 * t.val + r.val; rw [i1]; omega
  | ⟨2, _⟩ => show win0_14.index t 2 * 512 + 1 * e.val = e.val; rw [i2]; omega

theorem blkGate_15 (c : Dev nD) (t : Fin cfg0.N) (r : Fin 64) (e : Fin 512) :
    (iblk m c 15 t : Vec Ideal S64x512 .f32) (ix2 r e) = (V m c main_arg13 : S2048x512.Idx → EReal) (ix2 ⟨64 * t.val + r.val, rowGate t r⟩ e) := by
  unfold iblk; rw [View.read_apply]
  exact congrArg (fun i => (V m c main_arg13 : S2048x512.Idx → EReal) i) (embGate t r e)

theorem blkGate_16 (c : Dev nD) (t : Fin cfg0.N) (r : Fin 64) (e : Fin 512) :
    (iblk m c 16 t : Vec Ideal S64x512 .f32) (ix2 r e) = (V m c main_arg14 : S2048x512.Idx → EReal) (ix2 ⟨64 * t.val + r.val, rowGate t r⟩ e) := by
  unfold iblk; rw [View.read_apply]
  exact congrArg (fun i => (V m c main_arg14 : S2048x512.Idx → EReal) i) (embGate t r e)

theorem blkGate_17 (c : Dev nD) (t : Fin cfg0.N) (r : Fin 64) (e : Fin 512) :
    (iblk m c 17 t : Vec Ideal S64x512 .f32) (ix2 r e) = (V m c main_arg15 : S2048x512.Idx → EReal) (ix2 ⟨64 * t.val + r.val, rowGate t r⟩ e) := by
  unfold iblk; rw [View.read_apply]
  exact congrArg (fun i => (V m c main_arg15 : S2048x512.Idx → EReal) i) (embGate t r e)

theorem coverGate (i : S2048x512.Idx) : ∃ t : Fin cfg0.N, i ∈ ((cfg0.win 15).blk t).view.set := by
  have b0 : (i 0 : Nat) < 2048 := (i 0).isLt
  have b1 : (i 1 : Nat) < 512 := (i 1).isLt
  have hN : cfg0.N = 32 := N_0
  refine ⟨⟨(i 0 : Nat) / 64, by omega⟩, ?_⟩
  generalize ht : (⟨(i 0 : Nat) / 64, by omega⟩ : Fin cfg0.N) = t
  have tv : t.val = (i 0 : Nat) / 64 := by rw [← ht]
  obtain ⟨-, i0, i1⟩ := idxGate t
  show i ∈ ((View.whole main_arg13).slice (win0_15.rect t)).set
  rw [View.set_slice_whole, Rect.mem_set_unit]
  intro a
  match a with
  | ⟨0, _⟩ => show win0_15.index t 0 * 64 ≤ (i 0 : Nat) ∧ (i 0 : Nat) < win0_15.index t 0 * 64 + 64; rw [i0]; omega
  | ⟨1, _⟩ => show win0_15.index t 1 * 512 ≤ (i 1 : Nat) ∧ (i 1 : Nat) < win0_15.index t 1 * 512 + 512; rw [i1]; omega

/-- The gates' weight: the gradient. -/
theorem arr0_27 (c : Dev nD) : (dats m 0 c).arrAt 27 cfg0.N = total (K := 2048) (n := 512) (V m c main_arg12) :=
  (dats m 0 c).arrAt_eq_of_cover 27 _ (fun t _ => by
    show (cfg0.win 27).cut (grid0.coords t) ((dats m 0 c).after 27 t) = _
    rw [after0_27]; funext j
    obtain ⟨r, e, rfl⟩ := any2 64 512 j
    rw [View.read_apply]
    refine (congrFun (out0_27_eq _) (ix2 r e)).trans (Eq.trans ?_ (congrArg (total (K := 2048) (n := 512) (V m c main_arg12)) (embGate t r e)).symm)
    exact total_block (fun d => shareGate m c t d r e)) fun i => (coverGate i).imp fun t h => ⟨flush0_27 t, h⟩

/-- The gates' weight: the change. -/
theorem arr0_28 (c : Dev nD) : (dats m 0 c).arrAt 28 cfg0.N = deltas (K := 2048) (n := 512) (V m c main_arg12) (V m c main_arg13) (V m c main_arg14) (V m c main_arg15) :=
  (dats m 0 c).arrAt_eq_of_cover 28 _ (fun t _ => by
    show (cfg0.win 28).cut (grid0.coords t) ((dats m 0 c).after 28 t) = _
    rw [after0_28]; funext j
    obtain ⟨r, e, rfl⟩ := any2 64 512 j
    rw [View.read_apply]
    refine (congrFun (out0_28_eq _ _ _ _) (ix2 r e)).trans (Eq.trans ?_ (congrArg (deltas (K := 2048) (n := 512) (V m c main_arg12) (V m c main_arg13) (V m c main_arg14) (V m c main_arg15)) (embGate t r e)).symm)
    exact deltas_block (fun d => shareGate m c t d r e) (blkGate_15 m c t r e) (blkGate_16 m c t r e) (blkGate_17 m c t r e)) fun i => (coverGate i).imp fun t h => ⟨flush0_28 t, h⟩

/-- The gates' weight: the new first moment. -/
theorem arr0_29 (c : Dev nD) : (dats m 0 c).arrAt 29 cfg0.N = moments (K := 2048) (n := 512) (V m c main_arg12) (V m c main_arg14) :=
  (dats m 0 c).arrAt_eq_of_cover 29 _ (fun t _ => by
    show (cfg0.win 29).cut (grid0.coords t) ((dats m 0 c).after 29 t) = _
    rw [after0_29]; funext j
    obtain ⟨r, e, rfl⟩ := any2 64 512 j
    rw [View.read_apply]
    refine (congrFun (out0_29_eq _ _) (ix2 r e)).trans (Eq.trans ?_ (congrArg (moments (K := 2048) (n := 512) (V m c main_arg12) (V m c main_arg14)) (embGate t r e)).symm)
    exact moments_block (fun d => shareGate m c t d r e) (blkGate_16 m c t r e)) fun i => (coverGate i).imp fun t h => ⟨flush0_29 t, h⟩

/-- The gates' weight: the new second moment. -/
theorem arr0_30 (c : Dev nD) : (dats m 0 c).arrAt 30 cfg0.N = squares (K := 2048) (n := 512) (V m c main_arg12) (V m c main_arg15) :=
  (dats m 0 c).arrAt_eq_of_cover 30 _ (fun t _ => by
    show (cfg0.win 30).cut (grid0.coords t) ((dats m 0 c).after 30 t) = _
    rw [after0_30]; funext j
    obtain ⟨r, e, rfl⟩ := any2 64 512 j
    rw [View.read_apply]
    refine (congrFun (out0_30_eq _ _) (ix2 r e)).trans (Eq.trans ?_ (congrArg (squares (K := 2048) (n := 512) (V m c main_arg12) (V m c main_arg15)) (embGate t r e)).symm)
    exact squares_block (fun d => shareGate m c t d r e) (blkGate_17 m c t r e)) fun i => (coverGate i).imp fun t h => ⟨flush0_30 t, h⟩

end Cert.Kernel7Ideal.Rider

end
-- ==== Proof.RiderRun.lean ====
/-
  The backward input projection with the three updates that ride on its grid: the gradient of its input as a whole array,
  and the run read at its thirteen results (at the ideal values).
-/
module

public import proofs.«01_k».proof.Proof.RiderArrays
public import proofs.«01_k».proof.Proof.MixerMath

@[expose] public section

set_option maxRecDepth 16384

noncomputable section

namespace Cert.Kernel7Ideal.Rider

open Cert.Kernel7Ideal Cert.Kernel7Ideal.Gen Cert.Kernel7Ideal.Whole Cert.Kernel7Ideal.Block Cert.Products Cert.Mixer Cert.Adamw Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

variable (m : (ℓ : Loc nD τ sig) → Buf (Elt Ideal) ℓ) (ρ : Dev nD → PrngReg)

/-! ## Call 0 -/

theorem idx0 : ∀ t : Fin cfg0.N,
    (win0_0.index t 0 = t.val % 8 ∧ win0_0.index t 1 = 0)
    ∧ (win0_1.index t 0 = 0 ∧ win0_1.index t 1 = t.val / 8 ∧ win0_1.index t 2 = 0)
    ∧ (win0_2.index t 0 = 0 ∧ win0_2.index t 1 = t.val % 8 ∧ win0_2.index t 2 = 0)
    ∧ (win0_3.index t 0 = 0 ∧ win0_3.index t 1 = t.val / 8 ∧ win0_3.index t 2 = 0)
    ∧ (win0_4.index t 0 = 1 ∧ win0_4.index t 1 = t.val % 8 ∧ win0_4.index t 2 = 0)
    ∧ (win0_5.index t 0 = 1 ∧ win0_5.index t 1 = t.val / 8 ∧ win0_5.index t 2 = 0)
    ∧ (win0_18.index t 0 = t.val % 8 ∧ win0_18.index t 1 = t.val / 8) :=
  (by decide +kernel : ∀ t : Fin grid0.N, _)

theorem lt0 (t : Fin cfg0.N) : t.val < 32 := lt_of_lt_of_eq t.isLt N_0

theorem blk0_0 (c : Dev nD) (t : Fin cfg0.N) (p0 : Fin 512) (p1 : Fin 6144) (q : S4096x6144.Idx)
    (h0 : (q 0).val = 512 * (t.val % 8) + p0.val) (h1 : (q 1).val = p1.val) :
    (iblk m c 0 t : Vec Ideal S512x6144 .bf16) (ix2 p0 p1) = (V m c main_arg0 : S4096x6144.Idx → EReal) q := by
  obtain ⟨⟨i0, i1⟩, -⟩ := idx0 t
  unfold iblk; rw [View.read_apply]
  show V m c main_arg0 _ = V m c main_arg0 q
  congr 1; funext a; apply Fin.ext
  match a with
  | ⟨0, _⟩ => show win0_0.index t 0 * 512 + 1 * p0.val = (q 0).val; rw [i0, h0]; omega
  | ⟨1, _⟩ => show win0_0.index t 1 * 6144 + 1 * p1.val = (q 1).val; rw [i1, h1]; omega

theorem blk0_1 (c : Dev nD) (t : Fin cfg0.N) (p0 : Fin 8) (p1 : Fin 512) (p2 : Fin 768) (q : S8x2048x768.Idx)
    (h0 : (q 0).val = p0.val) (h1 : (q 1).val = 512 * (t.val / 8) + p1.val) (h2 : (q 2).val = p2.val) :
    (iblk m c 1 t : Vec Ideal S8x512x768 .bf16) (ix3 p0 p1 p2) = (V m c main_v2 : S8x2048x768.Idx → EReal) q := by
  obtain ⟨-, ⟨i0, i1, i2⟩, -⟩ := idx0 t
  unfold iblk; rw [View.read_apply]
  show V m c main_v2 _ = V m c main_v2 q
  congr 1; funext a; apply Fin.ext
  match a with
  | ⟨0, _⟩ => show win0_1.index t 0 * 8 + 1 * p0.val = (q 0).val; rw [i0, h0]; omega
  | ⟨1, _⟩ => show win0_1.index t 1 * 512 + 1 * p1.val = (q 1).val; rw [i1, h1]; omega
  | ⟨2, _⟩ => show win0_1.index t 2 * 768 + 1 * p2.val = (q 2).val; rw [i2, h2]; omega

theorem blk0_2 (c : Dev nD) (t : Fin cfg0.N) (p0 : Fin 1) (p1 : Fin 512) (p2 : Fin 2048) (q : S2x4096x2048.Idx)
    (h0 : (q 0).val = p0.val) (h1 : (q 1).val = 512 * (t.val % 8) + p1.val) (h2 : (q 2).val = p2.val) :
    (iblk m c 2 t : Vec Ideal S1x512x2048 .bf16) (ix3 p0 p1 p2) = (V m c main_arg1 : S2x4096x2048.Idx → EReal) q := by
  obtain ⟨-, -, ⟨i0, i1, i2⟩, -⟩ := idx0 t
  unfold iblk; rw [View.read_apply]
  show V m c main_arg1 _ = V m c main_arg1 q
  congr 1; funext a; apply Fin.ext
  match a with
  | ⟨0, _⟩ => show win0_2.index t 0 * 1 + 1 * p0.val = (q 0).val; rw [i0, h0]; omega
  | ⟨1, _⟩ => show win0_2.index t 1 * 512 + 1 * p1.val = (q 1).val; rw [i1, h1]; omega
  | ⟨2, _⟩ => show win0_2.index t 2 * 2048 + 1 * p2.val = (q 2).val; rw [i2, h2]; omega

theorem blk0_3 (c : Dev nD) (t : Fin cfg0.N) (p0 : Fin 4) (p1 : Fin 512) (p2 : Fin 512) (q : S8x2048x512.Idx)
    (h0 : (q 0).val = p0.val) (h1 : (q 1).val = 512 * (t.val / 8) + p1.val) (h2 : (q 2).val = p2.val) :
    (iblk m c 3 t : Vec Ideal S4x512x512 .bf16) (ix3 p0 p1 p2) = (V m c main_v5 : S8x2048x512.Idx → EReal) q := by
  obtain ⟨-, -, -, ⟨i0, i1, i2⟩, -⟩ := idx0 t
  unfold iblk; rw [View.read_apply]
  show V m c main_v5 _ = V m c main_v5 q
  congr 1; funext a; apply Fin.ext
  match a with
  | ⟨0, _⟩ => show win0_3.index t 0 * 4 + 1 * p0.val = (q 0).val; rw [i0, h0]; omega
  | ⟨1, _⟩ => show win0_3.index t 1 * 512 + 1 * p1.val = (q 1).val; rw [i1, h1]; omega
  | ⟨2, _⟩ => show win0_3.index t 2 * 512 + 1 * p2.val = (q 2).val; rw [i2, h2]; omega

theorem blk0_4 (c : Dev nD) (t : Fin cfg0.N) (p0 : Fin 1) (p1 : Fin 512) (p2 : Fin 2048) (q : S2x4096x2048.Idx)
    (h0 : (q 0).val = 1 * (1) + p0.val) (h1 : (q 1).val = 512 * (t.val % 8) + p1.val) (h2 : (q 2).val = p2.val) :
    (iblk m c 4 t : Vec Ideal S1x512x2048 .bf16) (ix3 p0 p1 p2) = (V m c main_arg1 : S2x4096x2048.Idx → EReal) q := by
  obtain ⟨-, -, -, -, ⟨i0, i1, i2⟩, -⟩ := idx0 t
  unfold iblk; rw [View.read_apply]
  show V m c main_arg1 _ = V m c main_arg1 q
  congr 1; funext a; apply Fin.ext
  match a with
  | ⟨0, _⟩ => show win0_4.index t 0 * 1 + 1 * p0.val = (q 0).val; rw [i0, h0]; omega
  | ⟨1, _⟩ => show win0_4.index t 1 * 512 + 1 * p1.val = (q 1).val; rw [i1, h1]; omega
  | ⟨2, _⟩ => show win0_4.index t 2 * 2048 + 1 * p2.val = (q 2).val; rw [i2, h2]; omega

theorem blk0_5 (c : Dev nD) (t : Fin cfg0.N) (p0 : Fin 4) (p1 : Fin 512) (p2 : Fin 512) (q : S8x2048x512.Idx)
    (h0 : (q 0).val = 4 * (1) + p0.val) (h1 : (q 1).val = 512 * (t.val / 8) + p1.val) (h2 : (q 2).val = p2.val) :
    (iblk m c 5 t : Vec Ideal S4x512x512 .bf16) (ix3 p0 p1 p2) = (V m c main_v5 : S8x2048x512.Idx → EReal) q := by
  obtain ⟨-, -, -, -, -, ⟨i0, i1, i2⟩, -⟩ := idx0 t
  unfold iblk; rw [View.read_apply]
  show V m c main_v5 _ = V m c main_v5 q
  congr 1; funext a; apply Fin.ext
  match a with
  | ⟨0, _⟩ => show win0_5.index t 0 * 4 + 1 * p0.val = (q 0).val; rw [i0, h0]; omega
  | ⟨1, _⟩ => show win0_5.index t 1 * 512 + 1 * p1.val = (q 1).val; rw [i1, h1]; omega
  | ⟨2, _⟩ => show win0_5.index t 2 * 512 + 1 * p2.val = (q 2).val; rw [i2, h2]; omega

/-- The gradient of the mixer's input. -/
def Dh (c : Dev nD) : S4096x2048.Idx → EReal := fun i => shardSum (n := 768) (M := 6144) (by norm_num) (V m c main_arg0) (V m c main_v2) (i 0) (i 1) + halfSum (V m c main_arg1) (V m c main_v5) 0 (i 0) (i 1) + halfSum (V m c main_arg1) (V m c main_v5) 1 (i 0) (i 1)

theorem flushedDh (c : Dev nD) (t : Fin cfg0.N) : (dats m 0 c).flushed 18 t = ((cfg0.win 18).blk t).view.read (Elt Ideal) (Dh m c) := by
  show (cfg0.win 18).cut (grid0.coords t) ((dats m 0 c).after 18 t) = _
  rw [after0_18]; funext j
  obtain ⟨-, -, -, -, -, -, ⟨i0, i1⟩⟩ := idx0 t
  obtain ⟨r, e, rfl⟩ := any2 512 512 j
  rw [View.read_apply]
  have ei : ((cfg0.win 18).blk t).view.emb (ix2 r e) = (ix2 ⟨512 * (t.val % 8) + r.val, by have := lt0 t; have := r.isLt; omega⟩ ⟨512 * (t.val / 8) + e.val, by have := lt0 t; have := e.isLt; omega⟩) := funext fun a => Fin.ext (by
    match a with
    | ⟨0, _⟩ => show win0_18.index t 0 * 512 + 1 * r.val = 512 * (t.val % 8) + r.val; rw [i0]; omega
    | ⟨1, _⟩ => show win0_18.index t 1 * 512 + 1 * e.val = 512 * (t.val / 8) + e.val; rw [i1]; omega)
  refine (dx _ _ _ _ _ _ r e).trans ?_
  refine Eq.trans ?_ (congrArg (Dh m c) ei).symm
  unfold Dh halfSum
  rw [Cert.Kernel4Ideal.Block.half_apply, Cert.Kernel4Ideal.Block.half_apply]
  refine congrArg₂ (fun a b : EReal => a + b) (congrArg₂ (fun a b : EReal => a + b) ?_ ?_) ?_
  · unfold shardSum
    refine Finset.sum_congr rfl fun s _ => Finset.sum_congr rfl fun k _ => congrArg₂ (fun a b : EReal => a * b) ?_ ?_
    · exact blk0_0 m c t r _ _ rfl rfl
    exact blk0_1 m c t s e k _ rfl rfl rfl
  · refine Finset.sum_congr rfl fun s _ => Finset.sum_congr rfl fun k _ => congrArg₂ (fun a b : EReal => a * b) ?_ ?_
    · exact blk0_2 m c t 0 r _ _ rfl rfl rfl
    exact blk0_3 m c t s e k _ (by show 4 * 0 + s.val = s.val; omega) rfl rfl
  · refine Finset.sum_congr rfl fun s _ => Finset.sum_congr rfl fun k _ => congrArg₂ (fun a b : EReal => a * b) ?_ ?_
    · exact blk0_4 m c t 0 r _ _ rfl rfl rfl
    exact blk0_5 m c t s e k _ (by show 4 * 1 + s.val = 4 * (1) + s.val; omega) rfl rfl

theorem coverDh (i : S4096x2048.Idx) : ∃ t : Fin cfg0.N, (cfg0.win 18).flush t = true ∧ i ∈ ((cfg0.win 18).blk t).view.set := by
  have b0 : (i 0 : Nat) < 4096 := (i 0).isLt
  have b1 : (i 1 : Nat) < 2048 := (i 1).isLt
  have hN : cfg0.N = 32 := N_0
  refine ⟨⟨8 * ((i 1 : Nat) / 512) + (i 0 : Nat) / 512, by omega⟩, flush0_18 _, ?_⟩
  generalize ht : (⟨8 * ((i 1 : Nat) / 512) + (i 0 : Nat) / 512, by omega⟩ : Fin cfg0.N) = t
  have tv : t.val = 8 * ((i 1 : Nat) / 512) + (i 0 : Nat) / 512 := by rw [← ht]
  obtain ⟨-, -, -, -, -, -, ⟨i0, i1⟩⟩ := idx0 t
  show i ∈ ((View.whole main_v6_0).slice (win0_18.rect t)).set
  rw [View.set_slice_whole, Rect.mem_set_unit]
  intro a
  match a with
  | ⟨0, _⟩ => show win0_18.index t 0 * 512 ≤ (i 0 : Nat) ∧ (i 0 : Nat) < win0_18.index t 0 * 512 + 512
              rw [i0]; omega
  | ⟨1, _⟩ => show win0_18.index t 1 * 512 ≤ (i 1 : Nat) ∧ (i 1 : Nat) < win0_18.index t 1 * 512 + 512
              rw [i1]; omega

theorem arr0_18 (c : Dev nD) : (dats m 0 c).arrAt 18 cfg0.N = Dh m c :=
  (dats m 0 c).arrAt_eq_of_cover 18 (Dh m c) (fun t _ => flushedDh m c t) coverDh

/-- The arguments as launched. -/
abbrev a0 (c : Dev nD) : S4096x6144.Idx → EReal := m ((c : Thread nD τ).loc main_arg0)
abbrev a1 (c : Dev nD) : S2x4096x2048.Idx → EReal := m ((c : Thread nD τ).loc main_arg1)
abbrev a2 (c : Dev nD) : S2048x6144.Idx → EReal := m ((c : Thread nD τ).loc main_arg2)
abbrev a3 (c : Dev nD) : S2048x4096.Idx → EReal := m ((c : Thread nD τ).loc main_arg3)
abbrev a4 (c : Dev nD) : S8x2048x1024.Idx → EReal := m ((c : Thread nD τ).loc main_arg4)
abbrev a5 (c : Dev nD) : S2048x1024.Idx → EReal := m ((c : Thread nD τ).loc main_arg5)
abbrev a6 (c : Dev nD) : S2048x1024.Idx → EReal := m ((c : Thread nD τ).loc main_arg6)
abbrev a7 (c : Dev nD) : S2048x1024.Idx → EReal := m ((c : Thread nD τ).loc main_arg7)
abbrev a8 (c : Dev nD) : S8x1024x2048.Idx → EReal := m ((c : Thread nD τ).loc main_arg8)
abbrev a9 (c : Dev nD) : S1024x2048.Idx → EReal := m ((c : Thread nD τ).loc main_arg9)
abbrev a10 (c : Dev nD) : S1024x2048.Idx → EReal := m ((c : Thread nD τ).loc main_arg10)
abbrev a11 (c : Dev nD) : S1024x2048.Idx → EReal := m ((c : Thread nD τ).loc main_arg11)
abbrev a12 (c : Dev nD) : S8x2048x512.Idx → EReal := m ((c : Thread nD τ).loc main_arg12)
abbrev a13 (c : Dev nD) : S2048x512.Idx → EReal := m ((c : Thread nD τ).loc main_arg13)
abbrev a14 (c : Dev nD) : S2048x512.Idx → EReal := m ((c : Thread nD τ).loc main_arg14)
abbrev a15 (c : Dev nD) : S2048x512.Idx → EReal := m ((c : Thread nD τ).loc main_arg15)

/-- The weights the host cuts into shards. -/
theorem v2 (c : Dev nD) : V m c main_v2 = shardsOf (b := 8) (n := 768) (M := 6144) (by norm_num) (a2 m c) := by
  show StableHlo.after hostOps0 (fun b => m (c, b)) (Proc.devRef .tc main_v2) = _
  after_results_simp
  exact cut_shards _ _ _ _

theorem v5 (c : Dev nD) : V m c main_v5 = shardsOf (b := 8) (n := 512) (M := 4096) (by norm_num) (a3 m c) := by
  show StableHlo.after hostOps0 (fun b => m (c, b)) (Proc.devRef .tc main_v5) = _
  after_results_simp
  exact cut_shards _ _ _ _

/-- The gradient of the mixer's input, from the arguments. -/
theorem dh_eq (c : Dev nD) : Dh m c = dh (a2 m c) (a3 m c) (a0 m c) (a1 m c) := by
  unfold Dh; rw [V_main_arg0, V_main_arg1, v2, v5]; funext i
  obtain ⟨r, e, rfl⟩ := any2 4096 2048 i
  show shardSum _ _ _ r e + halfSum _ _ 0 r e + halfSum _ _ 1 r e = rowRow _ _ r e + rowRow _ _ r e
  rw [shardSum_of, add_assoc, halves]

/-! The results of the updates, from the arguments. -/

theorem val19 (c : Dev nD) : (dats m 0 c).arrAt 19 cfg0.N = total (a4 m c) := by
  rw [arr0_19, V_main_arg4]

theorem val20 (c : Dev nD) : (dats m 0 c).arrAt 20 cfg0.N = deltas (a4 m c) (a5 m c) (a6 m c) (a7 m c) := by
  rw [arr0_20, V_main_arg4, V_main_arg5, V_main_arg6, V_main_arg7]

theorem val21 (c : Dev nD) : (dats m 0 c).arrAt 21 cfg0.N = moments (a4 m c) (a6 m c) := by
  rw [arr0_21, V_main_arg4, V_main_arg6]

theorem val22 (c : Dev nD) : (dats m 0 c).arrAt 22 cfg0.N = squares (a4 m c) (a7 m c) := by
  rw [arr0_22, V_main_arg4, V_main_arg7]

theorem val23 (c : Dev nD) : (dats m 0 c).arrAt 23 cfg0.N = total (a8 m c) := by
  rw [arr0_23, V_main_arg8]

theorem val24 (c : Dev nD) : (dats m 0 c).arrAt 24 cfg0.N = deltas (a8 m c) (a9 m c) (a10 m c) (a11 m c) := by
  rw [arr0_24, V_main_arg8, V_main_arg9, V_main_arg10, V_main_arg11]

theorem val25 (c : Dev nD) : (dats m 0 c).arrAt 25 cfg0.N = moments (a8 m c) (a10 m c) := by
  rw [arr0_25, V_main_arg8, V_main_arg10]

theorem val26 (c : Dev nD) : (dats m 0 c).arrAt 26 cfg0.N = squares (a8 m c) (a11 m c) := by
  rw [arr0_26, V_main_arg8, V_main_arg11]

theorem val27 (c : Dev nD) : (dats m 0 c).arrAt 27 cfg0.N = total (a12 m c) := by
  rw [arr0_27, V_main_arg12]

theorem val28 (c : Dev nD) : (dats m 0 c).arrAt 28 cfg0.N = deltas (a12 m c) (a13 m c) (a14 m c) (a15 m c) := by
  rw [arr0_28, V_main_arg12, V_main_arg13, V_main_arg14, V_main_arg15]

theorem val29 (c : Dev nD) : (dats m 0 c).arrAt 29 cfg0.N = moments (a12 m c) (a14 m c) := by
  rw [arr0_29, V_main_arg12, V_main_arg14]

theorem val30 (c : Dev nD) : (dats m 0 c).arrAt 30 cfg0.N = squares (a12 m c) (a15 m c) := by
  rw [arr0_30, V_main_arg12, V_main_arg15]

set_option maxHeartbeats 2000000 in
/-- The run, read: the results, and the arguments unchanged. -/
theorem run : θ_run defs (onTc (τ := τ) (main (F := Ideal))) ⟨m, fun _ => 0, ρ⟩ fun r => ∀ c : Dev nD,
      r.2.mem ((c : Thread nD τ).loc main_v6_0) = dh (a2 m c) (a3 m c) (a0 m c) (a1 m c)
      ∧ r.2.mem ((c : Thread nD τ).loc main_v6_1) = total (a4 m c)
      ∧ r.2.mem ((c : Thread nD τ).loc main_v6_2) = deltas (a4 m c) (a5 m c) (a6 m c) (a7 m c)
      ∧ r.2.mem ((c : Thread nD τ).loc main_v6_3) = moments (a4 m c) (a6 m c)
      ∧ r.2.mem ((c : Thread nD τ).loc main_v6_4) = squares (a4 m c) (a7 m c)
      ∧ r.2.mem ((c : Thread nD τ).loc main_v6_5) = total (a8 m c)
      ∧ r.2.mem ((c : Thread nD τ).loc main_v6_6) = deltas (a8 m c) (a9 m c) (a10 m c) (a11 m c)
      ∧ r.2.mem ((c : Thread nD τ).loc main_v6_7) = moments (a8 m c) (a10 m c)
      ∧ r.2.mem ((c : Thread nD τ).loc main_v6_8) = squares (a8 m c) (a11 m c)
      ∧ r.2.mem ((c : Thread nD τ).loc main_v6_9) = total (a12 m c)
      ∧ r.2.mem ((c : Thread nD τ).loc main_v6_10) = deltas (a12 m c) (a13 m c) (a14 m c) (a15 m c)
      ∧ r.2.mem ((c : Thread nD τ).loc main_v6_11) = moments (a12 m c) (a14 m c)
      ∧ r.2.mem ((c : Thread nD τ).loc main_v6_12) = squares (a12 m c) (a15 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun _ h c => ⟨((h.1 c).1 18).trans ((arr0_18 m c).trans (dh_eq m c)),
      ((h.1 c).1 19).trans (val19 m c),
      ((h.1 c).1 20).trans (val20 m c),
      ((h.1 c).1 21).trans (val21 m c),
      ((h.1 c).1 22).trans (val22 m c),
      ((h.1 c).1 23).trans (val23 m c),
      ((h.1 c).1 24).trans (val24 m c),
      ((h.1 c).1 25).trans (val25 m c),
      ((h.1 c).1 26).trans (val26 m c),
      ((h.1 c).1 27).trans (val27 m c),
      ((h.1 c).1 28).trans (val28 m c),
      ((h.1 c).1 29).trans (val29 m c),
      ((h.1 c).1 30).trans (val30 m c),
      h.2 c⟩) (θ_run_and (run_main m ρ) (unchanged m ρ))

end Cert.Kernel7Ideal.Rider

end
-- ==== Proof.RiderPrinted.lean ====
/-
  The backward input projection as printed and as idealized are the same program, so one run is the frame of both.
-/
module

public import proofs.«01_k».proof.Proof.Gen.Kernel7
public import proofs.«01_k».proof.Proof.RiderFrame

@[expose] public section

set_option maxRecDepth 16384

noncomputable section

namespace Cert.Kernel7.Whole

open Idealize.ShloMosaic Idealize.ShloMosaic.TcCoe Idealize.SL.Sem

variable {F : FTy → Type} [FloatOps F]

set_option maxHeartbeats 4000000 in
/-- The two tables hold the same bodies. -/
theorem bodies_same : Cert.Kernel7.defs₀ (F := F) = Cert.Kernel7Ideal.defs₀ (F := F) := by
  unfold Cert.Kernel7.defs₀ Cert.Kernel7Ideal.defs₀
  refine congrArg Defs.onTc (funext fun a => funext fun x => ?_)
  match a, x with
  | ⟨0, _⟩, (t, s) => rfl
  | ⟨_ + 1, h⟩, _ => exact absurd h (Nat.not_lt.2 (Nat.le_add_left _ _))

set_option maxHeartbeats 4000000 in
/-- … and so do the tables with the regions. -/
theorem tables_same : Cert.Kernel7.defs (F := F) = Cert.Kernel7Ideal.defs (F := F) :=
  congrArg (Pipeline.defs Cert.Kernel7.pcfgs) bodies_same

set_option maxHeartbeats 4000000 in
/-- The two programs are the same on each device. -/
theorem programs_same : Cert.Kernel7.main (F := F) = Cert.Kernel7Ideal.main (F := F) := rfl

set_option maxHeartbeats 8000000 in
/-- The argument arrays of the printed call end as they began, and every counter is at zero. -/
theorem frame (m : (ℓ : Loc nD τ sig) → Buf (Elt F) ℓ) (ρ : Dev nD → PrngReg) :
    θ_run (Cert.Kernel7.defs (F := F)) (onTc (τ := τ) (Cert.Kernel7.main (F := F))) ⟨m, fun _ => 0, ρ⟩
      (fun r => (∀ c : Dev nD, Cert.Kernel7Ideal.Whole.Still (F := F) m r.2.mem c) ∧ r.2.sem = fun _ => 0) := by
  rw [tables_same, programs_same]
  exact Cert.Kernel7Ideal.Whole.frame (F := F) m ρ

end Cert.Kernel7.Whole

end
-- ==== Proof.SmallReference.lean ====
/-
  The reference of the optimiser's call for the small weights, read as the step of the optimiser.
-/
module

public import proofs.«01_k».proof.Proof.Gen.Reference8Ideal.Read
public import proofs.«01_k».proof.Proof.AdamwMath

@[expose] public section

set_option maxRecDepth 16384

noncomputable section

namespace Cert.Reference8Ideal.Small

open Cert.Reference8Ideal Cert.Reference8Ideal.Gen Cert.Reference8Ideal.Read Cert.Adamw
open Idealize.ShloMosaic
open Idealize.ShloMosaic.ValueIdx

/-- The norm before the mixer: the sum of the shares. -/
theorem sum0 (x0 : Arr S8x1x2048 .f32) : val_main_v0 (F := Ideal) x0 = total x0 := funext fun i => by
  rw [val_main_v0_apply, val_main_cst_apply]
  show Ideal.ofBits .f32 0x00000000#32 + _ = _
  rw [Ideal.ofBits_zero_f32, zero_add]
  refine Finset.sum_congr rfl fun k _ => ?_
  show x0 _ = x0 _
  congr 1; funext a; match a with | ⟨0, _⟩ => rfl | ⟨1, _⟩ => rfl | ⟨2, _⟩ => rfl

/-- The norm before the mixer: the new first moment. -/
theorem mean0 (x0 : Arr S8x1x2048 .f32) (x10 : Arr S1x2048 .f32) : val_main_v5 (F := Ideal) x0 x10 = moments x0 x10 := funext fun i => by
  simp only [val_main_cst_0_apply, val_main_v1_apply, val_main_v2_apply, val_main_cst_1_apply, val_main_v3_apply, val_main_v4_apply, val_main_v5_apply, sum0]
  rfl

/-- The norm before the mixer: the new second moment. -/
theorem square0 (x0 : Arr S8x1x2048 .f32) (x15 : Arr S1x2048 .f32) : val_main_v11 (F := Ideal) x0 x15 = squares x0 x15 := funext fun i => by
  simp only [val_main_cst_2_apply, val_main_v6_apply, val_main_v7_apply, val_main_v8_apply, val_main_cst_3_apply, val_main_v9_apply, val_main_v10_apply, val_main_v11_apply, sum0]
  rfl

/-- The norm before the mixer: the change of the weight. -/
theorem change0 (x0 : Arr S8x1x2048 .f32) (x5 x10 x15 : Arr S1x2048 .f32) : val_main_v24 (F := Ideal) x0 x5 x10 x15 = deltas x0 x5 x10 x15 := funext fun i => by
  simp only [val_main_cst_4_apply, val_main_v12_apply, val_main_v13_apply, val_main_cst_5_apply, val_main_v14_apply, val_main_v15_apply, val_main_v16_apply, val_main_cst_6_apply, val_main_v17_apply, val_main_v18_apply, val_main_v19_apply, val_main_cst_7_apply, val_main_v20_apply, val_main_v21_apply, val_main_v22_apply, val_main_cst_8_apply, val_main_v23_apply, val_main_v24_apply, mean0, square0]
  rfl

/-- The gates' bias: the sum of the shares. -/
theorem sum25 (x1 : Arr S8x1x4096 .f32) : val_main_v25 (F := Ideal) x1 = total x1 := funext fun i => by
  rw [val_main_v25_apply, val_main_cst_9_apply]
  show Ideal.ofBits .f32 0x00000000#32 + _ = _
  rw [Ideal.ofBits_zero_f32, zero_add]
  refine Finset.sum_congr rfl fun k _ => ?_
  show x1 _ = x1 _
  congr 1; funext a; match a with | ⟨0, _⟩ => rfl | ⟨1, _⟩ => rfl | ⟨2, _⟩ => rfl

/-- The gates' bias: the new first moment. -/
theorem mean25 (x1 : Arr S8x1x4096 .f32) (x11 : Arr S1x4096 .f32) : val_main_v30 (F := Ideal) x1 x11 = moments x1 x11 := funext fun i => by
  simp only [val_main_cst_10_apply, val_main_v26_apply, val_main_v27_apply, val_main_cst_11_apply, val_main_v28_apply, val_main_v29_apply, val_main_v30_apply, sum25]
  rfl

/-- The gates' bias: the new second moment. -/
theorem square25 (x1 : Arr S8x1x4096 .f32) (x16 : Arr S1x4096 .f32) : val_main_v36 (F := Ideal) x1 x16 = squares x1 x16 := funext fun i => by
  simp only [val_main_cst_12_apply, val_main_v31_apply, val_main_v32_apply, val_main_v33_apply, val_main_cst_13_apply, val_main_v34_apply, val_main_v35_apply, val_main_v36_apply, sum25]
  rfl

/-- The gates' bias: the change of the weight. -/
theorem change25 (x1 : Arr S8x1x4096 .f32) (x6 x11 x16 : Arr S1x4096 .f32) : val_main_v49 (F := Ideal) x1 x6 x11 x16 = deltas x1 x6 x11 x16 := funext fun i => by
  simp only [val_main_cst_14_apply, val_main_v37_apply, val_main_v38_apply, val_main_cst_15_apply, val_main_v39_apply, val_main_v40_apply, val_main_v41_apply, val_main_cst_16_apply, val_main_v42_apply, val_main_v43_apply, val_main_v44_apply, val_main_cst_17_apply, val_main_v45_apply, val_main_v46_apply, val_main_v47_apply, val_main_cst_18_apply, val_main_v48_apply, val_main_v49_apply, mean25, square25]
  rfl

/-- The table of relative positions: the sum of the shares. -/
theorem sum50 (x2 : Arr S8x1x1920 .f32) : val_main_v50 (F := Ideal) x2 = total x2 := funext fun i => by
  rw [val_main_v50_apply, val_main_cst_19_apply]
  show Ideal.ofBits .f32 0x00000000#32 + _ = _
  rw [Ideal.ofBits_zero_f32, zero_add]
  refine Finset.sum_congr rfl fun k _ => ?_
  show x2 _ = x2 _
  congr 1; funext a; match a with | ⟨0, _⟩ => rfl | ⟨1, _⟩ => rfl | ⟨2, _⟩ => rfl

/-- The table of relative positions: the new first moment. -/
theorem mean50 (x2 : Arr S8x1x1920 .f32) (x12 : Arr S1x1920 .f32) : val_main_v55 (F := Ideal) x2 x12 = moments x2 x12 := funext fun i => by
  simp only [val_main_cst_20_apply, val_main_v51_apply, val_main_v52_apply, val_main_cst_21_apply, val_main_v53_apply, val_main_v54_apply, val_main_v55_apply, sum50]
  rfl

/-- The table of relative positions: the new second moment. -/
theorem square50 (x2 : Arr S8x1x1920 .f32) (x17 : Arr S1x1920 .f32) : val_main_v61 (F := Ideal) x2 x17 = squares x2 x17 := funext fun i => by
  simp only [val_main_cst_22_apply, val_main_v56_apply, val_main_v57_apply, val_main_v58_apply, val_main_cst_23_apply, val_main_v59_apply, val_main_v60_apply, val_main_v61_apply, sum50]
  rfl

/-- The table of relative positions: the change of the weight. -/
theorem change50 (x2 : Arr S8x1x1920 .f32) (x7 x12 x17 : Arr S1x1920 .f32) : val_main_v74 (F := Ideal) x2 x7 x12 x17 = deltas x2 x7 x12 x17 := funext fun i => by
  simp only [val_main_cst_24_apply, val_main_v62_apply, val_main_v63_apply, val_main_cst_25_apply, val_main_v64_apply, val_main_v65_apply, val_main_v66_apply, val_main_cst_26_apply, val_main_v67_apply, val_main_v68_apply, val_main_v69_apply, val_main_cst_27_apply, val_main_v70_apply, val_main_v71_apply, val_main_v72_apply, val_main_cst_28_apply, val_main_v73_apply, val_main_v74_apply, mean50, square50]
  rfl

/-- The norm before the MLP: the sum of the shares. -/
theorem sum75 (x3 : Arr S8x1x2048 .f32) : val_main_v75 (F := Ideal) x3 = total x3 := funext fun i => by
  rw [val_main_v75_apply, val_main_cst_29_apply]
  show Ideal.ofBits .f32 0x00000000#32 + _ = _
  rw [Ideal.ofBits_zero_f32, zero_add]
  refine Finset.sum_congr rfl fun k _ => ?_
  show x3 _ = x3 _
  congr 1; funext a; match a with | ⟨0, _⟩ => rfl | ⟨1, _⟩ => rfl | ⟨2, _⟩ => rfl

/-- The norm before the MLP: the new first moment. -/
theorem mean75 (x3 : Arr S8x1x2048 .f32) (x13 : Arr S1x2048 .f32) : val_main_v80 (F := Ideal) x3 x13 = moments x3 x13 := funext fun i => by
  simp only [val_main_cst_30_apply, val_main_v76_apply, val_main_v77_apply, val_main_cst_31_apply, val_main_v78_apply, val_main_v79_apply, val_main_v80_apply, sum75]
  rfl

/-- The norm before the MLP: the new second moment. -/
theorem square75 (x3 : Arr S8x1x2048 .f32) (x18 : Arr S1x2048 .f32) : val_main_v86 (F := Ideal) x3 x18 = squares x3 x18 := funext fun i => by
  simp only [val_main_cst_32_apply, val_main_v81_apply, val_main_v82_apply, val_main_v83_apply, val_main_cst_33_apply, val_main_v84_apply, val_main_v85_apply, val_main_v86_apply, sum75]
  rfl

/-- The norm before the MLP: the change of the weight. -/
theorem change75 (x3 : Arr S8x1x2048 .f32) (x8 x13 x18 : Arr S1x2048 .f32) : val_main_v99 (F := Ideal) x3 x8 x13 x18 = deltas x3 x8 x13 x18 := funext fun i => by
  simp only [val_main_cst_34_apply, val_main_v87_apply, val_main_v88_apply, val_main_cst_35_apply, val_main_v89_apply, val_main_v90_apply, val_main_v91_apply, val_main_cst_36_apply, val_main_v92_apply, val_main_v93_apply, val_main_v94_apply, val_main_cst_37_apply, val_main_v95_apply, val_main_v96_apply, val_main_v97_apply, val_main_cst_38_apply, val_main_v98_apply, val_main_v99_apply, mean75, square75]
  rfl

/-- The last norm: the sum of the shares. -/
theorem sum100 (x4 : Arr S8x1x2048 .f32) : val_main_v100 (F := Ideal) x4 = total x4 := funext fun i => by
  rw [val_main_v100_apply, val_main_cst_39_apply]
  show Ideal.ofBits .f32 0x00000000#32 + _ = _
  rw [Ideal.ofBits_zero_f32, zero_add]
  refine Finset.sum_congr rfl fun k _ => ?_
  show x4 _ = x4 _
  congr 1; funext a; match a with | ⟨0, _⟩ => rfl | ⟨1, _⟩ => rfl | ⟨2, _⟩ => rfl

/-- The last norm: the new first moment. -/
theorem mean100 (x4 : Arr S8x1x2048 .f32) (x14 : Arr S1x2048 .f32) : val_main_v105 (F := Ideal) x4 x14 = moments x4 x14 := funext fun i => by
  simp only [val_main_cst_40_apply, val_main_v101_apply, val_main_v102_apply, val_main_cst_41_apply, val_main_v103_apply, val_main_v104_apply, val_main_v105_apply, sum100]
  rfl

/-- The last norm: the new second moment. -/
theorem square100 (x4 : Arr S8x1x2048 .f32) (x19 : Arr S1x2048 .f32) : val_main_v111 (F := Ideal) x4 x19 = squares x4 x19 := funext fun i => by
  simp only [val_main_cst_42_apply, val_main_v106_apply, val_main_v107_apply, val_main_v108_apply, val_main_cst_43_apply, val_main_v109_apply, val_main_v110_apply, val_main_v111_apply, sum100]
  rfl

/-- The last norm: the change of the weight. -/
theorem change100 (x4 : Arr S8x1x2048 .f32) (x9 x14 x19 : Arr S1x2048 .f32) : val_main_v124 (F := Ideal) x4 x9 x14 x19 = deltas x4 x9 x14 x19 := funext fun i => by
  simp only [val_main_cst_44_apply, val_main_v112_apply, val_main_v113_apply, val_main_cst_45_apply, val_main_v114_apply, val_main_v115_apply, val_main_v116_apply, val_main_cst_46_apply, val_main_v117_apply, val_main_v118_apply, val_main_v119_apply, val_main_cst_47_apply, val_main_v120_apply, val_main_v121_apply, val_main_v122_apply, val_main_cst_48_apply, val_main_v123_apply, val_main_v124_apply, mean100, square100]
  rfl

end Cert.Reference8Ideal.Small

end
-- ==== Proof.SmallFrame.lean ====
/- The frame of the optimiser's small call: the arrays staged, the body run on blocks, and the launch. -/
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel8Ideal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s arrays when the region is entered. -/
abbrev V (c : Dev nD) (b : Ref sig .tc) : Buf (Elt F) ((c : Thread nD τ).loc b) := StableHlo.after hostOps0 (fun b => m (c, b)) b

/-- The host operations make no new buffer. -/
theorem hostOps0_fresh : (hostOps0 : List (HloOp τ sig (Elt F))).Forall fun op => op.fresh = ∅ := by
  simp only [List.Forall]; repeat' constructor

set_option maxHeartbeats 800000 in
/-- The program is its host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the host operations before the region writes is found as it was launched. -/
theorem kept (c : Dev nD) (b : Ref sig .tc) (h : b ≠ main_cst ∧ b ≠ main_v0 ∧ b ≠ main_v1) :
    V m c b = m ((c : Thread nD τ).loc b) :=
  StableHlo.after_of_forall_not_mem (b := Proc.devRef .tc b) _ _ (List.forall_iff_forall_mem.mp (by
    obtain ⟨h0, h1, h2⟩ := h
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals (apply StableHlo.devRef_ne_of_ne; assumption)))
/-! The arguments are found as launched. -/

theorem V_main_arg0 (c : Dev nD) : V m c main_arg0 = m ((c : Thread nD τ).loc main_arg0) := kept m c main_arg0 (by decide)
theorem V_main_arg1 (c : Dev nD) : V m c main_arg1 = m ((c : Thread nD τ).loc main_arg1) := kept m c main_arg1 (by decide)
theorem V_main_arg2 (c : Dev nD) : V m c main_arg2 = m ((c : Thread nD τ).loc main_arg2) := kept m c main_arg2 (by decide)
theorem V_main_arg3 (c : Dev nD) : V m c main_arg3 = m ((c : Thread nD τ).loc main_arg3) := kept m c main_arg3 (by decide)
theorem V_main_arg4 (c : Dev nD) : V m c main_arg4 = m ((c : Thread nD τ).loc main_arg4) := kept m c main_arg4 (by decide)
theorem V_main_arg5 (c : Dev nD) : V m c main_arg5 = m ((c : Thread nD τ).loc main_arg5) := kept m c main_arg5 (by decide)
theorem V_main_arg6 (c : Dev nD) : V m c main_arg6 = m ((c : Thread nD τ).loc main_arg6) := kept m c main_arg6 (by decide)
theorem V_main_arg7 (c : Dev nD) : V m c main_arg7 = m ((c : Thread nD τ).loc main_arg7) := kept m c main_arg7 (by decide)
theorem V_main_arg8 (c : Dev nD) : V m c main_arg8 = m ((c : Thread nD τ).loc main_arg8) := kept m c main_arg8 (by decide)
theorem V_main_arg9 (c : Dev nD) : V m c main_arg9 = m ((c : Thread nD τ).loc main_arg9) := kept m c main_arg9 (by decide)
theorem V_main_arg10 (c : Dev nD) : V m c main_arg10 = m ((c : Thread nD τ).loc main_arg10) := kept m c main_arg10 (by decide)
theorem V_main_arg11 (c : Dev nD) : V m c main_arg11 = m ((c : Thread nD τ).loc main_arg11) := kept m c main_arg11 (by decide)
theorem V_main_arg12 (c : Dev nD) : V m c main_arg12 = m ((c : Thread nD τ).loc main_arg12) := kept m c main_arg12 (by decide)
theorem V_main_arg13 (c : Dev nD) : V m c main_arg13 = m ((c : Thread nD τ).loc main_arg13) := kept m c main_arg13 (by decide)
theorem V_main_arg14 (c : Dev nD) : V m c main_arg14 = m ((c : Thread nD τ).loc main_arg14) := kept m c main_arg14 (by decide)
theorem V_main_arg15 (c : Dev nD) : V m c main_arg15 = m ((c : Thread nD τ).loc main_arg15) := kept m c main_arg15 (by decide)
theorem V_main_arg16 (c : Dev nD) : V m c main_arg16 = m ((c : Thread nD τ).loc main_arg16) := kept m c main_arg16 (by decide)
theorem V_main_arg17 (c : Dev nD) : V m c main_arg17 = m ((c : Thread nD τ).loc main_arg17) := kept m c main_arg17 (by decide)
theorem V_main_arg18 (c : Dev nD) : V m c main_arg18 = m ((c : Thread nD τ).loc main_arg18) := kept m c main_arg18 (by decide)
theorem V_main_arg19 (c : Dev nD) : V m c main_arg19 = m ((c : Thread nD τ).loc main_arg19) := kept m c main_arg19 (by decide)
/-- The block of window `w` at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Core `c`'s argument arrays are, in the contents `μ`, as they were launched. -/
abbrev Still (μ : (ℓ : Loc nD τ sig) → Buf (Elt F) ℓ) (c : Dev nD) : Prop :=
      μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9)
      ∧ μ ((c.tc : Thread nD τ).loc main_arg10) = m ((c.tc : Thread nD τ).loc main_arg10)
      ∧ μ ((c.tc : Thread nD τ).loc main_arg11) = m ((c.tc : Thread nD τ).loc main_arg11)
      ∧ μ ((c.tc : Thread nD τ).loc main_arg12) = m ((c.tc : Thread nD τ).loc main_arg12)
      ∧ μ ((c.tc : Thread nD τ).loc main_arg13) = m ((c.tc : Thread nD τ).loc main_arg13)
      ∧ μ ((c.tc : Thread nD τ).loc main_arg14) = m ((c.tc : Thread nD τ).loc main_arg14)
      ∧ μ ((c.tc : Thread nD τ).loc main_arg15) = m ((c.tc : Thread nD τ).loc main_arg15)
      ∧ μ ((c.tc : Thread nD τ).loc main_arg16) = m ((c.tc : Thread nD τ).loc main_arg16)
      ∧ μ ((c.tc : Thread nD τ).loc main_arg17) = m ((c.tc : Thread nD τ).loc main_arg17)
      ∧ μ ((c.tc : Thread nD τ).loc main_arg18) = m ((c.tc : Thread nD τ).loc main_arg18)
      ∧ μ ((c.tc : Thread nD τ).loc main_arg19) = m ((c.tc : Thread nD τ).loc main_arg19)

set_option maxHeartbeats 2160000 in
/-- A run that leaves every staged input as it was is a frame. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD, Still m r.2.mem c) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 1).trans (((dats 0 c).arrAt_in 1 rfl _).trans ((hA c 1).trans (V_main_arg5 m c))),
      ((h c).1 2).trans (((dats 0 c).arrAt_in 2 rfl _).trans ((hA c 2).trans (V_main_arg6 m c))),
      ((h c).1 3).trans (((dats 0 c).arrAt_in 3 rfl _).trans ((hA c 3).trans (V_main_arg7 m c))),
      ((h c).1 4).trans (((dats 0 c).arrAt_in 4 rfl _).trans ((hA c 4).trans (V_main_arg8 m c))),
      ((h c).1 5).trans (((dats 0 c).arrAt_in 5 rfl _).trans ((hA c 5).trans (V_main_arg9 m c))),
      ((h c).1 6).trans (((dats 0 c).arrAt_in 6 rfl _).trans ((hA c 6).trans (V_main_arg10 m c))),
      ((h c).1 7).trans (((dats 0 c).arrAt_in 7 rfl _).trans ((hA c 7).trans (V_main_arg11 m c))),
      ((h c).1 8).trans (((dats 0 c).arrAt_in 8 rfl _).trans ((hA c 8).trans (V_main_arg12 m c))),
      ((h c).1 9).trans (((dats 0 c).arrAt_in 9 rfl _).trans ((hA c 9).trans (V_main_arg13 m c))),
      ((h c).1 10).trans (((dats 0 c).arrAt_in 10 rfl _).trans ((hA c 10).trans (V_main_arg14 m c))),
      ((h c).1 11).trans (((dats 0 c).arrAt_in 11 rfl _).trans ((hA c 11).trans (V_main_arg15 m c))),
      ((h c).1 12).trans (((dats 0 c).arrAt_in 12 rfl _).trans ((hA c 12).trans (V_main_arg16 m c))),
      ((h c).1 13).trans (((dats 0 c).arrAt_in 13 rfl _).trans ((hA c 13).trans (V_main_arg17 m c))),
      ((h c).1 14).trans (((dats 0 c).arrAt_in 14 rfl _).trans ((hA c 14).trans (V_main_arg18 m c))),
      ((h c).1 15).trans (((dats 0 c).arrAt_in 15 rfl _).trans ((hA c 15).trans (V_main_arg19 m c)))⟩) h

abbrev r0_0 : Rect S8x1x12288 := Rect.unit (s := S8x1x12288) ![0, 0, 0] S1x1x2048.size inb_S8x1x12288_S1x1x2048_0_0_0
abbrev r0_1 : Rect S8x1x12288 := Rect.unit (s := S8x1x12288) ![1, 0, 0] S1x1x2048.size inb_S8x1x12288_S1x1x2048_1_0_0
abbrev r0_2 : Rect S8x1x12288 := Rect.unit (s := S8x1x12288) ![2, 0, 0] S1x1x2048.size inb_S8x1x12288_S1x1x2048_2_0_0
abbrev r0_3 : Rect S8x1x12288 := Rect.unit (s := S8x1x12288) ![3, 0, 0] S1x1x2048.size inb_S8x1x12288_S1x1x2048_3_0_0
abbrev r0_4 : Rect S8x1x12288 := Rect.unit (s := S8x1x12288) ![4, 0, 0] S1x1x2048.size inb_S8x1x12288_S1x1x2048_4_0_0
abbrev r0_5 : Rect S8x1x12288 := Rect.unit (s := S8x1x12288) ![5, 0, 0] S1x1x2048.size inb_S8x1x12288_S1x1x2048_5_0_0
abbrev r0_6 : Rect S8x1x12288 := Rect.unit (s := S8x1x12288) ![6, 0, 0] S1x1x2048.size inb_S8x1x12288_S1x1x2048_6_0_0
abbrev r0_7 : Rect S8x1x12288 := Rect.unit (s := S8x1x12288) ![7, 0, 0] S1x1x2048.size inb_S8x1x12288_S1x1x2048_7_0_0
abbrev r0_8 : Rect S1x2048 := Rect.unit (s := S1x2048) ![0, 0] S1x2048.size inb_S1x2048_S1x2048_0_0
abbrev r0_9 : Rect S8x1x12288 := Rect.unit (s := S8x1x12288) ![0, 0, 2048] S1x1x4096.size inb_S8x1x12288_S1x1x4096_0_0_2048
abbrev r0_10 : Rect S8x1x12288 := Rect.unit (s := S8x1x12288) ![1, 0, 2048] S1x1x4096.size inb_S8x1x12288_S1x1x4096_1_0_2048
abbrev r0_11 : Rect S8x1x12288 := Rect.unit (s := S8x1x12288) ![2, 0, 2048] S1x1x4096.size inb_S8x1x12288_S1x1x4096_2_0_2048
abbrev r0_12 : Rect S8x1x12288 := Rect.unit (s := S8x1x12288) ![3, 0, 2048] S1x1x4096.size inb_S8x1x12288_S1x1x4096_3_0_2048
abbrev r0_13 : Rect S8x1x12288 := Rect.unit (s := S8x1x12288) ![4, 0, 2048] S1x1x4096.size inb_S8x1x12288_S1x1x4096_4_0_2048
abbrev r0_14 : Rect S8x1x12288 := Rect.unit (s := S8x1x12288) ![5, 0, 2048] S1x1x4096.size inb_S8x1x12288_S1x1x4096_5_0_2048
abbrev r0_15 : Rect S8x1x12288 := Rect.unit (s := S8x1x12288) ![6, 0, 2048] S1x1x4096.size inb_S8x1x12288_S1x1x4096_6_0_2048
abbrev r0_16 : Rect S8x1x12288 := Rect.unit (s := S8x1x12288) ![7, 0, 2048] S1x1x4096.size inb_S8x1x12288_S1x1x4096_7_0_2048
abbrev r0_17 : Rect S1x4096 := Rect.unit (s := S1x4096) ![0, 0] S1x4096.size inb_S1x4096_S1x4096_0_0
abbrev r0_18 : Rect S8x1x12288 := Rect.unit (s := S8x1x12288) ![0, 0, 6144] S1x1x1920.size inb_S8x1x12288_S1x1x1920_0_0_6144
abbrev r0_19 : Rect S8x1x12288 := Rect.unit (s := S8x1x12288) ![1, 0, 6144] S1x1x1920.size inb_S8x1x12288_S1x1x1920_1_0_6144
abbrev r0_20 : Rect S8x1x12288 := Rect.unit (s := S8x1x12288) ![2, 0, 6144] S1x1x1920.size inb_S8x1x12288_S1x1x1920_2_0_6144
abbrev r0_21 : Rect S8x1x12288 := Rect.unit (s := S8x1x12288) ![3, 0, 6144] S1x1x1920.size inb_S8x1x12288_S1x1x1920_3_0_6144
abbrev r0_22 : Rect S8x1x12288 := Rect.unit (s := S8x1x12288) ![4, 0, 6144] S1x1x1920.size inb_S8x1x12288_S1x1x1920_4_0_6144
abbrev r0_23 : Rect S8x1x12288 := Rect.unit (s := S8x1x12288) ![5, 0, 6144] S1x1x1920.size inb_S8x1x12288_S1x1x1920_5_0_6144
abbrev r0_24 : Rect S8x1x12288 := Rect.unit (s := S8x1x12288) ![6, 0, 6144] S1x1x1920.size inb_S8x1x12288_S1x1x1920_6_0_6144
abbrev r0_25 : Rect S8x1x12288 := Rect.unit (s := S8x1x12288) ![7, 0, 6144] S1x1x1920.size inb_S8x1x12288_S1x1x1920_7_0_6144
abbrev r0_26 : Rect S1x1920 := Rect.unit (s := S1x1920) ![0, 0] S1x1920.size inb_S1x1920_S1x1920_0_0
abbrev r0_27 : Rect S8x1x12288 := Rect.unit (s := S8x1x12288) ![0, 0, 8064] S1x1x2048.size inb_S8x1x12288_S1x1x2048_0_0_8064
abbrev r0_28 : Rect S8x1x12288 := Rect.unit (s := S8x1x12288) ![1, 0, 8064] S1x1x2048.size inb_S8x1x12288_S1x1x2048_1_0_8064
abbrev r0_29 : Rect S8x1x12288 := Rect.unit (s := S8x1x12288) ![2, 0, 8064] S1x1x2048.size inb_S8x1x12288_S1x1x2048_2_0_8064
abbrev r0_30 : Rect S8x1x12288 := Rect.unit (s := S8x1x12288) ![3, 0, 8064] S1x1x2048.size inb_S8x1x12288_S1x1x2048_3_0_8064
abbrev r0_31 : Rect S8x1x12288 := Rect.unit (s := S8x1x12288) ![4, 0, 8064] S1x1x2048.size inb_S8x1x12288_S1x1x2048_4_0_8064
abbrev r0_32 : Rect S8x1x12288 := Rect.unit (s := S8x1x12288) ![5, 0, 8064] S1x1x2048.size inb_S8x1x12288_S1x1x2048_5_0_8064
abbrev r0_33 : Rect S8x1x12288 := Rect.unit (s := S8x1x12288) ![6, 0, 8064] S1x1x2048.size inb_S8x1x12288_S1x1x2048_6_0_8064
abbrev r0_34 : Rect S8x1x12288 := Rect.unit (s := S8x1x12288) ![7, 0, 8064] S1x1x2048.size inb_S8x1x12288_S1x1x2048_7_0_8064
abbrev r0_35 : Rect S8x1x12288 := Rect.unit (s := S8x1x12288) ![0, 0, 10112] S1x1x2048.size inb_S8x1x12288_S1x1x2048_0_0_10112
abbrev r0_36 : Rect S8x1x12288 := Rect.unit (s := S8x1x12288) ![1, 0, 10112] S1x1x2048.size inb_S8x1x12288_S1x1x2048_1_0_10112
abbrev r0_37 : Rect S8x1x12288 := Rect.unit (s := S8x1x12288) ![2, 0, 10112] S1x1x2048.size inb_S8x1x12288_S1x1x2048_2_0_10112
abbrev r0_38 : Rect S8x1x12288 := Rect.unit (s := S8x1x12288) ![3, 0, 10112] S1x1x2048.size inb_S8x1x12288_S1x1x2048_3_0_10112
abbrev r0_39 : Rect S8x1x12288 := Rect.unit (s := S8x1x12288) ![4, 0, 10112] S1x1x2048.size inb_S8x1x12288_S1x1x2048_4_0_10112
abbrev r0_40 : Rect S8x1x12288 := Rect.unit (s := S8x1x12288) ![5, 0, 10112] S1x1x2048.size inb_S8x1x12288_S1x1x2048_5_0_10112
abbrev r0_41 : Rect S8x1x12288 := Rect.unit (s := S8x1x12288) ![6, 0, 10112] S1x1x2048.size inb_S8x1x12288_S1x1x2048_6_0_10112
abbrev r0_42 : Rect S8x1x12288 := Rect.unit (s := S8x1x12288) ![7, 0, 10112] S1x1x2048.size inb_S8x1x12288_S1x1x2048_7_0_10112

/-! Values of the body used more than once. -/

def k0_pay28 (x0 : Vec F S8x1x12288 .f32) : FVec F S1x2048 .f32 :=
  k0_pay4 (View.ld x0 r0_0) (View.ld x0 r0_1) (View.ld x0 r0_2) (View.ld x0 r0_3) (View.ld x0 r0_4) (View.ld x0 r0_5) (View.ld x0 r0_6) (View.ld x0 r0_7)
def k0_pay29 (x0 : Vec F S8x1x12288 .f32) : FVec F S1x4096 .f32 :=
  k0_pay8 (View.ld x0 r0_9) (View.ld x0 r0_10)
def k0_pay30 (x0 : Vec F S8x1x12288 .f32) (x7 : Vec F S1x4096 .f32) : FVec F S1x4096 .f32 :=
  k0_pay10 (k0_pay29 x0) (View.ld x0 r0_11) (View.ld x0 r0_12) (View.ld x0 r0_13) (View.ld x0 r0_14) (View.ld x0 r0_15) (View.ld x0 r0_16) (View.ld x7 r0_17)
def k0_pay31 (x12 : Vec F S1x4096 .f32) : FVec F S1x4096 .f32 :=
  k0_pay11 (View.ld x12 r0_17)
def k0_pay32 (x0 : Vec F S8x1x12288 .f32) : FVec F S1x4096 .f32 :=
  k0_pay12 (k0_pay29 x0) (View.ld x0 r0_11) (View.ld x0 r0_12) (View.ld x0 r0_13) (View.ld x0 r0_14) (View.ld x0 r0_15) (View.ld x0 r0_16)
def k0_pay33 (x0 : Vec F S8x1x12288 .f32) : FVec F S1x1920 .f32 :=
  k0_pay15 (View.ld x0 r0_18) (View.ld x0 r0_19) (View.ld x0 r0_20) (View.ld x0 r0_21) (View.ld x0 r0_22)
def k0_pay34 (x0 : Vec F S8x1x12288 .f32) : FVec F S1x2048 .f32 :=
  k0_pay22 (View.ld x0 r0_27) (View.ld x0 r0_28) (View.ld x0 r0_29) (View.ld x0 r0_30) (View.ld x0 r0_31) (View.ld x0 r0_32) (View.ld x0 r0_33)
def k0_pay35 (x0 : Vec F S8x1x12288 .f32) : FVec F S1x2048 .f32 :=
  k0_pay27 (View.ld x0 r0_35) (View.ld x0 r0_36) (View.ld x0 r0_37) (View.ld x0 r0_38) (View.ld x0 r0_39) (View.ld x0 r0_40) (View.ld x0 r0_41) (View.ld x0 r0_42)

/-- Core `c` holds the whole of the buffer `a`, whose contents are `x`. -/
abbrev own {S : Shape} {e : EltTy} (c : Dev nD) (a : Memref sig .tc .vmem S e) (x : Vec F S e) : sProp 𝕄 := owns (c : Thread nD τ) a fullShare x

/-! What the body leaves in each output window, and that one store covers the window. -/

def out0_16 (x0 : Vec F S8x1x12288 .f32) : Vec F S1x2048 .f32 :=
  View.canon [⟨r0_8, k0_pay4 (View.ld x0 r0_0) (View.ld x0 r0_1) (View.ld x0 r0_2) (View.ld x0 r0_3) (View.ld x0 r0_4) (View.ld x0 r0_5) (View.ld x0 r0_6) (View.ld x0 r0_7)⟩]

/-- The one store into window 16 covers its buffer. -/
theorem cover0_16 (p0 : Vec F S1x2048 .f32) (y : S1x2048.Idx) :
    ∃ pc ∈ ([⟨r0_8, p0⟩] : List (View.Piece (Elt F) S1x2048 .f32)), y ∈ pc.1.set :=
  View.cover_of_tiled [⟨r0_8, p0⟩] S1x2048.size (by rfl) y

def out0_17 (x0 : Vec F S8x1x12288 .f32) (x1 x6 x11 : Vec F S1x2048 .f32) : Vec F S1x2048 .f32 :=
  View.canon [⟨r0_8, k0_pay7 (k0_pay28 x0) (View.ld x1 r0_8) (View.ld x6 r0_8) (View.ld x11 r0_8)⟩]

def out0_18 (x0 : Vec F S8x1x12288 .f32) (x6 : Vec F S1x2048 .f32) : Vec F S1x2048 .f32 :=
  View.canon [⟨r0_8, k0_pay5 (k0_pay28 x0) (View.ld x6 r0_8)⟩]

def out0_19 (x0 : Vec F S8x1x12288 .f32) (x11 : Vec F S1x2048 .f32) : Vec F S1x2048 .f32 :=
  View.canon [⟨r0_8, k0_pay6 (k0_pay28 x0) (View.ld x11 r0_8)⟩]

def out0_20 (x0 : Vec F S8x1x12288 .f32) : Vec F S1x4096 .f32 :=
  View.canon [⟨r0_17, k0_pay9 (k0_pay29 x0) (View.ld x0 r0_11) (View.ld x0 r0_12) (View.ld x0 r0_13) (View.ld x0 r0_14) (View.ld x0 r0_15) (View.ld x0 r0_16)⟩]

/-- The one store into window 20 covers its buffer. -/
theorem cover0_20 (p0 : Vec F S1x4096 .f32) (y : S1x4096.Idx) :
    ∃ pc ∈ ([⟨r0_17, p0⟩] : List (View.Piece (Elt F) S1x4096 .f32)), y ∈ pc.1.set :=
  View.cover_of_tiled [⟨r0_17, p0⟩] S1x4096.size (by rfl) y

def out0_21 (x0 : Vec F S8x1x12288 .f32) (x2 x7 x12 : Vec F S1x4096 .f32) : Vec F S1x4096 .f32 :=
  View.canon [⟨r0_17, k0_pay14 (View.ld x2 r0_17) (k0_pay30 x0 x7) (k0_pay31 x12) (k0_pay32 x0)⟩]

def out0_22 (x0 : Vec F S8x1x12288 .f32) (x7 : Vec F S1x4096 .f32) : Vec F S1x4096 .f32 :=
  View.canon [⟨r0_17, k0_pay30 x0 x7⟩]

def out0_23 (x0 : Vec F S8x1x12288 .f32) (x12 : Vec F S1x4096 .f32) : Vec F S1x4096 .f32 :=
  View.canon [⟨r0_17, k0_pay13 (k0_pay31 x12) (k0_pay32 x0)⟩]

def out0_24 (x0 : Vec F S8x1x12288 .f32) : Vec F S1x1920 .f32 :=
  View.canon [⟨r0_26, k0_pay16 (k0_pay33 x0) (View.ld x0 r0_23) (View.ld x0 r0_24) (View.ld x0 r0_25)⟩]

/-- The one store into window 24 covers its buffer. -/
theorem cover0_24 (p0 : Vec F S1x1920 .f32) (y : S1x1920.Idx) :
    ∃ pc ∈ ([⟨r0_26, p0⟩] : List (View.Piece (Elt F) S1x1920 .f32)), y ∈ pc.1.set :=
  View.cover_of_tiled [⟨r0_26, p0⟩] S1x1920.size (by rfl) y

def out0_25 (x0 : Vec F S8x1x12288 .f32) (x3 x8 x13 : Vec F S1x1920 .f32) : Vec F S1x1920 .f32 :=
  View.canon [⟨r0_26, k0_pay21 (k0_pay19 (k0_pay33 x0) (View.ld x0 r0_23) (View.ld x0 r0_24) (View.ld x0 r0_25) (View.ld x8 r0_26) (View.ld x13 r0_26)) (k0_pay20 (View.ld x3 r0_26))⟩]

def out0_26 (x0 : Vec F S8x1x12288 .f32) (x8 : Vec F S1x1920 .f32) : Vec F S1x1920 .f32 :=
  View.canon [⟨r0_26, k0_pay17 (k0_pay33 x0) (View.ld x0 r0_23) (View.ld x0 r0_24) (View.ld x0 r0_25) (View.ld x8 r0_26)⟩]

def out0_27 (x0 : Vec F S8x1x12288 .f32) (x13 : Vec F S1x1920 .f32) : Vec F S1x1920 .f32 :=
  View.canon [⟨r0_26, k0_pay18 (k0_pay33 x0) (View.ld x0 r0_23) (View.ld x0 r0_24) (View.ld x0 r0_25) (View.ld x13 r0_26)⟩]

def out0_28 (x0 : Vec F S8x1x12288 .f32) : Vec F S1x2048 .f32 :=
  View.canon [⟨r0_8, k0_pay23 (k0_pay34 x0) (View.ld x0 r0_34)⟩]

def out0_29 (x0 : Vec F S8x1x12288 .f32) (x4 x9 x14 : Vec F S1x2048 .f32) : Vec F S1x2048 .f32 :=
  View.canon [⟨r0_8, k0_pay26 (k0_pay34 x0) (View.ld x0 r0_34) (View.ld x4 r0_8) (View.ld x9 r0_8) (View.ld x14 r0_8)⟩]

def out0_30 (x0 : Vec F S8x1x12288 .f32) (x9 : Vec F S1x2048 .f32) : Vec F S1x2048 .f32 :=
  View.canon [⟨r0_8, k0_pay24 (k0_pay34 x0) (View.ld x0 r0_34) (View.ld x9 r0_8)⟩]

def out0_31 (x0 : Vec F S8x1x12288 .f32) (x14 : Vec F S1x2048 .f32) : Vec F S1x2048 .f32 :=
  View.canon [⟨r0_8, k0_pay25 (k0_pay34 x0) (View.ld x0 r0_34) (View.ld x14 r0_8)⟩]

def out0_32 (x0 : Vec F S8x1x12288 .f32) : Vec F S1x2048 .f32 :=
  View.canon [⟨r0_8, k0_pay27 (View.ld x0 r0_35) (View.ld x0 r0_36) (View.ld x0 r0_37) (View.ld x0 r0_38) (View.ld x0 r0_39) (View.ld x0 r0_40) (View.ld x0 r0_41) (View.ld x0 r0_42)⟩]

def out0_33 (x0 : Vec F S8x1x12288 .f32) (x5 x10 x15 : Vec F S1x2048 .f32) : Vec F S1x2048 .f32 :=
  View.canon [⟨r0_8, k0_pay3 (k0_pay35 x0) (View.ld x5 r0_8) (View.ld x10 r0_8) (View.ld x15 r0_8)⟩]

def out0_34 (x0 : Vec F S8x1x12288 .f32) (x10 : Vec F S1x2048 .f32) : Vec F S1x2048 .f32 :=
  View.canon [⟨r0_8, k0_pay1 (k0_pay35 x0) (View.ld x10 r0_8)⟩]

def out0_35 (x0 : Vec F S8x1x12288 .f32) (x15 : Vec F S1x2048 .f32) : Vec F S1x2048 .f32 :=
  View.canon [⟨r0_8, k0_pay2 (k0_pay35 x0) (View.ld x15 r0_8)⟩]

set_option maxHeartbeats 1000000 in
/-- The body, run on whole blocks: the inputs are left, and each output is left as stated above. -/
theorem sound_kernel (c : Dev nD) (E : Set ℕ) (i : grid0.Coords) {arg1 : Memref sig .tc .vmem S8x1x12288 .f32} {arg2 arg5 arg6 arg7 arg10 arg11 arg12 arg15 arg16 arg17 arg18 arg19 arg20 arg29 arg30 arg31 arg32 arg33 arg34 arg35 arg36 : Memref sig .tc .vmem S1x2048 .f32} {arg3 arg8 arg13 arg21 arg22 arg23 arg24 : Memref sig .tc .vmem S1x4096 .f32} {arg4 arg9 arg14 arg25 arg26 arg27 arg28 : Memref sig .tc .vmem S1x1920 .f32} (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole) (harg27 : arg27.IsWhole) (harg28 : arg28.IsWhole) (harg29 : arg29.IsWhole) (harg30 : arg30.IsWhole) (harg31 : arg31.IsWhole) (harg32 : arg32.IsWhole) (harg33 : arg33.IsWhole) (harg34 : arg34.IsWhole) (harg35 : arg35.IsWhole) (harg36 : arg36.IsWhole)
    (x0 : Vec F S8x1x12288 .f32) (x1 : Vec F S1x2048 .f32) (x2 : Vec F S1x4096 .f32) (x3 : Vec F S1x1920 .f32) (x4 x5 x6 : Vec F S1x2048 .f32) (x7 : Vec F S1x4096 .f32) (x8 : Vec F S1x1920 .f32) (x9 x10 x11 : Vec F S1x2048 .f32) (x12 : Vec F S1x4096 .f32) (x13 : Vec F S1x1920 .f32) (x14 x15 : Vec F S1x2048 .f32) (K : PUnit → sProp 𝕄) :
    iprop(own c arg1 x0 ∗ own c arg2 x1 ∗ own c arg3 x2 ∗ own c arg4 x3 ∗ own c arg5 x4 ∗ own c arg6 x5 ∗ own c arg7 x6 ∗ own c arg8 x7 ∗ own c arg9 x8 ∗ own c arg10 x9 ∗ own c arg11 x10 ∗ own c arg12 x11 ∗ own c arg13 x12 ∗ own c arg14 x13 ∗ own c arg15 x14 ∗ own c arg16 x15 ∗ (∃ d, own c arg17 d) ∗ (∃ d, own c arg18 d) ∗ (∃ d, own c arg19 d) ∗ (∃ d, own c arg20 d) ∗ (∃ d, own c arg21 d) ∗ (∃ d, own c arg22 d) ∗ (∃ d, own c arg23 d) ∗ (∃ d, own c arg24 d) ∗ (∃ d, own c arg25 d) ∗ (∃ d, own c arg26 d) ∗ (∃ d, own c arg27 d) ∗ (∃ d, own c arg28 d) ∗ (∃ d, own c arg29 d) ∗ (∃ d, own c arg30 d) ∗ (∃ d, own c arg31 d) ∗ (∃ d, own c arg32 d) ∗ (∃ d, own c arg33 d) ∗ (∃ d, own c arg34 d) ∗ (∃ d, own c arg35 d) ∗ (∃ d, own c arg36 d)
        ∗ (iprop(own c arg1 x0 ∗ own c arg2 x1 ∗ own c arg3 x2 ∗ own c arg4 x3 ∗ own c arg5 x4 ∗ own c arg6 x5 ∗ own c arg7 x6 ∗ own c arg8 x7 ∗ own c arg9 x8 ∗ own c arg10 x9 ∗ own c arg11 x10 ∗ own c arg12 x11 ∗ own c arg13 x12 ∗ own c arg14 x13 ∗ own c arg15 x14 ∗ own c arg16 x15 ∗ own c arg17 (out0_16 x0) ∗ own c arg18 (out0_17 x0 x1 x6 x11) ∗ own c arg19 (out0_18 x0 x6) ∗ own c arg20 (out0_19 x0 x11) ∗ own c arg21 (out0_20 x0) ∗ own c arg22 (out0_21 x0 x2 x7 x12) ∗ own c arg23 (out0_22 x0 x7) ∗ own c arg24 (out0_23 x0 x12) ∗ own c arg25 (out0_24 x0) ∗ own c arg26 (out0_25 x0 x3 x8 x13) ∗ own c arg27 (out0_26 x0 x8) ∗ own c arg28 (out0_27 x0 x13) ∗ own c arg29 (out0_28 x0) ∗ own c arg30 (out0_29 x0 x4 x9 x14) ∗ own c arg31 (out0_30 x0 x9) ∗ own c arg32 (out0_31 x0 x14) ∗ own c arg33 (out0_32 x0) ∗ own c arg34 (out0_33 x0 x5 x10 x15) ∗ own c arg35 (out0_34 x0 x10) ∗ own c arg36 (out0_35 x0 x15)) -∗ K ⟨⟩))
      ⊢ wp frame (wpE (defs₀ (F := F)) Variants.none c none) E (cc0_adamw_small i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr; swap; · iexact H16
    ipureintro; exact (View.read_writes_eq_canon _ _ _ (cover0_16 _)).trans rfl
  isplitl [H17]
  · iexists _; isplitr; swap; · iexact H17
    ipureintro; exact (View.read_writes_eq_canon _ _ _ (cover0_16 _)).trans rfl
  isplitl [H18]
  · iexists _; isplitr; swap; · iexact H18
    ipureintro; exact (View.read_writes_eq_canon _ _ _ (cover0_16 _)).trans rfl
  isplitl [H19]
  · iexists _; isplitr; swap; · iexact H19
    ipureintro; exact (View.read_writes_eq_canon _ _ _ (cover0_16 _)).trans rfl
  isplitl [H20]
  · iexists _; isplitr; swap; · iexact H20
    ipureintro; exact (View.read_writes_eq_canon _ _ _ (cover0_20 _)).trans rfl
  isplitl [H21]
  · iexists _; isplitr; swap; · iexact H21
    ipureintro; exact (View.read_writes_eq_canon _ _ _ (cover0_20 _)).trans rfl
  isplitl [H22]
  · iexists _; isplitr; swap; · iexact H22
    ipureintro; exact (View.read_writes_eq_canon _ _ _ (cover0_20 _)).trans rfl
  isplitl [H23]
  · iexists _; isplitr; swap; · iexact H23
    ipureintro; exact (View.read_writes_eq_canon _ _ _ (cover0_20 _)).trans rfl
  isplitl [H24]
  · iexists _; isplitr; swap; · iexact H24
    ipureintro; exact (View.read_writes_eq_canon _ _ _ (cover0_24 _)).trans rfl
  isplitl [H25]
  · iexists _; isplitr; swap; · iexact H25
    ipureintro; exact (View.read_writes_eq_canon _ _ _ (cover0_24 _)).trans rfl
  isplitl [H26]
  · iexists _; isplitr; swap; · iexact H26
    ipureintro; exact (View.read_writes_eq_canon _ _ _ (cover0_24 _)).trans rfl
  isplitl [H27]
  · iexists _; isplitr; swap; · iexact H27
    ipureintro; exact (View.read_writes_eq_canon _ _ _ (cover0_24 _)).trans rfl
  isplitl [H28]
  · iexists _; isplitr; swap; · iexact H28
    ipureintro; exact (View.read_writes_eq_canon _ _ _ (cover0_16 _)).trans rfl
  isplitl [H29]
  · iexists _; isplitr; swap; · iexact H29
    ipureintro; exact (View.read_writes_eq_canon _ _ _ (cover0_16 _)).trans rfl
  isplitl [H30]
  · iexists _; isplitr; swap; · iexact H30
    ipureintro; exact (View.read_writes_eq_canon _ _ _ (cover0_16 _)).trans rfl
  isplitl [H31]
  · iexists _; isplitr; swap; · iexact H31
    ipureintro; exact (View.read_writes_eq_canon _ _ _ (cover0_16 _)).trans rfl
  isplitl [H32]
  · iexists _; isplitr; swap; · iexact H32
    ipureintro; exact (View.read_writes_eq_canon _ _ _ (cover0_16 _)).trans rfl
  isplitl [H33]
  · iexists _; isplitr; swap; · iexact H33
    ipureintro; exact (View.read_writes_eq_canon _ _ _ (cover0_16 _)).trans rfl
  isplitl [H34]
  · iexists _; isplitr; swap; · iexact H34
    ipureintro; exact (View.read_writes_eq_canon _ _ _ (cover0_16 _)).trans rfl
  iexists _; isplitr; swap; · iexact H35
  ipureintro; exact (View.read_writes_eq_canon _ _ _ (cover0_16 _)).trans rfl

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t)
    | ⟨17, _⟩ => out0_17 (iblk m c 0 t) (iblk m c 1 t) (iblk m c 6 t) (iblk m c 11 t)
    | ⟨18, _⟩ => out0_18 (iblk m c 0 t) (iblk m c 6 t)
    | ⟨19, _⟩ => out0_19 (iblk m c 0 t) (iblk m c 11 t)
    | ⟨20, _⟩ => out0_20 (iblk m c 0 t)
    | ⟨21, _⟩ => out0_21 (iblk m c 0 t) (iblk m c 2 t) (iblk m c 7 t) (iblk m c 12 t)
    | ⟨22, _⟩ => out0_22 (iblk m c 0 t) (iblk m c 7 t)
    | ⟨23, _⟩ => out0_23 (iblk m c 0 t) (iblk m c 12 t)
    | ⟨24, _⟩ => out0_24 (iblk m c 0 t)
    | ⟨25, _⟩ => out0_25 (iblk m c 0 t) (iblk m c 3 t) (iblk m c 8 t) (iblk m c 13 t)
    | ⟨26, _⟩ => out0_26 (iblk m c 0 t) (iblk m c 8 t)
    | ⟨27, _⟩ => out0_27 (iblk m c 0 t) (iblk m c 13 t)
    | ⟨28, _⟩ => out0_28 (iblk m c 0 t)
    | ⟨29, _⟩ => out0_29 (iblk m c 0 t) (iblk m c 4 t) (iblk m c 9 t) (iblk m c 14 t)
    | ⟨30, _⟩ => out0_30 (iblk m c 0 t) (iblk m c 9 t)
    | ⟨31, _⟩ => out0_31 (iblk m c 0 t) (iblk m c 14 t)
    | ⟨32, _⟩ => out0_32 (iblk m c 0 t)
    | ⟨33, _⟩ => out0_33 (iblk m c 0 t) (iblk m c 5 t) (iblk m c 10 t) (iblk m c 15 t)
    | ⟨34, _⟩ => out0_34 (iblk m c 0 t) (iblk m c 10 t)
    | ⟨35, _⟩ => out0_35 (iblk m c 0 t) (iblk m c 15 t)
    | ⟨_ + 36, h⟩ => absurd h (Nat.not_lt.2 (Nat.le_add_left _ _))
  Φ _ := Pipeline.ΦA spec0 c
  q _ := fullShare
  owed _ := 0

/-- The arrays of the data are those found at entry. -/
theorem A_eq (c : Dev nD) (w : Fin cfg0.W) : (dats m 0 c).A w = V m c (Pipeline.arrRef spec0 w) := by
  dsimp only [dats]

/-! After the body, each window holds what the data say. -/

theorem after0_0 (c t) : (dats m 0 c).after 0 t = iblk m c 0 t := by dsimp only [dats]
theorem after0_1 (c t) : (dats m 0 c).after 1 t = iblk m c 1 t := by dsimp only [dats]
theorem after0_2 (c t) : (dats m 0 c).after 2 t = iblk m c 2 t := by dsimp only [dats]
theorem after0_3 (c t) : (dats m 0 c).after 3 t = iblk m c 3 t := by dsimp only [dats]
theorem after0_4 (c t) : (dats m 0 c).after 4 t = iblk m c 4 t := by dsimp only [dats]
theorem after0_5 (c t) : (dats m 0 c).after 5 t = iblk m c 5 t := by dsimp only [dats]
theorem after0_6 (c t) : (dats m 0 c).after 6 t = iblk m c 6 t := by dsimp only [dats]
theorem after0_7 (c t) : (dats m 0 c).after 7 t = iblk m c 7 t := by dsimp only [dats]
theorem after0_8 (c t) : (dats m 0 c).after 8 t = iblk m c 8 t := by dsimp only [dats]
theorem after0_9 (c t) : (dats m 0 c).after 9 t = iblk m c 9 t := by dsimp only [dats]
theorem after0_10 (c t) : (dats m 0 c).after 10 t = iblk m c 10 t := by dsimp only [dats]
theorem after0_11 (c t) : (dats m 0 c).after 11 t = iblk m c 11 t := by dsimp only [dats]
theorem after0_12 (c t) : (dats m 0 c).after 12 t = iblk m c 12 t := by dsimp only [dats]
theorem after0_13 (c t) : (dats m 0 c).after 13 t = iblk m c 13 t := by dsimp only [dats]
theorem after0_14 (c t) : (dats m 0 c).after 14 t = iblk m c 14 t := by dsimp only [dats]
theorem after0_15 (c t) : (dats m 0 c).after 15 t = iblk m c 15 t := by dsimp only [dats]
theorem after0_16 (c t) : (dats m 0 c).after 16 t = out0_16 (iblk m c 0 t) := by dsimp only [dats]
theorem after0_17 (c t) : (dats m 0 c).after 17 t = out0_17 (iblk m c 0 t) (iblk m c 1 t) (iblk m c 6 t) (iblk m c 11 t) := by dsimp only [dats]
theorem after0_18 (c t) : (dats m 0 c).after 18 t = out0_18 (iblk m c 0 t) (iblk m c 6 t) := by dsimp only [dats]
theorem after0_19 (c t) : (dats m 0 c).after 19 t = out0_19 (iblk m c 0 t) (iblk m c 11 t) := by dsimp only [dats]
theorem after0_20 (c t) : (dats m 0 c).after 20 t = out0_20 (iblk m c 0 t) := by dsimp only [dats]
theorem after0_21 (c t) : (dats m 0 c).after 21 t = out0_21 (iblk m c 0 t) (iblk m c 2 t) (iblk m c 7 t) (iblk m c 12 t) := by dsimp only [dats]
theorem after0_22 (c t) : (dats m 0 c).after 22 t = out0_22 (iblk m c 0 t) (iblk m c 7 t) := by dsimp only [dats]
theorem after0_23 (c t) : (dats m 0 c).after 23 t = out0_23 (iblk m c 0 t) (iblk m c 12 t) := by dsimp only [dats]
theorem after0_24 (c t) : (dats m 0 c).after 24 t = out0_24 (iblk m c 0 t) := by dsimp only [dats]
theorem after0_25 (c t) : (dats m 0 c).after 25 t = out0_25 (iblk m c 0 t) (iblk m c 3 t) (iblk m c 8 t) (iblk m c 13 t) := by dsimp only [dats]
theorem after0_26 (c t) : (dats m 0 c).after 26 t = out0_26 (iblk m c 0 t) (iblk m c 8 t) := by dsimp only [dats]
theorem after0_27 (c t) : (dats m 0 c).after 27 t = out0_27 (iblk m c 0 t) (iblk m c 13 t) := by dsimp only [dats]
theorem after0_28 (c t) : (dats m 0 c).after 28 t = out0_28 (iblk m c 0 t) := by dsimp only [dats]
theorem after0_29 (c t) : (dats m 0 c).after 29 t = out0_29 (iblk m c 0 t) (iblk m c 4 t) (iblk m c 9 t) (iblk m c 14 t) := by dsimp only [dats]
theorem after0_30 (c t) : (dats m 0 c).after 30 t = out0_30 (iblk m c 0 t) (iblk m c 9 t) := by dsimp only [dats]
theorem after0_31 (c t) : (dats m 0 c).after 31 t = out0_31 (iblk m c 0 t) (iblk m c 14 t) := by dsimp only [dats]
theorem after0_32 (c t) : (dats m 0 c).after 32 t = out0_32 (iblk m c 0 t) := by dsimp only [dats]
theorem after0_33 (c t) : (dats m 0 c).after 33 t = out0_33 (iblk m c 0 t) (iblk m c 5 t) (iblk m c 10 t) (iblk m c 15 t) := by dsimp only [dats]
theorem after0_34 (c t) : (dats m 0 c).after 34 t = out0_34 (iblk m c 0 t) (iblk m c 10 t) := by dsimp only [dats]
theorem after0_35 (c t) : (dats m 0 c).after 35 t = out0_35 (iblk m c 0 t) (iblk m c 15 t) := by dsimp only [dats]

/-! Before the body, each input window holds its block. -/

theorem before0_0 (c t d) : (dats m 0 c).before 0 t d = iblk m c 0 t := (dats m 0 c).before_in_eq_fetched 0 rfl (fun _ => rfl) (fun _ _ _ => rfl) (fun _ => rfl) t d
theorem before0_1 (c t d) : (dats m 0 c).before 1 t d = iblk m c 1 t := (dats m 0 c).before_in_eq_fetched 1 rfl (fun _ => rfl) (fun _ _ _ => rfl) (fun _ => rfl) t d
theorem before0_2 (c t d) : (dats m 0 c).before 2 t d = iblk m c 2 t := (dats m 0 c).before_in_eq_fetched 2 rfl (fun _ => rfl) (fun _ _ _ => rfl) (fun _ => rfl) t d
theorem before0_3 (c t d) : (dats m 0 c).before 3 t d = iblk m c 3 t := (dats m 0 c).before_in_eq_fetched 3 rfl (fun _ => rfl) (fun _ _ _ => rfl) (fun _ => rfl) t d
theorem before0_4 (c t d) : (dats m 0 c).before 4 t d = iblk m c 4 t := (dats m 0 c).before_in_eq_fetched 4 rfl (fun _ => rfl) (fun _ _ _ => rfl) (fun _ => rfl) t d
theorem before0_5 (c t d) : (dats m 0 c).before 5 t d = iblk m c 5 t := (dats m 0 c).before_in_eq_fetched 5 rfl (fun _ => rfl) (fun _ _ _ => rfl) (fun _ => rfl) t d
theorem before0_6 (c t d) : (dats m 0 c).before 6 t d = iblk m c 6 t := (dats m 0 c).before_in_eq_fetched 6 rfl (fun _ => rfl) (fun _ _ _ => rfl) (fun _ => rfl) t d
theorem before0_7 (c t d) : (dats m 0 c).before 7 t d = iblk m c 7 t := (dats m 0 c).before_in_eq_fetched 7 rfl (fun _ => rfl) (fun _ _ _ => rfl) (fun _ => rfl) t d
theorem before0_8 (c t d) : (dats m 0 c).before 8 t d = iblk m c 8 t := (dats m 0 c).before_in_eq_fetched 8 rfl (fun _ => rfl) (fun _ _ _ => rfl) (fun _ => rfl) t d
theorem before0_9 (c t d) : (dats m 0 c).before 9 t d = iblk m c 9 t := (dats m 0 c).before_in_eq_fetched 9 rfl (fun _ => rfl) (fun _ _ _ => rfl) (fun _ => rfl) t d
theorem before0_10 (c t d) : (dats m 0 c).before 10 t d = iblk m c 10 t := (dats m 0 c).before_in_eq_fetched 10 rfl (fun _ => rfl) (fun _ _ _ => rfl) (fun _ => rfl) t d
theorem before0_11 (c t d) : (dats m 0 c).before 11 t d = iblk m c 11 t := (dats m 0 c).before_in_eq_fetched 11 rfl (fun _ => rfl) (fun _ _ _ => rfl) (fun _ => rfl) t d
theorem before0_12 (c t d) : (dats m 0 c).before 12 t d = iblk m c 12 t := (dats m 0 c).before_in_eq_fetched 12 rfl (fun _ => rfl) (fun _ _ _ => rfl) (fun _ => rfl) t d
theorem before0_13 (c t d) : (dats m 0 c).before 13 t d = iblk m c 13 t := (dats m 0 c).before_in_eq_fetched 13 rfl (fun _ => rfl) (fun _ _ _ => rfl) (fun _ => rfl) t d
theorem before0_14 (c t d) : (dats m 0 c).before 14 t d = iblk m c 14 t := (dats m 0 c).before_in_eq_fetched 14 rfl (fun _ => rfl) (fun _ _ _ => rfl) (fun _ => rfl) t d
theorem before0_15 (c t d) : (dats m 0 c).before 15 t d = iblk m c 15 t := (dats m 0 c).before_in_eq_fetched 15 rfl (fun _ => rfl) (fun _ _ _ => rfl) (fun _ => rfl) t d

/-- What the body is entered with. -/
def bodyPre (c : Dev nD) (t : Fin cfg0.N) : sProp 𝕄 :=
  iprop((dats m 0 c).Φ t.castSucc ∗ (dats m 0 c).owesAt () t.castSucc
    ∗ (∃ d, own c (st0_0 t) ((dats m 0 c).before 0 t d))
    ∗ (∃ d, own c (st0_1 t) ((dats m 0 c).before 1 t d))
    ∗ (∃ d, own c (st0_2 t) ((dats m 0 c).before 2 t d))
    ∗ (∃ d, own c (st0_3 t) ((dats m 0 c).before 3 t d))
    ∗ (∃ d, own c (st0_4 t) ((dats m 0 c).before 4 t d))
    ∗ (∃ d, own c (st0_5 t) ((dats m 0 c).before 5 t d))
    ∗ (∃ d, own c (st0_6 t) ((dats m 0 c).before 6 t d))
    ∗ (∃ d, own c (st0_7 t) ((dats m 0 c).before 7 t d))
    ∗ (∃ d, own c (st0_8 t) ((dats m 0 c).before 8 t d))
    ∗ (∃ d, own c (st0_9 t) ((dats m 0 c).before 9 t d))
    ∗ (∃ d, own c (st0_10 t) ((dats m 0 c).before 10 t d))
    ∗ (∃ d, own c (st0_11 t) ((dats m 0 c).before 11 t d))
    ∗ (∃ d, own c (st0_12 t) ((dats m 0 c).before 12 t d))
    ∗ (∃ d, own c (st0_13 t) ((dats m 0 c).before 13 t d))
    ∗ (∃ d, own c (st0_14 t) ((dats m 0 c).before 14 t d))
    ∗ (∃ d, own c (st0_15 t) ((dats m 0 c).before 15 t d))
    ∗ (∃ d, own c (st0_16 t) ((dats m 0 c).before 16 t d))
    ∗ (∃ d, own c (st0_17 t) ((dats m 0 c).before 17 t d))
    ∗ (∃ d, own c (st0_18 t) ((dats m 0 c).before 18 t d))
    ∗ (∃ d, own c (st0_19 t) ((dats m 0 c).before 19 t d))
    ∗ (∃ d, own c (st0_20 t) ((dats m 0 c).before 20 t d))
    ∗ (∃ d, own c (st0_21 t) ((dats m 0 c).before 21 t d))
    ∗ (∃ d, own c (st0_22 t) ((dats m 0 c).before 22 t d))
    ∗ (∃ d, own c (st0_23 t) ((dats m 0 c).before 23 t d))
    ∗ (∃ d, own c (st0_24 t) ((dats m 0 c).before 24 t d))
    ∗ (∃ d, own c (st0_25 t) ((dats m 0 c).before 25 t d))
    ∗ (∃ d, own c (st0_26 t) ((dats m 0 c).before 26 t d))
    ∗ (∃ d, own c (st0_27 t) ((dats m 0 c).before 27 t d))
    ∗ (∃ d, own c (st0_28 t) ((dats m 0 c).before 28 t d))
    ∗ (∃ d, own c (st0_29 t) ((dats m 0 c).before 29 t d))
    ∗ (∃ d, own c (st0_30 t) ((dats m 0 c).before 30 t d))
    ∗ (∃ d, own c (st0_31 t) ((dats m 0 c).before 31 t d))
    ∗ (∃ d, own c (st0_32 t) ((dats m 0 c).before 32 t d))
    ∗ (∃ d, own c (st0_33 t) ((dats m 0 c).before 33 t d))
    ∗ (∃ d, own c (st0_34 t) ((dats m 0 c).before 34 t d))
    ∗ (∃ d, own c (st0_35 t) ((dats m 0 c).before 35 t d)))

/-- What the body leaves. -/
def bodyPost (c : Dev nD) (t : Fin cfg0.N) : sProp 𝕄 :=
  iprop((dats m 0 c).Φ t.succ ∗ (dats m 0 c).owesAt () t.succ
    ∗ own c (st0_0 t) ((dats m 0 c).after 0 t)
    ∗ own c (st0_1 t) ((dats m 0 c).after 1 t)
    ∗ own c (st0_2 t) ((dats m 0 c).after 2 t)
    ∗ own c (st0_3 t) ((dats m 0 c).after 3 t)
    ∗ own c (st0_4 t) ((dats m 0 c).after 4 t)
    ∗ own c (st0_5 t) ((dats m 0 c).after 5 t)
    ∗ own c (st0_6 t) ((dats m 0 c).after 6 t)
    ∗ own c (st0_7 t) ((dats m 0 c).after 7 t)
    ∗ own c (st0_8 t) ((dats m 0 c).after 8 t)
    ∗ own c (st0_9 t) ((dats m 0 c).after 9 t)
    ∗ own c (st0_10 t) ((dats m 0 c).after 10 t)
    ∗ own c (st0_11 t) ((dats m 0 c).after 11 t)
    ∗ own c (st0_12 t) ((dats m 0 c).after 12 t)
    ∗ own c (st0_13 t) ((dats m 0 c).after 13 t)
    ∗ own c (st0_14 t) ((dats m 0 c).after 14 t)
    ∗ own c (st0_15 t) ((dats m 0 c).after 15 t)
    ∗ own c (st0_16 t) ((dats m 0 c).after 16 t)
    ∗ own c (st0_17 t) ((dats m 0 c).after 17 t)
    ∗ own c (st0_18 t) ((dats m 0 c).after 18 t)
    ∗ own c (st0_19 t) ((dats m 0 c).after 19 t)
    ∗ own c (st0_20 t) ((dats m 0 c).after 20 t)
    ∗ own c (st0_21 t) ((dats m 0 c).after 21 t)
    ∗ own c (st0_22 t) ((dats m 0 c).after 22 t)
    ∗ own c (st0_23 t) ((dats m 0 c).after 23 t)
    ∗ own c (st0_24 t) ((dats m 0 c).after 24 t)
    ∗ own c (st0_25 t) ((dats m 0 c).after 25 t)
    ∗ own c (st0_26 t) ((dats m 0 c).after 26 t)
    ∗ own c (st0_27 t) ((dats m 0 c).after 27 t)
    ∗ own c (st0_28 t) ((dats m 0 c).after 28 t)
    ∗ own c (st0_29 t) ((dats m 0 c).after 29 t)
    ∗ own c (st0_30 t) ((dats m 0 c).after 30 t)
    ∗ own c (st0_31 t) ((dats m 0 c).after 31 t)
    ∗ own c (st0_32 t) ((dats m 0 c).after 32 t)
    ∗ own c (st0_33 t) ((dats m 0 c).after 33 t)
    ∗ own c (st0_34 t) ((dats m 0 c).after 34 t)
    ∗ own c (st0_35 t) ((dats m 0 c).after 35 t))

set_option maxHeartbeats 8000000 in
/-- The body at a point, from what it is entered with to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  iframe H0 H1 H2 H3 H4 H5 H6 H7 H8 H9 H10 H11 H12 H13 H14 H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  iintro ⟨H0, H1, H2, H3, H4, H5, H6, H7, H8, H9, H10, H11, H12, H13, H14, H15, H16, H17, H18, H19, H20, H21, H22, H23, H24, H25, H26, H27, H28, H29, H30, H31, H32, H33, H34, H35⟩
  iframe HΦ Ho H0 H1 H2 H3 H4 H5 H6 H7 H8 H9 H10 H11 H12 H13 H14 H15 H16 H17 H18 H19 H20 H21 H22 H23 H24 H25 H26 H27 H28 H29 H30 H31 H32 H33 H34 H35

/-- The table's row at a point is the body. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends, with the arrays at the computed contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arrays at the computed contents. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began. -/
theorem unchanged : θ_run defs (onTc (τ := τ) (main (F := F))) ⟨m, fun _ => 0, ρ⟩ (fun r => ∀ c : Dev nD, Still m r.2.mem c) :=
  frame_of m ρ (dats m) (A_eq m) (run_main m ρ)

/-- The argument arrays end as they began, and every counter is at zero. -/
theorem frame : θ_run defs (onTc (τ := τ) (main (F := F))) ⟨m, fun _ => 0, ρ⟩ (fun r => (∀ c : Dev nD, Still m r.2.mem c) ∧ r.2.sem = fun _ => 0) :=
  θ_run_and (unchanged m ρ) ((θ_run defs _ _).mono (fun _ h => h.2) (run_main_quiescent m ρ))

end Cert.Kernel8Ideal.Whole

end
-- ==== Proof.SmallBlock.lean ====
/-
  The optimiser's call for the small weights: what its body leaves in the outputs' staging buffers (at the ideal values).
-/
module

public import proofs.«01_k».proof.Proof.SmallFrame
public import proofs.«01_k».proof.Proof.AdamwMath

@[expose] public section

set_option maxRecDepth 16384

noncomputable section

namespace Cert.Kernel8Ideal.Block

open Cert.Kernel8Ideal Cert.Kernel8Ideal.Gen Cert.Kernel8Ideal.Whole Cert.Adamw Cert.Products Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

theorem hz2 : (![0, 0] : Fin 2 → Nat) = fun _ => 0 := funext fun a => by fin_cases a <;> rfl

/-- The columns of a weight among those of all of them, for each device's share. -/
def cols {N : ℕ} (off W : ℕ) (h : off + W ≤ N) (x : (⟨3, ![8, 1, N]⟩ : Shape).Idx → EReal) : (⟨3, ![8, 1, W]⟩ : Shape).Idx → EReal :=
  fun i => x (ix3 (i 0) 0 ⟨off + (i 2).val, lt_of_lt_of_le (Nat.add_lt_add_left (i 2).isLt off) h⟩)

/-- One device's share of a weight's columns, loaded, read at an element. -/
theorem colShare {N W : ℕ} (off : ℕ) (hw : off + W ≤ N) (x : FVec Ideal ⟨3, ![8, 1, N]⟩ .f32) (d : Fin 8)
    (inb : ∀ a : Fin 3, (![d.val, 0, off] : Fin 3 → ℕ) a + (⟨3, ![1, 1, W]⟩ : Shape).size a ≤ (⟨3, ![8, 1, N]⟩ : Shape).size a)
    (h : (⟨3, ![1, 1, W]⟩ : Shape).ShapeCasts ⟨2, ![1, W]⟩) (r : Fin 1) (e : Fin W) :
    shapeCast ⟨2, ![1, W]⟩ (View.ld (Val := Elt Ideal) (e' := .f32) x (Rect.unit (s := ⟨3, ![8, 1, N]⟩) ![d.val, 0, off] (⟨3, ![1, 1, W]⟩ : Shape).size inb)) h (ix2 r e)
      = cols off W hw x (ix3 d r e) := by
  refine (shapeCast_apply _ _ _ (ix3 0 r e) (lead_one r e)).trans ?_
  show x _ = x _
  have hr : r.val = 0 := by omega
  congr 1; funext a; apply Fin.ext
  match a with
  | ⟨0, _⟩ => show d.val + 1 * 0 = d.val; omega
  | ⟨1, _⟩ => show 0 + 1 * r.val = 0; omega
  | ⟨2, _⟩ => show off + 1 * e.val = off + e.val; omega

/-! ## The norm before the mixer -/

section

variable (x0 : Vec Ideal S8x1x12288 .f32) (x1 x6 x11 : Vec Ideal S1x2048 .f32)

theorem pay0 : k0_pay4 (View.ld x0 r0_0) (View.ld x0 r0_1) (View.ld x0 r0_2) (View.ld x0 r0_3) (View.ld x0 r0_4) (View.ld x0 r0_5) (View.ld x0 r0_6) (View.ld x0 r0_7) = total (K := 1) (n := 2048) (cols 0 2048 (by norm_num) x0) := funext fun j => by
  obtain ⟨r, e, rfl⟩ := any2 1 2048 j
  unfold k0_pay4
  show (_ : EReal) + _ + _ + _ + _ + _ + _ + _ = ∑ d : Fin 8, cols 0 2048 (by norm_num) x0 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact colShare 0 _ x0 0 _ _ r e
  · exact colShare 0 _ x0 1 _ _ r e
  · exact colShare 0 _ x0 2 _ _ r e
  · exact colShare 0 _ x0 3 _ _ r e
  · exact colShare 0 _ x0 4 _ _ r e
  · exact colShare 0 _ x0 5 _ _ r e
  · exact colShare 0 _ x0 6 _ _ r e
  · exact colShare 0 _ x0 7 _ _ r e

theorem out0_16_eq : out0_16 (F := Ideal) x0 = total (K := 1) (n := 2048) (cols 0 2048 (by norm_num) x0) := by
  unfold out0_16; rw [View.canon_unit_zero hz2, pay0]

theorem out0_17_eq : out0_17 (F := Ideal) x0 x1 x6 x11 = deltas (K := 1) (n := 2048) (cols 0 2048 (by norm_num) x0) x1 x6 x11 := by
  unfold out0_17 deltas
  rw [View.canon_unit_zero hz2, ← pay0]
  simp only [View.ld_unit_zero (S := S1x2048) hz2]
  rfl

theorem out0_18_eq : out0_18 (F := Ideal) x0 x6 = moments (K := 1) (n := 2048) (cols 0 2048 (by norm_num) x0) x6 := by
  unfold out0_18 moments
  rw [View.canon_unit_zero hz2, ← pay0]
  simp only [View.ld_unit_zero (S := S1x2048) hz2]
  rfl

theorem out0_19_eq : out0_19 (F := Ideal) x0 x11 = squares (K := 1) (n := 2048) (cols 0 2048 (by norm_num) x0) x11 := by
  unfold out0_19 squares
  rw [View.canon_unit_zero hz2, ← pay0]
  simp only [View.ld_unit_zero (S := S1x2048) hz2]
  rfl

end

/-! ## The gates' bias -/

section

variable (x0 : Vec Ideal S8x1x12288 .f32) (x2 x7 x12 : Vec Ideal S1x4096 .f32)

theorem pay1 : k0_pay9 (k0_pay29 x0) (View.ld x0 r0_11) (View.ld x0 r0_12) (View.ld x0 r0_13) (View.ld x0 r0_14) (View.ld x0 r0_15) (View.ld x0 r0_16) = total (K := 1) (n := 4096) (cols 2048 4096 (by norm_num) x0) := funext fun j => by
  obtain ⟨r, e, rfl⟩ := any2 1 4096 j
  unfold k0_pay9 k0_pay29 k0_pay8
  show (_ : EReal) + _ + _ + _ + _ + _ + _ + _ = ∑ d : Fin 8, cols 2048 4096 (by norm_num) x0 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact colShare 2048 _ x0 0 _ _ r e
  · exact colShare 2048 _ x0 1 _ _ r e
  · exact colShare 2048 _ x0 2 _ _ r e
  · exact colShare 2048 _ x0 3 _ _ r e
  · exact colShare 2048 _ x0 4 _ _ r e
  · exact colShare 2048 _ x0 5 _ _ r e
  · exact colShare 2048 _ x0 6 _ _ r e
  · exact colShare 2048 _ x0 7 _ _ r e

theorem out0_20_eq : out0_20 (F := Ideal) x0 = total (K := 1) (n := 4096) (cols 2048 4096 (by norm_num) x0) := by
  unfold out0_20; rw [View.canon_unit_zero hz2, pay1]

theorem out0_21_eq : out0_21 (F := Ideal) x0 x2 x7 x12 = deltas (K := 1) (n := 4096) (cols 2048 4096 (by norm_num) x0) x2 x7 x12 := by
  unfold out0_21 deltas k0_pay30 k0_pay31
  rw [View.canon_unit_zero hz2, ← pay1]
  simp only [View.ld_unit_zero (S := S1x4096) hz2]
  rfl

theorem out0_22_eq : out0_22 (F := Ideal) x0 x7 = moments (K := 1) (n := 4096) (cols 2048 4096 (by norm_num) x0) x7 := by
  unfold out0_22 moments k0_pay30
  rw [View.canon_unit_zero hz2, ← pay1]
  simp only [View.ld_unit_zero (S := S1x4096) hz2]
  rfl

theorem out0_23_eq : out0_23 (F := Ideal) x0 x12 = squares (K := 1) (n := 4096) (cols 2048 4096 (by norm_num) x0) x12 := by
  unfold out0_23 squares k0_pay31
  rw [View.canon_unit_zero hz2, ← pay1]
  simp only [View.ld_unit_zero (S := S1x4096) hz2]
  rfl

end

/-! ## The table of relative positions -/

section

variable (x0 : Vec Ideal S8x1x12288 .f32) (x3 x8 x13 : Vec Ideal S1x1920 .f32)

theorem pay2 : k0_pay16 (k0_pay33 x0) (View.ld x0 r0_23) (View.ld x0 r0_24) (View.ld x0 r0_25) = total (K := 1) (n := 1920) (cols 6144 1920 (by norm_num) x0) := funext fun j => by
  obtain ⟨r, e, rfl⟩ := any2 1 1920 j
  unfold k0_pay16 k0_pay33 k0_pay15
  show (_ : EReal) + _ + _ + _ + _ + _ + _ + _ = ∑ d : Fin 8, cols 6144 1920 (by norm_num) x0 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact colShare 6144 _ x0 0 _ _ r e
  · exact colShare 6144 _ x0 1 _ _ r e
  · exact colShare 6144 _ x0 2 _ _ r e
  · exact colShare 6144 _ x0 3 _ _ r e
  · exact colShare 6144 _ x0 4 _ _ r e
  · exact colShare 6144 _ x0 5 _ _ r e
  · exact colShare 6144 _ x0 6 _ _ r e
  · exact colShare 6144 _ x0 7 _ _ r e

theorem out0_24_eq : out0_24 (F := Ideal) x0 = total (K := 1) (n := 1920) (cols 6144 1920 (by norm_num) x0) := by
  unfold out0_24; rw [View.canon_unit_zero hz2, pay2]

theorem out0_25_eq : out0_25 (F := Ideal) x0 x3 x8 x13 = deltas (K := 1) (n := 1920) (cols 6144 1920 (by norm_num) x0) x3 x8 x13 := by
  unfold out0_25 deltas
  rw [View.canon_unit_zero hz2, ← pay2]
  simp only [View.ld_unit_zero (S := S1x1920) hz2]
  rfl

theorem out0_26_eq : out0_26 (F := Ideal) x0 x8 = moments (K := 1) (n := 1920) (cols 6144 1920 (by norm_num) x0) x8 := by
  unfold out0_26 moments
  rw [View.canon_unit_zero hz2, ← pay2]
  simp only [View.ld_unit_zero (S := S1x1920) hz2]
  rfl

theorem out0_27_eq : out0_27 (F := Ideal) x0 x13 = squares (K := 1) (n := 1920) (cols 6144 1920 (by norm_num) x0) x13 := by
  unfold out0_27 squares
  rw [View.canon_unit_zero hz2, ← pay2]
  simp only [View.ld_unit_zero (S := S1x1920) hz2]
  rfl

end

/-! ## The norm before the MLP -/

section

variable (x0 : Vec Ideal S8x1x12288 .f32) (x4 x9 x14 : Vec Ideal S1x2048 .f32)

theorem pay3 : k0_pay23 (k0_pay34 x0) (View.ld x0 r0_34) = total (K := 1) (n := 2048) (cols 8064 2048 (by norm_num) x0) := funext fun j => by
  obtain ⟨r, e, rfl⟩ := any2 1 2048 j
  unfold k0_pay23 k0_pay34 k0_pay22
  show (_ : EReal) + _ + _ + _ + _ + _ + _ + _ = ∑ d : Fin 8, cols 8064 2048 (by norm_num) x0 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact colShare 8064 _ x0 0 _ _ r e
  · exact colShare 8064 _ x0 1 _ _ r e
  · exact colShare 8064 _ x0 2 _ _ r e
  · exact colShare 8064 _ x0 3 _ _ r e
  · exact colShare 8064 _ x0 4 _ _ r e
  · exact colShare 8064 _ x0 5 _ _ r e
  · exact colShare 8064 _ x0 6 _ _ r e
  · exact colShare 8064 _ x0 7 _ _ r e

theorem out0_28_eq : out0_28 (F := Ideal) x0 = total (K := 1) (n := 2048) (cols 8064 2048 (by norm_num) x0) := by
  unfold out0_28; rw [View.canon_unit_zero hz2, pay3]

theorem out0_29_eq : out0_29 (F := Ideal) x0 x4 x9 x14 = deltas (K := 1) (n := 2048) (cols 8064 2048 (by norm_num) x0) x4 x9 x14 := by
  unfold out0_29 deltas
  rw [View.canon_unit_zero hz2, ← pay3]
  simp only [View.ld_unit_zero (S := S1x2048) hz2]
  rfl

theorem out0_30_eq : out0_30 (F := Ideal) x0 x9 = moments (K := 1) (n := 2048) (cols 8064 2048 (by norm_num) x0) x9 := by
  unfold out0_30 moments
  rw [View.canon_unit_zero hz2, ← pay3]
  simp only [View.ld_unit_zero (S := S1x2048) hz2]
  rfl

theorem out0_31_eq : out0_31 (F := Ideal) x0 x14 = squares (K := 1) (n := 2048) (cols 8064 2048 (by norm_num) x0) x14 := by
  unfold out0_31 squares
  rw [View.canon_unit_zero hz2, ← pay3]
  simp only [View.ld_unit_zero (S := S1x2048) hz2]
  rfl

end

/-! ## The last norm -/

section

variable (x0 : Vec Ideal S8x1x12288 .f32) (x5 x10 x15 : Vec Ideal S1x2048 .f32)

theorem pay4 : k0_pay27 (View.ld x0 r0_35) (View.ld x0 r0_36) (View.ld x0 r0_37) (View.ld x0 r0_38) (View.ld x0 r0_39) (View.ld x0 r0_40) (View.ld x0 r0_41) (View.ld x0 r0_42) = total (K := 1) (n := 2048) (cols 10112 2048 (by norm_num) x0) := funext fun j => by
  obtain ⟨r, e, rfl⟩ := any2 1 2048 j
  unfold k0_pay27
  show (_ : EReal) + _ + _ + _ + _ + _ + _ + _ = ∑ d : Fin 8, cols 10112 2048 (by norm_num) x0 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact colShare 10112 _ x0 0 _ _ r e
  · exact colShare 10112 _ x0 1 _ _ r e
  · exact colShare 10112 _ x0 2 _ _ r e
  · exact colShare 10112 _ x0 3 _ _ r e
  · exact colShare 10112 _ x0 4 _ _ r e
  · exact colShare 10112 _ x0 5 _ _ r e
  · exact colShare 10112 _ x0 6 _ _ r e
  · exact colShare 10112 _ x0 7 _ _ r e

theorem out0_32_eq : out0_32 (F := Ideal) x0 = total (K := 1) (n := 2048) (cols 10112 2048 (by norm_num) x0) := by
  unfold out0_32; rw [View.canon_unit_zero hz2, pay4]

theorem out0_33_eq : out0_33 (F := Ideal) x0 x5 x10 x15 = deltas (K := 1) (n := 2048) (cols 10112 2048 (by norm_num) x0) x5 x10 x15 := by
  unfold out0_33 deltas
  rw [View.canon_unit_zero hz2, ← pay4]
  simp only [View.ld_unit_zero (S := S1x2048) hz2]
  rfl

theorem out0_34_eq : out0_34 (F := Ideal) x0 x10 = moments (K := 1) (n := 2048) (cols 10112 2048 (by norm_num) x0) x10 := by
  unfold out0_34 moments
  rw [View.canon_unit_zero hz2, ← pay4]
  simp only [View.ld_unit_zero (S := S1x2048) hz2]
  rfl

theorem out0_35_eq : out0_35 (F := Ideal) x0 x15 = squares (K := 1) (n := 2048) (cols 10112 2048 (by norm_num) x0) x15 := by
  unfold out0_35 squares
  rw [View.canon_unit_zero hz2, ← pay4]
  simp only [View.ld_unit_zero (S := S1x2048) hz2]
  rfl

end

end Cert.Kernel8Ideal.Block

end
-- ==== Proof.SmallRun.lean ====
/-
  The optimiser's call for the small weights, read at its twenty results (at the ideal values).
-/
module

public import proofs.«01_k».proof.Proof.SmallBlock
public import Idealize.ShloMosaic.Lib.Pipeline.Value

@[expose] public section

set_option maxRecDepth 16384

noncomputable section

namespace Cert.Kernel8Ideal.Small

open Cert.Kernel8Ideal Cert.Kernel8Ideal.Gen Cert.Kernel8Ideal.Whole Cert.Kernel8Ideal.Block Cert.Adamw Cert.Products Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

variable (m : (ℓ : Loc nD τ sig) → Buf (Elt Ideal) ℓ) (ρ : Dev nD → PrngReg)

theorem at2048 : ∀ t : Fin cfg0.N, win0_1.index t 0 = 0 ∧ win0_1.index t 1 = 0 := (by decide +kernel : ∀ t : Fin grid0.N, _)

/-- The one block of a row of 2048 is the row. -/
theorem emb2048 (t : Fin cfg0.N) (j : S1x2048.Idx) : ((cfg0.win 1).blk t).view.emb j = j := funext fun a => Fin.ext (by
  obtain ⟨i0, i1⟩ := at2048 t
  match a with
  | ⟨0, _⟩ => show win0_1.index t 0 * 1 + 1 * (j 0).val = (j 0).val; rw [i0]; omega
  | ⟨1, _⟩ => show win0_1.index t 1 * 2048 + 1 * (j 1).val = (j 1).val; rw [i1]; omega)

theorem cover2048 (i : S1x2048.Idx) : i ∈ ((cfg0.win 1).blk t0_0).view.set := by
  have b0 : (i 0 : Nat) < 1 := (i 0).isLt
  have b1 : (i 1 : Nat) < 2048 := (i 1).isLt
  obtain ⟨i0, i1⟩ := at2048 t0_0
  show i ∈ ((View.whole main_arg5).slice (win0_1.rect t0_0)).set
  rw [View.set_slice_whole, Rect.mem_set_unit]
  intro a
  match a with
  | ⟨0, _⟩ => show win0_1.index t0_0 0 * 1 ≤ (i 0 : Nat) ∧ (i 0 : Nat) < win0_1.index t0_0 0 * 1 + 1; rw [i0]; omega
  | ⟨1, _⟩ => show win0_1.index t0_0 1 * 2048 ≤ (i 1 : Nat) ∧ (i 1 : Nat) < win0_1.index t0_0 1 * 2048 + 2048; rw [i1]; omega

theorem at4096 : ∀ t : Fin cfg0.N, win0_2.index t 0 = 0 ∧ win0_2.index t 1 = 0 := (by decide +kernel : ∀ t : Fin grid0.N, _)

/-- The one block of a row of 4096 is the row. -/
theorem emb4096 (t : Fin cfg0.N) (j : S1x4096.Idx) : ((cfg0.win 2).blk t).view.emb j = j := funext fun a => Fin.ext (by
  obtain ⟨i0, i1⟩ := at4096 t
  match a with
  | ⟨0, _⟩ => show win0_2.index t 0 * 1 + 1 * (j 0).val = (j 0).val; rw [i0]; omega
  | ⟨1, _⟩ => show win0_2.index t 1 * 4096 + 1 * (j 1).val = (j 1).val; rw [i1]; omega)

theorem cover4096 (i : S1x4096.Idx) : i ∈ ((cfg0.win 2).blk t0_0).view.set := by
  have b0 : (i 0 : Nat) < 1 := (i 0).isLt
  have b1 : (i 1 : Nat) < 4096 := (i 1).isLt
  obtain ⟨i0, i1⟩ := at4096 t0_0
  show i ∈ ((View.whole main_arg6).slice (win0_2.rect t0_0)).set
  rw [View.set_slice_whole, Rect.mem_set_unit]
  intro a
  match a with
  | ⟨0, _⟩ => show win0_2.index t0_0 0 * 1 ≤ (i 0 : Nat) ∧ (i 0 : Nat) < win0_2.index t0_0 0 * 1 + 1; rw [i0]; omega
  | ⟨1, _⟩ => show win0_2.index t0_0 1 * 4096 ≤ (i 1 : Nat) ∧ (i 1 : Nat) < win0_2.index t0_0 1 * 4096 + 4096; rw [i1]; omega

theorem at1920 : ∀ t : Fin cfg0.N, win0_3.index t 0 = 0 ∧ win0_3.index t 1 = 0 := (by decide +kernel : ∀ t : Fin grid0.N, _)

/-- The one block of a row of 1920 is the row. -/
theorem emb1920 (t : Fin cfg0.N) (j : S1x1920.Idx) : ((cfg0.win 3).blk t).view.emb j = j := funext fun a => Fin.ext (by
  obtain ⟨i0, i1⟩ := at1920 t
  match a with
  | ⟨0, _⟩ => show win0_3.index t 0 * 1 + 1 * (j 0).val = (j 0).val; rw [i0]; omega
  | ⟨1, _⟩ => show win0_3.index t 1 * 1920 + 1 * (j 1).val = (j 1).val; rw [i1]; omega)

theorem cover1920 (i : S1x1920.Idx) : i ∈ ((cfg0.win 3).blk t0_0).view.set := by
  have b0 : (i 0 : Nat) < 1 := (i 0).isLt
  have b1 : (i 1 : Nat) < 1920 := (i 1).isLt
  obtain ⟨i0, i1⟩ := at1920 t0_0
  show i ∈ ((View.whole main_arg7).slice (win0_3.rect t0_0)).set
  rw [View.set_slice_whole, Rect.mem_set_unit]
  intro a
  match a with
  | ⟨0, _⟩ => show win0_3.index t0_0 0 * 1 ≤ (i 0 : Nat) ∧ (i 0 : Nat) < win0_3.index t0_0 0 * 1 + 1; rw [i0]; omega
  | ⟨1, _⟩ => show win0_3.index t0_0 1 * 1920 ≤ (i 1 : Nat) ∧ (i 1 : Nat) < win0_3.index t0_0 1 * 1920 + 1920; rw [i1]; omega

/-- The arguments as launched. -/
abbrev a0 (c : Dev nD) : S8x1x2048.Idx → EReal := m ((c : Thread nD τ).loc main_arg0)
abbrev a1 (c : Dev nD) : S8x1x4096.Idx → EReal := m ((c : Thread nD τ).loc main_arg1)
abbrev a2 (c : Dev nD) : S8x1x1920.Idx → EReal := m ((c : Thread nD τ).loc main_arg2)
abbrev a3 (c : Dev nD) : S8x1x2048.Idx → EReal := m ((c : Thread nD τ).loc main_arg3)
abbrev a4 (c : Dev nD) : S8x1x2048.Idx → EReal := m ((c : Thread nD τ).loc main_arg4)
abbrev a5 (c : Dev nD) : S1x2048.Idx → EReal := m ((c : Thread nD τ).loc main_arg5)
abbrev a6 (c : Dev nD) : S1x4096.Idx → EReal := m ((c : Thread nD τ).loc main_arg6)
abbrev a7 (c : Dev nD) : S1x1920.Idx → EReal := m ((c : Thread nD τ).loc main_arg7)
abbrev a8 (c : Dev nD) : S1x2048.Idx → EReal := m ((c : Thread nD τ).loc main_arg8)
abbrev a9 (c : Dev nD) : S1x2048.Idx → EReal := m ((c : Thread nD τ).loc main_arg9)
abbrev a10 (c : Dev nD) : S1x2048.Idx → EReal := m ((c : Thread nD τ).loc main_arg10)
abbrev a11 (c : Dev nD) : S1x4096.Idx → EReal := m ((c : Thread nD τ).loc main_arg11)
abbrev a12 (c : Dev nD) : S1x1920.Idx → EReal := m ((c : Thread nD τ).loc main_arg12)
abbrev a13 (c : Dev nD) : S1x2048.Idx → EReal := m ((c : Thread nD τ).loc main_arg13)
abbrev a14 (c : Dev nD) : S1x2048.Idx → EReal := m ((c : Thread nD τ).loc main_arg14)
abbrev a15 (c : Dev nD) : S1x2048.Idx → EReal := m ((c : Thread nD τ).loc main_arg15)
abbrev a16 (c : Dev nD) : S1x4096.Idx → EReal := m ((c : Thread nD τ).loc main_arg16)
abbrev a17 (c : Dev nD) : S1x1920.Idx → EReal := m ((c : Thread nD τ).loc main_arg17)
abbrev a18 (c : Dev nD) : S1x2048.Idx → EReal := m ((c : Thread nD τ).loc main_arg18)
abbrev a19 (c : Dev nD) : S1x2048.Idx → EReal := m ((c : Thread nD τ).loc main_arg19)

/-- The shares are staged whole. -/
theorem blk0 (c : Dev nD) (t : Fin cfg0.N) : (iblk m c 0 t : Vec Ideal S8x1x12288 .f32) = V m c main_v1 := funext fun j => by
  obtain ⟨i0, i1, i2⟩ := (by decide +kernel : ∀ t : Fin grid0.N, win0_0.index t 0 = 0 ∧ win0_0.index t 1 = 0 ∧ win0_0.index t 2 = 0) t
  unfold iblk; rw [View.read_apply]
  show V m c main_v1 _ = V m c main_v1 j
  congr 1; funext a; apply Fin.ext
  match a with
  | ⟨0, _⟩ => show win0_0.index t 0 * 8 + 1 * (j 0).val = (j 0).val; rw [i0]; omega
  | ⟨1, _⟩ => show win0_0.index t 1 * 1 + 1 * (j 1).val = (j 1).val; rw [i1]; omega
  | ⟨2, _⟩ => show win0_0.index t 2 * 12288 + 1 * (j 2).val = (j 2).val; rw [i2]; omega

theorem blk1 (c : Dev nD) (t : Fin cfg0.N) : (iblk m c 1 t : Vec Ideal S1x2048 .f32) = a5 m c := funext fun j => by
  unfold iblk; rw [View.read_apply]; exact (congrArg (V m c main_arg5) (emb2048 t j)).trans (congrFun (V_main_arg5 m c) j)

theorem blk2 (c : Dev nD) (t : Fin cfg0.N) : (iblk m c 2 t : Vec Ideal S1x4096 .f32) = a6 m c := funext fun j => by
  unfold iblk; rw [View.read_apply]; exact (congrArg (V m c main_arg6) (emb4096 t j)).trans (congrFun (V_main_arg6 m c) j)

theorem blk3 (c : Dev nD) (t : Fin cfg0.N) : (iblk m c 3 t : Vec Ideal S1x1920 .f32) = a7 m c := funext fun j => by
  unfold iblk; rw [View.read_apply]; exact (congrArg (V m c main_arg7) (emb1920 t j)).trans (congrFun (V_main_arg7 m c) j)

theorem blk4 (c : Dev nD) (t : Fin cfg0.N) : (iblk m c 4 t : Vec Ideal S1x2048 .f32) = a8 m c := funext fun j => by
  unfold iblk; rw [View.read_apply]; exact (congrArg (V m c main_arg8) (emb2048 t j)).trans (congrFun (V_main_arg8 m c) j)

theorem blk5 (c : Dev nD) (t : Fin cfg0.N) : (iblk m c 5 t : Vec Ideal S1x2048 .f32) = a9 m c := funext fun j => by
  unfold iblk; rw [View.read_apply]; exact (congrArg (V m c main_arg9) (emb2048 t j)).trans (congrFun (V_main_arg9 m c) j)

theorem blk6 (c : Dev nD) (t : Fin cfg0.N) : (iblk m c 6 t : Vec Ideal S1x2048 .f32) = a10 m c := funext fun j => by
  unfold iblk; rw [View.read_apply]; exact (congrArg (V m c main_arg10) (emb2048 t j)).trans (congrFun (V_main_arg10 m c) j)

theorem blk7 (c : Dev nD) (t : Fin cfg0.N) : (iblk m c 7 t : Vec Ideal S1x4096 .f32) = a11 m c := funext fun j => by
  unfold iblk; rw [View.read_apply]; exact (congrArg (V m c main_arg11) (emb4096 t j)).trans (congrFun (V_main_arg11 m c) j)

theorem blk8 (c : Dev nD) (t : Fin cfg0.N) : (iblk m c 8 t : Vec Ideal S1x1920 .f32) = a12 m c := funext fun j => by
  unfold iblk; rw [View.read_apply]; exact (congrArg (V m c main_arg12) (emb1920 t j)).trans (congrFun (V_main_arg12 m c) j)

theorem blk9 (c : Dev nD) (t : Fin cfg0.N) : (iblk m c 9 t : Vec Ideal S1x2048 .f32) = a13 m c := funext fun j => by
  unfold iblk; rw [View.read_apply]; exact (congrArg (V m c main_arg13) (emb2048 t j)).trans (congrFun (V_main_arg13 m c) j)

theorem blk10 (c : Dev nD) (t : Fin cfg0.N) : (iblk m c 10 t : Vec Ideal S1x2048 .f32) = a14 m c := funext fun j => by
  unfold iblk; rw [View.read_apply]; exact (congrArg (V m c main_arg14) (emb2048 t j)).trans (congrFun (V_main_arg14 m c) j)

theorem blk11 (c : Dev nD) (t : Fin cfg0.N) : (iblk m c 11 t : Vec Ideal S1x2048 .f32) = a15 m c := funext fun j => by
  unfold iblk; rw [View.read_apply]; exact (congrArg (V m c main_arg15) (emb2048 t j)).trans (congrFun (V_main_arg15 m c) j)

theorem blk12 (c : Dev nD) (t : Fin cfg0.N) : (iblk m c 12 t : Vec Ideal S1x4096 .f32) = a16 m c := funext fun j => by
  unfold iblk; rw [View.read_apply]; exact (congrArg (V m c main_arg16) (emb4096 t j)).trans (congrFun (V_main_arg16 m c) j)

theorem blk13 (c : Dev nD) (t : Fin cfg0.N) : (iblk m c 13 t : Vec Ideal S1x1920 .f32) = a17 m c := funext fun j => by
  unfold iblk; rw [View.read_apply]; exact (congrArg (V m c main_arg17) (emb1920 t j)).trans (congrFun (V_main_arg17 m c) j)

theorem blk14 (c : Dev nD) (t : Fin cfg0.N) : (iblk m c 14 t : Vec Ideal S1x2048 .f32) = a18 m c := funext fun j => by
  unfold iblk; rw [View.read_apply]; exact (congrArg (V m c main_arg18) (emb2048 t j)).trans (congrFun (V_main_arg18 m c) j)

theorem blk15 (c : Dev nD) (t : Fin cfg0.N) : (iblk m c 15 t : Vec Ideal S1x2048 .f32) = a19 m c := funext fun j => by
  unfold iblk; rw [View.read_apply]; exact (congrArg (V m c main_arg19) (emb2048 t j)).trans (congrFun (V_main_arg19 m c) j)

/-- The host puts the shares side by side, and fills up with a constant. -/
theorem v1 (c : Dev nD) : V m c main_v1 = concatenate S8x1x12288 2 [⟨S8x1x2048, a0 m c⟩, ⟨S8x1x4096, a1 m c⟩, ⟨S8x1x1920, a2 m c⟩, ⟨S8x1x2048, a3 m c⟩, ⟨S8x1x2048, a4 m c⟩, ⟨S8x1x128, V m c main_v0⟩]
    concatenates_S8x1x2048_S8x1x4096_S8x1x1920_S8x1x2048_S8x1x2048_S8x1x128_S8x1x12288_d2 := by
  show StableHlo.after hostOps0 (fun b => m (c, b)) (Proc.devRef .tc main_v1) = concatenate _ _ [⟨_, a0 m c⟩, ⟨_, a1 m c⟩, ⟨_, a2 m c⟩, ⟨_, a3 m c⟩, ⟨_, a4 m c⟩, ⟨_, StableHlo.after hostOps0 (fun b => m (c, b)) (Proc.devRef .tc main_v0)⟩] _
  after_results_simp
  rfl

theorem part0 (c : Dev nD) : cols 0 2048 (by norm_num) (V m c main_v1) = a0 m c := funext fun i => by
  show V m c main_v1 _ = _
  rw [v1]
  refine concatenate_apply_piece 2 _ _ _ 0 ?_ S8x1x2048 (a0 m c) ?_ ?_ 0 ?_ i (fun q hq => ?_) ?_
  · show 0 < 6; decide
  · rfl
  · rfl
  · rfl
  · match q with
    | ⟨0, _⟩ => rfl
    | ⟨1, _⟩ => exact Nat.lt_one_iff.1 (i 1).isLt
    | ⟨2, _⟩ => exact absurd rfl hq
  · rfl

theorem part1 (c : Dev nD) : cols 2048 4096 (by norm_num) (V m c main_v1) = a1 m c := funext fun i => by
  show V m c main_v1 _ = _
  rw [v1]
  refine concatenate_apply_piece 2 _ _ _ 1 ?_ S8x1x4096 (a1 m c) ?_ ?_ 2048 ?_ i (fun q hq => ?_) ?_
  · show 1 < 6; decide
  · rfl
  · rfl
  · rfl
  · match q with
    | ⟨0, _⟩ => rfl
    | ⟨1, _⟩ => exact Nat.lt_one_iff.1 (i 1).isLt
    | ⟨2, _⟩ => exact absurd rfl hq
  · rfl

theorem part2 (c : Dev nD) : cols 6144 1920 (by norm_num) (V m c main_v1) = a2 m c := funext fun i => by
  show V m c main_v1 _ = _
  rw [v1]
  refine concatenate_apply_piece 2 _ _ _ 2 ?_ S8x1x1920 (a2 m c) ?_ ?_ 6144 ?_ i (fun q hq => ?_) ?_
  · show 2 < 6; decide
  · rfl
  · rfl
  · rfl
  · match q with
    | ⟨0, _⟩ => rfl
    | ⟨1, _⟩ => exact Nat.lt_one_iff.1 (i 1).isLt
    | ⟨2, _⟩ => exact absurd rfl hq
  · rfl

theorem part3 (c : Dev nD) : cols 8064 2048 (by norm_num) (V m c main_v1) = a3 m c := funext fun i => by
  show V m c main_v1 _ = _
  rw [v1]
  refine concatenate_apply_piece 2 _ _ _ 3 ?_ S8x1x2048 (a3 m c) ?_ ?_ 8064 ?_ i (fun q hq => ?_) ?_
  · show 3 < 6; decide
  · rfl
  · rfl
  · rfl
  · match q with
    | ⟨0, _⟩ => rfl
    | ⟨1, _⟩ => exact Nat.lt_one_iff.1 (i 1).isLt
    | ⟨2, _⟩ => exact absurd rfl hq
  · rfl

theorem part4 (c : Dev nD) : cols 10112 2048 (by norm_num) (V m c main_v1) = a4 m c := funext fun i => by
  show V m c main_v1 _ = _
  rw [v1]
  refine concatenate_apply_piece 2 _ _ _ 4 ?_ S8x1x2048 (a4 m c) ?_ ?_ 10112 ?_ i (fun q hq => ?_) ?_
  · show 4 < 6; decide
  · rfl
  · rfl
  · rfl
  · match q with
    | ⟨0, _⟩ => rfl
    | ⟨1, _⟩ => exact Nat.lt_one_iff.1 (i 1).isLt
    | ⟨2, _⟩ => exact absurd rfl hq
  · rfl

/-! What each result is, as a whole array. -/

theorem val16 (c : Dev nD) : (dats m 0 c).arrAt 16 cfg0.N = total (a0 m c) :=
  (dats m 0 c).arrAt_eq_of_cover 16 _ (fun t _ => by
    show (cfg0.win 16).cut (grid0.coords t) ((dats m 0 c).after 16 t) = _
    rw [(after0_16 m c t).trans (out0_16_eq ..), blk0, part0]; funext q; rw [View.read_apply]
    exact (congrArg _ (emb2048 t q)).symm) fun i => ⟨t0_0, flush0_16 _, cover2048 i⟩

theorem val17 (c : Dev nD) : (dats m 0 c).arrAt 17 cfg0.N = deltas (a0 m c) (a5 m c) (a10 m c) (a15 m c) :=
  (dats m 0 c).arrAt_eq_of_cover 17 _ (fun t _ => by
    show (cfg0.win 17).cut (grid0.coords t) ((dats m 0 c).after 17 t) = _
    rw [(after0_17 m c t).trans (out0_17_eq ..), blk0, part0, blk1, blk6, blk11]; funext q; rw [View.read_apply]
    exact (congrArg _ (emb2048 t q)).symm) fun i => ⟨t0_0, flush0_17 _, cover2048 i⟩

theorem val18 (c : Dev nD) : (dats m 0 c).arrAt 18 cfg0.N = moments (a0 m c) (a10 m c) :=
  (dats m 0 c).arrAt_eq_of_cover 18 _ (fun t _ => by
    show (cfg0.win 18).cut (grid0.coords t) ((dats m 0 c).after 18 t) = _
    rw [(after0_18 m c t).trans (out0_18_eq ..), blk0, part0, blk6]; funext q; rw [View.read_apply]
    exact (congrArg _ (emb2048 t q)).symm) fun i => ⟨t0_0, flush0_18 _, cover2048 i⟩

theorem val19 (c : Dev nD) : (dats m 0 c).arrAt 19 cfg0.N = squares (a0 m c) (a15 m c) :=
  (dats m 0 c).arrAt_eq_of_cover 19 _ (fun t _ => by
    show (cfg0.win 19).cut (grid0.coords t) ((dats m 0 c).after 19 t) = _
    rw [(after0_19 m c t).trans (out0_19_eq ..), blk0, part0, blk11]; funext q; rw [View.read_apply]
    exact (congrArg _ (emb2048 t q)).symm) fun i => ⟨t0_0, flush0_19 _, cover2048 i⟩

theorem val20 (c : Dev nD) : (dats m 0 c).arrAt 20 cfg0.N = total (a1 m c) :=
  (dats m 0 c).arrAt_eq_of_cover 20 _ (fun t _ => by
    show (cfg0.win 20).cut (grid0.coords t) ((dats m 0 c).after 20 t) = _
    rw [(after0_20 m c t).trans (out0_20_eq ..), blk0, part1]; funext q; rw [View.read_apply]
    exact (congrArg _ (emb4096 t q)).symm) fun i => ⟨t0_0, flush0_20 _, cover4096 i⟩

theorem val21 (c : Dev nD) : (dats m 0 c).arrAt 21 cfg0.N = deltas (a1 m c) (a6 m c) (a11 m c) (a16 m c) :=
  (dats m 0 c).arrAt_eq_of_cover 21 _ (fun t _ => by
    show (cfg0.win 21).cut (grid0.coords t) ((dats m 0 c).after 21 t) = _
    rw [(after0_21 m c t).trans (out0_21_eq ..), blk0, part1, blk2, blk7, blk12]; funext q; rw [View.read_apply]
    exact (congrArg _ (emb4096 t q)).symm) fun i => ⟨t0_0, flush0_21 _, cover4096 i⟩

theorem val22 (c : Dev nD) : (dats m 0 c).arrAt 22 cfg0.N = moments (a1 m c) (a11 m c) :=
  (dats m 0 c).arrAt_eq_of_cover 22 _ (fun t _ => by
    show (cfg0.win 22).cut (grid0.coords t) ((dats m 0 c).after 22 t) = _
    rw [(after0_22 m c t).trans (out0_22_eq ..), blk0, part1, blk7]; funext q; rw [View.read_apply]
    exact (congrArg _ (emb4096 t q)).symm) fun i => ⟨t0_0, flush0_22 _, cover4096 i⟩

theorem val23 (c : Dev nD) : (dats m 0 c).arrAt 23 cfg0.N = squares (a1 m c) (a16 m c) :=
  (dats m 0 c).arrAt_eq_of_cover 23 _ (fun t _ => by
    show (cfg0.win 23).cut (grid0.coords t) ((dats m 0 c).after 23 t) = _
    rw [(after0_23 m c t).trans (out0_23_eq ..), blk0, part1, blk12]; funext q; rw [View.read_apply]
    exact (congrArg _ (emb4096 t q)).symm) fun i => ⟨t0_0, flush0_23 _, cover4096 i⟩

theorem val24 (c : Dev nD) : (dats m 0 c).arrAt 24 cfg0.N = total (a2 m c) :=
  (dats m 0 c).arrAt_eq_of_cover 24 _ (fun t _ => by
    show (cfg0.win 24).cut (grid0.coords t) ((dats m 0 c).after 24 t) = _
    rw [(after0_24 m c t).trans (out0_24_eq ..), blk0, part2]; funext q; rw [View.read_apply]
    exact (congrArg _ (emb1920 t q)).symm) fun i => ⟨t0_0, flush0_24 _, cover1920 i⟩

theorem val25 (c : Dev nD) : (dats m 0 c).arrAt 25 cfg0.N = deltas (a2 m c) (a7 m c) (a12 m c) (a17 m c) :=
  (dats m 0 c).arrAt_eq_of_cover 25 _ (fun t _ => by
    show (cfg0.win 25).cut (grid0.coords t) ((dats m 0 c).after 25 t) = _
    rw [(after0_25 m c t).trans (out0_25_eq ..), blk0, part2, blk3, blk8, blk13]; funext q; rw [View.read_apply]
    exact (congrArg _ (emb1920 t q)).symm) fun i => ⟨t0_0, flush0_25 _, cover1920 i⟩

theorem val26 (c : Dev nD) : (dats m 0 c).arrAt 26 cfg0.N = moments (a2 m c) (a12 m c) :=
  (dats m 0 c).arrAt_eq_of_cover 26 _ (fun t _ => by
    show (cfg0.win 26).cut (grid0.coords t) ((dats m 0 c).after 26 t) = _
    rw [(after0_26 m c t).trans (out0_26_eq ..), blk0, part2, blk8]; funext q; rw [View.read_apply]
    exact (congrArg _ (emb1920 t q)).symm) fun i => ⟨t0_0, flush0_26 _, cover1920 i⟩

theorem val27 (c : Dev nD) : (dats m 0 c).arrAt 27 cfg0.N = squares (a2 m c) (a17 m c) :=
  (dats m 0 c).arrAt_eq_of_cover 27 _ (fun t _ => by
    show (cfg0.win 27).cut (grid0.coords t) ((dats m 0 c).after 27 t) = _
    rw [(after0_27 m c t).trans (out0_27_eq ..), blk0, part2, blk13]; funext q; rw [View.read_apply]
    exact (congrArg _ (emb1920 t q)).symm) fun i => ⟨t0_0, flush0_27 _, cover1920 i⟩

theorem val28 (c : Dev nD) : (dats m 0 c).arrAt 28 cfg0.N = total (a3 m c) :=
  (dats m 0 c).arrAt_eq_of_cover 28 _ (fun t _ => by
    show (cfg0.win 28).cut (grid0.coords t) ((dats m 0 c).after 28 t) = _
    rw [(after0_28 m c t).trans (out0_28_eq ..), blk0, part3]; funext q; rw [View.read_apply]
    exact (congrArg _ (emb2048 t q)).symm) fun i => ⟨t0_0, flush0_28 _, cover2048 i⟩

theorem val29 (c : Dev nD) : (dats m 0 c).arrAt 29 cfg0.N = deltas (a3 m c) (a8 m c) (a13 m c) (a18 m c) :=
  (dats m 0 c).arrAt_eq_of_cover 29 _ (fun t _ => by
    show (cfg0.win 29).cut (grid0.coords t) ((dats m 0 c).after 29 t) = _
    rw [(after0_29 m c t).trans (out0_29_eq ..), blk0, part3, blk4, blk9, blk14]; funext q; rw [View.read_apply]
    exact (congrArg _ (emb2048 t q)).symm) fun i => ⟨t0_0, flush0_29 _, cover2048 i⟩

theorem val30 (c : Dev nD) : (dats m 0 c).arrAt 30 cfg0.N = moments (a3 m c) (a13 m c) :=
  (dats m 0 c).arrAt_eq_of_cover 30 _ (fun t _ => by
    show (cfg0.win 30).cut (grid0.coords t) ((dats m 0 c).after 30 t) = _
    rw [(after0_30 m c t).trans (out0_30_eq ..), blk0, part3, blk9]; funext q; rw [View.read_apply]
    exact (congrArg _ (emb2048 t q)).symm) fun i => ⟨t0_0, flush0_30 _, cover2048 i⟩

theorem val31 (c : Dev nD) : (dats m 0 c).arrAt 31 cfg0.N = squares (a3 m c) (a18 m c) :=
  (dats m 0 c).arrAt_eq_of_cover 31 _ (fun t _ => by
    show (cfg0.win 31).cut (grid0.coords t) ((dats m 0 c).after 31 t) = _
    rw [(after0_31 m c t).trans (out0_31_eq ..), blk0, part3, blk14]; funext q; rw [View.read_apply]
    exact (congrArg _ (emb2048 t q)).symm) fun i => ⟨t0_0, flush0_31 _, cover2048 i⟩

theorem val32 (c : Dev nD) : (dats m 0 c).arrAt 32 cfg0.N = total (a4 m c) :=
  (dats m 0 c).arrAt_eq_of_cover 32 _ (fun t _ => by
    show (cfg0.win 32).cut (grid0.coords t) ((dats m 0 c).after 32 t) = _
    rw [(after0_32 m c t).trans (out0_32_eq ..), blk0, part4]; funext q; rw [View.read_apply]
    exact (congrArg _ (emb2048 t q)).symm) fun i => ⟨t0_0, flush0_32 _, cover2048 i⟩

theorem val33 (c : Dev nD) : (dats m 0 c).arrAt 33 cfg0.N = deltas (a4 m c) (a9 m c) (a14 m c) (a19 m c) :=
  (dats m 0 c).arrAt_eq_of_cover 33 _ (fun t _ => by
    show (cfg0.win 33).cut (grid0.coords t) ((dats m 0 c).after 33 t) = _
    rw [(after0_33 m c t).trans (out0_33_eq ..), blk0, part4, blk5, blk10, blk15]; funext q; rw [View.read_apply]
    exact (congrArg _ (emb2048 t q)).symm) fun i => ⟨t0_0, flush0_33 _, cover2048 i⟩

theorem val34 (c : Dev nD) : (dats m 0 c).arrAt 34 cfg0.N = moments (a4 m c) (a14 m c) :=
  (dats m 0 c).arrAt_eq_of_cover 34 _ (fun t _ => by
    show (cfg0.win 34).cut (grid0.coords t) ((dats m 0 c).after 34 t) = _
    rw [(after0_34 m c t).trans (out0_34_eq ..), blk0, part4, blk10]; funext q; rw [View.read_apply]
    exact (congrArg _ (emb2048 t q)).symm) fun i => ⟨t0_0, flush0_34 _, cover2048 i⟩

theorem val35 (c : Dev nD) : (dats m 0 c).arrAt 35 cfg0.N = squares (a4 m c) (a19 m c) :=
  (dats m 0 c).arrAt_eq_of_cover 35 _ (fun t _ => by
    show (cfg0.win 35).cut (grid0.coords t) ((dats m 0 c).after 35 t) = _
    rw [(after0_35 m c t).trans (out0_35_eq ..), blk0, part4, blk15]; funext q; rw [View.read_apply]
    exact (congrArg _ (emb2048 t q)).symm) fun i => ⟨t0_0, flush0_35 _, cover2048 i⟩

set_option maxHeartbeats 2000000 in
/-- The run, read: the twenty results as functions of the arguments, and the arguments unchanged. -/
theorem run : θ_run defs (onTc (τ := τ) (main (F := Ideal))) ⟨m, fun _ => 0, ρ⟩ fun r => ∀ c : Dev nD,
      r.2.mem ((c : Thread nD τ).loc main_v2_0) = total (a0 m c)
      ∧ r.2.mem ((c : Thread nD τ).loc main_v2_1) = deltas (a0 m c) (a5 m c) (a10 m c) (a15 m c)
      ∧ r.2.mem ((c : Thread nD τ).loc main_v2_2) = moments (a0 m c) (a10 m c)
      ∧ r.2.mem ((c : Thread nD τ).loc main_v2_3) = squares (a0 m c) (a15 m c)
      ∧ r.2.mem ((c : Thread nD τ).loc main_v2_4) = total (a1 m c)
      ∧ r.2.mem ((c : Thread nD τ).loc main_v2_5) = deltas (a1 m c) (a6 m c) (a11 m c) (a16 m c)
      ∧ r.2.mem ((c : Thread nD τ).loc main_v2_6) = moments (a1 m c) (a11 m c)
      ∧ r.2.mem ((c : Thread nD τ).loc main_v2_7) = squares (a1 m c) (a16 m c)
      ∧ r.2.mem ((c : Thread nD τ).loc main_v2_8) = total (a2 m c)
      ∧ r.2.mem ((c : Thread nD τ).loc main_v2_9) = deltas (a2 m c) (a7 m c) (a12 m c) (a17 m c)
      ∧ r.2.mem ((c : Thread nD τ).loc main_v2_10) = moments (a2 m c) (a12 m c)
      ∧ r.2.mem ((c : Thread nD τ).loc main_v2_11) = squares (a2 m c) (a17 m c)
      ∧ r.2.mem ((c : Thread nD τ).loc main_v2_12) = total (a3 m c)
      ∧ r.2.mem ((c : Thread nD τ).loc main_v2_13) = deltas (a3 m c) (a8 m c) (a13 m c) (a18 m c)
      ∧ r.2.mem ((c : Thread nD τ).loc main_v2_14) = moments (a3 m c) (a13 m c)
      ∧ r.2.mem ((c : Thread nD τ).loc main_v2_15) = squares (a3 m c) (a18 m c)
      ∧ r.2.mem ((c : Thread nD τ).loc main_v2_16) = total (a4 m c)
      ∧ r.2.mem ((c : Thread nD τ).loc main_v2_17) = deltas (a4 m c) (a9 m c) (a14 m c) (a19 m c)
      ∧ r.2.mem ((c : Thread nD τ).loc main_v2_18) = moments (a4 m c) (a14 m c)
      ∧ r.2.mem ((c : Thread nD τ).loc main_v2_19) = squares (a4 m c) (a19 m c)
      ∧ Still m r.2.mem c :=
  (θ_run defs _ _).mono (fun _ h c => ⟨((h.1 c).1 16).trans (val16 m c),
      ((h.1 c).1 17).trans (val17 m c),
      ((h.1 c).1 18).trans (val18 m c),
      ((h.1 c).1 19).trans (val19 m c),
      ((h.1 c).1 20).trans (val20 m c),
      ((h.1 c).1 21).trans (val21 m c),
      ((h.1 c).1 22).trans (val22 m c),
      ((h.1 c).1 23).trans (val23 m c),
      ((h.1 c).1 24).trans (val24 m c),
      ((h.1 c).1 25).trans (val25 m c),
      ((h.1 c).1 26).trans (val26 m c),
      ((h.1 c).1 27).trans (val27 m c),
      ((h.1 c).1 28).trans (val28 m c),
      ((h.1 c).1 29).trans (val29 m c),
      ((h.1 c).1 30).trans (val30 m c),
      ((h.1 c).1 31).trans (val31 m c),
      ((h.1 c).1 32).trans (val32 m c),
      ((h.1 c).1 33).trans (val33 m c),
      ((h.1 c).1 34).trans (val34 m c),
      ((h.1 c).1 35).trans (val35 m c), h.2 c⟩) (θ_run_and (run_main m ρ) (unchanged m ρ))

end Cert.Kernel8Ideal.Small

end
-- ==== Proof.SmallPrinted.lean ====
/-
  The optimiser's call for the small weights as printed and as idealized is the same program, so one run is the frame of both.
-/
module

public import proofs.«01_k».proof.Proof.Gen.Kernel8
public import proofs.«01_k».proof.Proof.SmallFrame

@[expose] public section

set_option maxRecDepth 16384

noncomputable section

namespace Cert.Kernel8.Whole

open Idealize.ShloMosaic Idealize.ShloMosaic.TcCoe Idealize.SL.Sem

variable {F : FTy → Type} [FloatOps F]

set_option maxHeartbeats 4000000 in
/-- The two tables hold the same bodies. -/
theorem bodies_same : Cert.Kernel8.defs₀ (F := F) = Cert.Kernel8Ideal.defs₀ (F := F) := by
  unfold Cert.Kernel8.defs₀ Cert.Kernel8Ideal.defs₀
  refine congrArg Defs.onTc (funext fun a => funext fun x => ?_)
  match a, x with
  | ⟨0, _⟩, (t, s) => rfl
  | ⟨_ + 1, h⟩, _ => exact absurd h (Nat.not_lt.2 (Nat.le_add_left _ _))

set_option maxHeartbeats 4000000 in
/-- … and so do the tables with the regions. -/
theorem tables_same : Cert.Kernel8.defs (F := F) = Cert.Kernel8Ideal.defs (F := F) :=
  congrArg (Pipeline.defs Cert.Kernel8.pcfgs) bodies_same

set_option maxHeartbeats 4000000 in
/-- The two programs are the same on each device. -/
theorem programs_same : Cert.Kernel8.main (F := F) = Cert.Kernel8Ideal.main (F := F) := rfl

set_option maxHeartbeats 8000000 in
/-- The argument arrays of the printed call end as they began, and every counter is at zero. -/
theorem frame (m : (ℓ : Loc nD τ sig) → Buf (Elt F) ℓ) (ρ : Dev nD → PrngReg) :
    θ_run (Cert.Kernel8.defs (F := F)) (onTc (τ := τ) (Cert.Kernel8.main (F := F))) ⟨m, fun _ => 0, ρ⟩
      (fun r => (∀ c : Dev nD, Cert.Kernel8Ideal.Whole.Still (F := F) m r.2.mem c) ∧ r.2.sem = fun _ => 0) := by
  rw [tables_same, programs_same]
  exact Cert.Kernel8Ideal.Whole.frame (F := F) m ρ

end Cert.Kernel8.Whole

end
-- ==== Proof.MixerForwardMath.lean ====
/-
  The mixer's forward products as functions of the arrays (at the ideal values): queries, keys and values, the gates, the
  merged branches, the residual output with its root-mean-square normalisation, and the output weight's gradient.
-/
module

public import proofs.«01_k».proof.Proof.Shards

@[expose] public section

noncomputable section

namespace Cert.Mixer

open Cert.Products
open Idealize.ShloMosaic hiding ix1 ix2 ix3 eq_ix1 eq_ix2 eq_ix3
open Idealize.ShloMosaic.ValueIdx

/-- The left and the right half of a row of the gates. -/
abbrev lo (e : Fin 2048) : Fin 4096 := ⟨e.val, by have := e.isLt; omega⟩
abbrev hi (e : Fin 2048) : Fin 4096 := ⟨2048 + e.val, by have := e.isLt; omega⟩

/-- The inverse root of a row's mean square, the small constant added; the constants as the programs spell them. -/
def invNorm (row : Fin 2048 → EReal) : EReal :=
  Ideal.rsqrt (Ideal.div (∑ e : Fin 2048, row e * row e) (Ideal.ofBits .f32 0x45000000#32) + Ideal.ofBits .f32 0x358637BD#32)

variable (X H : (⟨2, ![4096, 2048]⟩ : Shape).Idx → EReal) (Ya Yb : (⟨2, ![4096, 512]⟩ : Shape).Idx → EReal)
  (Wq : (⟨2, ![2048, 6144]⟩ : Shape).Idx → EReal) (Wg : (⟨2, ![2048, 4096]⟩ : Shape).Idx → EReal) (B : (⟨2, ![1, 4096]⟩ : Shape).Idx → EReal)
  (Wa Wb : (⟨2, ![512, 2048]⟩ : Shape).Idx → EReal) (Wo : (⟨2, ![2048, 2048]⟩ : Shape).Idx → EReal)
  (N : (⟨2, ![1, 2048]⟩ : Shape).Idx → EReal) (D : (⟨2, ![4096, 2048]⟩ : Shape).Idx → EReal)

/-- Queries, keys and values side by side. -/
def qkv : (⟨2, ![4096, 6144]⟩ : Shape).Idx → EReal := table fun r e => rowCol H Wq r e

/-- The gates. -/
def gates : (⟨2, ![4096, 4096]⟩ : Shape).Idx → EReal := table fun r e => Ideal.logistic (rowCol H Wg r e + B (ix2 0 e))

/-- The two projected branches, each times its half of some gates. -/
def mergeWith (Z : (⟨2, ![4096, 4096]⟩ : Shape).Idx → EReal) : (⟨2, ![4096, 2048]⟩ : Shape).Idx → EReal :=
  table fun r e => Z (ix2 r (lo e)) * rowCol Ya Wa r e + Z (ix2 r (hi e)) * rowCol Yb Wb r e

/-- The same from the branches' weights in shards. -/
def mergeShards (Va Vb : (⟨3, ![8, 512, 256]⟩ : Shape).Idx → EReal) (Z : (⟨2, ![4096, 4096]⟩ : Shape).Idx → EReal) :
    (⟨2, ![4096, 2048]⟩ : Shape).Idx → EReal :=
  table fun r e =>
    Z (ix2 r (lo e)) * shardCol (b := 8) (n := 256) (M := 2048) (by norm_num) Ya Va r ⟨e.val / 256, by have := e.isLt; omega⟩ ⟨e.val % 256, by omega⟩
      + Z (ix2 r (hi e)) * shardCol (b := 8) (n := 256) (M := 2048) (by norm_num) Yb Vb r ⟨e.val / 256, by have := e.isLt; omega⟩ ⟨e.val % 256, by omega⟩

theorem mergeShards_of (h : 8 * 256 = 2048) (Z : (⟨2, ![4096, 4096]⟩ : Shape).Idx → EReal) :
    mergeShards Ya Yb (shardsOf h Wa) (shardsOf h Wb) Z = mergeWith Ya Yb Wa Wb Z := funext fun i => by
  obtain ⟨r, e, rfl⟩ := any2 4096 2048 i
  have he : shCol h (⟨e.val / 256, by have := e.isLt; omega⟩ : Fin 8) (⟨e.val % 256, by omega⟩ : Fin 256) = e :=
    Fin.ext (by show 256 * (e.val / 256) + e.val % 256 = e.val; omega)
  exact congrArg₂ (fun a b : EReal => a + b)
    (congrArg (fun z : EReal => Z (ix2 r (lo e)) * z) ((shardCol_of h Ya Wa r _ _).trans (congrArg (rowCol Ya Wa r) he)))
    (congrArg (fun z : EReal => Z (ix2 r (hi e)) * z) ((shardCol_of h Yb Wb r _ _).trans (congrArg (rowCol Yb Wb r) he)))

/-- The mixer's merged branches. -/
def merged : (⟨2, ![4096, 2048]⟩ : Shape).Idx → EReal := mergeWith Ya Yb Wa Wb (gates H Wg B)

/-- The residual stream with a further product added, the inverse root of its rows' mean squares, and the rows normalised. -/
def stream (Z : (⟨2, ![4096, 2048]⟩ : Shape).Idx → EReal) : (⟨2, ![4096, 2048]⟩ : Shape).Idx → EReal :=
  table fun r e => X (ix2 r e) + rowCol Z Wo r e
def rowNorm (Z : (⟨2, ![4096, 2048]⟩ : Shape).Idx → EReal) (r : Fin 4096) : EReal := invNorm fun e => stream X Wo Z (ix2 r e)
def normed (Z : (⟨2, ![4096, 2048]⟩ : Shape).Idx → EReal) : (⟨2, ![4096, 2048]⟩ : Shape).Idx → EReal :=
  table fun r e => stream X Wo Z (ix2 r e) * rowNorm X Wo Z r * N (ix2 0 e)

/-- The mixer's output, its rows' norms, the next block's input, and the output weight's gradient. -/
def x2 : (⟨2, ![4096, 2048]⟩ : Shape).Idx → EReal := stream X Wo (merged H Ya Yb Wg B Wa Wb)
def h2 : (⟨2, ![4096, 2048]⟩ : Shape).Idx → EReal := normed X Wo N (merged H Ya Yb Wg B Wa Wb)
def r2 : (⟨2, ![4096, 1]⟩ : Shape).Idx → EReal := fun i => rowNorm X Wo (merged H Ya Yb Wg B Wa Wb) (i 0)
def dwo : (⟨2, ![2048, 2048]⟩ : Shape).Idx → EReal := table fun r e => colCol (merged H Ya Yb Wg B Wa Wb) D r e

end Cert.Mixer

end
-- ==== Proof.LossBlock.lean ====
/-
  The loss head's call at one grid point: what its body leaves in the loss block's and the weight gradient's staging
  buffers (at the ideal values), for the first block of rows and for the later ones.
-/
module

public import proofs.«01_k».proof.Proof.Gen.Kernel9Ideal.Frame
public import proofs.«01_k».proof.Proof.MixerForwardMath
public import Idealize.ShloMosaic.Lib.ValueLayout
public import Idealize.ShloMosaic.Lib.Pipeline.Value
public import Idealize.ShloMosaic.Lib.Pipeline.ValueKit.Tiles
public import Idealize.ShloMosaic.Lib.Pointwise.Reduce
public import Idealize.ShloMosaic.Lib.Tactic

@[expose] public section

set_option maxRecDepth 16384

noncomputable section

namespace Cert.Loss

open Cert.Products Cert.Mixer
open Idealize.ShloMosaic hiding ix1 ix2 ix3 eq_ix1 eq_ix2 eq_ix3
open Idealize.ShloMosaic.ValueIdx

variable {n : ℕ} (x : (⟨2, ![n, 2048]⟩ : Shape).Idx → EReal) (g : (⟨2, ![1, 2048]⟩ : Shape).Idx → EReal) (t : (⟨2, ![n, 2048]⟩ : Shape).Idx → EReal)

/-- A row's element times the inverse root of the row's mean square. -/
def unit (r : Fin n) (e : Fin 2048) : EReal := x (ix2 r e) * invNorm fun k => x (ix2 r k)

/-- How far the normalised, weighted row is from the target. -/
def gap (r : Fin n) (e : Fin 2048) : EReal := unit x r e * g (ix2 0 e) - t (ix2 r e)

/-- The mean square of a row's gaps. -/
def rowLoss (r : Fin n) : EReal := Ideal.div (∑ e : Fin 2048, gap x g t r e * gap x g t r e) (Ideal.ofBits .f32 0x45000000#32)

/-- An element's part of the weight's gradient. -/
def weightPart (r : Fin n) (e : Fin 2048) : EReal := gap x g t r e * Ideal.ofBits .f32 0x3A000000#32 * unit x r e

end Cert.Loss

namespace Cert.Kernel9Ideal.Loss

open Cert.Kernel9Ideal Cert.Kernel9Ideal.Gen Cert.Loss Cert.Mixer Cert.Products Idealize.ShloMosaic.TcCoe Idealize.SL.Sem
open Idealize.ShloMosaic hiding ix1 ix2 ix3 eq_ix1 eq_ix2 eq_ix3
open Idealize.ShloMosaic.ValueIdx

theorem hz2 : (![0, 0] : Fin 2 → Nat) = fun _ => 0 := funext fun a => by fin_cases a <;> rfl

/-- A column of row values, as the sums along the rows leave it. -/
theorem column (v : (⟨1, ![512]⟩ : Shape).Idx → EReal) (h : (⟨1, ![512]⟩ : Shape).ShapeCasts ⟨2, ![512, 1]⟩) (r : Fin 512) :
    shapeCast ⟨2, ![512, 1]⟩ v h (ix2 r 0) = v (ix1 r) :=
  shapeCast_apply _ _ _ (ix1 r) (by
    rw [Shape.rowMajor_val_one, Shape.rowMajor_val_two]
    show r.val = r.val * 1 + 0; omega)

/-- The sum of a block's row, kept as a column. -/
theorem rowSum (v : FVec Ideal S512x2048 .f32) (r : Fin 512) :
    shapeCast S512x1 (multiReduction .add [1] S512 v 0x00000000#32 reduces_S512x2048_S512 (.inl rfl) rfl) shapeCasts_S512_S512x1 (ix2 r 0) = ∑ e : Fin 2048, v (ix2 r e) := by
  refine (column _ _ r).trans ?_
  show Ideal.reduceAdd _ v (ix1 r) = _
  rw [Ideal.reduceAdd_r2_a1]; rfl

variable (x : Vec Ideal S512x2048 .f32) (g : Vec Ideal S1x2048 .f32) (t : Vec Ideal S512x2048 .f32)

theorem pay6_apply (r : Fin 512) : k0_pay6 (F := Ideal) x (ix2 r 0) = invNorm fun k => x (ix2 r k) :=
  congrArg Ideal.rsqrt (congrArg₂ (fun a b : EReal => a + b) (congrArg₂ Ideal.div (rowSum _ r) rfl) rfl)

theorem pay7_apply (r : Fin 512) (e : Fin 2048) : k0_pay7 (F := Ideal) x (ix2 r e) = unit x r e :=
  congrArg (fun a : EReal => x (ix2 r e) * a)
    ((broadcastTo_apply _ _ _ (ix2 r 0) (fun b => by match b with | ⟨0, _⟩ => rfl | ⟨1, _⟩ => rfl)).trans (pay6_apply x r))

theorem pay8_apply (r : Fin 512) (e : Fin 2048) : k0_pay8 (F := Ideal) x g t (ix2 r e) = gap x g t r e :=
  congrArg₂ (fun a b : EReal => a * b - t (ix2 r e)) (pay7_apply x r e) (broadcastTo_1b_ab_apply g _ r e)

theorem pay10_apply (r : Fin 512) (e : Fin 2048) : k0_pay10 (F := Ideal) x g t (ix2 r e) = gap x g t r e * Ideal.ofBits .f32 0x3A000000#32 :=
  congrArg (fun a : EReal => a * Ideal.ofBits .f32 0x3A000000#32) (pay8_apply x g t r e)

/-- A block's share of the loss. -/
theorem pay9_eq : k0_pay9 (F := Ideal) x g t = Ideal.ofBits .f32 0x3F000000#32 * ∑ r : Fin 512, rowLoss x g t r := by
  unfold k0_pay9
  refine congrArg (fun a : EReal => Ideal.ofBits .f32 0x3F000000#32 * a) ?_
  rw [extractAt_eq]
  refine (shapeCast_apply _ _ _ (ix1 0) (by rw [Shape.rowMajor_val_one, Shape.rowMajor_val_three]; rfl)).trans ?_
  show Ideal.reduceAdd _ _ (ix1 0) = _
  rw [Ideal.reduceAdd_r3_a12]
  refine Finset.sum_congr rfl fun r _ => ?_
  rw [Fin.sum_univ_one]
  refine (shapeCast_apply _ _ _ (ix2 r 0) (by
    rw [Shape.rowMajor_val_two, Shape.rowMajor_val_three]
    show r.val * 1 + 0 = (0 * 512 + r.val) * 1 + 0; omega)).trans ?_
  refine congrArg₂ Ideal.div ((rowSum _ r).trans ?_) rfl
  exact Finset.sum_congr rfl fun e _ => congrArg₂ (fun a b : EReal => a * b) (pay8_apply x g t r e) (pay8_apply x g t r e)

/-- A block's share of the weight's gradient. -/
theorem pay2_apply (e : Fin 2048) : k0_pay2 (F := Ideal) (k0_pay7 x) (k0_pay10 x g t) (ix2 0 e) = ∑ r : Fin 512, weightPart x g t r e := by
  unfold k0_pay2
  refine (shapeCast_apply _ _ _ (ix1 e) (by
    rw [Shape.rowMajor_val_one, Shape.rowMajor_val_two]
    show e.val = 0 * 2048 + e.val; omega)).trans ?_
  show Ideal.reduceAdd _ _ (ix1 e) = _
  rw [Ideal.reduceAdd_r2_a0]
  exact Finset.sum_congr rfl fun r _ => congrArg₂ (fun a b : EReal => a * b) (pay10_apply x g t r e) (pay7_apply x r e)

variable (m : (ℓ : Loc nD τ sig) → Buf (Elt Ideal) ℓ) (c : Dev nD) (p : Fin cfg0.N)

/-- The first block of rows starts the loss and the weight's gradient … -/
theorem first3 (h0 : p.val % 8 = 0) (h1 : ¬1 ≤ p.val) (j : S8x128.Idx) : (outsAt0 m c p.val p.isLt).1 j
    = Ideal.ofBits .f32 0x3F000000#32 * ∑ r : Fin 512, rowLoss (iblk m c 0 p) (iblk m c 1 p) (iblk m c 2 p) r := by
  rw [outsAt0_A m c p h0 h1]; dsimp only; unfold out0_A_3
  rw [View.read_writes_eq_canon _ _ _ (cover0_A_3 c _ _ _ _ _ _ _ _ _ _ _ _ _ _ _ _ _ _ _ _)]
  unfold kernelRun0_A
  dsimp only
  sl_unfold_words
  rw [View.canon_unit_zero hz2]
  simp only [View.readAt_eq_ld, (hs0_0 p).read_unread, (hs0_1 p).read_unread, (hs0_2 p).read_unread, View.ld_unit_zero (S := S512x2048) hz2, View.ld_unit_zero (S := S1x2048) hz2]
  refine (congrArg₂ (fun a b : EReal => a + b) zero_word (pay9_eq _ _ _)).trans (zero_add _)

theorem first6 (h0 : p.val % 8 = 0) (h1 : ¬1 ≤ p.val) (e : Fin 2048) : (outsAt0 m c p.val p.isLt).2.2.2 (ix2 0 e)
    = ∑ r : Fin 512, weightPart (iblk m c 0 p) (iblk m c 1 p) (iblk m c 2 p) r e := by
  rw [outsAt0_A m c p h0 h1]; dsimp only; unfold out0_A_6
  rw [View.read_writes_eq_canon _ _ _ (cover0_A_6 c _ _ _ _ _ _ _ _ _ _ _ _ _ _ _ _ _ _ _ _)]
  unfold kernelRun0_A
  dsimp only
  sl_unfold_words
  rw [View.canon_unit_zero hz2]
  simp only [View.readAt_eq_ld, (hs0_0 p).read_unread, (hs0_1 p).read_unread, (hs0_2 p).read_unread, View.ld_unit_zero (S := S512x2048) hz2, View.ld_unit_zero (S := S1x2048) hz2]
  exact pay2_apply _ _ _ e

/-- … and a later block adds its share. -/
theorem later3 (h0 : ¬p.val % 8 = 0) (h1 : 1 ≤ p.val) (j : S8x128.Idx) : (outsAt0 m c p.val p.isLt).1 j
    = (outsAt0 m c (p.val - 1) (Nat.lt_of_le_of_lt (Nat.sub_le _ _) p.isLt)).1 j
      + Ideal.ofBits .f32 0x3F000000#32 * ∑ r : Fin 512, rowLoss (iblk m c 0 p) (iblk m c 1 p) (iblk m c 2 p) r := by
  rw [outsAt0_B m c p h0 h1]; dsimp only; unfold out0_B_3
  rw [View.read_writes_eq_canon _ _ _ (cover0_B_3 c _ _ _ _ _ _ _ _ _ _ _ _ _ _ _ _ _ _ _ _ _ _)]
  unfold kernelRun0_B
  dsimp only
  sl_unfold_words
  rw [View.canon_unit_zero hz2]
  simp only [View.readAt_eq_ld, (hs0_0 p).read_unread, (hs0_1 p).read_unread, (hs0_2 p).read_unread, (hs0_3 p).read_unread, View.ld_unit_zero (S := S512x2048) hz2, View.ld_unit_zero (S := S1x2048) hz2, View.ld_unit_zero (S := S8x128) hz2]
  unfold k0_pay4
  rw [shapeCast_self]
  exact congrArg (fun a : EReal => _ + a) (pay9_eq _ _ _)

theorem later6 (h0 : ¬p.val % 8 = 0) (h1 : 1 ≤ p.val) (e : Fin 2048) : (outsAt0 m c p.val p.isLt).2.2.2 (ix2 0 e)
    = (outsAt0 m c (p.val - 1) (Nat.lt_of_le_of_lt (Nat.sub_le _ _) p.isLt)).2.2.2 (ix2 0 e)
      + ∑ r : Fin 512, weightPart (iblk m c 0 p) (iblk m c 1 p) (iblk m c 2 p) r e := by
  rw [outsAt0_B m c p h0 h1]; dsimp only; unfold out0_B_6
  rw [View.read_writes_eq_canon _ _ _ (cover0_B_6 c _ _ _ _ _ _ _ _ _ _ _ _ _ _ _ _ _ _ _ _ _ _)]
  unfold kernelRun0_B
  dsimp only
  sl_unfold_words
  rw [View.canon_unit_zero hz2]
  simp only [View.readAt_eq_ld, (hs0_0 p).read_unread, (hs0_1 p).read_unread, (hs0_2 p).read_unread, (hs0_6 p).read_unread, View.ld_unit_zero (S := S512x2048) hz2, View.ld_unit_zero (S := S1x2048) hz2]
  unfold k0_pay5
  rw [shapeCast_self]
  exact congrArg (fun a : EReal => _ + a) (pay2_apply _ _ _ e)

end Cert.Kernel9Ideal.Loss

end
-- ==== Proof.LossRun.lean ====
/-
  The loss head's call as a whole (at the ideal values): the loss and the weight's gradient, summed block by block over
  the grid's points, and what the lines after the call make of them.
-/
module

public import proofs.«01_k».proof.Proof.LossBlock

@[expose] public section

set_option maxRecDepth 16384

noncomputable section

namespace Cert.Kernel9Ideal.Loss

open Cert.Kernel9Ideal Cert.Kernel9Ideal.Gen Cert.Loss Cert.Mixer Cert.Products Idealize.ShloMosaic.TcCoe Idealize.SL.Sem
open Idealize.ShloMosaic hiding ix1 ix2 ix3 eq_ix1 eq_ix2 eq_ix3
open Idealize.ShloMosaic.ValueIdx

variable (m : (ℓ : Loc nD τ sig) → Buf (Elt Ideal) ℓ) (ρ : Dev nD → PrngReg) (c : Dev nD)

/-- The arrays the call reads: the activations, the weight and the target. -/
abbrev X : S4096x2048.Idx → EReal := m ((c.tc : Thread nD τ).loc main_arg0)
abbrev G : S1x2048.Idx → EReal := m ((c.tc : Thread nD τ).loc main_arg1)
abbrev T : S4096x2048.Idx → EReal := m ((c.tc : Thread nD τ).loc main_arg2)

/-- Where the windows of the results' functions stand at each point. -/
theorem idx : ∀ p : Fin cfg0.N, (win0_0.index p 0 = p.val ∧ win0_0.index p 1 = 0) ∧ (win0_1.index p 0 = 0 ∧ win0_1.index p 1 = 0)
    ∧ (win0_2.index p 0 = p.val ∧ win0_2.index p 1 = 0) ∧ (win0_3.index p 0 = 0 ∧ win0_3.index p 1 = 0) ∧ (win0_6.index p 0 = 0 ∧ win0_6.index p 1 = 0) :=
  (by decide +kernel : ∀ p : Fin grid0.N, _)

theorem lt8 (p : Fin cfg0.N) : p.val < 8 := lt_of_lt_of_eq p.isLt N_0

/-- Row `r` of the `n`th block of rows. -/
abbrev row (n : ℕ) (h : n < 8) (r : Fin 512) : Fin 4096 := ⟨512 * n + r.val, by omega⟩

theorem blk0 (p : Fin cfg0.N) (r : Fin 512) (k : Fin 2048) : (iblk m c 0 p : Vec Ideal S512x2048 .f32) (ix2 r k) = X m c (ix2 (row p.val (lt8 p) r) k) := by
  obtain ⟨⟨h0, h1⟩, -⟩ := idx p
  unfold iblk; rw [View.read_apply]
  refine Eq.trans ?_ (congrFun (V_main_arg0 m c) _)
  show V m c main_arg0 _ = V m c main_arg0 _
  congr 1; funext a; apply Fin.ext
  match a with
  | ⟨0, _⟩ => show win0_0.index p 0 * 512 + 1 * r.val = 512 * p.val + r.val; rw [h0]; omega
  | ⟨1, _⟩ => show win0_0.index p 1 * 2048 + 1 * k.val = k.val; rw [h1]; omega

theorem blk1 (p : Fin cfg0.N) (k : Fin 2048) : (iblk m c 1 p : Vec Ideal S1x2048 .f32) (ix2 0 k) = G m c (ix2 0 k) := by
  obtain ⟨-, ⟨h0, h1⟩, -⟩ := idx p
  unfold iblk; rw [View.read_apply]
  refine Eq.trans ?_ (congrFun (V_main_arg1 m c) _)
  show V m c main_arg1 _ = V m c main_arg1 _
  congr 1; funext a; apply Fin.ext
  match a with
  | ⟨0, _⟩ => show win0_1.index p 0 * 1 + 1 * 0 = 0; rw [h0]
  | ⟨1, _⟩ => show win0_1.index p 1 * 2048 + 1 * k.val = k.val; rw [h1]; omega

theorem blk2 (p : Fin cfg0.N) (r : Fin 512) (k : Fin 2048) : (iblk m c 2 p : Vec Ideal S512x2048 .f32) (ix2 r k) = T m c (ix2 (row p.val (lt8 p) r) k) := by
  obtain ⟨-, -, ⟨h0, h1⟩, -⟩ := idx p
  unfold iblk; rw [View.read_apply]
  refine Eq.trans ?_ (congrFun (V_main_arg2 m c) _)
  show V m c main_arg2 _ = V m c main_arg2 _
  congr 1; funext a; apply Fin.ext
  match a with
  | ⟨0, _⟩ => show win0_2.index p 0 * 512 + 1 * r.val = 512 * p.val + r.val; rw [h0]; omega
  | ⟨1, _⟩ => show win0_2.index p 1 * 2048 + 1 * k.val = k.val; rw [h1]; omega

/-- A block's elements are the array's at the block's place. -/
theorem unit_at (p : Fin cfg0.N) (r : Fin 512) (e : Fin 2048) : unit (iblk m c 0 p : Vec Ideal S512x2048 .f32) r e = unit (X m c) (row p.val (lt8 p) r) e := by
  unfold unit
  exact congrArg₂ (fun a b : EReal => a * b) (blk0 m c p r e) (congrArg invNorm (funext fun k => blk0 m c p r k))

theorem gap_at (p : Fin cfg0.N) (r : Fin 512) (e : Fin 2048) :
    gap (iblk m c 0 p : Vec Ideal S512x2048 .f32) (iblk m c 1 p : Vec Ideal S1x2048 .f32) (iblk m c 2 p : Vec Ideal S512x2048 .f32) r e
      = gap (X m c) (G m c) (T m c) (row p.val (lt8 p) r) e :=
  congrArg₂ (fun a b : EReal => a - b) (congrArg₂ (fun a b : EReal => a * b) (unit_at m c p r e) (blk1 m c p e)) (blk2 m c p r e)

/-- The loss of the `n`th block of rows, and its part of the weight's gradient. -/
def lossAt (n : ℕ) (h : n < 8) : EReal := Ideal.ofBits .f32 0x3F000000#32 * ∑ r : Fin 512, rowLoss (X m c) (G m c) (T m c) (row n h r)
def gradAt (e : Fin 2048) (n : ℕ) (h : n < 8) : EReal := ∑ r : Fin 512, weightPart (X m c) (G m c) (T m c) (row n h r) e

theorem loss_at (p : Fin cfg0.N) : Ideal.ofBits .f32 0x3F000000#32 * ∑ r : Fin 512, rowLoss (iblk m c 0 p) (iblk m c 1 p) (iblk m c 2 p) r = lossAt m c p.val (lt8 p) :=
  congrArg (fun a : EReal => Ideal.ofBits .f32 0x3F000000#32 * a) (Finset.sum_congr rfl fun r _ => congrArg₂ Ideal.div
    (Finset.sum_congr rfl fun e _ => congrArg₂ (fun a b : EReal => a * b) (gap_at m c p r e) (gap_at m c p r e)) rfl)

theorem grad_at (p : Fin cfg0.N) (e : Fin 2048) : ∑ r : Fin 512, weightPart (iblk m c 0 p) (iblk m c 1 p) (iblk m c 2 p) r e = gradAt m c e p.val (lt8 p) :=
  Finset.sum_congr rfl fun r _ => congrArg₂ (fun a b : EReal => a * _ * b) (gap_at m c p r e) (unit_at m c p r e)

/-- After point `n` the buffers hold the sums over the blocks so far. -/
theorem upTo3 (j : S8x128.Idx) : ∀ (n : ℕ) (h : n < cfg0.N), (outsAt0 m c n h).1 j
      = ∑ s : Fin (n + 1), lossAt m c s.val (by have := lt8 ⟨n, h⟩; have := s.isLt; dsimp only at *; omega)
  | 0, h => (first3 m c ⟨0, h⟩ rfl (Nat.not_succ_le_zero 0) j).trans ((loss_at m c ⟨0, h⟩).trans (Fin.sum_univ_one fun s : Fin 1 => lossAt m c s.val (by omega)).symm)
  | n + 1, h => by
    have h8 := lt8 ⟨n + 1, h⟩
    refine (later3 m c ⟨n + 1, h⟩ (by dsimp only at *; omega) (by dsimp only; omega) j).trans ?_
    exact (congrArg₂ (fun a b : EReal => a + b) (upTo3 j n (by omega)) (loss_at m c ⟨n + 1, h⟩)).trans (Fin.sum_univ_castSucc fun s : Fin (n + 1 + 1) => lossAt m c s.val (by have := s.isLt; dsimp only at *; omega)).symm

theorem upTo6 (e : Fin 2048) : ∀ (n : ℕ) (h : n < cfg0.N), (outsAt0 m c n h).2.2.2 (ix2 0 e)
      = ∑ s : Fin (n + 1), gradAt m c e s.val (by have := lt8 ⟨n, h⟩; have := s.isLt; dsimp only at *; omega)
  | 0, h => (first6 m c ⟨0, h⟩ rfl (Nat.not_succ_le_zero 0) e).trans ((grad_at m c ⟨0, h⟩ e).trans (Fin.sum_univ_one fun s : Fin 1 => gradAt m c e s.val (by omega)).symm)
  | n + 1, h => by
    have h8 := lt8 ⟨n + 1, h⟩
    refine (later6 m c ⟨n + 1, h⟩ (by dsimp only at *; omega) (by dsimp only; omega) e).trans ?_
    exact (congrArg₂ (fun a b : EReal => a + b) (upTo6 e n (by omega)) (grad_at m c ⟨n + 1, h⟩ e)).trans (Fin.sum_univ_castSucc fun s : Fin (n + 1 + 1) => gradAt m c e s.val (by have := s.isLt; dsimp only at *; omega)).symm

/-- The two arrays the call leaves, the loss in every place of its block and the weight's gradient; and the loss. -/
def R3 : S8x128.Idx → EReal := fun _ => ∑ s : Fin 8, lossAt m c s.val s.isLt
def R2 : S_.Idx → EReal := fun _ => ∑ s : Fin 8, lossAt m c s.val s.isLt
def R6 : S1x2048.Idx → EReal := fun i => ∑ r : Fin 4096, weightPart (X m c) (G m c) (T m c) r (i 1)

theorem arr3 : (dats m 0 c).arrAt 3 cfg0.N = R3 m c := by
  refine (dats m 0 c).arrAt_eq_of_cover 3 (R3 m c) (fun p hf => ?_) fun i => ?_
  · have hp := (flush0_3 p).mp hf
    have h8 := lt8 p
    obtain ⟨n, hn⟩ := p
    obtain rfl : n = 7 := by dsimp only at *; omega
    show (cfg0.win 3).cut _ ((dats m 0 c).after 3 _) = _
    rw [after0_3]
    funext j
    rw [View.read_apply]
    exact upTo3 m c _ 7 hn
  · have hN : cfg0.N = 8 := N_0
    refine ⟨⟨7, by omega⟩, (flush0_3 _).mpr rfl, ?_⟩
    generalize (⟨7, _⟩ : Fin cfg0.N) = p
    obtain ⟨-, -, -, ⟨h0, h1⟩, -⟩ := idx p
    show i ∈ ((View.whole main_v0_0).slice (win0_3.rect p)).set
    rw [View.set_slice_whole, Rect.mem_set_unit]
    intro a
    match a with
    | ⟨0, _⟩ => show win0_3.index p 0 * 8 ≤ (i 0 : Nat) ∧ (i 0 : Nat) < win0_3.index p 0 * 8 + 8
                rw [h0]; have : (i 0 : Nat) < 8 := (i 0).isLt; omega
    | ⟨1, _⟩ => show win0_3.index p 1 * 128 ≤ (i 1 : Nat) ∧ (i 1 : Nat) < win0_3.index p 1 * 128 + 128
                rw [h1]; have : (i 1 : Nat) < 128 := (i 1).isLt; omega

theorem arr6 : (dats m 0 c).arrAt 6 cfg0.N = R6 m c := by
  refine (dats m 0 c).arrAt_eq_of_cover 6 (R6 m c) (fun p hf => ?_) fun i => ?_
  · have hp := (flush0_6 p).mp hf
    have h8 := lt8 p
    obtain ⟨-, -, -, -, ⟨h0, h1⟩⟩ := idx p
    obtain ⟨n, hn⟩ := p
    obtain rfl : n = 7 := by dsimp only at *; omega
    show (cfg0.win 6).cut _ ((dats m 0 c).after 6 _) = _
    rw [after0_6]
    funext j
    obtain ⟨s, e, rfl⟩ := any2 1 2048 j
    obtain rfl : s = 0 := Subsingleton.elim _ _
    rw [View.read_apply]
    refine (upTo6 m c e 7 hn).trans ?_
    have ei : ((cfg0.win 6).blk ⟨7, hn⟩).view.emb (ix2 0 e) 1 = e := Fin.ext (by
      show win0_6.index ⟨7, hn⟩ 1 * 2048 + 1 * e.val = e.val; rw [h1]; omega)
    refine Eq.trans ?_ (congrArg (fun q => ∑ r : Fin 4096, weightPart (X m c) (G m c) (T m c) r q) ei.symm)
    exact (sum_runs (b := 8) (n := 512) rfl fun r : Fin 4096 => weightPart (X m c) (G m c) (T m c) r e).symm
  · have hN : cfg0.N = 8 := N_0
    refine ⟨⟨7, by omega⟩, (flush0_6 _).mpr rfl, ?_⟩
    generalize (⟨7, _⟩ : Fin cfg0.N) = p
    obtain ⟨-, -, -, -, ⟨h0, h1⟩⟩ := idx p
    show i ∈ ((View.whole main_v0_3).slice (win0_6.rect p)).set
    rw [View.set_slice_whole, Rect.mem_set_unit]
    intro a
    match a with
    | ⟨0, _⟩ => show win0_6.index p 0 * 1 ≤ (i 0 : Nat) ∧ (i 0 : Nat) < win0_6.index p 0 * 1 + 1
                rw [h0]; have : (i 0 : Nat) < 1 := (i 0).isLt; omega
    | ⟨1, _⟩ => show win0_6.index p 1 * 2048 ≤ (i 1 : Nat) ∧ (i 1 : Nat) < win0_6.index p 1 * 2048 + 2048
                rw [h1]; have : (i 1 : Nat) < 2048 := (i 1).isLt; omega

/-- The lines after the call take one element of the loss's block. -/
theorem tail : Pipeline.afterTail₀ cfgs (dats m) 0 (V0 m) [hostOps1] c main_v2 = R2 m c := by
  have hA : Pipeline.withArrays spec0 c (V0 m c) (fun w => (dats m 0 c).arrAt w cfg0.N) (Proc.devRef .tc main_v0_0) = R3 m c :=
    (Pipeline.withArrays_arr spec0 launch0.win.arr_inj c (V0 m c) _ 3).trans (arr3 m c)
  show StableHlo.after hostOps1 (Pipeline.withArrays spec0 c (V0 m c) fun w => (dats m 0 c).arrAt w cfg0.N) (Proc.devRef .tc main_v2) = _
  after_results_simp
  rw [hA]
  rfl

/-- The run, read: the loss and the weight's gradient, the arguments unchanged. -/
theorem run : θ_run defs (onTc (τ := τ) (main (F := Ideal))) ⟨m, fun _ => 0, ρ⟩ fun r => ∀ c : Dev nD,
      (r.2.mem ((c : Thread nD τ).loc main_v2) = R2 m c
      ∧ r.2.mem ((c : Thread nD τ).loc main_v0_3) = R6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨⟨((h.1 c).2 main_v2 (by decide)).trans (tail m c), ((h.1 c).1 6).trans (arr6 m c)⟩, h.2 c⟩)
    (θ_run_and (run_main m ρ) (unchanged m ρ))

end Cert.Kernel9Ideal.Loss

end
-- ==== Proof.NormMath.lean ====
/-
  The gradient of the root-mean-square normalisation, written two ways (at the ideal values): as the call writes it, with
  the row's inverse root taken out, and as the chain rule writes it, through the root's own derivative.  They agree on all
  extended reals: where a row's mean square is infinite its inverse root is zero, and elsewhere the row is real.
-/
module

public import proofs.«01_k».proof.Proof.MixerForwardMath

@[expose] public section

set_option maxRecDepth 16384

noncomputable section

namespace Cert.Norm

open Cert.Products Cert.Mixer
open Idealize.ShloMosaic hiding ix1 ix2 ix3 eq_ix1 eq_ix2 eq_ix3
open Idealize.ShloMosaic.ValueIdx

theorem minus : Ideal.ofBits .f32 0xBF000000#32 = ((-(1 / 2) : ℝ) : EReal) := by
  simp [Ideal.ofBits, Ideal.ieee, -EReal.coe_mul]; norm_num

theorem columns : Ideal.ofBits .f32 0x45000000#32 = ((2048 : ℝ) : EReal) := by
  simp [Ideal.ofBits, Ideal.ieee, -EReal.coe_mul]; norm_num

/-- The small constant is a real number above zero. -/
theorem small : ∃ s : ℝ, 0 < s ∧ Ideal.ofBits .f32 0x358637BD#32 = (s : EReal) :=
  ⟨8796093 / 8796093022208, by norm_num, by simp [Ideal.ofBits, Ideal.ieee, -EReal.coe_mul]; norm_num⟩

/-- A factor that is a real number at or above zero goes into a sum. -/
theorem mul_sum_of_nonneg {ι : Type} (s : Finset ι) (f : ι → EReal) {a : ℝ} (h : 0 ≤ a) : (a : EReal) * ∑ i ∈ s, f i = ∑ i ∈ s, (a : EReal) * f i := by
  classical
  induction s using Finset.induction_on with
  | empty => rw [Finset.sum_empty, Finset.sum_empty, mul_zero]
  | insert i s hi ih =>
    rw [Finset.sum_insert hi, Finset.sum_insert hi, ← ih]
    exact EReal.left_distrib_of_nonneg_of_ne_top (EReal.coe_nonneg.2 h) (EReal.coe_ne_top a) _ _

/-- A row's mean square, the small constant added. -/
def meanSquare (row : Fin 2048 → EReal) : EReal :=
  Ideal.div (∑ e : Fin 2048, row e * row e) (Ideal.ofBits .f32 0x45000000#32) + Ideal.ofBits .f32 0x358637BD#32

theorem square_nonneg (z : EReal) : 0 ≤ z * z := by
  induction z with
  | bot => simp
  | top => simp
  | coe y => rw [← EReal.coe_mul]; exact EReal.coe_nonneg.2 (mul_self_nonneg y)

/-- A row's mean square is infinite, its inverse root zero; or the row is real, and so are they. -/
theorem rows (row : Fin 2048 → EReal) : (meanSquare row = ⊤ ∧ invNorm row = 0)
    ∨ ∃ v r : ℝ, 0 < v ∧ 0 < r ∧ meanSquare row = v ∧ invNorm row = r ∧ r * r * v = 1 ∧ ∀ k, ∃ y : ℝ, row k = y := by
  obtain ⟨s, hs, es⟩ := small
  have hsum : 0 ≤ ∑ e : Fin 2048, row e * row e := Finset.sum_nonneg fun e _ => square_nonneg _
  have em : meanSquare row = (∑ e : Fin 2048, row e * row e) * ((1 / 2048 : ℝ) : EReal) + s := by
    unfold meanSquare; rw [columns, Ideal.div_coe (by norm_num), es]
  have ei : invNorm row = Ideal.rsqrt (meanSquare row) := rfl
  rcases eq_or_ne (∑ e : Fin 2048, row e * row e) ⊤ with h | h
  · left
    have : meanSquare row = ⊤ := by
      rw [em, h, EReal.top_mul_coe_of_pos (by norm_num)]; exact EReal.top_add_coe s
    exact ⟨this, by rw [ei, this]; rfl⟩
  · right
    have hr : ∀ k, ∃ y : ℝ, row k = y := fun k => by
      have hk : row k * row k ≤ ∑ e : Fin 2048, row e * row e := Finset.single_le_sum (f := fun e => row e * row e) (fun e _ => square_nonneg _) (Finset.mem_univ k)
      have hn : row k * row k ≠ ⊤ := fun e => h (top_le_iff.1 (e ▸ hk))
      generalize row k = z at hn
      induction z with
      | bot => simp at hn
      | top => simp at hn
      | coe y => exact ⟨y, rfl⟩
    obtain ⟨q, hq⟩ : ∃ q : ℝ, ∑ e : Fin 2048, row e * row e = q := ⟨_, (EReal.coe_toReal h (fun e => by rw [e] at hsum; simp at hsum)).symm⟩
    have hq0 : 0 ≤ q := EReal.coe_nonneg.1 (hq ▸ hsum)
    have hv : 0 < q * (1 / 2048) + s := by positivity
    have ev : meanSquare row = ((q * (1 / 2048) + s : ℝ) : EReal) := by rw [em, hq, EReal.coe_add, EReal.coe_mul]
    refine ⟨q * (1 / 2048) + s, (Real.sqrt (q * (1 / 2048) + s))⁻¹, hv, inv_pos.2 (Real.sqrt_pos.2 hv), ev, ?_, ?_, hr⟩
    · rw [ei, ev, Ideal.rsqrt_coe, if_neg (not_lt.2 hv.le), if_neg hv.ne']
    · rw [← mul_inv, Real.mul_self_sqrt hv.le, inv_mul_cancel₀ hv.ne']

variable (x w d : Fin 2048 → EReal) (e : Fin 2048)

/-- A row's gradient as the call writes it, of the inverse root `q`, a row `x`, the weight `w` and the incoming gradient `d`. -/
def backRow (q : EReal) : EReal := q * (d e * w e
  - x e * q * Ideal.div (∑ k : Fin 2048, d k * w k * (x k * q)) (Ideal.ofBits .f32 0x45000000#32))

/-- What the chain rule puts on the row's mean square, shared among the columns. -/
def chainShare : EReal := Ideal.div ((∑ k : Fin 2048, x k * (d k * w k)) * (Ideal.ofBits .f32 0xBF000000#32 * Ideal.div (invNorm x) (meanSquare x))) (Ideal.ofBits .f32 0x45000000#32)

theorem double (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_mul, ← EReal.coe_add]; congr 1; ring

/-- The two ways agree. -/
theorem back_eq : d e * w e * invNorm x + x e * chainShare x w d + chainShare x w d * x e = backRow x w d e (invNorm x) := by
  unfold backRow chainShare
  rcases rows x with ⟨hv, hr⟩ | ⟨v, r, hv, hr, ev, er, h1, hx⟩
  · rw [hv, hr, columns]
    have : Ideal.div (0 : EReal) ⊤ = 0 := by unfold Ideal.div; rw [if_neg (by simp)]; exact zero_mul _
    rw [this, mul_zero, mul_zero, Ideal.div_coe (by norm_num), zero_mul, mul_zero, zero_mul, zero_mul, mul_zero, add_zero, add_zero]
  · obtain ⟨y, hy⟩ := hx e
    have hd : Ideal.div (r : EReal) (v : EReal) = ((r * r * r : ℝ) : EReal) := by
      rw [Ideal.div_coe hv.ne', ← EReal.coe_mul]; congr 1; field_simp; linear_combination -h1
    have hs : ∑ k : Fin 2048, d k * w k * (x k * r) = (r : EReal) * ∑ k : Fin 2048, x k * (d k * w k) := by
      rw [mul_sum_of_nonneg _ _ hr.le]
      exact Finset.sum_congr rfl fun k _ => by rw [← mul_assoc, mul_comm (d k * w k * x k), mul_comm (d k * w k)]
    rw [ev, er, hy, columns, minus, hd, hs, Ideal.div_coe (by norm_num), Ideal.div_coe (by norm_num)]
    generalize ∑ k : Fin 2048, x k * (d k * w k) = S
    have h2 : (y : EReal) * (S * (((-(1 / 2) : ℝ) : EReal) * ((r * r * r : ℝ) : EReal)) * ((1 / 2048 : ℝ) : EReal)) = ((-(1 / 2) * y * (r * r * r) * (1 / 2048) : ℝ) : EReal) * S := by
      rw [mul_comm S, mul_assoc, mul_comm S, ← mul_assoc, ← mul_assoc, ← EReal.coe_mul, ← EReal.coe_mul, ← EReal.coe_mul]; congr 2; ring
    have h3 : (y : EReal) * r * ((r : EReal) * S * ((1 / 2048 : ℝ) : EReal)) = ((y * (r * r) * (1 / 2048) : ℝ) : EReal) * S := by
      rw [mul_assoc (r : EReal) S, mul_comm S, ← mul_assoc, ← mul_assoc, ← EReal.coe_mul, ← EReal.coe_mul, ← EReal.coe_mul]; congr 2; ring
    rw [mul_comm _ (y : EReal), h2, h3, add_assoc, double, ← mul_assoc, ← EReal.coe_mul, sub_eq_add_neg,
      EReal.left_distrib_of_nonneg_of_ne_top (EReal.coe_nonneg.2 hr.le) (EReal.coe_ne_top r), mul_comm (r : EReal) (d e * w e), ← EReal.neg_mul, ← EReal.coe_neg, ← mul_assoc (r : EReal), ← EReal.coe_mul]
    congr 3; ring

end Cert.Norm

end
-- ==== Proof.LossReference.lean ====
/-
  The reference of the loss head (at the ideal values), and why it agrees with the call: the sums are taken in one piece,
  and the factors one half, two and the number of columns stand in other places.
-/
module

public import proofs.«01_k».proof.Proof.Gen.Reference9Ideal.Read
public import proofs.«01_k».proof.Proof.LossRun
public import proofs.«01_k».proof.Proof.NormMath

@[expose] public section

set_option maxRecDepth 16384

noncomputable section

namespace Cert.Loss

open Cert.Products Cert.Mixer Cert.Norm
open Idealize.ShloMosaic hiding ix1 ix2 ix3 eq_ix1 eq_ix2 eq_ix3
open Idealize.ShloMosaic.ValueIdx

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem share : Ideal.ofBits .f32 0x3A000000#32 = ((1 / 2048 : ℝ) : EReal) := by
  simp [Ideal.ofBits, Ideal.ieee, -EReal.coe_mul]; norm_num

/-- One half of two, shared among the columns, is the kernel's factor. -/
theorem factor (z : EReal) : Ideal.div (Ideal.ofBits .f32 0x3F000000#32 * Ideal.ofBits .f32 0x3F800000#32) (Ideal.ofBits .f32 0x45000000#32) * (Ideal.ofBits .f32 0x40000000#32 * z)
    = z * Ideal.ofBits .f32 0x3A000000#32 := by
  rw [half, two, columns, share, Ideal.ofBits_one_f32, mul_one, Ideal.div_coe (by norm_num), ← mul_assoc, mul_comm z]
  congr 1
  rw [← EReal.coe_mul, ← EReal.coe_mul]
  norm_num

end Cert.Loss

namespace Cert.Reference9Ideal.Loss

open Cert.Reference9Ideal Cert.Reference9Ideal.Gen Cert.Reference9Ideal.Read Cert.Products Cert.Loss
open Idealize.ShloMosaic hiding ix1 ix2 ix3 eq_ix1 eq_ix2 eq_ix3
open Idealize.ShloMosaic.ValueIdx

variable (x0 : S4096x2048.Idx → EReal) (x1 : S1x2048.Idx → EReal) (x2 : S4096x2048.Idx → EReal)

/-- The normalised rows. -/
theorem v9 (r : Fin 4096) (e : Fin 2048) : val_main_v9 (F := Ideal) x0 (ix2 r e) = unit x0 r e := by
  rw [val_main_v9_apply, val_main_v8_apply, val_main_v7_apply, val_main_v6_apply, val_main_v5_apply, val_main_v4_apply, val_main_v3_apply, val_main_v2_apply, val_main_v1_apply]
  refine congrArg (fun a : EReal => x0 (ix2 r e) * a) (congrArg Ideal.rsqrt (congrArg₂ (fun a b : EReal => a + b) (congrArg₂ Ideal.div ?_ rfl) rfl))
  refine (congrArg (fun z : EReal => z + _) (show val_main_cst (F := Ideal) (Shape.Idx.first h_S_) = (0 : EReal) from Ideal.ofBits_zero_f32)).trans ((zero_add _).trans ?_)
  refine Finset.sum_congr rfl fun k _ => ?_
  rw [val_main_v0_apply]
  refine congrArg₂ (fun a b : EReal => a * b) ?_ ?_ <;>
  · show x0 _ = x0 _
    congr 1; funext a; match a with | ⟨0, _⟩ => rfl | ⟨1, _⟩ => rfl

/-- How far they are from the target. -/
theorem v12 (r : Fin 4096) (e : Fin 2048) : val_main_v12 (F := Ideal) x0 x1 x2 (ix2 r e) = gap x0 x1 x2 r e := by
  rw [val_main_v12_apply, val_main_v11_apply, val_main_v10_apply, v9]
  refine congrArg (fun a : EReal => unit x0 r e * a - x2 (ix2 r e)) ?_
  show x1 _ = x1 _
  congr 1; funext a; match a with | ⟨0, _⟩ => rfl | ⟨1, _⟩ => rfl

/-- The rows' losses. -/
theorem v18 (r : Fin 4096) : val_main_v18 (F := Ideal) x0 x1 x2 (ix1 r) = rowLoss x0 x1 x2 r := by
  rw [val_main_v18_apply, val_main_v17_apply, val_main_v16_apply]
  refine congrArg₂ Ideal.div ?_ rfl
  refine (congrArg (fun z : EReal => z + _) (show val_main_cst_3 (F := Ideal) (Shape.Idx.first h_S_) = (0 : EReal) from Ideal.ofBits_zero_f32)).trans ((zero_add _).trans ?_)
  refine Finset.sum_congr rfl fun k _ => ?_
  rw [val_main_v13_apply]
  refine congrArg₂ (fun a b : EReal => a * b) ?_ ?_ <;>
  · refine Eq.trans ?_ (v12 x0 x1 x2 r k)
    congr 1; funext a; match a with | ⟨0, _⟩ => rfl | ⟨1, _⟩ => rfl

/-- The loss. -/
theorem v20 (i : S_.Idx) : val_main_v20 (F := Ideal) x0 x1 x2 i = Ideal.ofBits .f32 0x3F000000#32 * ∑ r : Fin 4096, rowLoss x0 x1 x2 r := by
  rw [val_main_v20_apply, val_main_v19_apply]
  refine congrArg (fun z : EReal => Ideal.ofBits .f32 0x3F000000#32 * z) ?_
  refine (congrArg (fun z : EReal => z + _) (show val_main_cst_5 (F := Ideal) (Shape.Idx.first h_S_) = (0 : EReal) from Ideal.ofBits_zero_f32)).trans ((zero_add _).trans ?_)
  exact (Fintype.sum_equiv ⟨fun r : Fin 4096 => (ix1 r : S4096.Idx), fun j => j 0, fun _ => rfl, fun j => funext fun a => by match a with | ⟨0, _⟩ => rfl⟩ _ _ fun r => (v18 x0 x1 x2 r).symm).symm

/-- The weight's gradient. -/
theorem v29 (i : S1x2048.Idx) : val_main_v29 (F := Ideal) x0 x1 x2 i = ∑ r : Fin 4096, weightPart x0 x1 x2 r (i 1) := by
  obtain ⟨s, e, rfl⟩ := any2 1 2048 i
  obtain rfl : s = 0 := Subsingleton.elim _ _
  rw [val_main_v29_apply, val_main_v28_apply]
  refine (congrArg (fun z : EReal => z + _) (show val_main_cst_10 (F := Ideal) (Shape.Idx.first h_S_) = (0 : EReal) from Ideal.ofBits_zero_f32)).trans ((zero_add _).trans ?_)
  refine Finset.sum_congr rfl fun r _ => ?_
  have hi : idx_main_v28 (idx_main_v29 (ix2 0 e)) r = ix2 r e := by
    funext a; apply Fin.ext
    match a with
    | ⟨0, _⟩ => rfl
    | ⟨1, _⟩ => show 0 * 2048 + e.val = e.val; omega
  rw [hi, val_main_v27_apply, val_main_v26_apply, val_main_v15_apply, v9, v12, val_main_v25_apply, val_main_v24_apply, val_main_v22_apply, val_main_v21_apply, val_main_v23_apply, val_main_v14_apply]
  exact (mul_comm (G := EReal) _ _).trans (congrArg (fun z : EReal => z * unit x0 r e) (factor (gap x0 x1 x2 r e)))

end Cert.Reference9Ideal.Loss

namespace Cert.Kernel9Ideal.Loss

open Cert.Kernel9Ideal Cert.Kernel9Ideal.Gen Cert.Loss Cert.Norm Cert.Products Idealize.ShloMosaic.TcCoe
open Idealize.ShloMosaic hiding ix1 ix2 ix3 eq_ix1 eq_ix2 eq_ix3

variable (m : (ℓ : Loc nD τ sig) → Buf (Elt Ideal) ℓ) (c : Dev nD)

/-- The blocks' losses together are half the sum of the rows'. -/
theorem sum_loss : ∑ s : Fin 8, lossAt m c s.val s.isLt = Ideal.ofBits .f32 0x3F000000#32 * ∑ r : Fin 4096, rowLoss (X m c) (G m c) (T m c) r := by
  unfold lossAt
  rw [half, ← mul_sum_of_nonneg _ _ (by norm_num)]
  exact congrArg (fun z : EReal => ((1 / 2 : ℝ) : EReal) * z) (sum_runs (b := 8) (n := 512) rfl _).symm

end Cert.Kernel9Ideal.Loss

end
-- ==== Proof.NormBlock.lean ====
/-
  The first normalisation's backward call at one grid point: what its body leaves in the staging buffers of the input's
  and of the weight's gradient (at the ideal values), for the first block of rows and for the later ones.
-/
module

public import proofs.«01_k».proof.Proof.Gen.Kernel10Ideal.Frame
public import proofs.«01_k».proof.Proof.NormMath
public import Idealize.ShloMosaic.Lib.ValueLayout
public import Idealize.ShloMosaic.Lib.Pipeline.Value
public import Idealize.ShloMosaic.Lib.Pipeline.ValueKit.Tiles
public import Idealize.ShloMosaic.Lib.Pointwise.Reduce
public import Idealize.ShloMosaic.Lib.Tactic

@[expose] public section

set_option maxRecDepth 16384

noncomputable section

namespace Cert.Kernel10Ideal.Norm

open Cert.Kernel10Ideal Cert.Kernel10Ideal.Gen Cert.Norm Cert.Mixer Cert.Products Idealize.ShloMosaic.TcCoe Idealize.SL.Sem
open Idealize.ShloMosaic hiding ix1 ix2 ix3 eq_ix1 eq_ix2 eq_ix3
open Idealize.ShloMosaic.ValueIdx

theorem hz2 : (![0, 0] : Fin 2 → Nat) = fun _ => 0 := funext fun a => by fin_cases a <;> rfl

variable (d : Vec Ideal S512x2048 .bf16) (x : Vec Ideal S512x2048 .f32) (q : Vec Ideal S512x1 .f32) (w : Vec Ideal S1x2048 .f32) (s : Vec Ideal S512x2048 .f32)

theorem column (v : Vec Ideal S512x1 .f32) (r : Fin 512) (e : Fin 2048) : broadcastTo S512x2048 v broadcasts_S512x1_S512x2048 (ix2 r e) = v (ix2 r 0) :=
  broadcastTo_apply _ _ _ (ix2 r 0) (fun b => by match b with | ⟨0, _⟩ => rfl | ⟨1, _⟩ => rfl)

theorem pay2_eq : k0_pay2 (F := Ideal) q = q := shapeCast_self _ _

theorem pay3_apply (r : Fin 512) (e : Fin 2048) : k0_pay3 (F := Ideal) x q (ix2 r e) = x (ix2 r e) * q (ix2 r 0) :=
  congrArg (fun a : EReal => x (ix2 r e) * a) ((column _ r e).trans (congrFun (pay2_eq q) _))

/-- A block's gradient. -/
theorem pay4_apply (r : Fin 512) (e : Fin 2048) : k0_pay4 (F := Ideal) d x q w s (ix2 r e)
    = s (ix2 r e) + backRow (fun k => x (ix2 r k)) (fun k => w (ix2 0 k)) (fun k => d (ix2 r k)) e (q (ix2 r 0)) := by
  unfold k0_pay4
  refine congrArg (fun a : EReal => s (ix2 r e) + a) (congrArg₂ (fun a b : EReal => a * b) ((column _ r e).trans (congrFun (pay2_eq q) _)) ?_)
  refine congrArg₂ (fun a b : EReal => d (ix2 r e) * a - b) (broadcastTo_1b_ab_apply w _ r e) ?_
  refine congrArg₂ (fun a b : EReal => a * b) (pay3_apply x q r e) ((column _ r e).trans (congrArg₂ Ideal.div ?_ rfl))
  refine (shapeCast_apply _ _ _ (ix1 r) (by
    rw [Shape.rowMajor_val_one, Shape.rowMajor_val_two]
    show r.val = r.val * 1 + 0; omega)).trans ?_
  show Ideal.reduceAdd _ _ (ix1 r) = _
  rw [Ideal.reduceAdd_r2_a1]
  exact Finset.sum_congr rfl fun k _ => congrArg₂ (fun a b : EReal => d (ix2 r k) * a * b) (broadcastTo_1b_ab_apply w _ r k) (pay3_apply x q r k)

/-- A block's share of the weight's gradient. -/
theorem pay5_apply (e : Fin 2048) : k0_pay5 (F := Ideal) d x q (ix2 0 e) = ∑ r : Fin 512, d (ix2 r e) * (x (ix2 r e) * q (ix2 r 0)) := by
  unfold k0_pay5
  refine (shapeCast_apply _ _ _ (ix1 e) (by
    rw [Shape.rowMajor_val_one, Shape.rowMajor_val_two]
    show e.val = 0 * 2048 + e.val; omega)).trans ?_
  show Ideal.reduceAdd _ _ (ix1 e) = _
  rw [Ideal.reduceAdd_r2_a0]
  exact Finset.sum_congr rfl fun r _ => congrArg (fun a : EReal => d (ix2 r e) * a) (pay3_apply x q r e)

variable (m : (ℓ : Loc nD τ sig) → Buf (Elt Ideal) ℓ) (c : Dev nD) (p : Fin cfg0.N)

/-- The first block of rows starts the weight's gradient … -/
theorem first6 (h0 : p.val % 8 = 0) (h1 : ¬1 ≤ p.val) : (outsAt0 m c p.val p.isLt).2 = k0_pay5 (F := Ideal) (iblk m c 0 p) (iblk m c 1 p) (iblk m c 2 p) := by
  rw [outsAt0_A m c p h0 h1]; dsimp only; unfold out0_A_6
  rw [View.read_writes_eq_canon _ _ _ (cover0_A_6 c _ _ _ _ _ _ _ _ _ _ _ _ _ _ _ _ _ _ _ _ _ _)]
  unfold kernelRun0_A
  dsimp only
  sl_unfold_words
  rw [View.canon_unit_zero hz2]
  simp only [View.readAt_eq_ld, (hs0_0 p).read_unread, (hs0_1 p).read_unread, (hs0_2 p).read_unread, View.ld_unit_zero (S := S512x2048) hz2, View.ld_unit_zero (S := S512x1) hz2]

/-- … a later block adds its share … -/
theorem later6 (h0 : ¬p.val % 8 = 0) (h1 : 1 ≤ p.val) (e : Fin 2048) : (outsAt0 m c p.val p.isLt).2 (ix2 0 e)
    = (outsAt0 m c (p.val - 1) (Nat.lt_of_le_of_lt (Nat.sub_le _ _) p.isLt)).2 (ix2 0 e)
      + k0_pay5 (F := Ideal) (iblk m c 0 p) (iblk m c 1 p) (iblk m c 2 p) (ix2 0 e) := by
  rw [outsAt0_B m c p h0 h1]; dsimp only; unfold out0_B_6
  rw [View.read_writes_eq_canon _ _ _ (cover0_B_6 c _ _ _ _ _ _ _ _ _ _ _ _ _ _ _ _ _ _ _ _ _ _ _)]
  unfold kernelRun0_B
  dsimp only
  sl_unfold_words
  rw [View.canon_unit_zero hz2]
  simp only [View.readAt_eq_ld, (hs0_0 p).read_unread, (hs0_1 p).read_unread, (hs0_2 p).read_unread, (hs0_6 p).read_unread, View.ld_unit_zero (S := S512x2048) hz2, View.ld_unit_zero (S := S512x1) hz2, View.ld_unit_zero (S := S1x2048) hz2]
  unfold k0_pay6
  rw [shapeCast_self]
  rfl

/-- … and every block leaves its own rows' gradient. -/
theorem every5 : (outsAt0 m c p.val p.isLt).1 = k0_pay4 (F := Ideal) (iblk m c 0 p) (iblk m c 1 p) (iblk m c 2 p) (iblk m c 3 p) (iblk m c 4 p) := by
  have h8 : p.val < 8 := lt_of_lt_of_eq p.isLt N_0
  by_cases h1 : 1 ≤ p.val
  · rw [outsAt0_B m c p (by omega) h1]; dsimp only; unfold out0_B_5
    rw [View.read_writes_eq_canon _ _ _ (cover0_B_5 c _ _ _ _ _ _ _ _ _ _ _ _ _ _ _ _ _ _ _ _ _ _ _)]
    unfold kernelRun0_B
    dsimp only
    sl_unfold_words
    rw [View.canon_unit_zero hz2]
    simp only [View.readAt_eq_ld, (hs0_0 p).read_unread, (hs0_1 p).read_unread, (hs0_2 p).read_unread, (hs0_3 p).read_unread, (hs0_4 p).read_unread, View.ld_unit_zero (S := S512x2048) hz2, View.ld_unit_zero (S := S512x1) hz2, View.ld_unit_zero (S := S1x2048) hz2]
  · rw [outsAt0_A m c p (by omega) h1]; dsimp only; unfold out0_A_5
    rw [View.read_writes_eq_canon _ _ _ (cover0_A_5 c _ _ _ _ _ _ _ _ _ _ _ _ _ _ _ _ _ _ _ _ _ _)]
    unfold kernelRun0_A
    dsimp only
    sl_unfold_words
    rw [View.canon_unit_zero hz2]
    simp only [View.readAt_eq_ld, (hs0_0 p).read_unread, (hs0_1 p).read_unread, (hs0_2 p).read_unread, (hs0_3 p).read_unread, (hs0_4 p).read_unread, View.ld_unit_zero (S := S512x2048) hz2, View.ld_unit_zero (S := S512x1) hz2, View.ld_unit_zero (S := S1x2048) hz2]

end Cert.Kernel10Ideal.Norm

end
-- ==== Proof.NormRun.lean ====
/-
  The first normalisation's backward call as a whole (at the ideal values): the inverse roots the host hands it, the
  rows' gradients block by block, and the weight's gradient summed over the grid's points.
-/
module

public import proofs.«01_k».proof.Proof.NormBlock
public import proofs.«01_k».proof.Proof.Gen.Reference10Ideal.Read

@[expose] public section

set_option maxRecDepth 16384

noncomputable section

namespace Cert.Reference10Ideal.Norm

open Cert.Reference10Ideal Cert.Reference10Ideal.Gen Cert.Reference10Ideal.Read Cert.Mixer Cert.Products
open Idealize.ShloMosaic hiding ix1 ix2 ix3 eq_ix1 eq_ix2 eq_ix3
open Idealize.ShloMosaic.ValueIdx

variable (x0 : S4096x2048.Idx → EReal)

/-- A row's mean square, the small constant added … -/
theorem v6 (r : Fin 4096) : val_main_v6 (F := Ideal) x0 (ix2 r 0) = Cert.Norm.meanSquare fun k => x0 (ix2 r k) := by
  rw [val_main_v6_apply, val_main_v5_apply, val_main_v4_apply, val_main_v3_apply, val_main_v2_apply, val_main_v1_apply]
  refine congrArg₂ (fun a b : EReal => a + b) (congrArg₂ Ideal.div ?_ rfl) rfl
  refine (congrArg (fun z : EReal => z + _) (show val_main_cst (F := Ideal) (Shape.Idx.first h_S_) = (0 : EReal) from Ideal.ofBits_zero_f32)).trans ((zero_add _).trans ?_)
  refine Finset.sum_congr rfl fun k _ => ?_
  rw [val_main_v0_apply]
  refine congrArg₂ (fun a b : EReal => a * b) ?_ ?_ <;>
  · show x0 _ = x0 _
    congr 1; funext a; match a with | ⟨0, _⟩ => rfl | ⟨1, _⟩ => rfl

/-- … and its inverse root. -/
theorem v7 (r : Fin 4096) : val_main_v7 (F := Ideal) x0 (ix2 r 0) = invNorm fun k => x0 (ix2 r k) := by
  rw [val_main_v7_apply, v6]; rfl

end Cert.Reference10Ideal.Norm

namespace Cert.Kernel10Ideal.Norm

open Cert.Kernel10Ideal Cert.Kernel10Ideal.Gen Cert.Norm Cert.Mixer Cert.Products Idealize.ShloMosaic.TcCoe Idealize.SL.Sem
open Idealize.ShloMosaic hiding ix1 ix2 ix3 eq_ix1 eq_ix2 eq_ix3
open Idealize.ShloMosaic.ValueIdx

variable (m : (ℓ : Loc nD τ sig) → Buf (Elt Ideal) ℓ) (ρ : Dev nD → PrngReg) (c : Dev nD)

/-- The arrays the program is given: the input, the weight, the gradient of the output, and the gradient to add to. -/
abbrev X : S4096x2048.Idx → EReal := m ((c.tc : Thread nD τ).loc main_arg0)
abbrev W : S1x2048.Idx → EReal := m ((c.tc : Thread nD τ).loc main_arg1)
abbrev D : S4096x2048.Idx → EReal := m ((c.tc : Thread nD τ).loc main_arg2)
abbrev S : S4096x2048.Idx → EReal := m ((c.tc : Thread nD τ).loc main_arg3)

/-- The host's lines before the call leave the rows' inverse roots. -/
theorem roots (r : Fin 4096) : V m c main_v7 (ix2 r 0) = invNorm fun k => X m c (ix2 r k) := by
  have h : V m c main_v7 = Cert.Reference10Ideal.Read.val_main_v7 (F := Ideal) (X m c) := by
    show StableHlo.after hostOps0 (fun b => m (c, b)) (Proc.devRef .tc main_v7) = _
    after_results_simp
    rfl
  rw [h]
  exact Cert.Reference10Ideal.Norm.v7 (X m c) r

/-- Where the windows stand at each point. -/
theorem idx : ∀ p : Fin cfg0.N, (win0_0.index p 0 = p.val ∧ win0_0.index p 1 = 0) ∧ (win0_1.index p 0 = p.val ∧ win0_1.index p 1 = 0)
    ∧ (win0_2.index p 0 = p.val ∧ win0_2.index p 1 = 0) ∧ (win0_3.index p 0 = 0 ∧ win0_3.index p 1 = 0) ∧ (win0_4.index p 0 = p.val ∧ win0_4.index p 1 = 0)
    ∧ (win0_5.index p 0 = p.val ∧ win0_5.index p 1 = 0) ∧ (win0_6.index p 0 = 0 ∧ win0_6.index p 1 = 0) :=
  (by decide +kernel : ∀ p : Fin grid0.N, _)

theorem lt8 (p : Fin cfg0.N) : p.val < 8 := lt_of_lt_of_eq p.isLt N_0

/-- Row `r` of the `n`th block of rows. -/
abbrev row (n : ℕ) (h : n < 8) (r : Fin 512) : Fin 4096 := ⟨512 * n + r.val, by omega⟩

theorem blk0 (p : Fin cfg0.N) (r : Fin 512) (k : Fin 2048) : (iblk m c 0 p : Vec Ideal S512x2048 .bf16) (ix2 r k) = D m c (ix2 (row p.val (lt8 p) r) k) := by
  obtain ⟨⟨h0, h1⟩, -⟩ := idx p
  unfold iblk; rw [View.read_apply]
  refine Eq.trans ?_ (congrFun (V_main_arg2 m c) _)
  show V m c main_arg2 _ = V m c main_arg2 _
  congr 1; funext a; apply Fin.ext
  match a with
  | ⟨0, _⟩ => show win0_0.index p 0 * 512 + 1 * r.val = 512 * p.val + r.val; rw [h0]; omega
  | ⟨1, _⟩ => show win0_0.index p 1 * 2048 + 1 * k.val = k.val; rw [h1]; omega

theorem blk1 (p : Fin cfg0.N) (r : Fin 512) (k : Fin 2048) : (iblk m c 1 p : Vec Ideal S512x2048 .f32) (ix2 r k) = X m c (ix2 (row p.val (lt8 p) r) k) := by
  obtain ⟨-, ⟨h0, h1⟩, -⟩ := idx p
  unfold iblk; rw [View.read_apply]
  refine Eq.trans ?_ (congrFun (V_main_arg0 m c) _)
  show V m c main_arg0 _ = V m c main_arg0 _
  congr 1; funext a; apply Fin.ext
  match a with
  | ⟨0, _⟩ => show win0_1.index p 0 * 512 + 1 * r.val = 512 * p.val + r.val; rw [h0]; omega
  | ⟨1, _⟩ => show win0_1.index p 1 * 2048 + 1 * k.val = k.val; rw [h1]; omega

theorem blk2 (p : Fin cfg0.N) (r : Fin 512) : (iblk m c 2 p : Vec Ideal S512x1 .f32) (ix2 r 0) = invNorm fun k => X m c (ix2 (row p.val (lt8 p) r) k) := by
  obtain ⟨-, -, ⟨h0, h1⟩, -⟩ := idx p
  unfold iblk; rw [View.read_apply]
  refine Eq.trans ?_ (roots m c (row p.val (lt8 p) r))
  show V m c main_v7 _ = V m c main_v7 _
  congr 1; funext a; apply Fin.ext
  match a with
  | ⟨0, _⟩ => show win0_2.index p 0 * 512 + 1 * r.val = 512 * p.val + r.val; rw [h0]; omega
  | ⟨1, _⟩ => show win0_2.index p 1 * 1 + 1 * 0 = 0; rw [h1]

theorem blk3 (p : Fin cfg0.N) (k : Fin 2048) : (iblk m c 3 p : Vec Ideal S1x2048 .f32) (ix2 0 k) = W m c (ix2 0 k) := by
  obtain ⟨-, -, -, ⟨h0, h1⟩, -⟩ := idx p
  unfold iblk; rw [View.read_apply]
  refine Eq.trans ?_ (congrFun (V_main_arg1 m c) _)
  show V m c main_arg1 _ = V m c main_arg1 _
  congr 1; funext a; apply Fin.ext
  match a with
  | ⟨0, _⟩ => show win0_3.index p 0 * 1 + 1 * 0 = 0; rw [h0]
  | ⟨1, _⟩ => show win0_3.index p 1 * 2048 + 1 * k.val = k.val; rw [h1]; omega

theorem blk4 (p : Fin cfg0.N) (r : Fin 512) (k : Fin 2048) : (iblk m c 4 p : Vec Ideal S512x2048 .f32) (ix2 r k) = S m c (ix2 (row p.val (lt8 p) r) k) := by
  obtain ⟨-, -, -, -, ⟨h0, h1⟩, -⟩ := idx p
  unfold iblk; rw [View.read_apply]
  refine Eq.trans ?_ (congrFun (V_main_arg3 m c) _)
  show V m c main_arg3 _ = V m c main_arg3 _
  congr 1; funext a; apply Fin.ext
  match a with
  | ⟨0, _⟩ => show win0_4.index p 0 * 512 + 1 * r.val = 512 * p.val + r.val; rw [h0]; omega
  | ⟨1, _⟩ => show win0_4.index p 1 * 2048 + 1 * k.val = k.val; rw [h1]; omega

/-- A row's gradient added to the one given, and its part of the weight's gradient. -/
def rowGrad (r : Fin 4096) (e : Fin 2048) : EReal := S m c (ix2 r e)
  + backRow (fun k => X m c (ix2 r k)) (fun k => W m c (ix2 0 k)) (fun k => D m c (ix2 r k)) e (invNorm fun k => X m c (ix2 r k))
def part (r : Fin 4096) (e : Fin 2048) : EReal := D m c (ix2 r e) * (X m c (ix2 r e) * invNorm fun k => X m c (ix2 r k))

/-- The block of the rows' gradients a point leaves. -/
theorem at5 (p : Fin cfg0.N) (r : Fin 512) (e : Fin 2048) : (outsAt0 m c p.val p.isLt).1 (ix2 r e) = rowGrad m c (row p.val (lt8 p) r) e := by
  rw [every5, pay4_apply]
  unfold rowGrad
  simp only [blk0, blk1, blk2, blk3, blk4]

/-- The part of the weight's gradient of the `n`th block of rows. -/
def partAt (e : Fin 2048) (n : ℕ) (h : n < 8) : EReal := ∑ r : Fin 512, part m c (row n h r) e

theorem part_at (p : Fin cfg0.N) (e : Fin 2048) : k0_pay5 (F := Ideal) (iblk m c 0 p) (iblk m c 1 p) (iblk m c 2 p) (ix2 0 e) = partAt m c e p.val (lt8 p) := by
  rw [pay5_apply]
  unfold partAt part
  simp only [blk0, blk1, blk2]

/-- After point `n` the buffer holds the sum over the blocks so far. -/
theorem upTo6 (e : Fin 2048) : ∀ (n : ℕ) (h : n < cfg0.N), (outsAt0 m c n h).2 (ix2 0 e)
      = ∑ s : Fin (n + 1), partAt m c e s.val (by have := lt8 ⟨n, h⟩; have := s.isLt; dsimp only at *; omega)
  | 0, h => (congrFun (first6 m c ⟨0, h⟩ rfl (Nat.not_succ_le_zero 0)) _).trans ((part_at m c ⟨0, h⟩ e).trans (Fin.sum_univ_one fun s : Fin 1 => partAt m c e s.val (by omega)).symm)
  | n + 1, h => by
    have h8 := lt8 ⟨n + 1, h⟩
    refine (later6 m c ⟨n + 1, h⟩ (by dsimp only at *; omega) (by dsimp only; omega) e).trans ?_
    exact (congrArg₂ (fun a b : EReal => a + b) (upTo6 e n (by omega)) (part_at m c ⟨n + 1, h⟩ e)).trans (Fin.sum_univ_castSucc fun s : Fin (n + 1 + 1) => partAt m c e s.val (by have := s.isLt; dsimp only at *; omega)).symm

/-- The two arrays the call leaves. -/
def R5 : S4096x2048.Idx → EReal := fun i => rowGrad m c (i 0) (i 1)
def R6 : S1x2048.Idx → EReal := fun i => ∑ r : Fin 4096, part m c r (i 1)

theorem arr5 : (dats m 0 c).arrAt 5 cfg0.N = R5 m c := by
  refine (dats m 0 c).arrAt_eq_of_cover 5 (R5 m c) (fun p _ => ?_) fun i => ?_
  · obtain ⟨-, -, -, -, -, ⟨h0, h1⟩, -⟩ := idx p
    show (cfg0.win 5).cut _ ((dats m 0 c).after 5 _) = _
    rw [after0_5]
    funext j
    obtain ⟨r, e, rfl⟩ := any2 512 2048 j
    rw [View.read_apply]
    refine (at5 m c p r e).trans ?_
    show rowGrad m c _ _ = rowGrad m c _ _
    refine congrArg₂ (rowGrad m c) (Fin.ext ?_) (Fin.ext ?_)
    · show 512 * p.val + r.val = win0_5.index p 0 * 512 + 1 * r.val; rw [h0]; omega
    · show e.val = win0_5.index p 1 * 2048 + 1 * e.val; rw [h1]; omega
  · have hN : cfg0.N = 8 := N_0
    have hi : (i 0 : Nat) < 4096 := (i 0).isLt
    refine ⟨⟨(i 0 : Nat) / 512, by omega⟩, flush0_5 _, ?_⟩
    have hp : ((⟨(i 0 : Nat) / 512, by omega⟩ : Fin cfg0.N) : Nat) = (i 0 : Nat) / 512 := rfl
    generalize (⟨(i 0 : Nat) / 512, _⟩ : Fin cfg0.N) = p at hp ⊢
    obtain ⟨-, -, -, -, -, ⟨h0, h1⟩, -⟩ := idx p
    show i ∈ ((View.whole main_v8_0).slice (win0_5.rect p)).set
    rw [View.set_slice_whole, Rect.mem_set_unit]
    intro a
    match a with
    | ⟨0, _⟩ => show win0_5.index p 0 * 512 ≤ (i 0 : Nat) ∧ (i 0 : Nat) < win0_5.index p 0 * 512 + 512
                rw [h0, hp]; omega
    | ⟨1, _⟩ => show win0_5.index p 1 * 2048 ≤ (i 1 : Nat) ∧ (i 1 : Nat) < win0_5.index p 1 * 2048 + 2048
                rw [h1]; have : (i 1 : Nat) < 2048 := (i 1).isLt; omega

theorem arr6 : (dats m 0 c).arrAt 6 cfg0.N = R6 m c := by
  refine (dats m 0 c).arrAt_eq_of_cover 6 (R6 m c) (fun p hf => ?_) fun i => ?_
  · have hp := (flush0_6 p).mp hf
    have h8 := lt8 p
    obtain ⟨-, -, -, -, -, -, ⟨h0, h1⟩⟩ := idx p
    obtain ⟨n, hn⟩ := p
    obtain rfl : n = 7 := by dsimp only at *; omega
    show (cfg0.win 6).cut _ ((dats m 0 c).after 6 _) = _
    rw [after0_6]
    funext j
    obtain ⟨s, e, rfl⟩ := any2 1 2048 j
    obtain rfl : s = 0 := Subsingleton.elim _ _
    rw [View.read_apply]
    refine (upTo6 m c e 7 hn).trans ?_
    have ei : ((cfg0.win 6).blk ⟨7, hn⟩).view.emb (ix2 0 e) 1 = e := Fin.ext (by
      show win0_6.index ⟨7, hn⟩ 1 * 2048 + 1 * e.val = e.val; rw [h1]; omega)
    refine Eq.trans ?_ (congrArg (fun q => ∑ r : Fin 4096, part m c r q) ei.symm)
    exact (sum_runs (b := 8) (n := 512) rfl fun r : Fin 4096 => part m c r e).symm
  · have hN : cfg0.N = 8 := N_0
    refine ⟨⟨7, by omega⟩, (flush0_6 _).mpr rfl, ?_⟩
    generalize (⟨7, _⟩ : Fin cfg0.N) = p
    obtain ⟨-, -, -, -, -, -, ⟨h0, h1⟩⟩ := idx p
    show i ∈ ((View.whole main_v8_1).slice (win0_6.rect p)).set
    rw [View.set_slice_whole, Rect.mem_set_unit]
    intro a
    match a with
    | ⟨0, _⟩ => show win0_6.index p 0 * 1 ≤ (i 0 : Nat) ∧ (i 0 : Nat) < win0_6.index p 0 * 1 + 1
                rw [h0]; have : (i 0 : Nat) < 1 := (i 0).isLt; omega
    | ⟨1, _⟩ => show win0_6.index p 1 * 2048 ≤ (i 1 : Nat) ∧ (i 1 : Nat) < win0_6.index p 1 * 2048 + 2048
                rw [h1]; have : (i 1 : Nat) < 2048 := (i 1).isLt; omega

/-- The run, read: the two gradients, the arguments unchanged. -/
theorem run : θ_run defs (onTc (τ := τ) (main (F := Ideal))) ⟨m, fun _ => 0, ρ⟩ fun r => ∀ c : Dev nD,
      (r.2.mem ((c : Thread nD τ).loc main_v8_0) = R5 m c
      ∧ r.2.mem ((c : Thread nD τ).loc main_v8_1) = R6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨⟨((h.1 c).1 5).trans (arr5 m c), ((h.1 c).1 6).trans (arr6 m c)⟩, h.2 c⟩)
    (θ_run_and (run_main m ρ) (unchanged m ρ))

end Cert.Kernel10Ideal.Norm

end
-- ==== Proof.NormReference.lean ====
/-
  The reference of the first normalisation's backward pass, the chain rule written out (at the ideal values), and why it
  agrees with the call.
-/
module

public import proofs.«01_k».proof.Proof.NormRun

@[expose] public section

set_option maxRecDepth 16384

noncomputable section

namespace Cert.Reference10Ideal.Norm

open Cert.Reference10Ideal Cert.Reference10Ideal.Gen Cert.Reference10Ideal.Read Cert.Mixer Cert.Products Cert.Norm
open Idealize.ShloMosaic hiding ix1 ix2 ix3 eq_ix1 eq_ix2 eq_ix3
open Idealize.ShloMosaic.ValueIdx

variable (x0 : S4096x2048.Idx → EReal) (x1 : S1x2048.Idx → EReal) (x2 x3 : S4096x2048.Idx → EReal)

/-- The incoming gradient times the weight. -/
theorem v20 (r : Fin 4096) (e : Fin 2048) : val_main_v20 (F := Ideal) x1 x2 (ix2 r e) = x2 (ix2 r e) * x1 (ix2 0 e) := by
  rw [val_main_v20_apply, val_main_v19_apply, val_main_v15_apply]
  refine congrArg (fun a : EReal => x2 (ix2 r e) * a) ?_
  show x1 _ = x1 _
  congr 1; funext a; match a with | ⟨0, _⟩ => rfl | ⟨1, _⟩ => rfl

/-- What the chain rule shares among a row's columns. -/
theorem v28 (r : Fin 4096) : val_main_v28 (F := Ideal) x0 x1 x2 (ix2 r 0) = chainShare (fun k => x0 (ix2 r k)) (fun k => x1 (ix2 0 k)) fun k => x2 (ix2 r k) := by
  rw [val_main_v28_apply, val_main_v27_apply, val_main_v26_apply, val_main_v23_apply, val_main_v22_apply, val_main_v10_apply, val_main_v9_apply, val_main_v8_apply, v6, v7]
  refine congrArg₂ Ideal.div (congrArg₂ (fun a b : EReal => a * b) ?_ rfl) rfl
  refine (congrArg (fun z : EReal => z + _) (show val_main_cst_4 (F := Ideal) (Shape.Idx.first h_S_) = (0 : EReal) from Ideal.ofBits_zero_f32)).trans ((zero_add _).trans ?_)
  refine Finset.sum_congr rfl fun k _ => ?_
  have hi : idx_main_v22 (idx_main_v23 (ix2 r 0)) k = ix2 r k := by
    funext a; apply Fin.ext
    match a with
    | ⟨0, _⟩ => first | rfl | (show r.val * 1 + 0 = r.val; omega)
    | ⟨1, _⟩ => rfl
  rw [hi, val_main_v21_apply, v20]; rfl

theorem v30 (r : Fin 4096) (e : Fin 2048) : val_main_v30 (F := Ideal) x0 x1 x2 (ix2 r e) = chainShare (fun k => x0 (ix2 r k)) (fun k => x1 (ix2 0 k)) fun k => x2 (ix2 r k) := by
  rw [val_main_v30_apply, val_main_v29_apply, Fin.sum_univ_one]
  refine (congrArg (fun z : EReal => z + _) (show val_main_cst_6 (F := Ideal) (Shape.Idx.first h_S_) = (0 : EReal) from Ideal.ofBits_zero_f32)).trans ((zero_add _).trans ?_)
  refine Eq.trans ?_ (v28 x0 x1 x2 r)
  congr 1; funext a; match a with | ⟨0, _⟩ => rfl | ⟨1, _⟩ => rfl

/-- The input's gradient, added to the one given. -/
theorem v35 (r : Fin 4096) (e : Fin 2048) : val_main_v35 (F := Ideal) x0 x1 x2 x3 (ix2 r e)
    = x3 (ix2 r e) + backRow (fun k => x0 (ix2 r k)) (fun k => x1 (ix2 0 k)) (fun k => x2 (ix2 r k)) e (invNorm fun k => x0 (ix2 r k)) := by
  have hq : val_main_v24 (F := Ideal) x0 (ix2 r e) = invNorm fun k => x0 (ix2 r k) := by
    rw [val_main_v24_apply]
    refine Eq.trans ?_ (v7 x0 r)
    congr 1; funext a; match a with | ⟨0, _⟩ => rfl | ⟨1, _⟩ => rfl
  rw [val_main_v35_apply, val_main_v34_apply, val_main_v33_apply, val_main_v32_apply, val_main_v31_apply, val_main_v25_apply, v30, v20, hq]
  exact congrArg (fun a : EReal => x3 (ix2 r e) + a) (back_eq (fun k => x0 (ix2 r k)) (fun k => x1 (ix2 0 k)) (fun k => x2 (ix2 r k)) e)

/-- The weight's gradient. -/
theorem v18 (e : Fin 2048) : val_main_v18 (F := Ideal) x0 x2 (ix2 0 e) = ∑ r : Fin 4096, x2 (ix2 r e) * (x0 (ix2 r e) * invNorm fun k => x0 (ix2 r k)) := by
  rw [val_main_v18_apply, val_main_v17_apply]
  refine (congrArg (fun z : EReal => z + _) (show val_main_cst_3 (F := Ideal) (Shape.Idx.first h_S_) = (0 : EReal) from Ideal.ofBits_zero_f32)).trans ((zero_add _).trans ?_)
  refine Finset.sum_congr rfl fun r _ => ?_
  have hi : idx_main_v17 (idx_main_v18 (ix2 0 e)) r = ix2 r e := by
    funext a; apply Fin.ext
    match a with
    | ⟨0, _⟩ => rfl
    | ⟨1, _⟩ => show 0 * 2048 + e.val = e.val; omega
  have hq : val_main_v11 (F := Ideal) x0 (ix2 r e) = invNorm fun k => x0 (ix2 r k) := by
    rw [val_main_v11_apply]
    refine Eq.trans ?_ (v7 x0 r)
    congr 1; funext a; match a with | ⟨0, _⟩ => rfl | ⟨1, _⟩ => rfl
  rw [hi, val_main_v16_apply, val_main_v15_apply, val_main_v12_apply, hq]
  exact mul_comm (G := EReal) _ _

end Cert.Reference10Ideal.Norm

end
-- ==== Proof.SecondNormBlock.lean ====
/-
  The second normalisation's backward call at one grid point (at the ideal values): its body is the first one's, which also
  leaves the rows' gradient cast.
-/
module

public import proofs.«01_k».proof.Proof.Gen.Kernel11Ideal.Frame
public import proofs.«01_k».proof.Proof.NormReference
public import proofs.«01_k».proof.Proof.Gen.Reference11Ideal.Read

@[expose] public section

set_option maxRecDepth 16384

noncomputable section

namespace Cert.Kernel11Ideal.Norm

open Cert.Kernel11Ideal Cert.Kernel11Ideal.Gen Cert.Norm Cert.Mixer Cert.Products Idealize.ShloMosaic.TcCoe Idealize.SL.Sem
open Idealize.ShloMosaic hiding ix1 ix2 ix3 eq_ix1 eq_ix2 eq_ix3
open Idealize.ShloMosaic.ValueIdx
open Cert.Kernel10Ideal.Norm (hz2 row)

variable (m : (ℓ : Loc nD τ sig) → Buf (Elt Ideal) ℓ) (c : Dev nD) (p : Fin cfg0.N)

/-- The first block of rows starts the weight's gradient … -/
theorem first7 (h0 : p.val % 8 = 0) (h1 : ¬1 ≤ p.val) : (outsAt0 m c p.val p.isLt).2.2 = k0_pay5 (F := Ideal) (iblk m c 0 p) (iblk m c 1 p) (iblk m c 2 p) := by
  rw [outsAt0_A m c p h0 h1]; dsimp only; unfold out0_A_7
  rw [View.read_writes_eq_canon _ _ _ (cover0_A_7 c _ _ _ _ _ _ _ _ _ _ _ _ _ _ _ _ _ _ _ _ _ _ _ _)]
  unfold kernelRun0_A
  dsimp only
  sl_unfold_words
  rw [View.canon_unit_zero hz2]
  simp only [View.readAt_eq_ld, (hs0_0 p).read_unread, (hs0_1 p).read_unread, (hs0_2 p).read_unread, View.ld_unit_zero (S := S512x2048) hz2, View.ld_unit_zero (S := S512x1) hz2]

/-- … a later block adds its share … -/
theorem later7 (h0 : ¬p.val % 8 = 0) (h1 : 1 ≤ p.val) (e : Fin 2048) : (outsAt0 m c p.val p.isLt).2.2 (ix2 0 e)
    = (outsAt0 m c (p.val - 1) (Nat.lt_of_le_of_lt (Nat.sub_le _ _) p.isLt)).2.2 (ix2 0 e)
      + k0_pay5 (F := Ideal) (iblk m c 0 p) (iblk m c 1 p) (iblk m c 2 p) (ix2 0 e) := by
  rw [outsAt0_B m c p h0 h1]; dsimp only; unfold out0_B_7
  rw [View.read_writes_eq_canon _ _ _ (cover0_B_7 c _ _ _ _ _ _ _ _ _ _ _ _ _ _ _ _ _ _ _ _ _ _ _ _ _)]
  unfold kernelRun0_B
  dsimp only
  sl_unfold_words
  rw [View.canon_unit_zero hz2]
  simp only [View.readAt_eq_ld, (hs0_0 p).read_unread, (hs0_1 p).read_unread, (hs0_2 p).read_unread, (hs0_7 p).read_unread, View.ld_unit_zero (S := S512x2048) hz2, View.ld_unit_zero (S := S512x1) hz2, View.ld_unit_zero (S := S1x2048) hz2]
  unfold k0_pay7
  rw [shapeCast_self]
  rfl

/-- … and every block leaves its own rows' gradient. -/
theorem every5 : (outsAt0 m c p.val p.isLt).1 = k0_pay4 (F := Ideal) (iblk m c 0 p) (iblk m c 1 p) (iblk m c 2 p) (iblk m c 3 p) (iblk m c 4 p) := by
  have h8 : p.val < 8 := lt_of_lt_of_eq p.isLt N_0
  by_cases h1 : 1 ≤ p.val
  · rw [outsAt0_B m c p (by omega) h1]; dsimp only; unfold out0_B_5
    rw [View.read_writes_eq_canon _ _ _ (cover0_B_5 c _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 p).read_unread, (hs0_1 p).read_unread, (hs0_2 p).read_unread, (hs0_3 p).read_unread, (hs0_4 p).read_unread, View.ld_unit_zero (S := S512x2048) hz2, View.ld_unit_zero (S := S512x1) hz2, View.ld_unit_zero (S := S1x2048) hz2]
  · rw [outsAt0_A m c p (by omega) h1]; dsimp only; unfold out0_A_5
    rw [View.read_writes_eq_canon _ _ _ (cover0_A_5 c _ _ _ _ _ _ _ _ _ _ _ _ _ _ _ _ _ _ _ _ _ _ _ _)]
    unfold kernelRun0_A
    dsimp only
    sl_unfold_words
    rw [View.canon_unit_zero hz2]
    simp only [View.readAt_eq_ld, (hs0_0 p).read_unread, (hs0_1 p).read_unread, (hs0_2 p).read_unread, (hs0_3 p).read_unread, (hs0_4 p).read_unread, View.ld_unit_zero (S := S512x2048) hz2, View.ld_unit_zero (S := S512x1) hz2, View.ld_unit_zero (S := S1x2048) hz2]

/-- … and once more, cast. -/
theorem every6 : (outsAt0 m c p.val p.isLt).2.1 = k0_pay6 (F := Ideal) (iblk m c 0 p) (iblk m c 1 p) (iblk m c 2 p) (iblk m c 3 p) (iblk m c 4 p) := by
  have h8 : p.val < 8 := lt_of_lt_of_eq p.isLt N_0
  by_cases h1 : 1 ≤ p.val
  · rw [outsAt0_B m c p (by omega) h1]; dsimp only; unfold out0_B_6
    rw [View.read_writes_eq_canon _ _ _ (cover0_B_6 c _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 p).read_unread, (hs0_1 p).read_unread, (hs0_2 p).read_unread, (hs0_3 p).read_unread, (hs0_4 p).read_unread, View.ld_unit_zero (S := S512x2048) hz2, View.ld_unit_zero (S := S512x1) hz2, View.ld_unit_zero (S := S1x2048) hz2]
  · rw [outsAt0_A m c p (by omega) h1]; dsimp only; unfold out0_A_6
    rw [View.read_writes_eq_canon _ _ _ (cover0_A_6 c _ _ _ _ _ _ _ _ _ _ _ _ _ _ _ _ _ _ _ _ _ _ _ _)]
    unfold kernelRun0_A
    dsimp only
    sl_unfold_words
    rw [View.canon_unit_zero hz2]
    simp only [View.readAt_eq_ld, (hs0_0 p).read_unread, (hs0_1 p).read_unread, (hs0_2 p).read_unread, (hs0_3 p).read_unread, (hs0_4 p).read_unread, View.ld_unit_zero (S := S512x2048) hz2, View.ld_unit_zero (S := S512x1) hz2, View.ld_unit_zero (S := S1x2048) hz2]

end Cert.Kernel11Ideal.Norm

end
-- ==== Proof.SecondNorm.lean ====
/-
  The second normalisation's backward call as a whole (at the ideal values), and its reference: the first one's values, read
  from this call's arrays.
-/
module

public import proofs.«01_k».proof.Proof.SecondNormBlock

@[expose] public section

set_option maxRecDepth 16384

noncomputable section

namespace Cert.Kernel11Ideal.Norm

open Cert.Kernel11Ideal Cert.Kernel11Ideal.Gen Cert.Norm Cert.Mixer Cert.Products Idealize.ShloMosaic.TcCoe Idealize.SL.Sem
open Idealize.ShloMosaic hiding ix1 ix2 ix3 eq_ix1 eq_ix2 eq_ix3
open Idealize.ShloMosaic.ValueIdx
open Cert.Kernel10Ideal.Norm (row)

variable (m : (ℓ : Loc nD τ sig) → Buf (Elt Ideal) ℓ) (ρ : Dev nD → PrngReg) (c : Dev nD)

/-- The arrays the program is given: the input, the weight, the gradient of the output, and the gradient to add to. -/
abbrev X : S4096x2048.Idx → EReal := m ((c.tc : Thread nD τ).loc main_arg0)
abbrev W : S1x2048.Idx → EReal := m ((c.tc : Thread nD τ).loc main_arg1)
abbrev D : S4096x2048.Idx → EReal := m ((c.tc : Thread nD τ).loc main_arg2)
abbrev S : S4096x2048.Idx → EReal := m ((c.tc : Thread nD τ).loc main_arg3)

/-- The host's lines before the call leave the rows' inverse roots. -/
theorem roots (r : Fin 4096) : V m c main_v7 (ix2 r 0) = invNorm fun k => X m c (ix2 r k) := by
  have h : V m c main_v7 = Cert.Reference10Ideal.Read.val_main_v7 (F := Ideal) (X m c) := by
    show StableHlo.after hostOps0 (fun b => m (c, b)) (Proc.devRef .tc main_v7) = _
    after_results_simp
    rfl
  rw [h]
  exact Cert.Reference10Ideal.Norm.v7 (X m c) r

/-- Where the windows stand at each point. -/
theorem idx : ∀ p : Fin cfg0.N, (win0_0.index p 0 = p.val ∧ win0_0.index p 1 = 0) ∧ (win0_1.index p 0 = p.val ∧ win0_1.index p 1 = 0)
    ∧ (win0_2.index p 0 = p.val ∧ win0_2.index p 1 = 0) ∧ (win0_3.index p 0 = 0 ∧ win0_3.index p 1 = 0) ∧ (win0_4.index p 0 = p.val ∧ win0_4.index p 1 = 0)
    ∧ (win0_5.index p 0 = p.val ∧ win0_5.index p 1 = 0) ∧ (win0_6.index p 0 = p.val ∧ win0_6.index p 1 = 0) ∧ (win0_7.index p 0 = 0 ∧ win0_7.index p 1 = 0) :=
  (by decide +kernel : ∀ p : Fin grid0.N, _)

theorem lt8 (p : Fin cfg0.N) : p.val < 8 := lt_of_lt_of_eq p.isLt N_0

theorem blk0 (p : Fin cfg0.N) (r : Fin 512) (k : Fin 2048) : (iblk m c 0 p : Vec Ideal S512x2048 .bf16) (ix2 r k) = D m c (ix2 (row p.val (lt8 p) r) k) := by
  obtain ⟨⟨h0, h1⟩, -⟩ := idx p
  unfold iblk; rw [View.read_apply]
  refine Eq.trans ?_ (congrFun (V_main_arg2 m c) _)
  show V m c main_arg2 _ = V m c main_arg2 _
  congr 1; funext a; apply Fin.ext
  match a with
  | ⟨0, _⟩ => show win0_0.index p 0 * 512 + 1 * r.val = 512 * p.val + r.val; rw [h0]; omega
  | ⟨1, _⟩ => show win0_0.index p 1 * 2048 + 1 * k.val = k.val; rw [h1]; omega

theorem blk1 (p : Fin cfg0.N) (r : Fin 512) (k : Fin 2048) : (iblk m c 1 p : Vec Ideal S512x2048 .f32) (ix2 r k) = X m c (ix2 (row p.val (lt8 p) r) k) := by
  obtain ⟨-, ⟨h0, h1⟩, -⟩ := idx p
  unfold iblk; rw [View.read_apply]
  refine Eq.trans ?_ (congrFun (V_main_arg0 m c) _)
  show V m c main_arg0 _ = V m c main_arg0 _
  congr 1; funext a; apply Fin.ext
  match a with
  | ⟨0, _⟩ => show win0_1.index p 0 * 512 + 1 * r.val = 512 * p.val + r.val; rw [h0]; omega
  | ⟨1, _⟩ => show win0_1.index p 1 * 2048 + 1 * k.val = k.val; rw [h1]; omega

theorem blk2 (p : Fin cfg0.N) (r : Fin 512) : (iblk m c 2 p : Vec Ideal S512x1 .f32) (ix2 r 0) = invNorm fun k => X m c (ix2 (row p.val (lt8 p) r) k) := by
  obtain ⟨-, -, ⟨h0, h1⟩, -⟩ := idx p
  unfold iblk; rw [View.read_apply]
  refine Eq.trans ?_ (roots m c (row p.val (lt8 p) r))
  show V m c main_v7 _ = V m c main_v7 _
  congr 1; funext a; apply Fin.ext
  match a with
  | ⟨0, _⟩ => show win0_2.index p 0 * 512 + 1 * r.val = 512 * p.val + r.val; rw [h0]; omega
  | ⟨1, _⟩ => show win0_2.index p 1 * 1 + 1 * 0 = 0; rw [h1]

theorem blk3 (p : Fin cfg0.N) (k : Fin 2048) : (iblk m c 3 p : Vec Ideal S1x2048 .f32) (ix2 0 k) = W m c (ix2 0 k) := by
  obtain ⟨-, -, -, ⟨h0, h1⟩, -⟩ := idx p
  unfold iblk; rw [View.read_apply]
  refine Eq.trans ?_ (congrFun (V_main_arg1 m c) _)
  show V m c main_arg1 _ = V m c main_arg1 _
  congr 1; funext a; apply Fin.ext
  match a with
  | ⟨0, _⟩ => show win0_3.index p 0 * 1 + 1 * 0 = 0; rw [h0]
  | ⟨1, _⟩ => show win0_3.index p 1 * 2048 + 1 * k.val = k.val; rw [h1]; omega

theorem blk4 (p : Fin cfg0.N) (r : Fin 512) (k : Fin 2048) : (iblk m c 4 p : Vec Ideal S512x2048 .f32) (ix2 r k) = S m c (ix2 (row p.val (lt8 p) r) k) := by
  obtain ⟨-, -, -, -, ⟨h0, h1⟩, -⟩ := idx p
  unfold iblk; rw [View.read_apply]
  refine Eq.trans ?_ (congrFun (V_main_arg3 m c) _)
  show V m c main_arg3 _ = V m c main_arg3 _
  congr 1; funext a; apply Fin.ext
  match a with
  | ⟨0, _⟩ => show win0_4.index p 0 * 512 + 1 * r.val = 512 * p.val + r.val; rw [h0]; omega
  | ⟨1, _⟩ => show win0_4.index p 1 * 2048 + 1 * k.val = k.val; rw [h1]; omega

/-- A row's gradient added to the one given, and its part of the weight's gradient. -/
def rowGrad (r : Fin 4096) (e : Fin 2048) : EReal := S m c (ix2 r e)
  + backRow (fun k => X m c (ix2 r k)) (fun k => W m c (ix2 0 k)) (fun k => D m c (ix2 r k)) e (invNorm fun k => X m c (ix2 r k))
def part (r : Fin 4096) (e : Fin 2048) : EReal := D m c (ix2 r e) * (X m c (ix2 r e) * invNorm fun k => X m c (ix2 r k))

/-- The block of the rows' gradients a point leaves. -/
theorem at5 (p : Fin cfg0.N) (r : Fin 512) (e : Fin 2048) : (outsAt0 m c p.val p.isLt).1 (ix2 r e) = rowGrad m c (row p.val (lt8 p) r) e := by
  rw [every5]
  refine (Cert.Kernel10Ideal.Norm.pay4_apply _ _ _ _ _ r e).trans ?_
  unfold rowGrad
  simp only [blk0, blk1, blk2, blk3, blk4]

/-- Its cast is the same value. -/
theorem at6 (p : Fin cfg0.N) (r : Fin 512) (e : Fin 2048) : (outsAt0 m c p.val p.isLt).2.1 (ix2 r e) = rowGrad m c (row p.val (lt8 p) r) e :=
  (congrFun (every6 m c p) _).trans ((congrFun (every5 m c p) _).symm.trans (at5 m c p r e))

/-- The part of the weight's gradient of the `n`th block of rows. -/
def partAt (e : Fin 2048) (n : ℕ) (h : n < 8) : EReal := ∑ r : Fin 512, part m c (row n h r) e

theorem part_at (p : Fin cfg0.N) (e : Fin 2048) : k0_pay5 (F := Ideal) (iblk m c 0 p) (iblk m c 1 p) (iblk m c 2 p) (ix2 0 e) = partAt m c e p.val (lt8 p) := by
  refine (Cert.Kernel10Ideal.Norm.pay5_apply _ _ _ e).trans ?_
  unfold partAt part
  simp only [blk0, blk1, blk2]

/-- After point `n` the buffer holds the sum over the blocks so far. -/
theorem upTo7 (e : Fin 2048) : ∀ (n : ℕ) (h : n < cfg0.N), (outsAt0 m c n h).2.2 (ix2 0 e)
      = ∑ s : Fin (n + 1), partAt m c e s.val (by have := lt8 ⟨n, h⟩; have := s.isLt; dsimp only at *; omega)
  | 0, h => (congrFun (first7 m c ⟨0, h⟩ rfl (Nat.not_succ_le_zero 0)) _).trans ((part_at m c ⟨0, h⟩ e).trans (Fin.sum_univ_one fun s : Fin 1 => partAt m c e s.val (by omega)).symm)
  | n + 1, h => by
    have h8 := lt8 ⟨n + 1, h⟩
    refine (later7 m c ⟨n + 1, h⟩ (by dsimp only at *; omega) (by dsimp only; omega) e).trans ?_
    exact (congrArg₂ (fun a b : EReal => a + b) (upTo7 e n (by omega)) (part_at m c ⟨n + 1, h⟩ e)).trans (Fin.sum_univ_castSucc fun s : Fin (n + 1 + 1) => partAt m c e s.val (by have := s.isLt; dsimp only at *; omega)).symm

/-- The arrays the call leaves: the rows' gradient, uncast and cast, and the weight's. -/
def R5 : S4096x2048.Idx → EReal := fun i => rowGrad m c (i 0) (i 1)
def R7 : S1x2048.Idx → EReal := fun i => ∑ r : Fin 4096, part m c r (i 1)

theorem arr5 : (dats m 0 c).arrAt 5 cfg0.N = R5 m c := by
  refine (dats m 0 c).arrAt_eq_of_cover 5 (R5 m c) (fun p _ => ?_) fun i => ?_
  · obtain ⟨-, -, -, -, -, ⟨h0, h1⟩, -⟩ := idx p
    show (cfg0.win 5).cut _ ((dats m 0 c).after 5 _) = _
    rw [after0_5]
    funext j
    obtain ⟨r, e, rfl⟩ := any2 512 2048 j
    rw [View.read_apply]
    refine (at5 m c p r e).trans ?_
    show rowGrad m c _ _ = rowGrad m c _ _
    refine congrArg₂ (rowGrad m c) (Fin.ext ?_) (Fin.ext ?_)
    · show 512 * p.val + r.val = win0_5.index p 0 * 512 + 1 * r.val; rw [h0]; omega
    · show e.val = win0_5.index p 1 * 2048 + 1 * e.val; rw [h1]; omega
  · have hN : cfg0.N = 8 := N_0
    have hi : (i 0 : Nat) < 4096 := (i 0).isLt
    refine ⟨⟨(i 0 : Nat) / 512, by omega⟩, flush0_5 _, ?_⟩
    have hp : ((⟨(i 0 : Nat) / 512, by omega⟩ : Fin cfg0.N) : Nat) = (i 0 : Nat) / 512 := rfl
    generalize (⟨(i 0 : Nat) / 512, _⟩ : Fin cfg0.N) = p at hp ⊢
    obtain ⟨-, -, -, -, -, ⟨h0, h1⟩, -⟩ := idx p
    show i ∈ ((View.whole main_v8_0).slice (win0_5.rect p)).set
    rw [View.set_slice_whole, Rect.mem_set_unit]
    intro a
    match a with
    | ⟨0, _⟩ => show win0_5.index p 0 * 512 ≤ (i 0 : Nat) ∧ (i 0 : Nat) < win0_5.index p 0 * 512 + 512
                rw [h0, hp]; omega
    | ⟨1, _⟩ => show win0_5.index p 1 * 2048 ≤ (i 1 : Nat) ∧ (i 1 : Nat) < win0_5.index p 1 * 2048 + 2048
                rw [h1]; have : (i 1 : Nat) < 2048 := (i 1).isLt; omega

theorem arr6 : (dats m 0 c).arrAt 6 cfg0.N = R5 m c := by
  refine (dats m 0 c).arrAt_eq_of_cover 6 (R5 m c) (fun p _ => ?_) fun i => ?_
  · obtain ⟨-, -, -, -, -, -, ⟨h0, h1⟩, -⟩ := idx p
    show (cfg0.win 6).cut _ ((dats m 0 c).after 6 _) = _
    rw [after0_6]
    funext j
    obtain ⟨r, e, rfl⟩ := any2 512 2048 j
    rw [View.read_apply]
    refine (at6 m c p r e).trans ?_
    show rowGrad m c _ _ = rowGrad m c _ _
    refine congrArg₂ (rowGrad m c) (Fin.ext ?_) (Fin.ext ?_)
    · show 512 * p.val + r.val = win0_6.index p 0 * 512 + 1 * r.val; rw [h0]; omega
    · show e.val = win0_6.index p 1 * 2048 + 1 * e.val; rw [h1]; omega
  · have hN : cfg0.N = 8 := N_0
    have hi : (i 0 : Nat) < 4096 := (i 0).isLt
    refine ⟨⟨(i 0 : Nat) / 512, by omega⟩, flush0_6 _, ?_⟩
    have hp : ((⟨(i 0 : Nat) / 512, by omega⟩ : Fin cfg0.N) : Nat) = (i 0 : Nat) / 512 := rfl
    generalize (⟨(i 0 : Nat) / 512, _⟩ : Fin cfg0.N) = p at hp ⊢
    obtain ⟨-, -, -, -, -, -, ⟨h0, h1⟩, -⟩ := idx p
    show i ∈ ((View.whole main_v8_1).slice (win0_6.rect p)).set
    rw [View.set_slice_whole, Rect.mem_set_unit]
    intro a
    match a with
    | ⟨0, _⟩ => show win0_6.index p 0 * 512 ≤ (i 0 : Nat) ∧ (i 0 : Nat) < win0_6.index p 0 * 512 + 512
                rw [h0, hp]; omega
    | ⟨1, _⟩ => show win0_6.index p 1 * 2048 ≤ (i 1 : Nat) ∧ (i 1 : Nat) < win0_6.index p 1 * 2048 + 2048
                rw [h1]; have : (i 1 : Nat) < 2048 := (i 1).isLt; omega

theorem arr7 : (dats m 0 c).arrAt 7 cfg0.N = R7 m c := by
  refine (dats m 0 c).arrAt_eq_of_cover 7 (R7 m c) (fun p hf => ?_) fun i => ?_
  · have hp := (flush0_7 p).mp hf
    have h8 := lt8 p
    obtain ⟨-, -, -, -, -, -, -, ⟨h0, h1⟩⟩ := idx p
    obtain ⟨n, hn⟩ := p
    obtain rfl : n = 7 := by dsimp only at *; omega
    show (cfg0.win 7).cut _ ((dats m 0 c).after 7 _) = _
    rw [after0_7]
    funext j
    obtain ⟨s, e, rfl⟩ := any2 1 2048 j
    obtain rfl : s = 0 := Subsingleton.elim _ _
    rw [View.read_apply]
    refine (upTo7 m c e 7 hn).trans ?_
    have ei : ((cfg0.win 7).blk ⟨7, hn⟩).view.emb (ix2 0 e) 1 = e := Fin.ext (by
      show win0_7.index ⟨7, hn⟩ 1 * 2048 + 1 * e.val = e.val; rw [h1]; omega)
    refine Eq.trans ?_ (congrArg (fun q => ∑ r : Fin 4096, part m c r q) ei.symm)
    exact (sum_runs (b := 8) (n := 512) rfl fun r : Fin 4096 => part m c r e).symm
  · have hN : cfg0.N = 8 := N_0
    refine ⟨⟨7, by omega⟩, (flush0_7 _).mpr rfl, ?_⟩
    generalize (⟨7, _⟩ : Fin cfg0.N) = p
    obtain ⟨-, -, -, -, -, -, -, ⟨h0, h1⟩⟩ := idx p
    show i ∈ ((View.whole main_v8_2).slice (win0_7.rect p)).set
    rw [View.set_slice_whole, Rect.mem_set_unit]
    intro a
    match a with
    | ⟨0, _⟩ => show win0_7.index p 0 * 1 ≤ (i 0 : Nat) ∧ (i 0 : Nat) < win0_7.index p 0 * 1 + 1
                rw [h0]; have : (i 0 : Nat) < 1 := (i 0).isLt; omega
    | ⟨1, _⟩ => show win0_7.index p 1 * 2048 ≤ (i 1 : Nat) ∧ (i 1 : Nat) < win0_7.index p 1 * 2048 + 2048
                rw [h1]; have : (i 1 : Nat) < 2048 := (i 1).isLt; omega

/-- The run, read: the gradients, the arguments unchanged. -/
theorem run : θ_run defs (onTc (τ := τ) (main (F := Ideal))) ⟨m, fun _ => 0, ρ⟩ fun r => ∀ c : Dev nD,
      (r.2.mem ((c : Thread nD τ).loc main_v8_0) = R5 m c
      ∧ r.2.mem ((c : Thread nD τ).loc main_v8_1) = R5 m c
      ∧ r.2.mem ((c : Thread nD τ).loc main_v8_2) = R7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨⟨((h.1 c).1 5).trans (arr5 m c), ((h.1 c).1 6).trans (arr6 m c), ((h.1 c).1 7).trans (arr7 m c)⟩, h.2 c⟩)
    (θ_run_and (run_main m ρ) (unchanged m ρ))

end Cert.Kernel11Ideal.Norm

namespace Cert.Reference11Ideal.Norm

open Cert.Reference11Ideal Cert.Reference11Ideal.Gen Cert.Reference11Ideal.Read Cert.Norm Cert.Mixer Cert.Products
open Idealize.ShloMosaic hiding ix1 ix2 ix3 eq_ix1 eq_ix2 eq_ix3
open Idealize.ShloMosaic.ValueIdx

variable (x0 : S4096x2048.Idx → EReal) (x1 : S1x2048.Idx → EReal) (x2 x3 : S4096x2048.Idx → EReal)

/-- The reference's gradient of the rows … -/
theorem v35 (r : Fin 4096) (e : Fin 2048) : val_main_v35 (F := Ideal) x0 x1 x2 x3 (ix2 r e)
    = x3 (ix2 r e) + backRow (fun k => x0 (ix2 r k)) (fun k => x1 (ix2 0 k)) (fun k => x2 (ix2 r k)) e (invNorm fun k => x0 (ix2 r k)) :=
  (show val_main_v35 (F := Ideal) x0 x1 x2 x3 (ix2 r e) = Cert.Reference10Ideal.Read.val_main_v35 (F := Ideal) x0 x1 x2 x3 (ix2 r e) from rfl).trans
    (Cert.Reference10Ideal.Norm.v35 x0 x1 x2 x3 r e)

/-- … and of the weight. -/
theorem v18 (e : Fin 2048) : val_main_v18 (F := Ideal) x0 x2 (ix2 0 e) = ∑ r : Fin 4096, x2 (ix2 r e) * (x0 (ix2 r e) * invNorm fun k => x0 (ix2 r k)) :=
  (show val_main_v18 (F := Ideal) x0 x2 (ix2 0 e) = Cert.Reference10Ideal.Read.val_main_v18 (F := Ideal) x0 x2 (ix2 0 e) from rfl).trans
    (Cert.Reference10Ideal.Norm.v18 x0 x2 e)

end Cert.Reference11Ideal.Norm

end
-- ==== Proof.FirstNorm.lean ====
/-
  The first normalisation's forward call (at the ideal values): every grid point normalises its block of rows and leaves the
  rows' inverse roots; and its reference.
-/
module

public import proofs.«01_k».proof.Proof.Gen.Kernel12Ideal.Value
public import proofs.«01_k».proof.Proof.Gen.Reference12Ideal.Read
public import proofs.«01_k».proof.Proof.NormReference

@[expose] public section

set_option maxRecDepth 16384

noncomputable section

namespace Cert.Kernel12Ideal.Norm

open Cert.Kernel12Ideal Cert.Kernel12Ideal.Gen Cert.Norm Cert.Mixer Cert.Products Idealize.ShloMosaic.TcCoe Idealize.SL.Sem
open Idealize.ShloMosaic hiding ix1 ix2 ix3 eq_ix1 eq_ix2 eq_ix3
open Idealize.ShloMosaic.ValueIdx
open Cert.Kernel10Ideal.Norm (hz2 row column)

variable (x : Vec Ideal S512x2048 .f32) (w : Vec Ideal S1x2048 .f32)

/-- A block's inverse roots … -/
theorem pay1_apply (r : Fin 512) : k0_pay1 (F := Ideal) x (ix2 r 0) = invNorm fun k => x (ix2 r k) := by
  unfold k0_pay1
  refine congrArg Ideal.rsqrt (congrArg₂ (fun a b : EReal => a + b) (congrArg₂ Ideal.div ?_ rfl) rfl)
  refine (shapeCast_apply _ _ _ (ix1 r) (by
    rw [Shape.rowMajor_val_one, Shape.rowMajor_val_two]
    show r.val = r.val * 1 + 0; omega)).trans ?_
  show Ideal.reduceAdd _ _ (ix1 r) = _
  rw [Ideal.reduceAdd_r2_a1]
  rfl

/-- … and its rows, normalised and weighted. -/
theorem pay2_apply (r : Fin 512) (e : Fin 2048) : k0_pay2 (F := Ideal) x w (ix2 r e) = x (ix2 r e) * (invNorm fun k => x (ix2 r k)) * w (ix2 0 e) := by
  unfold k0_pay2
  exact congrArg₂ (fun a b : EReal => x (ix2 r e) * a * b) ((column _ r e).trans (pay1_apply x r)) (broadcastTo_1b_ab_apply w _ r e)

variable (m : (ℓ : Loc nD τ sig) → Buf (Elt Ideal) ℓ) (ρ : Dev nD → PrngReg) (c : Dev nD)

/-- The arrays the program is given: the rows and the weight. -/
abbrev X : S4096x2048.Idx → EReal := m ((c.tc : Thread nD τ).loc main_arg0)
abbrev W : S1x2048.Idx → EReal := m ((c.tc : Thread nD τ).loc main_arg1)

/-- Where the windows stand at each point. -/
theorem idx : ∀ p : Fin cfg0.N, (win0_0.index p 0 = p.val ∧ win0_0.index p 1 = 0) ∧ (win0_1.index p 0 = 0 ∧ win0_1.index p 1 = 0)
    ∧ (win0_2.index p 0 = p.val ∧ win0_2.index p 1 = 0) ∧ (win0_3.index p 0 = p.val ∧ win0_3.index p 1 = 0) :=
  (by decide +kernel : ∀ p : Fin grid0.N, _)

theorem lt8 (p : Fin cfg0.N) : p.val < 8 := lt_of_lt_of_eq p.isLt N_0

theorem blk0 (p : Fin cfg0.N) (r : Fin 512) (k : Fin 2048) : (iblk m c 0 p : Vec Ideal S512x2048 .f32) (ix2 r k) = X m c (ix2 (row p.val (lt8 p) r) k) := by
  obtain ⟨⟨h0, h1⟩, -⟩ := idx p
  unfold iblk; rw [View.read_apply]
  refine Eq.trans ?_ (congrFun (V_main_arg0 m c) _)
  show V m c main_arg0 _ = V m c main_arg0 _
  congr 1; funext a; apply Fin.ext
  match a with
  | ⟨0, _⟩ => show win0_0.index p 0 * 512 + 1 * r.val = 512 * p.val + r.val; rw [h0]; omega
  | ⟨1, _⟩ => show win0_0.index p 1 * 2048 + 1 * k.val = k.val; rw [h1]; omega

theorem blk1 (p : Fin cfg0.N) (k : Fin 2048) : (iblk m c 1 p : Vec Ideal S1x2048 .f32) (ix2 0 k) = W m c (ix2 0 k) := by
  obtain ⟨-, ⟨h0, h1⟩, -⟩ := idx p
  unfold iblk; rw [View.read_apply]
  refine Eq.trans ?_ (congrFun (V_main_arg1 m c) _)
  show V m c main_arg1 _ = V m c main_arg1 _
  congr 1; funext a; apply Fin.ext
  match a with
  | ⟨0, _⟩ => show win0_1.index p 0 * 1 + 1 * 0 = 0; rw [h0]
  | ⟨1, _⟩ => show win0_1.index p 1 * 2048 + 1 * k.val = k.val; rw [h1]; omega

/-- The two arrays the call leaves. -/
def R2 : S4096x2048.Idx → EReal := fun i => X m c (ix2 (i 0) (i 1)) * (invNorm fun k => X m c (ix2 (i 0) k)) * W m c (ix2 0 (i 1))
def R3 : S4096x1.Idx → EReal := fun i => invNorm fun k => X m c (ix2 (i 0) k)

theorem at2 (p : Fin cfg0.N) (r : Fin 512) (e : Fin 2048) : out0_2 (F := Ideal) (iblk m c 0 p) (iblk m c 1 p) (ix2 r e) = R2 m c (ix2 (row p.val (lt8 p) r) e) := by
  unfold out0_2
  rw [View.canon_unit_zero hz2]
  rw [View.ld_unit_zero (S := S512x2048) hz2, View.ld_unit_zero (S := S1x2048) hz2, pay2_apply]
  simp only [blk0, blk1]
  rfl

theorem at3 (p : Fin cfg0.N) (r : Fin 512) : out0_3 (F := Ideal) (iblk m c 0 p) (iblk m c 1 p) (ix2 r 0) = R3 m c (ix2 (row p.val (lt8 p) r) 0) := by
  unfold out0_3
  rw [View.canon_unit_zero hz2]
  rw [View.ld_unit_zero (S := S512x2048) hz2, pay1_apply]
  simp only [blk0]
  rfl

theorem arr2 : (dats m 0 c).arrAt 2 cfg0.N = R2 m c := by
  refine (dats m 0 c).arrAt_eq_of_cover 2 (R2 m c) (fun p _ => ?_) fun i => ?_
  · obtain ⟨-, -, ⟨h0, h1⟩, -⟩ := idx p
    show (cfg0.win 2).cut _ ((dats m 0 c).after 2 _) = _
    rw [after0_2]
    funext j
    obtain ⟨r, e, rfl⟩ := any2 512 2048 j
    rw [View.read_apply]
    refine (at2 m c p r e).trans ?_
    show R2 m c _ = R2 m c _
    congr 1; funext a; apply Fin.ext
    match a with
    | ⟨0, _⟩ => show 512 * p.val + r.val = win0_2.index p 0 * 512 + 1 * r.val; rw [h0]; omega
    | ⟨1, _⟩ => show e.val = win0_2.index p 1 * 2048 + 1 * e.val; rw [h1]; omega
  · have hN : cfg0.N = 8 := N_0
    have hi : (i 0 : Nat) < 4096 := (i 0).isLt
    refine ⟨⟨(i 0 : Nat) / 512, by omega⟩, flush0_2 _, ?_⟩
    have hp : ((⟨(i 0 : Nat) / 512, by omega⟩ : Fin cfg0.N) : Nat) = (i 0 : Nat) / 512 := rfl
    generalize (⟨(i 0 : Nat) / 512, _⟩ : Fin cfg0.N) = p at hp ⊢
    obtain ⟨-, -, ⟨h0, h1⟩, -⟩ := idx p
    show i ∈ ((View.whole main_v0_0).slice (win0_2.rect p)).set
    rw [View.set_slice_whole, Rect.mem_set_unit]
    intro a
    match a with
    | ⟨0, _⟩ => show win0_2.index p 0 * 512 ≤ (i 0 : Nat) ∧ (i 0 : Nat) < win0_2.index p 0 * 512 + 512
                rw [h0, hp]; omega
    | ⟨1, _⟩ => show win0_2.index p 1 * 2048 ≤ (i 1 : Nat) ∧ (i 1 : Nat) < win0_2.index p 1 * 2048 + 2048
                rw [h1]; have : (i 1 : Nat) < 2048 := (i 1).isLt; omega

theorem arr3 : (dats m 0 c).arrAt 3 cfg0.N = R3 m c := by
  refine (dats m 0 c).arrAt_eq_of_cover 3 (R3 m c) (fun p _ => ?_) fun i => ?_
  · obtain ⟨-, -, -, h0, h1⟩ := idx p
    show (cfg0.win 3).cut _ ((dats m 0 c).after 3 _) = _
    rw [after0_3]
    funext j
    obtain ⟨r, e, rfl⟩ := any2 512 1 j
    obtain rfl : e = 0 := Subsingleton.elim _ _
    rw [View.read_apply]
    refine (at3 m c p r).trans ?_
    show R3 m c _ = R3 m c _
    congr 1; funext a; apply Fin.ext
    match a with
    | ⟨0, _⟩ => show 512 * p.val + r.val = win0_3.index p 0 * 512 + 1 * r.val; rw [h0]; omega
    | ⟨1, _⟩ => show 0 = win0_3.index p 1 * 1 + 1 * 0; rw [h1]
  · have hN : cfg0.N = 8 := N_0
    have hi : (i 0 : Nat) < 4096 := (i 0).isLt
    refine ⟨⟨(i 0 : Nat) / 512, by omega⟩, flush0_3 _, ?_⟩
    have hp : ((⟨(i 0 : Nat) / 512, by omega⟩ : Fin cfg0.N) : Nat) = (i 0 : Nat) / 512 := rfl
    generalize (⟨(i 0 : Nat) / 512, _⟩ : Fin cfg0.N) = p at hp ⊢
    obtain ⟨-, -, -, h0, h1⟩ := idx p
    show i ∈ ((View.whole main_v0_1).slice (win0_3.rect p)).set
    rw [View.set_slice_whole, Rect.mem_set_unit]
    intro a
    match a with
    | ⟨0, _⟩ => show win0_3.index p 0 * 512 ≤ (i 0 : Nat) ∧ (i 0 : Nat) < win0_3.index p 0 * 512 + 512
                rw [h0, hp]; omega
    | ⟨1, _⟩ => show win0_3.index p 1 * 1 ≤ (i 1 : Nat) ∧ (i 1 : Nat) < win0_3.index p 1 * 1 + 1
                rw [h1]; have : (i 1 : Nat) < 1 := (i 1).isLt; omega

/-- The run, read: the normalised rows and the inverse roots, the arguments unchanged. -/
theorem run : θ_run defs (onTc (τ := τ) (main (F := Ideal))) ⟨m, fun _ => 0, ρ⟩ fun r => ∀ c : Dev nD,
      (r.2.mem ((c : Thread nD τ).loc main_v0_0) = R2 m c
      ∧ r.2.mem ((c : Thread nD τ).loc main_v0_1) = R3 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨⟨((h.1 c).1 2).trans (arr2 m c), ((h.1 c).1 3).trans (arr3 m c)⟩, h.2 c⟩)
    (θ_run_and (run_main m ρ) (unchanged m ρ))

end Cert.Kernel12Ideal.Norm

namespace Cert.Reference12Ideal.Norm

open Cert.Reference12Ideal Cert.Reference12Ideal.Gen Cert.Reference12Ideal.Read Cert.Mixer Cert.Products
open Idealize.ShloMosaic hiding ix1 ix2 ix3 eq_ix1 eq_ix2 eq_ix3
open Idealize.ShloMosaic.ValueIdx

variable (x0 : S4096x2048.Idx → EReal) (x1 : S1x2048.Idx → EReal)

/-- The reference's inverse roots … -/
theorem v20 (r : Fin 4096) : val_main_v20 (F := Ideal) x0 (ix2 r 0) = invNorm fun k => x0 (ix2 r k) :=
  (show val_main_v20 (F := Ideal) x0 (ix2 r 0) = Cert.Reference10Ideal.Read.val_main_v7 (F := Ideal) x0 (ix2 r 0) from rfl).trans (Cert.Reference10Ideal.Norm.v7 x0 r)

/-- … and its normalised rows. -/
theorem v12 (r : Fin 4096) (e : Fin 2048) : val_main_v12 (F := Ideal) x0 x1 (ix2 r e) = x0 (ix2 r e) * (invNorm fun k => x0 (ix2 r k)) * x1 (ix2 0 e) := by
  have hq : val_main_v8 (F := Ideal) x0 (ix2 r e) = invNorm fun k => x0 (ix2 r k) := by
    rw [val_main_v8_apply]
    refine Eq.trans ?_ (Cert.Reference10Ideal.Norm.v7 x0 r)
    show val_main_v7 (F := Ideal) x0 _ = val_main_v7 (F := Ideal) x0 _
    congr 1; funext a; match a with | ⟨0, _⟩ => rfl | ⟨1, _⟩ => rfl
  rw [val_main_v12_apply, val_main_v11_apply, val_main_v9_apply, val_main_v10_apply, hq]
  refine congrArg (fun a : EReal => x0 (ix2 r e) * (invNorm fun k => x0 (ix2 r k)) * a) ?_
  show x1 _ = x1 _
  congr 1; funext a; match a with | ⟨0, _⟩ => rfl | ⟨1, _⟩ => rfl

end Cert.Reference12Ideal.Norm

end
-- ==== Proof.BiasGradient.lean ====
/-
  The bias's gradient (at the ideal values): the product with the matrix that selects, for each column offset, the places
  of a tile that stand at it, and the reference's sum over the places.
-/
module

public import proofs.«01_k».proof.Proof.Products
public import proofs.«01_k».proof.Proof.Gen.Kernel13Ideal.Frame
public import proofs.«01_k».proof.Proof.Gen.Reference13Ideal.Read

@[expose] public section

set_option maxRecDepth 16384

noncomputable section

namespace Cert.Reference13Ideal.Bias

open Cert.Reference13Ideal Cert.Reference13Ideal.Gen Cert.Reference13Ideal.Read Cert.Products
open Idealize.ShloMosaic
open Idealize.ShloMosaic.ValueIdx

/-- The place `(q, k)` of a tile stands at the column offset with this word … -/
abbrev off (q k : Fin 64) : BitVec 32 := val_main_v27 (F := Ideal) (ix2 q k)
/-- … and this bit says whether column `k` is in the neighbourhood of column `q`. -/
abbrev near (q k : Fin 64) : BitVec 1 := val_main_v17 (F := Ideal) (ix2 q k)

/-- The row and the column of the `j`th place of a tile. -/
abbrev q (j : Fin 4096) : Fin 64 := ⟨j.val / 64, by omega⟩
abbrev k (j : Fin 4096) : Fin 64 := ⟨j.val % 64, by omega⟩

/-- The offset's word, written out … -/
theorem off_word (a b : Fin 64) : off a b = IntOp.subi (IntOp.addi (IntOp.minsi 15#32 (IntOp.maxsi 4294967281#32 (IntOp.subi (BitVec.ofNat 32 b.val) (BitVec.ofNat 32 a.val)))) 16#32) 1#32 := by
  show val_main_v27 (F := Ideal) (ix2 a b) = _
  simp only [val_main_v27_apply, val_main_v26_apply, val_main_c_6_apply, val_main_v25_apply, val_main_v24_apply, val_main_c_5_apply, val_main_v23_apply,
    val_main_call1_v4_apply, val_main_call1_v3_apply, val_main_c_4_apply, val_main_call1_v2_apply, val_main_call1_v1_apply, val_main_call1_v0_apply, val_main_c_3_apply,
    val_main_v22_apply, val_main_v21_apply, val_main_v20_apply, val_main_v19_apply, val_main_v18_apply, val_main_v1_apply]

/-- … is one of 31 numbers, so reading it as an index changes nothing. -/
theorem off_table : ∀ a b : Fin 64, (fun w : BitVec 32 => (Scalar.select (IntOp.cmpi .slt w 0#32) (IntOp.addi w 31#32) w) = w ∧ w.toInt = (w.toNat : ℤ) ∧ w.toNat < 31)
    (IntOp.subi (IntOp.addi (IntOp.minsi 15#32 (IntOp.maxsi 4294967281#32 (IntOp.subi (BitVec.ofNat 32 b.val) (BitVec.ofNat 32 a.val)))) 16#32) 1#32) := by
  decide +kernel

theorem off_int (a b : Fin 64) : (val_main_v32 (F := Ideal) (ix2 a b)).toInt = ((off a b).toNat : ℤ) := by
  obtain ⟨h0, h1, -⟩ := off_table a b
  rw [← off_word a b] at h0 h1
  refine Eq.trans (congrArg BitVec.toInt ?_) h1
  rw [val_main_v32_apply, val_main_v31_apply, val_main_v29_apply, val_main_v30_apply, val_main_v28_apply, val_main_c_8_apply, val_main_c_7_apply]
  exact h0

theorem off_lt (a b : Fin 64) : (off a b).toNat < 31 := by
  obtain ⟨-, -, h⟩ := off_table a b
  rwa [← off_word a b] at h

/-- The axes the sum over the places runs along. -/
abbrev dims : ScatterDims S4x15x31 S64x64x1 S4x15x64x64 := scatter_S4x15x31_S64x64x1_S4x15x64x64_01_2_2_2

/-- Where the sum puts the place `(a, b)` of a tile when its index is `n`. -/
theorem lands_at (v : IVec S64x64x1 32) (h : Fin 4) (d : Fin 15) (a b : Fin 64) (n : ℕ) (hn : n < 31) (hv : (v (ix3 a b 0)).toInt = (n : ℤ)) :
    ScatterDims.resultIdx? dims (ix4 h d a b) v = some (ix3 h d ⟨n, hn⟩) := by
  have s0 : ScatterDims.start dims (ix4 h d a b) v 0 = 0 := rfl
  have s1 : ScatterDims.start dims (ix4 h d a b) v 1 = 0 := rfl
  have s2 : ScatterDims.start dims (ix4 h d a b) v 2 = (n : ℤ) := by
    refine Eq.trans (congrArg (fun y => (v y).toInt) ?_) hv
    funext x; match x with | ⟨0, _⟩ => rfl | ⟨1, _⟩ => rfl | ⟨2, _⟩ => rfl
  have w0 : ScatterDims.window dims (ix4 h d a b) 0 = h.val := rfl
  have w1 : ScatterDims.window dims (ix4 h d a b) 1 = d.val := rfl
  have w2 : ScatterDims.window dims (ix4 h d a b) 2 = 0 := rfl
  have t0 : ScatterDims.start dims (ix4 h d a b) v 0 + (ScatterDims.window dims (ix4 h d a b) 0 : ℕ) = (h.val : ℤ) := by rw [s0, w0]; omega
  have t1 : ScatterDims.start dims (ix4 h d a b) v 1 + (ScatterDims.window dims (ix4 h d a b) 1 : ℕ) = (d.val : ℤ) := by rw [s1, w1]; omega
  have t2 : ScatterDims.start dims (ix4 h d a b) v 2 + (ScatterDims.window dims (ix4 h d a b) 2 : ℕ) = (n : ℤ) := by rw [s2, w2]; omega
  have hh := h.isLt
  have hd := d.isLt
  clear s0 s1 s2 w0 w1 w2
  have hall : ∀ x : Fin S4x15x31.rank, 0 ≤ ScatterDims.start dims (ix4 h d a b) v x + (ScatterDims.window dims (ix4 h d a b) x : ℕ)
      ∧ ScatterDims.start dims (ix4 h d a b) v x + (ScatterDims.window dims (ix4 h d a b) x : ℕ) < (S4x15x31.size x : ℤ) := fun x => match x with
    | ⟨0, _⟩ => ⟨t0.symm ▸ (by omega : (0 : ℤ) ≤ h.val), lt_of_eq_of_lt t0 (by show (h.val : ℤ) < ((4 : ℕ) : ℤ); omega)⟩
    | ⟨1, _⟩ => ⟨t1.symm ▸ (by omega : (0 : ℤ) ≤ d.val), lt_of_eq_of_lt t1 (by show (d.val : ℤ) < ((15 : ℕ) : ℤ); omega)⟩
    | ⟨2, _⟩ => ⟨t2.symm ▸ (by omega : (0 : ℤ) ≤ n), lt_of_eq_of_lt t2 (by show (n : ℤ) < ((31 : ℕ) : ℤ); omega)⟩
  refine (dif_pos hall).trans (congrArg some (funext fun x => Fin.ext ?_))
  match x with
  | ⟨0, _⟩ => exact (congrArg Int.toNat t0).trans (Int.toNat_natCast _)
  | ⟨1, _⟩ => exact (congrArg Int.toNat t1).trans (Int.toNat_natCast _)
  | ⟨2, _⟩ => exact (congrArg Int.toNat t2).trans (Int.toNat_natCast _)

/-- Where it puts it: at the place's offset. -/
theorem lands (h : Fin 4) (d : Fin 15) (a b : Fin 64) :
    ScatterDims.resultIdx? dims (ix4 h d a b) (val_main_v33 (F := Ideal)) = some (ix3 h d ⟨(off a b).toNat, off_lt a b⟩) := by
  refine lands_at _ h d a b _ (off_lt a b) (Eq.trans (congrArg BitVec.toInt ?_) (off_int a b))
  refine (val_main_v33_apply _).trans (congrArg (val_main_v32 (F := Ideal)) ?_)
  funext x; match x with | ⟨0, _⟩ => rfl | ⟨1, _⟩ => rfl

/-- The sum over the places of a tile that stand at offset `e` in a neighbourhood. -/
def total (x0 : S4x15x64x64.Idx → EReal) (h : Fin 4) (d : Fin 15) (e : Fin 31) : EReal :=
  ∑ j : Fin 4096, if (off (q j) (k j)).toNat = e.val ∧ near (q j) (k j) = 1 then x0 (ix4 h d (q j) (k j)) else 0

theorem v36 (x0 : S4x15x64x64.Idx → EReal) (h : Fin 4) (d : Fin 15) (a b : Fin 64) :
    val_main_v36 (F := Ideal) x0 (ix4 h d a b) = if near a b = 1 then x0 (ix4 h d a b) else 0 := by
  rw [val_main_v36_apply, val_main_v35_1_apply, val_main_call3_v0_apply, val_main_call3_cst_apply]
  refine Eq.trans (congrArg (Scalar.select _ _) zero_word) ?_
  rfl

/-- The reference's gradient. -/
theorem v38 (x0 : S4x15x64x64.Idx → EReal) (h : Fin 4) (d : Fin 15) (e : Fin 31) :
    val_main_v38 (F := Ideal) x0 (ix3 h d e) = total x0 h d e := by
  show val_main_v37 (F := Ideal) (ix3 h d e) + ∑ j ∈ Finset.univ.filter (fun j => ScatterDims.resultIdx? dims j (val_main_v33 (F := Ideal)) = some (ix3 h d e)), val_main_v36 (F := Ideal) x0 j = _
  rw [val_main_v37_apply, val_main_cst_10_apply]
  refine (congrArg (fun a : EReal => a + _) zero_word).trans ((zero_add _).trans ?_)
  rw [Finset.sum_filter]
  symm
  refine Finset.sum_of_injOn (fun j : Fin 4096 => (ix4 h d (q j) (k j) : S4x15x64x64.Idx)) ?_ (fun _ _ => Finset.mem_coe.mpr (Finset.mem_univ _)) ?_ ?_
  · intro i _ j _ hij
    have h2 : i.val / 64 = j.val / 64 := congrArg Fin.val (congrFun hij 2)
    have h3 : i.val % 64 = j.val % 64 := congrArg Fin.val (congrFun hij 3)
    exact Fin.ext (by omega)
  · intro i _ hi
    rw [if_neg]
    intro hr
    apply hi
    obtain ⟨h', d', a, b, rfl⟩ : ∃ h' d' a b, i = ix4 h' d' a b := ⟨i 0, i 1, i 2, i 3, eq_ix4 i⟩
    rw [lands] at hr
    have hr := Option.some.inj hr
    have e0 : h' = h := congrFun hr 0
    have e1 : d' = d := congrFun hr 1
    subst e0; subst e1
    refine ⟨⟨64 * a.val + b.val, by omega⟩, Finset.mem_coe.mpr (Finset.mem_univ _), ?_⟩
    have ea : q ⟨64 * a.val + b.val, by omega⟩ = a := Fin.ext (by show (64 * a.val + b.val) / 64 = a.val; omega)
    have eb : k ⟨64 * a.val + b.val, by omega⟩ = b := Fin.ext (by show (64 * a.val + b.val) % 64 = b.val; omega)
    show ix4 h' d' (q _) (k _) = _
    rw [ea, eb]
  · intro j _
    rw [lands, v36]
    by_cases he : (off (q j) (k j)).toNat = e.val
    · rw [if_pos (congrArg some (congrArg (ix3 h d) (Fin.ext he)))]
      by_cases hn : near (q j) (k j) = 1
      · rw [if_pos ⟨he, hn⟩, if_pos hn]
      · rw [if_neg fun h => hn h.2, if_neg hn]
    · rw [if_neg fun h => he h.1]
      have hne : (some (ix3 h d ⟨(off (q j) (k j)).toNat, off_lt (q j) (k j)⟩) : Option S4x15x31.Idx) ≠ some (ix3 h d e) := fun h' => by
        have h2 : (ix3 h d ⟨(off (q j) (k j)).toNat, off_lt (q j) (k j)⟩ : S4x15x31.Idx) 2 = (ix3 h d e : S4x15x31.Idx) 2 := congrFun (Option.some.inj h') 2
        exact he (congrArg Fin.val h2)
      exact (if_neg hne).symm

/-- The reference's result, its rows the pairs of a head and a row offset. -/
theorem v39 (x0 : S4x15x64x64.Idx → EReal) (r : Fin 60) (e : Fin 31) :
    val_main_v39 (F := Ideal) x0 (ix2 r e) = total x0 ⟨r.val / 15, by omega⟩ ⟨r.val % 15, by omega⟩ e := by
  rw [val_main_v39_apply]
  refine Eq.trans (congrArg (val_main_v38 (F := Ideal) x0) ?_) (v38 x0 _ _ e)
  funext x; apply Fin.ext
  match x with
  | ⟨0, _⟩ => show (r.val * 31 + e.val) / 465 = r.val / 15; omega
  | ⟨1, _⟩ => show (r.val * 31 + e.val) / 31 % 15 = r.val % 15; omega
  | ⟨2, _⟩ => show (r.val * 31 + e.val) % 31 = e.val; omega

end Cert.Reference13Ideal.Bias

namespace Cert.Kernel13Ideal.Bias

open Cert.Kernel13Ideal Cert.Kernel13Ideal.Gen Cert.Products Idealize.ShloMosaic.TcCoe Idealize.SL.Sem
open Idealize.ShloMosaic Idealize.ShloMosaic.ValueIdx
open Cert.Reference13Ideal.Bias (off near q k off_lt total)

variable (m : (ℓ : Loc nD τ sig) → Buf (Elt Ideal) ℓ) (ρ : Dev nD → PrngReg) (c : Dev nD)

/-- The gradient of the tiles. -/
abbrev D : S4x15x64x64.Idx → EReal := m ((c.tc : Thread nD τ).loc main_arg0)

/-- The selecting array: one where the place stands at the offset and in the neighbourhood, zero elsewhere. -/
def sel : S128x64x64.Idx → EReal :=
  select (andi (cmpi .eq (broadcastInDim S128x64x64 ![0, 1, 2] bcast_S128x1x1_S128x64x64_0_1_2 (broadcastInDim S128x1x1 ![0] bcast_S128_S128x1x1_0 (iotaInDim S128 32 0)))
      (broadcastInDim S128x64x64 ![0, 1, 2] bcast_S1x64x64_S128x64x64_0_1_2 (broadcastInDim S1x64x64 ![1, 2] bcast_S64x64_S1x64x64_1_2 (Cert.Reference13Ideal.Read.val_main_v27 (F := Ideal)))))
    (broadcastInDim S128x64x64 ![0, 1, 2] bcast_S1x64x64_S128x64x64_0_1_2 (broadcastInDim S1x64x64 ![1, 2] bcast_S64x64_S1x64x64_1_2 (Cert.Reference13Ideal.Read.val_main_v17 (F := Ideal)))))
    (broadcastInDim S128x64x64 ![] bcast_S_S128x64x64 (constant (F := Ideal) S_ .f32 0x3F800000#32)) (broadcastInDim S128x64x64 ![] bcast_S_S128x64x64 (constant (F := Ideal) S_ .f32 0x00000000#32))

theorem V_sel : V m c main_v38 = shapeCast S128x4096 sel shapeCasts_S128x64x64_S128x4096 := by
  show StableHlo.after _ _ (Proc.devRef .tc main_v38) = _
  simp only [List.flatten_cons, List.flatten_nil, List.append_nil, List.cons_append, List.nil_append]
  after_results_simp
  rfl

theorem V_tiles : V m c main_v42 = shapeCast S60x4096 (D m c) shapeCasts_S4x15x64x64_S60x4096 := by
  show StableHlo.after _ _ (Proc.devRef .tc main_v42) = _
  simp only [List.flatten_cons, List.flatten_nil, List.append_nil, List.cons_append, List.nil_append]
  after_results_simp
  rfl

/-- The comparison's and the conjunction's bits, read. -/
theorem bits (n : Fin 128) (w : BitVec 32) (b : BitVec 1) (x y : EReal) :
    Scalar.select (IntOp.andi (IntOp.cmpi .eq (BitVec.ofNat 32 n.val) w) b) x y = if w.toNat = n.val ∧ b = 1 then x else y := by
  have hw : (BitVec.ofNat 32 n.val = w) ↔ (w.toNat = n.val) := by
    rw [← BitVec.toNat_inj, BitVec.toNat_ofNat, Nat.mod_eq_of_lt (by omega)]; exact eq_comm
  have hb : ∀ t b : BitVec 1, (IntOp.andi t b = 1) ↔ (t = 1 ∧ b = 1) := by decide
  have hc : (IntOp.cmpi .eq (BitVec.ofNat 32 n.val) w = 1) ↔ (BitVec.ofNat 32 n.val = w) := by
    show (BitVec.ofBool (BitVec.ofNat 32 n.val == w) = 1) ↔ _
    by_cases e : BitVec.ofNat 32 n.val = w
    · rw [beq_iff_eq.mpr e]; exact ⟨fun _ => e, fun _ => rfl⟩
    · rw [beq_eq_false_iff_ne.mpr e]; exact ⟨fun h => absurd h (by decide), fun h => absurd h e⟩
  unfold Scalar.select
  exact if_congr ((hb _ _).trans (and_congr (hc.trans hw) Iff.rfl)) rfl rfl

theorem spread {w : ℕ} (v : IVec S64x64 w) (n : Fin 128) (a b : Fin 64) :
    broadcastInDim S128x64x64 ![0, 1, 2] bcast_S1x64x64_S128x64x64_0_1_2 (broadcastInDim S1x64x64 ![1, 2] bcast_S64x64_S1x64x64_1_2 v) (ix3 n a b) = v (ix2 a b) :=
  (broadcastInDim_apply _ _ _ _ (ix3 0 a b) (fun x => match x with | ⟨0, _⟩ => rfl | ⟨1, _⟩ => rfl | ⟨2, _⟩ => rfl)).trans
    (broadcastInDim_apply _ _ _ _ (ix2 a b) (fun x => match x with | ⟨0, _⟩ => rfl | ⟨1, _⟩ => rfl))

theorem count (n : Fin 128) (a b : Fin 64) : broadcastInDim S128x64x64 ![0, 1, 2] bcast_S128x1x1_S128x64x64_0_1_2
    (broadcastInDim S128x1x1 ![0] bcast_S128_S128x1x1_0 (iotaInDim S128 32 0)) (ix3 n a b) = BitVec.ofNat 32 n.val :=
  (broadcastInDim_apply _ _ _ _ (ix3 n 0 0) (fun x => match x with | ⟨0, _⟩ => rfl | ⟨1, _⟩ => rfl | ⟨2, _⟩ => rfl)).trans
    (broadcastInDim_apply _ _ _ _ (ix1 n) (fun x => match x with | ⟨0, _⟩ => rfl))

theorem fill (w : BitVec 32) (i : S128x64x64.Idx) : broadcastInDim S128x64x64 ![] bcast_S_S128x64x64 (constant (F := Ideal) S_ .f32 w) i = Ideal.ofBits .f32 w := rfl

theorem select_at (u v : IVec S128x64x64 32) (w : IVec S128x64x64 1) (x y : S128x64x64.Idx → EReal) (i : S128x64x64.Idx) :
    select (andi (cmpi .eq u v) w) x y i = Scalar.select (IntOp.andi (IntOp.cmpi .eq (u i) (v i)) (w i)) (x i) (y i) := rfl

/-- The selecting array at a place. -/
theorem sel_apply (n : Fin 128) (a b : Fin 64) : sel (ix3 n a b) = if (off a b).toNat = n.val ∧ near a b = 1 then (1 : EReal) else 0 := by
  unfold sel
  rw [select_at, count, spread, spread, fill, fill, Ideal.ofBits_one_f32, zero_word]
  exact bits n (off a b) (near a b) 1 0

/-- Where the windows stand at the one point: at the start of their arrays. -/
theorem idx : ∀ p : Fin cfg0.N, (win0_0.index p 0 = 0 ∧ win0_0.index p 1 = 0) ∧ (win0_1.index p 0 = 0 ∧ win0_1.index p 1 = 0) ∧ (win0_2.index p 0 = 0 ∧ win0_2.index p 1 = 0) :=
  (by decide +kernel : ∀ p : Fin grid0.N, _)

/-- The first factor's block: row `r` holds the tile of a head and a row offset. -/
theorem blk0 (p : Fin cfg0.N) (r : Fin 60) (j : Fin 4096) : (iblk m c 0 p : Vec Ideal S60x4096 .f32) (ix2 r j) = D m c (ix4 ⟨r.val / 15, by omega⟩ ⟨r.val % 15, by omega⟩ (q j) (k j)) := by
  obtain ⟨⟨h0, h1⟩, -⟩ := idx p
  unfold iblk; rw [View.read_apply]
  have e : V m c main_v42 (ix2 r j) = D m c (ix4 ⟨r.val / 15, by omega⟩ ⟨r.val % 15, by omega⟩ (q j) (k j)) := by
    rw [V_tiles]
    exact shapeCast_apply _ _ _ _ (by
      rw [Shape.rowMajor_val_four, Shape.rowMajor_val_two]
      show ((r.val / 15 * 15 + r.val % 15) * 64 + j.val / 64) * 64 + j.val % 64 = r.val * 4096 + j.val
      omega)
  refine Eq.trans ?_ e
  show V m c main_v42 _ = V m c main_v42 _
  congr 1; funext a; apply Fin.ext
  match a with
  | ⟨0, _⟩ => show win0_0.index p 0 * 60 + 1 * r.val = r.val; rw [h0]; omega
  | ⟨1, _⟩ => show win0_0.index p 1 * 4096 + 1 * j.val = j.val; rw [h1]; omega

/-- The second factor's block: the selecting array. -/
theorem blk1 (p : Fin cfg0.N) (n : Fin 128) (j : Fin 4096) : @Eq EReal ((iblk m c 1 p : Vec Ideal S128x4096 .f32) (ix2 n j)) (if (off (q j) (k j)).toNat = n.val ∧ near (q j) (k j) = 1 then 1 else 0) := by
  obtain ⟨-, ⟨h0, h1⟩, -⟩ := idx p
  unfold iblk; rw [View.read_apply]
  have e : V m c main_v38 (ix2 n j) = sel (ix3 n (q j) (k j)) := by
    rw [V_sel]
    exact shapeCast_apply _ _ _ _ (by
      rw [Shape.rowMajor_val_three, Shape.rowMajor_val_two]
      show (n.val * 64 + j.val / 64) * 64 + j.val % 64 = n.val * 4096 + j.val
      omega)
  refine Eq.trans ?_ (e.trans (sel_apply n (q j) (k j)))
  show V m c main_v38 _ = V m c main_v38 _
  congr 1; funext a; apply Fin.ext
  match a with
  | ⟨0, _⟩ => show win0_1.index p 0 * 128 + 1 * n.val = n.val; rw [h0]; omega
  | ⟨1, _⟩ => show win0_1.index p 1 * 4096 + 1 * j.val = j.val; rw [h1]; omega

/-- The block the body leaves: the product of its two factors. -/
theorem pay_apply (x0 : Vec Ideal S60x4096 .f32) (x1 : Vec Ideal S128x4096 .f32) (r : Fin 60) (n : Fin 128) :
    k0_pay1 (F := Ideal) x0 x1 (ix2 r n) = ∑ j : Fin 4096, x0 (ix2 r j) * x1 (ix2 n j) := by
  unfold k0_pay1
  rw [shapeCast_self, shapeCast_self]
  show FloatOps.matmul (F := Ideal) (DotDims.transposedRhs 60 4096 128) (some .fp32) x0 x1 (constant S60x128 .f32 0x00000000#32) (ix2 r n) = _
  rw [Ideal.matmul_transposedRhs_apply]
  show Ideal.ofBits .f32 0x00000000#32 + _ = _
  rw [zero_word, zero_add]

/-- The product's value at a row and a column. -/
def prod (x0 : S4x15x64x64.Idx → EReal) (r : Fin 60) (n : ℕ) : EReal :=
  ∑ j : Fin 4096, x0 (ix4 ⟨r.val / 15, by omega⟩ ⟨r.val % 15, by omega⟩ (q j) (k j)) * (if (off (q j) (k j)).toNat = n ∧ near (q j) (k j) = 1 then 1 else 0)

/-- It is the sum of the reference. -/
theorem prod_eq (x0 : S4x15x64x64.Idx → EReal) (r : Fin 60) (e : Fin 31) : prod x0 r e.val = total x0 ⟨r.val / 15, by omega⟩ ⟨r.val % 15, by omega⟩ e := by
  unfold prod total
  refine Finset.sum_congr rfl fun j _ => ?_
  rw [mul_ite, mul_one, mul_zero]

/-- The array the call leaves. -/
def R2 : S60x128.Idx → EReal := fun i => prod (D m c) (i 0) (i 1).val

theorem hz2 : (![0, 0] : Fin 2 → ℕ) = fun _ => 0 := by decide

theorem at2 (p : Fin cfg0.N) (r : Fin 60) (n : Fin 128) : (out0_2 (F := Ideal) (iblk m c 0 p) (iblk m c 1 p) : Vec Ideal S60x128 .f32) (ix2 r n) = R2 m c (ix2 r n) := by
  unfold out0_2
  rw [View.canon_unit_zero hz2]
  rw [View.ld_unit_zero (S := S60x4096) hz2, View.ld_unit_zero (S := S128x4096) hz2, pay_apply]
  exact Finset.sum_congr rfl fun j _ => congrArg₂ (fun a b : EReal => a * b) (blk0 m c p r j) (blk1 m c p n j)

theorem arr2 : (dats m 0 c).arrAt 2 cfg0.N = R2 m c := by
  refine (dats m 0 c).arrAt_eq_of_cover 2 (R2 m c) (fun p _ => ?_) fun i => ?_
  · obtain ⟨-, -, h0, h1⟩ := idx p
    show (cfg0.win 2).cut _ ((dats m 0 c).after 2 p) = _
    rw [after0_2]
    funext j
    obtain ⟨r, n, rfl⟩ := any2 60 128 j
    rw [View.read_apply]
    refine (at2 m c p r n).trans ?_
    show R2 m c _ = R2 m c _
    congr 1; funext a; apply Fin.ext
    match a with
    | ⟨0, _⟩ => show r.val = win0_2.index p 0 * 60 + 1 * r.val; rw [h0]; omega
    | ⟨1, _⟩ => show n.val = win0_2.index p 1 * 128 + 1 * n.val; rw [h1]; omega
  · have hN : cfg0.N = 1 := N_0
    refine ⟨⟨0, by omega⟩, flush0_2 _, ?_⟩
    generalize (⟨0, _⟩ : Fin cfg0.N) = p
    obtain ⟨-, -, h0, h1⟩ := idx p
    show i ∈ ((View.whole main_v43).slice (win0_2.rect p)).set
    rw [View.set_slice_whole, Rect.mem_set_unit]
    intro a
    match a with
    | ⟨0, _⟩ => show win0_2.index p 0 * 60 ≤ (i 0 : Nat) ∧ (i 0 : Nat) < win0_2.index p 0 * 60 + 60
                rw [h0]; have : (i 0 : Nat) < 60 := (i 0).isLt; omega
    | ⟨1, _⟩ => show win0_2.index p 1 * 128 ≤ (i 1 : Nat) ∧ (i 1 : Nat) < win0_2.index p 1 * 128 + 128
                rw [h1]; have : (i 1 : Nat) < 128 := (i 1).isLt; omega

/-- The result: its first columns. -/
def R : S60x31.Idx → EReal := fun i => prod (D m c) (i 0) (i 1).val

/-- The line after the call keeps the columns of the offsets. -/
theorem tail : Pipeline.afterTail₀ cfgs (dats m) 0 (V0 m) [hostOps1] c main_v44 = R m c := by
  have hA : Pipeline.withArrays spec0 c (V0 m c) (fun w => (dats m 0 c).arrAt w cfg0.N) (Proc.devRef .tc main_v43) = R2 m c :=
    (Pipeline.withArrays_arr spec0 launch0.win.arr_inj c (V0 m c) _ 2).trans (arr2 m c)
  show StableHlo.after hostOps1 (Pipeline.withArrays spec0 c (V0 m c) fun w => (dats m 0 c).arrAt w cfg0.N) (Proc.devRef .tc main_v44) = _
  after_results_simp
  rw [hA]
  funext i
  obtain ⟨r, e, rfl⟩ := any2 60 31 i
  exact extractStridedSlice_apply _ _ _ _ (ix2 r (⟨e.val, by omega⟩ : Fin 128)) (fun a => match a with
    | ⟨0, _⟩ => by show r.val = 0 + r.val; omega
    | ⟨1, _⟩ => by show e.val = 0 + e.val; omega)

/-- The run, read: the bias's gradient, the argument unchanged. -/
theorem run : θ_run defs (onTc (τ := τ) (main (F := Ideal))) ⟨m, fun _ => 0, ρ⟩ fun r => ∀ c : Dev nD,
      r.2.mem ((c : Thread nD τ).loc main_v44) = R m c
      ∧ r.2.mem ((c : Thread nD τ).loc main_arg0) = m ((c : Thread nD τ).loc main_arg0) :=
  (θ_run defs _ _).mono (fun _ h c => ⟨((h.1 c).2 main_v44 (by decide)).trans (tail m c), h.2 c⟩)
    (θ_run_and (run_main m ρ) (unchanged m ρ))

end Cert.Kernel13Ideal.Bias

end
-- ==== Proof.BiasTiles.lean ====
/-
  The bias tiles (at the ideal values): the product of the bias's rows with the selecting array, plus the mask, and the
  reference's choice between the bias at a place's column offset and the masking number.
-/
module

public import proofs.«01_k».proof.Proof.BiasGradient
public import Idealize.ShloMosaic.Lib.KernelVsHost
public import Idealize.ShloMosaic.Lib.ValueLayout
public import proofs.«01_k».proof.Proof.Gen.Kernel14Ideal.Frame
public import proofs.«01_k».proof.Proof.Gen.Reference14Ideal.Read

@[expose] public section

set_option maxRecDepth 16384

noncomputable section

namespace Cert.Reference14Ideal.Tiles

open Cert.Reference14Ideal Cert.Reference14Ideal.Gen Cert.Reference14Ideal.Read Cert.Products
open Idealize.ShloMosaic Idealize.ShloMosaic.ValueIdx
open Cert.Reference13Ideal.Bias (off near q k off_lt off_int)

/-- The number outside the neighbourhood. -/
def masked : EReal := Ideal.ofBits .f32 0xF149F2CA#32

/-- The bias at a place: the bias of the column offset in the neighbourhood, the masking number outside. -/
def tile (x0 : S4x15x31.Idx → EReal) (h : Fin 4) (d : Fin 15) (a b : Fin 64) : EReal :=
  if near a b = 1 then x0 (ix3 h d ⟨(off a b).toNat, off_lt a b⟩) else masked

/-- The axes the reading at the offsets runs along. -/
abbrev dims : GatherDims S4x15x31 S64x64x1 S4x15x64x64 := gather_S4x15x31_S64x64x1_S4x15x64x64_01_2_n_n_2_2_4151

/-- What is read for the place `(a, b)` of a tile when its index is `n`. -/
theorem reads_at (v : IVec S64x64x1 32) (h : Fin 4) (d : Fin 15) (a b : Fin 64) (n : ℕ) (hn : n < 31) (hv : (v (ix3 a b 0)).toInt = (n : ℤ)) :
    GatherDims.operandIdx dims (ix4 h d a b) v = ix3 h d ⟨n, hn⟩ := by
  have s0 : GatherDims.start dims (ix4 h d a b) v 0 = 0 := rfl
  have s1 : GatherDims.start dims (ix4 h d a b) v 1 = 0 := rfl
  have s2 : GatherDims.start dims (ix4 h d a b) v 2 = n := by
    have e : GatherDims.start dims (ix4 h d a b) v 2 = min (v (ix3 a b 0)).toInt.toNat 30 := by
      refine congrArg (fun y => min (v y).toInt.toNat 30) ?_
      funext x; match x with | ⟨0, _⟩ => rfl | ⟨1, _⟩ => rfl | ⟨2, _⟩ => rfl
    rw [e, hv, Int.toNat_natCast]; omega
  have w0 : GatherDims.batchCoord dims (ix4 h d a b) 0 = 0 := rfl
  have w1 : GatherDims.batchCoord dims (ix4 h d a b) 1 = 0 := rfl
  have w2 : GatherDims.batchCoord dims (ix4 h d a b) 2 = 0 := rfl
  have o0 : GatherDims.offCoord dims (ix4 h d a b) 0 = h.val := rfl
  have o1 : GatherDims.offCoord dims (ix4 h d a b) 1 = d.val := rfl
  have o2 : GatherDims.offCoord dims (ix4 h d a b) 2 = 0 := rfl
  funext x; apply Fin.ext
  match x with
  | ⟨0, _⟩ => show GatherDims.start dims (ix4 h d a b) v 0 + GatherDims.batchCoord dims (ix4 h d a b) 0 + GatherDims.offCoord dims (ix4 h d a b) 0 = h.val
              rw [s0, w0, o0]; omega
  | ⟨1, _⟩ => show GatherDims.start dims (ix4 h d a b) v 1 + GatherDims.batchCoord dims (ix4 h d a b) 1 + GatherDims.offCoord dims (ix4 h d a b) 1 = d.val
              rw [s1, w1, o1]; omega
  | ⟨2, _⟩ => show GatherDims.start dims (ix4 h d a b) v 2 + GatherDims.batchCoord dims (ix4 h d a b) 2 + GatherDims.offCoord dims (ix4 h d a b) 2 = n
              rw [s2, w2, o2]; omega

/-- The two references index the same places. -/
theorem same_index : val_main_v32 (F := Ideal) = Cert.Reference13Ideal.Read.val_main_v33 (F := Ideal) := rfl

theorem same_near : val_main_v16 (F := Ideal) = Cert.Reference13Ideal.Read.val_main_v17 (F := Ideal) := rfl

theorem index (a b : Fin 64) : (val_main_v32 (F := Ideal) (ix3 a b 0)).toInt = ((off a b).toNat : ℤ) := by
  rw [same_index]
  refine Eq.trans (congrArg BitVec.toInt ?_) (off_int a b)
  refine (Cert.Reference13Ideal.Read.val_main_v33_apply _).trans (congrArg (Cert.Reference13Ideal.Read.val_main_v32 (F := Ideal)) ?_)
  funext x; match x with | ⟨0, _⟩ => rfl | ⟨1, _⟩ => rfl

theorem v33 (x0 : S4x15x31.Idx → EReal) (h : Fin 4) (d : Fin 15) (a b : Fin 64) :
    val_main_v33 (F := Ideal) x0 (ix4 h d a b) = x0 (ix3 h d ⟨(off a b).toNat, off_lt a b⟩) := by
  unfold val_main_v33
  exact congrArg x0 (reads_at _ h d a b _ (off_lt a b) (index a b))

/-- The reference's tiles. -/
theorem v34 (x0 : S4x15x31.Idx → EReal) (h : Fin 4) (d : Fin 15) (a b : Fin 64) :
    val_main_v34 (F := Ideal) x0 (ix4 h d a b) = tile x0 h d a b := by
  rw [val_main_v34_apply, v33, val_main_call2_v1_apply, val_main_call2_v2_apply, same_near]
  refine Eq.trans (congrArg (fun y => Scalar.select (Cert.Reference13Ideal.Read.val_main_v17 (F := Ideal) y) _ _) (?_ : _ = ix2 a b)) ?_
  · funext x; match x with | ⟨0, _⟩ => rfl | ⟨1, _⟩ => rfl
  · rfl

end Cert.Reference14Ideal.Tiles

namespace Cert.Kernel14Ideal.Tiles

open Cert.Kernel14Ideal Cert.Kernel14Ideal.Gen Cert.Products Idealize.ShloMosaic.TcCoe Idealize.SL.Sem
open Idealize.ShloMosaic Idealize.ShloMosaic.ValueIdx
open Cert.Reference13Ideal.Bias (off near q k off_lt)
open Cert.Kernel13Ideal.Bias (sel sel_apply hz2)
open Cert.Reference14Ideal.Tiles (masked tile)

variable (m : (ℓ : Loc nD τ sig) → Buf (Elt Ideal) ℓ) (ρ : Dev nD → PrngReg) (c : Dev nD)

/-- The bias. -/
abbrev X : S4x15x31.Idx → EReal := m ((c.tc : Thread nD τ).loc main_arg0)

/-- The mask: zero in the neighbourhood, the masking number outside. -/
def mask : S64x64.Idx → EReal :=
  select (Cert.Reference13Ideal.Read.val_main_v17 (F := Ideal)) (broadcastInDim S64x64 ![] bcast_S_S64x64 (constant (F := Ideal) S_ .f32 0x00000000#32))
    (broadcastInDim S64x64 ![] bcast_S_S64x64 (constant (F := Ideal) S_ .f32 0xF149F2CA#32))

theorem V_sel : V m c main_v38 = shapeCast S128x4096 sel shapeCasts_S128x64x64_S128x4096 := by
  show StableHlo.after _ _ (Proc.devRef .tc main_v38) = _
  simp only [List.flatten_cons, List.flatten_nil, List.append_nil, List.cons_append, List.nil_append]
  after_results_simp
  rfl

theorem V_mask : V m c main_v41 = shapeCast S1x4096 mask shapeCasts_S64x64_S1x4096 := by
  show StableHlo.after _ _ (Proc.devRef .tc main_v41) = _
  simp only [List.flatten_cons, List.flatten_nil, List.append_nil, List.cons_append, List.nil_append]
  after_results_simp
  rfl

theorem V_rows : V m c main_v43 = pad S60x128 ![0, 0] ![0, 97] ![0, 0] (shapeCast S60x31 (X m c) shapeCasts_S4x15x31_S60x31) (sitofp (F := Ideal) .f32 (constantI S_ 32 0#32)) pads_S60x31_S60x128_000_0970 h_S_ := by
  show StableHlo.after _ _ (Proc.devRef .tc main_v43) = _
  simp only [List.flatten_cons, List.flatten_nil, List.append_nil, List.cons_append, List.nil_append]
  after_results_simp
  rfl

theorem mask_apply (a b : Fin 64) : mask (ix2 a b) = if near a b = 1 then (0 : EReal) else masked := by
  show Scalar.select (near a b) (Ideal.ofBits .f32 0x00000000#32) masked = _
  rw [zero_word]
  rfl

/-- Where the windows stand at the one point: at the start of their arrays. -/
theorem idx : ∀ p : Fin cfg0.N, (win0_0.index p 0 = 0 ∧ win0_0.index p 1 = 0) ∧ (win0_1.index p 0 = 0 ∧ win0_1.index p 1 = 0)
    ∧ (win0_2.index p 0 = 0 ∧ win0_2.index p 1 = 0) ∧ (win0_3.index p 0 = 0 ∧ win0_3.index p 1 = 0) :=
  (by decide +kernel : ∀ p : Fin grid0.N, _)

/-- The first factor's block: row `r` holds the bias of a head and a row offset, then zeros. -/
theorem blk0 (p : Fin cfg0.N) (r : Fin 60) (n : Fin 31) : (iblk m c 0 p : Vec Ideal S60x128 .f32) (ix2 r ⟨n.val, by omega⟩) = X m c (ix3 ⟨r.val / 15, by omega⟩ ⟨r.val % 15, by omega⟩ n) := by
  obtain ⟨⟨h0, h1⟩, -⟩ := idx p
  unfold iblk; rw [View.read_apply]
  have e : V m c main_v43 (ix2 r (⟨n.val, by omega⟩ : Fin 128)) = X m c (ix3 ⟨r.val / 15, by omega⟩ ⟨r.val % 15, by omega⟩ n) := by
    rw [V_rows]
    refine (pad_apply_of_inside _ _ _ _ _ _ _ _ (ix2 r n) (fun a => match a with
      | ⟨0, _⟩ => by show r.val = 0 + r.val * (0 + 1); omega
      | ⟨1, _⟩ => by show n.val = 0 + n.val * (0 + 1); omega)).trans ?_
    exact shapeCast_apply _ _ _ _ (by
      rw [Shape.rowMajor_val_three, Shape.rowMajor_val_two]
      show (r.val / 15 * 15 + r.val % 15) * 31 + n.val = r.val * 31 + n.val
      omega)
  refine Eq.trans ?_ e
  show V m c main_v43 _ = V m c main_v43 _
  congr 1; funext a; apply Fin.ext
  match a with
  | ⟨0, _⟩ => show win0_0.index p 0 * 60 + 1 * r.val = r.val; rw [h0]; omega
  | ⟨1, _⟩ => show win0_0.index p 1 * 128 + 1 * n.val = n.val; rw [h1]; omega

/-- The second factor's block: the selecting array. -/
theorem blk1 (p : Fin cfg0.N) (n : Fin 128) (j : Fin 4096) : @Eq EReal ((iblk m c 1 p : Vec Ideal S128x4096 .f32) (ix2 n j)) (if (off (q j) (k j)).toNat = n.val ∧ near (q j) (k j) = 1 then 1 else 0) := by
  obtain ⟨-, ⟨h0, h1⟩, -⟩ := idx p
  unfold iblk; rw [View.read_apply]
  have e : V m c main_v38 (ix2 n j) = sel (ix3 n (q j) (k j)) := by
    rw [V_sel]
    exact shapeCast_apply _ _ _ _ (by
      rw [Shape.rowMajor_val_three, Shape.rowMajor_val_two]
      show (n.val * 64 + j.val / 64) * 64 + j.val % 64 = n.val * 4096 + j.val
      omega)
  refine Eq.trans ?_ (e.trans (sel_apply n (q j) (k j)))
  show V m c main_v38 _ = V m c main_v38 _
  congr 1; funext a; apply Fin.ext
  match a with
  | ⟨0, _⟩ => show win0_1.index p 0 * 128 + 1 * n.val = n.val; rw [h0]; omega
  | ⟨1, _⟩ => show win0_1.index p 1 * 4096 + 1 * j.val = j.val; rw [h1]; omega

/-- The mask's block: one row, the places of a tile. -/
theorem blk2 (p : Fin cfg0.N) (j : Fin 4096) : @Eq EReal ((iblk m c 2 p : Vec Ideal S1x4096 .f32) (ix2 0 j)) (if near (q j) (k j) = 1 then 0 else masked) := by
  obtain ⟨-, -, ⟨h0, h1⟩, -⟩ := idx p
  unfold iblk; rw [View.read_apply]
  have e : V m c main_v41 (ix2 (0 : Fin 1) j) = mask (ix2 (q j) (k j)) := by
    rw [V_mask]
    exact shapeCast_apply _ _ _ _ (by
      rw [Shape.rowMajor_val_two, Shape.rowMajor_val_two]
      show j.val / 64 * 64 + j.val % 64 = 0 * 4096 + j.val
      omega)
  refine Eq.trans ?_ (e.trans (mask_apply (q j) (k j)))
  show V m c main_v41 _ = V m c main_v41 _
  congr 1; funext a; apply Fin.ext
  match a with
  | ⟨0, _⟩ => show win0_2.index p 0 * 1 + 1 * 0 = 0; rw [h0]
  | ⟨1, _⟩ => show win0_2.index p 1 * 4096 + 1 * j.val = j.val; rw [h1]; omega

/-- The block the body leaves: the product of its two factors, plus the mask. -/
theorem pay_apply (x0 : Vec Ideal S60x128 .f32) (x1 : Vec Ideal S128x4096 .f32) (x2 : Vec Ideal S1x4096 .f32) (r : Fin 60) (j : Fin 4096) :
    @Eq EReal (k0_pay1 (F := Ideal) x0 x1 x2 (ix2 r j)) ((∑ n : Fin 128, x0 (ix2 r n) * x1 (ix2 n j)) + x2 (ix2 0 j)) := by
  unfold k0_pay1
  rw [shapeCast_self, shapeCast_self, shapeCast_self]
  refine congrArg₂ (fun a b : EReal => a + b) ?_ (broadcastTo_1b_ab_apply _ _ r j)
  show FloatOps.matmul (F := Ideal) (DotDims.plain 60 128 4096) (some .fp32) x0 x1 (constant S60x4096 .f32 0x00000000#32) (ix2 r j) = _
  rw [Ideal.matmul_plain_apply]
  show Ideal.ofBits .f32 0x00000000#32 + _ = _
  rw [zero_word, zero_add]

/-- A sum against a row of the selecting array picks one summand, or none. -/
theorem pick (x y : Fin 128 → EReal) (z w : EReal) (o : ℕ) (ho : o < 31) (P : Prop) [Decidable P]
    (hx : x ⟨o, by omega⟩ = w) (hy : ∀ n, y n = if o = n.val ∧ P then 1 else 0) (hz : z = if P then 0 else masked) :
    (∑ n : Fin 128, x n * y n) + z = if P then w else masked := by
  by_cases hP : P
  · rw [if_pos hP] at hz ⊢
    rw [hz, add_zero, Finset.sum_eq_single (⟨o, by omega⟩ : Fin 128), hx, hy, if_pos ⟨rfl, hP⟩, mul_one]
    · intro n _ hn
      rw [hy, if_neg (fun h => hn (Fin.ext h.1.symm)), mul_zero]
    · exact fun h => absurd (Finset.mem_univ _) h
  · rw [if_neg hP] at hz ⊢
    rw [hz, Finset.sum_eq_zero, zero_add]
    intro n _
    rw [hy, if_neg (fun h => hP h.2), mul_zero]

/-- The array the call leaves: a row for each head and row offset, a column for each place. -/
def R3 : S60x4096.Idx → EReal := fun i => tile (X m c) ⟨(i 0).val / 15, by have : (i 0).val < 60 := (i 0).isLt; omega⟩ ⟨(i 0).val % 15, by omega⟩ (q (i 1)) (k (i 1))

theorem at3 (p : Fin cfg0.N) (r : Fin 60) (j : Fin 4096) : (out0_3 (F := Ideal) (iblk m c 0 p) (iblk m c 1 p) (iblk m c 2 p) : Vec Ideal S60x4096 .f32) (ix2 r j) = R3 m c (ix2 r j) := by
  unfold out0_3
  rw [View.canon_unit_zero hz2]
  rw [View.ld_unit_zero (S := S60x128) hz2, View.ld_unit_zero (S := S128x4096) hz2, View.ld_unit_zero (S := S1x4096) hz2]
  refine (pay_apply _ _ _ r j).trans ?_
  exact pick _ _ _ _ (off (q j) (k j)).toNat (off_lt _ _) (near (q j) (k j) = 1) (blk0 m c p r ⟨_, off_lt (q j) (k j)⟩) (fun n => blk1 m c p n j) (blk2 m c p j)

theorem arr3 : (dats m 0 c).arrAt 3 cfg0.N = R3 m c := by
  refine (dats m 0 c).arrAt_eq_of_cover 3 (R3 m c) (fun p _ => ?_) fun i => ?_
  · obtain ⟨-, -, -, h0, h1⟩ := idx p
    show (cfg0.win 3).cut _ ((dats m 0 c).after 3 p) = _
    rw [after0_3]
    funext j
    obtain ⟨r, n, rfl⟩ := any2 60 4096 j
    rw [View.read_apply]
    refine (at3 m c p r n).trans ?_
    show R3 m c _ = R3 m c _
    congr 1; funext a; apply Fin.ext
    match a with
    | ⟨0, _⟩ => show r.val = win0_3.index p 0 * 60 + 1 * r.val; rw [h0]; omega
    | ⟨1, _⟩ => show n.val = win0_3.index p 1 * 4096 + 1 * n.val; rw [h1]; omega
  · have hN : cfg0.N = 1 := N_0
    refine ⟨⟨0, by omega⟩, flush0_3 _, ?_⟩
    generalize (⟨0, _⟩ : Fin cfg0.N) = p
    obtain ⟨-, -, -, h0, h1⟩ := idx p
    show i ∈ ((View.whole main_v44).slice (win0_3.rect p)).set
    rw [View.set_slice_whole, Rect.mem_set_unit]
    intro a
    match a with
    | ⟨0, _⟩ => show win0_3.index p 0 * 60 ≤ (i 0 : Nat) ∧ (i 0 : Nat) < win0_3.index p 0 * 60 + 60
                rw [h0]; have : (i 0 : Nat) < 60 := (i 0).isLt; omega
    | ⟨1, _⟩ => show win0_3.index p 1 * 4096 ≤ (i 1 : Nat) ∧ (i 1 : Nat) < win0_3.index p 1 * 4096 + 4096
                rw [h1]; have : (i 1 : Nat) < 4096 := (i 1).isLt; omega

/-- The result: the tiles. -/
def R : S4x15x64x64.Idx → EReal := fun i => tile (X m c) (i 0) (i 1) (i 2) (i 3)

/-- The line after the call gives each row the shape of a tile. -/
theorem tail : Pipeline.afterTail₀ cfgs (dats m) 0 (V0 m) [hostOps1] c main_v45 = R m c := by
  have hA : Pipeline.withArrays spec0 c (V0 m c) (fun w => (dats m 0 c).arrAt w cfg0.N) (Proc.devRef .tc main_v44) = R3 m c :=
    (Pipeline.withArrays_arr spec0 launch0.win.arr_inj c (V0 m c) _ 3).trans (arr3 m c)
  show StableHlo.after hostOps1 (Pipeline.withArrays spec0 c (V0 m c) fun w => (dats m 0 c).arrAt w cfg0.N) (Proc.devRef .tc main_v45) = _
  after_results_simp
  rw [hA]
  funext i
  obtain ⟨h, d, a, b, rfl⟩ : ∃ h d a b, i = ix4 h d a b := ⟨i 0, i 1, i 2, i 3, eq_ix4 i⟩
  show shapeCast S4x15x64x64 (R3 m c) shapeCasts_S60x4096_S4x15x64x64 (ix4 h d a b) = _
  refine (shapeCast_apply _ _ _ (ix2 (⟨h.val * 15 + d.val, by omega⟩ : Fin 60) (⟨a.val * 64 + b.val, by omega⟩ : Fin 4096)) (by
    rw [Shape.rowMajor_val_four, Shape.rowMajor_val_two]
    show (h.val * 15 + d.val) * 4096 + (a.val * 64 + b.val) = ((h.val * 15 + d.val) * 64 + a.val) * 64 + b.val
    omega)).trans ?_
  show tile (X m c) ⟨(h.val * 15 + d.val) / 15, _⟩ ⟨(h.val * 15 + d.val) % 15, _⟩ ⟨(a.val * 64 + b.val) / 64, _⟩ ⟨(a.val * 64 + b.val) % 64, _⟩ = tile (X m c) h d a b
  congr 1 <;> apply Fin.ext <;> dsimp only <;> omega

/-- The run, read: the tiles, the argument unchanged. -/
theorem run : θ_run defs (onTc (τ := τ) (main (F := Ideal))) ⟨m, fun _ => 0, ρ⟩ fun r => ∀ c : Dev nD,
      r.2.mem ((c : Thread nD τ).loc main_v45) = R m c
      ∧ r.2.mem ((c : Thread nD τ).loc main_arg0) = m ((c : Thread nD τ).loc main_arg0) :=
  (θ_run defs _ _).mono (fun _ h c => ⟨((h.1 c).2 main_v45 (by decide)).trans (tail m c), h.2 c⟩)
    (θ_run_and (run_main m ρ) (unchanged m ρ))

end Cert.Kernel14Ideal.Tiles

end
-- ==== Proof.AdamwReference.lean ====
/-
  The reference of the four updates that ride on the forward pass, read as the step of the optimiser.
-/
module

public import proofs.«01_k».proof.Proof.Gen.Reference6Ideal.Read
public import proofs.«01_k».proof.Proof.AdamwMath

@[expose] public section

set_option maxRecDepth 16384

noncomputable section

namespace Cert.Reference6Ideal.Optimiser

open Cert.Reference6Ideal Cert.Reference6Ideal.Gen Cert.Reference6Ideal.Read Cert.Adamw
open Idealize.ShloMosaic
open Idealize.ShloMosaic.ValueIdx

/-- First weight: the sum of the shares. -/
theorem sum0 (x0 : Arr S8x2048x768 .bf16) : val_main_v1 (F := Ideal) x0 = total x0 := funext fun i => by
  rw [val_main_v1_apply, val_main_cst_apply]
  show Ideal.ofBits .f32 0x00000000#32 + _ = _
  rw [Ideal.ofBits_zero_f32, zero_add]
  refine Finset.sum_congr rfl fun k _ => ?_
  show x0 _ = x0 _
  congr 1; funext a; match a with | ⟨0, _⟩ => rfl | ⟨1, _⟩ => rfl | ⟨2, _⟩ => rfl

/-- First weight: the new first moment. -/
theorem mean0 (x0 : Arr S8x2048x768 .bf16) (x2 : Arr S2048x768 .f32) : val_main_v6 (F := Ideal) x0 x2 = moments x0 x2 := funext fun i => by
  simp only [val_main_cst_0_apply, val_main_v2_apply, val_main_v3_apply, val_main_cst_1_apply, val_main_v4_apply, val_main_v5_apply, val_main_v6_apply, sum0]
  rfl

/-- First weight: the new second moment. -/
theorem square0 (x0 : Arr S8x2048x768 .bf16) (x3 : Arr S2048x768 .f32) : val_main_v12 (F := Ideal) x0 x3 = squares x0 x3 := funext fun i => by
  simp only [val_main_cst_2_apply, val_main_v7_apply, val_main_v8_apply, val_main_v9_apply, val_main_cst_3_apply, val_main_v10_apply, val_main_v11_apply, val_main_v12_apply, sum0]
  rfl

/-- First weight: the change of the weight. -/
theorem change0 (x0 : Arr S8x2048x768 .bf16) (x1 x2 x3 : Arr S2048x768 .f32) : val_main_v25 (F := Ideal) x0 x1 x2 x3 = deltas x0 x1 x2 x3 := funext fun i => by
  simp only [val_main_cst_4_apply, val_main_v13_apply, val_main_v14_apply, val_main_cst_5_apply, val_main_v15_apply, val_main_v16_apply, val_main_v17_apply, val_main_cst_6_apply, val_main_v18_apply, val_main_v19_apply, val_main_v20_apply, val_main_cst_7_apply, val_main_v21_apply, val_main_v22_apply, val_main_v23_apply, val_main_cst_8_apply, val_main_v24_apply, val_main_v25_apply, mean0, square0]
  rfl

/-- Second weight: the sum of the shares. -/
theorem sum26 (x4 : Arr S8x512x256 .bf16) : val_main_v27 (F := Ideal) x4 = total x4 := funext fun i => by
  rw [val_main_v27_apply, val_main_cst_9_apply]
  show Ideal.ofBits .f32 0x00000000#32 + _ = _
  rw [Ideal.ofBits_zero_f32, zero_add]
  refine Finset.sum_congr rfl fun k _ => ?_
  show x4 _ = x4 _
  congr 1; funext a; match a with | ⟨0, _⟩ => rfl | ⟨1, _⟩ => rfl | ⟨2, _⟩ => rfl

/-- Second weight: the new first moment. -/
theorem mean26 (x4 : Arr S8x512x256 .bf16) (x6 : Arr S512x256 .f32) : val_main_v32 (F := Ideal) x4 x6 = moments x4 x6 := funext fun i => by
  simp only [val_main_cst_10_apply, val_main_v28_apply, val_main_v29_apply, val_main_cst_11_apply, val_main_v30_apply, val_main_v31_apply, val_main_v32_apply, sum26]
  rfl

/-- Second weight: the new second moment. -/
theorem square26 (x4 : Arr S8x512x256 .bf16) (x7 : Arr S512x256 .f32) : val_main_v38 (F := Ideal) x4 x7 = squares x4 x7 := funext fun i => by
  simp only [val_main_cst_12_apply, val_main_v33_apply, val_main_v34_apply, val_main_v35_apply, val_main_cst_13_apply, val_main_v36_apply, val_main_v37_apply, val_main_v38_apply, sum26]
  rfl

/-- Second weight: the change of the weight. -/
theorem change26 (x4 : Arr S8x512x256 .bf16) (x5 x6 x7 : Arr S512x256 .f32) : val_main_v51 (F := Ideal) x4 x5 x6 x7 = deltas x4 x5 x6 x7 := funext fun i => by
  simp only [val_main_cst_14_apply, val_main_v39_apply, val_main_v40_apply, val_main_cst_15_apply, val_main_v41_apply, val_main_v42_apply, val_main_v43_apply, val_main_cst_16_apply, val_main_v44_apply, val_main_v45_apply, val_main_v46_apply, val_main_cst_17_apply, val_main_v47_apply, val_main_v48_apply, val_main_v49_apply, val_main_cst_18_apply, val_main_v50_apply, val_main_v51_apply, mean26, square26]
  rfl

/-- Third weight: the sum of the shares. -/
theorem sum52 (x8 : Arr S8x512x256 .bf16) : val_main_v53 (F := Ideal) x8 = total x8 := funext fun i => by
  rw [val_main_v53_apply, val_main_cst_19_apply]
  show Ideal.ofBits .f32 0x00000000#32 + _ = _
  rw [Ideal.ofBits_zero_f32, zero_add]
  refine Finset.sum_congr rfl fun k _ => ?_
  show x8 _ = x8 _
  congr 1; funext a; match a with | ⟨0, _⟩ => rfl | ⟨1, _⟩ => rfl | ⟨2, _⟩ => rfl

/-- Third weight: the new first moment. -/
theorem mean52 (x8 : Arr S8x512x256 .bf16) (x10 : Arr S512x256 .f32) : val_main_v58 (F := Ideal) x8 x10 = moments x8 x10 := funext fun i => by
  simp only [val_main_cst_20_apply, val_main_v54_apply, val_main_v55_apply, val_main_cst_21_apply, val_main_v56_apply, val_main_v57_apply, val_main_v58_apply, sum52]
  rfl

/-- Third weight: the new second moment. -/
theorem square52 (x8 : Arr S8x512x256 .bf16) (x11 : Arr S512x256 .f32) : val_main_v64 (F := Ideal) x8 x11 = squares x8 x11 := funext fun i => by
  simp only [val_main_cst_22_apply, val_main_v59_apply, val_main_v60_apply, val_main_v61_apply, val_main_cst_23_apply, val_main_v62_apply, val_main_v63_apply, val_main_v64_apply, sum52]
  rfl

/-- Third weight: the change of the weight. -/
theorem change52 (x8 : Arr S8x512x256 .bf16) (x9 x10 x11 : Arr S512x256 .f32) : val_main_v77 (F := Ideal) x8 x9 x10 x11 = deltas x8 x9 x10 x11 := funext fun i => by
  simp only [val_main_cst_24_apply, val_main_v65_apply, val_main_v66_apply, val_main_cst_25_apply, val_main_v67_apply, val_main_v68_apply, val_main_v69_apply, val_main_cst_26_apply, val_main_v70_apply, val_main_v71_apply, val_main_v72_apply, val_main_cst_27_apply, val_main_v73_apply, val_main_v74_apply, val_main_v75_apply, val_main_cst_28_apply, val_main_v76_apply, val_main_v77_apply, mean52, square52]
  rfl

/-- Fourth weight: the sum of the shares. -/
theorem sum78 (x12 : Arr S8x256x2048 .bf16) : val_main_v79 (F := Ideal) x12 = total x12 := funext fun i => by
  rw [val_main_v79_apply, val_main_cst_29_apply]
  show Ideal.ofBits .f32 0x00000000#32 + _ = _
  rw [Ideal.ofBits_zero_f32, zero_add]
  refine Finset.sum_congr rfl fun k _ => ?_
  show x12 _ = x12 _
  congr 1; funext a; match a with | ⟨0, _⟩ => rfl | ⟨1, _⟩ => rfl | ⟨2, _⟩ => rfl

/-- Fourth weight: the new first moment. -/
theorem mean78 (x12 : Arr S8x256x2048 .bf16) (x14 : Arr S256x2048 .f32) : val_main_v84 (F := Ideal) x12 x14 = moments x12 x14 := funext fun i => by
  simp only [val_main_cst_30_apply, val_main_v80_apply, val_main_v81_apply, val_main_cst_31_apply, val_main_v82_apply, val_main_v83_apply, val_main_v84_apply, sum78]
  rfl

/-- Fourth weight: the new second moment. -/
theorem square78 (x12 : Arr S8x256x2048 .bf16) (x15 : Arr S256x2048 .f32) : val_main_v90 (F := Ideal) x12 x15 = squares x12 x15 := funext fun i => by
  simp only [val_main_cst_32_apply, val_main_v85_apply, val_main_v86_apply, val_main_v87_apply, val_main_cst_33_apply, val_main_v88_apply, val_main_v89_apply, val_main_v90_apply, sum78]
  rfl

/-- Fourth weight: the change of the weight. -/
theorem change78 (x12 : Arr S8x256x2048 .bf16) (x13 x14 x15 : Arr S256x2048 .f32) : val_main_v103 (F := Ideal) x12 x13 x14 x15 = deltas x12 x13 x14 x15 := funext fun i => by
  simp only [val_main_cst_34_apply, val_main_v91_apply, val_main_v92_apply, val_main_cst_35_apply, val_main_v93_apply, val_main_v94_apply, val_main_v95_apply, val_main_cst_36_apply, val_main_v96_apply, val_main_v97_apply, val_main_v98_apply, val_main_cst_37_apply, val_main_v99_apply, val_main_v100_apply, val_main_v101_apply, val_main_cst_38_apply, val_main_v102_apply, val_main_v103_apply, mean78, square78]
  rfl

end Cert.Reference6Ideal.Optimiser

end
-- ==== Proof.AdamwBlock.lean ====
/-
  One grid point of each of the optimiser's four calls: what its body leaves in its four outputs' staging buffers, as the
  optimiser's results for the staged blocks (at the ideal values).
-/
module

public import proofs.«01_k».proof.Proof.Gen.Kernel6Ideal.Frame
public import proofs.«01_k».proof.Proof.AdamwMath

@[expose] public section

set_option maxRecDepth 16384

noncomputable section

namespace Cert.Kernel6Ideal.Block

open Cert.Kernel6Ideal Cert.Kernel6Ideal.Gen Cert.Products Cert.Adamw Idealize.ShloMosaic.TcCoe Idealize.SL.Sem
open Idealize.ShloMosaic hiding ix1 ix2 ix3 eq_ix1 eq_ix2 eq_ix3
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-! ## The weight of queries, keys and values -/

section

variable (x0 : Vec Ideal S8x128x768 .bf16) (x1 x2 x3 : Vec Ideal S128x768 .f32)

theorem out0_4_apply (r : Fin 128) (e : Fin 768) : out0_4 (F := Ideal) x0 x1 x2 x3 (ix2 r e) = total x0 (ix2 r e) := by
  unfold out0_4
  rw [View.canon_unit_zero hz2]
  unfold k0_pay4
  show (_ : EReal) + (_ : EReal) + (_ : EReal) + (_ : EReal) + (_ : EReal) + (_ : EReal) + (_ : EReal) + (_ : EReal) = ∑ d : Fin 8, x0 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact share x0 (0 : Fin 8) _ _ r e
  · exact share x0 (1 : Fin 8) _ _ r e
  · exact share x0 (2 : Fin 8) _ _ r e
  · exact share x0 (3 : Fin 8) _ _ r e
  · exact share x0 (4 : Fin 8) _ _ r e
  · exact share x0 (5 : Fin 8) _ _ r e
  · exact share x0 (6 : Fin 8) _ _ r e
  · exact share x0 (7 : Fin 8) _ _ r e

theorem out0_4_eq : out0_4 (F := Ideal) x0 x1 x2 x3 = total x0 := funext fun j => by
  obtain ⟨r, e, rfl⟩ := any2 128 768 j
  exact out0_4_apply x0 x1 x2 x3 r e

theorem out0_5_eq : out0_5 (F := Ideal) x0 x1 x2 x3 = deltas x0 x1 x2 x3 := by
  have hg := out0_4_eq x0 x1 x2 x3
  unfold out0_4 at hg
  rw [View.canon_unit_zero hz2] at hg
  unfold out0_5 deltas
  rw [View.canon_unit_zero hz2, ← hg]
  simp only [View.ld_unit_zero (S := S128x768) hz2]
  rfl

theorem out0_6_eq : out0_6 (F := Ideal) x0 x1 x2 x3 = moments x0 x2 := by
  have hg := out0_4_eq x0 x1 x2 x3
  unfold out0_4 at hg
  rw [View.canon_unit_zero hz2] at hg
  unfold out0_6 moments
  rw [View.canon_unit_zero hz2, ← hg]
  simp only [View.ld_unit_zero (S := S128x768) hz2]
  rfl

theorem out0_7_eq : out0_7 (F := Ideal) x0 x1 x2 x3 = squares x0 x3 := by
  have hg := out0_4_eq x0 x1 x2 x3
  unfold out0_4 at hg
  rw [View.canon_unit_zero hz2] at hg
  unfold out0_7 squares
  rw [View.canon_unit_zero hz2, ← hg]
  simp only [View.ld_unit_zero (S := S128x768) hz2]
  rfl

end

/-! ## The first branch's weight -/

section

variable (x0 : Vec Ideal S8x128x256 .bf16) (x1 x2 x3 : Vec Ideal S128x256 .f32)

theorem out1_4_apply (r : Fin 128) (e : Fin 256) : out1_4 (F := Ideal) x0 x1 x2 x3 (ix2 r e) = total x0 (ix2 r e) := by
  unfold out1_4
  rw [View.canon_unit_zero hz2]
  unfold k1_pay4
  show (_ : EReal) + (_ : EReal) + (_ : EReal) + (_ : EReal) + (_ : EReal) + (_ : EReal) + (_ : EReal) + (_ : EReal) = ∑ d : Fin 8, x0 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact share x0 (0 : Fin 8) _ _ r e
  · exact share x0 (1 : Fin 8) _ _ r e
  · exact share x0 (2 : Fin 8) _ _ r e
  · exact share x0 (3 : Fin 8) _ _ r e
  · exact share x0 (4 : Fin 8) _ _ r e
  · exact share x0 (5 : Fin 8) _ _ r e
  · exact share x0 (6 : Fin 8) _ _ r e
  · exact share x0 (7 : Fin 8) _ _ r e

theorem out1_4_eq : out1_4 (F := Ideal) x0 x1 x2 x3 = total x0 := funext fun j => by
  obtain ⟨r, e, rfl⟩ := any2 128 256 j
  exact out1_4_apply x0 x1 x2 x3 r e

theorem out1_5_eq : out1_5 (F := Ideal) x0 x1 x2 x3 = deltas x0 x1 x2 x3 := by
  have hg := out1_4_eq x0 x1 x2 x3
  unfold out1_4 at hg
  rw [View.canon_unit_zero hz2] at hg
  unfold out1_5 deltas
  rw [View.canon_unit_zero hz2, ← hg]
  simp only [View.ld_unit_zero (S := S128x256) hz2]
  rfl

theorem out1_6_eq : out1_6 (F := Ideal) x0 x1 x2 x3 = moments x0 x2 := by
  have hg := out1_4_eq x0 x1 x2 x3
  unfold out1_4 at hg
  rw [View.canon_unit_zero hz2] at hg
  unfold out1_6 moments
  rw [View.canon_unit_zero hz2, ← hg]
  simp only [View.ld_unit_zero (S := S128x256) hz2]
  rfl

theorem out1_7_eq : out1_7 (F := Ideal) x0 x1 x2 x3 = squares x0 x3 := by
  have hg := out1_4_eq x0 x1 x2 x3
  unfold out1_4 at hg
  rw [View.canon_unit_zero hz2] at hg
  unfold out1_7 squares
  rw [View.canon_unit_zero hz2, ← hg]
  simp only [View.ld_unit_zero (S := S128x256) hz2]
  rfl

end

/-! ## The second branch's weight -/

section

variable (x0 : Vec Ideal S8x128x256 .bf16) (x1 x2 x3 : Vec Ideal S128x256 .f32)

theorem out2_4_apply (r : Fin 128) (e : Fin 256) : out2_4 (F := Ideal) x0 x1 x2 x3 (ix2 r e) = total x0 (ix2 r e) := by
  unfold out2_4
  rw [View.canon_unit_zero hz2]
  unfold k2_pay4
  show (_ : EReal) + (_ : EReal) + (_ : EReal) + (_ : EReal) + (_ : EReal) + (_ : EReal) + (_ : EReal) + (_ : EReal) = ∑ d : Fin 8, x0 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact share x0 (0 : Fin 8) _ _ r e
  · exact share x0 (1 : Fin 8) _ _ r e
  · exact share x0 (2 : Fin 8) _ _ r e
  · exact share x0 (3 : Fin 8) _ _ r e
  · exact share x0 (4 : Fin 8) _ _ r e
  · exact share x0 (5 : Fin 8) _ _ r e
  · exact share x0 (6 : Fin 8) _ _ r e
  · exact share x0 (7 : Fin 8) _ _ r e

theorem out2_4_eq : out2_4 (F := Ideal) x0 x1 x2 x3 = total x0 := funext fun j => by
  obtain ⟨r, e, rfl⟩ := any2 128 256 j
  exact out2_4_apply x0 x1 x2 x3 r e

theorem out2_5_eq : out2_5 (F := Ideal) x0 x1 x2 x3 = deltas x0 x1 x2 x3 := by
  have hg := out2_4_eq x0 x1 x2 x3
  unfold out2_4 at hg
  rw [View.canon_unit_zero hz2] at hg
  unfold out2_5 deltas
  rw [View.canon_unit_zero hz2, ← hg]
  simp only [View.ld_unit_zero (S := S128x256) hz2]
  rfl

theorem out2_6_eq : out2_6 (F := Ideal) x0 x1 x2 x3 = moments x0 x2 := by
  have hg := out2_4_eq x0 x1 x2 x3
  unfold out2_4 at hg
  rw [View.canon_unit_zero hz2] at hg
  unfold out2_6 moments
  rw [View.canon_unit_zero hz2, ← hg]
  simp only [View.ld_unit_zero (S := S128x256) hz2]
  rfl

theorem out2_7_eq : out2_7 (F := Ideal) x0 x1 x2 x3 = squares x0 x3 := by
  have hg := out2_4_eq x0 x1 x2 x3
  unfold out2_4 at hg
  rw [View.canon_unit_zero hz2] at hg
  unfold out2_7 squares
  rw [View.canon_unit_zero hz2, ← hg]
  simp only [View.ld_unit_zero (S := S128x256) hz2]
  rfl

end

/-! ## The output's weight -/

section

variable (x0 : Vec Ideal S8x128x2048 .bf16) (x1 x2 x3 : Vec Ideal S128x2048 .f32)

theorem out3_4_apply (r : Fin 128) (e : Fin 2048) : out3_4 (F := Ideal) x0 x1 x2 x3 (ix2 r e) = total x0 (ix2 r e) := by
  unfold out3_4
  rw [View.canon_unit_zero hz2]
  unfold k3_pay4
  show (_ : EReal) + (_ : EReal) + (_ : EReal) + (_ : EReal) + (_ : EReal) + (_ : EReal) + (_ : EReal) + (_ : EReal) = ∑ d : Fin 8, x0 (ix3 d r e)
  rw [Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  · exact share x0 (0 : Fin 8) _ _ r e
  · exact share x0 (1 : Fin 8) _ _ r e
  · exact share x0 (2 : Fin 8) _ _ r e
  · exact share x0 (3 : Fin 8) _ _ r e
  · exact share x0 (4 : Fin 8) _ _ r e
  · exact share x0 (5 : Fin 8) _ _ r e
  · exact share x0 (6 : Fin 8) _ _ r e
  · exact share x0 (7 : Fin 8) _ _ r e

theorem out3_4_eq : out3_4 (F := Ideal) x0 x1 x2 x3 = total x0 := funext fun j => by
  obtain ⟨r, e, rfl⟩ := any2 128 2048 j
  exact out3_4_apply x0 x1 x2 x3 r e

theorem out3_5_eq : out3_5 (F := Ideal) x0 x1 x2 x3 = deltas x0 x1 x2 x3 := by
  have hg := out3_4_eq x0 x1 x2 x3
  unfold out3_4 at hg
  rw [View.canon_unit_zero hz2] at hg
  unfold out3_5 deltas
  rw [View.canon_unit_zero hz2, ← hg]
  simp only [View.ld_unit_zero (S := S128x2048) hz2]
  rfl

theorem out3_6_eq : out3_6 (F := Ideal) x0 x1 x2 x3 = moments x0 x2 := by
  have hg := out3_4_eq x0 x1 x2 x3
  unfold out3_4 at hg
  rw [View.canon_unit_zero hz2] at hg
  unfold out3_6 moments
  rw [View.canon_unit_zero hz2, ← hg]
  simp only [View.ld_unit_zero (S := S128x2048) hz2]
  rfl

theorem out3_7_eq : out3_7 (F := Ideal) x0 x1 x2 x3 = squares x0 x3 := by
  have hg := out3_4_eq x0 x1 x2 x3
  unfold out3_4 at hg
  rw [View.canon_unit_zero hz2] at hg
  unfold out3_7 squares
  rw [View.canon_unit_zero hz2, ← hg]
  simp only [View.ld_unit_zero (S := S128x2048) hz2]
  rfl

end

end Cert.Kernel6Ideal.Block

end
-- ==== Proof.AdamwArrays.lean ====
/-
  The four results of each of the optimiser's calls as whole arrays: what each call leaves in its output arrays, as a
  function of the arrays it is entered with (at the ideal values).
-/
module

public import proofs.«01_k».proof.Proof.AdamwBlock
public import Idealize.ShloMosaic.Lib.Pipeline.Value

@[expose] public section

set_option maxRecDepth 16384

noncomputable section

namespace Cert.Kernel6Ideal.Optimiser

open Cert.Kernel6Ideal Cert.Kernel6Ideal.Gen Cert.Kernel6Ideal.Block Cert.Products Cert.Adamw Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

variable (V : (c : Dev nD) → (b : Ref sig .tc) → Buf (Elt Ideal) ((c : Thread nD τ).loc b))

/-! ## The weight of queries, keys and values -/

theorem idx0 : ∀ t : Fin cfg0.N,
    (win0_0.index t 0 = 0 ∧ win0_0.index t 1 = t.val ∧ win0_0.index t 2 = 0) ∧ win0_1.index t 0 = t.val ∧ win0_1.index t 1 = 0 :=
  (by decide +kernel : ∀ t : Fin grid0.N, _)

theorem row0 (t : Fin cfg0.N) (r : Fin 128) : 128 * t.val + r.val < 2048 := by
  have := lt_of_lt_of_eq t.isLt N_0; omega

/-- Where an element of a block stands in its array. -/
theorem emb0 (t : Fin cfg0.N) (r : Fin 128) (e : Fin 768) : ((cfg0.win 1).blk t).view.emb (ix2 r e) = (ix2 ⟨128 * t.val + r.val, row0 t r⟩ e : S2048x768.Idx) :=
  funext fun a => Fin.ext (by
    obtain ⟨-, i0, i1⟩ := idx0 t
    match a with
    | ⟨0, _⟩ => show win0_1.index t 0 * 128 + 1 * r.val = 128 * t.val + r.val; rw [i0]; omega
    | ⟨1, _⟩ => show win0_1.index t 1 * 768 + 1 * e.val = e.val; rw [i1]; omega)

theorem share0 (c : Dev nD) (t : Fin cfg0.N) (d : Fin 8) (r : Fin 128) (e : Fin 768) :
    (iblk0 V c 0 t : Vec Ideal S8x128x768 .bf16) (ix3 d r e) = (V c main_arg0 : S8x2048x768.Idx → EReal) (ix3 d ⟨128 * t.val + r.val, row0 t r⟩ e) := by
  obtain ⟨⟨i0, i1, i2⟩, -⟩ := idx0 t
  unfold iblk0; rw [View.read_apply]
  show V c main_arg0 _ = V c main_arg0 _
  congr 1; funext a; apply Fin.ext
  match a with
  | ⟨0, _⟩ => show win0_0.index t 0 * 8 + 1 * d.val = d.val; rw [i0]; omega
  | ⟨1, _⟩ => show win0_0.index t 1 * 128 + 1 * r.val = 128 * t.val + r.val; rw [i1]; omega
  | ⟨2, _⟩ => show win0_0.index t 2 * 768 + 1 * e.val = e.val; rw [i2]; omega

theorem blk0_1 (c : Dev nD) (t : Fin cfg0.N) (r : Fin 128) (e : Fin 768) :
    (iblk0 V c 1 t : Vec Ideal S128x768 .f32) (ix2 r e) = (V c main_arg1 : S2048x768.Idx → EReal) (ix2 ⟨128 * t.val + r.val, row0 t r⟩ e) := by
  unfold iblk0; rw [View.read_apply]
  exact congrArg (fun i => (V c main_arg1 : S2048x768.Idx → EReal) i) (emb0 t r e)

theorem blk0_2 (c : Dev nD) (t : Fin cfg0.N) (r : Fin 128) (e : Fin 768) :
    (iblk0 V c 2 t : Vec Ideal S128x768 .f32) (ix2 r e) = (V c main_arg2 : S2048x768.Idx → EReal) (ix2 ⟨128 * t.val + r.val, row0 t r⟩ e) := by
  unfold iblk0; rw [View.read_apply]
  exact congrArg (fun i => (V c main_arg2 : S2048x768.Idx → EReal) i) (emb0 t r e)

theorem blk0_3 (c : Dev nD) (t : Fin cfg0.N) (r : Fin 128) (e : Fin 768) :
    (iblk0 V c 3 t : Vec Ideal S128x768 .f32) (ix2 r e) = (V c main_arg3 : S2048x768.Idx → EReal) (ix2 ⟨128 * t.val + r.val, row0 t r⟩ e) := by
  unfold iblk0; rw [View.read_apply]
  exact congrArg (fun i => (V c main_arg3 : S2048x768.Idx → EReal) i) (emb0 t r e)

theorem cover0 (i : S2048x768.Idx) : ∃ t : Fin cfg0.N, i ∈ ((cfg0.win 1).blk t).view.set := by
  have b0 : (i 0 : Nat) < 2048 := (i 0).isLt
  have b1 : (i 1 : Nat) < 768 := (i 1).isLt
  have hN : cfg0.N = 16 := N_0
  refine ⟨⟨(i 0 : Nat) / 128, by omega⟩, ?_⟩
  generalize ht : (⟨(i 0 : Nat) / 128, by omega⟩ : Fin cfg0.N) = t
  have tv : t.val = (i 0 : Nat) / 128 := by rw [← ht]
  obtain ⟨-, i0, i1⟩ := idx0 t
  show i ∈ ((View.whole main_arg1).slice (win0_1.rect t)).set
  rw [View.set_slice_whole, Rect.mem_set_unit]
  intro a
  match a with
  | ⟨0, _⟩ => show win0_1.index t 0 * 128 ≤ (i 0 : Nat) ∧ (i 0 : Nat) < win0_1.index t 0 * 128 + 128; rw [i0]; omega
  | ⟨1, _⟩ => show win0_1.index t 1 * 768 ≤ (i 1 : Nat) ∧ (i 1 : Nat) < win0_1.index t 1 * 768 + 768; rw [i1]; omega

/-- The weight of queries, keys and values: the gradient. -/
theorem arr0_4 (c : Dev nD) : (dat0 V c).arrAt 4 cfg0.N = total (K := 2048) (n := 768) (V c main_arg0) :=
  (dat0 V c).arrAt_eq_of_cover 4 _ (fun t _ => by
    show (cfg0.win 4).cut (grid0.coords t) ((dat0 V c).after 4 t) = _
    rw [after0_4]; funext j
    obtain ⟨r, e, rfl⟩ := any2 128 768 j
    rw [View.read_apply]
    refine (congrFun (out0_4_eq _ _ _ _) (ix2 r e)).trans (Eq.trans ?_ (congrArg (total (K := 2048) (n := 768) (V c main_arg0)) (emb0 t r e)).symm)
    exact total_block (fun d => share0 V c t d r e)) fun i => (cover0 i).imp fun t h => ⟨flush0_4 t, h⟩

/-- The weight of queries, keys and values: the change. -/
theorem arr0_5 (c : Dev nD) : (dat0 V c).arrAt 5 cfg0.N = deltas (K := 2048) (n := 768) (V c main_arg0) (V c main_arg1) (V c main_arg2) (V c main_arg3) :=
  (dat0 V c).arrAt_eq_of_cover 5 _ (fun t _ => by
    show (cfg0.win 5).cut (grid0.coords t) ((dat0 V c).after 5 t) = _
    rw [after0_5]; funext j
    obtain ⟨r, e, rfl⟩ := any2 128 768 j
    rw [View.read_apply]
    refine (congrFun (out0_5_eq _ _ _ _) (ix2 r e)).trans (Eq.trans ?_ (congrArg (deltas (K := 2048) (n := 768) (V c main_arg0) (V c main_arg1) (V c main_arg2) (V c main_arg3)) (emb0 t r e)).symm)
    exact deltas_block (fun d => share0 V c t d r e) (blk0_1 V c t r e) (blk0_2 V c t r e) (blk0_3 V c t r e)) fun i => (cover0 i).imp fun t h => ⟨flush0_5 t, h⟩

/-- The weight of queries, keys and values: the new first moment. -/
theorem arr0_6 (c : Dev nD) : (dat0 V c).arrAt 6 cfg0.N = moments (K := 2048) (n := 768) (V c main_arg0) (V c main_arg2) :=
  (dat0 V c).arrAt_eq_of_cover 6 _ (fun t _ => by
    show (cfg0.win 6).cut (grid0.coords t) ((dat0 V c).after 6 t) = _
    rw [after0_6]; funext j
    obtain ⟨r, e, rfl⟩ := any2 128 768 j
    rw [View.read_apply]
    refine (congrFun (out0_6_eq _ _ _ _) (ix2 r e)).trans (Eq.trans ?_ (congrArg (moments (K := 2048) (n := 768) (V c main_arg0) (V c main_arg2)) (emb0 t r e)).symm)
    exact moments_block (fun d => share0 V c t d r e) (blk0_2 V c t r e)) fun i => (cover0 i).imp fun t h => ⟨flush0_6 t, h⟩

/-- The weight of queries, keys and values: the new second moment. -/
theorem arr0_7 (c : Dev nD) : (dat0 V c).arrAt 7 cfg0.N = squares (K := 2048) (n := 768) (V c main_arg0) (V c main_arg3) :=
  (dat0 V c).arrAt_eq_of_cover 7 _ (fun t _ => by
    show (cfg0.win 7).cut (grid0.coords t) ((dat0 V c).after 7 t) = _
    rw [after0_7]; funext j
    obtain ⟨r, e, rfl⟩ := any2 128 768 j
    rw [View.read_apply]
    refine (congrFun (out0_7_eq _ _ _ _) (ix2 r e)).trans (Eq.trans ?_ (congrArg (squares (K := 2048) (n := 768) (V c main_arg0) (V c main_arg3)) (emb0 t r e)).symm)
    exact squares_block (fun d => share0 V c t d r e) (blk0_3 V c t r e)) fun i => (cover0 i).imp fun t h => ⟨flush0_7 t, h⟩

/-! ## The first branch's weight -/

theorem idx1 : ∀ t : Fin cfg1.N,
    (win1_0.index t 0 = 0 ∧ win1_0.index t 1 = t.val ∧ win1_0.index t 2 = 0) ∧ win1_1.index t 0 = t.val ∧ win1_1.index t 1 = 0 :=
  (by decide +kernel : ∀ t : Fin grid1.N, _)

theorem row1 (t : Fin cfg1.N) (r : Fin 128) : 128 * t.val + r.val < 512 := by
  have := lt_of_lt_of_eq t.isLt N_1; omega

/-- Where an element of a block stands in its array. -/
theorem emb1 (t : Fin cfg1.N) (r : Fin 128) (e : Fin 256) : ((cfg1.win 1).blk t).view.emb (ix2 r e) = (ix2 ⟨128 * t.val + r.val, row1 t r⟩ e : S512x256.Idx) :=
  funext fun a => Fin.ext (by
    obtain ⟨-, i0, i1⟩ := idx1 t
    match a with
    | ⟨0, _⟩ => show win1_1.index t 0 * 128 + 1 * r.val = 128 * t.val + r.val; rw [i0]; omega
    | ⟨1, _⟩ => show win1_1.index t 1 * 256 + 1 * e.val = e.val; rw [i1]; omega)

theorem share1 (c : Dev nD) (t : Fin cfg1.N) (d : Fin 8) (r : Fin 128) (e : Fin 256) :
    (iblk1 V c 0 t : Vec Ideal S8x128x256 .bf16) (ix3 d r e) = (V c main_arg4 : S8x512x256.Idx → EReal) (ix3 d ⟨128 * t.val + r.val, row1 t r⟩ e) := by
  obtain ⟨⟨i0, i1, i2⟩, -⟩ := idx1 t
  unfold iblk1; rw [View.read_apply]
  show V c main_arg4 _ = V c main_arg4 _
  congr 1; funext a; apply Fin.ext
  match a with
  | ⟨0, _⟩ => show win1_0.index t 0 * 8 + 1 * d.val = d.val; rw [i0]; omega
  | ⟨1, _⟩ => show win1_0.index t 1 * 128 + 1 * r.val = 128 * t.val + r.val; rw [i1]; omega
  | ⟨2, _⟩ => show win1_0.index t 2 * 256 + 1 * e.val = e.val; rw [i2]; omega

theorem blk1_1 (c : Dev nD) (t : Fin cfg1.N) (r : Fin 128) (e : Fin 256) :
    (iblk1 V c 1 t : Vec Ideal S128x256 .f32) (ix2 r e) = (V c main_arg5 : S512x256.Idx → EReal) (ix2 ⟨128 * t.val + r.val, row1 t r⟩ e) := by
  unfold iblk1; rw [View.read_apply]
  exact congrArg (fun i => (V c main_arg5 : S512x256.Idx → EReal) i) (emb1 t r e)

theorem blk1_2 (c : Dev nD) (t : Fin cfg1.N) (r : Fin 128) (e : Fin 256) :
    (iblk1 V c 2 t : Vec Ideal S128x256 .f32) (ix2 r e) = (V c main_arg6 : S512x256.Idx → EReal) (ix2 ⟨128 * t.val + r.val, row1 t r⟩ e) := by
  unfold iblk1; rw [View.read_apply]
  exact congrArg (fun i => (V c main_arg6 : S512x256.Idx → EReal) i) (emb1 t r e)

theorem blk1_3 (c : Dev nD) (t : Fin cfg1.N) (r : Fin 128) (e : Fin 256) :
    (iblk1 V c 3 t : Vec Ideal S128x256 .f32) (ix2 r e) = (V c main_arg7 : S512x256.Idx → EReal) (ix2 ⟨128 * t.val + r.val, row1 t r⟩ e) := by
  unfold iblk1; rw [View.read_apply]
  exact congrArg (fun i => (V c main_arg7 : S512x256.Idx → EReal) i) (emb1 t r e)

theorem cover1 (i : S512x256.Idx) : ∃ t : Fin cfg1.N, i ∈ ((cfg1.win 1).blk t).view.set := by
  have b0 : (i 0 : Nat) < 512 := (i 0).isLt
  have b1 : (i 1 : Nat) < 256 := (i 1).isLt
  have hN : cfg1.N = 4 := N_1
  refine ⟨⟨(i 0 : Nat) / 128, by omega⟩, ?_⟩
  generalize ht : (⟨(i 0 : Nat) / 128, by omega⟩ : Fin cfg1.N) = t
  have tv : t.val = (i 0 : Nat) / 128 := by rw [← ht]
  obtain ⟨-, i0, i1⟩ := idx1 t
  show i ∈ ((View.whole main_arg5).slice (win1_1.rect t)).set
  rw [View.set_slice_whole, Rect.mem_set_unit]
  intro a
  match a with
  | ⟨0, _⟩ => show win1_1.index t 0 * 128 ≤ (i 0 : Nat) ∧ (i 0 : Nat) < win1_1.index t 0 * 128 + 128; rw [i0]; omega
  | ⟨1, _⟩ => show win1_1.index t 1 * 256 ≤ (i 1 : Nat) ∧ (i 1 : Nat) < win1_1.index t 1 * 256 + 256; rw [i1]; omega

/-- The first branch's weight: the gradient. -/
theorem arr1_4 (c : Dev nD) : (dat1 V c).arrAt 4 cfg1.N = total (K := 512) (n := 256) (V c main_arg4) :=
  (dat1 V c).arrAt_eq_of_cover 4 _ (fun t _ => by
    show (cfg1.win 4).cut (grid1.coords t) ((dat1 V c).after 4 t) = _
    rw [after1_4]; funext j
    obtain ⟨r, e, rfl⟩ := any2 128 256 j
    rw [View.read_apply]
    refine (congrFun (out1_4_eq _ _ _ _) (ix2 r e)).trans (Eq.trans ?_ (congrArg (total (K := 512) (n := 256) (V c main_arg4)) (emb1 t r e)).symm)
    exact total_block (fun d => share1 V c t d r e)) fun i => (cover1 i).imp fun t h => ⟨flush1_4 t, h⟩

/-- The first branch's weight: the change. -/
theorem arr1_5 (c : Dev nD) : (dat1 V c).arrAt 5 cfg1.N = deltas (K := 512) (n := 256) (V c main_arg4) (V c main_arg5) (V c main_arg6) (V c main_arg7) :=
  (dat1 V c).arrAt_eq_of_cover 5 _ (fun t _ => by
    show (cfg1.win 5).cut (grid1.coords t) ((dat1 V c).after 5 t) = _
    rw [after1_5]; funext j
    obtain ⟨r, e, rfl⟩ := any2 128 256 j
    rw [View.read_apply]
    refine (congrFun (out1_5_eq _ _ _ _) (ix2 r e)).trans (Eq.trans ?_ (congrArg (deltas (K := 512) (n := 256) (V c main_arg4) (V c main_arg5) (V c main_arg6) (V c main_arg7)) (emb1 t r e)).symm)
    exact deltas_block (fun d => share1 V c t d r e) (blk1_1 V c t r e) (blk1_2 V c t r e) (blk1_3 V c t r e)) fun i => (cover1 i).imp fun t h => ⟨flush1_5 t, h⟩

/-- The first branch's weight: the new first moment. -/
theorem arr1_6 (c : Dev nD) : (dat1 V c).arrAt 6 cfg1.N = moments (K := 512) (n := 256) (V c main_arg4) (V c main_arg6) :=
  (dat1 V c).arrAt_eq_of_cover 6 _ (fun t _ => by
    show (cfg1.win 6).cut (grid1.coords t) ((dat1 V c).after 6 t) = _
    rw [after1_6]; funext j
    obtain ⟨r, e, rfl⟩ := any2 128 256 j
    rw [View.read_apply]
    refine (congrFun (out1_6_eq _ _ _ _) (ix2 r e)).trans (Eq.trans ?_ (congrArg (moments (K := 512) (n := 256) (V c main_arg4) (V c main_arg6)) (emb1 t r e)).symm)
    exact moments_block (fun d => share1 V c t d r e) (blk1_2 V c t r e)) fun i => (cover1 i).imp fun t h => ⟨flush1_6 t, h⟩

/-- The first branch's weight: the new second moment. -/
theorem arr1_7 (c : Dev nD) : (dat1 V c).arrAt 7 cfg1.N = squares (K := 512) (n := 256) (V c main_arg4) (V c main_arg7) :=
  (dat1 V c).arrAt_eq_of_cover 7 _ (fun t _ => by
    show (cfg1.win 7).cut (grid1.coords t) ((dat1 V c).after 7 t) = _
    rw [after1_7]; funext j
    obtain ⟨r, e, rfl⟩ := any2 128 256 j
    rw [View.read_apply]
    refine (congrFun (out1_7_eq _ _ _ _) (ix2 r e)).trans (Eq.trans ?_ (congrArg (squares (K := 512) (n := 256) (V c main_arg4) (V c main_arg7)) (emb1 t r e)).symm)
    exact squares_block (fun d => share1 V c t d r e) (blk1_3 V c t r e)) fun i => (cover1 i).imp fun t h => ⟨flush1_7 t, h⟩

/-! ## The second branch's weight -/

theorem idx2 : ∀ t : Fin cfg2.N,
    (win2_0.index t 0 = 0 ∧ win2_0.index t 1 = t.val ∧ win2_0.index t 2 = 0) ∧ win2_1.index t 0 = t.val ∧ win2_1.index t 1 = 0 :=
  (by decide +kernel : ∀ t : Fin grid2.N, _)

theorem row2 (t : Fin cfg2.N) (r : Fin 128) : 128 * t.val + r.val < 512 := by
  have := lt_of_lt_of_eq t.isLt N_2; omega

/-- Where an element of a block stands in its array. -/
theorem emb2 (t : Fin cfg2.N) (r : Fin 128) (e : Fin 256) : ((cfg2.win 1).blk t).view.emb (ix2 r e) = (ix2 ⟨128 * t.val + r.val, row2 t r⟩ e : S512x256.Idx) :=
  funext fun a => Fin.ext (by
    obtain ⟨-, i0, i1⟩ := idx2 t
    match a with
    | ⟨0, _⟩ => show win2_1.index t 0 * 128 + 1 * r.val = 128 * t.val + r.val; rw [i0]; omega
    | ⟨1, _⟩ => show win2_1.index t 1 * 256 + 1 * e.val = e.val; rw [i1]; omega)

theorem share2 (c : Dev nD) (t : Fin cfg2.N) (d : Fin 8) (r : Fin 128) (e : Fin 256) :
    (iblk2 V c 0 t : Vec Ideal S8x128x256 .bf16) (ix3 d r e) = (V c main_arg8 : S8x512x256.Idx → EReal) (ix3 d ⟨128 * t.val + r.val, row2 t r⟩ e) := by
  obtain ⟨⟨i0, i1, i2⟩, -⟩ := idx2 t
  unfold iblk2; rw [View.read_apply]
  show V c main_arg8 _ = V c main_arg8 _
  congr 1; funext a; apply Fin.ext
  match a with
  | ⟨0, _⟩ => show win2_0.index t 0 * 8 + 1 * d.val = d.val; rw [i0]; omega
  | ⟨1, _⟩ => show win2_0.index t 1 * 128 + 1 * r.val = 128 * t.val + r.val; rw [i1]; omega
  | ⟨2, _⟩ => show win2_0.index t 2 * 256 + 1 * e.val = e.val; rw [i2]; omega

theorem blk2_1 (c : Dev nD) (t : Fin cfg2.N) (r : Fin 128) (e : Fin 256) :
    (iblk2 V c 1 t : Vec Ideal S128x256 .f32) (ix2 r e) = (V c main_arg9 : S512x256.Idx → EReal) (ix2 ⟨128 * t.val + r.val, row2 t r⟩ e) := by
  unfold iblk2; rw [View.read_apply]
  exact congrArg (fun i => (V c main_arg9 : S512x256.Idx → EReal) i) (emb2 t r e)

theorem blk2_2 (c : Dev nD) (t : Fin cfg2.N) (r : Fin 128) (e : Fin 256) :
    (iblk2 V c 2 t : Vec Ideal S128x256 .f32) (ix2 r e) = (V c main_arg10 : S512x256.Idx → EReal) (ix2 ⟨128 * t.val + r.val, row2 t r⟩ e) := by
  unfold iblk2; rw [View.read_apply]
  exact congrArg (fun i => (V c main_arg10 : S512x256.Idx → EReal) i) (emb2 t r e)

theorem blk2_3 (c : Dev nD) (t : Fin cfg2.N) (r : Fin 128) (e : Fin 256) :
    (iblk2 V c 3 t : Vec Ideal S128x256 .f32) (ix2 r e) = (V c main_arg11 : S512x256.Idx → EReal) (ix2 ⟨128 * t.val + r.val, row2 t r⟩ e) := by
  unfold iblk2; rw [View.read_apply]
  exact congrArg (fun i => (V c main_arg11 : S512x256.Idx → EReal) i) (emb2 t r e)

theorem cover2 (i : S512x256.Idx) : ∃ t : Fin cfg2.N, i ∈ ((cfg2.win 1).blk t).view.set := by
  have b0 : (i 0 : Nat) < 512 := (i 0).isLt
  have b1 : (i 1 : Nat) < 256 := (i 1).isLt
  have hN : cfg2.N = 4 := N_2
  refine ⟨⟨(i 0 : Nat) / 128, by omega⟩, ?_⟩
  generalize ht : (⟨(i 0 : Nat) / 128, by omega⟩ : Fin cfg2.N) = t
  have tv : t.val = (i 0 : Nat) / 128 := by rw [← ht]
  obtain ⟨-, i0, i1⟩ := idx2 t
  show i ∈ ((View.whole main_arg9).slice (win2_1.rect t)).set
  rw [View.set_slice_whole, Rect.mem_set_unit]
  intro a
  match a with
  | ⟨0, _⟩ => show win2_1.index t 0 * 128 ≤ (i 0 : Nat) ∧ (i 0 : Nat) < win2_1.index t 0 * 128 + 128; rw [i0]; omega
  | ⟨1, _⟩ => show win2_1.index t 1 * 256 ≤ (i 1 : Nat) ∧ (i 1 : Nat) < win2_1.index t 1 * 256 + 256; rw [i1]; omega

/-- The second branch's weight: the gradient. -/
theorem arr2_4 (c : Dev nD) : (dat2 V c).arrAt 4 cfg2.N = total (K := 512) (n := 256) (V c main_arg8) :=
  (dat2 V c).arrAt_eq_of_cover 4 _ (fun t _ => by
    show (cfg2.win 4).cut (grid2.coords t) ((dat2 V c).after 4 t) = _
    rw [after2_4]; funext j
    obtain ⟨r, e, rfl⟩ := any2 128 256 j
    rw [View.read_apply]
    refine (congrFun (out2_4_eq _ _ _ _) (ix2 r e)).trans (Eq.trans ?_ (congrArg (total (K := 512) (n := 256) (V c main_arg8)) (emb2 t r e)).symm)
    exact total_block (fun d => share2 V c t d r e)) fun i => (cover2 i).imp fun t h => ⟨flush2_4 t, h⟩

/-- The second branch's weight: the change. -/
theorem arr2_5 (c : Dev nD) : (dat2 V c).arrAt 5 cfg2.N = deltas (K := 512) (n := 256) (V c main_arg8) (V c main_arg9) (V c main_arg10) (V c main_arg11) :=
  (dat2 V c).arrAt_eq_of_cover 5 _ (fun t _ => by
    show (cfg2.win 5).cut (grid2.coords t) ((dat2 V c).after 5 t) = _
    rw [after2_5]; funext j
    obtain ⟨r, e, rfl⟩ := any2 128 256 j
    rw [View.read_apply]
    refine (congrFun (out2_5_eq _ _ _ _) (ix2 r e)).trans (Eq.trans ?_ (congrArg (deltas (K := 512) (n := 256) (V c main_arg8) (V c main_arg9) (V c main_arg10) (V c main_arg11)) (emb2 t r e)).symm)
    exact deltas_block (fun d => share2 V c t d r e) (blk2_1 V c t r e) (blk2_2 V c t r e) (blk2_3 V c t r e)) fun i => (cover2 i).imp fun t h => ⟨flush2_5 t, h⟩

/-- The second branch's weight: the new first moment. -/
theorem arr2_6 (c : Dev nD) : (dat2 V c).arrAt 6 cfg2.N = moments (K := 512) (n := 256) (V c main_arg8) (V c main_arg10) :=
  (dat2 V c).arrAt_eq_of_cover 6 _ (fun t _ => by
    show (cfg2.win 6).cut (grid2.coords t) ((dat2 V c).after 6 t) = _
    rw [after2_6]; funext j
    obtain ⟨r, e, rfl⟩ := any2 128 256 j
    rw [View.read_apply]
    refine (congrFun (out2_6_eq _ _ _ _) (ix2 r e)).trans (Eq.trans ?_ (congrArg (moments (K := 512) (n := 256) (V c main_arg8) (V c main_arg10)) (emb2 t r e)).symm)
    exact moments_block (fun d => share2 V c t d r e) (blk2_2 V c t r e)) fun i => (cover2 i).imp fun t h => ⟨flush2_6 t, h⟩

/-- The second branch's weight: the new second moment. -/
theorem arr2_7 (c : Dev nD) : (dat2 V c).arrAt 7 cfg2.N = squares (K := 512) (n := 256) (V c main_arg8) (V c main_arg11) :=
  (dat2 V c).arrAt_eq_of_cover 7 _ (fun t _ => by
    show (cfg2.win 7).cut (grid2.coords t) ((dat2 V c).after 7 t) = _
    rw [after2_7]; funext j
    obtain ⟨r, e, rfl⟩ := any2 128 256 j
    rw [View.read_apply]
    refine (congrFun (out2_7_eq _ _ _ _) (ix2 r e)).trans (Eq.trans ?_ (congrArg (squares (K := 512) (n := 256) (V c main_arg8) (V c main_arg11)) (emb2 t r e)).symm)
    exact squares_block (fun d => share2 V c t d r e) (blk2_3 V c t r e)) fun i => (cover2 i).imp fun t h => ⟨flush2_7 t, h⟩

/-! ## The output's weight -/

theorem idx3 : ∀ t : Fin cfg3.N,
    (win3_0.index t 0 = 0 ∧ win3_0.index t 1 = t.val ∧ win3_0.index t 2 = 0) ∧ win3_1.index t 0 = t.val ∧ win3_1.index t 1 = 0 :=
  (by decide +kernel : ∀ t : Fin grid3.N, _)

theorem row3 (t : Fin cfg3.N) (r : Fin 128) : 128 * t.val + r.val < 256 := by
  have := lt_of_lt_of_eq t.isLt N_3; omega

/-- Where an element of a block stands in its array. -/
theorem emb3 (t : Fin cfg3.N) (r : Fin 128) (e : Fin 2048) : ((cfg3.win 1).blk t).view.emb (ix2 r e) = (ix2 ⟨128 * t.val + r.val, row3 t r⟩ e : S256x2048.Idx) :=
  funext fun a => Fin.ext (by
    obtain ⟨-, i0, i1⟩ := idx3 t
    match a with
    | ⟨0, _⟩ => show win3_1.index t 0 * 128 + 1 * r.val = 128 * t.val + r.val; rw [i0]; omega
    | ⟨1, _⟩ => show win3_1.index t 1 * 2048 + 1 * e.val = e.val; rw [i1]; omega)

theorem share3 (c : Dev nD) (t : Fin cfg3.N) (d : Fin 8) (r : Fin 128) (e : Fin 2048) :
    (iblk3 V c 0 t : Vec Ideal S8x128x2048 .bf16) (ix3 d r e) = (V c main_arg12 : S8x256x2048.Idx → EReal) (ix3 d ⟨128 * t.val + r.val, row3 t r⟩ e) := by
  obtain ⟨⟨i0, i1, i2⟩, -⟩ := idx3 t
  unfold iblk3; rw [View.read_apply]
  show V c main_arg12 _ = V c main_arg12 _
  congr 1; funext a; apply Fin.ext
  match a with
  | ⟨0, _⟩ => show win3_0.index t 0 * 8 + 1 * d.val = d.val; rw [i0]; omega
  | ⟨1, _⟩ => show win3_0.index t 1 * 128 + 1 * r.val = 128 * t.val + r.val; rw [i1]; omega
  | ⟨2, _⟩ => show win3_0.index t 2 * 2048 + 1 * e.val = e.val; rw [i2]; omega

theorem blk3_1 (c : Dev nD) (t : Fin cfg3.N) (r : Fin 128) (e : Fin 2048) :
    (iblk3 V c 1 t : Vec Ideal S128x2048 .f32) (ix2 r e) = (V c main_arg13 : S256x2048.Idx → EReal) (ix2 ⟨128 * t.val + r.val, row3 t r⟩ e) := by
  unfold iblk3; rw [View.read_apply]
  exact congrArg (fun i => (V c main_arg13 : S256x2048.Idx → EReal) i) (emb3 t r e)

theorem blk3_2 (c : Dev nD) (t : Fin cfg3.N) (r : Fin 128) (e : Fin 2048) :
    (iblk3 V c 2 t : Vec Ideal S128x2048 .f32) (ix2 r e) = (V c main_arg14 : S256x2048.Idx → EReal) (ix2 ⟨128 * t.val + r.val, row3 t r⟩ e) := by
  unfold iblk3; rw [View.read_apply]
  exact congrArg (fun i => (V c main_arg14 : S256x2048.Idx → EReal) i) (emb3 t r e)

theorem blk3_3 (c : Dev nD) (t : Fin cfg3.N) (r : Fin 128) (e : Fin 2048) :
    (iblk3 V c 3 t : Vec Ideal S128x2048 .f32) (ix2 r e) = (V c main_arg15 : S256x2048.Idx → EReal) (ix2 ⟨128 * t.val + r.val, row3 t r⟩ e) := by
  unfold iblk3; rw [View.read_apply]
  exact congrArg (fun i => (V c main_arg15 : S256x2048.Idx → EReal) i) (emb3 t r e)

theorem cover3 (i : S256x2048.Idx) : ∃ t : Fin cfg3.N, i ∈ ((cfg3.win 1).blk t).view.set := by
  have b0 : (i 0 : Nat) < 256 := (i 0).isLt
  have b1 : (i 1 : Nat) < 2048 := (i 1).isLt
  have hN : cfg3.N = 2 := N_3
  refine ⟨⟨(i 0 : Nat) / 128, by omega⟩, ?_⟩
  generalize ht : (⟨(i 0 : Nat) / 128, by omega⟩ : Fin cfg3.N) = t
  have tv : t.val = (i 0 : Nat) / 128 := by rw [← ht]
  obtain ⟨-, i0, i1⟩ := idx3 t
  show i ∈ ((View.whole main_arg13).slice (win3_1.rect t)).set
  rw [View.set_slice_whole, Rect.mem_set_unit]
  intro a
  match a with
  | ⟨0, _⟩ => show win3_1.index t 0 * 128 ≤ (i 0 : Nat) ∧ (i 0 : Nat) < win3_1.index t 0 * 128 + 128; rw [i0]; omega
  | ⟨1, _⟩ => show win3_1.index t 1 * 2048 ≤ (i 1 : Nat) ∧ (i 1 : Nat) < win3_1.index t 1 * 2048 + 2048; rw [i1]; omega

/-- The output's weight: the gradient. -/
theorem arr3_4 (c : Dev nD) : (dat3 V c).arrAt 4 cfg3.N = total (K := 256) (n := 2048) (V c main_arg12) :=
  (dat3 V c).arrAt_eq_of_cover 4 _ (fun t _ => by
    show (cfg3.win 4).cut (grid3.coords t) ((dat3 V c).after 4 t) = _
    rw [after3_4]; funext j
    obtain ⟨r, e, rfl⟩ := any2 128 2048 j
    rw [View.read_apply]
    refine (congrFun (out3_4_eq _ _ _ _) (ix2 r e)).trans (Eq.trans ?_ (congrArg (total (K := 256) (n := 2048) (V c main_arg12)) (emb3 t r e)).symm)
    exact total_block (fun d => share3 V c t d r e)) fun i => (cover3 i).imp fun t h => ⟨flush3_4 t, h⟩

/-- The output's weight: the change. -/
theorem arr3_5 (c : Dev nD) : (dat3 V c).arrAt 5 cfg3.N = deltas (K := 256) (n := 2048) (V c main_arg12) (V c main_arg13) (V c main_arg14) (V c main_arg15) :=
  (dat3 V c).arrAt_eq_of_cover 5 _ (fun t _ => by
    show (cfg3.win 5).cut (grid3.coords t) ((dat3 V c).after 5 t) = _
    rw [after3_5]; funext j
    obtain ⟨r, e, rfl⟩ := any2 128 2048 j
    rw [View.read_apply]
    refine (congrFun (out3_5_eq _ _ _ _) (ix2 r e)).trans (Eq.trans ?_ (congrArg (deltas (K := 256) (n := 2048) (V c main_arg12) (V c main_arg13) (V c main_arg14) (V c main_arg15)) (emb3 t r e)).symm)
    exact deltas_block (fun d => share3 V c t d r e) (blk3_1 V c t r e) (blk3_2 V c t r e) (blk3_3 V c t r e)) fun i => (cover3 i).imp fun t h => ⟨flush3_5 t, h⟩

/-- The output's weight: the new first moment. -/
theorem arr3_6 (c : Dev nD) : (dat3 V c).arrAt 6 cfg3.N = moments (K := 256) (n := 2048) (V c main_arg12) (V c main_arg14) :=
  (dat3 V c).arrAt_eq_of_cover 6 _ (fun t _ => by
    show (cfg3.win 6).cut (grid3.coords t) ((dat3 V c).after 6 t) = _
    rw [after3_6]; funext j
    obtain ⟨r, e, rfl⟩ := any2 128 2048 j
    rw [View.read_apply]
    refine (congrFun (out3_6_eq _ _ _ _) (ix2 r e)).trans (Eq.trans ?_ (congrArg (moments (K := 256) (n := 2048) (V c main_arg12) (V c main_arg14)) (emb3 t r e)).symm)
    exact moments_block (fun d => share3 V c t d r e) (blk3_2 V c t r e)) fun i => (cover3 i).imp fun t h => ⟨flush3_6 t, h⟩

/-- The output's weight: the new second moment. -/
theorem arr3_7 (c : Dev nD) : (dat3 V c).arrAt 7 cfg3.N = squares (K := 256) (n := 2048) (V c main_arg12) (V c main_arg15) :=
  (dat3 V c).arrAt_eq_of_cover 7 _ (fun t _ => by
    show (cfg3.win 7).cut (grid3.coords t) ((dat3 V c).after 7 t) = _
    rw [after3_7]; funext j
    obtain ⟨r, e, rfl⟩ := any2 128 2048 j
    rw [View.read_apply]
    refine (congrFun (out3_7_eq _ _ _ _) (ix2 r e)).trans (Eq.trans ?_ (congrArg (squares (K := 256) (n := 2048) (V c main_arg12) (V c main_arg15)) (emb3 t r e)).symm)
    exact squares_block (fun d => share3 V c t d r e) (blk3_3 V c t r e)) fun i => (cover3 i).imp fun t h => ⟨flush3_7 t, h⟩

end Cert.Kernel6Ideal.Optimiser

end
-- ==== Proof.AdamwChain.lean ====
/-
  The optimiser's four calls in a row: each call's output arrays as functions of the arguments, carried through the later
  calls to the results (at the ideal values).
-/
module

public import proofs.«01_k».proof.Proof.AdamwArrays

@[expose] public section

set_option maxRecDepth 16384

noncomputable section

namespace Cert.Kernel6Ideal.Optimiser

open Cert.Kernel6Ideal Cert.Kernel6Ideal.Gen Cert.Products Cert.Adamw Idealize.ShloMosaic.TcCoe Idealize.SL.Sem
open Idealize.ShloMosaic hiding ix1 ix2 ix3 eq_ix1 eq_ix2 eq_ix3
open Idealize.ShloMosaic.ValueIdx

variable (m : (ℓ : Loc nD τ sig) → Buf (Elt Ideal) ℓ) (ρ : Dev nD → PrngReg)

/-- The arguments as launched. -/
abbrev a0 (c : Dev nD) : S8x2048x768.Idx → EReal := m ((c : Thread nD τ).loc main_arg0)
abbrev a1 (c : Dev nD) : S2048x768.Idx → EReal := m ((c : Thread nD τ).loc main_arg1)
abbrev a2 (c : Dev nD) : S2048x768.Idx → EReal := m ((c : Thread nD τ).loc main_arg2)
abbrev a3 (c : Dev nD) : S2048x768.Idx → EReal := m ((c : Thread nD τ).loc main_arg3)
abbrev a4 (c : Dev nD) : S8x512x256.Idx → EReal := m ((c : Thread nD τ).loc main_arg4)
abbrev a5 (c : Dev nD) : S512x256.Idx → EReal := m ((c : Thread nD τ).loc main_arg5)
abbrev a6 (c : Dev nD) : S512x256.Idx → EReal := m ((c : Thread nD τ).loc main_arg6)
abbrev a7 (c : Dev nD) : S512x256.Idx → EReal := m ((c : Thread nD τ).loc main_arg7)
abbrev a8 (c : Dev nD) : S8x512x256.Idx → EReal := m ((c : Thread nD τ).loc main_arg8)
abbrev a9 (c : Dev nD) : S512x256.Idx → EReal := m ((c : Thread nD τ).loc main_arg9)
abbrev a10 (c : Dev nD) : S512x256.Idx → EReal := m ((c : Thread nD τ).loc main_arg10)
abbrev a11 (c : Dev nD) : S512x256.Idx → EReal := m ((c : Thread nD τ).loc main_arg11)
abbrev a12 (c : Dev nD) : S8x256x2048.Idx → EReal := m ((c : Thread nD τ).loc main_arg12)
abbrev a13 (c : Dev nD) : S256x2048.Idx → EReal := m ((c : Thread nD τ).loc main_arg13)
abbrev a14 (c : Dev nD) : S256x2048.Idx → EReal := m ((c : Thread nD τ).loc main_arg14)
abbrev a15 (c : Dev nD) : S256x2048.Idx → EReal := m ((c : Thread nD τ).loc main_arg15)
theorem at0_arg0 (c : Dev nD) : V0 m ρ c main_arg0 = a0 m c := rfl
theorem at0_arg1 (c : Dev nD) : V0 m ρ c main_arg1 = a1 m c := rfl
theorem at0_arg2 (c : Dev nD) : V0 m ρ c main_arg2 = a2 m c := rfl
theorem at0_arg3 (c : Dev nD) : V0 m ρ c main_arg3 = a3 m c := rfl
theorem at1_v0_0 (c : Dev nD) : V1 m ρ c main_v0_0 = total (a0 m c) :=
  ((W1_arr m ρ c 4).trans (arr0_4 (V0 m ρ) c)).trans (by
    rw [at0_arg0])
theorem at1_v0_1 (c : Dev nD) : V1 m ρ c main_v0_1 = deltas (a0 m c) (a1 m c) (a2 m c) (a3 m c) :=
  ((W1_arr m ρ c 5).trans (arr0_5 (V0 m ρ) c)).trans (by
    rw [at0_arg0, at0_arg1, at0_arg2, at0_arg3])
theorem at1_v0_2 (c : Dev nD) : V1 m ρ c main_v0_2 = moments (a0 m c) (a2 m c) :=
  ((W1_arr m ρ c 6).trans (arr0_6 (V0 m ρ) c)).trans (by
    rw [at0_arg0, at0_arg2])
theorem at1_v0_3 (c : Dev nD) : V1 m ρ c main_v0_3 = squares (a0 m c) (a3 m c) :=
  ((W1_arr m ρ c 7).trans (arr0_7 (V0 m ρ) c)).trans (by
    rw [at0_arg0, at0_arg3])
theorem at1_arg4 (c : Dev nD) : V1 m ρ c main_arg4 = a4 m c := W1_args m ρ c main_arg4 (by decide)
theorem at1_arg5 (c : Dev nD) : V1 m ρ c main_arg5 = a5 m c := W1_args m ρ c main_arg5 (by decide)
theorem at1_arg6 (c : Dev nD) : V1 m ρ c main_arg6 = a6 m c := W1_args m ρ c main_arg6 (by decide)
theorem at1_arg7 (c : Dev nD) : V1 m ρ c main_arg7 = a7 m c := W1_args m ρ c main_arg7 (by decide)
theorem at2_v1_0 (c : Dev nD) : V2 m ρ c main_v1_0 = total (a4 m c) :=
  ((W2_arr m ρ c 4).trans (arr1_4 (V1 m ρ) c)).trans (by
    rw [at1_arg4])
theorem at2_v1_1 (c : Dev nD) : V2 m ρ c main_v1_1 = deltas (a4 m c) (a5 m c) (a6 m c) (a7 m c) :=
  ((W2_arr m ρ c 5).trans (arr1_5 (V1 m ρ) c)).trans (by
    rw [at1_arg4, at1_arg5, at1_arg6, at1_arg7])
theorem at2_v1_2 (c : Dev nD) : V2 m ρ c main_v1_2 = moments (a4 m c) (a6 m c) :=
  ((W2_arr m ρ c 6).trans (arr1_6 (V1 m ρ) c)).trans (by
    rw [at1_arg4, at1_arg6])
theorem at2_v1_3 (c : Dev nD) : V2 m ρ c main_v1_3 = squares (a4 m c) (a7 m c) :=
  ((W2_arr m ρ c 7).trans (arr1_7 (V1 m ρ) c)).trans (by
    rw [at1_arg4, at1_arg7])
theorem at2_arg8 (c : Dev nD) : V2 m ρ c main_arg8 = a8 m c := W2_args m ρ c main_arg8 (by decide)
theorem at2_arg9 (c : Dev nD) : V2 m ρ c main_arg9 = a9 m c := W2_args m ρ c main_arg9 (by decide)
theorem at2_arg10 (c : Dev nD) : V2 m ρ c main_arg10 = a10 m c := W2_args m ρ c main_arg10 (by decide)
theorem at2_arg11 (c : Dev nD) : V2 m ρ c main_arg11 = a11 m c := W2_args m ρ c main_arg11 (by decide)
theorem at3_v2_0 (c : Dev nD) : V3 m ρ c main_v2_0 = total (a8 m c) :=
  ((W3_arr m ρ c 4).trans (arr2_4 (V2 m ρ) c)).trans (by
    rw [at2_arg8])
theorem at3_v2_1 (c : Dev nD) : V3 m ρ c main_v2_1 = deltas (a8 m c) (a9 m c) (a10 m c) (a11 m c) :=
  ((W3_arr m ρ c 5).trans (arr2_5 (V2 m ρ) c)).trans (by
    rw [at2_arg8, at2_arg9, at2_arg10, at2_arg11])
theorem at3_v2_2 (c : Dev nD) : V3 m ρ c main_v2_2 = moments (a8 m c) (a10 m c) :=
  ((W3_arr m ρ c 6).trans (arr2_6 (V2 m ρ) c)).trans (by
    rw [at2_arg8, at2_arg10])
theorem at3_v2_3 (c : Dev nD) : V3 m ρ c main_v2_3 = squares (a8 m c) (a11 m c) :=
  ((W3_arr m ρ c 7).trans (arr2_7 (V2 m ρ) c)).trans (by
    rw [at2_arg8, at2_arg11])
theorem at3_arg12 (c : Dev nD) : V3 m ρ c main_arg12 = a12 m c := W3_args m ρ c main_arg12 (by decide)
theorem at3_arg13 (c : Dev nD) : V3 m ρ c main_arg13 = a13 m c := W3_args m ρ c main_arg13 (by decide)
theorem at3_arg14 (c : Dev nD) : V3 m ρ c main_arg14 = a14 m c := W3_args m ρ c main_arg14 (by decide)
theorem at3_arg15 (c : Dev nD) : V3 m ρ c main_arg15 = a15 m c := W3_args m ρ c main_arg15 (by decide)
theorem at4_v3_0 (c : Dev nD) : V4 m ρ c main_v3_0 = total (a12 m c) :=
  ((W4_arr m ρ c 4).trans (arr3_4 (V3 m ρ) c)).trans (by
    rw [at3_arg12])
theorem at4_v3_1 (c : Dev nD) : V4 m ρ c main_v3_1 = deltas (a12 m c) (a13 m c) (a14 m c) (a15 m c) :=
  ((W4_arr m ρ c 5).trans (arr3_5 (V3 m ρ) c)).trans (by
    rw [at3_arg12, at3_arg13, at3_arg14, at3_arg15])
theorem at4_v3_2 (c : Dev nD) : V4 m ρ c main_v3_2 = moments (a12 m c) (a14 m c) :=
  ((W4_arr m ρ c 6).trans (arr3_6 (V3 m ρ) c)).trans (by
    rw [at3_arg12, at3_arg14])
theorem at4_v3_3 (c : Dev nD) : V4 m ρ c main_v3_3 = squares (a12 m c) (a15 m c) :=
  ((W4_arr m ρ c 7).trans (arr3_7 (V3 m ρ) c)).trans (by
    rw [at3_arg12, at3_arg15])

/-! ## The results -/

theorem at2_v0_0 (c : Dev nD) : V2 m ρ c main_v0_0 = total (a0 m c) := (W2_of m ρ c main_v0_0 (by decide +kernel)).trans (at1_v0_0 m ρ c)
theorem at3_v0_0 (c : Dev nD) : V3 m ρ c main_v0_0 = total (a0 m c) := (W3_of m ρ c main_v0_0 (by decide +kernel)).trans (at2_v0_0 m ρ c)
theorem at4_v0_0 (c : Dev nD) : V4 m ρ c main_v0_0 = total (a0 m c) := (W4_of m ρ c main_v0_0 (by decide +kernel)).trans (at3_v0_0 m ρ c)
theorem res0 (c : Dev nD) : W4 m ρ c (Proc.devRef .tc main_v0_0) = total (a0 m c) := at4_v0_0 m ρ c
theorem at2_v0_1 (c : Dev nD) : V2 m ρ c main_v0_1 = deltas (a0 m c) (a1 m c) (a2 m c) (a3 m c) := (W2_of m ρ c main_v0_1 (by decide +kernel)).trans (at1_v0_1 m ρ c)
theorem at3_v0_1 (c : Dev nD) : V3 m ρ c main_v0_1 = deltas (a0 m c) (a1 m c) (a2 m c) (a3 m c) := (W3_of m ρ c main_v0_1 (by decide +kernel)).trans (at2_v0_1 m ρ c)
theorem at4_v0_1 (c : Dev nD) : V4 m ρ c main_v0_1 = deltas (a0 m c) (a1 m c) (a2 m c) (a3 m c) := (W4_of m ρ c main_v0_1 (by decide +kernel)).trans (at3_v0_1 m ρ c)
theorem res1 (c : Dev nD) : W4 m ρ c (Proc.devRef .tc main_v0_1) = deltas (a0 m c) (a1 m c) (a2 m c) (a3 m c) := at4_v0_1 m ρ c
theorem at2_v0_2 (c : Dev nD) : V2 m ρ c main_v0_2 = moments (a0 m c) (a2 m c) := (W2_of m ρ c main_v0_2 (by decide +kernel)).trans (at1_v0_2 m ρ c)
theorem at3_v0_2 (c : Dev nD) : V3 m ρ c main_v0_2 = moments (a0 m c) (a2 m c) := (W3_of m ρ c main_v0_2 (by decide +kernel)).trans (at2_v0_2 m ρ c)
theorem at4_v0_2 (c : Dev nD) : V4 m ρ c main_v0_2 = moments (a0 m c) (a2 m c) := (W4_of m ρ c main_v0_2 (by decide +kernel)).trans (at3_v0_2 m ρ c)
theorem res2 (c : Dev nD) : W4 m ρ c (Proc.devRef .tc main_v0_2) = moments (a0 m c) (a2 m c) := at4_v0_2 m ρ c
theorem at2_v0_3 (c : Dev nD) : V2 m ρ c main_v0_3 = squares (a0 m c) (a3 m c) := (W2_of m ρ c main_v0_3 (by decide +kernel)).trans (at1_v0_3 m ρ c)
theorem at3_v0_3 (c : Dev nD) : V3 m ρ c main_v0_3 = squares (a0 m c) (a3 m c) := (W3_of m ρ c main_v0_3 (by decide +kernel)).trans (at2_v0_3 m ρ c)
theorem at4_v0_3 (c : Dev nD) : V4 m ρ c main_v0_3 = squares (a0 m c) (a3 m c) := (W4_of m ρ c main_v0_3 (by decide +kernel)).trans (at3_v0_3 m ρ c)
theorem res3 (c : Dev nD) : W4 m ρ c (Proc.devRef .tc main_v0_3) = squares (a0 m c) (a3 m c) := at4_v0_3 m ρ c
theorem at3_v1_0 (c : Dev nD) : V3 m ρ c main_v1_0 = total (a4 m c) := (W3_of m ρ c main_v1_0 (by decide +kernel)).trans (at2_v1_0 m ρ c)
theorem at4_v1_0 (c : Dev nD) : V4 m ρ c main_v1_0 = total (a4 m c) := (W4_of m ρ c main_v1_0 (by decide +kernel)).trans (at3_v1_0 m ρ c)
theorem res4 (c : Dev nD) : W4 m ρ c (Proc.devRef .tc main_v1_0) = total (a4 m c) := at4_v1_0 m ρ c
theorem at3_v1_1 (c : Dev nD) : V3 m ρ c main_v1_1 = deltas (a4 m c) (a5 m c) (a6 m c) (a7 m c) := (W3_of m ρ c main_v1_1 (by decide +kernel)).trans (at2_v1_1 m ρ c)
theorem at4_v1_1 (c : Dev nD) : V4 m ρ c main_v1_1 = deltas (a4 m c) (a5 m c) (a6 m c) (a7 m c) := (W4_of m ρ c main_v1_1 (by decide +kernel)).trans (at3_v1_1 m ρ c)
theorem res5 (c : Dev nD) : W4 m ρ c (Proc.devRef .tc main_v1_1) = deltas (a4 m c) (a5 m c) (a6 m c) (a7 m c) := at4_v1_1 m ρ c
theorem at3_v1_2 (c : Dev nD) : V3 m ρ c main_v1_2 = moments (a4 m c) (a6 m c) := (W3_of m ρ c main_v1_2 (by decide +kernel)).trans (at2_v1_2 m ρ c)
theorem at4_v1_2 (c : Dev nD) : V4 m ρ c main_v1_2 = moments (a4 m c) (a6 m c) := (W4_of m ρ c main_v1_2 (by decide +kernel)).trans (at3_v1_2 m ρ c)
theorem res6 (c : Dev nD) : W4 m ρ c (Proc.devRef .tc main_v1_2) = moments (a4 m c) (a6 m c) := at4_v1_2 m ρ c
theorem at3_v1_3 (c : Dev nD) : V3 m ρ c main_v1_3 = squares (a4 m c) (a7 m c) := (W3_of m ρ c main_v1_3 (by decide +kernel)).trans (at2_v1_3 m ρ c)
theorem at4_v1_3 (c : Dev nD) : V4 m ρ c main_v1_3 = squares (a4 m c) (a7 m c) := (W4_of m ρ c main_v1_3 (by decide +kernel)).trans (at3_v1_3 m ρ c)
theorem res7 (c : Dev nD) : W4 m ρ c (Proc.devRef .tc main_v1_3) = squares (a4 m c) (a7 m c) := at4_v1_3 m ρ c
theorem at4_v2_0 (c : Dev nD) : V4 m ρ c main_v2_0 = total (a8 m c) := (W4_of m ρ c main_v2_0 (by decide +kernel)).trans (at3_v2_0 m ρ c)
theorem res8 (c : Dev nD) : W4 m ρ c (Proc.devRef .tc main_v2_0) = total (a8 m c) := at4_v2_0 m ρ c
theorem at4_v2_1 (c : Dev nD) : V4 m ρ c main_v2_1 = deltas (a8 m c) (a9 m c) (a10 m c) (a11 m c) := (W4_of m ρ c main_v2_1 (by decide +kernel)).trans (at3_v2_1 m ρ c)
theorem res9 (c : Dev nD) : W4 m ρ c (Proc.devRef .tc main_v2_1) = deltas (a8 m c) (a9 m c) (a10 m c) (a11 m c) := at4_v2_1 m ρ c
theorem at4_v2_2 (c : Dev nD) : V4 m ρ c main_v2_2 = moments (a8 m c) (a10 m c) := (W4_of m ρ c main_v2_2 (by decide +kernel)).trans (at3_v2_2 m ρ c)
theorem res10 (c : Dev nD) : W4 m ρ c (Proc.devRef .tc main_v2_2) = moments (a8 m c) (a10 m c) := at4_v2_2 m ρ c
theorem at4_v2_3 (c : Dev nD) : V4 m ρ c main_v2_3 = squares (a8 m c) (a11 m c) := (W4_of m ρ c main_v2_3 (by decide +kernel)).trans (at3_v2_3 m ρ c)
theorem res11 (c : Dev nD) : W4 m ρ c (Proc.devRef .tc main_v2_3) = squares (a8 m c) (a11 m c) := at4_v2_3 m ρ c
theorem res12 (c : Dev nD) : W4 m ρ c (Proc.devRef .tc main_v3_0) = total (a12 m c) := at4_v3_0 m ρ c
theorem res13 (c : Dev nD) : W4 m ρ c (Proc.devRef .tc main_v3_1) = deltas (a12 m c) (a13 m c) (a14 m c) (a15 m c) := at4_v3_1 m ρ c
theorem res14 (c : Dev nD) : W4 m ρ c (Proc.devRef .tc main_v3_2) = moments (a12 m c) (a14 m c) := at4_v3_2 m ρ c
theorem res15 (c : Dev nD) : W4 m ρ c (Proc.devRef .tc main_v3_3) = squares (a12 m c) (a15 m c) := at4_v3_3 m ρ c
end Cert.Kernel6Ideal.Optimiser

end
-- ==== Proof.AdamwRun.lean ====
/-
  The run of the optimiser's four calls, read at the sixteen results (at the ideal values).  The launch set-up is the
  frame's own; what is read off the last boundary's contents here are the results too.
-/
module

public import proofs.«01_k».proof.Proof.AdamwChain

@[expose] public section

set_option maxRecDepth 16384

noncomputable section

namespace Cert.Kernel6Ideal.Optimiser

open Cert.Kernel6Ideal Cert.Kernel6Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, read: the results as functions of the arguments, the arguments unchanged. -/
theorem run : θ_run defs (onTc (τ := τ) (main (F := Ideal))) ⟨m, fun _ => 0, ρ⟩ fun r => ∀ c : Dev nD,
      r.2.mem ((c : Thread nD τ).loc main_v0_0) = Cert.Adamw.total (a0 m c)
      ∧ r.2.mem ((c : Thread nD τ).loc main_v0_1) = Cert.Adamw.deltas (a0 m c) (a1 m c) (a2 m c) (a3 m c)
      ∧ r.2.mem ((c : Thread nD τ).loc main_v0_2) = Cert.Adamw.moments (a0 m c) (a2 m c)
      ∧ r.2.mem ((c : Thread nD τ).loc main_v0_3) = Cert.Adamw.squares (a0 m c) (a3 m c)
      ∧ r.2.mem ((c : Thread nD τ).loc main_v1_0) = Cert.Adamw.total (a4 m c)
      ∧ r.2.mem ((c : Thread nD τ).loc main_v1_1) = Cert.Adamw.deltas (a4 m c) (a5 m c) (a6 m c) (a7 m c)
      ∧ r.2.mem ((c : Thread nD τ).loc main_v1_2) = Cert.Adamw.moments (a4 m c) (a6 m c)
      ∧ r.2.mem ((c : Thread nD τ).loc main_v1_3) = Cert.Adamw.squares (a4 m c) (a7 m c)
      ∧ r.2.mem ((c : Thread nD τ).loc main_v2_0) = Cert.Adamw.total (a8 m c)
      ∧ r.2.mem ((c : Thread nD τ).loc main_v2_1) = Cert.Adamw.deltas (a8 m c) (a9 m c) (a10 m c) (a11 m c)
      ∧ r.2.mem ((c : Thread nD τ).loc main_v2_2) = Cert.Adamw.moments (a8 m c) (a10 m c)
      ∧ r.2.mem ((c : Thread nD τ).loc main_v2_3) = Cert.Adamw.squares (a8 m c) (a11 m c)
      ∧ r.2.mem ((c : Thread nD τ).loc main_v3_0) = Cert.Adamw.total (a12 m c)
      ∧ r.2.mem ((c : Thread nD τ).loc main_v3_1) = Cert.Adamw.deltas (a12 m c) (a13 m c) (a14 m c) (a15 m c)
      ∧ r.2.mem ((c : Thread nD τ).loc main_v3_2) = Cert.Adamw.moments (a12 m c) (a14 m c)
      ∧ r.2.mem ((c : Thread nD τ).loc main_v3_3) = Cert.Adamw.squares (a12 m c) (a15 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v0_0 (by decide))).trans (res0 m ρ c),
      (h c _ (mem_uc main_v0_1 (by decide))).trans (res1 m ρ c),
      (h c _ (mem_uc main_v0_2 (by decide))).trans (res2 m ρ c),
      (h c _ (mem_uc main_v0_3 (by decide))).trans (res3 m ρ c),
      (h c _ (mem_uc main_v1_0 (by decide))).trans (res4 m ρ c),
      (h c _ (mem_uc main_v1_1 (by decide))).trans (res5 m ρ c),
      (h c _ (mem_uc main_v1_2 (by decide))).trans (res6 m ρ c),
      (h c _ (mem_uc main_v1_3 (by decide))).trans (res7 m ρ c),
      (h c _ (mem_uc main_v2_0 (by decide))).trans (res8 m ρ c),
      (h c _ (mem_uc main_v2_1 (by decide))).trans (res9 m ρ c),
      (h c _ (mem_uc main_v2_2 (by decide))).trans (res10 m ρ c),
      (h c _ (mem_uc main_v2_3 (by decide))).trans (res11 m ρ c),
      (h c _ (mem_uc main_v3_0 (by decide))).trans (res12 m ρ c),
      (h c _ (mem_uc main_v3_1 (by decide))).trans (res13 m ρ c),
      (h c _ (mem_uc main_v3_2 (by decide))).trans (res14 m ρ c),
      (h c _ (mem_uc main_v3_3 (by decide))).trans (res15 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c)⟩)

end Cert.Kernel6Ideal.Optimiser

end
-- ==== Proof.MlpReference.lean ====
/-
  The reference's squared-ReLU block and the gradients its transposition computes, read as the block's own functions.
-/
module

public import proofs.«01_k».proof.Proof.Gen.Reference2Ideal.Read
public import proofs.«01_k».proof.Proof.MlpMath

@[expose] public section

set_option maxRecDepth 16384

noncomputable section

namespace Cert.Reference2Ideal.Mlp

open Cert.Reference2Ideal Cert.Reference2Ideal.Gen Cert.Reference2Ideal.Read Cert.Products
open Cert.Mlp (relu two)
open Idealize.ShloMosaic
open Idealize.ShloMosaic.ValueIdx

variable (x0 : (⟨S4096x2048, .f32⟩ : BufTy).Contents (Elt Ideal)) (x1 : (⟨S4096x2048, .bf16⟩ : BufTy).Contents (Elt Ideal))
  (x2 : (⟨S2048x8192, .f32⟩ : BufTy).Contents (Elt Ideal)) (x3 : (⟨S8192x2048, .f32⟩ : BufTy).Contents (Elt Ideal))
  (x4 : (⟨S4096x2048, .bf16⟩ : BufTy).Contents (Elt Ideal))

theorem v1 (i : S4096x8192.Idx) : val_main_v1 (F := Ideal) x1 x2 i = rowCol x1 x2 (i 0) (i 1) := by
  rw [val_main_v1_apply]; unfold rowCol
  refine Finset.sum_congr rfl fun k _ => congrArg₂ (fun a b : EReal => a * b) ?_ ?_
  · show x1 _ = x1 _
    congr 1; funext a; match a with | ⟨0, _⟩ => rfl | ⟨1, _⟩ => rfl
  · congr 1; funext a; match a with | ⟨0, _⟩ => rfl | ⟨1, _⟩ => rfl

theorem v2 (i : S4096x8192.Idx) : val_main_v2 (F := Ideal) x1 x2 i = relu (rowCol x1 x2 (i 0) (i 1)) := by
  rw [val_main_v2_apply, v1, val_main_call0_v0_apply, val_main_call0_cst_apply]
  show max _ (Ideal.ofBits .f32 0x00000000#32) = _
  rw [zero_word]; rfl

theorem v6 : val_main_v6 (F := Ideal) x1 x2 = Cert.Mlp.act x1 x2 := funext fun i => by
  rw [val_main_v6_apply, v2]; rfl

theorem v8 (i : S4096x8192.Idx) : val_main_v8 (F := Ideal) x1 x2 i = two * relu (rowCol x1 x2 (i 0) (i 1)) := by
  rw [val_main_v8_apply, v2, val_main_v7_apply, val_main_cst_1_apply]; rfl

theorem v10 : val_main_v10 (F := Ideal) x0 x1 x2 x3 = Cert.Mlp.out x0 x1 x2 x3 := funext fun i => by
  rw [val_main_v10_apply, val_main_v9_apply, v6]
  show x0 i + _ = _
  refine congrArg₂ (fun a b : EReal => a + b) (congrArg x0 (eq_ix2 (n0 := 4096) (n1 := 2048) i)) ?_
  refine Finset.sum_congr rfl fun k _ => congrArg₂ (fun a b : EReal => a * b) ?_ ?_
  · congr 1; funext a; match a with | ⟨0, _⟩ => rfl | ⟨1, _⟩ => rfl
  · congr 1; funext a; match a with | ⟨0, _⟩ => rfl | ⟨1, _⟩ => rfl

theorem v14 (i : S4096x8192.Idx) : val_main_v14 (F := Ideal) x3 x4 i = rowRow x4 x3 (i 0) (i 1) := by
  rw [val_main_v14_apply]; unfold rowRow
  refine Finset.sum_congr rfl fun k _ => congrArg₂ (fun a b : EReal => a * b) ?_ ?_
  · show x4 _ = x4 _
    congr 1; funext a; match a with | ⟨0, _⟩ => rfl | ⟨1, _⟩ => rfl
  · congr 1; funext a; match a with | ⟨0, _⟩ => rfl | ⟨1, _⟩ => rfl

theorem v17 : val_main_v17 (F := Ideal) x1 x2 x3 x4 = Cert.Mlp.du x1 x2 x3 x4 := funext fun i => by
  rw [val_main_v17_apply, val_main_v15_apply, v14, v8, val_main_v4_apply, v1, val_main_v3_apply, val_main_cst_apply, val_main_v16_apply, val_main_cst_2_apply]
  refine Eq.trans ?_ (Cert.Mlp.choose_sign (rowCol x1 x2 (i 0) (i 1)) (rowRow x4 x3 (i 0) (i 1)))
  have hs : ∀ b : BitVec (FTy.f32).bits, Scalar.ofBits (F := Ideal) .f32 b = Ideal.ofBits .f32 b := fun _ => rfl
  show Scalar.select (FloatOps.cmpf (F := Ideal) (φ := .f32) .ogt (rowCol x1 x2 (i 0) (i 1)) (Ideal.ofBits .f32 0x00000000#32)) _ (Ideal.ofBits .f32 0x00000000#32) = _
  simp only [Scalar.select, Ideal.cmpf_def, Ideal.cmp, zero_word]
  by_cases h : 0 < rowCol x1 x2 (i 0) (i 1)
  · rw [if_pos h]; simp [h]
  · rw [if_neg h]; simp [h]

theorem v12 (i : S2048x8192.Idx) : val_main_v12 (F := Ideal) x1 x2 x4 i = colCol (Cert.Mlp.act x1 x2) x4 (i 1) (i 0) := by
  rw [val_main_v12_apply, v6]; unfold colCol
  refine Finset.sum_congr rfl fun k _ => (mul_comm (G := EReal) _ _).trans (congrArg₂ (fun a b : EReal => a * b) ?_ ?_)
  · congr 1; funext a; match a with | ⟨0, _⟩ => rfl | ⟨1, _⟩ => rfl
  · show x4 _ = x4 _
    congr 1; funext a; match a with | ⟨0, _⟩ => rfl | ⟨1, _⟩ => rfl

theorem v23 : val_main_v23 (F := Ideal) x1 x2 x4 = Cert.Mlp.dwd x1 x2 x4 := funext fun i => by
  rw [val_main_v23_apply, val_main_v13_apply, v12]; rfl

theorem v18 (i : S8192x2048.Idx) : val_main_v18 (F := Ideal) x1 x2 x3 x4 i = colCol x1 (Cert.Mlp.du x1 x2 x3 x4) (i 1) (i 0) := by
  rw [val_main_v18_apply, v17]; unfold colCol
  refine Finset.sum_congr rfl fun k _ => (mul_comm (G := EReal) _ _).trans (congrArg₂ (fun a b : EReal => a * b) ?_ ?_)
  · show x1 _ = x1 _
    congr 1; funext a; match a with | ⟨0, _⟩ => rfl | ⟨1, _⟩ => rfl
  · congr 1; funext a; match a with | ⟨0, _⟩ => rfl | ⟨1, _⟩ => rfl

theorem v22 : val_main_v22 (F := Ideal) x1 x2 x3 x4 = Cert.Mlp.dwu x1 x2 x3 x4 := funext fun i => by
  rw [val_main_v22_apply, val_main_v19_apply, v18]; rfl

theorem v21 : val_main_v21 (F := Ideal) x1 x2 x3 x4 = Cert.Mlp.dh x1 x2 x3 x4 := funext fun i => by
  rw [val_main_v21_apply, val_main_v20_apply, v17]
  show (∑ k : Fin 8192, _ : EReal) = rowRow _ _ (i 0) (i 1)
  unfold rowRow
  refine Finset.sum_congr rfl fun k _ => congrArg₂ (fun a b : EReal => a * b) ?_ ?_
  · congr 1; funext a; match a with | ⟨0, _⟩ => rfl | ⟨1, _⟩ => rfl
  · congr 1; funext a; match a with | ⟨0, _⟩ => rfl | ⟨1, _⟩ => rfl

end Cert.Reference2Ideal.Mlp

end
-- ==== Proof.MixerForwardBlock.lean ====
/-
  One grid point of each of the five calls of the mixer's forward products: what its body leaves in its outputs' staging
  buffers, as sums of products of the staged blocks' elements (at the ideal values).
-/
module

public import proofs.«01_k».proof.Proof.Gen.Kernel3Ideal.Frame
public import proofs.«01_k».proof.Proof.MixerForwardMath
public import Idealize.ShloMosaic.Lib.ValueLayout

@[expose] public section

set_option maxRecDepth 16384

noncomputable section

namespace Cert.Kernel3Ideal.Block

open Cert.Kernel3Ideal Cert.Kernel3Ideal.Gen Cert.Products Idealize.ShloMosaic.TcCoe Idealize.SL.Sem
open Cert.Mixer (invNorm)
open Idealize.ShloMosaic hiding ix1 ix2 ix3 eq_ix1 eq_ix2 eq_ix3
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-! ## Products against two shards, side by side -/

theorem qkv_out (x : Vec Ideal S1024x2048 .bf16) (w : Vec Ideal S2x2048x768 .bf16) (r : Fin 1024) (s : Fin 2) (e : Fin 768) :
    out0_2 (F := Ideal) x w (ix2 r (shCol (M := 1536) (by norm_num) s e)) = ∑ k : Fin 2048, x (ix2 r k) * w (ix3 s k e) := by
  unfold out0_2
  rw [View.canon_unit_zero hz2, View.ld_unit_zero (S := S1024x2048) hz2, View.ld_unit_zero (S := S2x2048x768) hz3]
  unfold k0_pay1
  rw [shapeCast_self]
  refine (beside _ _ concatenates_S1024x768_S1024x768_S1024x1536_d1 r s e (by have := s.isLt; have := e.isLt; omega)).trans ?_
  match s with
  | ⟨0, _⟩ => exact shard_plain x w (0 : Fin 2) _ _ r e
  | ⟨1, _⟩ => exact shard_plain x w (1 : Fin 2) _ _ r e

theorem gate_out (x : Vec Ideal S1024x2048 .bf16) (w : Vec Ideal S2x2048x512 .bf16) (b : Vec Ideal S1x1024 .f32) (r : Fin 1024) (s : Fin 2) (e : Fin 512) :
    out1_3 (F := Ideal) x w b (ix2 r (shCol (M := 1024) (by norm_num) s e))
      = Ideal.logistic ((∑ k : Fin 2048, x (ix2 r k) * w (ix3 s k e)) + b (ix2 0 (shCol (M := 1024) (by norm_num) s e))) := by
  unfold out1_3
  rw [View.canon_unit_zero hz2, View.ld_unit_zero (S := S1024x2048) hz2, View.ld_unit_zero (S := S2x2048x512) hz3, View.ld_unit_zero (S := S1x1024) hz2]
  unfold k1_pay1
  rw [shapeCast_self]
  refine congrArg Ideal.logistic (congrArg₂ (fun a b : EReal => a + b) ?_ ?_)
  · refine (beside _ _ concatenates_S1024x512_S1024x512_S1024x1024_d1 r s e (by have := s.isLt; have := e.isLt; omega)).trans ?_
    match s with
    | ⟨0, _⟩ => exact shard_plain x w (0 : Fin 2) _ _ r e
    | ⟨1, _⟩ => exact shard_plain x w (1 : Fin 2) _ _ r e
  · exact broadcastTo_1b_ab_apply b _ r _

/-! ## The branches' projections and their merging, one shard at a time -/

/-- What is stored at one shard's columns. -/
def mergePay (a b : Vec Ideal S256x512 .bf16) (wa wb : Vec Ideal S1x512x256 .bf16) (ga gb : Vec Ideal S256x256 .bf16) : FVec Ideal S256x256 .bf16 :=
  truncf (F := Ideal) .bf16 (addf
    (mulf (extf .f32 (shapeCast S256x256 ga shapeCasts_S256x256_S256x256 : FVec Ideal S256x256 .bf16) bitsLt_bf16_f32)
      (matmul (F := Ideal) (φ₁ := .bf16) (φ₂ := .bf16) dot_S256x512_S512x256_S256x256_1_0_0_1_n_n none a (shapeCast S512x256 wa shapeCasts_S1x512x256_S512x256 : FVec Ideal S512x256 .bf16) (constant S256x256 .f32 0x00000000#32)))
    (mulf (extf .f32 (shapeCast S256x256 gb shapeCasts_S256x256_S256x256 : FVec Ideal S256x256 .bf16) bitsLt_bf16_f32)
      (matmul (F := Ideal) (φ₁ := .bf16) (φ₂ := .bf16) dot_S256x512_S512x256_S256x256_1_0_0_1_n_n none b (shapeCast S512x256 wb shapeCasts_S1x512x256_S512x256 : FVec Ideal S512x256 .bf16) (constant S256x256 .f32 0x00000000#32)))) bitsLt_bf16_f32

theorem mergePay_apply (a b : Vec Ideal S256x512 .bf16) (wa wb : Vec Ideal S1x512x256 .bf16) (ga gb : Vec Ideal S256x256 .bf16) (r e : Fin 256) :
    mergePay a b wa wb ga gb (ix2 r e)
      = ga (ix2 r e) * (∑ k : Fin 512, a (ix2 r k) * wa (ix3 0 k e)) + gb (ix2 r e) * (∑ k : Fin 512, b (ix2 r k) * wb (ix3 0 k e)) := by
  unfold mergePay
  rw [shapeCast_self, shapeCast_self]
  show (_ : EReal) * (_ : EReal) + (_ : EReal) * (_ : EReal) = (_ : EReal)
  exact congrArg₂ (fun a b : EReal => a + b) (congrArg (fun z : EReal => ga (ix2 r e) * z) (loaded_plain a wa _ r e))
    (congrArg (fun z : EReal => gb (ix2 r e) * z) (loaded_plain b wb _ r e))

/-- The merged block, column by column. -/
def mergeBlock (a : S256x512.Idx → EReal) (wa : S8x512x256.Idx → EReal) (b : S256x512.Idx → EReal) (wb : S8x512x256.Idx → EReal)
    (ga gb : S256x2048.Idx → EReal) : S256x2048.Idx → EReal := fun i =>
  ga i * (∑ k : Fin 512, a (ix2 (i 0) k) * wa (ix3 (⟨(i 1).val / 256, by have : (i 1).val < 2048 := (i 1).isLt; omega⟩ : Fin 8) k (⟨(i 1).val % 256, by omega⟩ : Fin 256)))
    + gb i * (∑ k : Fin 512, b (ix2 (i 0) k) * wb (ix3 (⟨(i 1).val / 256, by have : (i 1).val < 2048 := (i 1).isLt; omega⟩ : Fin 8) k (⟨(i 1).val % 256, by omega⟩ : Fin 256)))

theorem merge_piece (a : Vec Ideal S256x512 .bf16) (wa : Vec Ideal S8x512x256 .bf16) (b : Vec Ideal S256x512 .bf16) (wb : Vec Ideal S8x512x256 .bf16)
    (ga gb : Vec Ideal S256x2048 .bf16) (s : Fin 8) (o : ℕ) (ho : o = 256 * s.val)
    (hw : ∀ x : Fin 3, (![s.val, 0, 0] : Fin 3 → ℕ) x + S1x512x256.size x ≤ S8x512x256.size x)
    (hc : ∀ x : Fin 2, (![0, o] : Fin 2 → ℕ) x + S256x256.size x ≤ S256x2048.size x) (x : S256x256.Idx) :
    mergePay a b (View.ld wa (Rect.unit (s := S8x512x256) ![s.val, 0, 0] S1x512x256.size hw)) (View.ld wb (Rect.unit (s := S8x512x256) ![s.val, 0, 0] S1x512x256.size hw))
        (View.ld ga (Rect.unit (s := S256x2048) ![0, o] S256x256.size hc)) (View.ld gb (Rect.unit (s := S256x2048) ![0, o] S256x256.size hc)) x
      = mergeBlock a wa b wb ga gb ((Rect.unit (s := S256x2048) ![0, o] S256x256.size hc).emb x) := by
  obtain ⟨r, e, rfl⟩ := any2 256 256 x
  rw [mergePay_apply]
  have hs := s.isLt; have he := e.isLt
  have hw' : ∀ (w : S8x512x256.Idx → EReal) (k : Fin 512),
      w ((Rect.unit (s := S8x512x256) ![s.val, 0, 0] S1x512x256.size hw).emb (ix3 0 k e))
        = w (ix3 (⟨(o + 1 * e.val) / 256, by omega⟩ : Fin 8) k (⟨(o + 1 * e.val) % 256, by omega⟩ : Fin 256)) := by
    intro w k
    refine congrArg w (funext fun x => Fin.ext ?_)
    match x with
    | ⟨0, _⟩ => show s.val + 1 * 0 = (o + 1 * e.val) / 256; omega
    | ⟨1, _⟩ => show 0 + 1 * k.val = k.val; omega
    | ⟨2, _⟩ => show 0 + 1 * e.val = (o + 1 * e.val) % 256; omega
  have ha : ∀ (y : S256x512.Idx → EReal) (k : Fin 512), y (ix2 r k) = y (ix2 ((Rect.unit (s := S256x2048) ![0, o] S256x256.size hc).emb (ix2 r e) 0) k) := by
    intro y k
    refine congrArg y (funext fun x => Fin.ext ?_)
    match x with
    | ⟨0, _⟩ => show r.val = 0 + 1 * r.val; omega
    | ⟨1, _⟩ => rfl
  unfold mergeBlock
  refine congrArg₂ (fun a b : EReal => a + b) (congrArg₂ (fun a b : EReal => a * b) rfl (Finset.sum_congr rfl fun k _ => ?_))
    (congrArg₂ (fun a b : EReal => a * b) rfl (Finset.sum_congr rfl fun k _ => ?_))
  · exact congrArg₂ (fun a b : EReal => a * b) (ha a k) (hw' wa k)
  · exact congrArg₂ (fun a b : EReal => a * b) (ha b k) (hw' wb k)

theorem merge_out (a : Vec Ideal S256x512 .bf16) (wa : Vec Ideal S8x512x256 .bf16) (b : Vec Ideal S256x512 .bf16) (wb : Vec Ideal S8x512x256 .bf16)
    (ga gb : Vec Ideal S256x2048 .bf16) (i : S256x2048.Idx) : out2_8 (F := Ideal) a wa b wb ga gb i = mergeBlock a wa b wb ga gb i := by
  unfold out2_8 k2_pay43 k2_pay44
  rw [View.ld_unit_zero (S := S256x512) hz2 _ a, View.ld_unit_zero (S := S256x512) hz2 _ b]
  refine View.canon_apply_of_pieces (Val := Elt Ideal) (mergeBlock a wa b wb ga gb) _ (fun p hp => ?_) i (cover2_8 _ _ _ _ _ _ _ _ i)
  rcases List.mem_cons.mp hp with rfl | hp
  · exact merge_piece a wa b wb ga gb (7 : Fin 8) 1792 rfl inb_S8x512x256_S1x512x256_7_0_0 inb_S256x2048_S256x256_0_1792
  rcases List.mem_cons.mp hp with rfl | hp
  · exact merge_piece a wa b wb ga gb (6 : Fin 8) 1536 rfl inb_S8x512x256_S1x512x256_6_0_0 inb_S256x2048_S256x256_0_1536
  rcases List.mem_cons.mp hp with rfl | hp
  · exact merge_piece a wa b wb ga gb (5 : Fin 8) 1280 rfl inb_S8x512x256_S1x512x256_5_0_0 inb_S256x2048_S256x256_0_1280
  rcases List.mem_cons.mp hp with rfl | hp
  · exact merge_piece a wa b wb ga gb (4 : Fin 8) 1024 rfl inb_S8x512x256_S1x512x256_4_0_0 inb_S256x2048_S256x256_0_1024
  rcases List.mem_cons.mp hp with rfl | hp
  · exact merge_piece a wa b wb ga gb (3 : Fin 8) 768 rfl inb_S8x512x256_S1x512x256_3_0_0 inb_S256x2048_S256x256_0_768
  rcases List.mem_cons.mp hp with rfl | hp
  · exact merge_piece a wa b wb ga gb (2 : Fin 8) 512 rfl inb_S8x512x256_S1x512x256_2_0_0 inb_S256x2048_S256x256_0_512
  rcases List.mem_cons.mp hp with rfl | hp
  · exact merge_piece a wa b wb ga gb (1 : Fin 8) 256 rfl inb_S8x512x256_S1x512x256_1_0_0 inb_S256x2048_S256x256_0_256
  rcases List.mem_cons.mp hp with rfl | hp
  · exact merge_piece a wa b wb ga gb (0 : Fin 8) 0 rfl inb_S8x512x256_S1x512x256_0_0_0 inb_S256x2048_S256x256_0_0
  nomatch hp

/-! ## The output product, the residual and the normalisation -/

/-- The residual stream's block. -/
def streamBlock (a : S512x2048.Idx → EReal) (w : S2048x2048.Idx → EReal) (x : S512x2048.Idx → EReal) (r : Fin 512) (e : Fin 2048) : EReal :=
  x (ix2 r e) + ∑ k : Fin 2048, a (ix2 r k) * w (ix2 k e)

theorem stream_pay (a : Vec Ideal S512x2048 .bf16) (w : Vec Ideal S2048x2048 .bf16) (x : Vec Ideal S512x2048 .f32) (r : Fin 512) (e : Fin 2048) :
    k3_pay1 (F := Ideal) a w x (ix2 r e) = streamBlock a w x r e := by
  unfold k3_pay1 streamBlock
  rw [shapeCast_self, shapeCast_self]
  exact congrArg (fun z : EReal => x (ix2 r e) + z) (plain_zero a w r e)

theorem norm_pay (a : Vec Ideal S512x2048 .bf16) (w : Vec Ideal S2048x2048 .bf16) (x : Vec Ideal S512x2048 .f32) (r : Fin 512) :
    k3_pay2 (F := Ideal) a w x (ix2 r 0) = invNorm (streamBlock a w x r) := by
  unfold k3_pay2 invNorm
  refine congrArg Ideal.rsqrt (congrArg₂ (fun a b : EReal => a + b) (congrArg₂ Ideal.div ?_ rfl) rfl)
  refine (shapeCast_apply _ _ _ (ix1 r) (by
    rw [Shape.rowMajor_val_one, Shape.rowMajor_val_two]
    show r.val = r.val * 1 + 0; omega)).trans ?_
  show Ideal.reduceAdd _ _ (ix1 r) = _
  rw [Ideal.reduceAdd_r2_a1]
  refine Finset.sum_congr rfl fun e _ => ?_
  exact congrArg₂ (fun a b : EReal => a * b) (stream_pay a w x r e) (stream_pay a w x r e)

theorem stream_out (a : Vec Ideal S512x2048 .bf16) (w : Vec Ideal S2048x2048 .bf16) (x : Vec Ideal S512x2048 .f32) (g : Vec Ideal S1x2048 .f32) (r : Fin 512) (e : Fin 2048) :
    out3_4 (F := Ideal) a w x g (ix2 r e) = streamBlock a w x r e := by
  unfold out3_4
  rw [View.canon_unit_zero hz2, View.ld_unit_zero (S := S512x2048) hz2, View.ld_unit_zero (S := S2048x2048) hz2, View.ld_unit_zero (S := S512x2048) hz2]
  exact stream_pay a w x r e

theorem normed_out (a : Vec Ideal S512x2048 .bf16) (w : Vec Ideal S2048x2048 .bf16) (x : Vec Ideal S512x2048 .f32) (g : Vec Ideal S1x2048 .f32) (r : Fin 512) (e : Fin 2048) :
    out3_5 (F := Ideal) a w x g (ix2 r e) = streamBlock a w x r e * invNorm (streamBlock a w x r) * g (ix2 0 e) := by
  unfold out3_5
  rw [View.canon_unit_zero hz2, View.ld_unit_zero (S := S512x2048) hz2, View.ld_unit_zero (S := S2048x2048) hz2, View.ld_unit_zero (S := S512x2048) hz2, View.ld_unit_zero (S := S1x2048) hz2]
  unfold k3_pay3
  refine congrArg₂ (fun a b : EReal => a * b) (congrArg₂ (fun a b : EReal => a * b) (stream_pay a w x r e) ?_) (broadcastTo_1b_ab_apply g _ r e)
  refine Eq.trans ?_ (norm_pay a w x r)
  exact broadcastTo_apply _ _ _ (ix2 r 0) (fun b => by match b with | ⟨0, _⟩ => rfl | ⟨1, _⟩ => rfl)

theorem norm_out (a : Vec Ideal S512x2048 .bf16) (w : Vec Ideal S2048x2048 .bf16) (x : Vec Ideal S512x2048 .f32) (g : Vec Ideal S1x2048 .f32) (r : Fin 512) :
    out3_6 (F := Ideal) a w x g (ix2 r 0) = invNorm (streamBlock a w x r) := by
  unfold out3_6
  rw [View.canon_unit_zero hz2, View.ld_unit_zero (S := S512x2048) hz2, View.ld_unit_zero (S := S2048x2048) hz2, View.ld_unit_zero (S := S512x2048) hz2]
  exact norm_pay a w x r

/-! ## The output weight's gradient -/

theorem outDw_out (a : Vec Ideal S4096x512 .bf16) (g : Vec Ideal S4096x1024 .bf16) (r : Fin 512) (e : Fin 1024) :
    out4_2 (F := Ideal) a g (ix2 r e) = ∑ k : Fin 4096, a (ix2 k r) * g (ix2 k e) := by
  unfold out4_2
  rw [View.canon_unit_zero hz2, View.ld_unit_zero (S := S4096x512) hz2, View.ld_unit_zero (S := S4096x1024) hz2]
  unfold k4_pay1
  rw [shapeCast_self]
  exact left_zero (φ₁ := .bf16) (φ₂ := .bf16) dot_S4096x512_S4096x1024_S512x1024_0_0_1_1_n_n_wf a g r e

end Cert.Kernel3Ideal.Block

end
-- ==== Proof.MixerForwardProducts.lean ====
/-
  Queries, keys and values, the gates and the merged branches as whole arrays: what each call leaves in its output array,
  as a function of the arrays it is entered with (at the ideal values).
-/
module

public import proofs.«01_k».proof.Proof.MixerForwardBlock

@[expose] public section

set_option maxRecDepth 16384

noncomputable section

namespace Cert.Kernel3Ideal.Mixer

open Cert.Kernel3Ideal Cert.Kernel3Ideal.Gen Cert.Kernel3Ideal.Block Cert.Products Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

variable (V : (c : Dev nD) → (b : Ref sig .tc) → Buf (Elt Ideal) ((c : Thread nD τ).loc b))

/-! ## Call 0 -/

theorem idx0 : ∀ t : Fin cfg0.N,
    (win0_0.index t 0 = t.val / 4 ∧ win0_0.index t 1 = 0)
    ∧ (win0_1.index t 0 = t.val % 4 ∧ win0_1.index t 1 = 0 ∧ win0_1.index t 2 = 0)
    ∧ (win0_2.index t 0 = t.val / 4 ∧ win0_2.index t 1 = t.val % 4) :=
  (by decide +kernel : ∀ t : Fin grid0.N, _)

theorem lt0 (t : Fin cfg0.N) : t.val < 16 := lt_of_lt_of_eq t.isLt N_0

theorem blk0_0 (c : Dev nD) (t : Fin cfg0.N) (p0 : Fin 1024) (p1 : Fin 2048) (q : S4096x2048.Idx)
    (h0 : (q 0).val = 1024 * (t.val / 4) + p0.val) (h1 : (q 1).val = p1.val) :
    (iblk0 V c 0 t : Vec Ideal S1024x2048 .bf16) (ix2 p0 p1) = (V c main_arg1 : S4096x2048.Idx → EReal) q := by
  obtain ⟨⟨i0, i1⟩, -⟩ := idx0 t
  unfold iblk0; rw [View.read_apply]
  show V c main_arg1 _ = V c main_arg1 q
  congr 1; funext a; apply Fin.ext
  match a with
  | ⟨0, _⟩ => show win0_0.index t 0 * 1024 + 1 * p0.val = (q 0).val; rw [i0, h0]; omega
  | ⟨1, _⟩ => show win0_0.index t 1 * 2048 + 1 * p1.val = (q 1).val; rw [i1, h1]; omega

theorem blk0_1 (c : Dev nD) (t : Fin cfg0.N) (p0 : Fin 2) (p1 : Fin 2048) (p2 : Fin 768) (q : S8x2048x768.Idx)
    (h0 : (q 0).val = 2 * (t.val % 4) + p0.val) (h1 : (q 1).val = p1.val) (h2 : (q 2).val = p2.val) :
    (iblk0 V c 1 t : Vec Ideal S2x2048x768 .bf16) (ix3 p0 p1 p2) = (V c main_v2 : S8x2048x768.Idx → EReal) q := by
  obtain ⟨-, ⟨i0, i1, i2⟩, -⟩ := idx0 t
  unfold iblk0; rw [View.read_apply]
  show V c main_v2 _ = V c main_v2 q
  congr 1; funext a; apply Fin.ext
  match a with
  | ⟨0, _⟩ => show win0_1.index t 0 * 2 + 1 * p0.val = (q 0).val; rw [i0, h0]; omega
  | ⟨1, _⟩ => show win0_1.index t 1 * 2048 + 1 * p1.val = (q 1).val; rw [i1, h1]; omega
  | ⟨2, _⟩ => show win0_1.index t 2 * 768 + 1 * p2.val = (q 2).val; rw [i2, h2]; omega

/-- Queries, keys and values. -/
def R0_2 (c : Dev nD) : S4096x6144.Idx → EReal := fun i => shardCol (b := 8) (n := 768) (M := 6144) (by norm_num) (V c main_arg1) (V c main_v2) (i 0) ⟨(i 1).val / 768, by have : (i 1).val < 6144 := (i 1).isLt; omega⟩ ⟨(i 1).val % 768, by omega⟩

theorem flushed0_2 (c : Dev nD) (t : Fin cfg0.N) : (dat0 V c).flushed 2 t = ((cfg0.win 2).blk t).view.read (Elt Ideal) (R0_2 V c) := by
  show (cfg0.win 2).cut (grid0.coords t) ((dat0 V c).after 2 t) = _
  rw [after0_2]; funext j
  obtain ⟨-, -, ⟨i0, i1⟩⟩ := idx0 t
  obtain ⟨r, e, rfl⟩ := any2 1024 1536 j
  rw [View.read_apply]
  have ei : ((cfg0.win 2).blk t).view.emb (ix2 r e) = (ix2 ⟨1024 * (t.val / 4) + r.val, by have := lt0 t; have := r.isLt; omega⟩ ⟨1536 * (t.val % 4) + e.val, by have := lt0 t; have := e.isLt; omega⟩) := funext fun a => Fin.ext (by
    match a with
    | ⟨0, _⟩ => show win0_2.index t 0 * 1024 + 1 * r.val = 1024 * (t.val / 4) + r.val; rw [i0]; omega
    | ⟨1, _⟩ => show win0_2.index t 1 * 1536 + 1 * e.val = 1536 * (t.val % 4) + e.val; rw [i1]; omega)
  obtain ⟨s, f, rfl⟩ : ∃ (s : Fin 2) (f : Fin 768), e = shCol (M := 1536) (by norm_num) s f :=
    ⟨⟨e.val / 768, by have := e.isLt; omega⟩, ⟨e.val % 768, by omega⟩, Fin.ext (by show e.val = 768 * (e.val / 768) + e.val % 768; omega)⟩
  refine (qkv_out _ _ r s f).trans ?_
  refine Eq.trans ?_ (congrArg (R0_2 V c) ei).symm
  unfold R0_2 shardCol
  have hs := s.isLt; have hf := f.isLt
  refine Finset.sum_congr rfl fun k _ => congrArg₂ (fun a b : EReal => a * b) ?_ ?_
  · exact blk0_0 V c t r k _ rfl rfl
  exact blk0_1 V c t s k f _ (by show (1536 * (t.val % 4) + (768 * s.val + f.val)) / 768 = 2 * (t.val % 4) + s.val; omega) rfl (by show (1536 * (t.val % 4) + (768 * s.val + f.val)) % 768 = f.val; omega)

theorem cover0_2 (i : S4096x6144.Idx) : ∃ t : Fin cfg0.N, (cfg0.win 2).flush t = true ∧ i ∈ ((cfg0.win 2).blk t).view.set := by
  have b0 : (i 0 : Nat) < 4096 := (i 0).isLt
  have b1 : (i 1 : Nat) < 6144 := (i 1).isLt
  have hN : cfg0.N = 16 := N_0
  refine ⟨⟨4 * ((i 0 : Nat) / 1024) + (i 1 : Nat) / 1536, by omega⟩, flush0_2 _, ?_⟩
  generalize ht : (⟨4 * ((i 0 : Nat) / 1024) + (i 1 : Nat) / 1536, by omega⟩ : Fin cfg0.N) = t
  have tv : t.val = 4 * ((i 0 : Nat) / 1024) + (i 1 : Nat) / 1536 := by rw [← ht]
  obtain ⟨-, -, ⟨i0, i1⟩⟩ := idx0 t
  show i ∈ ((View.whole main_v13).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [i0]; omega
  | ⟨1, _⟩ => show win0_2.index t 1 * 1536 ≤ (i 1 : Nat) ∧ (i 1 : Nat) < win0_2.index t 1 * 1536 + 1536
              rw [i1]; omega

theorem arr0_2 (c : Dev nD) : (dat0 V c).arrAt 2 cfg0.N = R0_2 V c :=
  (dat0 V c).arrAt_eq_of_cover 2 (R0_2 V c) (fun t _ => flushed0_2 V c t) cover0_2

/-! ## Call 1 -/

theorem idx1 : ∀ t : Fin cfg1.N,
    (win1_0.index t 0 = t.val / 4 ∧ win1_0.index t 1 = 0)
    ∧ (win1_1.index t 0 = t.val % 4 ∧ win1_1.index t 1 = 0 ∧ win1_1.index t 2 = 0)
    ∧ (win1_2.index t 0 = 0 ∧ win1_2.index t 1 = t.val % 4)
    ∧ (win1_3.index t 0 = t.val / 4 ∧ win1_3.index t 1 = t.val % 4) :=
  (by decide +kernel : ∀ t : Fin grid1.N, _)

theorem lt1 (t : Fin cfg1.N) : t.val < 16 := lt_of_lt_of_eq t.isLt N_1

theorem blk1_0 (c : Dev nD) (t : Fin cfg1.N) (p0 : Fin 1024) (p1 : Fin 2048) (q : S4096x2048.Idx)
    (h0 : (q 0).val = 1024 * (t.val / 4) + p0.val) (h1 : (q 1).val = p1.val) :
    (iblk1 V c 0 t : Vec Ideal S1024x2048 .bf16) (ix2 p0 p1) = (V c main_arg1 : S4096x2048.Idx → EReal) q := by
  obtain ⟨⟨i0, i1⟩, -⟩ := idx1 t
  unfold iblk1; rw [View.read_apply]
  show V c main_arg1 _ = V c main_arg1 q
  congr 1; funext a; apply Fin.ext
  match a with
  | ⟨0, _⟩ => show win1_0.index t 0 * 1024 + 1 * p0.val = (q 0).val; rw [i0, h0]; omega
  | ⟨1, _⟩ => show win1_0.index t 1 * 2048 + 1 * p1.val = (q 1).val; rw [i1, h1]; omega

theorem blk1_1 (c : Dev nD) (t : Fin cfg1.N) (p0 : Fin 2) (p1 : Fin 2048) (p2 : Fin 512) (q : S8x2048x512.Idx)
    (h0 : (q 0).val = 2 * (t.val % 4) + p0.val) (h1 : (q 1).val = p1.val) (h2 : (q 2).val = p2.val) :
    (iblk1 V c 1 t : Vec Ideal S2x2048x512 .bf16) (ix3 p0 p1 p2) = (V c main_v5 : S8x2048x512.Idx → EReal) q := by
  obtain ⟨-, ⟨i0, i1, i2⟩, -⟩ := idx1 t
  unfold iblk1; rw [View.read_apply]
  show V c main_v5 _ = V c main_v5 q
  congr 1; funext a; apply Fin.ext
  match a with
  | ⟨0, _⟩ => show win1_1.index t 0 * 2 + 1 * p0.val = (q 0).val; rw [i0, h0]; omega
  | ⟨1, _⟩ => show win1_1.index t 1 * 2048 + 1 * p1.val = (q 1).val; rw [i1, h1]; omega
  | ⟨2, _⟩ => show win1_1.index t 2 * 512 + 1 * p2.val = (q 2).val; rw [i2, h2]; omega

theorem blk1_2 (c : Dev nD) (t : Fin cfg1.N) (p0 : Fin 1) (p1 : Fin 1024) (q : S1x4096.Idx)
    (h0 : (q 0).val = p0.val) (h1 : (q 1).val = 1024 * (t.val % 4) + p1.val) :
    (iblk1 V c 2 t : Vec Ideal S1x1024 .f32) (ix2 p0 p1) = (V c main_arg6 : S1x4096.Idx → EReal) q := by
  obtain ⟨-, -, ⟨i0, i1⟩, -⟩ := idx1 t
  unfold iblk1; rw [View.read_apply]
  show V c main_arg6 _ = V c main_arg6 q
  congr 1; funext a; apply Fin.ext
  match a with
  | ⟨0, _⟩ => show win1_2.index t 0 * 1 + 1 * p0.val = (q 0).val; rw [i0, h0]; omega
  | ⟨1, _⟩ => show win1_2.index t 1 * 1024 + 1 * p1.val = (q 1).val; rw [i1, h1]; omega

/-- The gates. -/
def R1_3 (c : Dev nD) : S4096x4096.Idx → EReal := fun i => Ideal.logistic (shardCol (b := 8) (n := 512) (M := 4096) (by norm_num) (V c main_arg1) (V c main_v5) (i 0) ⟨(i 1).val / 512, by have : (i 1).val < 4096 := (i 1).isLt; omega⟩ ⟨(i 1).val % 512, by omega⟩ + (V c main_arg6 : S1x4096.Idx → EReal) (ix2 0 (i 1)))

theorem flushed1_3 (c : Dev nD) (t : Fin cfg1.N) : (dat1 V c).flushed 3 t = ((cfg1.win 3).blk t).view.read (Elt Ideal) (R1_3 V c) := by
  show (cfg1.win 3).cut (grid1.coords t) ((dat1 V c).after 3 t) = _
  rw [after1_3]; funext j
  obtain ⟨-, -, -, ⟨i0, i1⟩⟩ := idx1 t
  obtain ⟨r, e, rfl⟩ := any2 1024 1024 j
  rw [View.read_apply]
  have ei : ((cfg1.win 3).blk t).view.emb (ix2 r e) = (ix2 ⟨1024 * (t.val / 4) + r.val, by have := lt1 t; have := r.isLt; omega⟩ ⟨1024 * (t.val % 4) + e.val, by have := lt1 t; have := e.isLt; omega⟩) := funext fun a => Fin.ext (by
    match a with
    | ⟨0, _⟩ => show win1_3.index t 0 * 1024 + 1 * r.val = 1024 * (t.val / 4) + r.val; rw [i0]; omega
    | ⟨1, _⟩ => show win1_3.index t 1 * 1024 + 1 * e.val = 1024 * (t.val % 4) + e.val; rw [i1]; omega)
  obtain ⟨s, f, rfl⟩ : ∃ (s : Fin 2) (f : Fin 512), e = shCol (M := 1024) (by norm_num) s f :=
    ⟨⟨e.val / 512, by have := e.isLt; omega⟩, ⟨e.val % 512, by omega⟩, Fin.ext (by show e.val = 512 * (e.val / 512) + e.val % 512; omega)⟩
  refine (gate_out _ _ _ r s f).trans ?_
  refine Eq.trans ?_ (congrArg (R1_3 V c) ei).symm
  unfold R1_3 shardCol
  have hs := s.isLt; have hf := f.isLt
  refine congrArg Ideal.logistic (congrArg₂ (fun a b : EReal => a + b) ?_ ?_)
  · refine Finset.sum_congr rfl fun k _ => congrArg₂ (fun a b : EReal => a * b) ?_ ?_
    · exact blk1_0 V c t r k _ rfl rfl
    exact blk1_1 V c t s k f _ (by show (1024 * (t.val % 4) + (512 * s.val + f.val)) / 512 = 2 * (t.val % 4) + s.val; omega) rfl (by show (1024 * (t.val % 4) + (512 * s.val + f.val)) % 512 = f.val; omega)
  · exact blk1_2 V c t 0 _ _ rfl rfl

theorem cover1_3 (i : S4096x4096.Idx) : ∃ t : Fin cfg1.N, (cfg1.win 3).flush t = true ∧ i ∈ ((cfg1.win 3).blk t).view.set := by
  have b0 : (i 0 : Nat) < 4096 := (i 0).isLt
  have b1 : (i 1 : Nat) < 4096 := (i 1).isLt
  have hN : cfg1.N = 16 := N_1
  refine ⟨⟨4 * ((i 0 : Nat) / 1024) + (i 1 : Nat) / 1024, by omega⟩, flush1_3 _, ?_⟩
  generalize ht : (⟨4 * ((i 0 : Nat) / 1024) + (i 1 : Nat) / 1024, by omega⟩ : Fin cfg1.N) = t
  have tv : t.val = 4 * ((i 0 : Nat) / 1024) + (i 1 : Nat) / 1024 := by rw [← ht]
  obtain ⟨-, -, -, ⟨i0, i1⟩⟩ := idx1 t
  show i ∈ ((View.whole main_v14).slice (win1_3.rect t)).set
  rw [View.set_slice_whole, Rect.mem_set_unit]
  intro a
  match a with
  | ⟨0, _⟩ => show win1_3.index t 0 * 1024 ≤ (i 0 : Nat) ∧ (i 0 : Nat) < win1_3.index t 0 * 1024 + 1024
              rw [i0]; omega
  | ⟨1, _⟩ => show win1_3.index t 1 * 1024 ≤ (i 1 : Nat) ∧ (i 1 : Nat) < win1_3.index t 1 * 1024 + 1024
              rw [i1]; omega

theorem arr1_3 (c : Dev nD) : (dat1 V c).arrAt 3 cfg1.N = R1_3 V c :=
  (dat1 V c).arrAt_eq_of_cover 3 (R1_3 V c) (fun t _ => flushed1_3 V c t) cover1_3

/-! ## Call 2 -/

theorem idx2 : ∀ t : Fin cfg2.N,
    (win2_0.index t 0 = t.val ∧ win2_0.index t 1 = 0)
    ∧ (win2_1.index t 0 = 0 ∧ win2_1.index t 1 = 0 ∧ win2_1.index t 2 = 0)
    ∧ (win2_2.index t 0 = t.val ∧ win2_2.index t 1 = 0)
    ∧ (win2_3.index t 0 = 0 ∧ win2_3.index t 1 = 0 ∧ win2_3.index t 2 = 0)
    ∧ (win2_4.index t 0 = t.val ∧ win2_4.index t 1 = 0)
    ∧ (win2_5.index t 0 = t.val ∧ win2_5.index t 1 = 1)
    ∧ (win2_6.index t 0 = t.val ∧ win2_6.index t 1 = 0)
    ∧ (win2_7.index t 0 = t.val ∧ win2_7.index t 1 = 0)
    ∧ (win2_8.index t 0 = t.val ∧ win2_8.index t 1 = 0) :=
  (by decide +kernel : ∀ t : Fin grid2.N, _)

theorem lt2 (t : Fin cfg2.N) : t.val < 16 := lt_of_lt_of_eq t.isLt N_2

theorem blk2_0 (c : Dev nD) (t : Fin cfg2.N) (p0 : Fin 256) (p1 : Fin 512) (q : S4096x512.Idx)
    (h0 : (q 0).val = 256 * (t.val) + p0.val) (h1 : (q 1).val = p1.val) :
    (iblk2 V c 0 t : Vec Ideal S256x512 .bf16) (ix2 p0 p1) = (V c main_arg2 : S4096x512.Idx → EReal) q := by
  obtain ⟨⟨i0, i1⟩, -⟩ := idx2 t
  unfold iblk2; rw [View.read_apply]
  show V c main_arg2 _ = V c main_arg2 q
  congr 1; funext a; apply Fin.ext
  match a with
  | ⟨0, _⟩ => show win2_0.index t 0 * 256 + 1 * p0.val = (q 0).val; rw [i0, h0]; omega
  | ⟨1, _⟩ => show win2_0.index t 1 * 512 + 1 * p1.val = (q 1).val; rw [i1, h1]; omega

theorem blk2_1 (c : Dev nD) (t : Fin cfg2.N) (p0 : Fin 8) (p1 : Fin 512) (p2 : Fin 256) (q : S8x512x256.Idx)
    (h0 : (q 0).val = p0.val) (h1 : (q 1).val = p1.val) (h2 : (q 2).val = p2.val) :
    (iblk2 V c 1 t : Vec Ideal S8x512x256 .bf16) (ix3 p0 p1 p2) = (V c main_v8 : S8x512x256.Idx → EReal) q := by
  obtain ⟨-, ⟨i0, i1, i2⟩, -⟩ := idx2 t
  unfold iblk2; rw [View.read_apply]
  show V c main_v8 _ = V c main_v8 q
  congr 1; funext a; apply Fin.ext
  match a with
  | ⟨0, _⟩ => show win2_1.index t 0 * 8 + 1 * p0.val = (q 0).val; rw [i0, h0]; omega
  | ⟨1, _⟩ => show win2_1.index t 1 * 512 + 1 * p1.val = (q 1).val; rw [i1, h1]; omega
  | ⟨2, _⟩ => show win2_1.index t 2 * 256 + 1 * p2.val = (q 2).val; rw [i2, h2]; omega

theorem blk2_2 (c : Dev nD) (t : Fin cfg2.N) (p0 : Fin 256) (p1 : Fin 512) (q : S4096x512.Idx)
    (h0 : (q 0).val = 256 * (t.val) + p0.val) (h1 : (q 1).val = p1.val) :
    (iblk2 V c 2 t : Vec Ideal S256x512 .bf16) (ix2 p0 p1) = (V c main_arg3 : S4096x512.Idx → EReal) q := by
  obtain ⟨-, -, ⟨i0, i1⟩, -⟩ := idx2 t
  unfold iblk2; rw [View.read_apply]
  show V c main_arg3 _ = V c main_arg3 q
  congr 1; funext a; apply Fin.ext
  match a with
  | ⟨0, _⟩ => show win2_2.index t 0 * 256 + 1 * p0.val = (q 0).val; rw [i0, h0]; omega
  | ⟨1, _⟩ => show win2_2.index t 1 * 512 + 1 * p1.val = (q 1).val; rw [i1, h1]; omega

theorem blk2_3 (c : Dev nD) (t : Fin cfg2.N) (p0 : Fin 8) (p1 : Fin 512) (p2 : Fin 256) (q : S8x512x256.Idx)
    (h0 : (q 0).val = p0.val) (h1 : (q 1).val = p1.val) (h2 : (q 2).val = p2.val) :
    (iblk2 V c 3 t : Vec Ideal S8x512x256 .bf16) (ix3 p0 p1 p2) = (V c main_v11 : S8x512x256.Idx → EReal) q := by
  obtain ⟨-, -, -, ⟨i0, i1, i2⟩, -⟩ := idx2 t
  unfold iblk2; rw [View.read_apply]
  show V c main_v11 _ = V c main_v11 q
  congr 1; funext a; apply Fin.ext
  match a with
  | ⟨0, _⟩ => show win2_3.index t 0 * 8 + 1 * p0.val = (q 0).val; rw [i0, h0]; omega
  | ⟨1, _⟩ => show win2_3.index t 1 * 512 + 1 * p1.val = (q 1).val; rw [i1, h1]; omega
  | ⟨2, _⟩ => show win2_3.index t 2 * 256 + 1 * p2.val = (q 2).val; rw [i2, h2]; omega

theorem blk2_4 (c : Dev nD) (t : Fin cfg2.N) (p0 : Fin 256) (p1 : Fin 2048) (q : S4096x4096.Idx)
    (h0 : (q 0).val = 256 * (t.val) + p0.val) (h1 : (q 1).val = p1.val) :
    (iblk2 V c 4 t : Vec Ideal S256x2048 .bf16) (ix2 p0 p1) = (V c main_v14 : S4096x4096.Idx → EReal) q := by
  obtain ⟨-, -, -, -, ⟨i0, i1⟩, -⟩ := idx2 t
  unfold iblk2; rw [View.read_apply]
  show V c main_v14 _ = V c main_v14 q
  congr 1; funext a; apply Fin.ext
  match a with
  | ⟨0, _⟩ => show win2_4.index t 0 * 256 + 1 * p0.val = (q 0).val; rw [i0, h0]; omega
  | ⟨1, _⟩ => show win2_4.index t 1 * 2048 + 1 * p1.val = (q 1).val; rw [i1, h1]; omega

theorem blk2_5 (c : Dev nD) (t : Fin cfg2.N) (p0 : Fin 256) (p1 : Fin 2048) (q : S4096x4096.Idx)
    (h0 : (q 0).val = 256 * (t.val) + p0.val) (h1 : (q 1).val = 2048 * (1) + p1.val) :
    (iblk2 V c 5 t : Vec Ideal S256x2048 .bf16) (ix2 p0 p1) = (V c main_v14 : S4096x4096.Idx → EReal) q := by
  obtain ⟨-, -, -, -, -, ⟨i0, i1⟩, -⟩ := idx2 t
  unfold iblk2; rw [View.read_apply]
  show V c main_v14 _ = V c main_v14 q
  congr 1; funext a; apply Fin.ext
  match a with
  | ⟨0, _⟩ => show win2_5.index t 0 * 256 + 1 * p0.val = (q 0).val; rw [i0, h0]; omega
  | ⟨1, _⟩ => show win2_5.index t 1 * 2048 + 1 * p1.val = (q 1).val; rw [i1, h1]; omega

theorem blk2_6 (c : Dev nD) (t : Fin cfg2.N) (p0 : Fin 256) (p1 : Fin 2048) (q : S4096x2048.Idx)
    (h0 : (q 0).val = 256 * (t.val) + p0.val) (h1 : (q 1).val = p1.val) :
    (iblk2 V c 6 t : Vec Ideal S256x2048 .bf16) (ix2 p0 p1) = (V c main_v15_0 : S4096x2048.Idx → EReal) q := by
  obtain ⟨-, -, -, -, -, -, ⟨i0, i1⟩, -⟩ := idx2 t
  unfold iblk2; rw [View.read_apply]
  show V c main_v15_0 _ = V c main_v15_0 q
  congr 1; funext a; apply Fin.ext
  match a with
  | ⟨0, _⟩ => show win2_6.index t 0 * 256 + 1 * p0.val = (q 0).val; rw [i0, h0]; omega
  | ⟨1, _⟩ => show win2_6.index t 1 * 2048 + 1 * p1.val = (q 1).val; rw [i1, h1]; omega

theorem blk2_7 (c : Dev nD) (t : Fin cfg2.N) (p0 : Fin 256) (p1 : Fin 2048) (q : S4096x2048.Idx)
    (h0 : (q 0).val = 256 * (t.val) + p0.val) (h1 : (q 1).val = p1.val) :
    (iblk2 V c 7 t : Vec Ideal S256x2048 .bf16) (ix2 p0 p1) = (V c main_v15_1 : S4096x2048.Idx → EReal) q := by
  obtain ⟨-, -, -, -, -, -, -, ⟨i0, i1⟩, -⟩ := idx2 t
  unfold iblk2; rw [View.read_apply]
  show V c main_v15_1 _ = V c main_v15_1 q
  congr 1; funext a; apply Fin.ext
  match a with
  | ⟨0, _⟩ => show win2_7.index t 0 * 256 + 1 * p0.val = (q 0).val; rw [i0, h0]; omega
  | ⟨1, _⟩ => show win2_7.index t 1 * 2048 + 1 * p1.val = (q 1).val; rw [i1, h1]; omega

/-- The merged branches. -/
def R2_8 (c : Dev nD) : S4096x2048.Idx → EReal := fun i => Cert.Mixer.mergeShards (V c main_arg2) (V c main_arg3) (V c main_v8) (V c main_v11) (V c main_v14) i

theorem flushed2_8 (c : Dev nD) (t : Fin cfg2.N) : (dat2 V c).flushed 8 t = ((cfg2.win 8).blk t).view.read (Elt Ideal) (R2_8 V c) := by
  show (cfg2.win 8).cut (grid2.coords t) ((dat2 V c).after 8 t) = _
  rw [after2_8]; funext j
  obtain ⟨-, -, -, -, -, -, -, -, ⟨i0, i1⟩⟩ := idx2 t
  obtain ⟨r, e, rfl⟩ := any2 256 2048 j
  rw [View.read_apply]
  have ei : ((cfg2.win 8).blk t).view.emb (ix2 r e) = (ix2 ⟨256 * (t.val) + r.val, by have := lt2 t; have := r.isLt; omega⟩ e) := funext fun a => Fin.ext (by
    match a with
    | ⟨0, _⟩ => show win2_8.index t 0 * 256 + 1 * r.val = 256 * (t.val) + r.val; rw [i0]; omega
    | ⟨1, _⟩ => show win2_8.index t 1 * 2048 + 1 * e.val = e.val; rw [i1]; omega)
  refine (merge_out _ _ _ _ _ _ (ix2 r e)).trans ?_
  refine Eq.trans ?_ (congrArg (R2_8 V c) ei).symm
  unfold R2_8 Cert.Mixer.mergeShards shardCol mergeBlock
  refine congrArg₂ (fun a b : EReal => a + b) (congrArg₂ (fun a b : EReal => a * b) ?_ ?_) (congrArg₂ (fun a b : EReal => a * b) ?_ ?_)
  · exact blk2_4 V c t r e _ rfl rfl
  · refine Finset.sum_congr rfl fun k _ => congrArg₂ (fun a b : EReal => a * b) ?_ ?_
    · exact blk2_0 V c t r k _ rfl rfl
    exact blk2_1 V c t _ k _ _ rfl rfl rfl
  · exact blk2_5 V c t r e _ rfl rfl
  · refine Finset.sum_congr rfl fun k _ => congrArg₂ (fun a b : EReal => a * b) ?_ ?_
    · exact blk2_2 V c t r k _ rfl rfl
    exact blk2_3 V c t _ k _ _ rfl rfl rfl

theorem cover2_8 (i : S4096x2048.Idx) : ∃ t : Fin cfg2.N, (cfg2.win 8).flush t = true ∧ i ∈ ((cfg2.win 8).blk t).view.set := by
  have b0 : (i 0 : Nat) < 4096 := (i 0).isLt
  have b1 : (i 1 : Nat) < 2048 := (i 1).isLt
  have hN : cfg2.N = 16 := N_2
  refine ⟨⟨(i 0 : Nat) / 256, by omega⟩, flush2_8 _, ?_⟩
  generalize ht : (⟨(i 0 : Nat) / 256, by omega⟩ : Fin cfg2.N) = t
  have tv : t.val = (i 0 : Nat) / 256 := by rw [← ht]
  obtain ⟨-, -, -, -, -, -, -, -, ⟨i0, i1⟩⟩ := idx2 t
  show i ∈ ((View.whole main_v15_2).slice (win2_8.rect t)).set
  rw [View.set_slice_whole, Rect.mem_set_unit]
  intro a
  match a with
  | ⟨0, _⟩ => show win2_8.index t 0 * 256 ≤ (i 0 : Nat) ∧ (i 0 : Nat) < win2_8.index t 0 * 256 + 256
              rw [i0]; omega
  | ⟨1, _⟩ => show win2_8.index t 1 * 2048 ≤ (i 1 : Nat) ∧ (i 1 : Nat) < win2_8.index t 1 * 2048 + 2048
              rw [i1]; omega

theorem arr2_8 (c : Dev nD) : (dat2 V c).arrAt 8 cfg2.N = R2_8 V c :=
  (dat2 V c).arrAt_eq_of_cover 8 (R2_8 V c) (fun t _ => flushed2_8 V c t) cover2_8

end Cert.Kernel3Ideal.Mixer

end
-- ==== Proof.MixerForwardOutput.lean ====
/-
  The mixer's output, its normalisation and the output weight's gradient as whole arrays: what each call leaves in its
  output arrays, as a function of the arrays it is entered with (at the ideal values).
-/
module

public import proofs.«01_k».proof.Proof.MixerForwardBlock

@[expose] public section

set_option maxRecDepth 16384

noncomputable section

namespace Cert.Kernel3Ideal.Mixer

open Cert.Kernel3Ideal Cert.Kernel3Ideal.Gen Cert.Kernel3Ideal.Block Cert.Products Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

variable (V : (c : Dev nD) → (b : Ref sig .tc) → Buf (Elt Ideal) ((c : Thread nD τ).loc b))

/-! ## Call 3 -/

theorem idx3 : ∀ t : Fin cfg3.N,
    (win3_0.index t 0 = t.val ∧ win3_0.index t 1 = 0)
    ∧ (win3_1.index t 0 = 0 ∧ win3_1.index t 1 = 0)
    ∧ (win3_2.index t 0 = t.val ∧ win3_2.index t 1 = 0)
    ∧ (win3_3.index t 0 = 0 ∧ win3_3.index t 1 = 0)
    ∧ (win3_4.index t 0 = t.val ∧ win3_4.index t 1 = 0)
    ∧ (win3_5.index t 0 = t.val ∧ win3_5.index t 1 = 0)
    ∧ (win3_6.index t 0 = t.val ∧ win3_6.index t 1 = 0) :=
  (by decide +kernel : ∀ t : Fin grid3.N, _)

theorem lt3 (t : Fin cfg3.N) : t.val < 8 := lt_of_lt_of_eq t.isLt N_3

theorem blk3_0 (c : Dev nD) (t : Fin cfg3.N) (p0 : Fin 512) (p1 : Fin 2048) (q : S4096x2048.Idx)
    (h0 : (q 0).val = 512 * (t.val) + p0.val) (h1 : (q 1).val = p1.val) :
    (iblk3 V c 0 t : Vec Ideal S512x2048 .bf16) (ix2 p0 p1) = (V c main_v15_2 : S4096x2048.Idx → EReal) q := by
  obtain ⟨⟨i0, i1⟩, -⟩ := idx3 t
  unfold iblk3; rw [View.read_apply]
  show V c main_v15_2 _ = V c main_v15_2 q
  congr 1; funext a; apply Fin.ext
  match a with
  | ⟨0, _⟩ => show win3_0.index t 0 * 512 + 1 * p0.val = (q 0).val; rw [i0, h0]; omega
  | ⟨1, _⟩ => show win3_0.index t 1 * 2048 + 1 * p1.val = (q 1).val; rw [i1, h1]; omega

theorem blk3_1 (c : Dev nD) (t : Fin cfg3.N) (p0 : Fin 2048) (p1 : Fin 2048) (q : S2048x2048.Idx)
    (h0 : (q 0).val = p0.val) (h1 : (q 1).val = p1.val) :
    (iblk3 V c 1 t : Vec Ideal S2048x2048 .bf16) (ix2 p0 p1) = (V c main_v12 : S2048x2048.Idx → EReal) q := by
  obtain ⟨-, ⟨i0, i1⟩, -⟩ := idx3 t
  unfold iblk3; rw [View.read_apply]
  show V c main_v12 _ = V c main_v12 q
  congr 1; funext a; apply Fin.ext
  match a with
  | ⟨0, _⟩ => show win3_1.index t 0 * 2048 + 1 * p0.val = (q 0).val; rw [i0, h0]; omega
  | ⟨1, _⟩ => show win3_1.index t 1 * 2048 + 1 * p1.val = (q 1).val; rw [i1, h1]; omega

theorem blk3_2 (c : Dev nD) (t : Fin cfg3.N) (p0 : Fin 512) (p1 : Fin 2048) (q : S4096x2048.Idx)
    (h0 : (q 0).val = 512 * (t.val) + p0.val) (h1 : (q 1).val = p1.val) :
    (iblk3 V c 2 t : Vec Ideal S512x2048 .f32) (ix2 p0 p1) = (V c main_arg0 : S4096x2048.Idx → EReal) q := by
  obtain ⟨-, -, ⟨i0, i1⟩, -⟩ := idx3 t
  unfold iblk3; rw [View.read_apply]
  show V c main_arg0 _ = V c main_arg0 q
  congr 1; funext a; apply Fin.ext
  match a with
  | ⟨0, _⟩ => show win3_2.index t 0 * 512 + 1 * p0.val = (q 0).val; rw [i0, h0]; omega
  | ⟨1, _⟩ => show win3_2.index t 1 * 2048 + 1 * p1.val = (q 1).val; rw [i1, h1]; omega

theorem blk3_3 (c : Dev nD) (t : Fin cfg3.N) (p0 : Fin 1) (p1 : Fin 2048) (q : S1x2048.Idx)
    (h0 : (q 0).val = p0.val) (h1 : (q 1).val = p1.val) :
    (iblk3 V c 3 t : Vec Ideal S1x2048 .f32) (ix2 p0 p1) = (V c main_arg10 : S1x2048.Idx → EReal) q := by
  obtain ⟨-, -, -, ⟨i0, i1⟩, -⟩ := idx3 t
  unfold iblk3; rw [View.read_apply]
  show V c main_arg10 _ = V c main_arg10 q
  congr 1; funext a; apply Fin.ext
  match a with
  | ⟨0, _⟩ => show win3_3.index t 0 * 1 + 1 * p0.val = (q 0).val; rw [i0, h0]; omega
  | ⟨1, _⟩ => show win3_3.index t 1 * 2048 + 1 * p1.val = (q 1).val; rw [i1, h1]; omega

/-- One element of the residual stream's block, as an element of the whole stream. -/
theorem stream3 (c : Dev nD) (t : Fin cfg3.N) (r : Fin 512) (e : Fin 2048) (q : Fin 4096) (hq : q.val = 512 * t.val + r.val) :
    streamBlock (iblk3 V c 0 t : Vec Ideal S512x2048 .bf16) (iblk3 V c 1 t : Vec Ideal S2048x2048 .bf16) (iblk3 V c 2 t : Vec Ideal S512x2048 .f32) r e
      = Cert.Mixer.stream (V c main_arg0) (V c main_v12) (V c main_v15_2) (ix2 q e) := by
  unfold streamBlock Cert.Mixer.stream
  refine congrArg₂ (fun a b : EReal => a + b) (blk3_2 V c t r e _ hq rfl) ?_
  unfold rowCol
  refine Finset.sum_congr rfl fun k _ => congrArg₂ (fun a b : EReal => a * b) ?_ ?_
  · exact blk3_0 V c t r k _ hq rfl
  exact blk3_1 V c t k e _ rfl rfl

/-- The residual stream. -/
def R3_4 (c : Dev nD) : S4096x2048.Idx → EReal := fun i => Cert.Mixer.stream (V c main_arg0) (V c main_v12) (V c main_v15_2) i

theorem flushed3_4 (c : Dev nD) (t : Fin cfg3.N) : (dat3 V c).flushed 4 t = ((cfg3.win 4).blk t).view.read (Elt Ideal) (R3_4 V c) := by
  show (cfg3.win 4).cut (grid3.coords t) ((dat3 V c).after 4 t) = _
  rw [after3_4]; funext j
  obtain ⟨-, -, -, -, ⟨i0, i1⟩, -⟩ := idx3 t
  obtain ⟨r, e, rfl⟩ := any2 512 2048 j
  rw [View.read_apply]
  have ei : ((cfg3.win 4).blk t).view.emb (ix2 r e) = (ix2 ⟨512 * (t.val) + r.val, by have := lt3 t; have := r.isLt; omega⟩ e) := funext fun a => Fin.ext (by
    match a with
    | ⟨0, _⟩ => show win3_4.index t 0 * 512 + 1 * r.val = 512 * (t.val) + r.val; rw [i0]; omega
    | ⟨1, _⟩ => show win3_4.index t 1 * 2048 + 1 * e.val = e.val; rw [i1]; omega)
  refine (stream_out _ _ _ _ r e).trans ?_
  refine Eq.trans ?_ (congrArg (R3_4 V c) ei).symm
  exact stream3 V c t r e _ rfl

theorem cover3_4 (i : S4096x2048.Idx) : ∃ t : Fin cfg3.N, (cfg3.win 4).flush t = true ∧ i ∈ ((cfg3.win 4).blk t).view.set := by
  have b0 : (i 0 : Nat) < 4096 := (i 0).isLt
  have b1 : (i 1 : Nat) < 2048 := (i 1).isLt
  have hN : cfg3.N = 8 := N_3
  refine ⟨⟨(i 0 : Nat) / 512, by omega⟩, flush3_4 _, ?_⟩
  generalize ht : (⟨(i 0 : Nat) / 512, by omega⟩ : Fin cfg3.N) = t
  have tv : t.val = (i 0 : Nat) / 512 := by rw [← ht]
  obtain ⟨-, -, -, -, ⟨i0, i1⟩, -⟩ := idx3 t
  show i ∈ ((View.whole main_v16_0).slice (win3_4.rect t)).set
  rw [View.set_slice_whole, Rect.mem_set_unit]
  intro a
  match a with
  | ⟨0, _⟩ => show win3_4.index t 0 * 512 ≤ (i 0 : Nat) ∧ (i 0 : Nat) < win3_4.index t 0 * 512 + 512
              rw [i0]; omega
  | ⟨1, _⟩ => show win3_4.index t 1 * 2048 ≤ (i 1 : Nat) ∧ (i 1 : Nat) < win3_4.index t 1 * 2048 + 2048
              rw [i1]; omega

theorem arr3_4 (c : Dev nD) : (dat3 V c).arrAt 4 cfg3.N = R3_4 V c :=
  (dat3 V c).arrAt_eq_of_cover 4 (R3_4 V c) (fun t _ => flushed3_4 V c t) cover3_4

/-- The next block's input. -/
def R3_5 (c : Dev nD) : S4096x2048.Idx → EReal := fun i => Cert.Mixer.normed (V c main_arg0) (V c main_v12) (V c main_arg10) (V c main_v15_2) i

theorem flushed3_5 (c : Dev nD) (t : Fin cfg3.N) : (dat3 V c).flushed 5 t = ((cfg3.win 5).blk t).view.read (Elt Ideal) (R3_5 V c) := by
  show (cfg3.win 5).cut (grid3.coords t) ((dat3 V c).after 5 t) = _
  rw [after3_5]; funext j
  obtain ⟨-, -, -, -, -, ⟨i0, i1⟩, -⟩ := idx3 t
  obtain ⟨r, e, rfl⟩ := any2 512 2048 j
  rw [View.read_apply]
  have ei : ((cfg3.win 5).blk t).view.emb (ix2 r e) = (ix2 ⟨512 * (t.val) + r.val, by have := lt3 t; have := r.isLt; omega⟩ e) := funext fun a => Fin.ext (by
    match a with
    | ⟨0, _⟩ => show win3_5.index t 0 * 512 + 1 * r.val = 512 * (t.val) + r.val; rw [i0]; omega
    | ⟨1, _⟩ => show win3_5.index t 1 * 2048 + 1 * e.val = e.val; rw [i1]; omega)
  refine (normed_out _ _ _ _ r e).trans ?_
  refine Eq.trans ?_ (congrArg (R3_5 V c) ei).symm
  refine congrArg₂ (fun a b : EReal => a * b) (congrArg₂ (fun a b : EReal => a * b) (stream3 V c t r e _ rfl) ?_) ?_
  · exact congrArg Cert.Mixer.invNorm (funext fun f => stream3 V c t r f _ rfl)
  · exact blk3_3 V c t 0 e _ rfl rfl

theorem cover3_5 (i : S4096x2048.Idx) : ∃ t : Fin cfg3.N, (cfg3.win 5).flush t = true ∧ i ∈ ((cfg3.win 5).blk t).view.set := by
  have b0 : (i 0 : Nat) < 4096 := (i 0).isLt
  have b1 : (i 1 : Nat) < 2048 := (i 1).isLt
  have hN : cfg3.N = 8 := N_3
  refine ⟨⟨(i 0 : Nat) / 512, by omega⟩, flush3_5 _, ?_⟩
  generalize ht : (⟨(i 0 : Nat) / 512, by omega⟩ : Fin cfg3.N) = t
  have tv : t.val = (i 0 : Nat) / 512 := by rw [← ht]
  obtain ⟨-, -, -, -, -, ⟨i0, i1⟩, -⟩ := idx3 t
  show i ∈ ((View.whole main_v16_1).slice (win3_5.rect t)).set
  rw [View.set_slice_whole, Rect.mem_set_unit]
  intro a
  match a with
  | ⟨0, _⟩ => show win3_5.index t 0 * 512 ≤ (i 0 : Nat) ∧ (i 0 : Nat) < win3_5.index t 0 * 512 + 512
              rw [i0]; omega
  | ⟨1, _⟩ => show win3_5.index t 1 * 2048 ≤ (i 1 : Nat) ∧ (i 1 : Nat) < win3_5.index t 1 * 2048 + 2048
              rw [i1]; omega

theorem arr3_5 (c : Dev nD) : (dat3 V c).arrAt 5 cfg3.N = R3_5 V c :=
  (dat3 V c).arrAt_eq_of_cover 5 (R3_5 V c) (fun t _ => flushed3_5 V c t) cover3_5

/-- The inverse roots of the rows' mean squares. -/
def R3_6 (c : Dev nD) : S4096x1.Idx → EReal := fun i => Cert.Mixer.rowNorm (V c main_arg0) (V c main_v12) (V c main_v15_2) (i 0)

theorem flushed3_6 (c : Dev nD) (t : Fin cfg3.N) : (dat3 V c).flushed 6 t = ((cfg3.win 6).blk t).view.read (Elt Ideal) (R3_6 V c) := by
  show (cfg3.win 6).cut (grid3.coords t) ((dat3 V c).after 6 t) = _
  rw [after3_6]; funext j
  obtain ⟨-, -, -, -, -, -, ⟨i0, i1⟩⟩ := idx3 t
  obtain ⟨r, e, rfl⟩ := any2 512 1 j
  rw [View.read_apply]
  have ei : ((cfg3.win 6).blk t).view.emb (ix2 r e) = (ix2 ⟨512 * (t.val) + r.val, by have := lt3 t; have := r.isLt; omega⟩ e) := funext fun a => Fin.ext (by
    match a with
    | ⟨0, _⟩ => show win3_6.index t 0 * 512 + 1 * r.val = 512 * (t.val) + r.val; rw [i0]; omega
    | ⟨1, _⟩ => show win3_6.index t 1 * 1 + 1 * e.val = e.val; rw [i1]; omega)
  obtain rfl : e = 0 := Fin.ext (by have := e.isLt; omega)
  refine (norm_out _ _ _ _ r).trans ?_
  refine Eq.trans ?_ (congrArg (R3_6 V c) ei).symm
  exact congrArg Cert.Mixer.invNorm (funext fun f => stream3 V c t r f _ rfl)

theorem cover3_6 (i : S4096x1.Idx) : ∃ t : Fin cfg3.N, (cfg3.win 6).flush t = true ∧ i ∈ ((cfg3.win 6).blk t).view.set := by
  have b0 : (i 0 : Nat) < 4096 := (i 0).isLt
  have b1 : (i 1 : Nat) < 1 := (i 1).isLt
  have hN : cfg3.N = 8 := N_3
  refine ⟨⟨(i 0 : Nat) / 512, by omega⟩, flush3_6 _, ?_⟩
  generalize ht : (⟨(i 0 : Nat) / 512, by omega⟩ : Fin cfg3.N) = t
  have tv : t.val = (i 0 : Nat) / 512 := by rw [← ht]
  obtain ⟨-, -, -, -, -, -, ⟨i0, i1⟩⟩ := idx3 t
  show i ∈ ((View.whole main_v16_2).slice (win3_6.rect t)).set
  rw [View.set_slice_whole, Rect.mem_set_unit]
  intro a
  match a with
  | ⟨0, _⟩ => show win3_6.index t 0 * 512 ≤ (i 0 : Nat) ∧ (i 0 : Nat) < win3_6.index t 0 * 512 + 512
              rw [i0]; omega
  | ⟨1, _⟩ => show win3_6.index t 1 * 1 ≤ (i 1 : Nat) ∧ (i 1 : Nat) < win3_6.index t 1 * 1 + 1
              rw [i1]; omega

theorem arr3_6 (c : Dev nD) : (dat3 V c).arrAt 6 cfg3.N = R3_6 V c :=
  (dat3 V c).arrAt_eq_of_cover 6 (R3_6 V c) (fun t _ => flushed3_6 V c t) cover3_6

/-! ## Call 4 -/

theorem idx4 : ∀ t : Fin cfg4.N,
    (win4_0.index t 0 = 0 ∧ win4_0.index t 1 = t.val % 4)
    ∧ (win4_1.index t 0 = 0 ∧ win4_1.index t 1 = t.val / 4)
    ∧ (win4_2.index t 0 = t.val % 4 ∧ win4_2.index t 1 = t.val / 4) :=
  (by decide +kernel : ∀ t : Fin grid4.N, _)

theorem lt4 (t : Fin cfg4.N) : t.val < 8 := lt_of_lt_of_eq t.isLt N_4

theorem blk4_0 (c : Dev nD) (t : Fin cfg4.N) (p0 : Fin 4096) (p1 : Fin 512) (q : S4096x2048.Idx)
    (h0 : (q 0).val = p0.val) (h1 : (q 1).val = 512 * (t.val % 4) + p1.val) :
    (iblk4 V c 0 t : Vec Ideal S4096x512 .bf16) (ix2 p0 p1) = (V c main_v15_2 : S4096x2048.Idx → EReal) q := by
  obtain ⟨⟨i0, i1⟩, -⟩ := idx4 t
  unfold iblk4; rw [View.read_apply]
  show V c main_v15_2 _ = V c main_v15_2 q
  congr 1; funext a; apply Fin.ext
  match a with
  | ⟨0, _⟩ => show win4_0.index t 0 * 4096 + 1 * p0.val = (q 0).val; rw [i0, h0]; omega
  | ⟨1, _⟩ => show win4_0.index t 1 * 512 + 1 * p1.val = (q 1).val; rw [i1, h1]; omega

theorem blk4_1 (c : Dev nD) (t : Fin cfg4.N) (p0 : Fin 4096) (p1 : Fin 1024) (q : S4096x2048.Idx)
    (h0 : (q 0).val = p0.val) (h1 : (q 1).val = 1024 * (t.val / 4) + p1.val) :
    (iblk4 V c 1 t : Vec Ideal S4096x1024 .bf16) (ix2 p0 p1) = (V c main_arg11 : S4096x2048.Idx → EReal) q := by
  obtain ⟨-, ⟨i0, i1⟩, -⟩ := idx4 t
  unfold iblk4; rw [View.read_apply]
  show V c main_arg11 _ = V c main_arg11 q
  congr 1; funext a; apply Fin.ext
  match a with
  | ⟨0, _⟩ => show win4_1.index t 0 * 4096 + 1 * p0.val = (q 0).val; rw [i0, h0]; omega
  | ⟨1, _⟩ => show win4_1.index t 1 * 1024 + 1 * p1.val = (q 1).val; rw [i1, h1]; omega

/-- The gradient of the output weight. -/
def R4_2 (c : Dev nD) : S2048x2048.Idx → EReal := fun i => colCol (V c main_v15_2) (V c main_arg11) (i 0) (i 1)

theorem flushed4_2 (c : Dev nD) (t : Fin cfg4.N) : (dat4 V c).flushed 2 t = ((cfg4.win 2).blk t).view.read (Elt Ideal) (R4_2 V c) := by
  show (cfg4.win 2).cut (grid4.coords t) ((dat4 V c).after 2 t) = _
  rw [after4_2]; funext j
  obtain ⟨-, -, ⟨i0, i1⟩⟩ := idx4 t
  obtain ⟨r, e, rfl⟩ := any2 512 1024 j
  rw [View.read_apply]
  have ei : ((cfg4.win 2).blk t).view.emb (ix2 r e) = (ix2 ⟨512 * (t.val % 4) + r.val, by have := lt4 t; have := r.isLt; omega⟩ ⟨1024 * (t.val / 4) + e.val, by have := lt4 t; have := e.isLt; omega⟩) := funext fun a => Fin.ext (by
    match a with
    | ⟨0, _⟩ => show win4_2.index t 0 * 512 + 1 * r.val = 512 * (t.val % 4) + r.val; rw [i0]; omega
    | ⟨1, _⟩ => show win4_2.index t 1 * 1024 + 1 * e.val = 1024 * (t.val / 4) + e.val; rw [i1]; omega)
  refine (outDw_out _ _ r e).trans ?_
  refine Eq.trans ?_ (congrArg (R4_2 V c) ei).symm
  unfold R4_2 colCol
  refine Finset.sum_congr rfl fun k _ => congrArg₂ (fun a b : EReal => a * b) ?_ ?_
  · exact blk4_0 V c t k r _ rfl rfl
  exact blk4_1 V c t k e _ rfl rfl

theorem cover4_2 (i : S2048x2048.Idx) : ∃ t : Fin cfg4.N, (cfg4.win 2).flush t = true ∧ i ∈ ((cfg4.win 2).blk t).view.set := by
  have b0 : (i 0 : Nat) < 2048 := (i 0).isLt
  have b1 : (i 1 : Nat) < 2048 := (i 1).isLt
  have hN : cfg4.N = 8 := N_4
  refine ⟨⟨4 * ((i 1 : Nat) / 1024) + (i 0 : Nat) / 512, by omega⟩, flush4_2 _, ?_⟩
  generalize ht : (⟨4 * ((i 1 : Nat) / 1024) + (i 0 : Nat) / 512, by omega⟩ : Fin cfg4.N) = t
  have tv : t.val = 4 * ((i 1 : Nat) / 1024) + (i 0 : Nat) / 512 := by rw [← ht]
  obtain ⟨-, -, ⟨i0, i1⟩⟩ := idx4 t
  show i ∈ ((View.whole main_v17).slice (win4_2.rect t)).set
  rw [View.set_slice_whole, Rect.mem_set_unit]
  intro a
  match a with
  | ⟨0, _⟩ => show win4_2.index t 0 * 512 ≤ (i 0 : Nat) ∧ (i 0 : Nat) < win4_2.index t 0 * 512 + 512
              rw [i0]; omega
  | ⟨1, _⟩ => show win4_2.index t 1 * 1024 ≤ (i 1 : Nat) ∧ (i 1 : Nat) < win4_2.index t 1 * 1024 + 1024
              rw [i1]; omega

theorem arr4_2 (c : Dev nD) : (dat4 V c).arrAt 2 cfg4.N = R4_2 V c :=
  (dat4 V c).arrAt_eq_of_cover 2 (R4_2 V c) (fun t _ => flushed4_2 V c t) cover4_2

end Cert.Kernel3Ideal.Mixer

end
-- ==== Proof.MixerForwardChain.lean ====
/-
  The five calls of the mixer's forward products in a row: each call's output arrays as functions of the arguments,
  carried through the later calls to the results (at the ideal values).
-/
module

public import proofs.«01_k».proof.Proof.MixerForwardProducts
public import proofs.«01_k».proof.Proof.MixerForwardOutput

@[expose] public section

set_option maxRecDepth 16384

noncomputable section

namespace Cert.Kernel3Ideal.Mixer

open Cert.Kernel3Ideal Cert.Kernel3Ideal.Gen Cert.Products Idealize.ShloMosaic.TcCoe Idealize.SL.Sem
open Idealize.ShloMosaic hiding ix1 ix2 ix3 eq_ix1 eq_ix2 eq_ix3
open Idealize.ShloMosaic.ValueIdx

variable (m : (ℓ : Loc nD τ sig) → Buf (Elt Ideal) ℓ) (ρ : Dev nD → PrngReg)

/-- The arguments as launched. -/
abbrev a0 (c : Dev nD) : S4096x2048.Idx → EReal := m ((c : Thread nD τ).loc main_arg0)
abbrev a1 (c : Dev nD) : S4096x2048.Idx → EReal := m ((c : Thread nD τ).loc main_arg1)
abbrev a2 (c : Dev nD) : S4096x512.Idx → EReal := m ((c : Thread nD τ).loc main_arg2)
abbrev a3 (c : Dev nD) : S4096x512.Idx → EReal := m ((c : Thread nD τ).loc main_arg3)
abbrev a4 (c : Dev nD) : S2048x6144.Idx → EReal := m ((c : Thread nD τ).loc main_arg4)
abbrev a5 (c : Dev nD) : S2048x4096.Idx → EReal := m ((c : Thread nD τ).loc main_arg5)
abbrev a6 (c : Dev nD) : S1x4096.Idx → EReal := m ((c : Thread nD τ).loc main_arg6)
abbrev a7 (c : Dev nD) : S512x2048.Idx → EReal := m ((c : Thread nD τ).loc main_arg7)
abbrev a8 (c : Dev nD) : S512x2048.Idx → EReal := m ((c : Thread nD τ).loc main_arg8)
abbrev a9 (c : Dev nD) : S2048x2048.Idx → EReal := m ((c : Thread nD τ).loc main_arg9)
abbrev a10 (c : Dev nD) : S1x2048.Idx → EReal := m ((c : Thread nD τ).loc main_arg10)
abbrev a11 (c : Dev nD) : S4096x2048.Idx → EReal := m ((c : Thread nD τ).loc main_arg11)

/-! ## The weights the host cuts into shards, and the one it only casts -/

theorem at1_v2 (c : Dev nD) : V1 m ρ c main_v2 = shardsOf (b := 8) (n := 768) (M := 6144) (by norm_num) (a4 m c) := by
  show StableHlo.after hostOps0 (fun b => m (c, b)) (Proc.devRef .tc main_v2) = _
  after_results_simp
  exact cut_shards _ _ _ _

theorem at1_v5 (c : Dev nD) : V1 m ρ c main_v5 = shardsOf (b := 8) (n := 512) (M := 4096) (by norm_num) (a5 m c) := by
  show StableHlo.after hostOps0 (fun b => m (c, b)) (Proc.devRef .tc main_v5) = _
  after_results_simp
  exact cut_shards _ _ _ _

theorem at1_v8 (c : Dev nD) : V1 m ρ c main_v8 = shardsOf (b := 8) (n := 256) (M := 2048) (by norm_num) (a7 m c) := by
  show StableHlo.after hostOps0 (fun b => m (c, b)) (Proc.devRef .tc main_v8) = _
  after_results_simp
  exact cut_shards _ _ _ _

theorem at1_v11 (c : Dev nD) : V1 m ρ c main_v11 = shardsOf (b := 8) (n := 256) (M := 2048) (by norm_num) (a8 m c) := by
  show StableHlo.after hostOps0 (fun b => m (c, b)) (Proc.devRef .tc main_v11) = _
  after_results_simp
  exact cut_shards _ _ _ _

theorem at1_v12 (c : Dev nD) : V1 m ρ c main_v12 = a9 m c := by
  show StableHlo.after hostOps0 (fun b => m (c, b)) (Proc.devRef .tc main_v12) = _
  after_results_simp
  rfl

/-! ## The calls' arrays, in order -/

theorem at1_arg1 (c : Dev nD) : V1 m ρ c main_arg1 = a1 m c := W1_args m ρ c main_arg1 (by decide)
theorem at2_v13 (c : Dev nD) : V2 m ρ c main_v13 = Cert.Mixer.qkv (a1 m c) (a4 m c) :=
  ((W2_arr m ρ c 2).trans (arr0_2 (V1 m ρ) c)).trans (by
    unfold R0_2; rw [at1_arg1, at1_v2]; funext i
    obtain ⟨r, e, rfl⟩ := any2 4096 6144 i
    exact (shardCol_of _ _ _ _ _ _).trans (congrArg (rowCol _ _ r) (Fin.ext (by show 768 * (e.val / 768) + e.val % 768 = e.val; omega))))
theorem at2_arg1 (c : Dev nD) : V2 m ρ c main_arg1 = a1 m c := W2_args m ρ c main_arg1 (by decide)
theorem at2_v5 (c : Dev nD) : V2 m ρ c main_v5 = shardsOf (b := 8) (n := 512) (M := 4096) (by norm_num) (a5 m c) := (W2_of m ρ c main_v5 (by decide +kernel)).trans (at1_v5 m ρ c)
theorem at2_arg6 (c : Dev nD) : V2 m ρ c main_arg6 = a6 m c := W2_args m ρ c main_arg6 (by decide)
theorem at3_v14 (c : Dev nD) : V3 m ρ c main_v14 = Cert.Mixer.gates (a1 m c) (a5 m c) (a6 m c) :=
  ((W3_arr m ρ c 3).trans (arr1_3 (V2 m ρ) c)).trans (by
    unfold R1_3; rw [at2_arg1, at2_v5, at2_arg6]; funext i
    obtain ⟨r, e, rfl⟩ := any2 4096 4096 i
    exact congrArg Ideal.logistic (congrArg (fun z : EReal => z + _) ((shardCol_of _ _ _ _ _ _).trans (congrArg (rowCol _ _ r) (Fin.ext (by show 512 * (e.val / 512) + e.val % 512 = e.val; omega))))))
theorem at3_arg2 (c : Dev nD) : V3 m ρ c main_arg2 = a2 m c := W3_args m ρ c main_arg2 (by decide)
theorem at2_v8 (c : Dev nD) : V2 m ρ c main_v8 = shardsOf (b := 8) (n := 256) (M := 2048) (by norm_num) (a7 m c) := (W2_of m ρ c main_v8 (by decide +kernel)).trans (at1_v8 m ρ c)
theorem at3_v8 (c : Dev nD) : V3 m ρ c main_v8 = shardsOf (b := 8) (n := 256) (M := 2048) (by norm_num) (a7 m c) := (W3_of m ρ c main_v8 (by decide +kernel)).trans (at2_v8 m ρ c)
theorem at3_arg3 (c : Dev nD) : V3 m ρ c main_arg3 = a3 m c := W3_args m ρ c main_arg3 (by decide)
theorem at2_v11 (c : Dev nD) : V2 m ρ c main_v11 = shardsOf (b := 8) (n := 256) (M := 2048) (by norm_num) (a8 m c) := (W2_of m ρ c main_v11 (by decide +kernel)).trans (at1_v11 m ρ c)
theorem at3_v11 (c : Dev nD) : V3 m ρ c main_v11 = shardsOf (b := 8) (n := 256) (M := 2048) (by norm_num) (a8 m c) := (W3_of m ρ c main_v11 (by decide +kernel)).trans (at2_v11 m ρ c)
theorem at4_v15_2 (c : Dev nD) : V4 m ρ c main_v15_2 = Cert.Mixer.merged (a1 m c) (a2 m c) (a3 m c) (a5 m c) (a6 m c) (a7 m c) (a8 m c) :=
  ((W4_arr m ρ c 8).trans (arr2_8 (V3 m ρ) c)).trans (by
    unfold R2_8; rw [at3_arg2, at3_v8, at3_arg3, at3_v11, at3_v14]; exact Cert.Mixer.mergeShards_of _ _ _ _ _ _)
theorem at2_v12 (c : Dev nD) : V2 m ρ c main_v12 = a9 m c := (W2_of m ρ c main_v12 (by decide +kernel)).trans (at1_v12 m ρ c)
theorem at3_v12 (c : Dev nD) : V3 m ρ c main_v12 = a9 m c := (W3_of m ρ c main_v12 (by decide +kernel)).trans (at2_v12 m ρ c)
theorem at4_v12 (c : Dev nD) : V4 m ρ c main_v12 = a9 m c := (W4_of m ρ c main_v12 (by decide +kernel)).trans (at3_v12 m ρ c)
theorem at4_arg0 (c : Dev nD) : V4 m ρ c main_arg0 = a0 m c := W4_args m ρ c main_arg0 (by decide)
theorem at5_v16_0 (c : Dev nD) : V5 m ρ c main_v16_0 = Cert.Mixer.x2 (a0 m c) (a1 m c) (a2 m c) (a3 m c) (a5 m c) (a6 m c) (a7 m c) (a8 m c) (a9 m c) :=
  ((W5_arr m ρ c 4).trans (arr3_4 (V4 m ρ) c)).trans (by
    unfold R3_4; rw [at4_v15_2, at4_v12, at4_arg0]; rfl)
theorem at4_arg10 (c : Dev nD) : V4 m ρ c main_arg10 = a10 m c := W4_args m ρ c main_arg10 (by decide)
theorem at5_v16_1 (c : Dev nD) : V5 m ρ c main_v16_1 = Cert.Mixer.h2 (a0 m c) (a1 m c) (a2 m c) (a3 m c) (a5 m c) (a6 m c) (a7 m c) (a8 m c) (a9 m c) (a10 m c) :=
  ((W5_arr m ρ c 5).trans (arr3_5 (V4 m ρ) c)).trans (by
    unfold R3_5; rw [at4_v15_2, at4_v12, at4_arg0, at4_arg10]; rfl)
theorem at5_v16_2 (c : Dev nD) : V5 m ρ c main_v16_2 = Cert.Mixer.r2 (a0 m c) (a1 m c) (a2 m c) (a3 m c) (a5 m c) (a6 m c) (a7 m c) (a8 m c) (a9 m c) :=
  ((W5_arr m ρ c 6).trans (arr3_6 (V4 m ρ) c)).trans (by
    unfold R3_6; rw [at4_v15_2, at4_v12, at4_arg0]; rfl)
theorem at5_v15_2 (c : Dev nD) : V5 m ρ c main_v15_2 = Cert.Mixer.merged (a1 m c) (a2 m c) (a3 m c) (a5 m c) (a6 m c) (a7 m c) (a8 m c) := (W5_of m ρ c main_v15_2 (by decide +kernel)).trans (at4_v15_2 m ρ c)
theorem at5_arg11 (c : Dev nD) : V5 m ρ c main_arg11 = a11 m c := W5_args m ρ c main_arg11 (by decide)
theorem at6_v17 (c : Dev nD) : V6 m ρ c main_v17 = Cert.Mixer.dwo (a1 m c) (a2 m c) (a3 m c) (a5 m c) (a6 m c) (a7 m c) (a8 m c) (a11 m c) :=
  ((W6_arr m ρ c 2).trans (arr4_2 (V5 m ρ) c)).trans (by
    unfold R4_2; rw [at5_v15_2, at5_arg11]; rfl)

/-! ## The results -/

theorem at3_v13 (c : Dev nD) : V3 m ρ c main_v13 = Cert.Mixer.qkv (a1 m c) (a4 m c) := (W3_of m ρ c main_v13 (by decide +kernel)).trans (at2_v13 m ρ c)
theorem at4_v13 (c : Dev nD) : V4 m ρ c main_v13 = Cert.Mixer.qkv (a1 m c) (a4 m c) := (W4_of m ρ c main_v13 (by decide +kernel)).trans (at3_v13 m ρ c)
theorem at5_v13 (c : Dev nD) : V5 m ρ c main_v13 = Cert.Mixer.qkv (a1 m c) (a4 m c) := (W5_of m ρ c main_v13 (by decide +kernel)).trans (at4_v13 m ρ c)
theorem at6_v13 (c : Dev nD) : V6 m ρ c main_v13 = Cert.Mixer.qkv (a1 m c) (a4 m c) := (W6_of m ρ c main_v13 (by decide +kernel)).trans (at5_v13 m ρ c)
theorem res0 (c : Dev nD) : W6 m ρ c (Proc.devRef .tc main_v13) = Cert.Mixer.qkv (a1 m c) (a4 m c) := at6_v13 m ρ c
theorem at6_v16_0 (c : Dev nD) : V6 m ρ c main_v16_0 = Cert.Mixer.x2 (a0 m c) (a1 m c) (a2 m c) (a3 m c) (a5 m c) (a6 m c) (a7 m c) (a8 m c) (a9 m c) := (W6_of m ρ c main_v16_0 (by decide +kernel)).trans (at5_v16_0 m ρ c)
theorem res1 (c : Dev nD) : W6 m ρ c (Proc.devRef .tc main_v16_0) = Cert.Mixer.x2 (a0 m c) (a1 m c) (a2 m c) (a3 m c) (a5 m c) (a6 m c) (a7 m c) (a8 m c) (a9 m c) := at6_v16_0 m ρ c
theorem at6_v16_1 (c : Dev nD) : V6 m ρ c main_v16_1 = Cert.Mixer.h2 (a0 m c) (a1 m c) (a2 m c) (a3 m c) (a5 m c) (a6 m c) (a7 m c) (a8 m c) (a9 m c) (a10 m c) := (W6_of m ρ c main_v16_1 (by decide +kernel)).trans (at5_v16_1 m ρ c)
theorem res2 (c : Dev nD) : W6 m ρ c (Proc.devRef .tc main_v16_1) = Cert.Mixer.h2 (a0 m c) (a1 m c) (a2 m c) (a3 m c) (a5 m c) (a6 m c) (a7 m c) (a8 m c) (a9 m c) (a10 m c) := at6_v16_1 m ρ c
theorem at6_v16_2 (c : Dev nD) : V6 m ρ c main_v16_2 = Cert.Mixer.r2 (a0 m c) (a1 m c) (a2 m c) (a3 m c) (a5 m c) (a6 m c) (a7 m c) (a8 m c) (a9 m c) := (W6_of m ρ c main_v16_2 (by decide +kernel)).trans (at5_v16_2 m ρ c)
theorem res3 (c : Dev nD) : W6 m ρ c (Proc.devRef .tc main_v16_2) = Cert.Mixer.r2 (a0 m c) (a1 m c) (a2 m c) (a3 m c) (a5 m c) (a6 m c) (a7 m c) (a8 m c) (a9 m c) := at6_v16_2 m ρ c
theorem res4 (c : Dev nD) : W6 m ρ c (Proc.devRef .tc main_v17) = Cert.Mixer.dwo (a1 m c) (a2 m c) (a3 m c) (a5 m c) (a6 m c) (a7 m c) (a8 m c) (a11 m c) := at6_v17 m ρ c
end Cert.Kernel3Ideal.Mixer

end
-- ==== Proof.MixerForwardRun.lean ====
/-
  The run of the five calls, read at the five results (at the ideal values).  The launch set-up is the frame's own;
  what is read off the last boundary's contents here are the results too.
-/
module

public import proofs.«01_k».proof.Proof.MixerForwardChain

@[expose] public section

set_option maxRecDepth 16384

noncomputable section

namespace Cert.Kernel3Ideal.Mixer

open Cert.Kernel3Ideal Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, read: the results as functions of the arguments, the arguments unchanged. -/
theorem run : θ_run defs (onTc (τ := τ) (main (F := Ideal))) ⟨m, fun _ => 0, ρ⟩ fun r => ∀ c : Dev nD,
      r.2.mem ((c : Thread nD τ).loc main_v13) = Cert.Mixer.qkv (a1 m c) (a4 m c)
      ∧ r.2.mem ((c : Thread nD τ).loc main_v16_0) = Cert.Mixer.x2 (a0 m c) (a1 m c) (a2 m c) (a3 m c) (a5 m c) (a6 m c) (a7 m c) (a8 m c) (a9 m c)
      ∧ r.2.mem ((c : Thread nD τ).loc main_v16_1) = Cert.Mixer.h2 (a0 m c) (a1 m c) (a2 m c) (a3 m c) (a5 m c) (a6 m c) (a7 m c) (a8 m c) (a9 m c) (a10 m c)
      ∧ r.2.mem ((c : Thread nD τ).loc main_v16_2) = Cert.Mixer.r2 (a0 m c) (a1 m c) (a2 m c) (a3 m c) (a5 m c) (a6 m c) (a7 m c) (a8 m c) (a9 m c)
      ∧ r.2.mem ((c : Thread nD τ).loc main_v17) = Cert.Mixer.dwo (a1 m c) (a2 m c) (a3 m c) (a5 m c) (a6 m c) (a7 m c) (a8 m c) (a11 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => ⟨(h c _ (mem_uc main_v13 (by decide))).trans (res0 m ρ c),
      (h c _ (mem_uc main_v16_0 (by decide))).trans (res1 m ρ c),
      (h c _ (mem_uc main_v16_1 (by decide))).trans (res2 m ρ c),
      (h c _ (mem_uc main_v16_2 (by decide))).trans (res3 m ρ c),
      (h c _ (mem_uc main_v17 (by decide))).trans (res4 m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩)

end Cert.Kernel3Ideal.Mixer

end
-- ==== Proof.MixerForwardReference.lean ====
/-
  The reference's forward lines, read as the mixer's own functions.
-/
module

public import proofs.«01_k».proof.Proof.Gen.Reference3Ideal.Read
public import proofs.«01_k».proof.Proof.MixerForwardMath

@[expose] public section

set_option maxRecDepth 16384

noncomputable section

namespace Cert.Reference3Ideal.Mixer

open Cert.Reference3Ideal Cert.Reference3Ideal.Gen Cert.Reference3Ideal.Read Cert.Products
open Cert.Mixer (lo hi qkv gates mergeWith merged stream rowNorm normed invNorm h2 r2 dwo)
open Idealize.ShloMosaic hiding ix1 ix2 ix3 eq_ix1 eq_ix2 eq_ix3
open Idealize.ShloMosaic.ValueIdx

variable (x0 : (⟨S4096x2048, .f32⟩ : BufTy).Contents (Elt Ideal)) (x1 : (⟨S4096x2048, .bf16⟩ : BufTy).Contents (Elt Ideal)) (x2 : (⟨S4096x512, .bf16⟩ : BufTy).Contents (Elt Ideal)) (x3 : (⟨S4096x512, .bf16⟩ : BufTy).Contents (Elt Ideal)) (x4 : (⟨S2048x6144, .f32⟩ : BufTy).Contents (Elt Ideal)) (x5 : (⟨S2048x4096, .f32⟩ : BufTy).Contents (Elt Ideal)) (x6 : (⟨S1x4096, .f32⟩ : BufTy).Contents (Elt Ideal)) (x7 : (⟨S512x2048, .f32⟩ : BufTy).Contents (Elt Ideal)) (x8 : (⟨S512x2048, .f32⟩ : BufTy).Contents (Elt Ideal)) (x9 : (⟨S2048x2048, .f32⟩ : BufTy).Contents (Elt Ideal)) (x10 : (⟨S1x2048, .f32⟩ : BufTy).Contents (Elt Ideal)) (x11 : (⟨S4096x2048, .bf16⟩ : BufTy).Contents (Elt Ideal))

theorem v3 (i : S4096x4096.Idx) : val_main_v3 (F := Ideal) x1 x5 i = rowCol x1 x5 (i 0) (i 1) := by
  rw [val_main_v3_apply]; unfold rowCol
  refine Finset.sum_congr rfl fun k _ => congrArg₂ (fun a b : EReal => a * b) ?_ ?_
  · show x1 _ = x1 _; congr 1; funext a; match a with | ⟨0, _⟩ => rfl | ⟨1, _⟩ => rfl
  · show x5 _ = x5 _; congr 1; funext a; match a with | ⟨0, _⟩ => rfl | ⟨1, _⟩ => rfl

theorem v15 (i : S4096x2048.Idx) : val_main_v15 (F := Ideal) x2 x7 i = rowCol x2 x7 (i 0) (i 1) := by
  rw [val_main_v15_apply]; unfold rowCol
  refine Finset.sum_congr rfl fun k _ => congrArg₂ (fun a b : EReal => a * b) ?_ ?_
  · show x2 _ = x2 _; congr 1; funext a; match a with | ⟨0, _⟩ => rfl | ⟨1, _⟩ => rfl
  · show x7 _ = x7 _; congr 1; funext a; match a with | ⟨0, _⟩ => rfl | ⟨1, _⟩ => rfl

theorem v19 (i : S4096x2048.Idx) : val_main_v19 (F := Ideal) x3 x8 i = rowCol x3 x8 (i 0) (i 1) := by
  rw [val_main_v19_apply]; unfold rowCol
  refine Finset.sum_congr rfl fun k _ => congrArg₂ (fun a b : EReal => a * b) ?_ ?_
  · show x3 _ = x3 _; congr 1; funext a; match a with | ⟨0, _⟩ => rfl | ⟨1, _⟩ => rfl
  · show x8 _ = x8 _; congr 1; funext a; match a with | ⟨0, _⟩ => rfl | ⟨1, _⟩ => rfl

theorem v33 (i : S4096x6144.Idx) : val_main_v33 (F := Ideal) x1 x4 i = rowCol x1 x4 (i 0) (i 1) := by
  rw [val_main_v33_apply]; unfold rowCol
  refine Finset.sum_congr rfl fun k _ => congrArg₂ (fun a b : EReal => a * b) ?_ ?_
  · show x1 _ = x1 _; congr 1; funext a; match a with | ⟨0, _⟩ => rfl | ⟨1, _⟩ => rfl
  · show x4 _ = x4 _; congr 1; funext a; match a with | ⟨0, _⟩ => rfl | ⟨1, _⟩ => rfl

/-- Queries, keys and values. -/
theorem v34 : val_main_v34 (F := Ideal) x1 x4 = qkv x1 x4 := funext fun i => by
  rw [val_main_v34_apply, v33]; rfl

/-- The gates: the logistic function, spelt out. -/
theorem v11 : val_main_v11 (F := Ideal) x1 x5 x6 = gates x1 x5 x6 := funext fun i => by
  rw [val_main_v11_apply, val_main_v10_apply, val_main_v9_apply, val_main_v8_apply, val_main_v7_apply, val_main_v6_apply, val_main_v5_apply, v3, val_main_v4_apply]
  show Ideal.div (Ideal.ofBits .f32 0x3F800000#32) (Ideal.ofBits .f32 0x3F800000#32 + Ideal.exp (-(rowCol x1 x5 (i 0) (i 1) + x6 _)))
    = Ideal.div 1 (1 + Ideal.exp (-(rowCol x1 x5 (i 0) (i 1) + x6 (ix2 0 (i 1)))))
  rw [Ideal.ofBits_one_f32]
  congr 5
  congr 1; funext a; match a with | ⟨0, _⟩ => rfl | ⟨1, _⟩ => rfl

theorem v14 (i : S4096x2048.Idx) : val_main_v14 (F := Ideal) x1 x5 x6 i = gates x1 x5 x6 (ix2 (i 0) (lo (i 1))) := by
  rw [val_main_v14_apply, val_main_v13_apply, val_main_v12_apply, v11]
  refine congrArg (gates x1 x5 x6) (funext fun a => Fin.ext ?_)
  have h0 : (i 0).val < 4096 := (i 0).isLt
  have h1 : (i 1).val < 2048 := (i 1).isLt
  match a with
  | ⟨0, _⟩ =>
    show ((((i 0).val * 2048 + (i 1).val) / 2048 * 2 + 0) * 2048 + ((i 0).val * 2048 + (i 1).val) % 2048) / 4096 = (i 0).val
    omega
  | ⟨1, _⟩ =>
    show ((((i 0).val * 2048 + (i 1).val) / 2048 * 2 + 0) * 2048 + ((i 0).val * 2048 + (i 1).val) % 2048) % 4096 = (i 1).val
    omega

theorem v18 (i : S4096x2048.Idx) : val_main_v18 (F := Ideal) x1 x5 x6 i = gates x1 x5 x6 (ix2 (i 0) (hi (i 1))) := by
  rw [val_main_v18_apply, val_main_v17_apply, val_main_v12_apply, v11]
  refine congrArg (gates x1 x5 x6) (funext fun a => Fin.ext ?_)
  have h0 : (i 0).val < 4096 := (i 0).isLt
  have h1 : (i 1).val < 2048 := (i 1).isLt
  match a with
  | ⟨0, _⟩ =>
    show ((((i 0).val * 2048 + (i 1).val) / 2048 * 2 + (1 + 0)) * 2048 + ((i 0).val * 2048 + (i 1).val) % 2048) / 4096 = (i 0).val
    omega
  | ⟨1, _⟩ =>
    show ((((i 0).val * 2048 + (i 1).val) / 2048 * 2 + (1 + 0)) * 2048 + ((i 0).val * 2048 + (i 1).val) % 2048) % 4096 = 2048 + (i 1).val
    omega

/-- The merged branches. -/
theorem v21 : val_main_v21 (F := Ideal) x1 x2 x3 x5 x6 x7 x8 = merged x1 x2 x3 x5 x6 x7 x8 := funext fun i => by
  rw [val_main_v21_apply, val_main_v16_apply, val_main_v20_apply, v14, v18, v15, v19]; rfl

theorem v22 (i : S4096x2048.Idx) : val_main_v22 (F := Ideal) x1 x2 x3 x5 x6 x7 x8 x9 i = rowCol (merged x1 x2 x3 x5 x6 x7 x8) x9 (i 0) (i 1) := by
  rw [val_main_v22_apply, v21]; unfold rowCol
  refine Finset.sum_congr rfl fun k _ => congrArg₂ (fun a b : EReal => a * b) ?_ ?_
  · congr 1; funext a; match a with | ⟨0, _⟩ => rfl | ⟨1, _⟩ => rfl
  · show x9 _ = x9 _; congr 1; funext a; match a with | ⟨0, _⟩ => rfl | ⟨1, _⟩ => rfl

/-- The residual stream. -/
theorem v23 : val_main_v23 (F := Ideal) x0 x1 x2 x3 x5 x6 x7 x8 x9 = Cert.Mixer.x2 x0 x1 x2 x3 x5 x6 x7 x8 x9 := funext fun i => by
  obtain ⟨r, e, rfl⟩ := any2 4096 2048 i
  rw [val_main_v23_apply, v22]; rfl

/-- The inverse roots of the rows' mean squares. -/
theorem v31 : val_main_v31 (F := Ideal) x0 x1 x2 x3 x5 x6 x7 x8 x9 = r2 x0 x1 x2 x3 x5 x6 x7 x8 x9 := funext fun i => by
  rw [val_main_v31_apply, val_main_v30_apply, val_main_v29_apply, val_main_v28_apply, val_main_v27_apply, val_main_v26_apply, val_main_v25_apply]
  refine congrArg Ideal.rsqrt (congrArg₂ (fun a b : EReal => a + b) (congrArg₂ Ideal.div ?_ rfl) rfl)
  refine (congrArg (fun z : EReal => z + _) (show val_main_cst_1 (F := Ideal) (Shape.Idx.first h_S_) = (0 : EReal) from Ideal.ofBits_zero_f32)).trans ((zero_add _).trans ?_)
  refine Finset.sum_congr rfl fun k _ => ?_
  rw [val_main_v24_apply, v23]
  refine congrArg₂ (fun a b : EReal => a * b) ?_ ?_ <;>
  · show Cert.Mixer.x2 x0 x1 x2 x3 x5 x6 x7 x8 x9 _ = Cert.Mixer.x2 x0 x1 x2 x3 x5 x6 x7 x8 x9 _
    congr 1; funext a; match a with | ⟨0, _⟩ => rfl | ⟨1, _⟩ => rfl

/-- The next block's input. -/
theorem v39 : val_main_v39 (F := Ideal) x0 x1 x2 x3 x5 x6 x7 x8 x9 x10 = h2 x0 x1 x2 x3 x5 x6 x7 x8 x9 x10 := funext fun i => by
  obtain ⟨r, e, rfl⟩ := any2 4096 2048 i
  rw [val_main_v39_apply, val_main_v38_apply, val_main_v37_apply, val_main_v36_apply, val_main_v35_apply, v23, v31]
  refine congrArg₂ (fun a b : EReal => a * b) (congrArg₂ (fun a b : EReal => a * b) rfl ?_) ?_
  · rfl
  · show x10 _ = x10 _
    congr 1; funext a; match a with | ⟨0, _⟩ => rfl | ⟨1, _⟩ => rfl

theorem v41 (i : S2048x2048.Idx) : val_main_v41 (F := Ideal) x1 x2 x3 x5 x6 x7 x8 x11 i = colCol (merged x1 x2 x3 x5 x6 x7 x8) x11 (i 1) (i 0) := by
  rw [val_main_v41_apply, v21]; unfold colCol
  refine Finset.sum_congr rfl fun k _ => (mul_comm (G := EReal) _ _).trans (congrArg₂ (fun a b : EReal => a * b) ?_ ?_)
  · congr 1; funext a; match a with | ⟨0, _⟩ => rfl | ⟨1, _⟩ => rfl
  · show x11 _ = x11 _; congr 1; funext a; match a with | ⟨0, _⟩ => rfl | ⟨1, _⟩ => rfl

/-- The output weight's gradient. -/
theorem v43 : val_main_v43 (F := Ideal) x1 x2 x3 x5 x6 x7 x8 x11 = dwo x1 x2 x3 x5 x6 x7 x8 x11 := funext fun i => by
  rw [val_main_v43_apply, val_main_v42_apply, v41]; rfl

end Cert.Reference3Ideal.Mixer

end
-- ==== Proof.MixerBackWeights.lean ====
/-
  The mixer's four weight gradients as whole arrays: what each call leaves in its output array, as a function of the
  arrays it is entered with (at the ideal values).
-/
module

public import proofs.«01_k».proof.Proof.MixerBackBlock
public import proofs.«01_k».proof.Proof.MixerMath

@[expose] public section

set_option maxRecDepth 16384

noncomputable section

namespace Cert.Kernel4Ideal.Mixer

open Cert.Kernel4Ideal Cert.Kernel4Ideal.Gen Cert.Kernel4Ideal.Block Cert.Products Cert.Mixer Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

variable (V : (c : Dev nD) → (b : Ref sig .tc) → Buf (Elt Ideal) ((c : Thread nD τ).loc b))

/-! ## Call 0 -/

theorem idx0 : ∀ t : Fin cfg0.N,
    (win0_0.index t 0 = 0 ∧ win0_0.index t 1 = t.val % 4)
    ∧ (win0_1.index t 0 = t.val / 8 ∧ win0_1.index t 1 = 0 ∧ win0_1.index t 2 = t.val / 4 % 2)
    ∧ (win0_2.index t 0 = t.val / 4 ∧ win0_2.index t 1 = t.val % 4 ∧ win0_2.index t 2 = 0) :=
  (by decide +kernel : ∀ t : Fin grid0.N, _)

theorem lt0 (t : Fin cfg0.N) : t.val < 16 := lt_of_lt_of_eq t.isLt N_0

theorem blk0_0 (c : Dev nD) (t : Fin cfg0.N) (p0 : Fin 4096) (p1 : Fin 512) (q : S4096x2048.Idx)
    (h0 : (q 0).val = p0.val) (h1 : (q 1).val = 512 * (t.val % 4) + p1.val) :
    (iblk0 V c 0 t : Vec Ideal S4096x512 .bf16) (ix2 p0 p1) = (V c main_arg0 : S4096x2048.Idx → EReal) q := by
  obtain ⟨⟨i0, i1⟩, -⟩ := idx0 t
  unfold iblk0; rw [View.read_apply]
  show V c main_arg0 _ = V c main_arg0 q
  congr 1; funext a; apply Fin.ext
  match a with
  | ⟨0, _⟩ => show win0_0.index t 0 * 4096 + 1 * p0.val = (q 0).val; rw [i0, h0]; omega
  | ⟨1, _⟩ => show win0_0.index t 1 * 512 + 1 * p1.val = (q 1).val; rw [i1, h1]; omega

theorem blk0_1 (c : Dev nD) (t : Fin cfg0.N) (p0 : Fin 1) (p1 : Fin 4096) (p2 : Fin 1024) (q : S2x4096x2048.Idx)
    (h0 : (q 0).val = 1 * (t.val / 8) + p0.val) (h1 : (q 1).val = p1.val) (h2 : (q 2).val = 1024 * (t.val / 4 % 2) + p2.val) :
    (iblk0 V c 1 t : Vec Ideal S1x4096x1024 .bf16) (ix3 p0 p1 p2) = (V c main_arg8 : S2x4096x2048.Idx → EReal) q := by
  obtain ⟨-, ⟨i0, i1, i2⟩, -⟩ := idx0 t
  unfold iblk0; rw [View.read_apply]
  show V c main_arg8 _ = V c main_arg8 q
  congr 1; funext a; apply Fin.ext
  match a with
  | ⟨0, _⟩ => show win0_1.index t 0 * 1 + 1 * p0.val = (q 0).val; rw [i0, h0]; omega
  | ⟨1, _⟩ => show win0_1.index t 1 * 4096 + 1 * p1.val = (q 1).val; rw [i1, h1]; omega
  | ⟨2, _⟩ => show win0_1.index t 2 * 1024 + 1 * p2.val = (q 2).val; rw [i2, h2]; omega

/-- The gradient of the gates' weight, shard by shard. -/
def R0_2 (c : Dev nD) : S8x2048x512.Idx → EReal := fun i => colCol (V c main_arg0) (sideBySide (V c main_arg8)) (i 1) (shCol (b := 8) (n := 512) (M := 4096) (by norm_num) (i 0) (i 2))

theorem flushed0_2 (c : Dev nD) (t : Fin cfg0.N) : (dat0 V c).flushed 2 t = ((cfg0.win 2).blk t).view.read (Elt Ideal) (R0_2 V c) := by
  show (cfg0.win 2).cut (grid0.coords t) ((dat0 V c).after 2 t) = _
  rw [after0_2]; funext j
  obtain ⟨-, -, ⟨i0, i1, i2⟩⟩ := idx0 t
  obtain ⟨s, r, e, rfl⟩ : ∃ (s : Fin 2) (r : Fin 512) (e : Fin 512), j = (ix3 s r e) := ⟨j 0, j 1, j 2, eq_ix3 (n0 := 2) (n1 := 512) (n2 := 512) j⟩
  rw [View.read_apply]
  have ei : ((cfg0.win 2).blk t).view.emb (ix3 s r e) = (ix3 ⟨2 * (t.val / 4) + s.val, by have := lt0 t; have := s.isLt; omega⟩ ⟨512 * (t.val % 4) + r.val, by have := lt0 t; have := r.isLt; omega⟩ e) := funext fun a => Fin.ext (by
    match a with
    | ⟨0, _⟩ => show win0_2.index t 0 * 2 + 1 * s.val = 2 * (t.val / 4) + s.val; rw [i0]; omega
    | ⟨1, _⟩ => show win0_2.index t 1 * 512 + 1 * r.val = 512 * (t.val % 4) + r.val; rw [i1]; omega
    | ⟨2, _⟩ => show win0_2.index t 2 * 512 + 1 * e.val = e.val; rw [i2]; omega)
  refine ((gateDw_out _ _ s r e).trans (gateDw_pay _ _ r _)).trans ?_
  refine Eq.trans ?_ (congrArg (R0_2 V c) ei).symm
  unfold R0_2 colCol sideBySide
  refine Finset.sum_congr rfl fun k _ => congrArg₂ (fun a b : EReal => a * b) ?_ ?_
  · exact blk0_0 V c t k r _ rfl rfl
  have hs := s.isLt; have he := e.isLt
  exact blk0_1 V c t 0 k _ _ (by show (512 * (2 * (t.val / 4) + s.val) + (e.val)) / 2048 = 1 * (t.val / 8) + 0; omega) rfl
    (by show (512 * (2 * (t.val / 4) + s.val) + (e.val)) % 2048 = 1024 * (t.val / 4 % 2) + (512 * s.val + e.val); omega)

theorem cover0_2 (i : S8x2048x512.Idx) : ∃ t : Fin cfg0.N, (cfg0.win 2).flush t = true ∧ i ∈ ((cfg0.win 2).blk t).view.set := by
  have b0 : (i 0 : Nat) < 8 := (i 0).isLt
  have b1 : (i 1 : Nat) < 2048 := (i 1).isLt
  have b2 : (i 2 : Nat) < 512 := (i 2).isLt
  have hN : cfg0.N = 16 := N_0
  refine ⟨⟨4 * ((i 0 : Nat) / 2) + (i 1 : Nat) / 512, by omega⟩, flush0_2 _, ?_⟩
  generalize ht : (⟨4 * ((i 0 : Nat) / 2) + (i 1 : Nat) / 512, by omega⟩ : Fin cfg0.N) = t
  have tv : t.val = 4 * ((i 0 : Nat) / 2) + (i 1 : Nat) / 512 := by rw [← ht]
  obtain ⟨-, -, ⟨i0, i1, i2⟩⟩ := idx0 t
  show i ∈ ((View.whole main_v12).slice (win0_2.rect t)).set
  rw [View.set_slice_whole, Rect.mem_set_unit]
  intro a
  match a with
  | ⟨0, _⟩ => show win0_2.index t 0 * 2 ≤ (i 0 : Nat) ∧ (i 0 : Nat) < win0_2.index t 0 * 2 + 2
              rw [i0]; omega
  | ⟨1, _⟩ => show win0_2.index t 1 * 512 ≤ (i 1 : Nat) ∧ (i 1 : Nat) < win0_2.index t 1 * 512 + 512
              rw [i1]; omega
  | ⟨2, _⟩ => show win0_2.index t 2 * 512 ≤ (i 2 : Nat) ∧ (i 2 : Nat) < win0_2.index t 2 * 512 + 512
              rw [i2]; omega

theorem arr0_2 (c : Dev nD) : (dat0 V c).arrAt 2 cfg0.N = R0_2 V c :=
  (dat0 V c).arrAt_eq_of_cover 2 (R0_2 V c) (fun t _ => flushed0_2 V c t) cover0_2

/-! ## Call 1 -/

theorem idx1 : ∀ t : Fin cfg1.N,
    (win1_0.index t 0 = 0 ∧ win1_0.index t 1 = 0)
    ∧ (win1_1.index t 0 = 0 ∧ win1_1.index t 1 = t.val)
    ∧ (win1_2.index t 0 = t.val ∧ win1_2.index t 1 = 0 ∧ win1_2.index t 2 = 0) :=
  (by decide +kernel : ∀ t : Fin grid1.N, _)

theorem lt1 (t : Fin cfg1.N) : t.val < 2 := lt_of_lt_of_eq t.isLt N_1

theorem blk1_0 (c : Dev nD) (t : Fin cfg1.N) (p0 : Fin 4096) (p1 : Fin 512) (q : S4096x512.Idx)
    (h0 : (q 0).val = p0.val) (h1 : (q 1).val = p1.val) :
    (iblk1 V c 0 t : Vec Ideal S4096x512 .bf16) (ix2 p0 p1) = (V c main_arg1 : S4096x512.Idx → EReal) q := by
  obtain ⟨⟨i0, i1⟩, -⟩ := idx1 t
  unfold iblk1; rw [View.read_apply]
  show V c main_arg1 _ = V c main_arg1 q
  congr 1; funext a; apply Fin.ext
  match a with
  | ⟨0, _⟩ => show win1_0.index t 0 * 4096 + 1 * p0.val = (q 0).val; rw [i0, h0]; omega
  | ⟨1, _⟩ => show win1_0.index t 1 * 512 + 1 * p1.val = (q 1).val; rw [i1, h1]; omega

theorem blk1_1 (c : Dev nD) (t : Fin cfg1.N) (p0 : Fin 4096) (p1 : Fin 1024) (q : S4096x2048.Idx)
    (h0 : (q 0).val = p0.val) (h1 : (q 1).val = 1024 * (t.val) + p1.val) :
    (iblk1 V c 1 t : Vec Ideal S4096x1024 .bf16) (ix2 p0 p1) = (V c main_arg9 : S4096x2048.Idx → EReal) q := by
  obtain ⟨-, ⟨i0, i1⟩, -⟩ := idx1 t
  unfold iblk1; rw [View.read_apply]
  show V c main_arg9 _ = V c main_arg9 q
  congr 1; funext a; apply Fin.ext
  match a with
  | ⟨0, _⟩ => show win1_1.index t 0 * 4096 + 1 * p0.val = (q 0).val; rw [i0, h0]; omega
  | ⟨1, _⟩ => show win1_1.index t 1 * 1024 + 1 * p1.val = (q 1).val; rw [i1, h1]; omega

/-- The gradient of a branch's weight, shard by shard. -/
def R1_2 (c : Dev nD) : S8x512x256.Idx → EReal := fun i => colCol (V c main_arg1) (V c main_arg9) (i 1) (shCol (b := 8) (n := 256) (M := 2048) (by norm_num) (i 0) (i 2))

theorem flushed1_2 (c : Dev nD) (t : Fin cfg1.N) : (dat1 V c).flushed 2 t = ((cfg1.win 2).blk t).view.read (Elt Ideal) (R1_2 V c) := by
  show (cfg1.win 2).cut (grid1.coords t) ((dat1 V c).after 2 t) = _
  rw [after1_2]; funext j
  obtain ⟨-, -, ⟨i0, i1, i2⟩⟩ := idx1 t
  obtain ⟨s, r, e, rfl⟩ : ∃ (s : Fin 4) (r : Fin 512) (e : Fin 256), j = (ix3 s r e) := ⟨j 0, j 1, j 2, eq_ix3 (n0 := 4) (n1 := 512) (n2 := 256) j⟩
  rw [View.read_apply]
  have ei : ((cfg1.win 2).blk t).view.emb (ix3 s r e) = (ix3 ⟨4 * (t.val) + s.val, by have := lt1 t; have := s.isLt; omega⟩ r e) := funext fun a => Fin.ext (by
    match a with
    | ⟨0, _⟩ => show win1_2.index t 0 * 4 + 1 * s.val = 4 * (t.val) + s.val; rw [i0]; omega
    | ⟨1, _⟩ => show win1_2.index t 1 * 512 + 1 * r.val = r.val; rw [i1]; omega
    | ⟨2, _⟩ => show win1_2.index t 2 * 256 + 1 * e.val = e.val; rw [i2]; omega)
  refine ((projaDw_out _ _ s r e).trans (projaDw_pay _ _ r _)).trans ?_
  refine Eq.trans ?_ (congrArg (R1_2 V c) ei).symm
  unfold R1_2 colCol
  refine Finset.sum_congr rfl fun k _ => congrArg₂ (fun a b : EReal => a * b) ?_ ?_
  · exact blk1_0 V c t k r _ rfl rfl
  exact blk1_1 V c t k _ _ rfl (by show 256 * (4 * t.val + s.val) + e.val = 1024 * t.val + (256 * s.val + e.val); omega)

theorem cover1_2 (i : S8x512x256.Idx) : ∃ t : Fin cfg1.N, (cfg1.win 2).flush t = true ∧ i ∈ ((cfg1.win 2).blk t).view.set := by
  have b0 : (i 0 : Nat) < 8 := (i 0).isLt
  have b1 : (i 1 : Nat) < 512 := (i 1).isLt
  have b2 : (i 2 : Nat) < 256 := (i 2).isLt
  have hN : cfg1.N = 2 := N_1
  refine ⟨⟨(i 0 : Nat) / 4, by omega⟩, flush1_2 _, ?_⟩
  generalize ht : (⟨(i 0 : Nat) / 4, by omega⟩ : Fin cfg1.N) = t
  have tv : t.val = (i 0 : Nat) / 4 := by rw [← ht]
  obtain ⟨-, -, ⟨i0, i1, i2⟩⟩ := idx1 t
  show i ∈ ((View.whole main_v13).slice (win1_2.rect t)).set
  rw [View.set_slice_whole, Rect.mem_set_unit]
  intro a
  match a with
  | ⟨0, _⟩ => show win1_2.index t 0 * 4 ≤ (i 0 : Nat) ∧ (i 0 : Nat) < win1_2.index t 0 * 4 + 4
              rw [i0]; omega
  | ⟨1, _⟩ => show win1_2.index t 1 * 512 ≤ (i 1 : Nat) ∧ (i 1 : Nat) < win1_2.index t 1 * 512 + 512
              rw [i1]; omega
  | ⟨2, _⟩ => show win1_2.index t 2 * 256 ≤ (i 2 : Nat) ∧ (i 2 : Nat) < win1_2.index t 2 * 256 + 256
              rw [i2]; omega

theorem arr1_2 (c : Dev nD) : (dat1 V c).arrAt 2 cfg1.N = R1_2 V c :=
  (dat1 V c).arrAt_eq_of_cover 2 (R1_2 V c) (fun t _ => flushed1_2 V c t) cover1_2

/-! ## Call 2 -/

theorem idx2 : ∀ t : Fin cfg2.N,
    (win2_0.index t 0 = 0 ∧ win2_0.index t 1 = 0)
    ∧ (win2_1.index t 0 = 0 ∧ win2_1.index t 1 = t.val)
    ∧ (win2_2.index t 0 = t.val ∧ win2_2.index t 1 = 0 ∧ win2_2.index t 2 = 0) :=
  (by decide +kernel : ∀ t : Fin grid2.N, _)

theorem lt2 (t : Fin cfg2.N) : t.val < 2 := lt_of_lt_of_eq t.isLt N_2

theorem blk2_0 (c : Dev nD) (t : Fin cfg2.N) (p0 : Fin 4096) (p1 : Fin 512) (q : S4096x512.Idx)
    (h0 : (q 0).val = p0.val) (h1 : (q 1).val = p1.val) :
    (iblk2 V c 0 t : Vec Ideal S4096x512 .bf16) (ix2 p0 p1) = (V c main_arg2 : S4096x512.Idx → EReal) q := by
  obtain ⟨⟨i0, i1⟩, -⟩ := idx2 t
  unfold iblk2; rw [View.read_apply]
  show V c main_arg2 _ = V c main_arg2 q
  congr 1; funext a; apply Fin.ext
  match a with
  | ⟨0, _⟩ => show win2_0.index t 0 * 4096 + 1 * p0.val = (q 0).val; rw [i0, h0]; omega
  | ⟨1, _⟩ => show win2_0.index t 1 * 512 + 1 * p1.val = (q 1).val; rw [i1, h1]; omega

theorem blk2_1 (c : Dev nD) (t : Fin cfg2.N) (p0 : Fin 4096) (p1 : Fin 1024) (q : S4096x2048.Idx)
    (h0 : (q 0).val = p0.val) (h1 : (q 1).val = 1024 * (t.val) + p1.val) :
    (iblk2 V c 1 t : Vec Ideal S4096x1024 .bf16) (ix2 p0 p1) = (V c main_arg10 : S4096x2048.Idx → EReal) q := by
  obtain ⟨-, ⟨i0, i1⟩, -⟩ := idx2 t
  unfold iblk2; rw [View.read_apply]
  show V c main_arg10 _ = V c main_arg10 q
  congr 1; funext a; apply Fin.ext
  match a with
  | ⟨0, _⟩ => show win2_1.index t 0 * 4096 + 1 * p0.val = (q 0).val; rw [i0, h0]; omega
  | ⟨1, _⟩ => show win2_1.index t 1 * 1024 + 1 * p1.val = (q 1).val; rw [i1, h1]; omega

/-- The gradient of a branch's weight, shard by shard. -/
def R2_2 (c : Dev nD) : S8x512x256.Idx → EReal := fun i => colCol (V c main_arg2) (V c main_arg10) (i 1) (shCol (b := 8) (n := 256) (M := 2048) (by norm_num) (i 0) (i 2))

theorem flushed2_2 (c : Dev nD) (t : Fin cfg2.N) : (dat2 V c).flushed 2 t = ((cfg2.win 2).blk t).view.read (Elt Ideal) (R2_2 V c) := by
  show (cfg2.win 2).cut (grid2.coords t) ((dat2 V c).after 2 t) = _
  rw [after2_2]; funext j
  obtain ⟨-, -, ⟨i0, i1, i2⟩⟩ := idx2 t
  obtain ⟨s, r, e, rfl⟩ : ∃ (s : Fin 4) (r : Fin 512) (e : Fin 256), j = (ix3 s r e) := ⟨j 0, j 1, j 2, eq_ix3 (n0 := 4) (n1 := 512) (n2 := 256) j⟩
  rw [View.read_apply]
  have ei : ((cfg2.win 2).blk t).view.emb (ix3 s r e) = (ix3 ⟨4 * (t.val) + s.val, by have := lt2 t; have := s.isLt; omega⟩ r e) := funext fun a => Fin.ext (by
    match a with
    | ⟨0, _⟩ => show win2_2.index t 0 * 4 + 1 * s.val = 4 * (t.val) + s.val; rw [i0]; omega
    | ⟨1, _⟩ => show win2_2.index t 1 * 512 + 1 * r.val = r.val; rw [i1]; omega
    | ⟨2, _⟩ => show win2_2.index t 2 * 256 + 1 * e.val = e.val; rw [i2]; omega)
  refine ((projbDw_out _ _ s r e).trans (projbDw_pay _ _ r _)).trans ?_
  refine Eq.trans ?_ (congrArg (R2_2 V c) ei).symm
  unfold R2_2 colCol
  refine Finset.sum_congr rfl fun k _ => congrArg₂ (fun a b : EReal => a * b) ?_ ?_
  · exact blk2_0 V c t k r _ rfl rfl
  exact blk2_1 V c t k _ _ rfl (by show 256 * (4 * t.val + s.val) + e.val = 1024 * t.val + (256 * s.val + e.val); omega)

theorem cover2_2 (i : S8x512x256.Idx) : ∃ t : Fin cfg2.N, (cfg2.win 2).flush t = true ∧ i ∈ ((cfg2.win 2).blk t).view.set := by
  have b0 : (i 0 : Nat) < 8 := (i 0).isLt
  have b1 : (i 1 : Nat) < 512 := (i 1).isLt
  have b2 : (i 2 : Nat) < 256 := (i 2).isLt
  have hN : cfg2.N = 2 := N_2
  refine ⟨⟨(i 0 : Nat) / 4, by omega⟩, flush2_2 _, ?_⟩
  generalize ht : (⟨(i 0 : Nat) / 4, by omega⟩ : Fin cfg2.N) = t
  have tv : t.val = (i 0 : Nat) / 4 := by rw [← ht]
  obtain ⟨-, -, ⟨i0, i1, i2⟩⟩ := idx2 t
  show i ∈ ((View.whole main_v14).slice (win2_2.rect t)).set
  rw [View.set_slice_whole, Rect.mem_set_unit]
  intro a
  match a with
  | ⟨0, _⟩ => show win2_2.index t 0 * 4 ≤ (i 0 : Nat) ∧ (i 0 : Nat) < win2_2.index t 0 * 4 + 4
              rw [i0]; omega
  | ⟨1, _⟩ => show win2_2.index t 1 * 512 ≤ (i 1 : Nat) ∧ (i 1 : Nat) < win2_2.index t 1 * 512 + 512
              rw [i1]; omega
  | ⟨2, _⟩ => show win2_2.index t 2 * 256 ≤ (i 2 : Nat) ∧ (i 2 : Nat) < win2_2.index t 2 * 256 + 256
              rw [i2]; omega

theorem arr2_2 (c : Dev nD) : (dat2 V c).arrAt 2 cfg2.N = R2_2 V c :=
  (dat2 V c).arrAt_eq_of_cover 2 (R2_2 V c) (fun t _ => flushed2_2 V c t) cover2_2

/-! ## Call 5 -/

theorem idx5 : ∀ t : Fin cfg5.N,
    (win5_0.index t 0 = 0 ∧ win5_0.index t 1 = t.val % 4)
    ∧ (win5_1.index t 0 = 0 ∧ win5_1.index t 1 = t.val / 4)
    ∧ (win5_2.index t 0 = t.val / 4 ∧ win5_2.index t 1 = t.val % 4 ∧ win5_2.index t 2 = 0) :=
  (by decide +kernel : ∀ t : Fin grid5.N, _)

theorem lt5 (t : Fin cfg5.N) : t.val < 16 := lt_of_lt_of_eq t.isLt N_5

theorem blk5_0 (c : Dev nD) (t : Fin cfg5.N) (p0 : Fin 4096) (p1 : Fin 512) (q : S4096x2048.Idx)
    (h0 : (q 0).val = p0.val) (h1 : (q 1).val = 512 * (t.val % 4) + p1.val) :
    (iblk5 V c 0 t : Vec Ideal S4096x512 .bf16) (ix2 p0 p1) = (V c main_arg0 : S4096x2048.Idx → EReal) q := by
  obtain ⟨⟨i0, i1⟩, -⟩ := idx5 t
  unfold iblk5; rw [View.read_apply]
  show V c main_arg0 _ = V c main_arg0 q
  congr 1; funext a; apply Fin.ext
  match a with
  | ⟨0, _⟩ => show win5_0.index t 0 * 4096 + 1 * p0.val = (q 0).val; rw [i0, h0]; omega
  | ⟨1, _⟩ => show win5_0.index t 1 * 512 + 1 * p1.val = (q 1).val; rw [i1, h1]; omega

theorem blk5_1 (c : Dev nD) (t : Fin cfg5.N) (p0 : Fin 4096) (p1 : Fin 1536) (q : S4096x6144.Idx)
    (h0 : (q 0).val = p0.val) (h1 : (q 1).val = 1536 * (t.val / 4) + p1.val) :
    (iblk5 V c 1 t : Vec Ideal S4096x1536 .bf16) (ix2 p0 p1) = (V c main_arg7 : S4096x6144.Idx → EReal) q := by
  obtain ⟨-, ⟨i0, i1⟩, -⟩ := idx5 t
  unfold iblk5; rw [View.read_apply]
  show V c main_arg7 _ = V c main_arg7 q
  congr 1; funext a; apply Fin.ext
  match a with
  | ⟨0, _⟩ => show win5_1.index t 0 * 4096 + 1 * p0.val = (q 0).val; rw [i0, h0]; omega
  | ⟨1, _⟩ => show win5_1.index t 1 * 1536 + 1 * p1.val = (q 1).val; rw [i1, h1]; omega

/-- The gradient of the weight of queries, keys and values, shard by shard. -/
def R5_2 (c : Dev nD) : S8x2048x768.Idx → EReal := fun i => colCol (V c main_arg0) (V c main_arg7) (i 1) (shCol (b := 8) (n := 768) (M := 6144) (by norm_num) (i 0) (i 2))

theorem flushed5_2 (c : Dev nD) (t : Fin cfg5.N) : (dat5 V c).flushed 2 t = ((cfg5.win 2).blk t).view.read (Elt Ideal) (R5_2 V c) := by
  show (cfg5.win 2).cut (grid5.coords t) ((dat5 V c).after 2 t) = _
  rw [after5_2]; funext j
  obtain ⟨-, -, ⟨i0, i1, i2⟩⟩ := idx5 t
  obtain ⟨s, r, e, rfl⟩ : ∃ (s : Fin 2) (r : Fin 512) (e : Fin 768), j = (ix3 s r e) := ⟨j 0, j 1, j 2, eq_ix3 (n0 := 2) (n1 := 512) (n2 := 768) j⟩
  rw [View.read_apply]
  have ei : ((cfg5.win 2).blk t).view.emb (ix3 s r e) = (ix3 ⟨2 * (t.val / 4) + s.val, by have := lt5 t; have := s.isLt; omega⟩ ⟨512 * (t.val % 4) + r.val, by have := lt5 t; have := r.isLt; omega⟩ e) := funext fun a => Fin.ext (by
    match a with
    | ⟨0, _⟩ => show win5_2.index t 0 * 2 + 1 * s.val = 2 * (t.val / 4) + s.val; rw [i0]; omega
    | ⟨1, _⟩ => show win5_2.index t 1 * 512 + 1 * r.val = 512 * (t.val % 4) + r.val; rw [i1]; omega
    | ⟨2, _⟩ => show win5_2.index t 2 * 768 + 1 * e.val = e.val; rw [i2]; omega)
  refine ((qkvDw_out _ _ s r e).trans (qkvDw_pay _ _ r _)).trans ?_
  refine Eq.trans ?_ (congrArg (R5_2 V c) ei).symm
  unfold R5_2 colCol
  refine Finset.sum_congr rfl fun k _ => congrArg₂ (fun a b : EReal => a * b) ?_ ?_
  · exact blk5_0 V c t k r _ rfl rfl
  exact blk5_1 V c t k _ _ rfl (by show 768 * (2 * (t.val / 4) + s.val) + e.val = 1536 * (t.val / 4) + (768 * s.val + e.val); omega)

theorem cover5_2 (i : S8x2048x768.Idx) : ∃ t : Fin cfg5.N, (cfg5.win 2).flush t = true ∧ i ∈ ((cfg5.win 2).blk t).view.set := by
  have b0 : (i 0 : Nat) < 8 := (i 0).isLt
  have b1 : (i 1 : Nat) < 2048 := (i 1).isLt
  have b2 : (i 2 : Nat) < 768 := (i 2).isLt
  have hN : cfg5.N = 16 := N_5
  refine ⟨⟨4 * ((i 0 : Nat) / 2) + (i 1 : Nat) / 512, by omega⟩, flush5_2 _, ?_⟩
  generalize ht : (⟨4 * ((i 0 : Nat) / 2) + (i 1 : Nat) / 512, by omega⟩ : Fin cfg5.N) = t
  have tv : t.val = 4 * ((i 0 : Nat) / 2) + (i 1 : Nat) / 512 := by rw [← ht]
  obtain ⟨-, -, ⟨i0, i1, i2⟩⟩ := idx5 t
  show i ∈ ((View.whole main_v17).slice (win5_2.rect t)).set
  rw [View.set_slice_whole, Rect.mem_set_unit]
  intro a
  match a with
  | ⟨0, _⟩ => show win5_2.index t 0 * 2 ≤ (i 0 : Nat) ∧ (i 0 : Nat) < win5_2.index t 0 * 2 + 2
              rw [i0]; omega
  | ⟨1, _⟩ => show win5_2.index t 1 * 512 ≤ (i 1 : Nat) ∧ (i 1 : Nat) < win5_2.index t 1 * 512 + 512
              rw [i1]; omega
  | ⟨2, _⟩ => show win5_2.index t 2 * 768 ≤ (i 2 : Nat) ∧ (i 2 : Nat) < win5_2.index t 2 * 768 + 768
              rw [i2]; omega

theorem arr5_2 (c : Dev nD) : (dat5 V c).arrAt 2 cfg5.N = R5_2 V c :=
  (dat5 V c).arrAt_eq_of_cover 2 (R5_2 V c) (fun t _ => flushed5_2 V c t) cover5_2

end Cert.Kernel4Ideal.Mixer

end
-- ==== Proof.MixerBackInputs.lean ====
/-
  The gradients of the mixer's two branches and of its input as whole arrays: what each call leaves in its output array,
  as a function of the arrays it is entered with (at the ideal values).
-/
module

public import proofs.«01_k».proof.Proof.MixerBackBlock
public import proofs.«01_k».proof.Proof.MixerMath

@[expose] public section

set_option maxRecDepth 16384

noncomputable section

namespace Cert.Kernel4Ideal.Mixer

open Cert.Kernel4Ideal Cert.Kernel4Ideal.Gen Cert.Kernel4Ideal.Block Cert.Products Cert.Mixer Idealize.ShloMosaic.TcCoe Idealize.SL.Sem
open Idealize.ShloMosaic hiding ix1 ix2 ix3 eq_ix1 eq_ix2 eq_ix3
open Idealize.ShloMosaic.ValueIdx
open Idealize.ShloMosaic.Pipeline (Dat)

variable (V : (c : Dev nD) → (b : Ref sig .tc) → Buf (Elt Ideal) ((c : Thread nD τ).loc b))

/-! ## Call 3 -/

theorem idx3 : ∀ t : Fin cfg3.N,
    (win3_0.index t 0 = t.val ∧ win3_0.index t 1 = 0)
    ∧ (win3_1.index t 0 = 0 ∧ win3_1.index t 1 = 0 ∧ win3_1.index t 2 = 0)
    ∧ (win3_2.index t 0 = t.val ∧ win3_2.index t 1 = 0) :=
  (by decide +kernel : ∀ t : Fin grid3.N, _)

theorem lt3 (t : Fin cfg3.N) : t.val < 8 := lt_of_lt_of_eq t.isLt N_3

theorem blk3_0 (c : Dev nD) (t : Fin cfg3.N) (p0 : Fin 512) (p1 : Fin 2048) (q : S4096x2048.Idx)
    (h0 : (q 0).val = 512 * (t.val) + p0.val) (h1 : (q 1).val = p1.val) :
    (iblk3 V c 0 t : Vec Ideal S512x2048 .bf16) (ix2 p0 p1) = (V c main_arg9 : S4096x2048.Idx → EReal) q := by
  obtain ⟨⟨i0, i1⟩, -⟩ := idx3 t
  unfold iblk3; rw [View.read_apply]
  show V c main_arg9 _ = V c main_arg9 q
  congr 1; funext a; apply Fin.ext
  match a with
  | ⟨0, _⟩ => show win3_0.index t 0 * 512 + 1 * p0.val = (q 0).val; rw [i0, h0]; omega
  | ⟨1, _⟩ => show win3_0.index t 1 * 2048 + 1 * p1.val = (q 1).val; rw [i1, h1]; omega

theorem blk3_1 (c : Dev nD) (t : Fin cfg3.N) (p0 : Fin 8) (p1 : Fin 512) (p2 : Fin 256) (q : S8x512x256.Idx)
    (h0 : (q 0).val = p0.val) (h1 : (q 1).val = p1.val) (h2 : (q 2).val = p2.val) :
    (iblk3 V c 1 t : Vec Ideal S8x512x256 .bf16) (ix3 p0 p1 p2) = (V c main_v8 : S8x512x256.Idx → EReal) q := by
  obtain ⟨-, ⟨i0, i1, i2⟩, -⟩ := idx3 t
  unfold iblk3; rw [View.read_apply]
  show V c main_v8 _ = V c main_v8 q
  congr 1; funext a; apply Fin.ext
  match a with
  | ⟨0, _⟩ => show win3_1.index t 0 * 8 + 1 * p0.val = (q 0).val; rw [i0, h0]; omega
  | ⟨1, _⟩ => show win3_1.index t 1 * 512 + 1 * p1.val = (q 1).val; rw [i1, h1]; omega
  | ⟨2, _⟩ => show win3_1.index t 2 * 256 + 1 * p2.val = (q 2).val; rw [i2, h2]; omega

/-- The gradient of a branch. -/
def R3_2 (c : Dev nD) : S4096x512.Idx → EReal := fun i => shardSum (n := 256) (M := 2048) (by norm_num) (V c main_arg9) (V c main_v8) (i 0) (i 1)

theorem flushed3_2 (c : Dev nD) (t : Fin cfg3.N) : (dat3 V c).flushed 2 t = ((cfg3.win 2).blk t).view.read (Elt Ideal) (R3_2 V c) := by
  show (cfg3.win 2).cut (grid3.coords t) ((dat3 V c).after 2 t) = _
  rw [after3_2]; funext j
  obtain ⟨-, -, ⟨i0, i1⟩⟩ := idx3 t
  obtain ⟨r, e, rfl⟩ := any2 512 512 j
  rw [View.read_apply]
  have ei : ((cfg3.win 2).blk t).view.emb (ix2 r e) = (ix2 ⟨512 * (t.val) + r.val, by have := lt3 t; have := r.isLt; omega⟩ e) := funext fun a => Fin.ext (by
    match a with
    | ⟨0, _⟩ => show win3_2.index t 0 * 512 + 1 * r.val = 512 * (t.val) + r.val; rw [i0]; omega
    | ⟨1, _⟩ => show win3_2.index t 1 * 512 + 1 * e.val = e.val; rw [i1]; omega)
  refine (projaDx_out _ _ r e).trans ?_
  refine Eq.trans ?_ (congrArg (R3_2 V c) ei).symm
  unfold R3_2 shardSum
  refine Finset.sum_congr rfl fun s _ => Finset.sum_congr rfl fun k _ => congrArg₂ (fun a b : EReal => a * b) ?_ ?_
  · exact blk3_0 V c t r _ _ rfl rfl
  exact blk3_1 V c t s e k _ rfl rfl rfl

theorem cover3_2 (i : S4096x512.Idx) : ∃ t : Fin cfg3.N, (cfg3.win 2).flush t = true ∧ i ∈ ((cfg3.win 2).blk t).view.set := by
  have b0 : (i 0 : Nat) < 4096 := (i 0).isLt
  have b1 : (i 1 : Nat) < 512 := (i 1).isLt
  have hN : cfg3.N = 8 := N_3
  refine ⟨⟨(i 0 : Nat) / 512, by omega⟩, flush3_2 _, ?_⟩
  generalize ht : (⟨(i 0 : Nat) / 512, by omega⟩ : Fin cfg3.N) = t
  have tv : t.val = (i 0 : Nat) / 512 := by rw [← ht]
  obtain ⟨-, -, ⟨i0, i1⟩⟩ := idx3 t
  show i ∈ ((View.whole main_v15).slice (win3_2.rect t)).set
  rw [View.set_slice_whole, Rect.mem_set_unit]
  intro a
  match a with
  | ⟨0, _⟩ => show win3_2.index t 0 * 512 ≤ (i 0 : Nat) ∧ (i 0 : Nat) < win3_2.index t 0 * 512 + 512
              rw [i0]; omega
  | ⟨1, _⟩ => show win3_2.index t 1 * 512 ≤ (i 1 : Nat) ∧ (i 1 : Nat) < win3_2.index t 1 * 512 + 512
              rw [i1]; omega

theorem arr3_2 (c : Dev nD) : (dat3 V c).arrAt 2 cfg3.N = R3_2 V c :=
  (dat3 V c).arrAt_eq_of_cover 2 (R3_2 V c) (fun t _ => flushed3_2 V c t) cover3_2

/-! ## Call 4 -/

theorem idx4 : ∀ t : Fin cfg4.N,
    (win4_0.index t 0 = t.val ∧ win4_0.index t 1 = 0)
    ∧ (win4_1.index t 0 = 0 ∧ win4_1.index t 1 = 0 ∧ win4_1.index t 2 = 0)
    ∧ (win4_2.index t 0 = t.val ∧ win4_2.index t 1 = 0) :=
  (by decide +kernel : ∀ t : Fin grid4.N, _)

theorem lt4 (t : Fin cfg4.N) : t.val < 8 := lt_of_lt_of_eq t.isLt N_4

theorem blk4_0 (c : Dev nD) (t : Fin cfg4.N) (p0 : Fin 512) (p1 : Fin 2048) (q : S4096x2048.Idx)
    (h0 : (q 0).val = 512 * (t.val) + p0.val) (h1 : (q 1).val = p1.val) :
    (iblk4 V c 0 t : Vec Ideal S512x2048 .bf16) (ix2 p0 p1) = (V c main_arg10 : S4096x2048.Idx → EReal) q := by
  obtain ⟨⟨i0, i1⟩, -⟩ := idx4 t
  unfold iblk4; rw [View.read_apply]
  show V c main_arg10 _ = V c main_arg10 q
  congr 1; funext a; apply Fin.ext
  match a with
  | ⟨0, _⟩ => show win4_0.index t 0 * 512 + 1 * p0.val = (q 0).val; rw [i0, h0]; omega
  | ⟨1, _⟩ => show win4_0.index t 1 * 2048 + 1 * p1.val = (q 1).val; rw [i1, h1]; omega

theorem blk4_1 (c : Dev nD) (t : Fin cfg4.N) (p0 : Fin 8) (p1 : Fin 512) (p2 : Fin 256) (q : S8x512x256.Idx)
    (h0 : (q 0).val = p0.val) (h1 : (q 1).val = p1.val) (h2 : (q 2).val = p2.val) :
    (iblk4 V c 1 t : Vec Ideal S8x512x256 .bf16) (ix3 p0 p1 p2) = (V c main_v11 : S8x512x256.Idx → EReal) q := by
  obtain ⟨-, ⟨i0, i1, i2⟩, -⟩ := idx4 t
  unfold iblk4; rw [View.read_apply]
  show V c main_v11 _ = V c main_v11 q
  congr 1; funext a; apply Fin.ext
  match a with
  | ⟨0, _⟩ => show win4_1.index t 0 * 8 + 1 * p0.val = (q 0).val; rw [i0, h0]; omega
  | ⟨1, _⟩ => show win4_1.index t 1 * 512 + 1 * p1.val = (q 1).val; rw [i1, h1]; omega
  | ⟨2, _⟩ => show win4_1.index t 2 * 256 + 1 * p2.val = (q 2).val; rw [i2, h2]; omega

/-- The gradient of a branch. -/
def R4_2 (c : Dev nD) : S4096x512.Idx → EReal := fun i => shardSum (n := 256) (M := 2048) (by norm_num) (V c main_arg10) (V c main_v11) (i 0) (i 1)

theorem flushed4_2 (c : Dev nD) (t : Fin cfg4.N) : (dat4 V c).flushed 2 t = ((cfg4.win 2).blk t).view.read (Elt Ideal) (R4_2 V c) := by
  show (cfg4.win 2).cut (grid4.coords t) ((dat4 V c).after 2 t) = _
  rw [after4_2]; funext j
  obtain ⟨-, -, ⟨i0, i1⟩⟩ := idx4 t
  obtain ⟨r, e, rfl⟩ := any2 512 512 j
  rw [View.read_apply]
  have ei : ((cfg4.win 2).blk t).view.emb (ix2 r e) = (ix2 ⟨512 * (t.val) + r.val, by have := lt4 t; have := r.isLt; omega⟩ e) := funext fun a => Fin.ext (by
    match a with
    | ⟨0, _⟩ => show win4_2.index t 0 * 512 + 1 * r.val = 512 * (t.val) + r.val; rw [i0]; omega
    | ⟨1, _⟩ => show win4_2.index t 1 * 512 + 1 * e.val = e.val; rw [i1]; omega)
  refine (projbDx_out _ _ r e).trans ?_
  refine Eq.trans ?_ (congrArg (R4_2 V c) ei).symm
  unfold R4_2 shardSum
  refine Finset.sum_congr rfl fun s _ => Finset.sum_congr rfl fun k _ => congrArg₂ (fun a b : EReal => a * b) ?_ ?_
  · exact blk4_0 V c t r _ _ rfl rfl
  exact blk4_1 V c t s e k _ rfl rfl rfl

theorem cover4_2 (i : S4096x512.Idx) : ∃ t : Fin cfg4.N, (cfg4.win 2).flush t = true ∧ i ∈ ((cfg4.win 2).blk t).view.set := by
  have b0 : (i 0 : Nat) < 4096 := (i 0).isLt
  have b1 : (i 1 : Nat) < 512 := (i 1).isLt
  have hN : cfg4.N = 8 := N_4
  refine ⟨⟨(i 0 : Nat) / 512, by omega⟩, flush4_2 _, ?_⟩
  generalize ht : (⟨(i 0 : Nat) / 512, by omega⟩ : Fin cfg4.N) = t
  have tv : t.val = (i 0 : Nat) / 512 := by rw [← ht]
  obtain ⟨-, -, ⟨i0, i1⟩⟩ := idx4 t
  show i ∈ ((View.whole main_v16).slice (win4_2.rect t)).set
  rw [View.set_slice_whole, Rect.mem_set_unit]
  intro a
  match a with
  | ⟨0, _⟩ => show win4_2.index t 0 * 512 ≤ (i 0 : Nat) ∧ (i 0 : Nat) < win4_2.index t 0 * 512 + 512
              rw [i0]; omega
  | ⟨1, _⟩ => show win4_2.index t 1 * 512 ≤ (i 1 : Nat) ∧ (i 1 : Nat) < win4_2.index t 1 * 512 + 512
              rw [i1]; omega

theorem arr4_2 (c : Dev nD) : (dat4 V c).arrAt 2 cfg4.N = R4_2 V c :=
  (dat4 V c).arrAt_eq_of_cover 2 (R4_2 V c) (fun t _ => flushed4_2 V c t) cover4_2

/-! ## Call 6 -/

theorem idx6 : ∀ t : Fin cfg6.N,
    (win6_0.index t 0 = t.val % 8 ∧ win6_0.index t 1 = 0)
    ∧ (win6_1.index t 0 = 0 ∧ win6_1.index t 1 = t.val / 8 ∧ win6_1.index t 2 = 0)
    ∧ (win6_2.index t 0 = 0 ∧ win6_2.index t 1 = t.val % 8 ∧ win6_2.index t 2 = 0)
    ∧ (win6_3.index t 0 = 0 ∧ win6_3.index t 1 = t.val / 8 ∧ win6_3.index t 2 = 0)
    ∧ (win6_4.index t 0 = 1 ∧ win6_4.index t 1 = t.val % 8 ∧ win6_4.index t 2 = 0)
    ∧ (win6_5.index t 0 = 1 ∧ win6_5.index t 1 = t.val / 8 ∧ win6_5.index t 2 = 0)
    ∧ (win6_6.index t 0 = t.val % 8 ∧ win6_6.index t 1 = t.val / 8) :=
  (by decide +kernel : ∀ t : Fin grid6.N, _)

theorem lt6 (t : Fin cfg6.N) : t.val < 32 := lt_of_lt_of_eq t.isLt N_6

theorem blk6_0 (c : Dev nD) (t : Fin cfg6.N) (p0 : Fin 512) (p1 : Fin 6144) (q : S4096x6144.Idx)
    (h0 : (q 0).val = 512 * (t.val % 8) + p0.val) (h1 : (q 1).val = p1.val) :
    (iblk6 V c 0 t : Vec Ideal S512x6144 .bf16) (ix2 p0 p1) = (V c main_arg7 : S4096x6144.Idx → EReal) q := by
  obtain ⟨⟨i0, i1⟩, -⟩ := idx6 t
  unfold iblk6; rw [View.read_apply]
  show V c main_arg7 _ = V c main_arg7 q
  congr 1; funext a; apply Fin.ext
  match a with
  | ⟨0, _⟩ => show win6_0.index t 0 * 512 + 1 * p0.val = (q 0).val; rw [i0, h0]; omega
  | ⟨1, _⟩ => show win6_0.index t 1 * 6144 + 1 * p1.val = (q 1).val; rw [i1, h1]; omega

theorem blk6_1 (c : Dev nD) (t : Fin cfg6.N) (p0 : Fin 8) (p1 : Fin 512) (p2 : Fin 768) (q : S8x2048x768.Idx)
    (h0 : (q 0).val = p0.val) (h1 : (q 1).val = 512 * (t.val / 8) + p1.val) (h2 : (q 2).val = p2.val) :
    (iblk6 V c 1 t : Vec Ideal S8x512x768 .bf16) (ix3 p0 p1 p2) = (V c main_v2 : S8x2048x768.Idx → EReal) q := by
  obtain ⟨-, ⟨i0, i1, i2⟩, -⟩ := idx6 t
  unfold iblk6; rw [View.read_apply]
  show V c main_v2 _ = V c main_v2 q
  congr 1; funext a; apply Fin.ext
  match a with
  | ⟨0, _⟩ => show win6_1.index t 0 * 8 + 1 * p0.val = (q 0).val; rw [i0, h0]; omega
  | ⟨1, _⟩ => show win6_1.index t 1 * 512 + 1 * p1.val = (q 1).val; rw [i1, h1]; omega
  | ⟨2, _⟩ => show win6_1.index t 2 * 768 + 1 * p2.val = (q 2).val; rw [i2, h2]; omega

theorem blk6_2 (c : Dev nD) (t : Fin cfg6.N) (p0 : Fin 1) (p1 : Fin 512) (p2 : Fin 2048) (q : S2x4096x2048.Idx)
    (h0 : (q 0).val = p0.val) (h1 : (q 1).val = 512 * (t.val % 8) + p1.val) (h2 : (q 2).val = p2.val) :
    (iblk6 V c 2 t : Vec Ideal S1x512x2048 .bf16) (ix3 p0 p1 p2) = (V c main_arg8 : S2x4096x2048.Idx → EReal) q := by
  obtain ⟨-, -, ⟨i0, i1, i2⟩, -⟩ := idx6 t
  unfold iblk6; rw [View.read_apply]
  show V c main_arg8 _ = V c main_arg8 q
  congr 1; funext a; apply Fin.ext
  match a with
  | ⟨0, _⟩ => show win6_2.index t 0 * 1 + 1 * p0.val = (q 0).val; rw [i0, h0]; omega
  | ⟨1, _⟩ => show win6_2.index t 1 * 512 + 1 * p1.val = (q 1).val; rw [i1, h1]; omega
  | ⟨2, _⟩ => show win6_2.index t 2 * 2048 + 1 * p2.val = (q 2).val; rw [i2, h2]; omega

theorem blk6_3 (c : Dev nD) (t : Fin cfg6.N) (p0 : Fin 4) (p1 : Fin 512) (p2 : Fin 512) (q : S8x2048x512.Idx)
    (h0 : (q 0).val = p0.val) (h1 : (q 1).val = 512 * (t.val / 8) + p1.val) (h2 : (q 2).val = p2.val) :
    (iblk6 V c 3 t : Vec Ideal S4x512x512 .bf16) (ix3 p0 p1 p2) = (V c main_v5 : S8x2048x512.Idx → EReal) q := by
  obtain ⟨-, -, -, ⟨i0, i1, i2⟩, -⟩ := idx6 t
  unfold iblk6; rw [View.read_apply]
  show V c main_v5 _ = V c main_v5 q
  congr 1; funext a; apply Fin.ext
  match a with
  | ⟨0, _⟩ => show win6_3.index t 0 * 4 + 1 * p0.val = (q 0).val; rw [i0, h0]; omega
  | ⟨1, _⟩ => show win6_3.index t 1 * 512 + 1 * p1.val = (q 1).val; rw [i1, h1]; omega
  | ⟨2, _⟩ => show win6_3.index t 2 * 512 + 1 * p2.val = (q 2).val; rw [i2, h2]; omega

theorem blk6_4 (c : Dev nD) (t : Fin cfg6.N) (p0 : Fin 1) (p1 : Fin 512) (p2 : Fin 2048) (q : S2x4096x2048.Idx)
    (h0 : (q 0).val = 1 * (1) + p0.val) (h1 : (q 1).val = 512 * (t.val % 8) + p1.val) (h2 : (q 2).val = p2.val) :
    (iblk6 V c 4 t : Vec Ideal S1x512x2048 .bf16) (ix3 p0 p1 p2) = (V c main_arg8 : S2x4096x2048.Idx → EReal) q := by
  obtain ⟨-, -, -, -, ⟨i0, i1, i2⟩, -⟩ := idx6 t
  unfold iblk6; rw [View.read_apply]
  show V c main_arg8 _ = V c main_arg8 q
  congr 1; funext a; apply Fin.ext
  match a with
  | ⟨0, _⟩ => show win6_4.index t 0 * 1 + 1 * p0.val = (q 0).val; rw [i0, h0]; omega
  | ⟨1, _⟩ => show win6_4.index t 1 * 512 + 1 * p1.val = (q 1).val; rw [i1, h1]; omega
  | ⟨2, _⟩ => show win6_4.index t 2 * 2048 + 1 * p2.val = (q 2).val; rw [i2, h2]; omega

theorem blk6_5 (c : Dev nD) (t : Fin cfg6.N) (p0 : Fin 4) (p1 : Fin 512) (p2 : Fin 512) (q : S8x2048x512.Idx)
    (h0 : (q 0).val = 4 * (1) + p0.val) (h1 : (q 1).val = 512 * (t.val / 8) + p1.val) (h2 : (q 2).val = p2.val) :
    (iblk6 V c 5 t : Vec Ideal S4x512x512 .bf16) (ix3 p0 p1 p2) = (V c main_v5 : S8x2048x512.Idx → EReal) q := by
  obtain ⟨-, -, -, -, -, ⟨i0, i1, i2⟩, -⟩ := idx6 t
  unfold iblk6; rw [View.read_apply]
  show V c main_v5 _ = V c main_v5 q
  congr 1; funext a; apply Fin.ext
  match a with
  | ⟨0, _⟩ => show win6_5.index t 0 * 4 + 1 * p0.val = (q 0).val; rw [i0, h0]; omega
  | ⟨1, _⟩ => show win6_5.index t 1 * 512 + 1 * p1.val = (q 1).val; rw [i1, h1]; omega
  | ⟨2, _⟩ => show win6_5.index t 2 * 512 + 1 * p2.val = (q 2).val; rw [i2, h2]; omega

/-- The gradient of the mixer's input. -/
def R6_6 (c : Dev nD) : S4096x2048.Idx → EReal := fun i => shardSum (n := 768) (M := 6144) (by norm_num) (V c main_arg7) (V c main_v2) (i 0) (i 1) + halfSum (V c main_arg8) (V c main_v5) 0 (i 0) (i 1) + halfSum (V c main_arg8) (V c main_v5) 1 (i 0) (i 1)

theorem flushed6_6 (c : Dev nD) (t : Fin cfg6.N) : (dat6 V c).flushed 6 t = ((cfg6.win 6).blk t).view.read (Elt Ideal) (R6_6 V c) := by
  show (cfg6.win 6).cut (grid6.coords t) ((dat6 V c).after 6 t) = _
  rw [after6_6]; funext j
  obtain ⟨-, -, -, -, -, -, ⟨i0, i1⟩⟩ := idx6 t
  obtain ⟨r, e, rfl⟩ := any2 512 512 j
  rw [View.read_apply]
  have ei : ((cfg6.win 6).blk t).view.emb (ix2 r e) = (ix2 ⟨512 * (t.val % 8) + r.val, by have := lt6 t; have := r.isLt; omega⟩ ⟨512 * (t.val / 8) + e.val, by have := lt6 t; have := e.isLt; omega⟩) := funext fun a => Fin.ext (by
    match a with
    | ⟨0, _⟩ => show win6_6.index t 0 * 512 + 1 * r.val = 512 * (t.val % 8) + r.val; rw [i0]; omega
    | ⟨1, _⟩ => show win6_6.index t 1 * 512 + 1 * e.val = 512 * (t.val / 8) + e.val; rw [i1]; omega)
  refine (inDx_out _ _ _ _ _ _ r e).trans ?_
  refine Eq.trans ?_ (congrArg (R6_6 V c) ei).symm
  unfold R6_6 halfSum
  rw [half_apply, half_apply]
  refine congrArg₂ (fun a b : EReal => a + b) (congrArg₂ (fun a b : EReal => a + b) ?_ ?_) ?_
  · unfold shardSum
    refine Finset.sum_congr rfl fun s _ => Finset.sum_congr rfl fun k _ => congrArg₂ (fun a b : EReal => a * b) ?_ ?_
    · exact blk6_0 V c t r _ _ rfl rfl
    exact blk6_1 V c t s e k _ rfl rfl rfl
  · refine Finset.sum_congr rfl fun s _ => Finset.sum_congr rfl fun k _ => congrArg₂ (fun a b : EReal => a * b) ?_ ?_
    · exact blk6_2 V c t 0 r _ _ rfl rfl rfl
    exact blk6_3 V c t s e k _ (by show 4 * 0 + s.val = s.val; omega) rfl rfl
  · refine Finset.sum_congr rfl fun s _ => Finset.sum_congr rfl fun k _ => congrArg₂ (fun a b : EReal => a * b) ?_ ?_
    · exact blk6_4 V c t 0 r _ _ rfl rfl rfl
    exact blk6_5 V c t s e k _ (by show 4 * 1 + s.val = 4 * (1) + s.val; omega) rfl rfl

theorem cover6_6 (i : S4096x2048.Idx) : ∃ t : Fin cfg6.N, (cfg6.win 6).flush t = true ∧ i ∈ ((cfg6.win 6).blk t).view.set := by
  have b0 : (i 0 : Nat) < 4096 := (i 0).isLt
  have b1 : (i 1 : Nat) < 2048 := (i 1).isLt
  have hN : cfg6.N = 32 := N_6
  refine ⟨⟨8 * ((i 1 : Nat) / 512) + (i 0 : Nat) / 512, by omega⟩, flush6_6 _, ?_⟩
  generalize ht : (⟨8 * ((i 1 : Nat) / 512) + (i 0 : Nat) / 512, by omega⟩ : Fin cfg6.N) = t
  have tv : t.val = 8 * ((i 1 : Nat) / 512) + (i 0 : Nat) / 512 := by rw [← ht]
  obtain ⟨-, -, -, -, -, -, ⟨i0, i1⟩⟩ := idx6 t
  show i ∈ ((View.whole main_v18).slice (win6_6.rect t)).set
  rw [View.set_slice_whole, Rect.mem_set_unit]
  intro a
  match a with
  | ⟨0, _⟩ => show win6_6.index t 0 * 512 ≤ (i 0 : Nat) ∧ (i 0 : Nat) < win6_6.index t 0 * 512 + 512
              rw [i0]; omega
  | ⟨1, _⟩ => show win6_6.index t 1 * 512 ≤ (i 1 : Nat) ∧ (i 1 : Nat) < win6_6.index t 1 * 512 + 512
              rw [i1]; omega

theorem arr6_6 (c : Dev nD) : (dat6 V c).arrAt 6 cfg6.N = R6_6 V c :=
  (dat6 V c).arrAt_eq_of_cover 6 (R6_6 V c) (fun t _ => flushed6_6 V c t) cover6_6

end Cert.Kernel4Ideal.Mixer

end
-- ==== Proof.MixerBackChain.lean ====
/-
  The seven calls of the mixer's backward products in a row: each call's output array as a function of the arguments,
  carried through the later calls to the results (at the ideal values).
-/
module

public import proofs.«01_k».proof.Proof.MixerBackWeights
public import proofs.«01_k».proof.Proof.MixerBackInputs

@[expose] public section

set_option maxRecDepth 16384

noncomputable section

namespace Cert.Kernel4Ideal.Mixer

open Cert.Kernel4Ideal Cert.Kernel4Ideal.Gen Cert.Products Cert.Mixer Idealize.ShloMosaic.TcCoe Idealize.SL.Sem
open Idealize.ShloMosaic hiding ix1 ix2 ix3 eq_ix1 eq_ix2 eq_ix3
open Idealize.ShloMosaic.ValueIdx

variable (m : (ℓ : Loc nD τ sig) → Buf (Elt Ideal) ℓ) (ρ : Dev nD → PrngReg)

/-- The arguments as launched. -/
abbrev a0 (c : Dev nD) : S4096x2048.Idx → EReal := m ((c : Thread nD τ).loc main_arg0)
abbrev a1 (c : Dev nD) : S4096x512.Idx → EReal := m ((c : Thread nD τ).loc main_arg1)
abbrev a2 (c : Dev nD) : S4096x512.Idx → EReal := m ((c : Thread nD τ).loc main_arg2)
abbrev a3 (c : Dev nD) : S2048x6144.Idx → EReal := m ((c : Thread nD τ).loc main_arg3)
abbrev a4 (c : Dev nD) : S2048x4096.Idx → EReal := m ((c : Thread nD τ).loc main_arg4)
abbrev a5 (c : Dev nD) : S512x2048.Idx → EReal := m ((c : Thread nD τ).loc main_arg5)
abbrev a6 (c : Dev nD) : S512x2048.Idx → EReal := m ((c : Thread nD τ).loc main_arg6)
abbrev a7 (c : Dev nD) : S4096x6144.Idx → EReal := m ((c : Thread nD τ).loc main_arg7)
abbrev a8 (c : Dev nD) : S2x4096x2048.Idx → EReal := m ((c : Thread nD τ).loc main_arg8)
abbrev a9 (c : Dev nD) : S4096x2048.Idx → EReal := m ((c : Thread nD τ).loc main_arg9)
abbrev a10 (c : Dev nD) : S4096x2048.Idx → EReal := m ((c : Thread nD τ).loc main_arg10)

/-! ## The weights the host cuts into shards -/

theorem at1_v2 (c : Dev nD) : V1 m ρ c main_v2 = shardsOf (b := 8) (n := 768) (M := 6144) (by norm_num) (a3 m c) := by
  show StableHlo.after hostOps0 (fun b => m (c, b)) (Proc.devRef .tc main_v2) = _
  after_results_simp
  exact cut_shards _ _ _ _

theorem at1_v5 (c : Dev nD) : V1 m ρ c main_v5 = shardsOf (b := 8) (n := 512) (M := 4096) (by norm_num) (a4 m c) := by
  show StableHlo.after hostOps0 (fun b => m (c, b)) (Proc.devRef .tc main_v5) = _
  after_results_simp
  exact cut_shards _ _ _ _

theorem at1_v8 (c : Dev nD) : V1 m ρ c main_v8 = shardsOf (b := 8) (n := 256) (M := 2048) (by norm_num) (a5 m c) := by
  show StableHlo.after hostOps0 (fun b => m (c, b)) (Proc.devRef .tc main_v8) = _
  after_results_simp
  exact cut_shards _ _ _ _

theorem at1_v11 (c : Dev nD) : V1 m ρ c main_v11 = shardsOf (b := 8) (n := 256) (M := 2048) (by norm_num) (a6 m c) := by
  show StableHlo.after hostOps0 (fun b => m (c, b)) (Proc.devRef .tc main_v11) = _
  after_results_simp
  exact cut_shards _ _ _ _

/-! ## The calls' arrays, in order -/

theorem at1_arg0 (c : Dev nD) : V1 m ρ c main_arg0 = a0 m c := W1_args m ρ c main_arg0 (by decide)
theorem at1_arg8 (c : Dev nD) : V1 m ρ c main_arg8 = a8 m c := W1_args m ρ c main_arg8 (by decide)
theorem at2_v12 (c : Dev nD) : V2 m ρ c main_v12 = shardsOf (b := 8) (n := 512) (M := 4096) (by norm_num) (dwg (a0 m c) (a8 m c)) :=
  ((W2_arr m ρ c 2).trans (arr0_2 (V1 m ρ) c)).trans (by
    unfold R0_2; rw [at1_arg0, at1_arg8]; rfl)
theorem at2_arg1 (c : Dev nD) : V2 m ρ c main_arg1 = a1 m c := W2_args m ρ c main_arg1 (by decide)
theorem at2_arg9 (c : Dev nD) : V2 m ρ c main_arg9 = a9 m c := W2_args m ρ c main_arg9 (by decide)
theorem at3_v13 (c : Dev nD) : V3 m ρ c main_v13 = shardsOf (b := 8) (n := 256) (M := 2048) (by norm_num) (dwp (a1 m c) (a9 m c)) :=
  ((W3_arr m ρ c 2).trans (arr1_2 (V2 m ρ) c)).trans (by
    unfold R1_2; rw [at2_arg1, at2_arg9]; rfl)
theorem at3_arg2 (c : Dev nD) : V3 m ρ c main_arg2 = a2 m c := W3_args m ρ c main_arg2 (by decide)
theorem at3_arg10 (c : Dev nD) : V3 m ρ c main_arg10 = a10 m c := W3_args m ρ c main_arg10 (by decide)
theorem at4_v14 (c : Dev nD) : V4 m ρ c main_v14 = shardsOf (b := 8) (n := 256) (M := 2048) (by norm_num) (dwp (a2 m c) (a10 m c)) :=
  ((W4_arr m ρ c 2).trans (arr2_2 (V3 m ρ) c)).trans (by
    unfold R2_2; rw [at3_arg2, at3_arg10]; rfl)
theorem at4_arg9 (c : Dev nD) : V4 m ρ c main_arg9 = a9 m c := W4_args m ρ c main_arg9 (by decide)
theorem at2_v8 (c : Dev nD) : V2 m ρ c main_v8 = shardsOf (b := 8) (n := 256) (M := 2048) (by norm_num) (a5 m c) := (W2_of m ρ c main_v8 (by decide +kernel)).trans (at1_v8 m ρ c)
theorem at3_v8 (c : Dev nD) : V3 m ρ c main_v8 = shardsOf (b := 8) (n := 256) (M := 2048) (by norm_num) (a5 m c) := (W3_of m ρ c main_v8 (by decide +kernel)).trans (at2_v8 m ρ c)
theorem at4_v8 (c : Dev nD) : V4 m ρ c main_v8 = shardsOf (b := 8) (n := 256) (M := 2048) (by norm_num) (a5 m c) := (W4_of m ρ c main_v8 (by decide +kernel)).trans (at3_v8 m ρ c)
theorem at5_v15 (c : Dev nD) : V5 m ρ c main_v15 = dy (a5 m c) (a9 m c) :=
  ((W5_arr m ρ c 2).trans (arr3_2 (V4 m ρ) c)).trans (by
    unfold R3_2; rw [at4_arg9, at4_v8]; funext i; exact shardSum_of _ _ _ _ _)
theorem at5_arg10 (c : Dev nD) : V5 m ρ c main_arg10 = a10 m c := W5_args m ρ c main_arg10 (by decide)
theorem at2_v11 (c : Dev nD) : V2 m ρ c main_v11 = shardsOf (b := 8) (n := 256) (M := 2048) (by norm_num) (a6 m c) := (W2_of m ρ c main_v11 (by decide +kernel)).trans (at1_v11 m ρ c)
theorem at3_v11 (c : Dev nD) : V3 m ρ c main_v11 = shardsOf (b := 8) (n := 256) (M := 2048) (by norm_num) (a6 m c) := (W3_of m ρ c main_v11 (by decide +kernel)).trans (at2_v11 m ρ c)
theorem at4_v11 (c : Dev nD) : V4 m ρ c main_v11 = shardsOf (b := 8) (n := 256) (M := 2048) (by norm_num) (a6 m c) := (W4_of m ρ c main_v11 (by decide +kernel)).trans (at3_v11 m ρ c)
theorem at5_v11 (c : Dev nD) : V5 m ρ c main_v11 = shardsOf (b := 8) (n := 256) (M := 2048) (by norm_num) (a6 m c) := (W5_of m ρ c main_v11 (by decide +kernel)).trans (at4_v11 m ρ c)
theorem at6_v16 (c : Dev nD) : V6 m ρ c main_v16 = dy (a6 m c) (a10 m c) :=
  ((W6_arr m ρ c 2).trans (arr4_2 (V5 m ρ) c)).trans (by
    unfold R4_2; rw [at5_arg10, at5_v11]; funext i; exact shardSum_of _ _ _ _ _)
theorem at6_arg0 (c : Dev nD) : V6 m ρ c main_arg0 = a0 m c := W6_args m ρ c main_arg0 (by decide)
theorem at6_arg7 (c : Dev nD) : V6 m ρ c main_arg7 = a7 m c := W6_args m ρ c main_arg7 (by decide)
theorem at7_v17 (c : Dev nD) : V7 m ρ c main_v17 = shardsOf (b := 8) (n := 768) (M := 6144) (by norm_num) (dwq (a0 m c) (a7 m c)) :=
  ((W7_arr m ρ c 2).trans (arr5_2 (V6 m ρ) c)).trans (by
    unfold R5_2; rw [at6_arg0, at6_arg7]; rfl)
theorem at7_arg7 (c : Dev nD) : V7 m ρ c main_arg7 = a7 m c := W7_args m ρ c main_arg7 (by decide)
theorem at2_v2 (c : Dev nD) : V2 m ρ c main_v2 = shardsOf (b := 8) (n := 768) (M := 6144) (by norm_num) (a3 m c) := (W2_of m ρ c main_v2 (by decide +kernel)).trans (at1_v2 m ρ c)
theorem at3_v2 (c : Dev nD) : V3 m ρ c main_v2 = shardsOf (b := 8) (n := 768) (M := 6144) (by norm_num) (a3 m c) := (W3_of m ρ c main_v2 (by decide +kernel)).trans (at2_v2 m ρ c)
theorem at4_v2 (c : Dev nD) : V4 m ρ c main_v2 = shardsOf (b := 8) (n := 768) (M := 6144) (by norm_num) (a3 m c) := (W4_of m ρ c main_v2 (by decide +kernel)).trans (at3_v2 m ρ c)
theorem at5_v2 (c : Dev nD) : V5 m ρ c main_v2 = shardsOf (b := 8) (n := 768) (M := 6144) (by norm_num) (a3 m c) := (W5_of m ρ c main_v2 (by decide +kernel)).trans (at4_v2 m ρ c)
theorem at6_v2 (c : Dev nD) : V6 m ρ c main_v2 = shardsOf (b := 8) (n := 768) (M := 6144) (by norm_num) (a3 m c) := (W6_of m ρ c main_v2 (by decide +kernel)).trans (at5_v2 m ρ c)
theorem at7_v2 (c : Dev nD) : V7 m ρ c main_v2 = shardsOf (b := 8) (n := 768) (M := 6144) (by norm_num) (a3 m c) := (W7_of m ρ c main_v2 (by decide +kernel)).trans (at6_v2 m ρ c)
theorem at7_arg8 (c : Dev nD) : V7 m ρ c main_arg8 = a8 m c := W7_args m ρ c main_arg8 (by decide)
theorem at2_v5 (c : Dev nD) : V2 m ρ c main_v5 = shardsOf (b := 8) (n := 512) (M := 4096) (by norm_num) (a4 m c) := (W2_of m ρ c main_v5 (by decide +kernel)).trans (at1_v5 m ρ c)
theorem at3_v5 (c : Dev nD) : V3 m ρ c main_v5 = shardsOf (b := 8) (n := 512) (M := 4096) (by norm_num) (a4 m c) := (W3_of m ρ c main_v5 (by decide +kernel)).trans (at2_v5 m ρ c)
theorem at4_v5 (c : Dev nD) : V4 m ρ c main_v5 = shardsOf (b := 8) (n := 512) (M := 4096) (by norm_num) (a4 m c) := (W4_of m ρ c main_v5 (by decide +kernel)).trans (at3_v5 m ρ c)
theorem at5_v5 (c : Dev nD) : V5 m ρ c main_v5 = shardsOf (b := 8) (n := 512) (M := 4096) (by norm_num) (a4 m c) := (W5_of m ρ c main_v5 (by decide +kernel)).trans (at4_v5 m ρ c)
theorem at6_v5 (c : Dev nD) : V6 m ρ c main_v5 = shardsOf (b := 8) (n := 512) (M := 4096) (by norm_num) (a4 m c) := (W6_of m ρ c main_v5 (by decide +kernel)).trans (at5_v5 m ρ c)
theorem at7_v5 (c : Dev nD) : V7 m ρ c main_v5 = shardsOf (b := 8) (n := 512) (M := 4096) (by norm_num) (a4 m c) := (W7_of m ρ c main_v5 (by decide +kernel)).trans (at6_v5 m ρ c)
theorem at8_v18 (c : Dev nD) : V8 m ρ c main_v18 = dh (a3 m c) (a4 m c) (a7 m c) (a8 m c) :=
  ((W8_arr m ρ c 6).trans (arr6_6 (V7 m ρ) c)).trans (by
    unfold R6_6; rw [at7_arg7, at7_v2, at7_arg8, at7_v5]; funext i
    obtain ⟨r, e, rfl⟩ := any2 4096 2048 i
    show shardSum _ _ _ r e + halfSum _ _ 0 r e + halfSum _ _ 1 r e = rowRow _ _ r e + rowRow _ _ r e
    rw [shardSum_of, add_assoc, halves])

/-! ## The results -/

theorem res0 (c : Dev nD) : W9 m ρ c (Proc.devRef .tc main_v18) = dh (a3 m c) (a4 m c) (a7 m c) (a8 m c) :=
  (W9_of m ρ c main_v18 (by decide +kernel)).trans (at8_v18 m ρ c)
theorem at6_v15 (c : Dev nD) : V6 m ρ c main_v15 = dy (a5 m c) (a9 m c) := (W6_of m ρ c main_v15 (by decide +kernel)).trans (at5_v15 m ρ c)
theorem at7_v15 (c : Dev nD) : V7 m ρ c main_v15 = dy (a5 m c) (a9 m c) := (W7_of m ρ c main_v15 (by decide +kernel)).trans (at6_v15 m ρ c)
theorem at8_v15 (c : Dev nD) : V8 m ρ c main_v15 = dy (a5 m c) (a9 m c) := (W8_of m ρ c main_v15 (by decide +kernel)).trans (at7_v15 m ρ c)
theorem res1 (c : Dev nD) : W9 m ρ c (Proc.devRef .tc main_v15) = dy (a5 m c) (a9 m c) :=
  (W9_of m ρ c main_v15 (by decide +kernel)).trans (at8_v15 m ρ c)
theorem at7_v16 (c : Dev nD) : V7 m ρ c main_v16 = dy (a6 m c) (a10 m c) := (W7_of m ρ c main_v16 (by decide +kernel)).trans (at6_v16 m ρ c)
theorem at8_v16 (c : Dev nD) : V8 m ρ c main_v16 = dy (a6 m c) (a10 m c) := (W8_of m ρ c main_v16 (by decide +kernel)).trans (at7_v16 m ρ c)
theorem res2 (c : Dev nD) : W9 m ρ c (Proc.devRef .tc main_v16) = dy (a6 m c) (a10 m c) :=
  (W9_of m ρ c main_v16 (by decide +kernel)).trans (at8_v16 m ρ c)

/-! The weights' gradients: the shards put back side by side. -/

theorem at8_v17 (c : Dev nD) : V8 m ρ c main_v17 = shardsOf (b := 8) (n := 768) (M := 6144) (by norm_num) (dwq (a0 m c) (a7 m c)) := (W8_of m ρ c main_v17 (by decide +kernel)).trans (at7_v17 m ρ c)
theorem res3 (c : Dev nD) : W9 m ρ c (Proc.devRef .tc main_v20) = dwq (a0 m c) (a7 m c) := by
  have h8 := at8_v17 m ρ c
  show StableHlo.after hostOps7 (W8 m ρ c) (Proc.devRef .tc main_v20) = _
  revert h8
  show W8 m ρ c (Proc.devRef .tc main_v17) = _ → _
  generalize W8 m ρ c = w
  intro h8
  after_results_simp
  rw [h8]
  exact join_shards _ _ _ _

theorem at3_v12 (c : Dev nD) : V3 m ρ c main_v12 = shardsOf (b := 8) (n := 512) (M := 4096) (by norm_num) (dwg (a0 m c) (a8 m c)) := (W3_of m ρ c main_v12 (by decide +kernel)).trans (at2_v12 m ρ c)
theorem at4_v12 (c : Dev nD) : V4 m ρ c main_v12 = shardsOf (b := 8) (n := 512) (M := 4096) (by norm_num) (dwg (a0 m c) (a8 m c)) := (W4_of m ρ c main_v12 (by decide +kernel)).trans (at3_v12 m ρ c)
theorem at5_v12 (c : Dev nD) : V5 m ρ c main_v12 = shardsOf (b := 8) (n := 512) (M := 4096) (by norm_num) (dwg (a0 m c) (a8 m c)) := (W5_of m ρ c main_v12 (by decide +kernel)).trans (at4_v12 m ρ c)
theorem at6_v12 (c : Dev nD) : V6 m ρ c main_v12 = shardsOf (b := 8) (n := 512) (M := 4096) (by norm_num) (dwg (a0 m c) (a8 m c)) := (W6_of m ρ c main_v12 (by decide +kernel)).trans (at5_v12 m ρ c)
theorem at7_v12 (c : Dev nD) : V7 m ρ c main_v12 = shardsOf (b := 8) (n := 512) (M := 4096) (by norm_num) (dwg (a0 m c) (a8 m c)) := (W7_of m ρ c main_v12 (by decide +kernel)).trans (at6_v12 m ρ c)
theorem at8_v12 (c : Dev nD) : V8 m ρ c main_v12 = shardsOf (b := 8) (n := 512) (M := 4096) (by norm_num) (dwg (a0 m c) (a8 m c)) := (W8_of m ρ c main_v12 (by decide +kernel)).trans (at7_v12 m ρ c)
theorem res4 (c : Dev nD) : W9 m ρ c (Proc.devRef .tc main_v22) = dwg (a0 m c) (a8 m c) := by
  have h8 := at8_v12 m ρ c
  show StableHlo.after hostOps7 (W8 m ρ c) (Proc.devRef .tc main_v22) = _
  revert h8
  show W8 m ρ c (Proc.devRef .tc main_v12) = _ → _
  generalize W8 m ρ c = w
  intro h8
  after_results_simp
  rw [h8]
  exact join_shards _ _ _ _

theorem at4_v13 (c : Dev nD) : V4 m ρ c main_v13 = shardsOf (b := 8) (n := 256) (M := 2048) (by norm_num) (dwp (a1 m c) (a9 m c)) := (W4_of m ρ c main_v13 (by decide +kernel)).trans (at3_v13 m ρ c)
theorem at5_v13 (c : Dev nD) : V5 m ρ c main_v13 = shardsOf (b := 8) (n := 256) (M := 2048) (by norm_num) (dwp (a1 m c) (a9 m c)) := (W5_of m ρ c main_v13 (by decide +kernel)).trans (at4_v13 m ρ c)
theorem at6_v13 (c : Dev nD) : V6 m ρ c main_v13 = shardsOf (b := 8) (n := 256) (M := 2048) (by norm_num) (dwp (a1 m c) (a9 m c)) := (W6_of m ρ c main_v13 (by decide +kernel)).trans (at5_v13 m ρ c)
theorem at7_v13 (c : Dev nD) : V7 m ρ c main_v13 = shardsOf (b := 8) (n := 256) (M := 2048) (by norm_num) (dwp (a1 m c) (a9 m c)) := (W7_of m ρ c main_v13 (by decide +kernel)).trans (at6_v13 m ρ c)
theorem at8_v13 (c : Dev nD) : V8 m ρ c main_v13 = shardsOf (b := 8) (n := 256) (M := 2048) (by norm_num) (dwp (a1 m c) (a9 m c)) := (W8_of m ρ c main_v13 (by decide +kernel)).trans (at7_v13 m ρ c)
theorem res5 (c : Dev nD) : W9 m ρ c (Proc.devRef .tc main_v24) = dwp (a1 m c) (a9 m c) := by
  have h8 := at8_v13 m ρ c
  show StableHlo.after hostOps7 (W8 m ρ c) (Proc.devRef .tc main_v24) = _
  revert h8
  show W8 m ρ c (Proc.devRef .tc main_v13) = _ → _
  generalize W8 m ρ c = w
  intro h8
  after_results_simp
  rw [h8]
  exact join_shards _ _ _ _

theorem at5_v14 (c : Dev nD) : V5 m ρ c main_v14 = shardsOf (b := 8) (n := 256) (M := 2048) (by norm_num) (dwp (a2 m c) (a10 m c)) := (W5_of m ρ c main_v14 (by decide +kernel)).trans (at4_v14 m ρ c)
theorem at6_v14 (c : Dev nD) : V6 m ρ c main_v14 = shardsOf (b := 8) (n := 256) (M := 2048) (by norm_num) (dwp (a2 m c) (a10 m c)) := (W6_of m ρ c main_v14 (by decide +kernel)).trans (at5_v14 m ρ c)
theorem at7_v14 (c : Dev nD) : V7 m ρ c main_v14 = shardsOf (b := 8) (n := 256) (M := 2048) (by norm_num) (dwp (a2 m c) (a10 m c)) := (W7_of m ρ c main_v14 (by decide +kernel)).trans (at6_v14 m ρ c)
theorem at8_v14 (c : Dev nD) : V8 m ρ c main_v14 = shardsOf (b := 8) (n := 256) (M := 2048) (by norm_num) (dwp (a2 m c) (a10 m c)) := (W8_of m ρ c main_v14 (by decide +kernel)).trans (at7_v14 m ρ c)
theorem res6 (c : Dev nD) : W9 m ρ c (Proc.devRef .tc main_v26) = dwp (a2 m c) (a10 m c) := by
  have h8 := at8_v14 m ρ c
  show StableHlo.after hostOps7 (W8 m ρ c) (Proc.devRef .tc main_v26) = _
  revert h8
  show W8 m ρ c (Proc.devRef .tc main_v14) = _ → _
  generalize W8 m ρ c = w
  intro h8
  after_results_simp
  rw [h8]
  exact join_shards _ _ _ _

end Cert.Kernel4Ideal.Mixer

end
-- ==== Proof.MixerBackRun.lean ====
/-
  The run of the seven calls, read at the seven results (at the ideal values).  The launch set-up is the frame's own;
  what is read off the last boundary's contents here are the results too.
-/
module

public import proofs.«01_k».proof.Proof.MixerBackChain

@[expose] public section

set_option maxRecDepth 16384

noncomputable section

namespace Cert.Kernel4Ideal.Mixer

open Cert.Kernel4Ideal Cert.Kernel4Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, read: the results as functions of the arguments, the arguments unchanged. -/
theorem run : θ_run defs (onTc (τ := τ) (main (F := Ideal))) ⟨m, fun _ => 0, ρ⟩ fun r => ∀ c : Dev nD,
      r.2.mem ((c : Thread nD τ).loc main_v18) = Cert.Mixer.dh (a3 m c) (a4 m c) (a7 m c) (a8 m c)
      ∧ r.2.mem ((c : Thread nD τ).loc main_v15) = Cert.Mixer.dy (a5 m c) (a9 m c)
      ∧ r.2.mem ((c : Thread nD τ).loc main_v16) = Cert.Mixer.dy (a6 m c) (a10 m c)
      ∧ r.2.mem ((c : Thread nD τ).loc main_v20) = Cert.Mixer.dwq (a0 m c) (a7 m c)
      ∧ r.2.mem ((c : Thread nD τ).loc main_v22) = Cert.Mixer.dwg (a0 m c) (a8 m c)
      ∧ r.2.mem ((c : Thread nD τ).loc main_v24) = Cert.Mixer.dwp (a1 m c) (a9 m c)
      ∧ r.2.mem ((c : Thread nD τ).loc main_v26) = Cert.Mixer.dwp (a2 m c) (a10 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c => ⟨(h c _ (mem_uc main_v18 (by decide))).trans (res0 m ρ c),
      (h c _ (mem_uc main_v15 (by decide))).trans (res1 m ρ c),
      (h c _ (mem_uc main_v16 (by decide))).trans (res2 m ρ c),
      (h c _ (mem_uc main_v20 (by decide))).trans (res3 m ρ c),
      (h c _ (mem_uc main_v22 (by decide))).trans (res4 m ρ c),
      (h c _ (mem_uc main_v24 (by decide))).trans (res5 m ρ c),
      (h c _ (mem_uc main_v26 (by decide))).trans (res6 m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c)⟩)

end Cert.Kernel4Ideal.Mixer

end
-- ==== Proof.MixerBackReference.lean ====
/-
  The gradients the reference's transposition computes through the mixer's products, read as the mixer's own functions.
-/
module

public import proofs.«01_k».proof.Proof.Gen.Reference4Ideal.Read
public import proofs.«01_k».proof.Proof.MixerMath

@[expose] public section

set_option maxRecDepth 16384

noncomputable section

namespace Cert.Reference4Ideal.Mixer

open Cert.Reference4Ideal Cert.Reference4Ideal.Gen Cert.Reference4Ideal.Read Cert.Products Cert.Mixer
open Idealize.ShloMosaic hiding ix1 ix2 ix3 eq_ix1 eq_ix2 eq_ix3
open Idealize.ShloMosaic.ValueIdx

variable (x0 : (⟨S4096x2048, .bf16⟩ : BufTy).Contents (Elt Ideal)) (x1 : (⟨S4096x512, .bf16⟩ : BufTy).Contents (Elt Ideal)) (x2 : (⟨S4096x512, .bf16⟩ : BufTy).Contents (Elt Ideal)) (x3 : (⟨S2048x6144, .f32⟩ : BufTy).Contents (Elt Ideal)) (x4 : (⟨S2048x4096, .f32⟩ : BufTy).Contents (Elt Ideal)) (x5 : (⟨S512x2048, .f32⟩ : BufTy).Contents (Elt Ideal)) (x6 : (⟨S512x2048, .f32⟩ : BufTy).Contents (Elt Ideal)) (x7 : (⟨S4096x6144, .bf16⟩ : BufTy).Contents (Elt Ideal)) (x8 : (⟨S2x4096x2048, .bf16⟩ : BufTy).Contents (Elt Ideal)) (x9 : (⟨S4096x2048, .bf16⟩ : BufTy).Contents (Elt Ideal)) (x10 : (⟨S4096x2048, .bf16⟩ : BufTy).Contents (Elt Ideal))

/-- The two halves of the gates' gradient, put side by side. -/
theorem v2 : val_main_v2 (F := Ideal) x8 = sideBySide x8 := funext fun i => by
  rw [val_main_v2_apply, val_main_v1_apply, val_main_v0_apply]
  show x8 _ = x8 _
  have h0 : (i 0).val < 4096 := (i 0).isLt
  have h1 : (i 1).val < 4096 := (i 1).isLt
  congr 1; funext a; apply Fin.ext
  match a with
  | ⟨0, _⟩ => show ((i 0).val * 4096 + (i 1).val) / 2048 % 2 = (i 1).val / 2048; omega
  | ⟨1, _⟩ => show ((i 0).val * 4096 + (i 1).val) / 4096 = (i 0).val; omega
  | ⟨2, _⟩ => show ((i 0).val * 4096 + (i 1).val) % 2048 = (i 1).val % 2048; omega

theorem v22 (i : S6144x2048.Idx) : val_main_v22 (F := Ideal) x0 x7 i = colCol x0 x7 (i 1) (i 0) := by
  rw [val_main_v22_apply]; unfold colCol
  refine Finset.sum_congr rfl fun k _ => (mul_comm (G := EReal) _ _).trans (congrArg₂ (fun a b : EReal => a * b) ?_ ?_)
  · show x0 _ = x0 _
    congr 1; funext a; match a with | ⟨0, _⟩ => rfl | ⟨1, _⟩ => rfl
  · show x7 _ = x7 _
    congr 1; funext a; match a with | ⟨0, _⟩ => rfl | ⟨1, _⟩ => rfl

theorem v29 : val_main_v29 (F := Ideal) x0 x7 = dwq x0 x7 := funext fun i => by
  rw [val_main_v29_apply, val_main_v23_apply, v22]; rfl

theorem v19 (i : S4096x2048.Idx) : val_main_v19 (F := Ideal) x0 x8 i = colCol x0 (sideBySide x8) (i 1) (i 0) := by
  rw [val_main_v19_apply, v2]; unfold colCol
  refine Finset.sum_congr rfl fun k _ => (mul_comm (G := EReal) _ _).trans (congrArg₂ (fun a b : EReal => a * b) ?_ ?_)
  · show x0 _ = x0 _
    congr 1; funext a; match a with | ⟨0, _⟩ => rfl | ⟨1, _⟩ => rfl
  · congr 1; funext a; match a with | ⟨0, _⟩ => rfl | ⟨1, _⟩ => rfl

theorem v30 : val_main_v30 (F := Ideal) x0 x8 = dwg x0 x8 := funext fun i => by
  rw [val_main_v30_apply, val_main_v20_apply, v19]; rfl

theorem v16 (i : S2048x512.Idx) : val_main_v16 (F := Ideal) x1 x9 i = colCol x1 x9 (i 1) (i 0) := by
  rw [val_main_v16_apply]; unfold colCol
  refine Finset.sum_congr rfl fun k _ => (mul_comm (G := EReal) _ _).trans (congrArg₂ (fun a b : EReal => a * b) ?_ ?_)
  · show x1 _ = x1 _
    congr 1; funext a; match a with | ⟨0, _⟩ => rfl | ⟨1, _⟩ => rfl
  · show x9 _ = x9 _
    congr 1; funext a; match a with | ⟨0, _⟩ => rfl | ⟨1, _⟩ => rfl

theorem v31 : val_main_v31 (F := Ideal) x1 x9 = dwp x1 x9 := funext fun i => by
  rw [val_main_v31_apply, val_main_v17_apply, v16]; rfl

theorem v13 (i : S2048x512.Idx) : val_main_v13 (F := Ideal) x2 x10 i = colCol x2 x10 (i 1) (i 0) := by
  rw [val_main_v13_apply]; unfold colCol
  refine Finset.sum_congr rfl fun k _ => (mul_comm (G := EReal) _ _).trans (congrArg₂ (fun a b : EReal => a * b) ?_ ?_)
  · show x2 _ = x2 _
    congr 1; funext a; match a with | ⟨0, _⟩ => rfl | ⟨1, _⟩ => rfl
  · show x10 _ = x10 _
    congr 1; funext a; match a with | ⟨0, _⟩ => rfl | ⟨1, _⟩ => rfl

theorem v32 : val_main_v32 (F := Ideal) x2 x10 = dwp x2 x10 := funext fun i => by
  rw [val_main_v32_apply, val_main_v14_apply, v13]; rfl

theorem v18 (i : S4096x512.Idx) : val_main_v18 (F := Ideal) x5 x9 i = rowRow x9 x5 (i 0) (i 1) := by
  rw [val_main_v18_apply]; unfold rowRow
  refine Finset.sum_congr rfl fun k _ => congrArg₂ (fun a b : EReal => a * b) ?_ ?_
  · show x9 _ = x9 _
    congr 1; funext a; match a with | ⟨0, _⟩ => rfl | ⟨1, _⟩ => rfl
  · congr 1; funext a; match a with | ⟨0, _⟩ => rfl | ⟨1, _⟩ => rfl

theorem v15 (i : S4096x512.Idx) : val_main_v15 (F := Ideal) x6 x10 i = rowRow x10 x6 (i 0) (i 1) := by
  rw [val_main_v15_apply]; unfold rowRow
  refine Finset.sum_congr rfl fun k _ => congrArg₂ (fun a b : EReal => a * b) ?_ ?_
  · show x10 _ = x10 _
    congr 1; funext a; match a with | ⟨0, _⟩ => rfl | ⟨1, _⟩ => rfl
  · congr 1; funext a; match a with | ⟨0, _⟩ => rfl | ⟨1, _⟩ => rfl

theorem v24 (i : S4096x2048.Idx) : val_main_v24 (F := Ideal) x3 x7 i = rowRow x7 x3 (i 0) (i 1) := by
  rw [val_main_v24_apply]; unfold rowRow
  refine Finset.sum_congr rfl fun k _ => congrArg₂ (fun a b : EReal => a * b) ?_ ?_
  · show x7 _ = x7 _
    congr 1; funext a; match a with | ⟨0, _⟩ => rfl | ⟨1, _⟩ => rfl
  · congr 1; funext a; match a with | ⟨0, _⟩ => rfl | ⟨1, _⟩ => rfl

theorem v21 (i : S4096x2048.Idx) : val_main_v21 (F := Ideal) x4 x8 i = rowRow (sideBySide x8) x4 (i 0) (i 1) := by
  rw [val_main_v21_apply, v2]; unfold rowRow
  refine Finset.sum_congr rfl fun k _ => congrArg₂ (fun a b : EReal => a * b) ?_ ?_
  · congr 1; funext a; match a with | ⟨0, _⟩ => rfl | ⟨1, _⟩ => rfl
  · congr 1; funext a; match a with | ⟨0, _⟩ => rfl | ⟨1, _⟩ => rfl

theorem v27 : val_main_v27 (F := Ideal) x5 x9 = dy x5 x9 := funext fun i => by
  rw [val_main_v27_apply, v18]; rfl
theorem v28 : val_main_v28 (F := Ideal) x6 x10 = dy x6 x10 := funext fun i => by
  rw [val_main_v28_apply, v15]; rfl

/-- The two contributions to the gradient of the mixer's input, in the other order. -/
theorem v26 : val_main_v26 (F := Ideal) x3 x4 x7 x8 = dh x3 x4 x7 x8 := funext fun i => by
  rw [val_main_v26_apply, val_main_v25_apply, v21, v24]
  exact add_comm (G := EReal) _ _

end Cert.Reference4Ideal.Mixer

end
-- ==== Proof.lean ====
/- The certificate of the gate gradient, of the squared-ReLU block, of the mixer's forward and backward products and of the
   optimiser's steps: the programs end with every counter at zero, idealizing changed no operation, and the kernels' result arrays are the
   references' at the ideal values, whatever the arguments hold. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.GateEquation
public import proofs.«01_k».proof.Proof.MlpRun
public import proofs.«01_k».proof.Proof.RiderReference
public import proofs.«01_k».proof.Proof.RiderRun
public import proofs.«01_k».proof.Proof.RiderPrinted
public import proofs.«01_k».proof.Proof.SmallReference
public import proofs.«01_k».proof.Proof.SmallRun
public import proofs.«01_k».proof.Proof.SmallPrinted
public import proofs.«01_k».proof.Proof.LossReference
public import proofs.«01_k».proof.Proof.NormReference
public import proofs.«01_k».proof.Proof.SecondNorm
public import proofs.«01_k».proof.Proof.FirstNorm
public import proofs.«01_k».proof.Proof.BiasGradient
public import proofs.«01_k».proof.Proof.BiasTiles
public import proofs.«01_k».proof.Proof.AdamwReference
public import proofs.«01_k».proof.Proof.AdamwRun
public import proofs.«01_k».proof.Proof.MlpReference
public import proofs.«01_k».proof.Proof.MixerForwardRun
public import proofs.«01_k».proof.Proof.MixerForwardReference
public import proofs.«01_k».proof.Proof.MixerBackRun
public import proofs.«01_k».proof.Proof.MixerBackReference
public import Idealize.ShloMosaic.Adequacy
public import Idealize.ShloMosaic.Init

@[expose] public section

noncomputable section

namespace Cert.Proof

open Idealize.ShloMosaic Idealize.SL.Sem Cert.Kernel

/-- The kernel as printed ends quiescent … -/
theorem frame_kernel : Cert.quiescent_Kernel := fun m ρ _ => Cert.Kernel.Gen.frame m ρ

/-- … and idealized … -/
theorem frame_ideal : Cert.quiescent_KernelIdeal := fun m ρ _ => Cert.KernelIdeal.Gen.frame m ρ

/-- … and so does the reference. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩) (Cert.ReferenceIdeal.Value.run (F := Ideal) m ρ)

open Cert.KernelIdeal.Gate Cert.ReferenceIdeal.Read in
/-- From argument arrays that agree the kernel ends with the reference's five results. -/
theorem algebraic : Cert.algebraic_KernelIdeal_ReferenceIdeal := fun m ρ m' ρ' _ hag =>
  ⟨fun c => R0 m c, fun c => R1 m c, fun c => R2 m c,
    fun c => R3 m c, fun c => R4 m c,
    run m ρ,
    (θ_run _ _ _).mono (fun _ h c => by
      obtain ⟨h0, h1, h2, h3, h4, h5⟩ := hag c
      obtain ⟨g0, g1, g2, g3, g4, hk⟩ := h c
      refine ⟨(g0.trans (val_main_v40_eq ..)).trans ?_, (g1.trans (val_main_v41_eq ..)).trans ?_,
        (g2.trans (val_main_v42_eq ..)).trans ?_, (g3.trans (val_main_v43_eq ..)).trans ?_,
        (g4.trans (val_main_v44_eq ..)).trans ?_, hk⟩
      · rw [h0, h1, h4, h5]; exact (eq0 m c).symm
      · rw [h0, h1, h4, h5]; exact (eq1 m c).symm
      · rw [h0, h1, h2, h3, h4, h5]; exact (eq2 m c).symm
      · rw [h0, h1, h2, h3, h4, h5]; exact (eq3 m c).symm
      · rw [h0, h1, h2, h3, h4, h5]; exact (eq4 m c).symm)
      (Cert.ReferenceIdeal.Value.run (F := Ideal) m' ρ')⟩

/-! ## The squared-ReLU block -/

/-- The block's six calls as printed end quiescent … -/
theorem frame_kernel2 : Cert.quiescent_Kernel2 := fun m ρ _ => Cert.Kernel2.Gen.frame m ρ

/-- … and idealized … -/
theorem frame_ideal2 : Cert.quiescent_Kernel2Ideal := fun m ρ _ => Cert.Kernel2Ideal.Gen.frame m ρ

/-- … and so does their reference. -/
theorem frame_reference2 : Cert.quiescent_Reference2Ideal := fun m ρ _ =>
  (θ_run Cert.Reference2Ideal.defs _ _).mono (fun r h => ⟨fun c => (h c).2.2.2.2, sem_eq_zero_of_no_sems (by decide) r.2⟩) (Cert.Reference2Ideal.Value.run (F := Ideal) m ρ)

open Cert.Kernel2Ideal.Mlp Cert.Reference2Ideal.Read in
/-- From argument arrays that agree the six calls end with the reference's output and its three gradients. -/
theorem algebraic2 : Cert.algebraic_Kernel2Ideal_Reference2Ideal := fun m ρ m' ρ' _ hag =>
  ⟨fun c => Cert.Mlp.out (a0 m c) (a1 m c) (a2 m c) (a3 m c),
    fun c => Cert.Mlp.dh (a1 m c) (a2 m c) (a3 m c) (a4 m c),
    fun c => Cert.Mlp.dwu (a1 m c) (a2 m c) (a3 m c) (a4 m c),
    fun c => Cert.Mlp.dwd (a1 m c) (a2 m c) (a4 m c),
    run m ρ,
    (θ_run _ _ _).mono (fun _ h c => by
      obtain ⟨h0, h1, h2, h3, h4⟩ := hag c
      obtain ⟨g0, g1, g2, g3, hk⟩ := h c
      refine ⟨((g0.trans (val_main_v10_eq ..)).trans (Cert.Reference2Ideal.Mlp.v10 ..)).trans ?_,
        ((g1.trans (val_main_v21_eq ..)).trans (Cert.Reference2Ideal.Mlp.v21 ..)).trans ?_,
        ((g2.trans (val_main_v22_eq ..)).trans (Cert.Reference2Ideal.Mlp.v22 ..)).trans ?_,
        ((g3.trans (val_main_v23_eq ..)).trans (Cert.Reference2Ideal.Mlp.v23 ..)).trans ?_, hk⟩
      · rw [h0, h1, h2, h3]
      · rw [h1, h2, h3, h4]
      · rw [h1, h2, h3, h4]
      · rw [h1, h2, h4])
      (Cert.Reference2Ideal.Value.run (F := Ideal) m' ρ')⟩

/-! ## The mixer's forward products -/

/-- The five calls as printed end quiescent … -/
theorem frame_kernel3 : Cert.quiescent_Kernel3 := fun m ρ _ => Cert.Kernel3.Gen.frame m ρ

/-- … and idealized … -/
theorem frame_ideal3 : Cert.quiescent_Kernel3Ideal := fun m ρ _ => Cert.Kernel3Ideal.Gen.frame m ρ

/-- … and so does their reference. -/
theorem frame_reference3 : Cert.quiescent_Reference3Ideal := fun m ρ _ =>
  (θ_run Cert.Reference3Ideal.defs _ _).mono (fun r h => ⟨fun c => (h c).2.2.2.2.2, sem_eq_zero_of_no_sems (by decide) r.2⟩) (Cert.Reference3Ideal.Value.run (F := Ideal) m ρ)

open Cert.Kernel3Ideal.Mixer Cert.Reference3Ideal.Read in
/-- From argument arrays that agree the calls end with the reference's 5 results. -/
theorem algebraic3 : Cert.algebraic_Kernel3Ideal_Reference3Ideal := fun m ρ m' ρ' _ hag =>
  ⟨fun c => Cert.Mixer.qkv (a1 m c) (a4 m c),
    fun c => Cert.Mixer.x2 (a0 m c) (a1 m c) (a2 m c) (a3 m c) (a5 m c) (a6 m c) (a7 m c) (a8 m c) (a9 m c),
    fun c => Cert.Mixer.h2 (a0 m c) (a1 m c) (a2 m c) (a3 m c) (a5 m c) (a6 m c) (a7 m c) (a8 m c) (a9 m c) (a10 m c),
    fun c => Cert.Mixer.r2 (a0 m c) (a1 m c) (a2 m c) (a3 m c) (a5 m c) (a6 m c) (a7 m c) (a8 m c) (a9 m c),
    fun c => Cert.Mixer.dwo (a1 m c) (a2 m c) (a3 m c) (a5 m c) (a6 m c) (a7 m c) (a8 m c) (a11 m c),
    run m ρ,
    (θ_run _ _ _).mono (fun _ h c => by
      obtain ⟨h0, h1, h2, h3, h4, h5, h6, h7, h8, h9, h10, h11⟩ := hag c
      obtain ⟨g0, g1, g2, g3, g4, hk⟩ := h c
      refine ⟨((g0.trans (val_main_v34_eq ..)).trans (Cert.Reference3Ideal.Mixer.v34 ..)).trans ?_,
        ((g1.trans (val_main_v23_eq ..)).trans (Cert.Reference3Ideal.Mixer.v23 ..)).trans ?_,
        ((g2.trans (val_main_v39_eq ..)).trans (Cert.Reference3Ideal.Mixer.v39 ..)).trans ?_,
        ((g3.trans (val_main_v31_eq ..)).trans (Cert.Reference3Ideal.Mixer.v31 ..)).trans ?_,
        ((g4.trans (val_main_v43_eq ..)).trans (Cert.Reference3Ideal.Mixer.v43 ..)).trans ?_, hk⟩
      · rw [h1, h4]
      · rw [h0, h1, h2, h3, h5, h6, h7, h8, h9]
      · rw [h0, h1, h2, h3, h5, h6, h7, h8, h9, h10]
      · rw [h0, h1, h2, h3, h5, h6, h7, h8, h9]
      · rw [h1, h2, h3, h5, h6, h7, h8, h11])
      (Cert.Reference3Ideal.Value.run (F := Ideal) m' ρ')⟩

/-! ## The mixer's backward products -/

/-- The seven calls as printed end quiescent … -/
theorem frame_kernel4 : Cert.quiescent_Kernel4 := fun m ρ _ => Cert.Kernel4.Gen.frame m ρ

/-- … and idealized … -/
theorem frame_ideal4 : Cert.quiescent_Kernel4Ideal := fun m ρ _ => Cert.Kernel4Ideal.Gen.frame m ρ

/-- … and so does their reference. -/
theorem frame_reference4 : Cert.quiescent_Reference4Ideal := fun m ρ _ =>
  (θ_run Cert.Reference4Ideal.defs _ _).mono (fun r h => ⟨fun c => (h c).2.2.2.2.2.2.2, sem_eq_zero_of_no_sems (by decide) r.2⟩) (Cert.Reference4Ideal.Value.run (F := Ideal) m ρ)

open Cert.Kernel4Ideal.Mixer Cert.Reference4Ideal.Read in
/-- From argument arrays that agree the calls end with the reference's 7 results. -/
theorem algebraic4 : Cert.algebraic_Kernel4Ideal_Reference4Ideal := fun m ρ m' ρ' _ hag =>
  ⟨fun c => Cert.Mixer.dh (a3 m c) (a4 m c) (a7 m c) (a8 m c),
    fun c => Cert.Mixer.dy (a5 m c) (a9 m c),
    fun c => Cert.Mixer.dy (a6 m c) (a10 m c),
    fun c => Cert.Mixer.dwq (a0 m c) (a7 m c),
    fun c => Cert.Mixer.dwg (a0 m c) (a8 m c),
    fun c => Cert.Mixer.dwp (a1 m c) (a9 m c),
    fun c => Cert.Mixer.dwp (a2 m c) (a10 m c),
    run m ρ,
    (θ_run _ _ _).mono (fun _ h c => by
      obtain ⟨h0, h1, h2, h3, h4, h5, h6, h7, h8, h9, h10⟩ := hag c
      obtain ⟨g0, g1, g2, g3, g4, g5, g6, hk⟩ := h c
      refine ⟨((g0.trans (val_main_v26_eq ..)).trans (Cert.Reference4Ideal.Mixer.v26 ..)).trans ?_,
        ((g1.trans (val_main_v27_eq ..)).trans (Cert.Reference4Ideal.Mixer.v27 ..)).trans ?_,
        ((g2.trans (val_main_v28_eq ..)).trans (Cert.Reference4Ideal.Mixer.v28 ..)).trans ?_,
        ((g3.trans (val_main_v29_eq ..)).trans (Cert.Reference4Ideal.Mixer.v29 ..)).trans ?_,
        ((g4.trans (val_main_v30_eq ..)).trans (Cert.Reference4Ideal.Mixer.v30 ..)).trans ?_,
        ((g5.trans (val_main_v31_eq ..)).trans (Cert.Reference4Ideal.Mixer.v31 ..)).trans ?_,
        ((g6.trans (val_main_v32_eq ..)).trans (Cert.Reference4Ideal.Mixer.v32 ..)).trans ?_, hk⟩
      · rw [h3, h4, h7, h8]
      · rw [h5, h9]
      · rw [h6, h10]
      · rw [h0, h7]
      · rw [h0, h8]
      · rw [h1, h9]
      · rw [h2, h10])
      (Cert.Reference4Ideal.Value.run (F := Ideal) m' ρ')⟩

/-! ## The optimiser's calls for four weights -/

/-- The four calls as printed end quiescent … -/
theorem frame_kernel6 : Cert.quiescent_Kernel6 := fun m ρ _ => Cert.Kernel6.Gen.frame m ρ

/-- … and idealized … -/
theorem frame_ideal6 : Cert.quiescent_Kernel6Ideal := fun m ρ _ => Cert.Kernel6Ideal.Gen.frame m ρ

/-- … and so does their reference. -/
theorem frame_reference6 : Cert.quiescent_Reference6Ideal := fun m ρ _ =>
  (θ_run Cert.Reference6Ideal.defs _ _).mono (fun r h => ⟨fun c => (h c).2.2.2.2.2.2.2.2.2.2.2.2.2.2.2.2, sem_eq_zero_of_no_sems (by decide) r.2⟩) (Cert.Reference6Ideal.Value.run (F := Ideal) m ρ)

open Cert.Kernel6Ideal.Optimiser Cert.Reference6Ideal.Read in
/-- From argument arrays that agree the calls end with the reference's 16 results. -/
theorem algebraic6 : Cert.algebraic_Kernel6Ideal_Reference6Ideal := fun m ρ m' ρ' _ hag =>
  ⟨fun c => Cert.Adamw.total (a0 m c),
    fun c => Cert.Adamw.deltas (a0 m c) (a1 m c) (a2 m c) (a3 m c),
    fun c => Cert.Adamw.moments (a0 m c) (a2 m c),
    fun c => Cert.Adamw.squares (a0 m c) (a3 m c),
    fun c => Cert.Adamw.total (a4 m c),
    fun c => Cert.Adamw.deltas (a4 m c) (a5 m c) (a6 m c) (a7 m c),
    fun c => Cert.Adamw.moments (a4 m c) (a6 m c),
    fun c => Cert.Adamw.squares (a4 m c) (a7 m c),
    fun c => Cert.Adamw.total (a8 m c),
    fun c => Cert.Adamw.deltas (a8 m c) (a9 m c) (a10 m c) (a11 m c),
    fun c => Cert.Adamw.moments (a8 m c) (a10 m c),
    fun c => Cert.Adamw.squares (a8 m c) (a11 m c),
    fun c => Cert.Adamw.total (a12 m c),
    fun c => Cert.Adamw.deltas (a12 m c) (a13 m c) (a14 m c) (a15 m c),
    fun c => Cert.Adamw.moments (a12 m c) (a14 m c),
    fun c => Cert.Adamw.squares (a12 m c) (a15 m c),
    run m ρ,
    (θ_run _ _ _).mono (fun _ h c => by
      obtain ⟨h0, h1, h2, h3, h4, h5, h6, h7, h8, h9, h10, h11, h12, h13, h14, h15⟩ := hag c
      obtain ⟨g0, g1, g2, g3, g4, g5, g6, g7, g8, g9, g10, g11, g12, g13, g14, g15, hk⟩ := h c
      refine ⟨((g0.trans (val_main_v1_eq ..)).trans (Cert.Reference6Ideal.Optimiser.sum0 ..)).trans ?_,
        ((g1.trans (val_main_v25_eq ..)).trans (Cert.Reference6Ideal.Optimiser.change0 ..)).trans ?_,
        ((g2.trans (val_main_v6_eq ..)).trans (Cert.Reference6Ideal.Optimiser.mean0 ..)).trans ?_,
        ((g3.trans (val_main_v12_eq ..)).trans (Cert.Reference6Ideal.Optimiser.square0 ..)).trans ?_,
        ((g4.trans (val_main_v27_eq ..)).trans (Cert.Reference6Ideal.Optimiser.sum26 ..)).trans ?_,
        ((g5.trans (val_main_v51_eq ..)).trans (Cert.Reference6Ideal.Optimiser.change26 ..)).trans ?_,
        ((g6.trans (val_main_v32_eq ..)).trans (Cert.Reference6Ideal.Optimiser.mean26 ..)).trans ?_,
        ((g7.trans (val_main_v38_eq ..)).trans (Cert.Reference6Ideal.Optimiser.square26 ..)).trans ?_,
        ((g8.trans (val_main_v53_eq ..)).trans (Cert.Reference6Ideal.Optimiser.sum52 ..)).trans ?_,
        ((g9.trans (val_main_v77_eq ..)).trans (Cert.Reference6Ideal.Optimiser.change52 ..)).trans ?_,
        ((g10.trans (val_main_v58_eq ..)).trans (Cert.Reference6Ideal.Optimiser.mean52 ..)).trans ?_,
        ((g11.trans (val_main_v64_eq ..)).trans (Cert.Reference6Ideal.Optimiser.square52 ..)).trans ?_,
        ((g12.trans (val_main_v79_eq ..)).trans (Cert.Reference6Ideal.Optimiser.sum78 ..)).trans ?_,
        ((g13.trans (val_main_v103_eq ..)).trans (Cert.Reference6Ideal.Optimiser.change78 ..)).trans ?_,
        ((g14.trans (val_main_v84_eq ..)).trans (Cert.Reference6Ideal.Optimiser.mean78 ..)).trans ?_,
        ((g15.trans (val_main_v90_eq ..)).trans (Cert.Reference6Ideal.Optimiser.square78 ..)).trans ?_, hk⟩
      · rw [h0]
      · rw [h0, h1, h2, h3]
      · rw [h0, h2]
      · rw [h0, h3]
      · rw [h4]
      · rw [h4, h5, h6, h7]
      · rw [h4, h6]
      · rw [h4, h7]
      · rw [h8]
      · rw [h8, h9, h10, h11]
      · rw [h8, h10]
      · rw [h8, h11]
      · rw [h12]
      · rw [h12, h13, h14, h15]
      · rw [h12, h14]
      · rw [h12, h15])
      (Cert.Reference6Ideal.Value.run (F := Ideal) m' ρ')⟩

/-! ## The backward input projection and the three updates that ride on its grid -/

/-- The call as printed end quiescent … -/
theorem frame_kernel7 : Cert.quiescent_Kernel7 := fun m ρ _ => Cert.Kernel7.Whole.frame (F := Bits) m ρ

/-- … and idealized … -/
theorem frame_ideal7 : Cert.quiescent_Kernel7Ideal := fun m ρ _ => Cert.Kernel7Ideal.Whole.frame m ρ

/-- … and so does their reference. -/
theorem frame_reference7 : Cert.quiescent_Reference7Ideal := fun m ρ _ =>
  (θ_run Cert.Reference7Ideal.defs _ _).mono (fun r h => ⟨fun c => (h c).2.2.2.2.2.2.2.2.2.2.2.2.2, sem_eq_zero_of_no_sems (by decide) r.2⟩) (Cert.Reference7Ideal.Value.run (F := Ideal) m ρ)

open Cert.Kernel7Ideal.Rider Cert.Reference7Ideal.Read in
/-- From argument arrays that agree the calls end with the reference's 13 results. -/
theorem algebraic7 : Cert.algebraic_Kernel7Ideal_Reference7Ideal := fun m ρ m' ρ' _ hag =>
  ⟨fun c => Cert.Mixer.dh (a2 m c) (a3 m c) (a0 m c) (a1 m c),
    fun c => Cert.Adamw.total (a4 m c),
    fun c => Cert.Adamw.deltas (a4 m c) (a5 m c) (a6 m c) (a7 m c),
    fun c => Cert.Adamw.moments (a4 m c) (a6 m c),
    fun c => Cert.Adamw.squares (a4 m c) (a7 m c),
    fun c => Cert.Adamw.total (a8 m c),
    fun c => Cert.Adamw.deltas (a8 m c) (a9 m c) (a10 m c) (a11 m c),
    fun c => Cert.Adamw.moments (a8 m c) (a10 m c),
    fun c => Cert.Adamw.squares (a8 m c) (a11 m c),
    fun c => Cert.Adamw.total (a12 m c),
    fun c => Cert.Adamw.deltas (a12 m c) (a13 m c) (a14 m c) (a15 m c),
    fun c => Cert.Adamw.moments (a12 m c) (a14 m c),
    fun c => Cert.Adamw.squares (a12 m c) (a15 m c),
    run m ρ,
    (θ_run _ _ _).mono (fun _ h c => by
      obtain ⟨h0, h1, h2, h3, h4, h5, h6, h7, h8, h9, h10, h11, h12, h13, h14, h15⟩ := hag c
      obtain ⟨g0, g1, g2, g3, g4, g5, g6, g7, g8, g9, g10, g11, g12, hk⟩ := h c
      refine ⟨((g0.trans (val_main_v10_eq ..)).trans (Cert.Reference7Ideal.Rider.v10 ..)).trans ?_,
        ((g1.trans (val_main_v12_eq ..)).trans (Cert.Reference7Ideal.Rider.sum11 ..)).trans ?_,
        ((g2.trans (val_main_v36_eq ..)).trans (Cert.Reference7Ideal.Rider.change11 ..)).trans ?_,
        ((g3.trans (val_main_v17_eq ..)).trans (Cert.Reference7Ideal.Rider.mean11 ..)).trans ?_,
        ((g4.trans (val_main_v23_eq ..)).trans (Cert.Reference7Ideal.Rider.square11 ..)).trans ?_,
        ((g5.trans (val_main_v38_eq ..)).trans (Cert.Reference7Ideal.Rider.sum37 ..)).trans ?_,
        ((g6.trans (val_main_v62_eq ..)).trans (Cert.Reference7Ideal.Rider.change37 ..)).trans ?_,
        ((g7.trans (val_main_v43_eq ..)).trans (Cert.Reference7Ideal.Rider.mean37 ..)).trans ?_,
        ((g8.trans (val_main_v49_eq ..)).trans (Cert.Reference7Ideal.Rider.square37 ..)).trans ?_,
        ((g9.trans (val_main_v64_eq ..)).trans (Cert.Reference7Ideal.Rider.sum63 ..)).trans ?_,
        ((g10.trans (val_main_v88_eq ..)).trans (Cert.Reference7Ideal.Rider.change63 ..)).trans ?_,
        ((g11.trans (val_main_v69_eq ..)).trans (Cert.Reference7Ideal.Rider.mean63 ..)).trans ?_,
        ((g12.trans (val_main_v75_eq ..)).trans (Cert.Reference7Ideal.Rider.square63 ..)).trans ?_, hk⟩
      · rw [h2, h3, h0, h1]
      · rw [h4]
      · rw [h4, h5, h6, h7]
      · rw [h4, h6]
      · rw [h4, h7]
      · rw [h8]
      · rw [h8, h9, h10, h11]
      · rw [h8, h10]
      · rw [h8, h11]
      · rw [h12]
      · rw [h12, h13, h14, h15]
      · rw [h12, h14]
      · rw [h12, h15])
      (Cert.Reference7Ideal.Value.run (F := Ideal) m' ρ')⟩

/-! ## The optimiser's call for the small weights -/

/-- The call as printed end quiescent … -/
theorem frame_kernel8 : Cert.quiescent_Kernel8 := fun m ρ _ => Cert.Kernel8.Whole.frame (F := Bits) m ρ

/-- … and idealized … -/
theorem frame_ideal8 : Cert.quiescent_Kernel8Ideal := fun m ρ _ => Cert.Kernel8Ideal.Whole.frame m ρ

/-- … and so does their reference. -/
theorem frame_reference8 : Cert.quiescent_Reference8Ideal := fun m ρ _ =>
  (θ_run Cert.Reference8Ideal.defs _ _).mono (fun r h => ⟨fun c => (h c).2.2.2.2.2.2.2.2.2.2.2.2.2.2.2.2.2.2.2.2, sem_eq_zero_of_no_sems (by decide) r.2⟩) (Cert.Reference8Ideal.Value.run (F := Ideal) m ρ)

open Cert.Kernel8Ideal.Small Cert.Reference8Ideal.Read in
/-- From argument arrays that agree the calls end with the reference's 20 results. -/
theorem algebraic8 : Cert.algebraic_Kernel8Ideal_Reference8Ideal := fun m ρ m' ρ' _ hag =>
  ⟨fun c => Cert.Adamw.total (a0 m c),
    fun c => Cert.Adamw.deltas (a0 m c) (a5 m c) (a10 m c) (a15 m c),
    fun c => Cert.Adamw.moments (a0 m c) (a10 m c),
    fun c => Cert.Adamw.squares (a0 m c) (a15 m c),
    fun c => Cert.Adamw.total (a1 m c),
    fun c => Cert.Adamw.deltas (a1 m c) (a6 m c) (a11 m c) (a16 m c),
    fun c => Cert.Adamw.moments (a1 m c) (a11 m c),
    fun c => Cert.Adamw.squares (a1 m c) (a16 m c),
    fun c => Cert.Adamw.total (a2 m c),
    fun c => Cert.Adamw.deltas (a2 m c) (a7 m c) (a12 m c) (a17 m c),
    fun c => Cert.Adamw.moments (a2 m c) (a12 m c),
    fun c => Cert.Adamw.squares (a2 m c) (a17 m c),
    fun c => Cert.Adamw.total (a3 m c),
    fun c => Cert.Adamw.deltas (a3 m c) (a8 m c) (a13 m c) (a18 m c),
    fun c => Cert.Adamw.moments (a3 m c) (a13 m c),
    fun c => Cert.Adamw.squares (a3 m c) (a18 m c),
    fun c => Cert.Adamw.total (a4 m c),
    fun c => Cert.Adamw.deltas (a4 m c) (a9 m c) (a14 m c) (a19 m c),
    fun c => Cert.Adamw.moments (a4 m c) (a14 m c),
    fun c => Cert.Adamw.squares (a4 m c) (a19 m c),
    run m ρ,
    (θ_run _ _ _).mono (fun _ h c => by
      obtain ⟨h0, h1, h2, h3, h4, h5, h6, h7, h8, h9, h10, h11, h12, h13, h14, h15, h16, h17, h18, h19⟩ := hag c
      obtain ⟨g0, g1, g2, g3, g4, g5, g6, g7, g8, g9, g10, g11, g12, g13, g14, g15, g16, g17, g18, g19, hk⟩ := h c
      refine ⟨((g0.trans (val_main_v0_eq ..)).trans (Cert.Reference8Ideal.Small.sum0 ..)).trans ?_,
        ((g1.trans (val_main_v24_eq ..)).trans (Cert.Reference8Ideal.Small.change0 ..)).trans ?_,
        ((g2.trans (val_main_v5_eq ..)).trans (Cert.Reference8Ideal.Small.mean0 ..)).trans ?_,
        ((g3.trans (val_main_v11_eq ..)).trans (Cert.Reference8Ideal.Small.square0 ..)).trans ?_,
        ((g4.trans (val_main_v25_eq ..)).trans (Cert.Reference8Ideal.Small.sum25 ..)).trans ?_,
        ((g5.trans (val_main_v49_eq ..)).trans (Cert.Reference8Ideal.Small.change25 ..)).trans ?_,
        ((g6.trans (val_main_v30_eq ..)).trans (Cert.Reference8Ideal.Small.mean25 ..)).trans ?_,
        ((g7.trans (val_main_v36_eq ..)).trans (Cert.Reference8Ideal.Small.square25 ..)).trans ?_,
        ((g8.trans (val_main_v50_eq ..)).trans (Cert.Reference8Ideal.Small.sum50 ..)).trans ?_,
        ((g9.trans (val_main_v74_eq ..)).trans (Cert.Reference8Ideal.Small.change50 ..)).trans ?_,
        ((g10.trans (val_main_v55_eq ..)).trans (Cert.Reference8Ideal.Small.mean50 ..)).trans ?_,
        ((g11.trans (val_main_v61_eq ..)).trans (Cert.Reference8Ideal.Small.square50 ..)).trans ?_,
        ((g12.trans (val_main_v75_eq ..)).trans (Cert.Reference8Ideal.Small.sum75 ..)).trans ?_,
        ((g13.trans (val_main_v99_eq ..)).trans (Cert.Reference8Ideal.Small.change75 ..)).trans ?_,
        ((g14.trans (val_main_v80_eq ..)).trans (Cert.Reference8Ideal.Small.mean75 ..)).trans ?_,
        ((g15.trans (val_main_v86_eq ..)).trans (Cert.Reference8Ideal.Small.square75 ..)).trans ?_,
        ((g16.trans (val_main_v100_eq ..)).trans (Cert.Reference8Ideal.Small.sum100 ..)).trans ?_,
        ((g17.trans (val_main_v124_eq ..)).trans (Cert.Reference8Ideal.Small.change100 ..)).trans ?_,
        ((g18.trans (val_main_v105_eq ..)).trans (Cert.Reference8Ideal.Small.mean100 ..)).trans ?_,
        ((g19.trans (val_main_v111_eq ..)).trans (Cert.Reference8Ideal.Small.square100 ..)).trans ?_, hk⟩
      · rw [h0]
      · rw [h0, h5, h10, h15]
      · rw [h0, h10]
      · rw [h0, h15]
      · rw [h1]
      · rw [h1, h6, h11, h16]
      · rw [h1, h11]
      · rw [h1, h16]
      · rw [h2]
      · rw [h2, h7, h12, h17]
      · rw [h2, h12]
      · rw [h2, h17]
      · rw [h3]
      · rw [h3, h8, h13, h18]
      · rw [h3, h13]
      · rw [h3, h18]
      · rw [h4]
      · rw [h4, h9, h14, h19]
      · rw [h4, h14]
      · rw [h4, h19])
      (Cert.Reference8Ideal.Value.run (F := Ideal) m' ρ')⟩

/-! ## The loss head -/

/-- The call as printed ends quiescent … -/
theorem frame_kernel9 : Cert.quiescent_Kernel9 := fun m ρ _ => Cert.Kernel9.Gen.frame m ρ

/-- … and idealized … -/
theorem frame_ideal9 : Cert.quiescent_Kernel9Ideal := fun m ρ _ => Cert.Kernel9Ideal.Gen.frame m ρ

/-- … and so does its reference. -/
theorem frame_reference9 : Cert.quiescent_Reference9Ideal := fun m ρ _ =>
  (θ_run Cert.Reference9Ideal.defs _ _).mono (fun r h => ⟨fun c => (h c).2.2, sem_eq_zero_of_no_sems (by decide) r.2⟩) (Cert.Reference9Ideal.Value.run (F := Ideal) m ρ)

open Cert.Kernel9Ideal.Loss Cert.Reference9Ideal.Read in
/-- From arguments that agree, the loss and the final norm's gradient are the reference's. -/
theorem algebraic9 : Cert.algebraic_Kernel9Ideal_Reference9Ideal := fun m ρ m' ρ' _ hag =>
  ⟨fun c => R2 m c, fun c => R6 m c,
    (θ_run _ _ _).mono (fun _ h c => ⟨(h c).1.1, (h c).1.2, (h c).2⟩) (run m ρ),
    (θ_run _ _ _).mono (fun _ h c => by
      obtain ⟨h0, h1, h2⟩ := hag c
      obtain ⟨g0, g1, hk⟩ := h c
      refine ⟨(g0.trans (val_main_v20_eq ..)).trans (funext fun i => ?_), (g1.trans (val_main_v29_eq ..)).trans (funext fun i => ?_), hk⟩
      · rw [Cert.Reference9Ideal.Loss.v20, h0, h1, h2]; exact (sum_loss m c).symm
      · rw [Cert.Reference9Ideal.Loss.v29, h0, h1, h2]; rfl)
      (Cert.Reference9Ideal.Value.run (F := Ideal) m' ρ')⟩

/-! ## The first normalisation, backward -/

/-- The call as printed ends quiescent … -/
theorem frame_kernel10 : Cert.quiescent_Kernel10 := fun m ρ _ => Cert.Kernel10.Gen.frame m ρ

/-- … and idealized … -/
theorem frame_ideal10 : Cert.quiescent_Kernel10Ideal := fun m ρ _ => Cert.Kernel10Ideal.Gen.frame m ρ

/-- … and so does its reference. -/
theorem frame_reference10 : Cert.quiescent_Reference10Ideal := fun m ρ _ =>
  (θ_run Cert.Reference10Ideal.defs _ _).mono (fun r h => ⟨fun c => (h c).2.2, sem_eq_zero_of_no_sems (by decide) r.2⟩) (Cert.Reference10Ideal.Value.run (F := Ideal) m ρ)

open Cert.Kernel10Ideal.Norm Cert.Reference10Ideal.Read Cert.Products in
/-- From arguments that agree, the input's gradient and the weight's are the reference's. -/
theorem algebraic10 : Cert.algebraic_Kernel10Ideal_Reference10Ideal := fun m ρ m' ρ' _ hag =>
  ⟨fun c => R5 m c, fun c => R6 m c,
    (θ_run _ _ _).mono (fun _ h c => ⟨(h c).1.1, (h c).1.2, (h c).2⟩) (run m ρ),
    (θ_run _ _ _).mono (fun _ h c => by
      obtain ⟨h0, h1, h2, h3⟩ := hag c
      obtain ⟨g0, g1, hk⟩ := h c
      refine ⟨(g0.trans (val_main_v35_eq ..)).trans (funext fun i => ?_), (g1.trans (val_main_v18_eq ..)).trans (funext fun i => ?_), hk⟩
      · obtain ⟨r, e, rfl⟩ := any2 4096 2048 i
        rw [h0, h1, h2, h3]; exact Cert.Reference10Ideal.Norm.v35 _ _ _ _ r e
      · obtain ⟨s, e, rfl⟩ := any2 1 2048 i
        obtain rfl : s = 0 := Subsingleton.elim _ _
        rw [h0, h2]; exact Cert.Reference10Ideal.Norm.v18 _ _ e)
      (Cert.Reference10Ideal.Value.run (F := Ideal) m' ρ')⟩

/-! ## The second normalisation, backward -/

/-- The call as printed ends quiescent … -/
theorem frame_kernel11 : Cert.quiescent_Kernel11 := fun m ρ _ => Cert.Kernel11.Gen.frame m ρ

/-- … and idealized … -/
theorem frame_ideal11 : Cert.quiescent_Kernel11Ideal := fun m ρ _ => Cert.Kernel11Ideal.Gen.frame m ρ

/-- … and so does its reference. -/
theorem frame_reference11 : Cert.quiescent_Reference11Ideal := fun m ρ _ =>
  (θ_run Cert.Reference11Ideal.defs _ _).mono (fun r h => ⟨fun c => (h c).2.2.2, sem_eq_zero_of_no_sems (by decide) r.2⟩) (Cert.Reference11Ideal.Value.run (F := Ideal) m ρ)

open Cert.Kernel11Ideal.Norm Cert.Reference11Ideal.Read Cert.Products in
/-- From arguments that agree, the rows' gradient, uncast and cast, and the weight's are the reference's. -/
theorem algebraic11 : Cert.algebraic_Kernel11Ideal_Reference11Ideal := fun m ρ m' ρ' _ hag =>
  ⟨fun c => R5 m c, fun c => R5 m c, fun c => R7 m c,
    (θ_run _ _ _).mono (fun _ h c => ⟨(h c).1.1, (h c).1.2.1, (h c).1.2.2, (h c).2⟩) (run m ρ),
    (θ_run _ _ _).mono (fun _ h c => by
      obtain ⟨h0, h1, h2, h3⟩ := hag c
      obtain ⟨g0, g1, g2, hk⟩ := h c
      have e5 : val_main_v35 (F := Ideal) (X m c) (W m c) (D m c) (S m c) = R5 m c := funext fun i => by
        obtain ⟨r, e, rfl⟩ := any2 4096 2048 i
        exact Cert.Reference11Ideal.Norm.v35 _ _ _ _ r e
      refine ⟨(g0.trans (val_main_v35_eq ..)).trans ?_, (g1.trans (val_main_v36_eq ..)).trans ?_, (g2.trans (val_main_v18_eq ..)).trans (funext fun i => ?_), hk⟩
      · rw [h0, h1, h2, h3]; exact e5
      · rw [h0, h1, h2, h3]; exact e5
      · obtain ⟨s, e, rfl⟩ := any2 1 2048 i
        obtain rfl : s = 0 := Subsingleton.elim _ _
        rw [h0, h2]; exact Cert.Reference11Ideal.Norm.v18 _ _ e)
      (Cert.Reference11Ideal.Value.run (F := Ideal) m' ρ')⟩

/-! ## The first normalisation, forward -/

/-- The call as printed ends quiescent … -/
theorem frame_kernel12 : Cert.quiescent_Kernel12 := fun m ρ _ => Cert.Kernel12.Gen.frame m ρ

/-- … and idealized … -/
theorem frame_ideal12 : Cert.quiescent_Kernel12Ideal := fun m ρ _ => Cert.Kernel12Ideal.Gen.frame m ρ

/-- … and so does its reference. -/
theorem frame_reference12 : Cert.quiescent_Reference12Ideal := fun m ρ _ =>
  (θ_run Cert.Reference12Ideal.defs _ _).mono (fun r h => ⟨fun c => (h c).2.2, sem_eq_zero_of_no_sems (by decide) r.2⟩) (Cert.Reference12Ideal.Value.run (F := Ideal) m ρ)

open Cert.Kernel12Ideal.Norm Cert.Reference12Ideal.Read Cert.Products in
/-- From arguments that agree, the normalised rows and their inverse roots are the reference's. -/
theorem algebraic12 : Cert.algebraic_Kernel12Ideal_Reference12Ideal := fun m ρ m' ρ' _ hag =>
  ⟨fun c => R2 m c, fun c => R3 m c,
    (θ_run _ _ _).mono (fun _ h c => ⟨(h c).1.1, (h c).1.2, (h c).2⟩) (run m ρ),
    (θ_run _ _ _).mono (fun _ h c => by
      obtain ⟨h0, h1⟩ := hag c
      obtain ⟨g0, g1, hk⟩ := h c
      refine ⟨(g0.trans (val_main_v12_eq ..)).trans (funext fun i => ?_), (g1.trans (val_main_v20_eq ..)).trans (funext fun i => ?_), hk⟩
      · obtain ⟨r, e, rfl⟩ := any2 4096 2048 i
        rw [h0, h1]; exact Cert.Reference12Ideal.Norm.v12 _ _ r e
      · obtain ⟨r, e, rfl⟩ := any2 4096 1 i
        obtain rfl : e = 0 := Subsingleton.elim _ _
        rw [h0]; exact Cert.Reference12Ideal.Norm.v20 _ r)
      (Cert.Reference12Ideal.Value.run (F := Ideal) m' ρ')⟩

/-! ## The bias's gradient -/

/-- The call as printed ends quiescent … -/
theorem frame_kernel13 : Cert.quiescent_Kernel13 := fun m ρ _ => Cert.Kernel13.Gen.frame m ρ

/-- … and idealized … -/
theorem frame_ideal13 : Cert.quiescent_Kernel13Ideal := fun m ρ _ => Cert.Kernel13Ideal.Gen.frame m ρ

/-- … and so does its reference. -/
theorem frame_reference13 : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)

open Cert.Kernel13Ideal.Bias Cert.Reference13Ideal.Read Cert.Products in
/-- From arguments that agree, the gradient of the bias is the reference's. -/
theorem algebraic13 : Cert.algebraic_Kernel13Ideal_Reference13Ideal := fun m ρ m' ρ' _ hag =>
  ⟨fun c => R m c, run m ρ,
    (θ_run _ _ _).mono (fun _ h c => by
      have h0 := hag c
      obtain ⟨g0, hk⟩ := h c
      refine ⟨(g0.trans (val_main_v39_eq ..)).trans (funext fun i => ?_), hk⟩
      obtain ⟨r, e, rfl⟩ := any2 60 31 i
      rw [h0]; exact (Cert.Reference13Ideal.Bias.v39 _ r e).trans (prod_eq _ r e).symm)
      (Cert.Reference13Ideal.Value.run (F := Ideal) m' ρ')⟩

/-! ## The bias tiles -/

/-- The call as printed ends quiescent … -/
theorem frame_kernel14 : Cert.quiescent_Kernel14 := fun m ρ _ => Cert.Kernel14.Gen.frame m ρ

/-- … and idealized … -/
theorem frame_ideal14 : Cert.quiescent_Kernel14Ideal := fun m ρ _ => Cert.Kernel14Ideal.Gen.frame m ρ

/-- … and so does its reference. -/
theorem frame_reference14 : Cert.quiescent_Reference14Ideal := fun m ρ _ =>
  (θ_run Cert.Reference14Ideal.defs _ _).mono (fun r h => ⟨fun c => (h c).2, sem_eq_zero_of_no_sems (by decide) r.2⟩) (Cert.Reference14Ideal.Value.run (F := Ideal) m ρ)

open Cert.Kernel14Ideal.Tiles Cert.Reference14Ideal.Read in
/-- From arguments that agree, the bias tiles are the reference's. -/
theorem algebraic14 : Cert.algebraic_Kernel14Ideal_Reference14Ideal := fun m ρ m' ρ' _ hag =>
  ⟨fun c => R m c, run m ρ,
    (θ_run _ _ _).mono (fun _ h c => by
      have h0 := hag c
      obtain ⟨g0, hk⟩ := h c
      refine ⟨(g0.trans (val_main_v34_eq ..)).trans (funext fun i => ?_), hk⟩
      obtain ⟨h', d, a, b, rfl⟩ : ∃ h d a b, i = ValueIdx.ix4 h d a b := ⟨i 0, i 1, i 2, i 3, ValueIdx.eq_ix4 i⟩
      rw [h0]; exact Cert.Reference14Ideal.Tiles.v34 _ h' d a b)
      (Cert.Reference14Ideal.Value.run (F := Ideal) m' ρ')⟩

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  frame_kernel, frame_ideal, frame_reference,
  frame_kernel2, frame_ideal2, frame_reference2,
  frame_kernel3, frame_ideal3, frame_reference3,
  frame_kernel4, frame_ideal4, frame_reference4,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_reference14,
  trivial, algebraic, trivial, algebraic2, trivial, algebraic3, trivial, algebraic4, trivial, algebraic6, trivial, algebraic7, trivial, algebraic8, trivial, algebraic9, trivial, algebraic10, trivial, algebraic11, trivial, algebraic12, trivial, algebraic13, trivial, algebraic14⟩

end Cert.Proof

end
